-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_FfOutDx (m : (ℓ : Loc Cert.FfOutDx.nD Cert.FfOutDx.τ Cert.FfOutDx.sig) → Buf (Elt Bits) ℓ) : Prop :=
  True

def Pre_FfOutDxIdeal (m : (ℓ : Loc Cert.FfOutDxIdeal.nD Cert.FfOutDxIdeal.τ Cert.FfOutDxIdeal.sig) → Buf (Elt Ideal) ℓ) : Prop :=
  True

def Pre_FfOutDxRefIdeal (m : (ℓ : Loc Cert.FfOutDxRefIdeal.nD Cert.FfOutDxRefIdeal.τ Cert.FfOutDxRefIdeal.sig) → Buf (Elt Ideal) ℓ) : Prop :=
  True

def Pre_FfInDx (m : (ℓ : Loc Cert.FfInDx.nD Cert.FfInDx.τ Cert.FfInDx.sig) → Buf (Elt Bits) ℓ) : Prop :=
  True

def Pre_FfInDxIdeal (m : (ℓ : Loc Cert.FfInDxIdeal.nD Cert.FfInDxIdeal.τ Cert.FfInDxIdeal.sig) → Buf (Elt Ideal) ℓ) : Prop :=
  True

def Pre_FfInDxRefIdeal (m : (ℓ : Loc Cert.FfInDxRefIdeal.nD Cert.FfInDxRefIdeal.τ Cert.FfInDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfIn (m : (ℓ : Loc Cert.AdamFfIn.nD Cert.AdamFfIn.τ Cert.AdamFfIn.sig) → Buf (Elt Bits) ℓ) : Prop :=
  True

def Pre_AdamFfInIdeal (m : (ℓ : Loc Cert.AdamFfInIdeal.nD Cert.AdamFfInIdeal.τ Cert.AdamFfInIdeal.sig) → Buf (Elt Ideal) ℓ) : Prop :=
  True

def Pre_AdamFfInRefIdeal (m : (ℓ : Loc Cert.AdamFfInRefIdeal.nD Cert.AdamFfInRefIdeal.τ Cert.AdamFfInRefIdeal.sig) → Buf (Elt Ideal) ℓ) : Prop :=
  True

def Pre_AdamFfOut (m : (ℓ : Loc Cert.AdamFfOut.nD Cert.AdamFfOut.τ Cert.AdamFfOut.sig) → Buf (Elt Bits) ℓ) : Prop :=
  True

def Pre_AdamFfOutIdeal (m : (ℓ : Loc Cert.AdamFfOutIdeal.nD Cert.AdamFfOutIdeal.τ Cert.AdamFfOutIdeal.sig) → Buf (Elt Ideal) ℓ) : Prop :=
  True

def Pre_AdamFfOutRefIdeal (m : (ℓ : Loc Cert.AdamFfOutRefIdeal.nD Cert.AdamFfOutRefIdeal.τ Cert.AdamFfOutRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_WInGather (m : (ℓ : Loc Cert.WInGather.nD Cert.WInGather.τ Cert.WInGather.sig) → Buf (Elt Bits) ℓ) : Prop :=
  True

def Pre_WInGatherIdeal (m : (ℓ : Loc Cert.WInGatherIdeal.nD Cert.WInGatherIdeal.τ Cert.WInGatherIdeal.sig) → Buf (Elt Ideal) ℓ) : Prop :=
  True

def Pre_WInGatherRefIdeal (m : (ℓ : Loc Cert.WInGatherRefIdeal.nD Cert.WInGatherRefIdeal.τ Cert.WInGatherRefIdeal.sig) → Buf (Elt Ideal) ℓ) : Prop :=
  True

def Pre_SmallGather (m : (ℓ : Loc Cert.SmallGather.nD Cert.SmallGather.τ Cert.SmallGather.sig) → Buf (Elt Bits) ℓ) : Prop :=
  True

def Pre_SmallGatherIdeal (m : (ℓ : Loc Cert.SmallGatherIdeal.nD Cert.SmallGatherIdeal.τ Cert.SmallGatherIdeal.sig) → Buf (Elt Ideal) ℓ) : Prop :=
  True

def Pre_SmallGatherRefIdeal (m : (ℓ : Loc Cert.SmallGatherRefIdeal.nD Cert.SmallGatherRefIdeal.τ Cert.SmallGatherRefIdeal.sig) → Buf (Elt Ideal) ℓ) : Prop :=
  True

def Pre_CondGather (m : (ℓ : Loc Cert.CondGather.nD Cert.CondGather.τ Cert.CondGather.sig) → Buf (Elt Bits) ℓ) : Prop :=
  True

def Pre_CondGatherIdeal (m : (ℓ : Loc Cert.CondGatherIdeal.nD Cert.CondGatherIdeal.τ Cert.CondGatherIdeal.sig) → Buf (Elt Ideal) ℓ) : Prop :=
  True

def Pre_CondGatherRefIdeal (m : (ℓ : Loc Cert.CondGatherRefIdeal.nD Cert.CondGatherRefIdeal.τ Cert.CondGatherRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfIn (m : (ℓ : Loc Cert.FfIn.nD Cert.FfIn.τ Cert.FfIn.sig) → Buf (Elt Bits) ℓ) : Prop :=
  True

def Pre_FfInIdeal (m : (ℓ : Loc Cert.FfInIdeal.nD Cert.FfInIdeal.τ Cert.FfInIdeal.sig) → Buf (Elt Ideal) ℓ) : Prop :=
  True

def Pre_FfInRefIdeal (m : (ℓ : Loc Cert.FfInRefIdeal.nD Cert.FfInRefIdeal.τ Cert.FfInRefIdeal.sig) → Buf (Elt Ideal) ℓ) : Prop :=
  True

def Pre_FfOut (m : (ℓ : Loc Cert.FfOut.nD Cert.FfOut.τ Cert.FfOut.sig) → Buf (Elt Bits) ℓ) : Prop :=
  True

def Pre_FfOutIdeal (m : (ℓ : Loc Cert.FfOutIdeal.nD Cert.FfOutIdeal.τ Cert.FfOutIdeal.sig) → Buf (Elt Ideal) ℓ) : Prop :=
  True

def Pre_FfOutRefIdeal (m : (ℓ : Loc Cert.FfOutRefIdeal.nD Cert.FfOutRefIdeal.τ Cert.FfOutRefIdeal.sig) → Buf (Elt Ideal) ℓ) : Prop :=
  True

def Pre_FfInDw (m : (ℓ : Loc Cert.FfInDw.nD Cert.FfInDw.τ Cert.FfInDw.sig) → Buf (Elt Bits) ℓ) : Prop :=
  True

def Pre_FfInDwIdeal (m : (ℓ : Loc Cert.FfInDwIdeal.nD Cert.FfInDwIdeal.τ Cert.FfInDwIdeal.sig) → Buf (Elt Ideal) ℓ) : Prop :=
  True

def Pre_FfInDwRefIdeal (m : (ℓ : Loc Cert.FfInDwRefIdeal.nD Cert.FfInDwRefIdeal.τ Cert.FfInDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_FfOutDw (m : (ℓ : Loc Cert.FfOutDw.nD Cert.FfOutDw.τ Cert.FfOutDw.sig) → Buf (Elt Bits) ℓ) : Prop :=
  True

def Pre_FfOutDwIdeal (m : (ℓ : Loc Cert.FfOutDwIdeal.nD Cert.FfOutDwIdeal.τ Cert.FfOutDwIdeal.sig) → Buf (Elt Ideal) ℓ) : Prop :=
  True

def Pre_FfOutDwRefIdeal (m : (ℓ : Loc Cert.FfOutDwRefIdeal.nD Cert.FfOutDwRefIdeal.τ Cert.FfOutDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6)
      ∧ r.2.mem ((c.tc : Thread Cert.InDx.nD Cert.InDx.τ).loc Cert.InDx.main_arg7) = m ((c.tc : Thread Cert.InDx.nD Cert.InDx.τ).loc Cert.InDx.main_arg7)
      ∧ r.2.mem ((c.tc : Thread Cert.InDx.nD Cert.InDx.τ).loc Cert.InDx.main_arg8) = m ((c.tc : Thread Cert.InDx.nD Cert.InDx.τ).loc Cert.InDx.main_arg8)
      ∧ r.2.mem ((c.tc : Thread Cert.InDx.nD Cert.InDx.τ).loc Cert.InDx.main_arg9) = m ((c.tc : Thread Cert.InDx.nD Cert.InDx.τ).loc Cert.InDx.main_arg9))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
      ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
      ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7)
      ∧ r.2.mem ((c.tc : Thread Cert.InDxRefIdeal.nD Cert.InDxRefIdeal.τ).loc Cert.InDxRefIdeal.main_arg8) = m ((c.tc : Thread Cert.InDxRefIdeal.nD Cert.InDxRefIdeal.τ).loc Cert.InDxRefIdeal.main_arg8)
      ∧ r.2.mem ((c.tc : Thread Cert.InDxRefIdeal.nD Cert.InDxRefIdeal.τ).loc Cert.InDxRefIdeal.main_arg9) = m ((c.tc : Thread Cert.InDxRefIdeal.nD Cert.InDxRefIdeal.τ).loc Cert.InDxRefIdeal.main_arg9))
      ∧ r.2.sem = fun _ => 0)

def quiescent_FfOutDx [hFfOutDx : Cert.FfOutDx.Facts] : Prop :=
  ∀ (m : (ℓ : Loc Cert.FfOutDx.nD Cert.FfOutDx.τ Cert.FfOutDx.sig) → Buf (Elt Bits) ℓ) (g : Dev Cert.FfOutDx.nD → PrngReg), Pre_FfOutDx m →
    θ_run (Cert.FfOutDx.defs (F := Bits)) (onTc (τ := Cert.FfOutDx.τ) (Cert.FfOutDx.main (F := Bits))) ⟨m, fun _ => 0, g⟩ (fun r => (∀ c : Dev Cert.FfOutDx.nD,
      r.2.mem ((c.tc : Thread Cert.FfOutDx.nD Cert.FfOutDx.τ).loc Cert.FfOutDx.main_arg0) = m ((c.tc : Thread Cert.FfOutDx.nD Cert.FfOutDx.τ).loc Cert.FfOutDx.main_arg0)
      ∧ r.2.mem ((c.tc : Thread Cert.FfOutDx.nD Cert.FfOutDx.τ).loc Cert.FfOutDx.main_arg1) = m ((c.tc : Thread Cert.FfOutDx.nD Cert.FfOutDx.τ).loc Cert.FfOutDx.main_arg1)
      ∧ r.2.mem ((c.tc : Thread Cert.FfOutDx.nD Cert.FfOutDx.τ).loc Cert.FfOutDx.main_arg2) = m ((c.tc : Thread Cert.FfOutDx.nD Cert.FfOutDx.τ).loc Cert.FfOutDx.main_arg2)
      ∧ r.2.mem ((c.tc : Thread Cert.FfOutDx.nD Cert.FfOutDx.τ).loc Cert.FfOutDx.main_arg3) = m ((c.tc : Thread Cert.FfOutDx.nD Cert.FfOutDx.τ).loc Cert.FfOutDx.main_arg3)
      ∧ r.2.mem ((c.tc : Thread Cert.FfOutDx.nD Cert.FfOutDx.τ).loc Cert.FfOutDx.main_arg4) = m ((c.tc : Thread Cert.FfOutDx.nD Cert.FfOutDx.τ).loc Cert.FfOutDx.main_arg4))
      ∧ r.2.sem = fun _ => 0)

def quiescent_FfOutDxIdeal [hFfOutDxIdeal : Cert.FfOutDxIdeal.Facts] : Prop :=
  ∀ (m : (ℓ : Loc Cert.FfOutDxIdeal.nD Cert.FfOutDxIdeal.τ Cert.FfOutDxIdeal.sig) → Buf (Elt Ideal) ℓ) (g : Dev Cert.FfOutDxIdeal.nD → PrngReg), Pre_FfOutDxIdeal m →
    θ_run (Cert.FfOutDxIdeal.defs (F := Ideal)) (onTc (τ := Cert.FfOutDxIdeal.τ) (Cert.FfOutDxIdeal.main (F := Ideal))) ⟨m, fun _ => 0, g⟩ (fun r => (∀ c : Dev Cert.FfOutDxIdeal.nD,
      r.2.mem ((c.tc : Thread Cert.FfOutDxIdeal.nD Cert.FfOutDxIdeal.τ).loc Cert.FfOutDxIdeal.main_arg0) = m ((c.tc : Thread Cert.FfOutDxIdeal.nD Cert.FfOutDxIdeal.τ).loc Cert.FfOutDxIdeal.main_arg0)
      ∧ r.2.mem ((c.tc : Thread Cert.FfOutDxIdeal.nD Cert.FfOutDxIdeal.τ).loc Cert.FfOutDxIdeal.main_arg1) = m ((c.tc : Thread Cert.FfOutDxIdeal.nD Cert.FfOutDxIdeal.τ).loc Cert.FfOutDxIdeal.main_arg1)
      ∧ r.2.mem ((c.tc : Thread Cert.FfOutDxIdeal.nD Cert.FfOutDxIdeal.τ).loc Cert.FfOutDxIdeal.main_arg2) = m ((c.tc : Thread Cert.FfOutDxIdeal.nD Cert.FfOutDxIdeal.τ).loc Cert.FfOutDxIdeal.main_arg2)
      ∧ r.2.mem ((c.tc : Thread Cert.FfOutDxIdeal.nD Cert.FfOutDxIdeal.τ).loc Cert.FfOutDxIdeal.main_arg3) = m ((c.tc : Thread Cert.FfOutDxIdeal.nD Cert.FfOutDxIdeal.τ).loc Cert.FfOutDxIdeal.main_arg3)
      ∧ r.2.mem ((c.tc : Thread Cert.FfOutDxIdeal.nD Cert.FfOutDxIdeal.τ).loc Cert.FfOutDxIdeal.main_arg4) = m ((c.tc : Thread Cert.FfOutDxIdeal.nD Cert.FfOutDxIdeal.τ).loc Cert.FfOutDxIdeal.main_arg4))
      ∧ r.2.sem = fun _ => 0)

def quiescent_FfOutDxRefIdeal [hFfOutDxRefIdeal : Cert.FfOutDxRefIdeal.Facts] : Prop :=
  ∀ (m : (ℓ : Loc Cert.FfOutDxRefIdeal.nD Cert.FfOutDxRefIdeal.τ Cert.FfOutDxRefIdeal.sig) → Buf (Elt Ideal) ℓ) (g : Dev Cert.FfOutDxRefIdeal.nD → PrngReg), Pre_FfOutDxRefIdeal m →
    θ_run (Cert.FfOutDxRefIdeal.defs (F := Ideal)) (onTc (τ := Cert.FfOutDxRefIdeal.τ) (Cert.FfOutDxRefIdeal.main (F := Ideal))) ⟨m, fun _ => 0, g⟩ (fun r => (∀ c : Dev Cert.FfOutDxRefIdeal.nD,
      r.2.mem ((c.tc : Thread Cert.FfOutDxRefIdeal.nD Cert.FfOutDxRefIdeal.τ).loc Cert.FfOutDxRefIdeal.main_arg0) = m ((c.tc : Thread Cert.FfOutDxRefIdeal.nD Cert.FfOutDxRefIdeal.τ).loc Cert.FfOutDxRefIdeal.main_arg0)
      ∧ r.2.mem ((c.tc : Thread Cert.FfOutDxRefIdeal.nD Cert.FfOutDxRefIdeal.τ).loc Cert.FfOutDxRefIdeal.main_arg1) = m ((c.tc : Thread Cert.FfOutDxRefIdeal.nD Cert.FfOutDxRefIdeal.τ).loc Cert.FfOutDxRefIdeal.main_arg1)
      ∧ r.2.mem ((c.tc : Thread Cert.FfOutDxRefIdeal.nD Cert.FfOutDxRefIdeal.τ).loc Cert.FfOutDxRefIdeal.main_arg2) = m ((c.tc : Thread Cert.FfOutDxRefIdeal.nD Cert.FfOutDxRefIdeal.τ).loc Cert.FfOutDxRefIdeal.main_arg2)
      ∧ r.2.mem ((c.tc : Thread Cert.FfOutDxRefIdeal.nD Cert.FfOutDxRefIdeal.τ).loc Cert.FfOutDxRefIdeal.main_arg3) = m ((c.tc : Thread Cert.FfOutDxRefIdeal.nD Cert.FfOutDxRefIdeal.τ).loc Cert.FfOutDxRefIdeal.main_arg3)
      ∧ r.2.mem ((c.tc : Thread Cert.FfOutDxRefIdeal.nD Cert.FfOutDxRefIdeal.τ).loc Cert.FfOutDxRefIdeal.main_arg4) = m ((c.tc : Thread Cert.FfOutDxRefIdeal.nD Cert.FfOutDxRefIdeal.τ).loc Cert.FfOutDxRefIdeal.main_arg4))
      ∧ r.2.sem = fun _ => 0)

def quiescent_FfInDx [hFfInDx : Cert.FfInDx.Facts] : Prop :=
  ∀ (m : (ℓ : Loc Cert.FfInDx.nD Cert.FfInDx.τ Cert.FfInDx.sig) → Buf (Elt Bits) ℓ) (g : Dev Cert.FfInDx.nD → PrngReg), Pre_FfInDx m →
    θ_run (Cert.FfInDx.defs (F := Bits)) (onTc (τ := Cert.FfInDx.τ) (Cert.FfInDx.main (F := Bits))) ⟨m, fun _ => 0, g⟩ (fun r => (∀ c : Dev Cert.FfInDx.nD,
      r.2.mem ((c.tc : Thread Cert.FfInDx.nD Cert.FfInDx.τ).loc Cert.FfInDx.main_arg0) = m ((c.tc : Thread Cert.FfInDx.nD Cert.FfInDx.τ).loc Cert.FfInDx.main_arg0)
      ∧ r.2.mem ((c.tc : Thread Cert.FfInDx.nD Cert.FfInDx.τ).loc Cert.FfInDx.main_arg1) = m ((c.tc : Thread Cert.FfInDx.nD Cert.FfInDx.τ).loc Cert.FfInDx.main_arg1)
      ∧ r.2.mem ((c.tc : Thread Cert.FfInDx.nD Cert.FfInDx.τ).loc Cert.FfInDx.main_arg2) = m ((c.tc : Thread Cert.FfInDx.nD Cert.FfInDx.τ).loc Cert.FfInDx.main_arg2))
      ∧ r.2.sem = fun _ => 0)

def quiescent_FfInDxIdeal [hFfInDxIdeal : Cert.FfInDxIdeal.Facts] : Prop :=
  ∀ (m : (ℓ : Loc Cert.FfInDxIdeal.nD Cert.FfInDxIdeal.τ Cert.FfInDxIdeal.sig) → Buf (Elt Ideal) ℓ) (g : Dev Cert.FfInDxIdeal.nD → PrngReg), Pre_FfInDxIdeal m →
    θ_run (Cert.FfInDxIdeal.defs (F := Ideal)) (onTc (τ := Cert.FfInDxIdeal.τ) (Cert.FfInDxIdeal.main (F := Ideal))) ⟨m, fun _ => 0, g⟩ (fun r => (∀ c : Dev Cert.FfInDxIdeal.nD,
      r.2.mem ((c.tc : Thread Cert.FfInDxIdeal.nD Cert.FfInDxIdeal.τ).loc Cert.FfInDxIdeal.main_arg0) = m ((c.tc : Thread Cert.FfInDxIdeal.nD Cert.FfInDxIdeal.τ).loc Cert.FfInDxIdeal.main_arg0)
      ∧ r.2.mem ((c.tc : Thread Cert.FfInDxIdeal.nD Cert.FfInDxIdeal.τ).loc Cert.FfInDxIdeal.main_arg1) = m ((c.tc : Thread Cert.FfInDxIdeal.nD Cert.FfInDxIdeal.τ).loc Cert.FfInDxIdeal.main_arg1)
      ∧ r.2.mem ((c.tc : Thread Cert.FfInDxIdeal.nD Cert.FfInDxIdeal.τ).loc Cert.FfInDxIdeal.main_arg2) = m ((c.tc : Thread Cert.FfInDxIdeal.nD Cert.FfInDxIdeal.τ).loc Cert.FfInDxIdeal.main_arg2))
      ∧ r.2.sem = fun _ => 0)

def quiescent_FfInDxRefIdeal [hFfInDxRefIdeal : Cert.FfInDxRefIdeal.Facts] : Prop :=
  ∀ (m : (ℓ : Loc Cert.FfInDxRefIdeal.nD Cert.FfInDxRefIdeal.τ Cert.FfInDxRefIdeal.sig) → Buf (Elt Ideal) ℓ) (g : Dev Cert.FfInDxRefIdeal.nD → PrngReg), Pre_FfInDxRefIdeal m →
    θ_run (Cert.FfInDxRefIdeal.defs (F := Ideal)) (onTc (τ := Cert.FfInDxRefIdeal.τ) (Cert.FfInDxRefIdeal.main (F := Ideal))) ⟨m, fun _ => 0, g⟩ (fun r => (∀ c : Dev Cert.FfInDxRefIdeal.nD,
      r.2.mem ((c.tc : Thread Cert.FfInDxRefIdeal.nD Cert.FfInDxRefIdeal.τ).loc Cert.FfInDxRefIdeal.main_arg0) = m ((c.tc : Thread Cert.FfInDxRefIdeal.nD Cert.FfInDxRefIdeal.τ).loc Cert.FfInDxRefIdeal.main_arg0)
      ∧ r.2.mem ((c.tc : Thread Cert.FfInDxRefIdeal.nD Cert.FfInDxRefIdeal.τ).loc Cert.FfInDxRefIdeal.main_arg1) = m ((c.tc : Thread Cert.FfInDxRefIdeal.nD Cert.FfInDxRefIdeal.τ).loc Cert.FfInDxRefIdeal.main_arg1)
      ∧ r.2.mem ((c.tc : Thread Cert.FfInDxRefIdeal.nD Cert.FfInDxRefIdeal.τ).loc Cert.FfInDxRefIdeal.main_arg2) = m ((c.tc : Thread Cert.FfInDxRefIdeal.nD Cert.FfInDxRefIdeal.τ).loc Cert.FfInDxRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2)
      ∧ r.2.mem ((c.tc : Thread Cert.OutDx.nD Cert.OutDx.τ).loc Cert.OutDx.main_arg3) = m ((c.tc : Thread Cert.OutDx.nD Cert.OutDx.τ).loc Cert.OutDx.main_arg3))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2)
      ∧ r.2.mem ((c.tc : Thread Cert.OutDxRefIdeal.nD Cert.OutDxRefIdeal.τ).loc Cert.OutDxRefIdeal.main_arg3) = m ((c.tc : Thread Cert.OutDxRefIdeal.nD Cert.OutDxRefIdeal.τ).loc Cert.OutDxRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6))
      ∧ r.2.sem = fun _ => 0)

def quiescent_AdamFfIn [hAdamFfIn : Cert.AdamFfIn.Facts] : Prop :=
  ∀ (m : (ℓ : Loc Cert.AdamFfIn.nD Cert.AdamFfIn.τ Cert.AdamFfIn.sig) → Buf (Elt Bits) ℓ) (g : Dev Cert.AdamFfIn.nD → PrngReg), Pre_AdamFfIn m →
    θ_run (Cert.AdamFfIn.defs (F := Bits)) (onTc (τ := Cert.AdamFfIn.τ) (Cert.AdamFfIn.main (F := Bits))) ⟨m, fun _ => 0, g⟩ (fun r => (∀ c : Dev Cert.AdamFfIn.nD,
      r.2.mem ((c.tc : Thread Cert.AdamFfIn.nD Cert.AdamFfIn.τ).loc Cert.AdamFfIn.main_arg0) = m ((c.tc : Thread Cert.AdamFfIn.nD Cert.AdamFfIn.τ).loc Cert.AdamFfIn.main_arg0)
      ∧ r.2.mem ((c.tc : Thread Cert.AdamFfIn.nD Cert.AdamFfIn.τ).loc Cert.AdamFfIn.main_arg1) = m ((c.tc : Thread Cert.AdamFfIn.nD Cert.AdamFfIn.τ).loc Cert.AdamFfIn.main_arg1)
      ∧ r.2.mem ((c.tc : Thread Cert.AdamFfIn.nD Cert.AdamFfIn.τ).loc Cert.AdamFfIn.main_arg2) = m ((c.tc : Thread Cert.AdamFfIn.nD Cert.AdamFfIn.τ).loc Cert.AdamFfIn.main_arg2)
      ∧ r.2.mem ((c.tc : Thread Cert.AdamFfIn.nD Cert.AdamFfIn.τ).loc Cert.AdamFfIn.main_arg3) = m ((c.tc : Thread Cert.AdamFfIn.nD Cert.AdamFfIn.τ).loc Cert.AdamFfIn.main_arg3)
      ∧ r.2.mem ((c.tc : Thread Cert.AdamFfIn.nD Cert.AdamFfIn.τ).loc Cert.AdamFfIn.main_arg4) = m ((c.tc : Thread Cert.AdamFfIn.nD Cert.AdamFfIn.τ).loc Cert.AdamFfIn.main_arg4)
      ∧ r.2.mem ((c.tc : Thread Cert.AdamFfIn.nD Cert.AdamFfIn.τ).loc Cert.AdamFfIn.main_arg5) = m ((c.tc : Thread Cert.AdamFfIn.nD Cert.AdamFfIn.τ).loc Cert.AdamFfIn.main_arg5)
      ∧ r.2.mem ((c.tc : Thread Cert.AdamFfIn.nD Cert.AdamFfIn.τ).loc Cert.AdamFfIn.main_arg6) = m ((c.tc : Thread Cert.AdamFfIn.nD Cert.AdamFfIn.τ).loc Cert.AdamFfIn.main_arg6))
      ∧ r.2.sem = fun _ => 0)

def quiescent_AdamFfInIdeal [hAdamFfInIdeal : Cert.AdamFfInIdeal.Facts] : Prop :=
  ∀ (m : (ℓ : Loc Cert.AdamFfInIdeal.nD Cert.AdamFfInIdeal.τ Cert.AdamFfInIdeal.sig) → Buf (Elt Ideal) ℓ) (g : Dev Cert.AdamFfInIdeal.nD → PrngReg), Pre_AdamFfInIdeal m →
    θ_run (Cert.AdamFfInIdeal.defs (F := Ideal)) (onTc (τ := Cert.AdamFfInIdeal.τ) (Cert.AdamFfInIdeal.main (F := Ideal))) ⟨m, fun _ => 0, g⟩ (fun r => (∀ c : Dev Cert.AdamFfInIdeal.nD,
      r.2.mem ((c.tc : Thread Cert.AdamFfInIdeal.nD Cert.AdamFfInIdeal.τ).loc Cert.AdamFfInIdeal.main_arg0) = m ((c.tc : Thread Cert.AdamFfInIdeal.nD Cert.AdamFfInIdeal.τ).loc Cert.AdamFfInIdeal.main_arg0)
      ∧ r.2.mem ((c.tc : Thread Cert.AdamFfInIdeal.nD Cert.AdamFfInIdeal.τ).loc Cert.AdamFfInIdeal.main_arg1) = m ((c.tc : Thread Cert.AdamFfInIdeal.nD Cert.AdamFfInIdeal.τ).loc Cert.AdamFfInIdeal.main_arg1)
      ∧ r.2.mem ((c.tc : Thread Cert.AdamFfInIdeal.nD Cert.AdamFfInIdeal.τ).loc Cert.AdamFfInIdeal.main_arg2) = m ((c.tc : Thread Cert.AdamFfInIdeal.nD Cert.AdamFfInIdeal.τ).loc Cert.AdamFfInIdeal.main_arg2)
      ∧ r.2.mem ((c.tc : Thread Cert.AdamFfInIdeal.nD Cert.AdamFfInIdeal.τ).loc Cert.AdamFfInIdeal.main_arg3) = m ((c.tc : Thread Cert.AdamFfInIdeal.nD Cert.AdamFfInIdeal.τ).loc Cert.AdamFfInIdeal.main_arg3)
      ∧ r.2.mem ((c.tc : Thread Cert.AdamFfInIdeal.nD Cert.AdamFfInIdeal.τ).loc Cert.AdamFfInIdeal.main_arg4) = m ((c.tc : Thread Cert.AdamFfInIdeal.nD Cert.AdamFfInIdeal.τ).loc Cert.AdamFfInIdeal.main_arg4)
      ∧ r.2.mem ((c.tc : Thread Cert.AdamFfInIdeal.nD Cert.AdamFfInIdeal.τ).loc Cert.AdamFfInIdeal.main_arg5) = m ((c.tc : Thread Cert.AdamFfInIdeal.nD Cert.AdamFfInIdeal.τ).loc Cert.AdamFfInIdeal.main_arg5)
      ∧ r.2.mem ((c.tc : Thread Cert.AdamFfInIdeal.nD Cert.AdamFfInIdeal.τ).loc Cert.AdamFfInIdeal.main_arg6) = m ((c.tc : Thread Cert.AdamFfInIdeal.nD Cert.AdamFfInIdeal.τ).loc Cert.AdamFfInIdeal.main_arg6))
      ∧ r.2.sem = fun _ => 0)

def quiescent_AdamFfInRefIdeal [hAdamFfInRefIdeal : Cert.AdamFfInRefIdeal.Facts] : Prop :=
  ∀ (m : (ℓ : Loc Cert.AdamFfInRefIdeal.nD Cert.AdamFfInRefIdeal.τ Cert.AdamFfInRefIdeal.sig) → Buf (Elt Ideal) ℓ) (g : Dev Cert.AdamFfInRefIdeal.nD → PrngReg), Pre_AdamFfInRefIdeal m →
    θ_run (Cert.AdamFfInRefIdeal.defs (F := Ideal)) (onTc (τ := Cert.AdamFfInRefIdeal.τ) (Cert.AdamFfInRefIdeal.main (F := Ideal))) ⟨m, fun _ => 0, g⟩ (fun r => (∀ c : Dev Cert.AdamFfInRefIdeal.nD,
      r.2.mem ((c.tc : Thread Cert.AdamFfInRefIdeal.nD Cert.AdamFfInRefIdeal.τ).loc Cert.AdamFfInRefIdeal.main_arg0) = m ((c.tc : Thread Cert.AdamFfInRefIdeal.nD Cert.AdamFfInRefIdeal.τ).loc Cert.AdamFfInRefIdeal.main_arg0)
      ∧ r.2.mem ((c.tc : Thread Cert.AdamFfInRefIdeal.nD Cert.AdamFfInRefIdeal.τ).loc Cert.AdamFfInRefIdeal.main_arg1) = m ((c.tc : Thread Cert.AdamFfInRefIdeal.nD Cert.AdamFfInRefIdeal.τ).loc Cert.AdamFfInRefIdeal.main_arg1)
      ∧ r.2.mem ((c.tc : Thread Cert.AdamFfInRefIdeal.nD Cert.AdamFfInRefIdeal.τ).loc Cert.AdamFfInRefIdeal.main_arg2) = m ((c.tc : Thread Cert.AdamFfInRefIdeal.nD Cert.AdamFfInRefIdeal.τ).loc Cert.AdamFfInRefIdeal.main_arg2)
      ∧ r.2.mem ((c.tc : Thread Cert.AdamFfInRefIdeal.nD Cert.AdamFfInRefIdeal.τ).loc Cert.AdamFfInRefIdeal.main_arg3) = m ((c.tc : Thread Cert.AdamFfInRefIdeal.nD Cert.AdamFfInRefIdeal.τ).loc Cert.AdamFfInRefIdeal.main_arg3)
      ∧ r.2.mem ((c.tc : Thread Cert.AdamFfInRefIdeal.nD Cert.AdamFfInRefIdeal.τ).loc Cert.AdamFfInRefIdeal.main_arg4) = m ((c.tc : Thread Cert.AdamFfInRefIdeal.nD Cert.AdamFfInRefIdeal.τ).loc Cert.AdamFfInRefIdeal.main_arg4)
      ∧ r.2.mem ((c.tc : Thread Cert.AdamFfInRefIdeal.nD Cert.AdamFfInRefIdeal.τ).loc Cert.AdamFfInRefIdeal.main_arg5) = m ((c.tc : Thread Cert.AdamFfInRefIdeal.nD Cert.AdamFfInRefIdeal.τ).loc Cert.AdamFfInRefIdeal.main_arg5)
      ∧ r.2.mem ((c.tc : Thread Cert.AdamFfInRefIdeal.nD Cert.AdamFfInRefIdeal.τ).loc Cert.AdamFfInRefIdeal.main_arg6) = m ((c.tc : Thread Cert.AdamFfInRefIdeal.nD Cert.AdamFfInRefIdeal.τ).loc Cert.AdamFfInRefIdeal.main_arg6))
      ∧ r.2.sem = fun _ => 0)

def quiescent_AdamFfOut [hAdamFfOut : Cert.AdamFfOut.Facts] : Prop :=
  ∀ (m : (ℓ : Loc Cert.AdamFfOut.nD Cert.AdamFfOut.τ Cert.AdamFfOut.sig) → Buf (Elt Bits) ℓ) (g : Dev Cert.AdamFfOut.nD → PrngReg), Pre_AdamFfOut m →
    θ_run (Cert.AdamFfOut.defs (F := Bits)) (onTc (τ := Cert.AdamFfOut.τ) (Cert.AdamFfOut.main (F := Bits))) ⟨m, fun _ => 0, g⟩ (fun r => (∀ c : Dev Cert.AdamFfOut.nD,
      r.2.mem ((c.tc : Thread Cert.AdamFfOut.nD Cert.AdamFfOut.τ).loc Cert.AdamFfOut.main_arg0) = m ((c.tc : Thread Cert.AdamFfOut.nD Cert.AdamFfOut.τ).loc Cert.AdamFfOut.main_arg0)
      ∧ r.2.mem ((c.tc : Thread Cert.AdamFfOut.nD Cert.AdamFfOut.τ).loc Cert.AdamFfOut.main_arg1) = m ((c.tc : Thread Cert.AdamFfOut.nD Cert.AdamFfOut.τ).loc Cert.AdamFfOut.main_arg1)
      ∧ r.2.mem ((c.tc : Thread Cert.AdamFfOut.nD Cert.AdamFfOut.τ).loc Cert.AdamFfOut.main_arg2) = m ((c.tc : Thread Cert.AdamFfOut.nD Cert.AdamFfOut.τ).loc Cert.AdamFfOut.main_arg2)
      ∧ r.2.mem ((c.tc : Thread Cert.AdamFfOut.nD Cert.AdamFfOut.τ).loc Cert.AdamFfOut.main_arg3) = m ((c.tc : Thread Cert.AdamFfOut.nD Cert.AdamFfOut.τ).loc Cert.AdamFfOut.main_arg3)
      ∧ r.2.mem ((c.tc : Thread Cert.AdamFfOut.nD Cert.AdamFfOut.τ).loc Cert.AdamFfOut.main_arg4) = m ((c.tc : Thread Cert.AdamFfOut.nD Cert.AdamFfOut.τ).loc Cert.AdamFfOut.main_arg4)
      ∧ r.2.mem ((c.tc : Thread Cert.AdamFfOut.nD Cert.AdamFfOut.τ).loc Cert.AdamFfOut.main_arg5) = m ((c.tc : Thread Cert.AdamFfOut.nD Cert.AdamFfOut.τ).loc Cert.AdamFfOut.main_arg5)
      ∧ r.2.mem ((c.tc : Thread Cert.AdamFfOut.nD Cert.AdamFfOut.τ).loc Cert.AdamFfOut.main_arg6) = m ((c.tc : Thread Cert.AdamFfOut.nD Cert.AdamFfOut.τ).loc Cert.AdamFfOut.main_arg6))
      ∧ r.2.sem = fun _ => 0)

def quiescent_AdamFfOutIdeal [hAdamFfOutIdeal : Cert.AdamFfOutIdeal.Facts] : Prop :=
  ∀ (m : (ℓ : Loc Cert.AdamFfOutIdeal.nD Cert.AdamFfOutIdeal.τ Cert.AdamFfOutIdeal.sig) → Buf (Elt Ideal) ℓ) (g : Dev Cert.AdamFfOutIdeal.nD → PrngReg), Pre_AdamFfOutIdeal m →
    θ_run (Cert.AdamFfOutIdeal.defs (F := Ideal)) (onTc (τ := Cert.AdamFfOutIdeal.τ) (Cert.AdamFfOutIdeal.main (F := Ideal))) ⟨m, fun _ => 0, g⟩ (fun r => (∀ c : Dev Cert.AdamFfOutIdeal.nD,
      r.2.mem ((c.tc : Thread Cert.AdamFfOutIdeal.nD Cert.AdamFfOutIdeal.τ).loc Cert.AdamFfOutIdeal.main_arg0) = m ((c.tc : Thread Cert.AdamFfOutIdeal.nD Cert.AdamFfOutIdeal.τ).loc Cert.AdamFfOutIdeal.main_arg0)
      ∧ r.2.mem ((c.tc : Thread Cert.AdamFfOutIdeal.nD Cert.AdamFfOutIdeal.τ).loc Cert.AdamFfOutIdeal.main_arg1) = m ((c.tc : Thread Cert.AdamFfOutIdeal.nD Cert.AdamFfOutIdeal.τ).loc Cert.AdamFfOutIdeal.main_arg1)
      ∧ r.2.mem ((c.tc : Thread Cert.AdamFfOutIdeal.nD Cert.AdamFfOutIdeal.τ).loc Cert.AdamFfOutIdeal.main_arg2) = m ((c.tc : Thread Cert.AdamFfOutIdeal.nD Cert.AdamFfOutIdeal.τ).loc Cert.AdamFfOutIdeal.main_arg2)
      ∧ r.2.mem ((c.tc : Thread Cert.AdamFfOutIdeal.nD Cert.AdamFfOutIdeal.τ).loc Cert.AdamFfOutIdeal.main_arg3) = m ((c.tc : Thread Cert.AdamFfOutIdeal.nD Cert.AdamFfOutIdeal.τ).loc Cert.AdamFfOutIdeal.main_arg3)
      ∧ r.2.mem ((c.tc : Thread Cert.AdamFfOutIdeal.nD Cert.AdamFfOutIdeal.τ).loc Cert.AdamFfOutIdeal.main_arg4) = m ((c.tc : Thread Cert.AdamFfOutIdeal.nD Cert.AdamFfOutIdeal.τ).loc Cert.AdamFfOutIdeal.main_arg4)
      ∧ r.2.mem ((c.tc : Thread Cert.AdamFfOutIdeal.nD Cert.AdamFfOutIdeal.τ).loc Cert.AdamFfOutIdeal.main_arg5) = m ((c.tc : Thread Cert.AdamFfOutIdeal.nD Cert.AdamFfOutIdeal.τ).loc Cert.AdamFfOutIdeal.main_arg5)
      ∧ r.2.mem ((c.tc : Thread Cert.AdamFfOutIdeal.nD Cert.AdamFfOutIdeal.τ).loc Cert.AdamFfOutIdeal.main_arg6) = m ((c.tc : Thread Cert.AdamFfOutIdeal.nD Cert.AdamFfOutIdeal.τ).loc Cert.AdamFfOutIdeal.main_arg6))
      ∧ r.2.sem = fun _ => 0)

def quiescent_AdamFfOutRefIdeal [hAdamFfOutRefIdeal : Cert.AdamFfOutRefIdeal.Facts] : Prop :=
  ∀ (m : (ℓ : Loc Cert.AdamFfOutRefIdeal.nD Cert.AdamFfOutRefIdeal.τ Cert.AdamFfOutRefIdeal.sig) → Buf (Elt Ideal) ℓ) (g : Dev Cert.AdamFfOutRefIdeal.nD → PrngReg), Pre_AdamFfOutRefIdeal m →
    θ_run (Cert.AdamFfOutRefIdeal.defs (F := Ideal)) (onTc (τ := Cert.AdamFfOutRefIdeal.τ) (Cert.AdamFfOutRefIdeal.main (F := Ideal))) ⟨m, fun _ => 0, g⟩ (fun r => (∀ c : Dev Cert.AdamFfOutRefIdeal.nD,
      r.2.mem ((c.tc : Thread Cert.AdamFfOutRefIdeal.nD Cert.AdamFfOutRefIdeal.τ).loc Cert.AdamFfOutRefIdeal.main_arg0) = m ((c.tc : Thread Cert.AdamFfOutRefIdeal.nD Cert.AdamFfOutRefIdeal.τ).loc Cert.AdamFfOutRefIdeal.main_arg0)
      ∧ r.2.mem ((c.tc : Thread Cert.AdamFfOutRefIdeal.nD Cert.AdamFfOutRefIdeal.τ).loc Cert.AdamFfOutRefIdeal.main_arg1) = m ((c.tc : Thread Cert.AdamFfOutRefIdeal.nD Cert.AdamFfOutRefIdeal.τ).loc Cert.AdamFfOutRefIdeal.main_arg1)
      ∧ r.2.mem ((c.tc : Thread Cert.AdamFfOutRefIdeal.nD Cert.AdamFfOutRefIdeal.τ).loc Cert.AdamFfOutRefIdeal.main_arg2) = m ((c.tc : Thread Cert.AdamFfOutRefIdeal.nD Cert.AdamFfOutRefIdeal.τ).loc Cert.AdamFfOutRefIdeal.main_arg2)
      ∧ r.2.mem ((c.tc : Thread Cert.AdamFfOutRefIdeal.nD Cert.AdamFfOutRefIdeal.τ).loc Cert.AdamFfOutRefIdeal.main_arg3) = m ((c.tc : Thread Cert.AdamFfOutRefIdeal.nD Cert.AdamFfOutRefIdeal.τ).loc Cert.AdamFfOutRefIdeal.main_arg3)
      ∧ r.2.mem ((c.tc : Thread Cert.AdamFfOutRefIdeal.nD Cert.AdamFfOutRefIdeal.τ).loc Cert.AdamFfOutRefIdeal.main_arg4) = m ((c.tc : Thread Cert.AdamFfOutRefIdeal.nD Cert.AdamFfOutRefIdeal.τ).loc Cert.AdamFfOutRefIdeal.main_arg4)
      ∧ r.2.mem ((c.tc : Thread Cert.AdamFfOutRefIdeal.nD Cert.AdamFfOutRefIdeal.τ).loc Cert.AdamFfOutRefIdeal.main_arg5) = m ((c.tc : Thread Cert.AdamFfOutRefIdeal.nD Cert.AdamFfOutRefIdeal.τ).loc Cert.AdamFfOutRefIdeal.main_arg5)
      ∧ r.2.mem ((c.tc : Thread Cert.AdamFfOutRefIdeal.nD Cert.AdamFfOutRefIdeal.τ).loc Cert.AdamFfOutRefIdeal.main_arg6) = m ((c.tc : Thread Cert.AdamFfOutRefIdeal.nD Cert.AdamFfOutRefIdeal.τ).loc Cert.AdamFfOutRefIdeal.main_arg6))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_WInGather [hWInGather : Cert.WInGather.Facts] : Prop :=
  ∀ (m : (ℓ : Loc Cert.WInGather.nD Cert.WInGather.τ Cert.WInGather.sig) → Buf (Elt Bits) ℓ) (g : Dev Cert.WInGather.nD → PrngReg), Pre_WInGather m →
    θ_run (Cert.WInGather.defs (F := Bits)) (onTc (τ := Cert.WInGather.τ) (Cert.WInGather.main (F := Bits))) ⟨m, fun _ => 0, g⟩ (fun r => (∀ c : Dev Cert.WInGather.nD,
      r.2.mem ((c.tc : Thread Cert.WInGather.nD Cert.WInGather.τ).loc Cert.WInGather.main_arg0) = m ((c.tc : Thread Cert.WInGather.nD Cert.WInGather.τ).loc Cert.WInGather.main_arg0))
      ∧ r.2.sem = fun _ => 0)

def quiescent_WInGatherIdeal [hWInGatherIdeal : Cert.WInGatherIdeal.Facts] : Prop :=
  ∀ (m : (ℓ : Loc Cert.WInGatherIdeal.nD Cert.WInGatherIdeal.τ Cert.WInGatherIdeal.sig) → Buf (Elt Ideal) ℓ) (g : Dev Cert.WInGatherIdeal.nD → PrngReg), Pre_WInGatherIdeal m →
    θ_run (Cert.WInGatherIdeal.defs (F := Ideal)) (onTc (τ := Cert.WInGatherIdeal.τ) (Cert.WInGatherIdeal.main (F := Ideal))) ⟨m, fun _ => 0, g⟩ (fun r => (∀ c : Dev Cert.WInGatherIdeal.nD,
      r.2.mem ((c.tc : Thread Cert.WInGatherIdeal.nD Cert.WInGatherIdeal.τ).loc Cert.WInGatherIdeal.main_arg0) = m ((c.tc : Thread Cert.WInGatherIdeal.nD Cert.WInGatherIdeal.τ).loc Cert.WInGatherIdeal.main_arg0))
      ∧ r.2.sem = fun _ => 0)

def quiescent_WInGatherRefIdeal [hWInGatherRefIdeal : Cert.WInGatherRefIdeal.Facts] : Prop :=
  ∀ (m : (ℓ : Loc Cert.WInGatherRefIdeal.nD Cert.WInGatherRefIdeal.τ Cert.WInGatherRefIdeal.sig) → Buf (Elt Ideal) ℓ) (g : Dev Cert.WInGatherRefIdeal.nD → PrngReg), Pre_WInGatherRefIdeal m →
    θ_run (Cert.WInGatherRefIdeal.defs (F := Ideal)) (onTc (τ := Cert.WInGatherRefIdeal.τ) (Cert.WInGatherRefIdeal.main (F := Ideal))) ⟨m, fun _ => 0, g⟩ (fun r => (∀ c : Dev Cert.WInGatherRefIdeal.nD,
      r.2.mem ((c.tc : Thread Cert.WInGatherRefIdeal.nD Cert.WInGatherRefIdeal.τ).loc Cert.WInGatherRefIdeal.main_arg0) = m ((c.tc : Thread Cert.WInGatherRefIdeal.nD Cert.WInGatherRefIdeal.τ).loc Cert.WInGatherRefIdeal.main_arg0))
      ∧ r.2.sem = fun _ => 0)

def quiescent_SmallGather [hSmallGather : Cert.SmallGather.Facts] : Prop :=
  ∀ (m : (ℓ : Loc Cert.SmallGather.nD Cert.SmallGather.τ Cert.SmallGather.sig) → Buf (Elt Bits) ℓ) (g : Dev Cert.SmallGather.nD → PrngReg), Pre_SmallGather m →
    θ_run (Cert.SmallGather.defs (F := Bits)) (onTc (τ := Cert.SmallGather.τ) (Cert.SmallGather.main (F := Bits))) ⟨m, fun _ => 0, g⟩ (fun r => (∀ c : Dev Cert.SmallGather.nD,
      r.2.mem ((c.tc : Thread Cert.SmallGather.nD Cert.SmallGather.τ).loc Cert.SmallGather.main_arg0) = m ((c.tc : Thread Cert.SmallGather.nD Cert.SmallGather.τ).loc Cert.SmallGather.main_arg0))
      ∧ r.2.sem = fun _ => 0)

def quiescent_SmallGatherIdeal [hSmallGatherIdeal : Cert.SmallGatherIdeal.Facts] : Prop :=
  ∀ (m : (ℓ : Loc Cert.SmallGatherIdeal.nD Cert.SmallGatherIdeal.τ Cert.SmallGatherIdeal.sig) → Buf (Elt Ideal) ℓ) (g : Dev Cert.SmallGatherIdeal.nD → PrngReg), Pre_SmallGatherIdeal m →
    θ_run (Cert.SmallGatherIdeal.defs (F := Ideal)) (onTc (τ := Cert.SmallGatherIdeal.τ) (Cert.SmallGatherIdeal.main (F := Ideal))) ⟨m, fun _ => 0, g⟩ (fun r => (∀ c : Dev Cert.SmallGatherIdeal.nD,
      r.2.mem ((c.tc : Thread Cert.SmallGatherIdeal.nD Cert.SmallGatherIdeal.τ).loc Cert.SmallGatherIdeal.main_arg0) = m ((c.tc : Thread Cert.SmallGatherIdeal.nD Cert.SmallGatherIdeal.τ).loc Cert.SmallGatherIdeal.main_arg0))
      ∧ r.2.sem = fun _ => 0)

def quiescent_SmallGatherRefIdeal [hSmallGatherRefIdeal : Cert.SmallGatherRefIdeal.Facts] : Prop :=
  ∀ (m : (ℓ : Loc Cert.SmallGatherRefIdeal.nD Cert.SmallGatherRefIdeal.τ Cert.SmallGatherRefIdeal.sig) → Buf (Elt Ideal) ℓ) (g : Dev Cert.SmallGatherRefIdeal.nD → PrngReg), Pre_SmallGatherRefIdeal m →
    θ_run (Cert.SmallGatherRefIdeal.defs (F := Ideal)) (onTc (τ := Cert.SmallGatherRefIdeal.τ) (Cert.SmallGatherRefIdeal.main (F := Ideal))) ⟨m, fun _ => 0, g⟩ (fun r => (∀ c : Dev Cert.SmallGatherRefIdeal.nD,
      r.2.mem ((c.tc : Thread Cert.SmallGatherRefIdeal.nD Cert.SmallGatherRefIdeal.τ).loc Cert.SmallGatherRefIdeal.main_arg0) = m ((c.tc : Thread Cert.SmallGatherRefIdeal.nD Cert.SmallGatherRefIdeal.τ).loc Cert.SmallGatherRefIdeal.main_arg0))
      ∧ r.2.sem = fun _ => 0)

def quiescent_CondGather [hCondGather : Cert.CondGather.Facts] : Prop :=
  ∀ (m : (ℓ : Loc Cert.CondGather.nD Cert.CondGather.τ Cert.CondGather.sig) → Buf (Elt Bits) ℓ) (g : Dev Cert.CondGather.nD → PrngReg), Pre_CondGather m →
    θ_run (Cert.CondGather.defs (F := Bits)) (onTc (τ := Cert.CondGather.τ) (Cert.CondGather.main (F := Bits))) ⟨m, fun _ => 0, g⟩ (fun r => (∀ c : Dev Cert.CondGather.nD,
      r.2.mem ((c.tc : Thread Cert.CondGather.nD Cert.CondGather.τ).loc Cert.CondGather.main_arg0) = m ((c.tc : Thread Cert.CondGather.nD Cert.CondGather.τ).loc Cert.CondGather.main_arg0))
      ∧ r.2.sem = fun _ => 0)

def quiescent_CondGatherIdeal [hCondGatherIdeal : Cert.CondGatherIdeal.Facts] : Prop :=
  ∀ (m : (ℓ : Loc Cert.CondGatherIdeal.nD Cert.CondGatherIdeal.τ Cert.CondGatherIdeal.sig) → Buf (Elt Ideal) ℓ) (g : Dev Cert.CondGatherIdeal.nD → PrngReg), Pre_CondGatherIdeal m →
    θ_run (Cert.CondGatherIdeal.defs (F := Ideal)) (onTc (τ := Cert.CondGatherIdeal.τ) (Cert.CondGatherIdeal.main (F := Ideal))) ⟨m, fun _ => 0, g⟩ (fun r => (∀ c : Dev Cert.CondGatherIdeal.nD,
      r.2.mem ((c.tc : Thread Cert.CondGatherIdeal.nD Cert.CondGatherIdeal.τ).loc Cert.CondGatherIdeal.main_arg0) = m ((c.tc : Thread Cert.CondGatherIdeal.nD Cert.CondGatherIdeal.τ).loc Cert.CondGatherIdeal.main_arg0))
      ∧ r.2.sem = fun _ => 0)

def quiescent_CondGatherRefIdeal [hCondGatherRefIdeal : Cert.CondGatherRefIdeal.Facts] : Prop :=
  ∀ (m : (ℓ : Loc Cert.CondGatherRefIdeal.nD Cert.CondGatherRefIdeal.τ Cert.CondGatherRefIdeal.sig) → Buf (Elt Ideal) ℓ) (g : Dev Cert.CondGatherRefIdeal.nD → PrngReg), Pre_CondGatherRefIdeal m →
    θ_run (Cert.CondGatherRefIdeal.defs (F := Ideal)) (onTc (τ := Cert.CondGatherRefIdeal.τ) (Cert.CondGatherRefIdeal.main (F := Ideal))) ⟨m, fun _ => 0, g⟩ (fun r => (∀ c : Dev Cert.CondGatherRefIdeal.nD,
      r.2.mem ((c.tc : Thread Cert.CondGatherRefIdeal.nD Cert.CondGatherRefIdeal.τ).loc Cert.CondGatherRefIdeal.main_arg0) = m ((c.tc : Thread Cert.CondGatherRefIdeal.nD Cert.CondGatherRefIdeal.τ).loc Cert.CondGatherRefIdeal.main_arg0))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_FfIn [hFfIn : Cert.FfIn.Facts] : Prop :=
  ∀ (m : (ℓ : Loc Cert.FfIn.nD Cert.FfIn.τ Cert.FfIn.sig) → Buf (Elt Bits) ℓ) (g : Dev Cert.FfIn.nD → PrngReg), Pre_FfIn m →
    θ_run (Cert.FfIn.defs (F := Bits)) (onTc (τ := Cert.FfIn.τ) (Cert.FfIn.main (F := Bits))) ⟨m, fun _ => 0, g⟩ (fun r => (∀ c : Dev Cert.FfIn.nD,
      r.2.mem ((c.tc : Thread Cert.FfIn.nD Cert.FfIn.τ).loc Cert.FfIn.main_arg0) = m ((c.tc : Thread Cert.FfIn.nD Cert.FfIn.τ).loc Cert.FfIn.main_arg0)
      ∧ r.2.mem ((c.tc : Thread Cert.FfIn.nD Cert.FfIn.τ).loc Cert.FfIn.main_arg1) = m ((c.tc : Thread Cert.FfIn.nD Cert.FfIn.τ).loc Cert.FfIn.main_arg1))
      ∧ r.2.sem = fun _ => 0)

def quiescent_FfInIdeal [hFfInIdeal : Cert.FfInIdeal.Facts] : Prop :=
  ∀ (m : (ℓ : Loc Cert.FfInIdeal.nD Cert.FfInIdeal.τ Cert.FfInIdeal.sig) → Buf (Elt Ideal) ℓ) (g : Dev Cert.FfInIdeal.nD → PrngReg), Pre_FfInIdeal m →
    θ_run (Cert.FfInIdeal.defs (F := Ideal)) (onTc (τ := Cert.FfInIdeal.τ) (Cert.FfInIdeal.main (F := Ideal))) ⟨m, fun _ => 0, g⟩ (fun r => (∀ c : Dev Cert.FfInIdeal.nD,
      r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
      ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1))
      ∧ r.2.sem = fun _ => 0)

def quiescent_FfInRefIdeal [hFfInRefIdeal : Cert.FfInRefIdeal.Facts] : Prop :=
  ∀ (m : (ℓ : Loc Cert.FfInRefIdeal.nD Cert.FfInRefIdeal.τ Cert.FfInRefIdeal.sig) → Buf (Elt Ideal) ℓ) (g : Dev Cert.FfInRefIdeal.nD → PrngReg), Pre_FfInRefIdeal m →
    θ_run (Cert.FfInRefIdeal.defs (F := Ideal)) (onTc (τ := Cert.FfInRefIdeal.τ) (Cert.FfInRefIdeal.main (F := Ideal))) ⟨m, fun _ => 0, g⟩ (fun r => (∀ c : Dev Cert.FfInRefIdeal.nD,
      r.2.mem ((c.tc : Thread Cert.FfInRefIdeal.nD Cert.FfInRefIdeal.τ).loc Cert.FfInRefIdeal.main_arg0) = m ((c.tc : Thread Cert.FfInRefIdeal.nD Cert.FfInRefIdeal.τ).loc Cert.FfInRefIdeal.main_arg0)
      ∧ r.2.mem ((c.tc : Thread Cert.FfInRefIdeal.nD Cert.FfInRefIdeal.τ).loc Cert.FfInRefIdeal.main_arg1) = m ((c.tc : Thread Cert.FfInRefIdeal.nD Cert.FfInRefIdeal.τ).loc Cert.FfInRefIdeal.main_arg1))
      ∧ r.2.sem = fun _ => 0)

def quiescent_FfOut [hFfOut : Cert.FfOut.Facts] : Prop :=
  ∀ (m : (ℓ : Loc Cert.FfOut.nD Cert.FfOut.τ Cert.FfOut.sig) → Buf (Elt Bits) ℓ) (g : Dev Cert.FfOut.nD → PrngReg), Pre_FfOut m →
    θ_run (Cert.FfOut.defs (F := Bits)) (onTc (τ := Cert.FfOut.τ) (Cert.FfOut.main (F := Bits))) ⟨m, fun _ => 0, g⟩ (fun r => (∀ c : Dev Cert.FfOut.nD,
      r.2.mem ((c.tc : Thread Cert.FfOut.nD Cert.FfOut.τ).loc Cert.FfOut.main_arg0) = m ((c.tc : Thread Cert.FfOut.nD Cert.FfOut.τ).loc Cert.FfOut.main_arg0)
      ∧ r.2.mem ((c.tc : Thread Cert.FfOut.nD Cert.FfOut.τ).loc Cert.FfOut.main_arg1) = m ((c.tc : Thread Cert.FfOut.nD Cert.FfOut.τ).loc Cert.FfOut.main_arg1)
      ∧ r.2.mem ((c.tc : Thread Cert.FfOut.nD Cert.FfOut.τ).loc Cert.FfOut.main_arg2) = m ((c.tc : Thread Cert.FfOut.nD Cert.FfOut.τ).loc Cert.FfOut.main_arg2)
      ∧ r.2.mem ((c.tc : Thread Cert.FfOut.nD Cert.FfOut.τ).loc Cert.FfOut.main_arg3) = m ((c.tc : Thread Cert.FfOut.nD Cert.FfOut.τ).loc Cert.FfOut.main_arg3))
      ∧ r.2.sem = fun _ => 0)

def quiescent_FfOutIdeal [hFfOutIdeal : Cert.FfOutIdeal.Facts] : Prop :=
  ∀ (m : (ℓ : Loc Cert.FfOutIdeal.nD Cert.FfOutIdeal.τ Cert.FfOutIdeal.sig) → Buf (Elt Ideal) ℓ) (g : Dev Cert.FfOutIdeal.nD → PrngReg), Pre_FfOutIdeal m →
    θ_run (Cert.FfOutIdeal.defs (F := Ideal)) (onTc (τ := Cert.FfOutIdeal.τ) (Cert.FfOutIdeal.main (F := Ideal))) ⟨m, fun _ => 0, g⟩ (fun r => (∀ c : Dev Cert.FfOutIdeal.nD,
      r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
      ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
      ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
      ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3))
      ∧ r.2.sem = fun _ => 0)

def quiescent_FfOutRefIdeal [hFfOutRefIdeal : Cert.FfOutRefIdeal.Facts] : Prop :=
  ∀ (m : (ℓ : Loc Cert.FfOutRefIdeal.nD Cert.FfOutRefIdeal.τ Cert.FfOutRefIdeal.sig) → Buf (Elt Ideal) ℓ) (g : Dev Cert.FfOutRefIdeal.nD → PrngReg), Pre_FfOutRefIdeal m →
    θ_run (Cert.FfOutRefIdeal.defs (F := Ideal)) (onTc (τ := Cert.FfOutRefIdeal.τ) (Cert.FfOutRefIdeal.main (F := Ideal))) ⟨m, fun _ => 0, g⟩ (fun r => (∀ c : Dev Cert.FfOutRefIdeal.nD,
      r.2.mem ((c.tc : Thread Cert.FfOutRefIdeal.nD Cert.FfOutRefIdeal.τ).loc Cert.FfOutRefIdeal.main_arg0) = m ((c.tc : Thread Cert.FfOutRefIdeal.nD Cert.FfOutRefIdeal.τ).loc Cert.FfOutRefIdeal.main_arg0)
      ∧ r.2.mem ((c.tc : Thread Cert.FfOutRefIdeal.nD Cert.FfOutRefIdeal.τ).loc Cert.FfOutRefIdeal.main_arg1) = m ((c.tc : Thread Cert.FfOutRefIdeal.nD Cert.FfOutRefIdeal.τ).loc Cert.FfOutRefIdeal.main_arg1)
      ∧ r.2.mem ((c.tc : Thread Cert.FfOutRefIdeal.nD Cert.FfOutRefIdeal.τ).loc Cert.FfOutRefIdeal.main_arg2) = m ((c.tc : Thread Cert.FfOutRefIdeal.nD Cert.FfOutRefIdeal.τ).loc Cert.FfOutRefIdeal.main_arg2)
      ∧ r.2.mem ((c.tc : Thread Cert.FfOutRefIdeal.nD Cert.FfOutRefIdeal.τ).loc Cert.FfOutRefIdeal.main_arg3) = m ((c.tc : Thread Cert.FfOutRefIdeal.nD Cert.FfOutRefIdeal.τ).loc Cert.FfOutRefIdeal.main_arg3))
      ∧ r.2.sem = fun _ => 0)

def quiescent_FfInDw [hFfInDw : Cert.FfInDw.Facts] : Prop :=
  ∀ (m : (ℓ : Loc Cert.FfInDw.nD Cert.FfInDw.τ Cert.FfInDw.sig) → Buf (Elt Bits) ℓ) (g : Dev Cert.FfInDw.nD → PrngReg), Pre_FfInDw m →
    θ_run (Cert.FfInDw.defs (F := Bits)) (onTc (τ := Cert.FfInDw.τ) (Cert.FfInDw.main (F := Bits))) ⟨m, fun _ => 0, g⟩ (fun r => (∀ c : Dev Cert.FfInDw.nD,
      r.2.mem ((c.tc : Thread Cert.FfInDw.nD Cert.FfInDw.τ).loc Cert.FfInDw.main_arg0) = m ((c.tc : Thread Cert.FfInDw.nD Cert.FfInDw.τ).loc Cert.FfInDw.main_arg0)
      ∧ r.2.mem ((c.tc : Thread Cert.FfInDw.nD Cert.FfInDw.τ).loc Cert.FfInDw.main_arg1) = m ((c.tc : Thread Cert.FfInDw.nD Cert.FfInDw.τ).loc Cert.FfInDw.main_arg1))
      ∧ r.2.sem = fun _ => 0)

def quiescent_FfInDwIdeal [hFfInDwIdeal : Cert.FfInDwIdeal.Facts] : Prop :=
  ∀ (m : (ℓ : Loc Cert.FfInDwIdeal.nD Cert.FfInDwIdeal.τ Cert.FfInDwIdeal.sig) → Buf (Elt Ideal) ℓ) (g : Dev Cert.FfInDwIdeal.nD → PrngReg), Pre_FfInDwIdeal m →
    θ_run (Cert.FfInDwIdeal.defs (F := Ideal)) (onTc (τ := Cert.FfInDwIdeal.τ) (Cert.FfInDwIdeal.main (F := Ideal))) ⟨m, fun _ => 0, g⟩ (fun r => (∀ c : Dev Cert.FfInDwIdeal.nD,
      r.2.mem ((c.tc : Thread Cert.FfInDwIdeal.nD Cert.FfInDwIdeal.τ).loc Cert.FfInDwIdeal.main_arg0) = m ((c.tc : Thread Cert.FfInDwIdeal.nD Cert.FfInDwIdeal.τ).loc Cert.FfInDwIdeal.main_arg0)
      ∧ r.2.mem ((c.tc : Thread Cert.FfInDwIdeal.nD Cert.FfInDwIdeal.τ).loc Cert.FfInDwIdeal.main_arg1) = m ((c.tc : Thread Cert.FfInDwIdeal.nD Cert.FfInDwIdeal.τ).loc Cert.FfInDwIdeal.main_arg1))
      ∧ r.2.sem = fun _ => 0)

def quiescent_FfInDwRefIdeal [hFfInDwRefIdeal : Cert.FfInDwRefIdeal.Facts] : Prop :=
  ∀ (m : (ℓ : Loc Cert.FfInDwRefIdeal.nD Cert.FfInDwRefIdeal.τ Cert.FfInDwRefIdeal.sig) → Buf (Elt Ideal) ℓ) (g : Dev Cert.FfInDwRefIdeal.nD → PrngReg), Pre_FfInDwRefIdeal m →
    θ_run (Cert.FfInDwRefIdeal.defs (F := Ideal)) (onTc (τ := Cert.FfInDwRefIdeal.τ) (Cert.FfInDwRefIdeal.main (F := Ideal))) ⟨m, fun _ => 0, g⟩ (fun r => (∀ c : Dev Cert.FfInDwRefIdeal.nD,
      r.2.mem ((c.tc : Thread Cert.FfInDwRefIdeal.nD Cert.FfInDwRefIdeal.τ).loc Cert.FfInDwRefIdeal.main_arg0) = m ((c.tc : Thread Cert.FfInDwRefIdeal.nD Cert.FfInDwRefIdeal.τ).loc Cert.FfInDwRefIdeal.main_arg0)
      ∧ r.2.mem ((c.tc : Thread Cert.FfInDwRefIdeal.nD Cert.FfInDwRefIdeal.τ).loc Cert.FfInDwRefIdeal.main_arg1) = m ((c.tc : Thread Cert.FfInDwRefIdeal.nD Cert.FfInDwRefIdeal.τ).loc Cert.FfInDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2)
      ∧ r.2.mem ((c.tc : Thread Cert.OutDw.nD Cert.OutDw.τ).loc Cert.OutDw.main_arg3) = m ((c.tc : Thread Cert.OutDw.nD Cert.OutDw.τ).loc Cert.OutDw.main_arg3))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2)
      ∧ r.2.mem ((c.tc : Thread Cert.OutDwIdeal.nD Cert.OutDwIdeal.τ).loc Cert.OutDwIdeal.main_arg3) = m ((c.tc : Thread Cert.OutDwIdeal.nD Cert.OutDwIdeal.τ).loc Cert.OutDwIdeal.main_arg3))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2)
      ∧ r.2.mem ((c.tc : Thread Cert.OutDwRefIdeal.nD Cert.OutDwRefIdeal.τ).loc Cert.OutDwRefIdeal.main_arg3) = m ((c.tc : Thread Cert.OutDwRefIdeal.nD Cert.OutDwRefIdeal.τ).loc Cert.OutDwRefIdeal.main_arg3))
      ∧ r.2.sem = fun _ => 0)

def quiescent_FfOutDw [hFfOutDw : Cert.FfOutDw.Facts] : Prop :=
  ∀ (m : (ℓ : Loc Cert.FfOutDw.nD Cert.FfOutDw.τ Cert.FfOutDw.sig) → Buf (Elt Bits) ℓ) (g : Dev Cert.FfOutDw.nD → PrngReg), Pre_FfOutDw m →
    θ_run (Cert.FfOutDw.defs (F := Bits)) (onTc (τ := Cert.FfOutDw.τ) (Cert.FfOutDw.main (F := Bits))) ⟨m, fun _ => 0, g⟩ (fun r => (∀ c : Dev Cert.FfOutDw.nD,
      r.2.mem ((c.tc : Thread Cert.FfOutDw.nD Cert.FfOutDw.τ).loc Cert.FfOutDw.main_arg0) = m ((c.tc : Thread Cert.FfOutDw.nD Cert.FfOutDw.τ).loc Cert.FfOutDw.main_arg0)
      ∧ r.2.mem ((c.tc : Thread Cert.FfOutDw.nD Cert.FfOutDw.τ).loc Cert.FfOutDw.main_arg1) = m ((c.tc : Thread Cert.FfOutDw.nD Cert.FfOutDw.τ).loc Cert.FfOutDw.main_arg1)
      ∧ r.2.mem ((c.tc : Thread Cert.FfOutDw.nD Cert.FfOutDw.τ).loc Cert.FfOutDw.main_arg2) = m ((c.tc : Thread Cert.FfOutDw.nD Cert.FfOutDw.τ).loc Cert.FfOutDw.main_arg2)
      ∧ r.2.mem ((c.tc : Thread Cert.FfOutDw.nD Cert.FfOutDw.τ).loc Cert.FfOutDw.main_arg3) = m ((c.tc : Thread Cert.FfOutDw.nD Cert.FfOutDw.τ).loc Cert.FfOutDw.main_arg3))
      ∧ r.2.sem = fun _ => 0)

def quiescent_FfOutDwIdeal [hFfOutDwIdeal : Cert.FfOutDwIdeal.Facts] : Prop :=
  ∀ (m : (ℓ : Loc Cert.FfOutDwIdeal.nD Cert.FfOutDwIdeal.τ Cert.FfOutDwIdeal.sig) → Buf (Elt Ideal) ℓ) (g : Dev Cert.FfOutDwIdeal.nD → PrngReg), Pre_FfOutDwIdeal m →
    θ_run (Cert.FfOutDwIdeal.defs (F := Ideal)) (onTc (τ := Cert.FfOutDwIdeal.τ) (Cert.FfOutDwIdeal.main (F := Ideal))) ⟨m, fun _ => 0, g⟩ (fun r => (∀ c : Dev Cert.FfOutDwIdeal.nD,
      r.2.mem ((c.tc : Thread Cert.FfOutDwIdeal.nD Cert.FfOutDwIdeal.τ).loc Cert.FfOutDwIdeal.main_arg0) = m ((c.tc : Thread Cert.FfOutDwIdeal.nD Cert.FfOutDwIdeal.τ).loc Cert.FfOutDwIdeal.main_arg0)
      ∧ r.2.mem ((c.tc : Thread Cert.FfOutDwIdeal.nD Cert.FfOutDwIdeal.τ).loc Cert.FfOutDwIdeal.main_arg1) = m ((c.tc : Thread Cert.FfOutDwIdeal.nD Cert.FfOutDwIdeal.τ).loc Cert.FfOutDwIdeal.main_arg1)
      ∧ r.2.mem ((c.tc : Thread Cert.FfOutDwIdeal.nD Cert.FfOutDwIdeal.τ).loc Cert.FfOutDwIdeal.main_arg2) = m ((c.tc : Thread Cert.FfOutDwIdeal.nD Cert.FfOutDwIdeal.τ).loc Cert.FfOutDwIdeal.main_arg2)
      ∧ r.2.mem ((c.tc : Thread Cert.FfOutDwIdeal.nD Cert.FfOutDwIdeal.τ).loc Cert.FfOutDwIdeal.main_arg3) = m ((c.tc : Thread Cert.FfOutDwIdeal.nD Cert.FfOutDwIdeal.τ).loc Cert.FfOutDwIdeal.main_arg3))
      ∧ r.2.sem = fun _ => 0)

def quiescent_FfOutDwRefIdeal [hFfOutDwRefIdeal : Cert.FfOutDwRefIdeal.Facts] : Prop :=
  ∀ (m : (ℓ : Loc Cert.FfOutDwRefIdeal.nD Cert.FfOutDwRefIdeal.τ Cert.FfOutDwRefIdeal.sig) → Buf (Elt Ideal) ℓ) (g : Dev Cert.FfOutDwRefIdeal.nD → PrngReg), Pre_FfOutDwRefIdeal m →
    θ_run (Cert.FfOutDwRefIdeal.defs (F := Ideal)) (onTc (τ := Cert.FfOutDwRefIdeal.τ) (Cert.FfOutDwRefIdeal.main (F := Ideal))) ⟨m, fun _ => 0, g⟩ (fun r => (∀ c : Dev Cert.FfOutDwRefIdeal.nD,
      r.2.mem ((c.tc : Thread Cert.FfOutDwRefIdeal.nD Cert.FfOutDwRefIdeal.τ).loc Cert.FfOutDwRefIdeal.main_arg0) = m ((c.tc : Thread Cert.FfOutDwRefIdeal.nD Cert.FfOutDwRefIdeal.τ).loc Cert.FfOutDwRefIdeal.main_arg0)
      ∧ r.2.mem ((c.tc : Thread Cert.FfOutDwRefIdeal.nD Cert.FfOutDwRefIdeal.τ).loc Cert.FfOutDwRefIdeal.main_arg1) = m ((c.tc : Thread Cert.FfOutDwRefIdeal.nD Cert.FfOutDwRefIdeal.τ).loc Cert.FfOutDwRefIdeal.main_arg1)
      ∧ r.2.mem ((c.tc : Thread Cert.FfOutDwRefIdeal.nD Cert.FfOutDwRefIdeal.τ).loc Cert.FfOutDwRefIdeal.main_arg2) = m ((c.tc : Thread Cert.FfOutDwRefIdeal.nD Cert.FfOutDwRefIdeal.τ).loc Cert.FfOutDwRefIdeal.main_arg2)
      ∧ r.2.mem ((c.tc : Thread Cert.FfOutDwRefIdeal.nD Cert.FfOutDwRefIdeal.τ).loc Cert.FfOutDwRefIdeal.main_arg3) = m ((c.tc : Thread Cert.FfOutDwRefIdeal.nD Cert.FfOutDwRefIdeal.τ).loc Cert.FfOutDwRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1154]⟩ ⟨2, ![1024, 9232]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 9728]⟩ ⟨2, ![65536, 9728]⟩ 0 8 c v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v4) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m ((c.tc : Thread Cert.InDxIdeal.nD Cert.InDxIdeal.τ).loc Cert.InDxIdeal.main_arg0) = Layout.block ⟨2, ![8192, 3072]⟩ ⟨2, ![65536, 3072]⟩ 0 8 c (m' (((0 : Dev Cert.InDxRefIdeal.nD).tc : Thread Cert.InDxRefIdeal.nD Cert.InDxRefIdeal.τ).loc Cert.InDxRefIdeal.main_arg0))
      ∧ m ((c.tc : Thread Cert.InDxIdeal.nD Cert.InDxIdeal.τ).loc Cert.InDxIdeal.main_arg1) = Layout.block ⟨2, ![8192, 1024]⟩ ⟨2, ![65536, 1024]⟩ 0 8 c (m' (((0 : Dev Cert.InDxRefIdeal.nD).tc : Thread Cert.InDxRefIdeal.nD Cert.InDxRefIdeal.τ).loc Cert.InDxRefIdeal.main_arg1))
      ∧ m ((c.tc : Thread Cert.InDxIdeal.nD Cert.InDxIdeal.τ).loc Cert.InDxIdeal.main_arg2) = Layout.block ⟨2, ![8192, 1024]⟩ ⟨2, ![65536, 1024]⟩ 0 8 c (m' (((0 : Dev Cert.InDxRefIdeal.nD).tc : Thread Cert.InDxRefIdeal.nD Cert.InDxRefIdeal.τ).loc Cert.InDxRefIdeal.main_arg2))
      ∧ m ((c.tc : Thread Cert.InDxIdeal.nD Cert.InDxIdeal.τ).loc Cert.InDxIdeal.main_arg3) = Layout.block ⟨2, ![8192, 1024]⟩ ⟨2, ![65536, 1024]⟩ 0 8 c (m' (((0 : Dev Cert.InDxRefIdeal.nD).tc : Thread Cert.InDxRefIdeal.nD Cert.InDxRefIdeal.τ).loc Cert.InDxRefIdeal.main_arg3))
      ∧ m ((c.tc : Thread Cert.InDxIdeal.nD Cert.InDxIdeal.τ).loc Cert.InDxIdeal.main_arg4) = Layout.block ⟨2, ![8192, 1024]⟩ ⟨2, ![65536, 1024]⟩ 0 8 c (m' (((0 : Dev Cert.InDxRefIdeal.nD).tc : Thread Cert.InDxRefIdeal.nD Cert.InDxRefIdeal.τ).loc Cert.InDxRefIdeal.main_arg4))
      ∧ m ((c.tc : Thread Cert.InDxIdeal.nD Cert.InDxIdeal.τ).loc Cert.InDxIdeal.main_arg5) = Layout.block ⟨2, ![8192, 1024]⟩ ⟨2, ![65536, 1024]⟩ 0 8 c (m' (((0 : Dev Cert.InDxRefIdeal.nD).tc : Thread Cert.InDxRefIdeal.nD Cert.InDxRefIdeal.τ).loc Cert.InDxRefIdeal.main_arg5))
      ∧ m ((c.tc : Thread Cert.InDxIdeal.nD Cert.InDxIdeal.τ).loc Cert.InDxIdeal.main_arg6) = Layout.block ⟨2, ![8192, 1024]⟩ ⟨2, ![65536, 1024]⟩ 0 8 c (m' (((0 : Dev Cert.InDxRefIdeal.nD).tc : Thread Cert.InDxRefIdeal.nD Cert.InDxRefIdeal.τ).loc Cert.InDxRefIdeal.main_arg6))
      ∧ m ((c.tc : Thread Cert.InDxIdeal.nD Cert.InDxIdeal.τ).loc Cert.InDxIdeal.main_arg7) = Layout.block ⟨2, ![8192, 512]⟩ ⟨2, ![65536, 512]⟩ 0 8 c (m' (((0 : Dev Cert.InDxRefIdeal.nD).tc : Thread Cert.InDxRefIdeal.nD Cert.InDxRefIdeal.τ).loc Cert.InDxRefIdeal.main_arg7))
      ∧ m ((c.tc : Thread Cert.InDxIdeal.nD Cert.InDxIdeal.τ).loc Cert.InDxIdeal.main_arg8) = m' (((0 : Dev Cert.InDxRefIdeal.nD).tc : Thread Cert.InDxRefIdeal.nD Cert.InDxRefIdeal.τ).loc Cert.InDxRefIdeal.main_arg8)
      ∧ m ((c.tc : Thread Cert.InDxIdeal.nD Cert.InDxIdeal.τ).loc Cert.InDxIdeal.main_arg9) = Layout.block ⟨3, ![8, 1024, 1154]⟩ ⟨3, ![64, 1024, 1154]⟩ 0 8 c (m' (((0 : Dev Cert.InDxRefIdeal.nD).tc : Thread Cert.InDxRefIdeal.nD Cert.InDxRefIdeal.τ).loc Cert.InDxRefIdeal.main_arg9))) →
    ∃ (v0 : Buf (Elt Ideal) (((0 : Dev Cert.InDxRefIdeal.nD).tc : Thread Cert.InDxRefIdeal.nD Cert.InDxRefIdeal.τ).loc Cert.InDxRefIdeal.main_v4)) (v1 : Buf (Elt Ideal) (((0 : Dev Cert.InDxRefIdeal.nD).tc : Thread Cert.InDxRefIdeal.nD Cert.InDxRefIdeal.τ).loc Cert.InDxRefIdeal.main_v7)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v1_0) = Layout.block ⟨2, ![8192, 1024]⟩ ⟨2, ![65536, 1024]⟩ 0 8 c v0
          ∧ r.2.mem ((c.tc : Thread Cert.InDxIdeal.nD Cert.InDxIdeal.τ).loc Cert.InDxIdeal.main_v1_1) = Layout.block ⟨3, ![8, 1024, 1154]⟩ ⟨3, ![64, 1024, 1154]⟩ 0 8 c v1
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
          ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
          ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
          ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9))
      ∧ θ_run (Cert.InDxRefIdeal.defs (F := Ideal)) (onTc (τ := Cert.InDxRefIdeal.τ) (Cert.InDxRefIdeal.main (F := Ideal))) ⟨m', fun _ => 0, g'⟩ (fun r =>
          r.2.mem (((0 : Dev Cert.InDxRefIdeal.nD).tc : Thread Cert.InDxRefIdeal.nD Cert.InDxRefIdeal.τ).loc Cert.InDxRefIdeal.main_v4) = v0
          ∧ r.2.mem (((0 : Dev Cert.InDxRefIdeal.nD).tc : Thread Cert.InDxRefIdeal.nD Cert.InDxRefIdeal.τ).loc Cert.InDxRefIdeal.main_v7) = v1
          ∧ r.2.mem (((0 : Dev Cert.InDxRefIdeal.nD).tc : Thread Cert.InDxRefIdeal.nD Cert.InDxRefIdeal.τ).loc Cert.InDxRefIdeal.main_arg0) = m' (((0 : Dev Cert.InDxRefIdeal.nD).tc : Thread Cert.InDxRefIdeal.nD Cert.InDxRefIdeal.τ).loc Cert.InDxRefIdeal.main_arg0)
          ∧ r.2.mem (((0 : Dev Cert.InDxRefIdeal.nD).tc : Thread Cert.InDxRefIdeal.nD Cert.InDxRefIdeal.τ).loc Cert.InDxRefIdeal.main_arg1) = m' (((0 : Dev Cert.InDxRefIdeal.nD).tc : Thread Cert.InDxRefIdeal.nD Cert.InDxRefIdeal.τ).loc Cert.InDxRefIdeal.main_arg1)
          ∧ r.2.mem (((0 : Dev Cert.InDxRefIdeal.nD).tc : Thread Cert.InDxRefIdeal.nD Cert.InDxRefIdeal.τ).loc Cert.InDxRefIdeal.main_arg2) = m' (((0 : Dev Cert.InDxRefIdeal.nD).tc : Thread Cert.InDxRefIdeal.nD Cert.InDxRefIdeal.τ).loc Cert.InDxRefIdeal.main_arg2)
          ∧ r.2.mem (((0 : Dev Cert.InDxRefIdeal.nD).tc : Thread Cert.InDxRefIdeal.nD Cert.InDxRefIdeal.τ).loc Cert.InDxRefIdeal.main_arg3) = m' (((0 : Dev Cert.InDxRefIdeal.nD).tc : Thread Cert.InDxRefIdeal.nD Cert.InDxRefIdeal.τ).loc Cert.InDxRefIdeal.main_arg3)
          ∧ r.2.mem (((0 : Dev Cert.InDxRefIdeal.nD).tc : Thread Cert.InDxRefIdeal.nD Cert.InDxRefIdeal.τ).loc Cert.InDxRefIdeal.main_arg4) = m' (((0 : Dev Cert.InDxRefIdeal.nD).tc : Thread Cert.InDxRefIdeal.nD Cert.InDxRefIdeal.τ).loc Cert.InDxRefIdeal.main_arg4)
          ∧ r.2.mem (((0 : Dev Cert.InDxRefIdeal.nD).tc : Thread Cert.InDxRefIdeal.nD Cert.InDxRefIdeal.τ).loc Cert.InDxRefIdeal.main_arg5) = m' (((0 : Dev Cert.InDxRefIdeal.nD).tc : Thread Cert.InDxRefIdeal.nD Cert.InDxRefIdeal.τ).loc Cert.InDxRefIdeal.main_arg5)
          ∧ r.2.mem (((0 : Dev Cert.InDxRefIdeal.nD).tc : Thread Cert.InDxRefIdeal.nD Cert.InDxRefIdeal.τ).loc Cert.InDxRefIdeal.main_arg6) = m' (((0 : Dev Cert.InDxRefIdeal.nD).tc : Thread Cert.InDxRefIdeal.nD Cert.InDxRefIdeal.τ).loc Cert.InDxRefIdeal.main_arg6)
          ∧ r.2.mem (((0 : Dev Cert.InDxRefIdeal.nD).tc : Thread Cert.InDxRefIdeal.nD Cert.InDxRefIdeal.τ).loc Cert.InDxRefIdeal.main_arg7) = m' (((0 : Dev Cert.InDxRefIdeal.nD).tc : Thread Cert.InDxRefIdeal.nD Cert.InDxRefIdeal.τ).loc Cert.InDxRefIdeal.main_arg7)
          ∧ r.2.mem (((0 : Dev Cert.InDxRefIdeal.nD).tc : Thread Cert.InDxRefIdeal.nD Cert.InDxRefIdeal.τ).loc Cert.InDxRefIdeal.main_arg8) = m' (((0 : Dev Cert.InDxRefIdeal.nD).tc : Thread Cert.InDxRefIdeal.nD Cert.InDxRefIdeal.τ).loc Cert.InDxRefIdeal.main_arg8)
          ∧ r.2.mem (((0 : Dev Cert.InDxRefIdeal.nD).tc : Thread Cert.InDxRefIdeal.nD Cert.InDxRefIdeal.τ).loc Cert.InDxRefIdeal.main_arg9) = m' (((0 : Dev Cert.InDxRefIdeal.nD).tc : Thread Cert.InDxRefIdeal.nD Cert.InDxRefIdeal.τ).loc Cert.InDxRefIdeal.main_arg9))

def preserves_FfOutDx_FfOutDxIdeal : Prop :=
  True

def algebraic_FfOutDxIdeal_FfOutDxRefIdeal [hFfOutDxIdeal : Cert.FfOutDxIdeal.Facts] [hFfOutDxRefIdeal : Cert.FfOutDxRefIdeal.Facts] : Prop :=
  ∀ (m : (ℓ : Loc Cert.FfOutDxIdeal.nD Cert.FfOutDxIdeal.τ Cert.FfOutDxIdeal.sig) → Buf (Elt Ideal) ℓ) (g : Dev Cert.FfOutDxIdeal.nD → PrngReg)
    (m' : (ℓ : Loc Cert.FfOutDxRefIdeal.nD Cert.FfOutDxRefIdeal.τ Cert.FfOutDxRefIdeal.sig) → Buf (Elt Ideal) ℓ) (g' : Dev Cert.FfOutDxRefIdeal.nD → PrngReg), Pre_FfOutDxIdeal m →
    (∀ c : Dev Cert.FfOutDxIdeal.nD,
      m ((c.tc : Thread Cert.FfOutDxIdeal.nD Cert.FfOutDxIdeal.τ).loc Cert.FfOutDxIdeal.main_arg0) = Layout.block ⟨2, ![8192, 1024]⟩ ⟨2, ![65536, 1024]⟩ 0 8 c (m' (((0 : Dev Cert.FfOutDxRefIdeal.nD).tc : Thread Cert.FfOutDxRefIdeal.nD Cert.FfOutDxRefIdeal.τ).loc Cert.FfOutDxRefIdeal.main_arg0))
      ∧ m ((c.tc : Thread Cert.FfOutDxIdeal.nD Cert.FfOutDxIdeal.τ).loc Cert.FfOutDxIdeal.main_arg1) = m' (((0 : Dev Cert.FfOutDxRefIdeal.nD).tc : Thread Cert.FfOutDxRefIdeal.nD Cert.FfOutDxRefIdeal.τ).loc Cert.FfOutDxRefIdeal.main_arg1)
      ∧ m ((c.tc : Thread Cert.FfOutDxIdeal.nD Cert.FfOutDxIdeal.τ).loc Cert.FfOutDxIdeal.main_arg2) = Layout.block ⟨2, ![1, 1024]⟩ ⟨2, ![8, 1024]⟩ 0 8 c (m' (((0 : Dev Cert.FfOutDxRefIdeal.nD).tc : Thread Cert.FfOutDxRefIdeal.nD Cert.FfOutDxRefIdeal.τ).loc Cert.FfOutDxRefIdeal.main_arg2))
      ∧ m ((c.tc : Thread Cert.FfOutDxIdeal.nD Cert.FfOutDxIdeal.τ).loc Cert.FfOutDxIdeal.main_arg3) = Layout.block ⟨2, ![8192, 4096]⟩ ⟨2, ![65536, 4096]⟩ 0 8 c (m' (((0 : Dev Cert.FfOutDxRefIdeal.nD).tc : Thread Cert.FfOutDxRefIdeal.nD Cert.FfOutDxRefIdeal.τ).loc Cert.FfOutDxRefIdeal.main_arg3))
      ∧ m ((c.tc : Thread Cert.FfOutDxIdeal.nD Cert.FfOutDxIdeal.τ).loc Cert.FfOutDxIdeal.main_arg4) = Layout.block ⟨3, ![8, 512, 1024]⟩ ⟨3, ![64, 512, 1024]⟩ 0 8 c (m' (((0 : Dev Cert.FfOutDxRefIdeal.nD).tc : Thread Cert.FfOutDxRefIdeal.nD Cert.FfOutDxRefIdeal.τ).loc Cert.FfOutDxRefIdeal.main_arg4))) →
    ∃ (v0 : Buf (Elt Ideal) (((0 : Dev Cert.FfOutDxRefIdeal.nD).tc : Thread Cert.FfOutDxRefIdeal.nD Cert.FfOutDxRefIdeal.τ).loc Cert.FfOutDxRefIdeal.main_v13)) (v1 : Buf (Elt Ideal) (((0 : Dev Cert.FfOutDxRefIdeal.nD).tc : Thread Cert.FfOutDxRefIdeal.nD Cert.FfOutDxRefIdeal.τ).loc Cert.FfOutDxRefIdeal.main_v16)),
      θ_run (Cert.FfOutDxIdeal.defs (F := Ideal)) (onTc (τ := Cert.FfOutDxIdeal.τ) (Cert.FfOutDxIdeal.main (F := Ideal))) ⟨m, fun _ => 0, g⟩ (fun r => ∀ c : Dev Cert.FfOutDxIdeal.nD,
          r.2.mem ((c.tc : Thread Cert.FfOutDxIdeal.nD Cert.FfOutDxIdeal.τ).loc Cert.FfOutDxIdeal.main_v1_0) = Layout.block ⟨2, ![8192, 4096]⟩ ⟨2, ![65536, 4096]⟩ 0 8 c v0
          ∧ r.2.mem ((c.tc : Thread Cert.FfOutDxIdeal.nD Cert.FfOutDxIdeal.τ).loc Cert.FfOutDxIdeal.main_v1_1) = Layout.block ⟨3, ![8, 512, 1024]⟩ ⟨3, ![64, 512, 1024]⟩ 0 8 c v1
          ∧ r.2.mem ((c.tc : Thread Cert.FfOutDxIdeal.nD Cert.FfOutDxIdeal.τ).loc Cert.FfOutDxIdeal.main_arg0) = m ((c.tc : Thread Cert.FfOutDxIdeal.nD Cert.FfOutDxIdeal.τ).loc Cert.FfOutDxIdeal.main_arg0)
          ∧ r.2.mem ((c.tc : Thread Cert.FfOutDxIdeal.nD Cert.FfOutDxIdeal.τ).loc Cert.FfOutDxIdeal.main_arg1) = m ((c.tc : Thread Cert.FfOutDxIdeal.nD Cert.FfOutDxIdeal.τ).loc Cert.FfOutDxIdeal.main_arg1)
          ∧ r.2.mem ((c.tc : Thread Cert.FfOutDxIdeal.nD Cert.FfOutDxIdeal.τ).loc Cert.FfOutDxIdeal.main_arg2) = m ((c.tc : Thread Cert.FfOutDxIdeal.nD Cert.FfOutDxIdeal.τ).loc Cert.FfOutDxIdeal.main_arg2)
          ∧ r.2.mem ((c.tc : Thread Cert.FfOutDxIdeal.nD Cert.FfOutDxIdeal.τ).loc Cert.FfOutDxIdeal.main_arg3) = m ((c.tc : Thread Cert.FfOutDxIdeal.nD Cert.FfOutDxIdeal.τ).loc Cert.FfOutDxIdeal.main_arg3)
          ∧ r.2.mem ((c.tc : Thread Cert.FfOutDxIdeal.nD Cert.FfOutDxIdeal.τ).loc Cert.FfOutDxIdeal.main_arg4) = m ((c.tc : Thread Cert.FfOutDxIdeal.nD Cert.FfOutDxIdeal.τ).loc Cert.FfOutDxIdeal.main_arg4))
      ∧ θ_run (Cert.FfOutDxRefIdeal.defs (F := Ideal)) (onTc (τ := Cert.FfOutDxRefIdeal.τ) (Cert.FfOutDxRefIdeal.main (F := Ideal))) ⟨m', fun _ => 0, g'⟩ (fun r =>
          r.2.mem (((0 : Dev Cert.FfOutDxRefIdeal.nD).tc : Thread Cert.FfOutDxRefIdeal.nD Cert.FfOutDxRefIdeal.τ).loc Cert.FfOutDxRefIdeal.main_v13) = v0
          ∧ r.2.mem (((0 : Dev Cert.FfOutDxRefIdeal.nD).tc : Thread Cert.FfOutDxRefIdeal.nD Cert.FfOutDxRefIdeal.τ).loc Cert.FfOutDxRefIdeal.main_v16) = v1
          ∧ r.2.mem (((0 : Dev Cert.FfOutDxRefIdeal.nD).tc : Thread Cert.FfOutDxRefIdeal.nD Cert.FfOutDxRefIdeal.τ).loc Cert.FfOutDxRefIdeal.main_arg0) = m' (((0 : Dev Cert.FfOutDxRefIdeal.nD).tc : Thread Cert.FfOutDxRefIdeal.nD Cert.FfOutDxRefIdeal.τ).loc Cert.FfOutDxRefIdeal.main_arg0)
          ∧ r.2.mem (((0 : Dev Cert.FfOutDxRefIdeal.nD).tc : Thread Cert.FfOutDxRefIdeal.nD Cert.FfOutDxRefIdeal.τ).loc Cert.FfOutDxRefIdeal.main_arg1) = m' (((0 : Dev Cert.FfOutDxRefIdeal.nD).tc : Thread Cert.FfOutDxRefIdeal.nD Cert.FfOutDxRefIdeal.τ).loc Cert.FfOutDxRefIdeal.main_arg1)
          ∧ r.2.mem (((0 : Dev Cert.FfOutDxRefIdeal.nD).tc : Thread Cert.FfOutDxRefIdeal.nD Cert.FfOutDxRefIdeal.τ).loc Cert.FfOutDxRefIdeal.main_arg2) = m' (((0 : Dev Cert.FfOutDxRefIdeal.nD).tc : Thread Cert.FfOutDxRefIdeal.nD Cert.FfOutDxRefIdeal.τ).loc Cert.FfOutDxRefIdeal.main_arg2)
          ∧ r.2.mem (((0 : Dev Cert.FfOutDxRefIdeal.nD).tc : Thread Cert.FfOutDxRefIdeal.nD Cert.FfOutDxRefIdeal.τ).loc Cert.FfOutDxRefIdeal.main_arg3) = m' (((0 : Dev Cert.FfOutDxRefIdeal.nD).tc : Thread Cert.FfOutDxRefIdeal.nD Cert.FfOutDxRefIdeal.τ).loc Cert.FfOutDxRefIdeal.main_arg3)
          ∧ r.2.mem (((0 : Dev Cert.FfOutDxRefIdeal.nD).tc : Thread Cert.FfOutDxRefIdeal.nD Cert.FfOutDxRefIdeal.τ).loc Cert.FfOutDxRefIdeal.main_arg4) = m' (((0 : Dev Cert.FfOutDxRefIdeal.nD).tc : Thread Cert.FfOutDxRefIdeal.nD Cert.FfOutDxRefIdeal.τ).loc Cert.FfOutDxRefIdeal.main_arg4))

def preserves_FfInDx_FfInDxIdeal : Prop :=
  True

def algebraic_FfInDxIdeal_FfInDxRefIdeal [hFfInDxIdeal : Cert.FfInDxIdeal.Facts] [hFfInDxRefIdeal : Cert.FfInDxRefIdeal.Facts] : Prop :=
  ∀ (m : (ℓ : Loc Cert.FfInDxIdeal.nD Cert.FfInDxIdeal.τ Cert.FfInDxIdeal.sig) → Buf (Elt Ideal) ℓ) (g : Dev Cert.FfInDxIdeal.nD → PrngReg)
    (m' : (ℓ : Loc Cert.FfInDxRefIdeal.nD Cert.FfInDxRefIdeal.τ Cert.FfInDxRefIdeal.sig) → Buf (Elt Ideal) ℓ) (g' : Dev Cert.FfInDxRefIdeal.nD → PrngReg), Pre_FfInDxIdeal m →
    (∀ c : Dev Cert.FfInDxIdeal.nD,
      m ((c.tc : Thread Cert.FfInDxIdeal.nD Cert.FfInDxIdeal.τ).loc Cert.FfInDxIdeal.main_arg0) = Layout.block ⟨2, ![8192, 4096]⟩ ⟨2, ![65536, 4096]⟩ 0 8 c (m' (((0 : Dev Cert.FfInDxRefIdeal.nD).tc : Thread Cert.FfInDxRefIdeal.nD Cert.FfInDxRefIdeal.τ).loc Cert.FfInDxRefIdeal.main_arg0))
      ∧ m ((c.tc : Thread Cert.FfInDxIdeal.nD Cert.FfInDxIdeal.τ).loc Cert.FfInDxIdeal.main_arg1) = m' (((0 : Dev Cert.FfInDxRefIdeal.nD).tc : Thread Cert.FfInDxRefIdeal.nD Cert.FfInDxRefIdeal.τ).loc Cert.FfInDxRefIdeal.main_arg1)
      ∧ m ((c.tc : Thread Cert.FfInDxIdeal.nD Cert.FfInDxIdeal.τ).loc Cert.FfInDxIdeal.main_arg2) = Layout.block ⟨3, ![8, 1024, 512]⟩ ⟨3, ![64, 1024, 512]⟩ 0 8 c (m' (((0 : Dev Cert.FfInDxRefIdeal.nD).tc : Thread Cert.FfInDxRefIdeal.nD Cert.FfInDxRefIdeal.τ).loc Cert.FfInDxRefIdeal.main_arg2))) →
    ∃ (v0 : Buf (Elt Ideal) (((0 : Dev Cert.FfInDxRefIdeal.nD).tc : Thread Cert.FfInDxRefIdeal.nD Cert.FfInDxRefIdeal.τ).loc Cert.FfInDxRefIdeal.main_v3)) (v1 : Buf (Elt Ideal) (((0 : Dev Cert.FfInDxRefIdeal.nD).tc : Thread Cert.FfInDxRefIdeal.nD Cert.FfInDxRefIdeal.τ).loc Cert.FfInDxRefIdeal.main_v6)),
      θ_run (Cert.FfInDxIdeal.defs (F := Ideal)) (onTc (τ := Cert.FfInDxIdeal.τ) (Cert.FfInDxIdeal.main (F := Ideal))) ⟨m, fun _ => 0, g⟩ (fun r => ∀ c : Dev Cert.FfInDxIdeal.nD,
          r.2.mem ((c.tc : Thread Cert.FfInDxIdeal.nD Cert.FfInDxIdeal.τ).loc Cert.FfInDxIdeal.main_v1_0) = Layout.block ⟨2, ![8192, 1024]⟩ ⟨2, ![65536, 1024]⟩ 0 8 c v0
          ∧ r.2.mem ((c.tc : Thread Cert.FfInDxIdeal.nD Cert.FfInDxIdeal.τ).loc Cert.FfInDxIdeal.main_v1_1) = Layout.block ⟨3, ![8, 1024, 512]⟩ ⟨3, ![64, 1024, 512]⟩ 0 8 c v1
          ∧ r.2.mem ((c.tc : Thread Cert.FfInDxIdeal.nD Cert.FfInDxIdeal.τ).loc Cert.FfInDxIdeal.main_arg0) = m ((c.tc : Thread Cert.FfInDxIdeal.nD Cert.FfInDxIdeal.τ).loc Cert.FfInDxIdeal.main_arg0)
          ∧ r.2.mem ((c.tc : Thread Cert.FfInDxIdeal.nD Cert.FfInDxIdeal.τ).loc Cert.FfInDxIdeal.main_arg1) = m ((c.tc : Thread Cert.FfInDxIdeal.nD Cert.FfInDxIdeal.τ).loc Cert.FfInDxIdeal.main_arg1)
          ∧ r.2.mem ((c.tc : Thread Cert.FfInDxIdeal.nD Cert.FfInDxIdeal.τ).loc Cert.FfInDxIdeal.main_arg2) = m ((c.tc : Thread Cert.FfInDxIdeal.nD Cert.FfInDxIdeal.τ).loc Cert.FfInDxIdeal.main_arg2))
      ∧ θ_run (Cert.FfInDxRefIdeal.defs (F := Ideal)) (onTc (τ := Cert.FfInDxRefIdeal.τ) (Cert.FfInDxRefIdeal.main (F := Ideal))) ⟨m', fun _ => 0, g'⟩ (fun r =>
          r.2.mem (((0 : Dev Cert.FfInDxRefIdeal.nD).tc : Thread Cert.FfInDxRefIdeal.nD Cert.FfInDxRefIdeal.τ).loc Cert.FfInDxRefIdeal.main_v3) = v0
          ∧ r.2.mem (((0 : Dev Cert.FfInDxRefIdeal.nD).tc : Thread Cert.FfInDxRefIdeal.nD Cert.FfInDxRefIdeal.τ).loc Cert.FfInDxRefIdeal.main_v6) = v1
          ∧ r.2.mem (((0 : Dev Cert.FfInDxRefIdeal.nD).tc : Thread Cert.FfInDxRefIdeal.nD Cert.FfInDxRefIdeal.τ).loc Cert.FfInDxRefIdeal.main_arg0) = m' (((0 : Dev Cert.FfInDxRefIdeal.nD).tc : Thread Cert.FfInDxRefIdeal.nD Cert.FfInDxRefIdeal.τ).loc Cert.FfInDxRefIdeal.main_arg0)
          ∧ r.2.mem (((0 : Dev Cert.FfInDxRefIdeal.nD).tc : Thread Cert.FfInDxRefIdeal.nD Cert.FfInDxRefIdeal.τ).loc Cert.FfInDxRefIdeal.main_arg1) = m' (((0 : Dev Cert.FfInDxRefIdeal.nD).tc : Thread Cert.FfInDxRefIdeal.nD Cert.FfInDxRefIdeal.τ).loc Cert.FfInDxRefIdeal.main_arg1)
          ∧ r.2.mem (((0 : Dev Cert.FfInDxRefIdeal.nD).tc : Thread Cert.FfInDxRefIdeal.nD Cert.FfInDxRefIdeal.τ).loc Cert.FfInDxRefIdeal.main_arg2) = m' (((0 : Dev Cert.FfInDxRefIdeal.nD).tc : Thread Cert.FfInDxRefIdeal.nD Cert.FfInDxRefIdeal.τ).loc Cert.FfInDxRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m ((c.tc : Thread Cert.OutDxIdeal.nD Cert.OutDxIdeal.τ).loc Cert.OutDxIdeal.main_arg0) = Layout.block ⟨2, ![8192, 1024]⟩ ⟨2, ![65536, 1024]⟩ 0 8 c (m' (((0 : Dev Cert.OutDxRefIdeal.nD).tc : Thread Cert.OutDxRefIdeal.nD Cert.OutDxRefIdeal.τ).loc Cert.OutDxRefIdeal.main_arg0))
      ∧ m ((c.tc : Thread Cert.OutDxIdeal.nD Cert.OutDxIdeal.τ).loc Cert.OutDxIdeal.main_arg1) = m' (((0 : Dev Cert.OutDxRefIdeal.nD).tc : Thread Cert.OutDxRefIdeal.nD Cert.OutDxRefIdeal.τ).loc Cert.OutDxRefIdeal.main_arg1)
      ∧ m ((c.tc : Thread Cert.OutDxIdeal.nD Cert.OutDxIdeal.τ).loc Cert.OutDxIdeal.main_arg2) = Layout.block ⟨2, ![1, 1024]⟩ ⟨2, ![8, 1024]⟩ 0 8 c (m' (((0 : Dev Cert.OutDxRefIdeal.nD).tc : Thread Cert.OutDxRefIdeal.nD Cert.OutDxRefIdeal.τ).loc Cert.OutDxRefIdeal.main_arg2))
      ∧ m ((c.tc : Thread Cert.OutDxIdeal.nD Cert.OutDxIdeal.τ).loc Cert.OutDxIdeal.main_arg3) = Layout.block ⟨3, ![8, 128, 1024]⟩ ⟨3, ![64, 128, 1024]⟩ 0 8 c (m' (((0 : Dev Cert.OutDxRefIdeal.nD).tc : Thread Cert.OutDxRefIdeal.nD Cert.OutDxRefIdeal.τ).loc Cert.OutDxRefIdeal.main_arg3))) →
    ∃ (v0 : Buf (Elt Ideal) (((0 : Dev Cert.OutDxRefIdeal.nD).tc : Thread Cert.OutDxRefIdeal.nD Cert.OutDxRefIdeal.τ).loc Cert.OutDxRefIdeal.main_v7)) (v1 : Buf (Elt Ideal) (((0 : Dev Cert.OutDxRefIdeal.nD).tc : Thread Cert.OutDxRefIdeal.nD Cert.OutDxRefIdeal.τ).loc Cert.OutDxRefIdeal.main_v10)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1_0) = Layout.block ⟨2, ![8192, 1024]⟩ ⟨2, ![65536, 1024]⟩ 0 8 c v0
          ∧ r.2.mem ((c.tc : Thread Cert.OutDxIdeal.nD Cert.OutDxIdeal.τ).loc Cert.OutDxIdeal.main_v1_1) = Layout.block ⟨3, ![8, 128, 1024]⟩ ⟨3, ![64, 128, 1024]⟩ 0 8 c v1
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
          ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ θ_run (Cert.OutDxRefIdeal.defs (F := Ideal)) (onTc (τ := Cert.OutDxRefIdeal.τ) (Cert.OutDxRefIdeal.main (F := Ideal))) ⟨m', fun _ => 0, g'⟩ (fun r =>
          r.2.mem (((0 : Dev Cert.OutDxRefIdeal.nD).tc : Thread Cert.OutDxRefIdeal.nD Cert.OutDxRefIdeal.τ).loc Cert.OutDxRefIdeal.main_v7) = v0
          ∧ r.2.mem (((0 : Dev Cert.OutDxRefIdeal.nD).tc : Thread Cert.OutDxRefIdeal.nD Cert.OutDxRefIdeal.τ).loc Cert.OutDxRefIdeal.main_v10) = v1
          ∧ r.2.mem (((0 : Dev Cert.OutDxRefIdeal.nD).tc : Thread Cert.OutDxRefIdeal.nD Cert.OutDxRefIdeal.τ).loc Cert.OutDxRefIdeal.main_arg0) = m' (((0 : Dev Cert.OutDxRefIdeal.nD).tc : Thread Cert.OutDxRefIdeal.nD Cert.OutDxRefIdeal.τ).loc Cert.OutDxRefIdeal.main_arg0)
          ∧ r.2.mem (((0 : Dev Cert.OutDxRefIdeal.nD).tc : Thread Cert.OutDxRefIdeal.nD Cert.OutDxRefIdeal.τ).loc Cert.OutDxRefIdeal.main_arg1) = m' (((0 : Dev Cert.OutDxRefIdeal.nD).tc : Thread Cert.OutDxRefIdeal.nD Cert.OutDxRefIdeal.τ).loc Cert.OutDxRefIdeal.main_arg1)
          ∧ r.2.mem (((0 : Dev Cert.OutDxRefIdeal.nD).tc : Thread Cert.OutDxRefIdeal.nD Cert.OutDxRefIdeal.τ).loc Cert.OutDxRefIdeal.main_arg2) = m' (((0 : Dev Cert.OutDxRefIdeal.nD).tc : Thread Cert.OutDxRefIdeal.nD Cert.OutDxRefIdeal.τ).loc Cert.OutDxRefIdeal.main_arg2)
          ∧ r.2.mem (((0 : Dev Cert.OutDxRefIdeal.nD).tc : Thread Cert.OutDxRefIdeal.nD Cert.OutDxRefIdeal.τ).loc Cert.OutDxRefIdeal.main_arg3) = m' (((0 : Dev Cert.OutDxRefIdeal.nD).tc : Thread Cert.OutDxRefIdeal.nD Cert.OutDxRefIdeal.τ).loc Cert.OutDxRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v8) = v0 c
          ∧ r.2.mem ((c.tc : Thread Cert.AdamInRefIdeal.nD Cert.AdamInRefIdeal.τ).loc Cert.AdamInRefIdeal.main_v32) = v1 c
          ∧ r.2.mem ((c.tc : Thread Cert.AdamInRefIdeal.nD Cert.AdamInRefIdeal.τ).loc Cert.AdamInRefIdeal.main_v13) = v2 c
          ∧ r.2.mem ((c.tc : Thread Cert.AdamInRefIdeal.nD Cert.AdamInRefIdeal.τ).loc Cert.AdamInRefIdeal.main_v19) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v8) = v0 c
          ∧ r.2.mem ((c.tc : Thread Cert.AdamOutRefIdeal.nD Cert.AdamOutRefIdeal.τ).loc Cert.AdamOutRefIdeal.main_v32) = v1 c
          ∧ r.2.mem ((c.tc : Thread Cert.AdamOutRefIdeal.nD Cert.AdamOutRefIdeal.τ).loc Cert.AdamOutRefIdeal.main_v13) = v2 c
          ∧ r.2.mem ((c.tc : Thread Cert.AdamOutRefIdeal.nD Cert.AdamOutRefIdeal.τ).loc Cert.AdamOutRefIdeal.main_v19) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6))

def preserves_AdamFfIn_AdamFfInIdeal : Prop :=
  True

def algebraic_AdamFfInIdeal_AdamFfInRefIdeal [hAdamFfInIdeal : Cert.AdamFfInIdeal.Facts] [hAdamFfInRefIdeal : Cert.AdamFfInRefIdeal.Facts] : Prop :=
  ∀ (m : (ℓ : Loc Cert.AdamFfInIdeal.nD Cert.AdamFfInIdeal.τ Cert.AdamFfInIdeal.sig) → Buf (Elt Ideal) ℓ) (g : Dev Cert.AdamFfInIdeal.nD → PrngReg)
    (m' : (ℓ : Loc Cert.AdamFfInRefIdeal.nD Cert.AdamFfInRefIdeal.τ Cert.AdamFfInRefIdeal.sig) → Buf (Elt Ideal) ℓ) (g' : Dev Cert.AdamFfInRefIdeal.nD → PrngReg), Pre_AdamFfInIdeal m →
    (∀ c : Dev Cert.AdamFfInIdeal.nD,
      m' ((c.tc : Thread Cert.AdamFfInRefIdeal.nD Cert.AdamFfInRefIdeal.τ).loc Cert.AdamFfInRefIdeal.main_arg0) = m ((c.tc : Thread Cert.AdamFfInIdeal.nD Cert.AdamFfInIdeal.τ).loc Cert.AdamFfInIdeal.main_arg0)
      ∧ m' ((c.tc : Thread Cert.AdamFfInRefIdeal.nD Cert.AdamFfInRefIdeal.τ).loc Cert.AdamFfInRefIdeal.main_arg1) = m ((c.tc : Thread Cert.AdamFfInIdeal.nD Cert.AdamFfInIdeal.τ).loc Cert.AdamFfInIdeal.main_arg1)
      ∧ m' ((c.tc : Thread Cert.AdamFfInRefIdeal.nD Cert.AdamFfInRefIdeal.τ).loc Cert.AdamFfInRefIdeal.main_arg2) = m ((c.tc : Thread Cert.AdamFfInIdeal.nD Cert.AdamFfInIdeal.τ).loc Cert.AdamFfInIdeal.main_arg2)
      ∧ m' ((c.tc : Thread Cert.AdamFfInRefIdeal.nD Cert.AdamFfInRefIdeal.τ).loc Cert.AdamFfInRefIdeal.main_arg3) = m ((c.tc : Thread Cert.AdamFfInIdeal.nD Cert.AdamFfInIdeal.τ).loc Cert.AdamFfInIdeal.main_arg3)
      ∧ m' ((c.tc : Thread Cert.AdamFfInRefIdeal.nD Cert.AdamFfInRefIdeal.τ).loc Cert.AdamFfInRefIdeal.main_arg4) = m ((c.tc : Thread Cert.AdamFfInIdeal.nD Cert.AdamFfInIdeal.τ).loc Cert.AdamFfInIdeal.main_arg4)
      ∧ m' ((c.tc : Thread Cert.AdamFfInRefIdeal.nD Cert.AdamFfInRefIdeal.τ).loc Cert.AdamFfInRefIdeal.main_arg5) = m ((c.tc : Thread Cert.AdamFfInIdeal.nD Cert.AdamFfInIdeal.τ).loc Cert.AdamFfInIdeal.main_arg5)
      ∧ m' ((c.tc : Thread Cert.AdamFfInRefIdeal.nD Cert.AdamFfInRefIdeal.τ).loc Cert.AdamFfInRefIdeal.main_arg6) = m ((c.tc : Thread Cert.AdamFfInIdeal.nD Cert.AdamFfInIdeal.τ).loc Cert.AdamFfInIdeal.main_arg6)) →
    ∃ (v0 : (c : Dev Cert.AdamFfInIdeal.nD) → Buf (Elt Ideal) ((c.tc : Thread Cert.AdamFfInIdeal.nD Cert.AdamFfInIdeal.τ).loc Cert.AdamFfInIdeal.main_v0_0)) (v1 : (c : Dev Cert.AdamFfInIdeal.nD) → Buf (Elt Ideal) ((c.tc : Thread Cert.AdamFfInIdeal.nD Cert.AdamFfInIdeal.τ).loc Cert.AdamFfInIdeal.main_v0_1)) (v2 : (c : Dev Cert.AdamFfInIdeal.nD) → Buf (Elt Ideal) ((c.tc : Thread Cert.AdamFfInIdeal.nD Cert.AdamFfInIdeal.τ).loc Cert.AdamFfInIdeal.main_v0_2)) (v3 : (c : Dev Cert.AdamFfInIdeal.nD) → Buf (Elt Ideal) ((c.tc : Thread Cert.AdamFfInIdeal.nD Cert.AdamFfInIdeal.τ).loc Cert.AdamFfInIdeal.main_v0_3)),
      θ_run (Cert.AdamFfInIdeal.defs (F := Ideal)) (onTc (τ := Cert.AdamFfInIdeal.τ) (Cert.AdamFfInIdeal.main (F := Ideal))) ⟨m, fun _ => 0, g⟩ (fun r => ∀ c : Dev Cert.AdamFfInIdeal.nD,
          r.2.mem ((c.tc : Thread Cert.AdamFfInIdeal.nD Cert.AdamFfInIdeal.τ).loc Cert.AdamFfInIdeal.main_v0_0) = v0 c
          ∧ r.2.mem ((c.tc : Thread Cert.AdamFfInIdeal.nD Cert.AdamFfInIdeal.τ).loc Cert.AdamFfInIdeal.main_v0_1) = v1 c
          ∧ r.2.mem ((c.tc : Thread Cert.AdamFfInIdeal.nD Cert.AdamFfInIdeal.τ).loc Cert.AdamFfInIdeal.main_v0_2) = v2 c
          ∧ r.2.mem ((c.tc : Thread Cert.AdamFfInIdeal.nD Cert.AdamFfInIdeal.τ).loc Cert.AdamFfInIdeal.main_v0_3) = v3 c
          ∧ r.2.mem ((c.tc : Thread Cert.AdamFfInIdeal.nD Cert.AdamFfInIdeal.τ).loc Cert.AdamFfInIdeal.main_arg0) = m ((c.tc : Thread Cert.AdamFfInIdeal.nD Cert.AdamFfInIdeal.τ).loc Cert.AdamFfInIdeal.main_arg0)
          ∧ r.2.mem ((c.tc : Thread Cert.AdamFfInIdeal.nD Cert.AdamFfInIdeal.τ).loc Cert.AdamFfInIdeal.main_arg1) = m ((c.tc : Thread Cert.AdamFfInIdeal.nD Cert.AdamFfInIdeal.τ).loc Cert.AdamFfInIdeal.main_arg1)
          ∧ r.2.mem ((c.tc : Thread Cert.AdamFfInIdeal.nD Cert.AdamFfInIdeal.τ).loc Cert.AdamFfInIdeal.main_arg2) = m ((c.tc : Thread Cert.AdamFfInIdeal.nD Cert.AdamFfInIdeal.τ).loc Cert.AdamFfInIdeal.main_arg2)
          ∧ r.2.mem ((c.tc : Thread Cert.AdamFfInIdeal.nD Cert.AdamFfInIdeal.τ).loc Cert.AdamFfInIdeal.main_arg3) = m ((c.tc : Thread Cert.AdamFfInIdeal.nD Cert.AdamFfInIdeal.τ).loc Cert.AdamFfInIdeal.main_arg3)
          ∧ r.2.mem ((c.tc : Thread Cert.AdamFfInIdeal.nD Cert.AdamFfInIdeal.τ).loc Cert.AdamFfInIdeal.main_arg4) = m ((c.tc : Thread Cert.AdamFfInIdeal.nD Cert.AdamFfInIdeal.τ).loc Cert.AdamFfInIdeal.main_arg4)
          ∧ r.2.mem ((c.tc : Thread Cert.AdamFfInIdeal.nD Cert.AdamFfInIdeal.τ).loc Cert.AdamFfInIdeal.main_arg5) = m ((c.tc : Thread Cert.AdamFfInIdeal.nD Cert.AdamFfInIdeal.τ).loc Cert.AdamFfInIdeal.main_arg5)
          ∧ r.2.mem ((c.tc : Thread Cert.AdamFfInIdeal.nD Cert.AdamFfInIdeal.τ).loc Cert.AdamFfInIdeal.main_arg6) = m ((c.tc : Thread Cert.AdamFfInIdeal.nD Cert.AdamFfInIdeal.τ).loc Cert.AdamFfInIdeal.main_arg6))
      ∧ θ_run (Cert.AdamFfInRefIdeal.defs (F := Ideal)) (onTc (τ := Cert.AdamFfInRefIdeal.τ) (Cert.AdamFfInRefIdeal.main (F := Ideal))) ⟨m', fun _ => 0, g'⟩ (fun r => ∀ c : Dev Cert.AdamFfInRefIdeal.nD,
          r.2.mem ((c.tc : Thread Cert.AdamFfInRefIdeal.nD Cert.AdamFfInRefIdeal.τ).loc Cert.AdamFfInRefIdeal.main_v8) = v0 c
          ∧ r.2.mem ((c.tc : Thread Cert.AdamFfInRefIdeal.nD Cert.AdamFfInRefIdeal.τ).loc Cert.AdamFfInRefIdeal.main_v32) = v1 c
          ∧ r.2.mem ((c.tc : Thread Cert.AdamFfInRefIdeal.nD Cert.AdamFfInRefIdeal.τ).loc Cert.AdamFfInRefIdeal.main_v13) = v2 c
          ∧ r.2.mem ((c.tc : Thread Cert.AdamFfInRefIdeal.nD Cert.AdamFfInRefIdeal.τ).loc Cert.AdamFfInRefIdeal.main_v19) = v3 c
          ∧ r.2.mem ((c.tc : Thread Cert.AdamFfInRefIdeal.nD Cert.AdamFfInRefIdeal.τ).loc Cert.AdamFfInRefIdeal.main_arg0) = m' ((c.tc : Thread Cert.AdamFfInRefIdeal.nD Cert.AdamFfInRefIdeal.τ).loc Cert.AdamFfInRefIdeal.main_arg0)
          ∧ r.2.mem ((c.tc : Thread Cert.AdamFfInRefIdeal.nD Cert.AdamFfInRefIdeal.τ).loc Cert.AdamFfInRefIdeal.main_arg1) = m' ((c.tc : Thread Cert.AdamFfInRefIdeal.nD Cert.AdamFfInRefIdeal.τ).loc Cert.AdamFfInRefIdeal.main_arg1)
          ∧ r.2.mem ((c.tc : Thread Cert.AdamFfInRefIdeal.nD Cert.AdamFfInRefIdeal.τ).loc Cert.AdamFfInRefIdeal.main_arg2) = m' ((c.tc : Thread Cert.AdamFfInRefIdeal.nD Cert.AdamFfInRefIdeal.τ).loc Cert.AdamFfInRefIdeal.main_arg2)
          ∧ r.2.mem ((c.tc : Thread Cert.AdamFfInRefIdeal.nD Cert.AdamFfInRefIdeal.τ).loc Cert.AdamFfInRefIdeal.main_arg3) = m' ((c.tc : Thread Cert.AdamFfInRefIdeal.nD Cert.AdamFfInRefIdeal.τ).loc Cert.AdamFfInRefIdeal.main_arg3)
          ∧ r.2.mem ((c.tc : Thread Cert.AdamFfInRefIdeal.nD Cert.AdamFfInRefIdeal.τ).loc Cert.AdamFfInRefIdeal.main_arg4) = m' ((c.tc : Thread Cert.AdamFfInRefIdeal.nD Cert.AdamFfInRefIdeal.τ).loc Cert.AdamFfInRefIdeal.main_arg4)
          ∧ r.2.mem ((c.tc : Thread Cert.AdamFfInRefIdeal.nD Cert.AdamFfInRefIdeal.τ).loc Cert.AdamFfInRefIdeal.main_arg5) = m' ((c.tc : Thread Cert.AdamFfInRefIdeal.nD Cert.AdamFfInRefIdeal.τ).loc Cert.AdamFfInRefIdeal.main_arg5)
          ∧ r.2.mem ((c.tc : Thread Cert.AdamFfInRefIdeal.nD Cert.AdamFfInRefIdeal.τ).loc Cert.AdamFfInRefIdeal.main_arg6) = m' ((c.tc : Thread Cert.AdamFfInRefIdeal.nD Cert.AdamFfInRefIdeal.τ).loc Cert.AdamFfInRefIdeal.main_arg6))

def preserves_AdamFfOut_AdamFfOutIdeal : Prop :=
  True

def algebraic_AdamFfOutIdeal_AdamFfOutRefIdeal [hAdamFfOutIdeal : Cert.AdamFfOutIdeal.Facts] [hAdamFfOutRefIdeal : Cert.AdamFfOutRefIdeal.Facts] : Prop :=
  ∀ (m : (ℓ : Loc Cert.AdamFfOutIdeal.nD Cert.AdamFfOutIdeal.τ Cert.AdamFfOutIdeal.sig) → Buf (Elt Ideal) ℓ) (g : Dev Cert.AdamFfOutIdeal.nD → PrngReg)
    (m' : (ℓ : Loc Cert.AdamFfOutRefIdeal.nD Cert.AdamFfOutRefIdeal.τ Cert.AdamFfOutRefIdeal.sig) → Buf (Elt Ideal) ℓ) (g' : Dev Cert.AdamFfOutRefIdeal.nD → PrngReg), Pre_AdamFfOutIdeal m →
    (∀ c : Dev Cert.AdamFfOutIdeal.nD,
      m' ((c.tc : Thread Cert.AdamFfOutRefIdeal.nD Cert.AdamFfOutRefIdeal.τ).loc Cert.AdamFfOutRefIdeal.main_arg0) = m ((c.tc : Thread Cert.AdamFfOutIdeal.nD Cert.AdamFfOutIdeal.τ).loc Cert.AdamFfOutIdeal.main_arg0)
      ∧ m' ((c.tc : Thread Cert.AdamFfOutRefIdeal.nD Cert.AdamFfOutRefIdeal.τ).loc Cert.AdamFfOutRefIdeal.main_arg1) = m ((c.tc : Thread Cert.AdamFfOutIdeal.nD Cert.AdamFfOutIdeal.τ).loc Cert.AdamFfOutIdeal.main_arg1)
      ∧ m' ((c.tc : Thread Cert.AdamFfOutRefIdeal.nD Cert.AdamFfOutRefIdeal.τ).loc Cert.AdamFfOutRefIdeal.main_arg2) = m ((c.tc : Thread Cert.AdamFfOutIdeal.nD Cert.AdamFfOutIdeal.τ).loc Cert.AdamFfOutIdeal.main_arg2)
      ∧ m' ((c.tc : Thread Cert.AdamFfOutRefIdeal.nD Cert.AdamFfOutRefIdeal.τ).loc Cert.AdamFfOutRefIdeal.main_arg3) = m ((c.tc : Thread Cert.AdamFfOutIdeal.nD Cert.AdamFfOutIdeal.τ).loc Cert.AdamFfOutIdeal.main_arg3)
      ∧ m' ((c.tc : Thread Cert.AdamFfOutRefIdeal.nD Cert.AdamFfOutRefIdeal.τ).loc Cert.AdamFfOutRefIdeal.main_arg4) = m ((c.tc : Thread Cert.AdamFfOutIdeal.nD Cert.AdamFfOutIdeal.τ).loc Cert.AdamFfOutIdeal.main_arg4)
      ∧ m' ((c.tc : Thread Cert.AdamFfOutRefIdeal.nD Cert.AdamFfOutRefIdeal.τ).loc Cert.AdamFfOutRefIdeal.main_arg5) = m ((c.tc : Thread Cert.AdamFfOutIdeal.nD Cert.AdamFfOutIdeal.τ).loc Cert.AdamFfOutIdeal.main_arg5)
      ∧ m' ((c.tc : Thread Cert.AdamFfOutRefIdeal.nD Cert.AdamFfOutRefIdeal.τ).loc Cert.AdamFfOutRefIdeal.main_arg6) = m ((c.tc : Thread Cert.AdamFfOutIdeal.nD Cert.AdamFfOutIdeal.τ).loc Cert.AdamFfOutIdeal.main_arg6)) →
    ∃ (v0 : (c : Dev Cert.AdamFfOutIdeal.nD) → Buf (Elt Ideal) ((c.tc : Thread Cert.AdamFfOutIdeal.nD Cert.AdamFfOutIdeal.τ).loc Cert.AdamFfOutIdeal.main_v0_0)) (v1 : (c : Dev Cert.AdamFfOutIdeal.nD) → Buf (Elt Ideal) ((c.tc : Thread Cert.AdamFfOutIdeal.nD Cert.AdamFfOutIdeal.τ).loc Cert.AdamFfOutIdeal.main_v0_1)) (v2 : (c : Dev Cert.AdamFfOutIdeal.nD) → Buf (Elt Ideal) ((c.tc : Thread Cert.AdamFfOutIdeal.nD Cert.AdamFfOutIdeal.τ).loc Cert.AdamFfOutIdeal.main_v0_2)) (v3 : (c : Dev Cert.AdamFfOutIdeal.nD) → Buf (Elt Ideal) ((c.tc : Thread Cert.AdamFfOutIdeal.nD Cert.AdamFfOutIdeal.τ).loc Cert.AdamFfOutIdeal.main_v0_3)),
      θ_run (Cert.AdamFfOutIdeal.defs (F := Ideal)) (onTc (τ := Cert.AdamFfOutIdeal.τ) (Cert.AdamFfOutIdeal.main (F := Ideal))) ⟨m, fun _ => 0, g⟩ (fun r => ∀ c : Dev Cert.AdamFfOutIdeal.nD,
          r.2.mem ((c.tc : Thread Cert.AdamFfOutIdeal.nD Cert.AdamFfOutIdeal.τ).loc Cert.AdamFfOutIdeal.main_v0_0) = v0 c
          ∧ r.2.mem ((c.tc : Thread Cert.AdamFfOutIdeal.nD Cert.AdamFfOutIdeal.τ).loc Cert.AdamFfOutIdeal.main_v0_1) = v1 c
          ∧ r.2.mem ((c.tc : Thread Cert.AdamFfOutIdeal.nD Cert.AdamFfOutIdeal.τ).loc Cert.AdamFfOutIdeal.main_v0_2) = v2 c
          ∧ r.2.mem ((c.tc : Thread Cert.AdamFfOutIdeal.nD Cert.AdamFfOutIdeal.τ).loc Cert.AdamFfOutIdeal.main_v0_3) = v3 c
          ∧ r.2.mem ((c.tc : Thread Cert.AdamFfOutIdeal.nD Cert.AdamFfOutIdeal.τ).loc Cert.AdamFfOutIdeal.main_arg0) = m ((c.tc : Thread Cert.AdamFfOutIdeal.nD Cert.AdamFfOutIdeal.τ).loc Cert.AdamFfOutIdeal.main_arg0)
          ∧ r.2.mem ((c.tc : Thread Cert.AdamFfOutIdeal.nD Cert.AdamFfOutIdeal.τ).loc Cert.AdamFfOutIdeal.main_arg1) = m ((c.tc : Thread Cert.AdamFfOutIdeal.nD Cert.AdamFfOutIdeal.τ).loc Cert.AdamFfOutIdeal.main_arg1)
          ∧ r.2.mem ((c.tc : Thread Cert.AdamFfOutIdeal.nD Cert.AdamFfOutIdeal.τ).loc Cert.AdamFfOutIdeal.main_arg2) = m ((c.tc : Thread Cert.AdamFfOutIdeal.nD Cert.AdamFfOutIdeal.τ).loc Cert.AdamFfOutIdeal.main_arg2)
          ∧ r.2.mem ((c.tc : Thread Cert.AdamFfOutIdeal.nD Cert.AdamFfOutIdeal.τ).loc Cert.AdamFfOutIdeal.main_arg3) = m ((c.tc : Thread Cert.AdamFfOutIdeal.nD Cert.AdamFfOutIdeal.τ).loc Cert.AdamFfOutIdeal.main_arg3)
          ∧ r.2.mem ((c.tc : Thread Cert.AdamFfOutIdeal.nD Cert.AdamFfOutIdeal.τ).loc Cert.AdamFfOutIdeal.main_arg4) = m ((c.tc : Thread Cert.AdamFfOutIdeal.nD Cert.AdamFfOutIdeal.τ).loc Cert.AdamFfOutIdeal.main_arg4)
          ∧ r.2.mem ((c.tc : Thread Cert.AdamFfOutIdeal.nD Cert.AdamFfOutIdeal.τ).loc Cert.AdamFfOutIdeal.main_arg5) = m ((c.tc : Thread Cert.AdamFfOutIdeal.nD Cert.AdamFfOutIdeal.τ).loc Cert.AdamFfOutIdeal.main_arg5)
          ∧ r.2.mem ((c.tc : Thread Cert.AdamFfOutIdeal.nD Cert.AdamFfOutIdeal.τ).loc Cert.AdamFfOutIdeal.main_arg6) = m ((c.tc : Thread Cert.AdamFfOutIdeal.nD Cert.AdamFfOutIdeal.τ).loc Cert.AdamFfOutIdeal.main_arg6))
      ∧ θ_run (Cert.AdamFfOutRefIdeal.defs (F := Ideal)) (onTc (τ := Cert.AdamFfOutRefIdeal.τ) (Cert.AdamFfOutRefIdeal.main (F := Ideal))) ⟨m', fun _ => 0, g'⟩ (fun r => ∀ c : Dev Cert.AdamFfOutRefIdeal.nD,
          r.2.mem ((c.tc : Thread Cert.AdamFfOutRefIdeal.nD Cert.AdamFfOutRefIdeal.τ).loc Cert.AdamFfOutRefIdeal.main_v8) = v0 c
          ∧ r.2.mem ((c.tc : Thread Cert.AdamFfOutRefIdeal.nD Cert.AdamFfOutRefIdeal.τ).loc Cert.AdamFfOutRefIdeal.main_v32) = v1 c
          ∧ r.2.mem ((c.tc : Thread Cert.AdamFfOutRefIdeal.nD Cert.AdamFfOutRefIdeal.τ).loc Cert.AdamFfOutRefIdeal.main_v13) = v2 c
          ∧ r.2.mem ((c.tc : Thread Cert.AdamFfOutRefIdeal.nD Cert.AdamFfOutRefIdeal.τ).loc Cert.AdamFfOutRefIdeal.main_v19) = v3 c
          ∧ r.2.mem ((c.tc : Thread Cert.AdamFfOutRefIdeal.nD Cert.AdamFfOutRefIdeal.τ).loc Cert.AdamFfOutRefIdeal.main_arg0) = m' ((c.tc : Thread Cert.AdamFfOutRefIdeal.nD Cert.AdamFfOutRefIdeal.τ).loc Cert.AdamFfOutRefIdeal.main_arg0)
          ∧ r.2.mem ((c.tc : Thread Cert.AdamFfOutRefIdeal.nD Cert.AdamFfOutRefIdeal.τ).loc Cert.AdamFfOutRefIdeal.main_arg1) = m' ((c.tc : Thread Cert.AdamFfOutRefIdeal.nD Cert.AdamFfOutRefIdeal.τ).loc Cert.AdamFfOutRefIdeal.main_arg1)
          ∧ r.2.mem ((c.tc : Thread Cert.AdamFfOutRefIdeal.nD Cert.AdamFfOutRefIdeal.τ).loc Cert.AdamFfOutRefIdeal.main_arg2) = m' ((c.tc : Thread Cert.AdamFfOutRefIdeal.nD Cert.AdamFfOutRefIdeal.τ).loc Cert.AdamFfOutRefIdeal.main_arg2)
          ∧ r.2.mem ((c.tc : Thread Cert.AdamFfOutRefIdeal.nD Cert.AdamFfOutRefIdeal.τ).loc Cert.AdamFfOutRefIdeal.main_arg3) = m' ((c.tc : Thread Cert.AdamFfOutRefIdeal.nD Cert.AdamFfOutRefIdeal.τ).loc Cert.AdamFfOutRefIdeal.main_arg3)
          ∧ r.2.mem ((c.tc : Thread Cert.AdamFfOutRefIdeal.nD Cert.AdamFfOutRefIdeal.τ).loc Cert.AdamFfOutRefIdeal.main_arg4) = m' ((c.tc : Thread Cert.AdamFfOutRefIdeal.nD Cert.AdamFfOutRefIdeal.τ).loc Cert.AdamFfOutRefIdeal.main_arg4)
          ∧ r.2.mem ((c.tc : Thread Cert.AdamFfOutRefIdeal.nD Cert.AdamFfOutRefIdeal.τ).loc Cert.AdamFfOutRefIdeal.main_arg5) = m' ((c.tc : Thread Cert.AdamFfOutRefIdeal.nD Cert.AdamFfOutRefIdeal.τ).loc Cert.AdamFfOutRefIdeal.main_arg5)
          ∧ r.2.mem ((c.tc : Thread Cert.AdamFfOutRefIdeal.nD Cert.AdamFfOutRefIdeal.τ).loc Cert.AdamFfOutRefIdeal.main_arg6) = m' ((c.tc : Thread Cert.AdamFfOutRefIdeal.nD Cert.AdamFfOutRefIdeal.τ).loc Cert.AdamFfOutRefIdeal.main_arg6))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v2) = v0 c
          ∧ r.2.mem ((c.tc : Thread Cert.AdamAdaRefIdeal.nD Cert.AdamAdaRefIdeal.τ).loc Cert.AdamAdaRefIdeal.main_v26) = v1 c
          ∧ r.2.mem ((c.tc : Thread Cert.AdamAdaRefIdeal.nD Cert.AdamAdaRefIdeal.τ).loc Cert.AdamAdaRefIdeal.main_v7) = v2 c
          ∧ r.2.mem ((c.tc : Thread Cert.AdamAdaRefIdeal.nD Cert.AdamAdaRefIdeal.τ).loc Cert.AdamAdaRefIdeal.main_v13) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v26) = v0 c
          ∧ r.2.mem ((c.tc : Thread Cert.NormBwdRefIdeal.nD Cert.NormBwdRefIdeal.τ).loc Cert.NormBwdRefIdeal.main_v31) = v1 c
          ∧ r.2.mem ((c.tc : Thread Cert.NormBwdRefIdeal.nD Cert.NormBwdRefIdeal.τ).loc Cert.NormBwdRefIdeal.main_v33) = v2 c
          ∧ r.2.mem ((c.tc : Thread Cert.NormBwdRefIdeal.nD Cert.NormBwdRefIdeal.τ).loc Cert.NormBwdRefIdeal.main_v36) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_WInGather_WInGatherIdeal : Prop :=
  True

def algebraic_WInGatherIdeal_WInGatherRefIdeal [hWInGatherIdeal : Cert.WInGatherIdeal.Facts] [hWInGatherRefIdeal : Cert.WInGatherRefIdeal.Facts] : Prop :=
  ∀ (m : (ℓ : Loc Cert.WInGatherIdeal.nD Cert.WInGatherIdeal.τ Cert.WInGatherIdeal.sig) → Buf (Elt Ideal) ℓ) (g : Dev Cert.WInGatherIdeal.nD → PrngReg)
    (m' : (ℓ : Loc Cert.WInGatherRefIdeal.nD Cert.WInGatherRefIdeal.τ Cert.WInGatherRefIdeal.sig) → Buf (Elt Ideal) ℓ) (g' : Dev Cert.WInGatherRefIdeal.nD → PrngReg), Pre_WInGatherIdeal m →
    (∀ c : Dev Cert.WInGatherIdeal.nD,
      m ((c.tc : Thread Cert.WInGatherIdeal.nD Cert.WInGatherIdeal.τ).loc Cert.WInGatherIdeal.main_arg0) = Layout.block ⟨2, ![1024, 1154]⟩ ⟨2, ![1024, 9232]⟩ 1 8 c (m' (((0 : Dev Cert.WInGatherRefIdeal.nD).tc : Thread Cert.WInGatherRefIdeal.nD Cert.WInGatherRefIdeal.τ).loc Cert.WInGatherRefIdeal.main_arg0))) →
    ∃ (v0 : Buf (Elt Ideal) (((0 : Dev Cert.WInGatherRefIdeal.nD).tc : Thread Cert.WInGatherRefIdeal.nD Cert.WInGatherRefIdeal.τ).loc Cert.WInGatherRefIdeal.main_v1)),
      θ_run (Cert.WInGatherIdeal.defs (F := Ideal)) (onTc (τ := Cert.WInGatherIdeal.τ) (Cert.WInGatherIdeal.main (F := Ideal))) ⟨m, fun _ => 0, g⟩ (fun r => ∀ c : Dev Cert.WInGatherIdeal.nD,
          r.2.mem ((c.tc : Thread Cert.WInGatherIdeal.nD Cert.WInGatherIdeal.τ).loc Cert.WInGatherIdeal.main_v1) = v0
          ∧ r.2.mem ((c.tc : Thread Cert.WInGatherIdeal.nD Cert.WInGatherIdeal.τ).loc Cert.WInGatherIdeal.main_arg0) = m ((c.tc : Thread Cert.WInGatherIdeal.nD Cert.WInGatherIdeal.τ).loc Cert.WInGatherIdeal.main_arg0))
      ∧ θ_run (Cert.WInGatherRefIdeal.defs (F := Ideal)) (onTc (τ := Cert.WInGatherRefIdeal.τ) (Cert.WInGatherRefIdeal.main (F := Ideal))) ⟨m', fun _ => 0, g'⟩ (fun r =>
          r.2.mem (((0 : Dev Cert.WInGatherRefIdeal.nD).tc : Thread Cert.WInGatherRefIdeal.nD Cert.WInGatherRefIdeal.τ).loc Cert.WInGatherRefIdeal.main_v1) = v0
          ∧ r.2.mem (((0 : Dev Cert.WInGatherRefIdeal.nD).tc : Thread Cert.WInGatherRefIdeal.nD Cert.WInGatherRefIdeal.τ).loc Cert.WInGatherRefIdeal.main_arg0) = m' (((0 : Dev Cert.WInGatherRefIdeal.nD).tc : Thread Cert.WInGatherRefIdeal.nD Cert.WInGatherRefIdeal.τ).loc Cert.WInGatherRefIdeal.main_arg0))

def preserves_SmallGather_SmallGatherIdeal : Prop :=
  True

def algebraic_SmallGatherIdeal_SmallGatherRefIdeal [hSmallGatherIdeal : Cert.SmallGatherIdeal.Facts] [hSmallGatherRefIdeal : Cert.SmallGatherRefIdeal.Facts] : Prop :=
  ∀ (m : (ℓ : Loc Cert.SmallGatherIdeal.nD Cert.SmallGatherIdeal.τ Cert.SmallGatherIdeal.sig) → Buf (Elt Ideal) ℓ) (g : Dev Cert.SmallGatherIdeal.nD → PrngReg)
    (m' : (ℓ : Loc Cert.SmallGatherRefIdeal.nD Cert.SmallGatherRefIdeal.τ Cert.SmallGatherRefIdeal.sig) → Buf (Elt Ideal) ℓ) (g' : Dev Cert.SmallGatherRefIdeal.nD → PrngReg), Pre_SmallGatherIdeal m →
    (∀ c : Dev Cert.SmallGatherIdeal.nD,
      m ((c.tc : Thread Cert.SmallGatherIdeal.nD Cert.SmallGatherIdeal.τ).loc Cert.SmallGatherIdeal.main_arg0) = Layout.block ⟨2, ![104, 1024]⟩ ⟨2, ![832, 1024]⟩ 0 8 c (m' (((0 : Dev Cert.SmallGatherRefIdeal.nD).tc : Thread Cert.SmallGatherRefIdeal.nD Cert.SmallGatherRefIdeal.τ).loc Cert.SmallGatherRefIdeal.main_arg0))) →
    ∃ (v0 : Buf (Elt Ideal) (((0 : Dev Cert.SmallGatherRefIdeal.nD).tc : Thread Cert.SmallGatherRefIdeal.nD Cert.SmallGatherRefIdeal.τ).loc Cert.SmallGatherRefIdeal.main_v0)),
      θ_run (Cert.SmallGatherIdeal.defs (F := Ideal)) (onTc (τ := Cert.SmallGatherIdeal.τ) (Cert.SmallGatherIdeal.main (F := Ideal))) ⟨m, fun _ => 0, g⟩ (fun r => ∀ c : Dev Cert.SmallGatherIdeal.nD,
          r.2.mem ((c.tc : Thread Cert.SmallGatherIdeal.nD Cert.SmallGatherIdeal.τ).loc Cert.SmallGatherIdeal.main_v1) = v0
          ∧ r.2.mem ((c.tc : Thread Cert.SmallGatherIdeal.nD Cert.SmallGatherIdeal.τ).loc Cert.SmallGatherIdeal.main_arg0) = m ((c.tc : Thread Cert.SmallGatherIdeal.nD Cert.SmallGatherIdeal.τ).loc Cert.SmallGatherIdeal.main_arg0))
      ∧ θ_run (Cert.SmallGatherRefIdeal.defs (F := Ideal)) (onTc (τ := Cert.SmallGatherRefIdeal.τ) (Cert.SmallGatherRefIdeal.main (F := Ideal))) ⟨m', fun _ => 0, g'⟩ (fun r =>
          r.2.mem (((0 : Dev Cert.SmallGatherRefIdeal.nD).tc : Thread Cert.SmallGatherRefIdeal.nD Cert.SmallGatherRefIdeal.τ).loc Cert.SmallGatherRefIdeal.main_v0) = v0
          ∧ r.2.mem (((0 : Dev Cert.SmallGatherRefIdeal.nD).tc : Thread Cert.SmallGatherRefIdeal.nD Cert.SmallGatherRefIdeal.τ).loc Cert.SmallGatherRefIdeal.main_arg0) = m' (((0 : Dev Cert.SmallGatherRefIdeal.nD).tc : Thread Cert.SmallGatherRefIdeal.nD Cert.SmallGatherRefIdeal.τ).loc Cert.SmallGatherRefIdeal.main_arg0))

def preserves_CondGather_CondGatherIdeal : Prop :=
  True

def algebraic_CondGatherIdeal_CondGatherRefIdeal [hCondGatherIdeal : Cert.CondGatherIdeal.Facts] [hCondGatherRefIdeal : Cert.CondGatherRefIdeal.Facts] : Prop :=
  ∀ (m : (ℓ : Loc Cert.CondGatherIdeal.nD Cert.CondGatherIdeal.τ Cert.CondGatherIdeal.sig) → Buf (Elt Ideal) ℓ) (g : Dev Cert.CondGatherIdeal.nD → PrngReg)
    (m' : (ℓ : Loc Cert.CondGatherRefIdeal.nD Cert.CondGatherRefIdeal.τ Cert.CondGatherRefIdeal.sig) → Buf (Elt Ideal) ℓ) (g' : Dev Cert.CondGatherRefIdeal.nD → PrngReg), Pre_CondGatherIdeal m →
    (∀ c : Dev Cert.CondGatherIdeal.nD,
      m ((c.tc : Thread Cert.CondGatherIdeal.nD Cert.CondGatherIdeal.τ).loc Cert.CondGatherIdeal.main_arg0) = Layout.block ⟨2, ![8, 1024]⟩ ⟨2, ![64, 1024]⟩ 0 8 c (m' (((0 : Dev Cert.CondGatherRefIdeal.nD).tc : Thread Cert.CondGatherRefIdeal.nD Cert.CondGatherRefIdeal.τ).loc Cert.CondGatherRefIdeal.main_arg0))) →
    ∃ (v0 : Buf (Elt Ideal) (((0 : Dev Cert.CondGatherRefIdeal.nD).tc : Thread Cert.CondGatherRefIdeal.nD Cert.CondGatherRefIdeal.τ).loc Cert.CondGatherRefIdeal.main_v0)),
      θ_run (Cert.CondGatherIdeal.defs (F := Ideal)) (onTc (τ := Cert.CondGatherIdeal.τ) (Cert.CondGatherIdeal.main (F := Ideal))) ⟨m, fun _ => 0, g⟩ (fun r => ∀ c : Dev Cert.CondGatherIdeal.nD,
          r.2.mem ((c.tc : Thread Cert.CondGatherIdeal.nD Cert.CondGatherIdeal.τ).loc Cert.CondGatherIdeal.main_v1) = v0
          ∧ r.2.mem ((c.tc : Thread Cert.CondGatherIdeal.nD Cert.CondGatherIdeal.τ).loc Cert.CondGatherIdeal.main_arg0) = m ((c.tc : Thread Cert.CondGatherIdeal.nD Cert.CondGatherIdeal.τ).loc Cert.CondGatherIdeal.main_arg0))
      ∧ θ_run (Cert.CondGatherRefIdeal.defs (F := Ideal)) (onTc (τ := Cert.CondGatherRefIdeal.τ) (Cert.CondGatherRefIdeal.main (F := Ideal))) ⟨m', fun _ => 0, g'⟩ (fun r =>
          r.2.mem (((0 : Dev Cert.CondGatherRefIdeal.nD).tc : Thread Cert.CondGatherRefIdeal.nD Cert.CondGatherRefIdeal.τ).loc Cert.CondGatherRefIdeal.main_v0) = v0
          ∧ r.2.mem (((0 : Dev Cert.CondGatherRefIdeal.nD).tc : Thread Cert.CondGatherRefIdeal.nD Cert.CondGatherRefIdeal.τ).loc Cert.CondGatherRefIdeal.main_arg0) = m' (((0 : Dev Cert.CondGatherRefIdeal.nD).tc : Thread Cert.CondGatherRefIdeal.nD Cert.CondGatherRefIdeal.τ).loc Cert.CondGatherRefIdeal.main_arg0))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0_0)) (v1 : (c : Dev Cert.NormFwdIdeal.nD) → Buf (Elt Ideal) ((c.tc : Thread Cert.NormFwdIdeal.nD Cert.NormFwdIdeal.τ).loc Cert.NormFwdIdeal.main_v0_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_v0_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v18) = v0 c
          ∧ r.2.mem ((c.tc : Thread Cert.NormFwdRefIdeal.nD Cert.NormFwdRefIdeal.τ).loc Cert.NormFwdRefIdeal.main_v19) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v23) = v0 c
          ∧ r.2.mem ((c.tc : Thread Cert.LossHeadRefIdeal.nD Cert.LossHeadRefIdeal.τ).loc Cert.LossHeadRefIdeal.main_v33) = v1 c
          ∧ r.2.mem ((c.tc : Thread Cert.LossHeadRefIdeal.nD Cert.LossHeadRefIdeal.τ).loc Cert.LossHeadRefIdeal.main_v36) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v1)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v1) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v5) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v22) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_FfIn_FfInIdeal : Prop :=
  True

def algebraic_FfInIdeal_FfInRefIdeal [hFfInIdeal : Cert.FfInIdeal.Facts] [hFfInRefIdeal : Cert.FfInRefIdeal.Facts] : Prop :=
  ∀ (m : (ℓ : Loc Cert.FfInIdeal.nD Cert.FfInIdeal.τ Cert.FfInIdeal.sig) → Buf (Elt Ideal) ℓ) (g : Dev Cert.FfInIdeal.nD → PrngReg)
    (m' : (ℓ : Loc Cert.FfInRefIdeal.nD Cert.FfInRefIdeal.τ Cert.FfInRefIdeal.sig) → Buf (Elt Ideal) ℓ) (g' : Dev Cert.FfInRefIdeal.nD → PrngReg), Pre_FfInIdeal m →
    (∀ c : Dev Cert.FfInIdeal.nD,
      m' ((c.tc : Thread Cert.FfInRefIdeal.nD Cert.FfInRefIdeal.τ).loc Cert.FfInRefIdeal.main_arg0) = m ((c.tc : Thread Cert.FfInIdeal.nD Cert.FfInIdeal.τ).loc Cert.FfInIdeal.main_arg0)
      ∧ m' ((c.tc : Thread Cert.FfInRefIdeal.nD Cert.FfInRefIdeal.τ).loc Cert.FfInRefIdeal.main_arg1) = m ((c.tc : Thread Cert.FfInIdeal.nD Cert.FfInIdeal.τ).loc Cert.FfInIdeal.main_arg1)) →
    ∃ (v0 : (c : Dev Cert.FfInIdeal.nD) → Buf (Elt Ideal) ((c.tc : Thread Cert.FfInIdeal.nD Cert.FfInIdeal.τ).loc Cert.FfInIdeal.main_v0_0)) (v1 : (c : Dev Cert.FfInIdeal.nD) → Buf (Elt Ideal) ((c.tc : Thread Cert.FfInIdeal.nD Cert.FfInIdeal.τ).loc Cert.FfInIdeal.main_v0_1)),
      θ_run (Cert.FfInIdeal.defs (F := Ideal)) (onTc (τ := Cert.FfInIdeal.τ) (Cert.FfInIdeal.main (F := Ideal))) ⟨m, fun _ => 0, g⟩ (fun r => ∀ c : Dev Cert.FfInIdeal.nD,
          r.2.mem ((c.tc : Thread Cert.FfInIdeal.nD Cert.FfInIdeal.τ).loc Cert.FfInIdeal.main_v0_0) = v0 c
          ∧ r.2.mem ((c.tc : Thread Cert.FfInIdeal.nD Cert.FfInIdeal.τ).loc Cert.FfInIdeal.main_v0_1) = v1 c
          ∧ r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
          ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1))
      ∧ θ_run (Cert.FfInRefIdeal.defs (F := Ideal)) (onTc (τ := Cert.FfInRefIdeal.τ) (Cert.FfInRefIdeal.main (F := Ideal))) ⟨m', fun _ => 0, g'⟩ (fun r => ∀ c : Dev Cert.FfInRefIdeal.nD,
          r.2.mem ((c.tc : Thread Cert.FfInRefIdeal.nD Cert.FfInRefIdeal.τ).loc Cert.FfInRefIdeal.main_v0) = v0 c
          ∧ r.2.mem ((c.tc : Thread Cert.FfInRefIdeal.nD Cert.FfInRefIdeal.τ).loc Cert.FfInRefIdeal.main_v4) = v1 c
          ∧ r.2.mem ((c.tc : Thread Cert.FfInRefIdeal.nD Cert.FfInRefIdeal.τ).loc Cert.FfInRefIdeal.main_arg0) = m' ((c.tc : Thread Cert.FfInRefIdeal.nD Cert.FfInRefIdeal.τ).loc Cert.FfInRefIdeal.main_arg0)
          ∧ r.2.mem ((c.tc : Thread Cert.FfInRefIdeal.nD Cert.FfInRefIdeal.τ).loc Cert.FfInRefIdeal.main_arg1) = m' ((c.tc : Thread Cert.FfInRefIdeal.nD Cert.FfInRefIdeal.τ).loc Cert.FfInRefIdeal.main_arg1))

def preserves_FfOut_FfOutIdeal : Prop :=
  True

def algebraic_FfOutIdeal_FfOutRefIdeal [hFfOutIdeal : Cert.FfOutIdeal.Facts] [hFfOutRefIdeal : Cert.FfOutRefIdeal.Facts] : Prop :=
  ∀ (m : (ℓ : Loc Cert.FfOutIdeal.nD Cert.FfOutIdeal.τ Cert.FfOutIdeal.sig) → Buf (Elt Ideal) ℓ) (g : Dev Cert.FfOutIdeal.nD → PrngReg)
    (m' : (ℓ : Loc Cert.FfOutRefIdeal.nD Cert.FfOutRefIdeal.τ Cert.FfOutRefIdeal.sig) → Buf (Elt Ideal) ℓ) (g' : Dev Cert.FfOutRefIdeal.nD → PrngReg), Pre_FfOutIdeal m →
    (∀ c : Dev Cert.FfOutIdeal.nD,
      m' ((c.tc : Thread Cert.FfOutRefIdeal.nD Cert.FfOutRefIdeal.τ).loc Cert.FfOutRefIdeal.main_arg0) = m ((c.tc : Thread Cert.FfOutIdeal.nD Cert.FfOutIdeal.τ).loc Cert.FfOutIdeal.main_arg0)
      ∧ m' ((c.tc : Thread Cert.FfOutRefIdeal.nD Cert.FfOutRefIdeal.τ).loc Cert.FfOutRefIdeal.main_arg1) = m ((c.tc : Thread Cert.FfOutIdeal.nD Cert.FfOutIdeal.τ).loc Cert.FfOutIdeal.main_arg1)
      ∧ m' ((c.tc : Thread Cert.FfOutRefIdeal.nD Cert.FfOutRefIdeal.τ).loc Cert.FfOutRefIdeal.main_arg2) = m ((c.tc : Thread Cert.FfOutIdeal.nD Cert.FfOutIdeal.τ).loc Cert.FfOutIdeal.main_arg2)
      ∧ m' ((c.tc : Thread Cert.FfOutRefIdeal.nD Cert.FfOutRefIdeal.τ).loc Cert.FfOutRefIdeal.main_arg3) = m ((c.tc : Thread Cert.FfOutIdeal.nD Cert.FfOutIdeal.τ).loc Cert.FfOutIdeal.main_arg3)) →
    ∃ (v0 : (c : Dev Cert.FfOutIdeal.nD) → Buf (Elt Ideal) ((c.tc : Thread Cert.FfOutIdeal.nD Cert.FfOutIdeal.τ).loc Cert.FfOutIdeal.main_v0)),
      θ_run (Cert.FfOutIdeal.defs (F := Ideal)) (onTc (τ := Cert.FfOutIdeal.τ) (Cert.FfOutIdeal.main (F := Ideal))) ⟨m, fun _ => 0, g⟩ (fun r => ∀ c : Dev Cert.FfOutIdeal.nD,
          r.2.mem ((c.tc : Thread Cert.FfOutIdeal.nD Cert.FfOutIdeal.τ).loc Cert.FfOutIdeal.main_v0) = v0 c
          ∧ r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
          ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
          ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
          ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3))
      ∧ θ_run (Cert.FfOutRefIdeal.defs (F := Ideal)) (onTc (τ := Cert.FfOutRefIdeal.τ) (Cert.FfOutRefIdeal.main (F := Ideal))) ⟨m', fun _ => 0, g'⟩ (fun r => ∀ c : Dev Cert.FfOutRefIdeal.nD,
          r.2.mem ((c.tc : Thread Cert.FfOutRefIdeal.nD Cert.FfOutRefIdeal.τ).loc Cert.FfOutRefIdeal.main_v3) = v0 c
          ∧ r.2.mem ((c.tc : Thread Cert.FfOutRefIdeal.nD Cert.FfOutRefIdeal.τ).loc Cert.FfOutRefIdeal.main_arg0) = m' ((c.tc : Thread Cert.FfOutRefIdeal.nD Cert.FfOutRefIdeal.τ).loc Cert.FfOutRefIdeal.main_arg0)
          ∧ r.2.mem ((c.tc : Thread Cert.FfOutRefIdeal.nD Cert.FfOutRefIdeal.τ).loc Cert.FfOutRefIdeal.main_arg1) = m' ((c.tc : Thread Cert.FfOutRefIdeal.nD Cert.FfOutRefIdeal.τ).loc Cert.FfOutRefIdeal.main_arg1)
          ∧ r.2.mem ((c.tc : Thread Cert.FfOutRefIdeal.nD Cert.FfOutRefIdeal.τ).loc Cert.FfOutRefIdeal.main_arg2) = m' ((c.tc : Thread Cert.FfOutRefIdeal.nD Cert.FfOutRefIdeal.τ).loc Cert.FfOutRefIdeal.main_arg2)
          ∧ r.2.mem ((c.tc : Thread Cert.FfOutRefIdeal.nD Cert.FfOutRefIdeal.τ).loc Cert.FfOutRefIdeal.main_arg3) = m' ((c.tc : Thread Cert.FfOutRefIdeal.nD Cert.FfOutRefIdeal.τ).loc Cert.FfOutRefIdeal.main_arg3))

def preserves_FfInDw_FfInDwIdeal : Prop :=
  True

def algebraic_FfInDwIdeal_FfInDwRefIdeal [hFfInDwIdeal : Cert.FfInDwIdeal.Facts] [hFfInDwRefIdeal : Cert.FfInDwRefIdeal.Facts] : Prop :=
  ∀ (m : (ℓ : Loc Cert.FfInDwIdeal.nD Cert.FfInDwIdeal.τ Cert.FfInDwIdeal.sig) → Buf (Elt Ideal) ℓ) (g : Dev Cert.FfInDwIdeal.nD → PrngReg)
    (m' : (ℓ : Loc Cert.FfInDwRefIdeal.nD Cert.FfInDwRefIdeal.τ Cert.FfInDwRefIdeal.sig) → Buf (Elt Ideal) ℓ) (g' : Dev Cert.FfInDwRefIdeal.nD → PrngReg), Pre_FfInDwIdeal m →
    (∀ c : Dev Cert.FfInDwIdeal.nD,
      m' ((c.tc : Thread Cert.FfInDwRefIdeal.nD Cert.FfInDwRefIdeal.τ).loc Cert.FfInDwRefIdeal.main_arg0) = m ((c.tc : Thread Cert.FfInDwIdeal.nD Cert.FfInDwIdeal.τ).loc Cert.FfInDwIdeal.main_arg0)
      ∧ m' ((c.tc : Thread Cert.FfInDwRefIdeal.nD Cert.FfInDwRefIdeal.τ).loc Cert.FfInDwRefIdeal.main_arg1) = m ((c.tc : Thread Cert.FfInDwIdeal.nD Cert.FfInDwIdeal.τ).loc Cert.FfInDwIdeal.main_arg1)) →
    ∃ (v0 : (c : Dev Cert.FfInDwIdeal.nD) → Buf (Elt Ideal) ((c.tc : Thread Cert.FfInDwIdeal.nD Cert.FfInDwIdeal.τ).loc Cert.FfInDwIdeal.main_v0)),
      θ_run (Cert.FfInDwIdeal.defs (F := Ideal)) (onTc (τ := Cert.FfInDwIdeal.τ) (Cert.FfInDwIdeal.main (F := Ideal))) ⟨m, fun _ => 0, g⟩ (fun r => ∀ c : Dev Cert.FfInDwIdeal.nD,
          r.2.mem ((c.tc : Thread Cert.FfInDwIdeal.nD Cert.FfInDwIdeal.τ).loc Cert.FfInDwIdeal.main_v0) = v0 c
          ∧ r.2.mem ((c.tc : Thread Cert.FfInDwIdeal.nD Cert.FfInDwIdeal.τ).loc Cert.FfInDwIdeal.main_arg0) = m ((c.tc : Thread Cert.FfInDwIdeal.nD Cert.FfInDwIdeal.τ).loc Cert.FfInDwIdeal.main_arg0)
          ∧ r.2.mem ((c.tc : Thread Cert.FfInDwIdeal.nD Cert.FfInDwIdeal.τ).loc Cert.FfInDwIdeal.main_arg1) = m ((c.tc : Thread Cert.FfInDwIdeal.nD Cert.FfInDwIdeal.τ).loc Cert.FfInDwIdeal.main_arg1))
      ∧ θ_run (Cert.FfInDwRefIdeal.defs (F := Ideal)) (onTc (τ := Cert.FfInDwRefIdeal.τ) (Cert.FfInDwRefIdeal.main (F := Ideal))) ⟨m', fun _ => 0, g'⟩ (fun r => ∀ c : Dev Cert.FfInDwRefIdeal.nD,
          r.2.mem ((c.tc : Thread Cert.FfInDwRefIdeal.nD Cert.FfInDwRefIdeal.τ).loc Cert.FfInDwRefIdeal.main_v2) = v0 c
          ∧ r.2.mem ((c.tc : Thread Cert.FfInDwRefIdeal.nD Cert.FfInDwRefIdeal.τ).loc Cert.FfInDwRefIdeal.main_arg0) = m' ((c.tc : Thread Cert.FfInDwRefIdeal.nD Cert.FfInDwRefIdeal.τ).loc Cert.FfInDwRefIdeal.main_arg0)
          ∧ r.2.mem ((c.tc : Thread Cert.FfInDwRefIdeal.nD Cert.FfInDwRefIdeal.τ).loc Cert.FfInDwRefIdeal.main_arg1) = m' ((c.tc : Thread Cert.FfInDwRefIdeal.nD Cert.FfInDwRefIdeal.τ).loc Cert.FfInDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)
      ∧ m' ((c.tc : Thread Cert.OutDwRefIdeal.nD Cert.OutDwRefIdeal.τ).loc Cert.OutDwRefIdeal.main_arg3) = m ((c.tc : Thread Cert.OutDwIdeal.nD Cert.OutDwIdeal.τ).loc Cert.OutDwIdeal.main_arg3)) →
    ∃ (v0 : (c : Dev Cert.OutDwIdeal.nD) → Buf (Elt Ideal) ((c.tc : Thread Cert.OutDwIdeal.nD Cert.OutDwIdeal.τ).loc Cert.OutDwIdeal.main_v0_0)) (v1 : (c : Dev Cert.OutDwIdeal.nD) → Buf (Elt Ideal) ((c.tc : Thread Cert.OutDwIdeal.nD Cert.OutDwIdeal.τ).loc Cert.OutDwIdeal.main_v0_1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0_0) = v0 c
          ∧ r.2.mem ((c.tc : Thread Cert.OutDwIdeal.nD Cert.OutDwIdeal.τ).loc Cert.OutDwIdeal.main_v0_1) = v1 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2)
          ∧ r.2.mem ((c.tc : Thread Cert.OutDwIdeal.nD Cert.OutDwIdeal.τ).loc Cert.OutDwIdeal.main_arg3) = m ((c.tc : Thread Cert.OutDwIdeal.nD Cert.OutDwIdeal.τ).loc Cert.OutDwIdeal.main_arg3))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_v8) = v1 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2)
          ∧ r.2.mem ((c.tc : Thread Cert.OutDwRefIdeal.nD Cert.OutDwRefIdeal.τ).loc Cert.OutDwRefIdeal.main_arg3) = m' ((c.tc : Thread Cert.OutDwRefIdeal.nD Cert.OutDwRefIdeal.τ).loc Cert.OutDwRefIdeal.main_arg3))

def preserves_FfOutDw_FfOutDwIdeal : Prop :=
  True

def algebraic_FfOutDwIdeal_FfOutDwRefIdeal [hFfOutDwIdeal : Cert.FfOutDwIdeal.Facts] [hFfOutDwRefIdeal : Cert.FfOutDwRefIdeal.Facts] : Prop :=
  ∀ (m : (ℓ : Loc Cert.FfOutDwIdeal.nD Cert.FfOutDwIdeal.τ Cert.FfOutDwIdeal.sig) → Buf (Elt Ideal) ℓ) (g : Dev Cert.FfOutDwIdeal.nD → PrngReg)
    (m' : (ℓ : Loc Cert.FfOutDwRefIdeal.nD Cert.FfOutDwRefIdeal.τ Cert.FfOutDwRefIdeal.sig) → Buf (Elt Ideal) ℓ) (g' : Dev Cert.FfOutDwRefIdeal.nD → PrngReg), Pre_FfOutDwIdeal m →
    (∀ c : Dev Cert.FfOutDwIdeal.nD,
      m' ((c.tc : Thread Cert.FfOutDwRefIdeal.nD Cert.FfOutDwRefIdeal.τ).loc Cert.FfOutDwRefIdeal.main_arg0) = m ((c.tc : Thread Cert.FfOutDwIdeal.nD Cert.FfOutDwIdeal.τ).loc Cert.FfOutDwIdeal.main_arg0)
      ∧ m' ((c.tc : Thread Cert.FfOutDwRefIdeal.nD Cert.FfOutDwRefIdeal.τ).loc Cert.FfOutDwRefIdeal.main_arg1) = m ((c.tc : Thread Cert.FfOutDwIdeal.nD Cert.FfOutDwIdeal.τ).loc Cert.FfOutDwIdeal.main_arg1)
      ∧ m' ((c.tc : Thread Cert.FfOutDwRefIdeal.nD Cert.FfOutDwRefIdeal.τ).loc Cert.FfOutDwRefIdeal.main_arg2) = m ((c.tc : Thread Cert.FfOutDwIdeal.nD Cert.FfOutDwIdeal.τ).loc Cert.FfOutDwIdeal.main_arg2)
      ∧ m' ((c.tc : Thread Cert.FfOutDwRefIdeal.nD Cert.FfOutDwRefIdeal.τ).loc Cert.FfOutDwRefIdeal.main_arg3) = m ((c.tc : Thread Cert.FfOutDwIdeal.nD Cert.FfOutDwIdeal.τ).loc Cert.FfOutDwIdeal.main_arg3)) →
    ∃ (v0 : (c : Dev Cert.FfOutDwIdeal.nD) → Buf (Elt Ideal) ((c.tc : Thread Cert.FfOutDwIdeal.nD Cert.FfOutDwIdeal.τ).loc Cert.FfOutDwIdeal.main_v0_0)) (v1 : (c : Dev Cert.FfOutDwIdeal.nD) → Buf (Elt Ideal) ((c.tc : Thread Cert.FfOutDwIdeal.nD Cert.FfOutDwIdeal.τ).loc Cert.FfOutDwIdeal.main_v0_1)),
      θ_run (Cert.FfOutDwIdeal.defs (F := Ideal)) (onTc (τ := Cert.FfOutDwIdeal.τ) (Cert.FfOutDwIdeal.main (F := Ideal))) ⟨m, fun _ => 0, g⟩ (fun r => ∀ c : Dev Cert.FfOutDwIdeal.nD,
          r.2.mem ((c.tc : Thread Cert.FfOutDwIdeal.nD Cert.FfOutDwIdeal.τ).loc Cert.FfOutDwIdeal.main_v0_0) = v0 c
          ∧ r.2.mem ((c.tc : Thread Cert.FfOutDwIdeal.nD Cert.FfOutDwIdeal.τ).loc Cert.FfOutDwIdeal.main_v0_1) = v1 c
          ∧ r.2.mem ((c.tc : Thread Cert.FfOutDwIdeal.nD Cert.FfOutDwIdeal.τ).loc Cert.FfOutDwIdeal.main_arg0) = m ((c.tc : Thread Cert.FfOutDwIdeal.nD Cert.FfOutDwIdeal.τ).loc Cert.FfOutDwIdeal.main_arg0)
          ∧ r.2.mem ((c.tc : Thread Cert.FfOutDwIdeal.nD Cert.FfOutDwIdeal.τ).loc Cert.FfOutDwIdeal.main_arg1) = m ((c.tc : Thread Cert.FfOutDwIdeal.nD Cert.FfOutDwIdeal.τ).loc Cert.FfOutDwIdeal.main_arg1)
          ∧ r.2.mem ((c.tc : Thread Cert.FfOutDwIdeal.nD Cert.FfOutDwIdeal.τ).loc Cert.FfOutDwIdeal.main_arg2) = m ((c.tc : Thread Cert.FfOutDwIdeal.nD Cert.FfOutDwIdeal.τ).loc Cert.FfOutDwIdeal.main_arg2)
          ∧ r.2.mem ((c.tc : Thread Cert.FfOutDwIdeal.nD Cert.FfOutDwIdeal.τ).loc Cert.FfOutDwIdeal.main_arg3) = m ((c.tc : Thread Cert.FfOutDwIdeal.nD Cert.FfOutDwIdeal.τ).loc Cert.FfOutDwIdeal.main_arg3))
      ∧ θ_run (Cert.FfOutDwRefIdeal.defs (F := Ideal)) (onTc (τ := Cert.FfOutDwRefIdeal.τ) (Cert.FfOutDwRefIdeal.main (F := Ideal))) ⟨m', fun _ => 0, g'⟩ (fun r => ∀ c : Dev Cert.FfOutDwRefIdeal.nD,
          r.2.mem ((c.tc : Thread Cert.FfOutDwRefIdeal.nD Cert.FfOutDwRefIdeal.τ).loc Cert.FfOutDwRefIdeal.main_v4) = v0 c
          ∧ r.2.mem ((c.tc : Thread Cert.FfOutDwRefIdeal.nD Cert.FfOutDwRefIdeal.τ).loc Cert.FfOutDwRefIdeal.main_v8) = v1 c
          ∧ r.2.mem ((c.tc : Thread Cert.FfOutDwRefIdeal.nD Cert.FfOutDwRefIdeal.τ).loc Cert.FfOutDwRefIdeal.main_arg0) = m' ((c.tc : Thread Cert.FfOutDwRefIdeal.nD Cert.FfOutDwRefIdeal.τ).loc Cert.FfOutDwRefIdeal.main_arg0)
          ∧ r.2.mem ((c.tc : Thread Cert.FfOutDwRefIdeal.nD Cert.FfOutDwRefIdeal.τ).loc Cert.FfOutDwRefIdeal.main_arg1) = m' ((c.tc : Thread Cert.FfOutDwRefIdeal.nD Cert.FfOutDwRefIdeal.τ).loc Cert.FfOutDwRefIdeal.main_arg1)
          ∧ r.2.mem ((c.tc : Thread Cert.FfOutDwRefIdeal.nD Cert.FfOutDwRefIdeal.τ).loc Cert.FfOutDwRefIdeal.main_arg2) = m' ((c.tc : Thread Cert.FfOutDwRefIdeal.nD Cert.FfOutDwRefIdeal.τ).loc Cert.FfOutDwRefIdeal.main_arg2)
          ∧ r.2.mem ((c.tc : Thread Cert.FfOutDwRefIdeal.nD Cert.FfOutDwRefIdeal.τ).loc Cert.FfOutDwRefIdeal.main_arg3) = m' ((c.tc : Thread Cert.FfOutDwRefIdeal.nD Cert.FfOutDwRefIdeal.τ).loc Cert.FfOutDwRefIdeal.main_arg3))

def Claim : Prop :=
  ∃ (hKernel : Cert.Kernel.Facts) (hKernelIdeal : Cert.KernelIdeal.Facts) (hReferenceIdeal : Cert.ReferenceIdeal.Facts) (hInDx : Cert.InDx.Facts) (hInDxIdeal : Cert.InDxIdeal.Facts) (hInDxRefIdeal : Cert.InDxRefIdeal.Facts) (hFfOutDx : Cert.FfOutDx.Facts) (hFfOutDxIdeal : Cert.FfOutDxIdeal.Facts) (hFfOutDxRefIdeal : Cert.FfOutDxRefIdeal.Facts) (hFfInDx : Cert.FfInDx.Facts) (hFfInDxIdeal : Cert.FfInDxIdeal.Facts) (hFfInDxRefIdeal : Cert.FfInDxRefIdeal.Facts) (hOutDx : Cert.OutDx.Facts) (hOutDxIdeal : Cert.OutDxIdeal.Facts) (hOutDxRefIdeal : Cert.OutDxRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamFfIn : Cert.AdamFfIn.Facts) (hAdamFfInIdeal : Cert.AdamFfInIdeal.Facts) (hAdamFfInRefIdeal : Cert.AdamFfInRefIdeal.Facts) (hAdamFfOut : Cert.AdamFfOut.Facts) (hAdamFfOutIdeal : Cert.AdamFfOutIdeal.Facts) (hAdamFfOutRefIdeal : Cert.AdamFfOutRefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hNormBwd : Cert.NormBwd.Facts) (hNormBwdIdeal : Cert.NormBwdIdeal.Facts) (hNormBwdRefIdeal : Cert.NormBwdRefIdeal.Facts) (hWInGather : Cert.WInGather.Facts) (hWInGatherIdeal : Cert.WInGatherIdeal.Facts) (hWInGatherRefIdeal : Cert.WInGatherRefIdeal.Facts) (hSmallGather : Cert.SmallGather.Facts) (hSmallGatherIdeal : Cert.SmallGatherIdeal.Facts) (hSmallGatherRefIdeal : Cert.SmallGatherRefIdeal.Facts) (hCondGather : Cert.CondGather.Facts) (hCondGatherIdeal : Cert.CondGatherIdeal.Facts) (hCondGatherRefIdeal : Cert.CondGatherRefIdeal.Facts) (hNormFwd : Cert.NormFwd.Facts) (hNormFwdIdeal : Cert.NormFwdIdeal.Facts) (hNormFwdRefIdeal : Cert.NormFwdRefIdeal.Facts) (hLossHead : Cert.LossHead.Facts) (hLossHeadIdeal : Cert.LossHeadIdeal.Facts) (hLossHeadRefIdeal : Cert.LossHeadRefIdeal.Facts) (hAdaMod : Cert.AdaMod.Facts) (hAdaModIdeal : Cert.AdaModIdeal.Facts) (hAdaModRefIdeal : Cert.AdaModRefIdeal.Facts) (hOutProj : Cert.OutProj.Facts) (hOutProjIdeal : Cert.OutProjIdeal.Facts) (hOutProjRefIdeal : Cert.OutProjRefIdeal.Facts) (hFfIn : Cert.FfIn.Facts) (hFfInIdeal : Cert.FfInIdeal.Facts) (hFfInRefIdeal : Cert.FfInRefIdeal.Facts) (hFfOut : Cert.FfOut.Facts) (hFfOutIdeal : Cert.FfOutIdeal.Facts) (hFfOutRefIdeal : Cert.FfOutRefIdeal.Facts) (hFfInDw : Cert.FfInDw.Facts) (hFfInDwIdeal : Cert.FfInDwIdeal.Facts) (hFfInDwRefIdeal : Cert.FfInDwRefIdeal.Facts) (hOutDw : Cert.OutDw.Facts) (hOutDwIdeal : Cert.OutDwIdeal.Facts) (hOutDwRefIdeal : Cert.OutDwRefIdeal.Facts) (hFfOutDw : Cert.FfOutDw.Facts) (hFfOutDwIdeal : Cert.FfOutDwIdeal.Facts) (hFfOutDwRefIdeal : Cert.FfOutDwRefIdeal.Facts),
    quiescent_Kernel (hKernel := hKernel)
    ∧ quiescent_KernelIdeal (hKernelIdeal := hKernelIdeal)
    ∧ quiescent_ReferenceIdeal (hReferenceIdeal := hReferenceIdeal)
    ∧ quiescent_InDx (hInDx := hInDx)
    ∧ quiescent_InDxIdeal (hInDxIdeal := hInDxIdeal)
    ∧ quiescent_InDxRefIdeal (hInDxRefIdeal := hInDxRefIdeal)
    ∧ quiescent_FfOutDx (hFfOutDx := hFfOutDx)
    ∧ quiescent_FfOutDxIdeal (hFfOutDxIdeal := hFfOutDxIdeal)
    ∧ quiescent_FfOutDxRefIdeal (hFfOutDxRefIdeal := hFfOutDxRefIdeal)
    ∧ quiescent_FfInDx (hFfInDx := hFfInDx)
    ∧ quiescent_FfInDxIdeal (hFfInDxIdeal := hFfInDxIdeal)
    ∧ quiescent_FfInDxRefIdeal (hFfInDxRefIdeal := hFfInDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfIn (hAdamFfIn := hAdamFfIn)
    ∧ quiescent_AdamFfInIdeal (hAdamFfInIdeal := hAdamFfInIdeal)
    ∧ quiescent_AdamFfInRefIdeal (hAdamFfInRefIdeal := hAdamFfInRefIdeal)
    ∧ quiescent_AdamFfOut (hAdamFfOut := hAdamFfOut)
    ∧ quiescent_AdamFfOutIdeal (hAdamFfOutIdeal := hAdamFfOutIdeal)
    ∧ quiescent_AdamFfOutRefIdeal (hAdamFfOutRefIdeal := hAdamFfOutRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_WInGather (hWInGather := hWInGather)
    ∧ quiescent_WInGatherIdeal (hWInGatherIdeal := hWInGatherIdeal)
    ∧ quiescent_WInGatherRefIdeal (hWInGatherRefIdeal := hWInGatherRefIdeal)
    ∧ quiescent_SmallGather (hSmallGather := hSmallGather)
    ∧ quiescent_SmallGatherIdeal (hSmallGatherIdeal := hSmallGatherIdeal)
    ∧ quiescent_SmallGatherRefIdeal (hSmallGatherRefIdeal := hSmallGatherRefIdeal)
    ∧ quiescent_CondGather (hCondGather := hCondGather)
    ∧ quiescent_CondGatherIdeal (hCondGatherIdeal := hCondGatherIdeal)
    ∧ quiescent_CondGatherRefIdeal (hCondGatherRefIdeal := hCondGatherRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfIn (hFfIn := hFfIn)
    ∧ quiescent_FfInIdeal (hFfInIdeal := hFfInIdeal)
    ∧ quiescent_FfInRefIdeal (hFfInRefIdeal := hFfInRefIdeal)
    ∧ quiescent_FfOut (hFfOut := hFfOut)
    ∧ quiescent_FfOutIdeal (hFfOutIdeal := hFfOutIdeal)
    ∧ quiescent_FfOutRefIdeal (hFfOutRefIdeal := hFfOutRefIdeal)
    ∧ quiescent_FfInDw (hFfInDw := hFfInDw)
    ∧ quiescent_FfInDwIdeal (hFfInDwIdeal := hFfInDwIdeal)
    ∧ quiescent_FfInDwRefIdeal (hFfInDwRefIdeal := hFfInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_FfOutDw (hFfOutDw := hFfOutDw)
    ∧ quiescent_FfOutDwIdeal (hFfOutDwIdeal := hFfOutDwIdeal)
    ∧ quiescent_FfOutDwRefIdeal (hFfOutDwRefIdeal := hFfOutDwRefIdeal)
    ∧ preserves_Kernel_KernelIdeal
    ∧ algebraic_KernelIdeal_ReferenceIdeal (hKernelIdeal := hKernelIdeal) (hReferenceIdeal := hReferenceIdeal)
    ∧ preserves_InDx_InDxIdeal
    ∧ algebraic_InDxIdeal_InDxRefIdeal (hInDxIdeal := hInDxIdeal) (hInDxRefIdeal := hInDxRefIdeal)
    ∧ preserves_FfOutDx_FfOutDxIdeal
    ∧ algebraic_FfOutDxIdeal_FfOutDxRefIdeal (hFfOutDxIdeal := hFfOutDxIdeal) (hFfOutDxRefIdeal := hFfOutDxRefIdeal)
    ∧ preserves_FfInDx_FfInDxIdeal
    ∧ algebraic_FfInDxIdeal_FfInDxRefIdeal (hFfInDxIdeal := hFfInDxIdeal) (hFfInDxRefIdeal := hFfInDxRefIdeal)
    ∧ preserves_OutDx_OutDxIdeal
    ∧ algebraic_OutDxIdeal_OutDxRefIdeal (hOutDxIdeal := hOutDxIdeal) (hOutDxRefIdeal := hOutDxRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfIn_AdamFfInIdeal
    ∧ algebraic_AdamFfInIdeal_AdamFfInRefIdeal (hAdamFfInIdeal := hAdamFfInIdeal) (hAdamFfInRefIdeal := hAdamFfInRefIdeal)
    ∧ preserves_AdamFfOut_AdamFfOutIdeal
    ∧ algebraic_AdamFfOutIdeal_AdamFfOutRefIdeal (hAdamFfOutIdeal := hAdamFfOutIdeal) (hAdamFfOutRefIdeal := hAdamFfOutRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_NormBwd_NormBwdIdeal
    ∧ algebraic_NormBwdIdeal_NormBwdRefIdeal (hNormBwdIdeal := hNormBwdIdeal) (hNormBwdRefIdeal := hNormBwdRefIdeal)
    ∧ preserves_WInGather_WInGatherIdeal
    ∧ algebraic_WInGatherIdeal_WInGatherRefIdeal (hWInGatherIdeal := hWInGatherIdeal) (hWInGatherRefIdeal := hWInGatherRefIdeal)
    ∧ preserves_SmallGather_SmallGatherIdeal
    ∧ algebraic_SmallGatherIdeal_SmallGatherRefIdeal (hSmallGatherIdeal := hSmallGatherIdeal) (hSmallGatherRefIdeal := hSmallGatherRefIdeal)
    ∧ preserves_CondGather_CondGatherIdeal
    ∧ algebraic_CondGatherIdeal_CondGatherRefIdeal (hCondGatherIdeal := hCondGatherIdeal) (hCondGatherRefIdeal := hCondGatherRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdaMod_AdaModIdeal
    ∧ algebraic_AdaModIdeal_AdaModRefIdeal (hAdaModIdeal := hAdaModIdeal) (hAdaModRefIdeal := hAdaModRefIdeal)
    ∧ preserves_OutProj_OutProjIdeal
    ∧ algebraic_OutProjIdeal_OutProjRefIdeal (hOutProjIdeal := hOutProjIdeal) (hOutProjRefIdeal := hOutProjRefIdeal)
    ∧ preserves_FfIn_FfInIdeal
    ∧ algebraic_FfInIdeal_FfInRefIdeal (hFfInIdeal := hFfInIdeal) (hFfInRefIdeal := hFfInRefIdeal)
    ∧ preserves_FfOut_FfOutIdeal
    ∧ algebraic_FfOutIdeal_FfOutRefIdeal (hFfOutIdeal := hFfOutIdeal) (hFfOutRefIdeal := hFfOutRefIdeal)
    ∧ preserves_FfInDw_FfInDwIdeal
    ∧ algebraic_FfInDwIdeal_FfInDwRefIdeal (hFfInDwIdeal := hFfInDwIdeal) (hFfInDwRefIdeal := hFfInDwRefIdeal)
    ∧ preserves_OutDw_OutDwIdeal
    ∧ algebraic_OutDwIdeal_OutDwRefIdeal (hOutDwIdeal := hOutDwIdeal) (hOutDwRefIdeal := hOutDwRefIdeal)
    ∧ preserves_FfOutDw_FfOutDwIdeal
    ∧ algebraic_FfOutDwIdeal_FfOutDwRefIdeal (hFfOutDwIdeal := hFfOutDwIdeal) (hFfOutDwRefIdeal := hFfOutDwRefIdeal)
-- ==== Kernel.lean ====
abbrev S8192x1024 : Shape := ⟨2, ![8192, 1024]⟩
abbrev S1024x9728 : Shape := ⟨2, ![1024, 9728]⟩
abbrev S1024x1154 : Shape := ⟨2, ![1024, 1154]⟩
abbrev S8192x9728 : Shape := ⟨2, ![8192, 9728]⟩
abbrev S8x1024x1154 : Shape := ⟨3, ![8, 1024, 1154]⟩
abbrev S2048x1024 : Shape := ⟨2, ![2048, 1024]⟩
abbrev S1024x512 : Shape := ⟨2, ![1024, 512]⟩
abbrev S2048x512 : Shape := ⟨2, ![2048, 512]⟩
abbrev S7 : Shape := ⟨1, ![7]⟩
abbrev S_ : Shape := ⟨0, ![]⟩
abbrev S1x1024x1154 : Shape := ⟨3, ![1, 1024, 1154]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x9728, .bf16⟩
  | .hbm, ⟨2, _⟩ => ⟨S1024x1154, .bf16⟩
  | .hbm, ⟨3, _⟩ => ⟨S8192x9728, .f32⟩
  | .hbm, ⟨4, _⟩ => ⟨S8x1024x1154, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 19, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d20 : Dev nD) : Fin 3 → Nat :=
  let c4_i32_13 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.muli c4_i32_13 v22
  let c2_i32_14 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.muli c2_i32_14 v25
  let v31 : BitVec 32 := Scalar.addi v29 v30
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v32 : BitVec 32 := Scalar.addi v31 v28
  let c0_i32_36 : BitVec 32 := 0#32
  let c0_i32_37 : BitVec 32 := 0#32
  ![v32.toNat, 0, 0]
def k0_dev1 (d20 : Dev nD) : Nat :=
  let c0_i32_41 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c0_i32_15 : BitVec 32 := 0#32
  let v33 : BitVec 32 := Scalar.xori v22 c0_i32_15
  let c4_i32_40 : BitVec 32 := 4#32
  let v56 : BitVec 32 := Scalar.muli v33 c4_i32_40
  let v57 : BitVec 32 := Scalar.addi c0_i32_41 v56
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c0_i32_16 : BitVec 32 := 0#32
  let v34 : BitVec 32 := Scalar.xori v25 c0_i32_16
  let c2_i32_42 : BitVec 32 := 2#32
  let v58 : BitVec 32 := Scalar.muli v34 c2_i32_42
  let v59 : BitVec 32 := Scalar.addi v57 v58
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_17 : BitVec 32 := 1#32
  let v35 : BitVec 32 := Scalar.xori v28 c1_i32_17
  let c1_i32_43 : BitVec 32 := 1#32
  let v60 : BitVec 32 := Scalar.muli v35 c1_i32_43
  let v61 : BitVec 32 := Scalar.addi v59 v60
  v61.toNat
def k0_dev2 (d20 : Dev nD) : Nat :=
  let c0_i32_49 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c0_i32_18 : BitVec 32 := 0#32
  let v36 : BitVec 32 := Scalar.xori v22 c0_i32_18
  let c4_i32_48 : BitVec 32 := 4#32
  let v68 : BitVec 32 := Scalar.muli v36 c4_i32_48
  let v69 : BitVec 32 := Scalar.addi c0_i32_49 v68
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c1_i32_19 : BitVec 32 := 1#32
  let v37 : BitVec 32 := Scalar.xori v25 c1_i32_19
  let c2_i32_50 : BitVec 32 := 2#32
  let v70 : BitVec 32 := Scalar.muli v37 c2_i32_50
  let v71 : BitVec 32 := Scalar.addi v69 v70
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c0_i32_20 : BitVec 32 := 0#32
  let v38 : BitVec 32 := Scalar.xori v28 c0_i32_20
  let c1_i32_51 : BitVec 32 := 1#32
  let v72 : BitVec 32 := Scalar.muli v38 c1_i32_51
  let v73 : BitVec 32 := Scalar.addi v71 v72
  v73.toNat
def k0_dev3 (d20 : Dev nD) : Nat :=
  let c0_i32_57 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c0_i32_21 : BitVec 32 := 0#32
  let v39 : BitVec 32 := Scalar.xori v22 c0_i32_21
  let c4_i32_56 : BitVec 32 := 4#32
  let v80 : BitVec 32 := Scalar.muli v39 c4_i32_56
  let v81 : BitVec 32 := Scalar.addi c0_i32_57 v80
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c1_i32_22 : BitVec 32 := 1#32
  let v40 : BitVec 32 := Scalar.xori v25 c1_i32_22
  let c2_i32_58 : BitVec 32 := 2#32
  let v82 : BitVec 32 := Scalar.muli v40 c2_i32_58
  let v83 : BitVec 32 := Scalar.addi v81 v82
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_23 : BitVec 32 := 1#32
  let v41 : BitVec 32 := Scalar.xori v28 c1_i32_23
  let c1_i32_59 : BitVec 32 := 1#32
  let v84 : BitVec 32 := Scalar.muli v41 c1_i32_59
  let v85 : BitVec 32 := Scalar.addi v83 v84
  v85.toNat
def k0_dev4 (d20 : Dev nD) : Nat :=
  let c0_i32_65 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c1_i32_24 : BitVec 32 := 1#32
  let v42 : BitVec 32 := Scalar.xori v22 c1_i32_24
  let c4_i32_64 : BitVec 32 := 4#32
  let v92 : BitVec 32 := Scalar.muli v42 c4_i32_64
  let v93 : BitVec 32 := Scalar.addi c0_i32_65 v92
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c0_i32_25 : BitVec 32 := 0#32
  let v43 : BitVec 32 := Scalar.xori v25 c0_i32_25
  let c2_i32_66 : BitVec 32 := 2#32
  let v94 : BitVec 32 := Scalar.muli v43 c2_i32_66
  let v95 : BitVec 32 := Scalar.addi v93 v94
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c0_i32_26 : BitVec 32 := 0#32
  let v44 : BitVec 32 := Scalar.xori v28 c0_i32_26
  let c1_i32_67 : BitVec 32 := 1#32
  let v96 : BitVec 32 := Scalar.muli v44 c1_i32_67
  let v97 : BitVec 32 := Scalar.addi v95 v96
  v97.toNat
def k0_dev5 (d20 : Dev nD) : Nat :=
  let c0_i32_73 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c1_i32_27 : BitVec 32 := 1#32
  let v45 : BitVec 32 := Scalar.xori v22 c1_i32_27
  let c4_i32_72 : BitVec 32 := 4#32
  let v104 : BitVec 32 := Scalar.muli v45 c4_i32_72
  let v105 : BitVec 32 := Scalar.addi c0_i32_73 v104
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c0_i32_28 : BitVec 32 := 0#32
  let v46 : BitVec 32 := Scalar.xori v25 c0_i32_28
  let c2_i32_74 : BitVec 32 := 2#32
  let v106 : BitVec 32 := Scalar.muli v46 c2_i32_74
  let v107 : BitVec 32 := Scalar.addi v105 v106
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_29 : BitVec 32 := 1#32
  let v47 : BitVec 32 := Scalar.xori v28 c1_i32_29
  let c1_i32_75 : BitVec 32 := 1#32
  let v108 : BitVec 32 := Scalar.muli v47 c1_i32_75
  let v109 : BitVec 32 := Scalar.addi v107 v108
  v109.toNat
def k0_dev6 (d20 : Dev nD) : Nat :=
  let c0_i32_80 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c1_i32_30 : BitVec 32 := 1#32
  let v48 : BitVec 32 := Scalar.xori v22 c1_i32_30
  let c4_i32_79 : BitVec 32 := 4#32
  let v116 : BitVec 32 := Scalar.muli v48 c4_i32_79
  let v117 : BitVec 32 := Scalar.addi c0_i32_80 v116
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c1_i32_31 : BitVec 32 := 1#32
  let v49 : BitVec 32 := Scalar.xori v25 c1_i32_31
  let c2_i32_81 : BitVec 32 := 2#32
  let v118 : BitVec 32 := Scalar.muli v49 c2_i32_81
  let v119 : BitVec 32 := Scalar.addi v117 v118
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c0_i32_32 : BitVec 32 := 0#32
  let v50 : BitVec 32 := Scalar.xori v28 c0_i32_32
  let c1_i32_82 : BitVec 32 := 1#32
  let v120 : BitVec 32 := Scalar.muli v50 c1_i32_82
  let v121 : BitVec 32 := Scalar.addi v119 v120
  v121.toNat
def k0_dev7 (d20 : Dev nD) : Nat :=
  let c0_i32_87 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c1_i32_33 : BitVec 32 := 1#32
  let v51 : BitVec 32 := Scalar.xori v22 c1_i32_33
  let c4_i32_86 : BitVec 32 := 4#32
  let v128 : BitVec 32 := Scalar.muli v51 c4_i32_86
  let v129 : BitVec 32 := Scalar.addi c0_i32_87 v128
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c1_i32_34 : BitVec 32 := 1#32
  let v52 : BitVec 32 := Scalar.xori v25 c1_i32_34
  let c2_i32_88 : BitVec 32 := 2#32
  let v130 : BitVec 32 := Scalar.muli v52 c2_i32_88
  let v131 : BitVec 32 := Scalar.addi v129 v130
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let c1_i32_35 : BitVec 32 := 1#32
  let v53 : BitVec 32 := Scalar.xori v28 c1_i32_35
  let c1_i32_89 : BitVec 32 := 1#32
  let v132 : BitVec 32 := Scalar.muli v53 c1_i32_89
  let v133 : BitVec 32 := Scalar.addi v131 v132
  v133.toNat
def k0_cond2 (i : grid0.Coords) : BitVec 1 :=
  let arg0 : BitVec 32 := BitVec.ofNat 32 (i 0).val
  let c3_i32 : BitVec 32 := 3#32
  let v5 : BitVec 1 := Scalar.cmpi .eq arg0 c3_i32
  let arg1 : BitVec 32 := BitVec.ofNat 32 (i 1).val
  let c18_i32 : BitVec 32 := 18#32
  let v6 : BitVec 1 := Scalar.cmpi .eq arg1 c18_i32
  let v8 : BitVec 1 := Scalar.andi v5 v6
  let arg2 : BitVec 32 := BitVec.ofNat 32 (i 2).val
  let c0_i32_2 : BitVec 32 := 0#32
  let v7 : BitVec 1 := Scalar.cmpi .eq arg2 c0_i32_2
  let v9 : BitVec 1 := Scalar.andi v8 v7
  let v18 : BitVec 32 := Scalar.extui v9
  let c0_i32_9 : BitVec 32 := 0#32
  let v19 : BitVec 1 := Scalar.cmpi .ne v18 c0_i32_9
  v19

def k0_off2 (d20 : Dev nD) (c0_i32_15 : BitVec 32) (c0_i32_16 : BitVec 32) (c1_i32_17 : BitVec 32) : Fin 3 → Nat :=
  let c4_i32_18 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v33 : BitVec 32 := Scalar.xori v22 c0_i32_15
  let v36 : BitVec 32 := Scalar.muli c4_i32_18 v33
  let c2_i32_19 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v34 : BitVec 32 := Scalar.xori v25 c0_i32_16
  let v37 : BitVec 32 := Scalar.muli c2_i32_19 v34
  let v38 : BitVec 32 := Scalar.addi v36 v37
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v35 : BitVec 32 := Scalar.xori v28 c1_i32_17
  let v39 : BitVec 32 := Scalar.addi v38 v35
  let c0_i32_56 : BitVec 32 := 0#32
  let c0_i32_57 : BitVec 32 := 0#32
  ![v39.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off3 (d20 : Dev nD) : Fin 3 → Nat :=
  let c4_i32_13 : BitVec 32 := 4#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.muli c4_i32_13 v22
  let c2_i32_14 : BitVec 32 := 2#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.muli c2_i32_14 v25
  let v31 : BitVec 32 := Scalar.addi v29 v30
  let v26 : BitVec 32 := Dev.word d20
  let c1_i32 : BitVec 32 := 1#32
  let v27 : BitVec 32 := Scalar.divsi v26 c1_i32
  let c2_i32_12 : BitVec 32 := 2#32
  let v28 : BitVec 32 := Scalar.remsi v27 c2_i32_12
  let v32 : BitVec 32 := Scalar.addi v31 v28
  let c0_i32_107 : BitVec 32 := 0#32
  let c0_i32_108 : BitVec 32 := 0#32
  ![v32.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S65536x1024 : Shape := ⟨2, ![65536, 1024]⟩
abbrev S1024x9728 : Shape := ⟨2, ![1024, 9728]⟩
abbrev S1024x9232 : Shape := ⟨2, ![1024, 9232]⟩
abbrev S65536x9728 : Shape := ⟨2, ![65536, 9728]⟩
abbrev S1024x8x1154 : Shape := ⟨3, ![1024, 8, 1154]⟩
abbrev S8x1024x1154 : Shape := ⟨3, ![8, 1024, 1154]⟩

abbrev nBuf : Space → Nat
  | .hbm => 8
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x9728, .bf16⟩
  | .hbm, ⟨2, _⟩ => ⟨S1024x9232, .bf16⟩
  | .hbm, ⟨3, _⟩ => ⟨S65536x1024, .f32⟩
  | .hbm, ⟨4, _⟩ => ⟨S1024x9728, .f32⟩
  | .hbm, ⟨5, _⟩ => ⟨S65536x9728, .f32⟩
  | .hbm, ⟨6, _⟩ => ⟨S1024x8x1154, .bf16⟩
  | .hbm, ⟨7, _⟩ => ⟨S8x1024x1154, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S8192x3072 : Shape := ⟨2, ![8192, 3072]⟩
abbrev S8192x1024 : Shape := ⟨2, ![8192, 1024]⟩
abbrev S8192x512 : Shape := ⟨2, ![8192, 512]⟩
abbrev S1024x9728 : Shape := ⟨2, ![1024, 9728]⟩
abbrev S8x1024x1154 : Shape := ⟨3, ![8, 1024, 1154]⟩
abbrev S1024x512 : Shape := ⟨2, ![1024, 512]⟩
abbrev S1024x1024 : Shape := ⟨2, ![1024, 1024]⟩
abbrev S7 : Shape := ⟨1, ![7]⟩
abbrev S_ : Shape := ⟨0, ![]⟩
abbrev S1x1024x1154 : Shape := ⟨3, ![1, 1024, 1154]⟩
abbrev S1024x1154 : Shape := ⟨2, ![1024, 1154]⟩
abbrev S1 : Shape := ⟨1, ![1]⟩

abbrev nBuf : Space → Nat
  | .hbm => 12
  | .vmem => 21
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x512, .bf16⟩
  | .hbm, ⟨8, _⟩ => ⟨S1024x9728, .bf16⟩
  | .hbm, ⟨9, _⟩ => ⟨S8x1024x1154, .bf16⟩
  | .hbm, ⟨10, _⟩ => ⟨S8192x1024, .f32⟩
  | .hbm, ⟨11, _⟩ => ⟨S8x1024x1154, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 8
abbrev τ : Topo := Topo.v7x

variable {F : FTy → Type} [FloatOps F]

abbrev grid0 : Pipeline.Grid := ⟨2, ![8, 19], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_1 : BitVec 32 := 0#32
  let v7 : BitVec 1 := Scalar.cmpi .ne v6 c0_i32_1
  v7

def k0_off1 (d50 : Dev nD) : Fin 3 → Nat :=
  let c4_i32_23 : BitVec 32 := 4#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let v59 : BitVec 32 := Scalar.muli c4_i32_23 v52
  let c2_i32_24 : BitVec 32 := 2#32
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let v60 : BitVec 32 := Scalar.muli c2_i32_24 v55
  let v61 : BitVec 32 := Scalar.addi v59 v60
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let v62 : BitVec 32 := Scalar.addi v61 v58
  let c0_i32_60 : BitVec 32 := 0#32
  let c0_i32_61 : BitVec 32 := 0#32
  ![v62.toNat, 0, 0]
def k0_off2 (d50 : Dev nD) (c0_i32_25 : BitVec 32) (c0_i32_26 : BitVec 32) (c1_i32_27 : BitVec 32) : Fin 3 → Nat :=
  let c4_i32_28 : BitVec 32 := 4#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let v63 : BitVec 32 := Scalar.xori v52 c0_i32_25
  let v66 : BitVec 32 := Scalar.muli c4_i32_28 v63
  let c2_i32_29 : BitVec 32 := 2#32
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let v64 : BitVec 32 := Scalar.xori v55 c0_i32_26
  let v67 : BitVec 32 := Scalar.muli c2_i32_29 v64
  let v68 : BitVec 32 := Scalar.addi v66 v67
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let v65 : BitVec 32 := Scalar.xori v58 c1_i32_27
  let v69 : BitVec 32 := Scalar.addi v68 v65
  let c0_i32_72 : BitVec 32 := 0#32
  let c0_i32_73 : BitVec 32 := 0#32
  ![v69.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d50 : Dev nD) : Nat :=
  let c0_i32_67 : BitVec 32 := 0#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let c0_i32_25 : BitVec 32 := 0#32
  let v63 : BitVec 32 := Scalar.xori v52 c0_i32_25
  let c4_i32_66 : BitVec 32 := 4#32
  let v116 : BitVec 32 := Scalar.muli v63 c4_i32_66
  let v117 : BitVec 32 := Scalar.addi c0_i32_67 v116
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let c0_i32_26 : BitVec 32 := 0#32
  let v64 : BitVec 32 := Scalar.xori v55 c0_i32_26
  let c2_i32_68 : BitVec 32 := 2#32
  let v118 : BitVec 32 := Scalar.muli v64 c2_i32_68
  let v119 : BitVec 32 := Scalar.addi v117 v118
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let c1_i32_27 : BitVec 32 := 1#32
  let v65 : BitVec 32 := Scalar.xori v58 c1_i32_27
  let c1_i32_69 : BitVec 32 := 1#32
  let v120 : BitVec 32 := Scalar.muli v65 c1_i32_69
  let v121 : BitVec 32 := Scalar.addi v119 v120
  v121.toNat
def k0_dev2 (d50 : Dev nD) : Nat :=
  let c0_i32_77 : BitVec 32 := 0#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let c0_i32_30 : BitVec 32 := 0#32
  let v70 : BitVec 32 := Scalar.xori v52 c0_i32_30
  let c4_i32_76 : BitVec 32 := 4#32
  let v130 : BitVec 32 := Scalar.muli v70 c4_i32_76
  let v131 : BitVec 32 := Scalar.addi c0_i32_77 v130
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let c1_i32_31 : BitVec 32 := 1#32
  let v71 : BitVec 32 := Scalar.xori v55 c1_i32_31
  let c2_i32_78 : BitVec 32 := 2#32
  let v132 : BitVec 32 := Scalar.muli v71 c2_i32_78
  let v133 : BitVec 32 := Scalar.addi v131 v132
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let c0_i32_32 : BitVec 32 := 0#32
  let v72 : BitVec 32 := Scalar.xori v58 c0_i32_32
  let c1_i32_79 : BitVec 32 := 1#32
  let v134 : BitVec 32 := Scalar.muli v72 c1_i32_79
  let v135 : BitVec 32 := Scalar.addi v133 v134
  v135.toNat
def k0_dev3 (d50 : Dev nD) : Nat :=
  let c0_i32_87 : BitVec 32 := 0#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let c0_i32_35 : BitVec 32 := 0#32
  let v77 : BitVec 32 := Scalar.xori v52 c0_i32_35
  let c4_i32_86 : BitVec 32 := 4#32
  let v144 : BitVec 32 := Scalar.muli v77 c4_i32_86
  let v145 : BitVec 32 := Scalar.addi c0_i32_87 v144
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let c1_i32_36 : BitVec 32 := 1#32
  let v78 : BitVec 32 := Scalar.xori v55 c1_i32_36
  let c2_i32_88 : BitVec 32 := 2#32
  let v146 : BitVec 32 := Scalar.muli v78 c2_i32_88
  let v147 : BitVec 32 := Scalar.addi v145 v146
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let c1_i32_37 : BitVec 32 := 1#32
  let v79 : BitVec 32 := Scalar.xori v58 c1_i32_37
  let c1_i32_89 : BitVec 32 := 1#32
  let v148 : BitVec 32 := Scalar.muli v79 c1_i32_89
  let v149 : BitVec 32 := Scalar.addi v147 v148
  v149.toNat
def k0_dev4 (d50 : Dev nD) : Nat :=
  let c0_i32_96 : BitVec 32 := 0#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let c1_i32_40 : BitVec 32 := 1#32
  let v84 : BitVec 32 := Scalar.xori v52 c1_i32_40
  let c4_i32_95 : BitVec 32 := 4#32
  let v158 : BitVec 32 := Scalar.muli v84 c4_i32_95
  let v159 : BitVec 32 := Scalar.addi c0_i32_96 v158
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let c0_i32_41 : BitVec 32 := 0#32
  let v85 : BitVec 32 := Scalar.xori v55 c0_i32_41
  let c2_i32_97 : BitVec 32 := 2#32
  let v160 : BitVec 32 := Scalar.muli v85 c2_i32_97
  let v161 : BitVec 32 := Scalar.addi v159 v160
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let c0_i32_42 : BitVec 32 := 0#32
  let v86 : BitVec 32 := Scalar.xori v58 c0_i32_42
  let c1_i32_98 : BitVec 32 := 1#32
  let v162 : BitVec 32 := Scalar.muli v86 c1_i32_98
  let v163 : BitVec 32 := Scalar.addi v161 v162
  v163.toNat
def k0_dev5 (d50 : Dev nD) : Nat :=
  let c0_i32_106 : BitVec 32 := 0#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let c1_i32_45 : BitVec 32 := 1#32
  let v91 : BitVec 32 := Scalar.xori v52 c1_i32_45
  let c4_i32_105 : BitVec 32 := 4#32
  let v172 : BitVec 32 := Scalar.muli v91 c4_i32_105
  let v173 : BitVec 32 := Scalar.addi c0_i32_106 v172
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let c0_i32_46 : BitVec 32 := 0#32
  let v92 : BitVec 32 := Scalar.xori v55 c0_i32_46
  let c2_i32_107 : BitVec 32 := 2#32
  let v174 : BitVec 32 := Scalar.muli v92 c2_i32_107
  let v175 : BitVec 32 := Scalar.addi v173 v174
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let c1_i32_47 : BitVec 32 := 1#32
  let v93 : BitVec 32 := Scalar.xori v58 c1_i32_47
  let c1_i32_108 : BitVec 32 := 1#32
  let v176 : BitVec 32 := Scalar.muli v93 c1_i32_108
  let v177 : BitVec 32 := Scalar.addi v175 v176
  v177.toNat
def k0_dev6 (d50 : Dev nD) : Nat :=
  let c0_i32_115 : BitVec 32 := 0#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let c1_i32_50 : BitVec 32 := 1#32
  let v98 : BitVec 32 := Scalar.xori v52 c1_i32_50
  let c4_i32_114 : BitVec 32 := 4#32
  let v186 : BitVec 32 := Scalar.muli v98 c4_i32_114
  let v187 : BitVec 32 := Scalar.addi c0_i32_115 v186
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let c1_i32_51 : BitVec 32 := 1#32
  let v99 : BitVec 32 := Scalar.xori v55 c1_i32_51
  let c2_i32_116 : BitVec 32 := 2#32
  let v188 : BitVec 32 := Scalar.muli v99 c2_i32_116
  let v189 : BitVec 32 := Scalar.addi v187 v188
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let c0_i32_52 : BitVec 32 := 0#32
  let v100 : BitVec 32 := Scalar.xori v58 c0_i32_52
  let c1_i32_117 : BitVec 32 := 1#32
  let v190 : BitVec 32 := Scalar.muli v100 c1_i32_117
  let v191 : BitVec 32 := Scalar.addi v189 v190
  v191.toNat
def k0_dev7 (d50 : Dev nD) : Nat :=
  let c0_i32_125 : BitVec 32 := 0#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let c1_i32_55 : BitVec 32 := 1#32
  let v105 : BitVec 32 := Scalar.xori v52 c1_i32_55
  let c4_i32_124 : BitVec 32 := 4#32
  let v200 : BitVec 32 := Scalar.muli v105 c4_i32_124
  let v201 : BitVec 32 := Scalar.addi c0_i32_125 v200
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let c1_i32_56 : BitVec 32 := 1#32
  let v106 : BitVec 32 := Scalar.xori v55 c1_i32_56
  let c2_i32_126 : BitVec 32 := 2#32
  let v202 : BitVec 32 := Scalar.muli v106 c2_i32_126
  let v203 : BitVec 32 := Scalar.addi v201 v202
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let c1_i32_57 : BitVec 32 := 1#32
  let v107 : BitVec 32 := Scalar.xori v58 c1_i32_57
  let c1_i32_127 : BitVec 32 := 1#32
  let v204 : BitVec 32 := Scalar.muli v107 c1_i32_127
  let v205 : BitVec 32 := Scalar.addi v203 v204
  v205.toNat
def k0_cond34 (i : grid0.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c18_i32 : BitVec 32 := 18#32
  let v4 : BitVec 1 := Scalar.cmpi .eq arg1 c18_i32
  let v5 : BitVec 1 := Scalar.andi v3 v4
  let v48 : BitVec 32 := Scalar.extui v5
  let c0_i32_19 : BitVec 32 := 0#32
  let v49 : BitVec 1 := Scalar.cmpi .ne v48 c0_i32_19
  v49

def k0_off3 (d50 : Dev nD) (c0_i32_25 : BitVec 32) (c0_i32_26 : BitVec 32) (c1_i32_27 : BitVec 32) : Fin 3 → Nat :=
  let c4_i32_28 : BitVec 32 := 4#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let v63 : BitVec 32 := Scalar.xori v52 c0_i32_25
  let v66 : BitVec 32 := Scalar.muli c4_i32_28 v63
  let c2_i32_29 : BitVec 32 := 2#32
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let v64 : BitVec 32 := Scalar.xori v55 c0_i32_26
  let v67 : BitVec 32 := Scalar.muli c2_i32_29 v64
  let v68 : BitVec 32 := Scalar.addi v66 v67
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let v65 : BitVec 32 := Scalar.xori v58 c1_i32_27
  let v69 : BitVec 32 := Scalar.addi v68 v65
  let c0_i32_66 : BitVec 32 := 0#32
  let c0_i32_67 : BitVec 32 := 0#32
  ![v69.toNat, 0, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off4 (d50 : Dev nD) : Fin 3 → Nat :=
  let c4_i32_23 : BitVec 32 := 4#32
  let v50 : BitVec 32 := Dev.word d50
  let c4_i32 : BitVec 32 := 4#32
  let v51 : BitVec 32 := Scalar.divsi v50 c4_i32
  let c2_i32 : BitVec 32 := 2#32
  let v52 : BitVec 32 := Scalar.remsi v51 c2_i32
  let v59 : BitVec 32 := Scalar.muli c4_i32_23 v52
  let c2_i32_24 : BitVec 32 := 2#32
  let v53 : BitVec 32 := Dev.word d50
  let c2_i32_21 : BitVec 32 := 2#32
  let v54 : BitVec 32 := Scalar.divsi v53 c2_i32_21
  let c2_i32_20 : BitVec 32 := 2#32
  let v55 : BitVec 32 := Scalar.remsi v54 c2_i32_20
  let v60 : BitVec 32 := Scalar.muli c2_i32_24 v55
  let v61 : BitVec 32 := Scalar.addi v59 v60
  let v56 : BitVec 32 := Dev.word d50
  let c1_i32 : BitVec 32 := 1#32
  let v57 : BitVec 32 := Scalar.divsi v56 c1_i32
  let c2_i32_22 : BitVec 32 := 2#32
  let v58 : BitVec 32 := Scalar.remsi v57 c2_i32_22
  let v62 : BitVec 32 := Scalar.addi v61 v58
  let c0_i32_133 : BitVec 32 := 0#32
  let c0_i32_134 : BitVec 32 := 0#32
  ![v62.toNat, 0, 0]
def k0_cond2 (i : grid0.Coords) : BitVec 1 :=
  let arg1 : BitVec 32 := BitVec.ofNat 32 (i 1).val
  let c0_i32_2 : BitVec 32 := 0#32
  let v8 : BitVec 1 := Scalar.cmpi .sge arg1 c0_i32_2
  let c6_i32 : BitVec 32 := 6#32
  let v9 : BitVec 1 := Scalar.cmpi .slt arg1 c6_i32
  let v10 : BitVec 1 := Scalar.andi v8 v9
  let v11 : BitVec 32 := Scalar.extui v10
  let c0_i32_3 : BitVec 32 := 0#32
  let v12 : BitVec 1 := Scalar.cmpi .ne v11 c0_i32_3
  v12

def k0_cond5 (i : grid0.Coords) : BitVec 1 :=
  let arg1 : BitVec 32 := BitVec.ofNat 32 (i 1).val
  let c18_i32_28 : BitVec 32 := 18#32
  let v63 : BitVec 1 := Scalar.cmpi .eq arg1 c18_i32_28
  let v64 : BitVec 32 := Scalar.extui v63
  let c0_i32_29 : BitVec 32 := 0#32
  let v65 : BitVec 1 := Scalar.cmpi .ne v64 c0_i32_29
  v65

def k0_cond6 (i : grid0.Coords) : BitVec 1 :=
  let arg1 : BitVec 32 := BitVec.ofNat 32 (i 1).val
  let c6_i32_4 : BitVec 32 := 6#32
  let v13 : BitVec 1 := Scalar.cmpi .sge arg1 c6_i32_4
  let c8_i32 : BitVec 32 := 8#32
  let v14 : BitVec 1 := Scalar.cmpi .slt arg1 c8_i32
  let v15 : BitVec 1 := Scalar.andi v13 v14
  let v16 : BitVec 32 := Scalar.extui v15
  let c0_i32_5 : BitVec 32 := 0#32
  let v17 : BitVec 1 := Scalar.cmpi .ne v16 c0_i32_5
  v17

def k0_cond9 (i : grid0.Coords) : BitVec 1 :=
  let arg1 : BitVec 32 := BitVec.ofNat 32 (i 1).val
  let c18_i32_28 : BitVec 32 := 18#32
  let v63 : BitVec 1 := Scalar.cmpi .eq arg1 c18_i32_28
  let v64 : BitVec 32 := Scalar.extui v63
  let c0_i32_29 : BitVec 32 := 0#32
  let v65 : BitVec 1 := Scalar.cmpi .ne v64 c0_i32_29
  v65

def k0_cond10 (i : grid0.Coords) : BitVec 1 :=
  let arg1 : BitVec 32 := BitVec.ofNat 32 (i 1).val
  let c8_i32_6 : BitVec 32 := 8#32
  let v18 : BitVec 1 := Scalar.cmpi .sge arg1 c8_i32_6
  let c10_i32 : BitVec 32 := 10#32
  let v19 : BitVec 1 := Scalar.cmpi .slt arg1 c10_i32
  let v20 : BitVec 1 := Scalar.andi v18 v19
  let v21 : BitVec 32 := Scalar.extui v20
  let c0_i32_7 : BitVec 32 := 0#32
  let v22 : BitVec 1 := Scalar.cmpi .ne v21 c0_i32_7
  v22

def k0_cond13 (i : grid0.Coords) : BitVec 1 :=
  let arg1 : BitVec 32 := BitVec.ofNat 32 (i 1).val
  let c18_i32_28 : BitVec 32 := 18#32
  let v63 : BitVec 1 := Scalar.cmpi .eq arg1 c18_i32_28
  let v64 : BitVec 32 := Scalar.extui v63
  let c0_i32_29 : BitVec 32 := 0#32
  let v65 : BitVec 1 := Scalar.cmpi .ne v64 c0_i32_29
  v65

def k0_cond14 (i : grid0.Coords) : BitVec 1 :=
  let arg1 : BitVec 32 := BitVec.ofNat 32 (i 1).val
  let c10_i32_8 : BitVec 32 := 10#32
  let v23 : BitVec 1 := Scalar.cmpi .sge arg1 c10_i32_8
  let c12_i32 : BitVec 32 := 12#32
  let v24 : BitVec 1 := Scalar.cmpi .slt arg1 c12_i32
  let v25 : BitVec 1 := Scalar.andi v23 v24
  let v26 : BitVec 32 := Scalar.extui v25
  let c0_i32_9 : BitVec 32 := 0#32
  let v27 : BitVec 1 := Scalar.cmpi .ne v26 c0_i32_9
  v27

def k0_cond17 (i : grid0.Coords) : BitVec 1 :=
  let arg1 : BitVec 32 := BitVec.ofNat 32 (i 1).val
  let c18_i32_28 : BitVec 32 := 18#32
  let v63 : BitVec 1 := Scalar.cmpi .eq arg1 c18_i32_28
  let v64 : BitVec 32 := Scalar.extui v63
  let c0_i32_29 : BitVec 32 := 0#32
  let v65 : BitVec 1 := Scalar.cmpi .ne v64 c0_i32_29
  v65

def k0_cond18 (i : grid0.Coords) : BitVec 1 :=
  let arg1 : BitVec 32 := BitVec.ofNat 32 (i 1).val
  let c12_i32_10 : BitVec 32 := 12#32
  let v28 : BitVec 1 := Scalar.cmpi .sge arg1 c12_i32_10
  let c14_i32 : BitVec 32 := 14#32
  let v29 : BitVec 1 := Scalar.cmpi .slt arg1 c14_i32
  let v30 : BitVec 1 := Scalar.andi v28 v29
  let v31 : BitVec 32 := Scalar.extui v30
  let c0_i32_11 : BitVec 32 := 0#32
  let v32 : BitVec 1 := Scalar.cmpi .ne v31 c0_i32_11
  v32

def k0_cond21 (i : grid0.Coords) : BitVec 1 :=
  let arg1 : BitVec 32 := BitVec.ofNat 32 (i 1).val
  let c18_i32_28 : BitVec 32 := 18#32
  let v63 : BitVec 1 := Scalar.cmpi .eq arg1 c18_i32_28
  let v64 : BitVec 32 := Scalar.extui v63
  let c0_i32_29 : BitVec 32 := 0#32
  let v65 : BitVec 1 := Scalar.cmpi .ne v64 c0_i32_29
  v65

def k0_cond22 (i : grid0.Coords) : BitVec 1 :=
  let arg1 : BitVec 32 := BitVec.ofNat 32 (i 1).val
  let c14_i32_12 : BitVec 32 := 14#32
  let v33 : BitVec 1 := Scalar.cmpi .sge arg1 c14_i32_12
  let c16_i32 : BitVec 32 := 16#32
  let v34 : BitVec 1 := Scalar.cmpi .slt arg1 c16_i32
  let v35 : BitVec 1 := Scalar.andi v33 v34
  let v36 : BitVec 32 := Scalar.extui v35
  let c0_i32_13 : BitVec 32 := 0#32
  let v37 : BitVec 1 := Scalar.cmpi .ne v36 c0_i32_13
  v37

def k0_cond25 (i : grid0.Coords) : BitVec 1 :=
  let arg1 : BitVec 32 := BitVec.ofNat 32 (i 1).val
  let c18_i32_28 : BitVec 32 := 18#32
  let v63 : BitVec 1 := Scalar.cmpi .eq arg1 c18_i32_28
  let v64 : BitVec 32 := Scalar.extui v63
  let c0_i32_29 : BitVec 32 := 0#32
  let v65 : BitVec 1 := Scalar.cmpi .ne v64 c0_i32_29
  v65

def k0_cond26 (i : grid0.Coords) : BitVec 1 :=
  let arg1 : BitVec 32 := BitVec.ofNat 32 (i 1).val
  let c16_i32_14 : BitVec 32 := 16#32
  let v38 : BitVec 1 := Scalar.cmpi .sge arg1 c16_i32_14
  let c18_i32_15 : BitVec 32 := 18#32
  let v39 : BitVec 1 := Scalar.cmpi .slt arg1 c18_i32_15
  let v40 : BitVec 1 := Scalar.andi v38 v39
  let v41 : BitVec 32 := Scalar.extui v40
  let c0_i32_16 : BitVec 32 := 0#32
  let v42 : BitVec 1 := Scalar.cmpi .ne v41 c0_i32_16
  v42

def k0_cond29 (i : grid0.Coords) : BitVec 1 :=
  let arg1 : BitVec 32 := BitVec.ofNat 32 (i 1).val
  let c18_i32_28 : BitVec 32 := 18#32
  let v63 : BitVec 1 := Scalar.cmpi .eq arg1 c18_i32_28
  let v64 : BitVec 32 := Scalar.extui v63
  let c0_i32_29 : BitVec 32 := 0#32
  let v65 : BitVec 1 := Scalar.cmpi .ne v64 c0_i32_29
  v65

def k0_cond30 (i : grid0.Coords) : BitVec 1 :=
  let arg1 : BitVec 32 := BitVec.ofNat 32 (i 1).val
  let c18_i32_17 : BitVec 32 := 18#32
  let v43 : BitVec 1 := Scalar.cmpi .sge arg1 c18_i32_17
  let c19_i32 : BitVec 32 := 19#32
  let v44 : BitVec 1 := Scalar.cmpi .slt arg1 c19_i32
  let v45 : BitVec 1 := Scalar.andi v43 v44
  let v46 : BitVec 32 := Scalar.extui v45
  let c0_i32_18 : BitVec 32 := 0#32
  let v47 : BitVec 1 := Scalar.cmpi .ne v46 c0_i32_18
  v47

def k0_cond33 (i : grid0.Coords) : BitVec 1 :=
  let arg1 : BitVec 32 := BitVec.ofNat 32 (i 1).val
  let c18_i32_28 : BitVec 32 := 18#32
  let v63 : BitVec 1 := Scalar.cmpi .eq arg1 c18_i32_28
  let v64 : BitVec 32 := Scalar.extui v63
  let c0_i32_29 : BitVec 32 := 0#32
  let v65 : BitVec 1 := Scalar.cmpi .ne v64 c0_i32_29
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c6_i32 : BitVec 32 := 6#32
  let v1 : BitVec 1 := Scalar.cmpi .slt arg1 c6_i32
  let v2 : BitVec 1 := Scalar.andi v0 v1
  let c0_i32_0 : BitVec 32 := 0#32
  let v3 : BitVec 32 := Scalar.select v2 arg0 c0_i32_0
  let c0_i32_1 : BitVec 32 := 0#32
  let v4 : BitVec 32 := Scalar.subi arg1 c0_i32_1
  let c0_i32_2 : BitVec 32 := 0#32
  let v5 : BitVec 32 := Scalar.select v2 v4 c0_i32_2
  let c0_i32_3 : BitVec 32 := 0#32
  ![v3.toNat, v5.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg1 c6_i32
  let c8_i32 : BitVec 32 := 8#32
  let v1 : BitVec 1 := Scalar.cmpi .slt arg1 c8_i32
  let v2 : BitVec 1 := Scalar.andi v0 v1
  let c0_i32 : BitVec 32 := 0#32
  let v3 : BitVec 32 := Scalar.select v2 arg0 c0_i32
  let c6_i32_0 : BitVec 32 := 6#32
  let v4 : BitVec 32 := Scalar.subi arg1 c6_i32_0
  let c0_i32_1 : BitVec 32 := 0#32
  let v5 : BitVec 32 := Scalar.select v2 v4 c0_i32_1
  let c0_i32_2 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c10_i32 : BitVec 32 := 10#32
  let v1 : BitVec 1 := Scalar.cmpi .slt arg1 c10_i32
  let v2 : BitVec 1 := Scalar.andi v0 v1
  let c0_i32 : BitVec 32 := 0#32
  let v3 : BitVec 32 := Scalar.select v2 arg0 c0_i32
  let c8_i32_0 : BitVec 32 := 8#32
  let v4 : BitVec 32 := Scalar.subi arg1 c8_i32_0
  let c0_i32_1 : BitVec 32 := 0#32
  let v5 : BitVec 32 := Scalar.select v2 v4 c0_i32_1
  let c0_i32_2 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sge arg1 c10_i32
  let c12_i32 : BitVec 32 := 12#32
  let v1 : BitVec 1 := Scalar.cmpi .slt arg1 c12_i32
  let v2 : BitVec 1 := Scalar.andi v0 v1
  let c0_i32 : BitVec 32 := 0#32
  let v3 : BitVec 32 := Scalar.select v2 arg0 c0_i32
  let c10_i32_0 : BitVec 32 := 10#32
  let v4 : BitVec 32 := Scalar.subi arg1 c10_i32_0
  let c0_i32_1 : BitVec 32 := 0#32
  let v5 : BitVec 32 := Scalar.select v2 v4 c0_i32_1
  let c0_i32_2 : BitVec 32 := 0#32
  ![v3.toNat, v5.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .sge arg1 c12_i32
  let c14_i32 : BitVec 32 := 14#32
  let v1 : BitVec 1 := Scalar.cmpi .slt arg1 c14_i32
  let v2 : BitVec 1 := Scalar.andi v0 v1
  let c0_i32 : BitVec 32 := 0#32
  let v3 : BitVec 32 := Scalar.select v2 arg0 c0_i32
  let c12_i32_0 : BitVec 32 := 12#32
  let v4 : BitVec 32 := Scalar.subi arg1 c12_i32_0
  let c0_i32_1 : BitVec 32 := 0#32
  let v5 : BitVec 32 := Scalar.select v2 v4 c0_i32_1
  let c0_i32_2 : BitVec 32 := 0#32
  ![v3.toNat, v5.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 1 := Scalar.cmpi .sge arg1 c14_i32
  let c16_i32 : BitVec 32 := 16#32
  let v1 : BitVec 1 := Scalar.cmpi .slt arg1 c16_i32
  let v2 : BitVec 1 := Scalar.andi v0 v1
  let c0_i32 : BitVec 32 := 0#32
  let v3 : BitVec 32 := Scalar.select v2 arg0 c0_i32
  let c14_i32_0 : BitVec 32 := 14#32
  let v4 : BitVec 32 := Scalar.subi arg1 c14_i32_0
  let c0_i32_1 : BitVec 32 := 0#32
  let v5 : BitVec 32 := Scalar.select v2 v4 c0_i32_1
  let c0_i32_2 : BitVec 32 := 0#32
  ![v3.toNat, v5.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c18_i32 : BitVec 32 := 18#32
  let v1 : BitVec 1 := Scalar.cmpi .slt arg1 c18_i32
  let v2 : BitVec 1 := Scalar.andi v0 v1
  let c0_i32 : BitVec 32 := 0#32
  let v3 : BitVec 32 := Scalar.select v2 arg0 c0_i32
  let c16_i32_0 : BitVec 32 := 16#32
  let v4 : BitVec 32 := Scalar.subi arg1 c16_i32_0
  let c0_i32_1 : BitVec 32 := 0#32
  let v5 : BitVec 32 := Scalar.select v2 v4 c0_i32_1
  let c0_i32_2 : BitVec 32 := 0#32
  ![v3.toNat, v5.toNat]

def cc0_transform_7 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 1 := Scalar.cmpi .sge arg1 c18_i32
  let c19_i32 : BitVec 32 := 19#32
  let v1 : BitVec 1 := Scalar.cmpi .slt arg1 c19_i32
  let v2 : BitVec 1 := Scalar.andi v0 v1
  let c0_i32 : BitVec 32 := 0#32
  let v3 : BitVec 32 := Scalar.select v2 arg0 c0_i32
  let c18_i32_0 : BitVec 32 := 18#32
  let v4 : BitVec 32 := Scalar.subi arg1 c18_i32_0
  let c0_i32_1 : BitVec 32 := 0#32
  let v5 : BitVec 32 := Scalar.select v2 v4 c0_i32_1
  let c0_i32_2 : BitVec 32 := 0#32
  ![v3.toNat, v5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InDxRefIdeal.lean ====
abbrev S65536x3072 : Shape := ⟨2, ![65536, 3072]⟩
abbrev S65536x1024 : Shape := ⟨2, ![65536, 1024]⟩
abbrev S65536x512 : Shape := ⟨2, ![65536, 512]⟩
abbrev S1024x9728 : Shape := ⟨2, ![1024, 9728]⟩
abbrev S64x1024x1154 : Shape := ⟨3, ![64, 1024, 1154]⟩
abbrev S65536x9728 : Shape := ⟨2, ![65536, 9728]⟩
abbrev S9728x1024 : Shape := ⟨2, ![9728, 1024]⟩
abbrev S8x8x1024x1154 : Shape := ⟨4, ![8, 8, 1024, 1154]⟩

abbrev nBuf : Space → Nat
  | .hbm => 18
  | .vmem => 0
  | .smem => 0
  | _ => 0

abbrev bufTy : (tb : Table) → Fin (tcTables nBuf tb) → BufTy
  | .hbm, ⟨0, _⟩ => ⟨S65536x3072, .bf16⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S65536x1024, .bf16⟩
  | .hbm, ⟨6, _⟩ => ⟨S65536x1024, .bf16⟩
  | .hbm, ⟨7, _⟩ => ⟨S65536x512, .bf16⟩
  | .hbm, ⟨8, _⟩ => ⟨S1024x9728, .bf16⟩
  | .hbm, ⟨9, _⟩ => ⟨S64x1024x1154, .bf16⟩
  | .hbm, ⟨10, _⟩ => ⟨S65536x9728, .bf16⟩
  | .hbm, ⟨11, _⟩ => ⟨S65536x9728, .f32⟩
  | .hbm, ⟨12, _⟩ => ⟨S1024x9728, .f32⟩
  | .hbm, ⟨13, _⟩ => ⟨S9728x1024, .f32⟩
  | .hbm, ⟨14, _⟩ => ⟨S65536x1024, .f32⟩
  | .hbm, ⟨15, _⟩ => ⟨S8x8x1024x1154, .bf16⟩
  | .hbm, ⟨16, _⟩ => ⟨S8x8x1024x1154, .bf16⟩
  | .hbm, ⟨17, _⟩ => ⟨S64x1024x1154, .bf16⟩
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfOutDx.lean ====
abbrev S8192x1024 : Shape := ⟨2, ![8192, 1024]⟩
abbrev S4096x1024 : Shape := ⟨2, ![4096, 1024]⟩
abbrev S1x1024 : Shape := ⟨2, ![1, 1024]⟩
abbrev S8192x4096 : Shape := ⟨2, ![8192, 4096]⟩
abbrev S8x512x1024 : Shape := ⟨3, ![8, 512, 1024]⟩
abbrev S1024x1024 : Shape := ⟨2, ![1024, 1024]⟩
abbrev S7 : Shape := ⟨1, ![7]⟩
abbrev S_ : Shape := ⟨0, ![]⟩
abbrev S1x512x1024 : Shape := ⟨3, ![1, 512, 1024]⟩
abbrev S512x1024 : Shape := ⟨2, ![512, 1024]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S1x1024, .f32⟩
  | .hbm, ⟨3, _⟩ => ⟨S8192x4096, .f32⟩
  | .hbm, ⟨4, _⟩ => ⟨S8x512x1024, .bf16⟩
  | .hbm, ⟨5, _⟩ => ⟨S8192x4096, .bf16⟩
  | .hbm, ⟨6, _⟩ => ⟨S8x512x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 8
abbrev τ : Topo := Topo.v7x

variable {F : FTy → Type} [FloatOps F]

abbrev grid0 : Pipeline.Grid := ⟨3, ![8, 4, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d33 : Dev nD) : Fin 3 → Nat :=
  let c4_i32_19 : BitVec 32 := 4#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let v42 : BitVec 32 := Scalar.muli c4_i32_19 v35
  let c2_i32_20 : BitVec 32 := 2#32
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let v43 : BitVec 32 := Scalar.muli c2_i32_20 v38
  let v44 : BitVec 32 := Scalar.addi v42 v43
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let v45 : BitVec 32 := Scalar.addi v44 v41
  let c0_i32_56 : BitVec 32 := 0#32
  let c0_i32_57 : BitVec 32 := 0#32
  ![v45.toNat, 0, 0]
def k0_off2 (d33 : Dev nD) (c0_i32_21 : BitVec 32) (c0_i32_22 : BitVec 32) (c1_i32_23 : BitVec 32) : Fin 3 → Nat :=
  let c4_i32_24 : BitVec 32 := 4#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let v46 : BitVec 32 := Scalar.xori v35 c0_i32_21
  let v49 : BitVec 32 := Scalar.muli c4_i32_24 v46
  let c2_i32_25 : BitVec 32 := 2#32
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let v47 : BitVec 32 := Scalar.xori v38 c0_i32_22
  let v50 : BitVec 32 := Scalar.muli c2_i32_25 v47
  let v51 : BitVec 32 := Scalar.addi v49 v50
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let v48 : BitVec 32 := Scalar.xori v41 c1_i32_23
  let v52 : BitVec 32 := Scalar.addi v51 v48
  let c0_i32_68 : BitVec 32 := 0#32
  let c0_i32_69 : BitVec 32 := 0#32
  ![v52.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d33 : Dev nD) : Nat :=
  let c0_i32_63 : BitVec 32 := 0#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let c0_i32_21 : BitVec 32 := 0#32
  let v46 : BitVec 32 := Scalar.xori v35 c0_i32_21
  let c4_i32_62 : BitVec 32 := 4#32
  let v99 : BitVec 32 := Scalar.muli v46 c4_i32_62
  let v100 : BitVec 32 := Scalar.addi c0_i32_63 v99
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let c0_i32_22 : BitVec 32 := 0#32
  let v47 : BitVec 32 := Scalar.xori v38 c0_i32_22
  let c2_i32_64 : BitVec 32 := 2#32
  let v101 : BitVec 32 := Scalar.muli v47 c2_i32_64
  let v102 : BitVec 32 := Scalar.addi v100 v101
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let c1_i32_23 : BitVec 32 := 1#32
  let v48 : BitVec 32 := Scalar.xori v41 c1_i32_23
  let c1_i32_65 : BitVec 32 := 1#32
  let v103 : BitVec 32 := Scalar.muli v48 c1_i32_65
  let v104 : BitVec 32 := Scalar.addi v102 v103
  v104.toNat
def k0_dev2 (d33 : Dev nD) : Nat :=
  let c0_i32_73 : BitVec 32 := 0#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let c0_i32_26 : BitVec 32 := 0#32
  let v53 : BitVec 32 := Scalar.xori v35 c0_i32_26
  let c4_i32_72 : BitVec 32 := 4#32
  let v113 : BitVec 32 := Scalar.muli v53 c4_i32_72
  let v114 : BitVec 32 := Scalar.addi c0_i32_73 v113
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let c1_i32_27 : BitVec 32 := 1#32
  let v54 : BitVec 32 := Scalar.xori v38 c1_i32_27
  let c2_i32_74 : BitVec 32 := 2#32
  let v115 : BitVec 32 := Scalar.muli v54 c2_i32_74
  let v116 : BitVec 32 := Scalar.addi v114 v115
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let c0_i32_28 : BitVec 32 := 0#32
  let v55 : BitVec 32 := Scalar.xori v41 c0_i32_28
  let c1_i32_75 : BitVec 32 := 1#32
  let v117 : BitVec 32 := Scalar.muli v55 c1_i32_75
  let v118 : BitVec 32 := Scalar.addi v116 v117
  v118.toNat
def k0_dev3 (d33 : Dev nD) : Nat :=
  let c0_i32_83 : BitVec 32 := 0#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let c0_i32_31 : BitVec 32 := 0#32
  let v60 : BitVec 32 := Scalar.xori v35 c0_i32_31
  let c4_i32_82 : BitVec 32 := 4#32
  let v127 : BitVec 32 := Scalar.muli v60 c4_i32_82
  let v128 : BitVec 32 := Scalar.addi c0_i32_83 v127
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let c1_i32_32 : BitVec 32 := 1#32
  let v61 : BitVec 32 := Scalar.xori v38 c1_i32_32
  let c2_i32_84 : BitVec 32 := 2#32
  let v129 : BitVec 32 := Scalar.muli v61 c2_i32_84
  let v130 : BitVec 32 := Scalar.addi v128 v129
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let c1_i32_33 : BitVec 32 := 1#32
  let v62 : BitVec 32 := Scalar.xori v41 c1_i32_33
  let c1_i32_85 : BitVec 32 := 1#32
  let v131 : BitVec 32 := Scalar.muli v62 c1_i32_85
  let v132 : BitVec 32 := Scalar.addi v130 v131
  v132.toNat
def k0_dev4 (d33 : Dev nD) : Nat :=
  let c0_i32_93 : BitVec 32 := 0#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let c1_i32_36 : BitVec 32 := 1#32
  let v67 : BitVec 32 := Scalar.xori v35 c1_i32_36
  let c4_i32_92 : BitVec 32 := 4#32
  let v141 : BitVec 32 := Scalar.muli v67 c4_i32_92
  let v142 : BitVec 32 := Scalar.addi c0_i32_93 v141
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let c0_i32_37 : BitVec 32 := 0#32
  let v68 : BitVec 32 := Scalar.xori v38 c0_i32_37
  let c2_i32_94 : BitVec 32 := 2#32
  let v143 : BitVec 32 := Scalar.muli v68 c2_i32_94
  let v144 : BitVec 32 := Scalar.addi v142 v143
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let c0_i32_38 : BitVec 32 := 0#32
  let v69 : BitVec 32 := Scalar.xori v41 c0_i32_38
  let c1_i32_95 : BitVec 32 := 1#32
  let v145 : BitVec 32 := Scalar.muli v69 c1_i32_95
  let v146 : BitVec 32 := Scalar.addi v144 v145
  v146.toNat
def k0_dev5 (d33 : Dev nD) : Nat :=
  let c0_i32_103 : BitVec 32 := 0#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let c1_i32_41 : BitVec 32 := 1#32
  let v74 : BitVec 32 := Scalar.xori v35 c1_i32_41
  let c4_i32_102 : BitVec 32 := 4#32
  let v155 : BitVec 32 := Scalar.muli v74 c4_i32_102
  let v156 : BitVec 32 := Scalar.addi c0_i32_103 v155
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let c0_i32_42 : BitVec 32 := 0#32
  let v75 : BitVec 32 := Scalar.xori v38 c0_i32_42
  let c2_i32_104 : BitVec 32 := 2#32
  let v157 : BitVec 32 := Scalar.muli v75 c2_i32_104
  let v158 : BitVec 32 := Scalar.addi v156 v157
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let c1_i32_43 : BitVec 32 := 1#32
  let v76 : BitVec 32 := Scalar.xori v41 c1_i32_43
  let c1_i32_105 : BitVec 32 := 1#32
  let v159 : BitVec 32 := Scalar.muli v76 c1_i32_105
  let v160 : BitVec 32 := Scalar.addi v158 v159
  v160.toNat
def k0_dev6 (d33 : Dev nD) : Nat :=
  let c0_i32_112 : BitVec 32 := 0#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let c1_i32_46 : BitVec 32 := 1#32
  let v81 : BitVec 32 := Scalar.xori v35 c1_i32_46
  let c4_i32_111 : BitVec 32 := 4#32
  let v169 : BitVec 32 := Scalar.muli v81 c4_i32_111
  let v170 : BitVec 32 := Scalar.addi c0_i32_112 v169
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let c1_i32_47 : BitVec 32 := 1#32
  let v82 : BitVec 32 := Scalar.xori v38 c1_i32_47
  let c2_i32_113 : BitVec 32 := 2#32
  let v171 : BitVec 32 := Scalar.muli v82 c2_i32_113
  let v172 : BitVec 32 := Scalar.addi v170 v171
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let c0_i32_48 : BitVec 32 := 0#32
  let v83 : BitVec 32 := Scalar.xori v41 c0_i32_48
  let c1_i32_114 : BitVec 32 := 1#32
  let v173 : BitVec 32 := Scalar.muli v83 c1_i32_114
  let v174 : BitVec 32 := Scalar.addi v172 v173
  v174.toNat
def k0_dev7 (d33 : Dev nD) : Nat :=
  let c0_i32_121 : BitVec 32 := 0#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let c1_i32_51 : BitVec 32 := 1#32
  let v88 : BitVec 32 := Scalar.xori v35 c1_i32_51
  let c4_i32_120 : BitVec 32 := 4#32
  let v183 : BitVec 32 := Scalar.muli v88 c4_i32_120
  let v184 : BitVec 32 := Scalar.addi c0_i32_121 v183
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let c1_i32_52 : BitVec 32 := 1#32
  let v89 : BitVec 32 := Scalar.xori v38 c1_i32_52
  let c2_i32_122 : BitVec 32 := 2#32
  let v185 : BitVec 32 := Scalar.muli v89 c2_i32_122
  let v186 : BitVec 32 := Scalar.addi v184 v185
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let c1_i32_53 : BitVec 32 := 1#32
  let v90 : BitVec 32 := Scalar.xori v41 c1_i32_53
  let c1_i32_123 : BitVec 32 := 1#32
  let v187 : BitVec 32 := Scalar.muli v90 c1_i32_123
  let v188 : BitVec 32 := Scalar.addi v186 v187
  v188.toNat
def k0_cond2 (i : grid0.Coords) : BitVec 1 :=
  let arg0 : BitVec 32 := BitVec.ofNat 32 (i 0).val
  let c7_i32 : BitVec 32 := 7#32
  let v5 : BitVec 1 := Scalar.cmpi .eq arg0 c7_i32
  let arg1 : BitVec 32 := BitVec.ofNat 32 (i 1).val
  let c3_i32 : BitVec 32 := 3#32
  let v6 : BitVec 1 := Scalar.cmpi .eq arg1 c3_i32
  let v8 : BitVec 1 := Scalar.andi v5 v6
  let arg2 : BitVec 32 := BitVec.ofNat 32 (i 2).val
  let c0_i32_2 : BitVec 32 := 0#32
  let v7 : BitVec 1 := Scalar.cmpi .eq arg2 c0_i32_2
  let v9 : BitVec 1 := Scalar.andi v8 v7
  let v31 : BitVec 32 := Scalar.extui v9
  let c0_i32_15 : BitVec 32 := 0#32
  let v32 : BitVec 1 := Scalar.cmpi .ne v31 c0_i32_15
  v32

def k0_off3 (d33 : Dev nD) (c0_i32_21 : BitVec 32) (c0_i32_22 : BitVec 32) (c1_i32_23 : BitVec 32) : Fin 3 → Nat :=
  let c4_i32_24 : BitVec 32 := 4#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let v46 : BitVec 32 := Scalar.xori v35 c0_i32_21
  let v49 : BitVec 32 := Scalar.muli c4_i32_24 v46
  let c2_i32_25 : BitVec 32 := 2#32
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let v47 : BitVec 32 := Scalar.xori v38 c0_i32_22
  let v50 : BitVec 32 := Scalar.muli c2_i32_25 v47
  let v51 : BitVec 32 := Scalar.addi v49 v50
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let v48 : BitVec 32 := Scalar.xori v41 c1_i32_23
  let v52 : BitVec 32 := Scalar.addi v51 v48
  let c0_i32_62 : BitVec 32 := 0#32
  let c0_i32_63 : BitVec 32 := 0#32
  ![v52.toNat, 0, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off4 (d33 : Dev nD) : Fin 3 → Nat :=
  let c4_i32_19 : BitVec 32 := 4#32
  let v33 : BitVec 32 := Dev.word d33
  let c4_i32 : BitVec 32 := 4#32
  let v34 : BitVec 32 := Scalar.divsi v33 c4_i32
  let c2_i32 : BitVec 32 := 2#32
  let v35 : BitVec 32 := Scalar.remsi v34 c2_i32
  let v42 : BitVec 32 := Scalar.muli c4_i32_19 v35
  let c2_i32_20 : BitVec 32 := 2#32
  let v36 : BitVec 32 := Dev.word d33
  let c2_i32_17 : BitVec 32 := 2#32
  let v37 : BitVec 32 := Scalar.divsi v36 c2_i32_17
  let c2_i32_16 : BitVec 32 := 2#32
  let v38 : BitVec 32 := Scalar.remsi v37 c2_i32_16
  let v43 : BitVec 32 := Scalar.muli c2_i32_20 v38
  let v44 : BitVec 32 := Scalar.addi v42 v43
  let v39 : BitVec 32 := Dev.word d33
  let c1_i32 : BitVec 32 := 1#32
  let v40 : BitVec 32 := Scalar.divsi v39 c1_i32
  let c2_i32_18 : BitVec 32 := 2#32
  let v41 : BitVec 32 := Scalar.remsi v40 c2_i32_18
  let v45 : BitVec 32 := Scalar.addi v44 v41
  let c0_i32_129 : BitVec 32 := 0#32
  let c0_i32_130 : BitVec 32 := 0#32
  ![v45.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfOutDxRefIdeal.lean ====
abbrev S65536x1024 : Shape := ⟨2, ![65536, 1024]⟩
abbrev S4096x1024 : Shape := ⟨2, ![4096, 1024]⟩
abbrev S8x1024 : Shape := ⟨2, ![8, 1024]⟩
abbrev S65536x4096 : Shape := ⟨2, ![65536, 4096]⟩
abbrev S64x512x1024 : Shape := ⟨3, ![64, 512, 1024]⟩
abbrev S8x8192x1024 : Shape := ⟨3, ![8, 8192, 1024]⟩
abbrev S8x1x1024 : Shape := ⟨3, ![8, 1, 1024]⟩
abbrev S1024x4096 : Shape := ⟨2, ![1024, 4096]⟩
abbrev S_ : Shape := ⟨0, ![]⟩
abbrev S8x8x512x1024 : Shape := ⟨4, ![8, 8, 512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4096x1024, .bf16⟩
  | .hbm, ⟨2, _⟩ => ⟨S8x1024, .f32⟩
  | .hbm, ⟨3, _⟩ => ⟨S65536x4096, .f32⟩
  | .hbm, ⟨4, _⟩ => ⟨S64x512x1024, .bf16⟩
  | .hbm, ⟨5, _⟩ => ⟨S8x8192x1024, .f32⟩
  | .hbm, ⟨6, _⟩ => ⟨S8x1x1024, .f32⟩
  | .hbm, ⟨7, _⟩ => ⟨S8x8192x1024, .f32⟩
  | .hbm, ⟨8, _⟩ => ⟨S8x8192x1024, .f32⟩
  | .hbm, ⟨9, _⟩ => ⟨S65536x1024, .f32⟩
  | .hbm, ⟨10, _⟩ => ⟨S4096x1024, .f32⟩
  | .hbm, ⟨11, _⟩ => ⟨S1024x4096, .f32⟩
  | .hbm, ⟨12, _⟩ => ⟨S65536x4096, .f32⟩
  | .hbm, ⟨13, _⟩ => ⟨S_, .f32⟩
  | .hbm, ⟨14, _⟩ => ⟨S65536x4096, .f32⟩
  | .hbm, ⟨15, _⟩ => ⟨S65536x4096, .f32⟩
  | .hbm, ⟨16, _⟩ => ⟨S_, .f32⟩
  | .hbm, ⟨17, _⟩ => ⟨S65536x4096, .f32⟩
  | .hbm, ⟨18, _⟩ => ⟨S65536x4096, .f32⟩
  | .hbm, ⟨19, _⟩ => ⟨S65536x4096, .f32⟩
  | .hbm, ⟨20, _⟩ => ⟨S65536x4096, .bf16⟩
  | .hbm, ⟨21, _⟩ => ⟨S8x8x512x1024, .bf16⟩
  | .hbm, ⟨22, _⟩ => ⟨S8x8x512x1024, .bf16⟩
  | .hbm, ⟨23, _⟩ => ⟨S64x512x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfInDx.lean ====
abbrev S8192x4096 : Shape := ⟨2, ![8192, 4096]⟩
abbrev S1024x4096 : Shape := ⟨2, ![1024, 4096]⟩
abbrev S8x1024x512 : Shape := ⟨3, ![8, 1024, 512]⟩
abbrev S8192x1024 : Shape := ⟨2, ![8192, 1024]⟩
abbrev S1024x1024 : Shape := ⟨2, ![1024, 1024]⟩
abbrev S7 : Shape := ⟨1, ![7]⟩
abbrev S_ : Shape := ⟨0, ![]⟩
abbrev S1x1024x512 : Shape := ⟨3, ![1, 1024, 512]⟩
abbrev S1024x512 : Shape := ⟨2, ![1024, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8x1024x512, .bf16⟩
  | .hbm, ⟨3, _⟩ => ⟨S8192x1024, .f32⟩
  | .hbm, ⟨4, _⟩ => ⟨S8x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![8, 1, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d30 : Dev nD) : Fin 3 → Nat :=
  let c4_i32_18 : BitVec 32 := 4#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let v39 : BitVec 32 := Scalar.muli c4_i32_18 v32
  let c2_i32_19 : BitVec 32 := 2#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v40 : BitVec 32 := Scalar.muli c2_i32_19 v35
  let v41 : BitVec 32 := Scalar.addi v39 v40
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let v42 : BitVec 32 := Scalar.addi v41 v38
  let c0_i32_55 : BitVec 32 := 0#32
  let c0_i32_56 : BitVec 32 := 0#32
  ![v42.toNat, 0, 0]
def k0_off2 (d30 : Dev nD) (c0_i32_20 : BitVec 32) (c0_i32_21 : BitVec 32) (c1_i32_22 : BitVec 32) : Fin 3 → Nat :=
  let c4_i32_23 : BitVec 32 := 4#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let v43 : BitVec 32 := Scalar.xori v32 c0_i32_20
  let v46 : BitVec 32 := Scalar.muli c4_i32_23 v43
  let c2_i32_24 : BitVec 32 := 2#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v44 : BitVec 32 := Scalar.xori v35 c0_i32_21
  let v47 : BitVec 32 := Scalar.muli c2_i32_24 v44
  let v48 : BitVec 32 := Scalar.addi v46 v47
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let v45 : BitVec 32 := Scalar.xori v38 c1_i32_22
  let v49 : BitVec 32 := Scalar.addi v48 v45
  let c0_i32_67 : BitVec 32 := 0#32
  let c0_i32_68 : BitVec 32 := 0#32
  ![v49.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d30 : Dev nD) : Nat :=
  let c0_i32_62 : BitVec 32 := 0#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let c0_i32_20 : BitVec 32 := 0#32
  let v43 : BitVec 32 := Scalar.xori v32 c0_i32_20
  let c4_i32_61 : BitVec 32 := 4#32
  let v96 : BitVec 32 := Scalar.muli v43 c4_i32_61
  let v97 : BitVec 32 := Scalar.addi c0_i32_62 v96
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let c0_i32_21 : BitVec 32 := 0#32
  let v44 : BitVec 32 := Scalar.xori v35 c0_i32_21
  let c2_i32_63 : BitVec 32 := 2#32
  let v98 : BitVec 32 := Scalar.muli v44 c2_i32_63
  let v99 : BitVec 32 := Scalar.addi v97 v98
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let c1_i32_22 : BitVec 32 := 1#32
  let v45 : BitVec 32 := Scalar.xori v38 c1_i32_22
  let c1_i32_64 : BitVec 32 := 1#32
  let v100 : BitVec 32 := Scalar.muli v45 c1_i32_64
  let v101 : BitVec 32 := Scalar.addi v99 v100
  v101.toNat
def k0_dev2 (d30 : Dev nD) : Nat :=
  let c0_i32_72 : BitVec 32 := 0#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let c0_i32_25 : BitVec 32 := 0#32
  let v50 : BitVec 32 := Scalar.xori v32 c0_i32_25
  let c4_i32_71 : BitVec 32 := 4#32
  let v110 : BitVec 32 := Scalar.muli v50 c4_i32_71
  let v111 : BitVec 32 := Scalar.addi c0_i32_72 v110
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let c1_i32_26 : BitVec 32 := 1#32
  let v51 : BitVec 32 := Scalar.xori v35 c1_i32_26
  let c2_i32_73 : BitVec 32 := 2#32
  let v112 : BitVec 32 := Scalar.muli v51 c2_i32_73
  let v113 : BitVec 32 := Scalar.addi v111 v112
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let c0_i32_27 : BitVec 32 := 0#32
  let v52 : BitVec 32 := Scalar.xori v38 c0_i32_27
  let c1_i32_74 : BitVec 32 := 1#32
  let v114 : BitVec 32 := Scalar.muli v52 c1_i32_74
  let v115 : BitVec 32 := Scalar.addi v113 v114
  v115.toNat
def k0_dev3 (d30 : Dev nD) : Nat :=
  let c0_i32_82 : BitVec 32 := 0#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let c0_i32_30 : BitVec 32 := 0#32
  let v57 : BitVec 32 := Scalar.xori v32 c0_i32_30
  let c4_i32_81 : BitVec 32 := 4#32
  let v124 : BitVec 32 := Scalar.muli v57 c4_i32_81
  let v125 : BitVec 32 := Scalar.addi c0_i32_82 v124
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let c1_i32_31 : BitVec 32 := 1#32
  let v58 : BitVec 32 := Scalar.xori v35 c1_i32_31
  let c2_i32_83 : BitVec 32 := 2#32
  let v126 : BitVec 32 := Scalar.muli v58 c2_i32_83
  let v127 : BitVec 32 := Scalar.addi v125 v126
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let c1_i32_32 : BitVec 32 := 1#32
  let v59 : BitVec 32 := Scalar.xori v38 c1_i32_32
  let c1_i32_84 : BitVec 32 := 1#32
  let v128 : BitVec 32 := Scalar.muli v59 c1_i32_84
  let v129 : BitVec 32 := Scalar.addi v127 v128
  v129.toNat
def k0_dev4 (d30 : Dev nD) : Nat :=
  let c0_i32_92 : BitVec 32 := 0#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let c1_i32_35 : BitVec 32 := 1#32
  let v64 : BitVec 32 := Scalar.xori v32 c1_i32_35
  let c4_i32_91 : BitVec 32 := 4#32
  let v138 : BitVec 32 := Scalar.muli v64 c4_i32_91
  let v139 : BitVec 32 := Scalar.addi c0_i32_92 v138
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let c0_i32_36 : BitVec 32 := 0#32
  let v65 : BitVec 32 := Scalar.xori v35 c0_i32_36
  let c2_i32_93 : BitVec 32 := 2#32
  let v140 : BitVec 32 := Scalar.muli v65 c2_i32_93
  let v141 : BitVec 32 := Scalar.addi v139 v140
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let c0_i32_37 : BitVec 32 := 0#32
  let v66 : BitVec 32 := Scalar.xori v38 c0_i32_37
  let c1_i32_94 : BitVec 32 := 1#32
  let v142 : BitVec 32 := Scalar.muli v66 c1_i32_94
  let v143 : BitVec 32 := Scalar.addi v141 v142
  v143.toNat
def k0_dev5 (d30 : Dev nD) : Nat :=
  let c0_i32_102 : BitVec 32 := 0#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let c1_i32_40 : BitVec 32 := 1#32
  let v71 : BitVec 32 := Scalar.xori v32 c1_i32_40
  let c4_i32_101 : BitVec 32 := 4#32
  let v152 : BitVec 32 := Scalar.muli v71 c4_i32_101
  let v153 : BitVec 32 := Scalar.addi c0_i32_102 v152
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let c0_i32_41 : BitVec 32 := 0#32
  let v72 : BitVec 32 := Scalar.xori v35 c0_i32_41
  let c2_i32_103 : BitVec 32 := 2#32
  let v154 : BitVec 32 := Scalar.muli v72 c2_i32_103
  let v155 : BitVec 32 := Scalar.addi v153 v154
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let c1_i32_42 : BitVec 32 := 1#32
  let v73 : BitVec 32 := Scalar.xori v38 c1_i32_42
  let c1_i32_104 : BitVec 32 := 1#32
  let v156 : BitVec 32 := Scalar.muli v73 c1_i32_104
  let v157 : BitVec 32 := Scalar.addi v155 v156
  v157.toNat
def k0_dev6 (d30 : Dev nD) : Nat :=
  let c0_i32_111 : BitVec 32 := 0#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let c1_i32_45 : BitVec 32 := 1#32
  let v78 : BitVec 32 := Scalar.xori v32 c1_i32_45
  let c4_i32_110 : BitVec 32 := 4#32
  let v166 : BitVec 32 := Scalar.muli v78 c4_i32_110
  let v167 : BitVec 32 := Scalar.addi c0_i32_111 v166
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let c1_i32_46 : BitVec 32 := 1#32
  let v79 : BitVec 32 := Scalar.xori v35 c1_i32_46
  let c2_i32_112 : BitVec 32 := 2#32
  let v168 : BitVec 32 := Scalar.muli v79 c2_i32_112
  let v169 : BitVec 32 := Scalar.addi v167 v168
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let c0_i32_47 : BitVec 32 := 0#32
  let v80 : BitVec 32 := Scalar.xori v38 c0_i32_47
  let c1_i32_113 : BitVec 32 := 1#32
  let v170 : BitVec 32 := Scalar.muli v80 c1_i32_113
  let v171 : BitVec 32 := Scalar.addi v169 v170
  v171.toNat
def k0_dev7 (d30 : Dev nD) : Nat :=
  let c0_i32_120 : BitVec 32 := 0#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let c1_i32_50 : BitVec 32 := 1#32
  let v85 : BitVec 32 := Scalar.xori v32 c1_i32_50
  let c4_i32_119 : BitVec 32 := 4#32
  let v180 : BitVec 32 := Scalar.muli v85 c4_i32_119
  let v181 : BitVec 32 := Scalar.addi c0_i32_120 v180
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let c1_i32_51 : BitVec 32 := 1#32
  let v86 : BitVec 32 := Scalar.xori v35 c1_i32_51
  let c2_i32_121 : BitVec 32 := 2#32
  let v182 : BitVec 32 := Scalar.muli v86 c2_i32_121
  let v183 : BitVec 32 := Scalar.addi v181 v182
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let c1_i32_52 : BitVec 32 := 1#32
  let v87 : BitVec 32 := Scalar.xori v38 c1_i32_52
  let c1_i32_122 : BitVec 32 := 1#32
  let v184 : BitVec 32 := Scalar.muli v87 c1_i32_122
  let v185 : BitVec 32 := Scalar.addi v183 v184
  v185.toNat
def k0_cond5 (i : grid0.Coords) : BitVec 1 :=
  let arg0 : BitVec 32 := BitVec.ofNat 32 (i 0).val
  let c7_i32 : BitVec 32 := 7#32
  let v5 : BitVec 1 := Scalar.cmpi .eq arg0 c7_i32
  let arg1 : BitVec 32 := BitVec.ofNat 32 (i 1).val
  let c0_i32_2 : BitVec 32 := 0#32
  let v6 : BitVec 1 := Scalar.cmpi .eq arg1 c0_i32_2
  let v8 : BitVec 1 := Scalar.andi v5 v6
  let arg2 : BitVec 32 := BitVec.ofNat 32 (i 2).val
  let c3_i32 : BitVec 32 := 3#32
  let v7 : BitVec 1 := Scalar.cmpi .eq arg2 c3_i32
  let v9 : BitVec 1 := Scalar.andi v8 v7
  let v28 : BitVec 32 := Scalar.extui v9
  let c0_i32_14 : BitVec 32 := 0#32
  let v29 : BitVec 1 := Scalar.cmpi .ne v28 c0_i32_14
  v29

def k0_off3 (d30 : Dev nD) (c0_i32_20 : BitVec 32) (c0_i32_21 : BitVec 32) (c1_i32_22 : BitVec 32) : Fin 3 → Nat :=
  let c4_i32_23 : BitVec 32 := 4#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let v43 : BitVec 32 := Scalar.xori v32 c0_i32_20
  let v46 : BitVec 32 := Scalar.muli c4_i32_23 v43
  let c2_i32_24 : BitVec 32 := 2#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v44 : BitVec 32 := Scalar.xori v35 c0_i32_21
  let v47 : BitVec 32 := Scalar.muli c2_i32_24 v44
  let v48 : BitVec 32 := Scalar.addi v46 v47
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let v45 : BitVec 32 := Scalar.xori v38 c1_i32_22
  let v49 : BitVec 32 := Scalar.addi v48 v45
  let c0_i32_61 : BitVec 32 := 0#32
  let c0_i32_62 : BitVec 32 := 0#32
  ![v49.toNat, 0, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off4 (d30 : Dev nD) : Fin 3 → Nat :=
  let c4_i32_18 : BitVec 32 := 4#32
  let v30 : BitVec 32 := Dev.word d30
  let c4_i32 : BitVec 32 := 4#32
  let v31 : BitVec 32 := Scalar.divsi v30 c4_i32
  let c2_i32 : BitVec 32 := 2#32
  let v32 : BitVec 32 := Scalar.remsi v31 c2_i32
  let v39 : BitVec 32 := Scalar.muli c4_i32_18 v32
  let c2_i32_19 : BitVec 32 := 2#32
  let v33 : BitVec 32 := Dev.word d30
  let c2_i32_16 : BitVec 32 := 2#32
  let v34 : BitVec 32 := Scalar.divsi v33 c2_i32_16
  let c2_i32_15 : BitVec 32 := 2#32
  let v35 : BitVec 32 := Scalar.remsi v34 c2_i32_15
  let v40 : BitVec 32 := Scalar.muli c2_i32_19 v35
  let v41 : BitVec 32 := Scalar.addi v39 v40
  let v36 : BitVec 32 := Dev.word d30
  let c1_i32 : BitVec 32 := 1#32
  let v37 : BitVec 32 := Scalar.divsi v36 c1_i32
  let c2_i32_17 : BitVec 32 := 2#32
  let v38 : BitVec 32 := Scalar.remsi v37 c2_i32_17
  let v42 : BitVec 32 := Scalar.addi v41 v38
  let c0_i32_128 : BitVec 32 := 0#32
  let c0_i32_129 : BitVec 32 := 0#32
  ![v42.toNat, 0, 0]
def k0_cond4 (i : grid0.Coords) : BitVec 1 :=
  let arg2 : BitVec 32 := BitVec.ofNat 32 (i 2).val
  let c3_i32_12 : BitVec 32 := 3#32
  let v25 : BitVec 1 := Scalar.cmpi .eq arg2 c3_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfInDxRefIdeal.lean ====
abbrev S65536x4096 : Shape := ⟨2, ![65536, 4096]⟩
abbrev S1024x4096 : Shape := ⟨2, ![1024, 4096]⟩
abbrev S64x1024x512 : Shape := ⟨3, ![64, 1024, 512]⟩
abbrev S4096x1024 : Shape := ⟨2, ![4096, 1024]⟩
abbrev S65536x1024 : Shape := ⟨2, ![65536, 1024]⟩
abbrev S8x8x1024x512 : Shape := ⟨4, ![8, 8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S65536x4096, .bf16⟩
  | .hbm, ⟨1, _⟩ => ⟨S1024x4096, .bf16⟩
  | .hbm, ⟨2, _⟩ => ⟨S64x1024x512, .bf16⟩
  | .hbm, ⟨3, _⟩ => ⟨S65536x4096, .f32⟩
  | .hbm, ⟨4, _⟩ => ⟨S1024x4096, .f32⟩
  | .hbm, ⟨5, _⟩ => ⟨S4096x1024, .f32⟩
  | .hbm, ⟨6, _⟩ => ⟨S65536x1024, .f32⟩
  | .hbm, ⟨7, _⟩ => ⟨S8x8x1024x512, .bf16⟩
  | .hbm, ⟨8, _⟩ => ⟨S8x8x1024x512, .bf16⟩
  | .hbm, ⟨9, _⟩ => ⟨S64x1024x512, .bf16⟩
  | _, _ => ⟨S65536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S8192x1024 : Shape := ⟨2, ![8192, 1024]⟩
abbrev S1024x1024 : Shape := ⟨2, ![1024, 1024]⟩
abbrev S1x1024 : Shape := ⟨2, ![1, 1024]⟩
abbrev S8x128x1024 : Shape := ⟨3, ![8, 128, 1024]⟩
abbrev S7 : Shape := ⟨1, ![7]⟩
abbrev S_ : Shape := ⟨0, ![]⟩
abbrev S1x128x1024 : Shape := ⟨3, ![1, 128, 1024]⟩
abbrev S128x1024 : Shape := ⟨2, ![128, 1024]⟩
abbrev S1 : Shape := ⟨1, ![1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1x1024, .f32⟩
  | .hbm, ⟨3, _⟩ => ⟨S8x128x1024, .bf16⟩
  | .hbm, ⟨4, _⟩ => ⟨S8192x1024, .f32⟩
  | .hbm, ⟨5, _⟩ => ⟨S8x128x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 8
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_4 : BitVec 32 := 0#32
  let v11 : BitVec 1 := Scalar.cmpi .ne v10 c0_i32_4
  v11

def k0_off1 (d25 : Dev nD) : Fin 3 → Nat :=
  let c4_i32_16 : BitVec 32 := 4#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let v34 : BitVec 32 := Scalar.muli c4_i32_16 v27
  let c2_i32_17 : BitVec 32 := 2#32
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let v35 : BitVec 32 := Scalar.muli c2_i32_17 v30
  let v36 : BitVec 32 := Scalar.addi v34 v35
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let v37 : BitVec 32 := Scalar.addi v36 v33
  let c0_i32_53 : BitVec 32 := 0#32
  let c0_i32_54 : BitVec 32 := 0#32
  ![v37.toNat, 0, 0]
def k0_off2 (d25 : Dev nD) (c0_i32_18 : BitVec 32) (c0_i32_19 : BitVec 32) (c1_i32_20 : BitVec 32) : Fin 3 → Nat :=
  let c4_i32_21 : BitVec 32 := 4#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let v38 : BitVec 32 := Scalar.xori v27 c0_i32_18
  let v41 : BitVec 32 := Scalar.muli c4_i32_21 v38
  let c2_i32_22 : BitVec 32 := 2#32
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let v39 : BitVec 32 := Scalar.xori v30 c0_i32_19
  let v42 : BitVec 32 := Scalar.muli c2_i32_22 v39
  let v43 : BitVec 32 := Scalar.addi v41 v42
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let v40 : BitVec 32 := Scalar.xori v33 c1_i32_20
  let v44 : BitVec 32 := Scalar.addi v43 v40
  let c0_i32_65 : BitVec 32 := 0#32
  let c0_i32_66 : BitVec 32 := 0#32
  ![v44.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d25 : Dev nD) : Nat :=
  let c0_i32_60 : BitVec 32 := 0#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let c0_i32_18 : BitVec 32 := 0#32
  let v38 : BitVec 32 := Scalar.xori v27 c0_i32_18
  let c4_i32_59 : BitVec 32 := 4#32
  let v91 : BitVec 32 := Scalar.muli v38 c4_i32_59
  let v92 : BitVec 32 := Scalar.addi c0_i32_60 v91
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let c0_i32_19 : BitVec 32 := 0#32
  let v39 : BitVec 32 := Scalar.xori v30 c0_i32_19
  let c2_i32_61 : BitVec 32 := 2#32
  let v93 : BitVec 32 := Scalar.muli v39 c2_i32_61
  let v94 : BitVec 32 := Scalar.addi v92 v93
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let c1_i32_20 : BitVec 32 := 1#32
  let v40 : BitVec 32 := Scalar.xori v33 c1_i32_20
  let c1_i32_62 : BitVec 32 := 1#32
  let v95 : BitVec 32 := Scalar.muli v40 c1_i32_62
  let v96 : BitVec 32 := Scalar.addi v94 v95
  v96.toNat
def k0_dev2 (d25 : Dev nD) : Nat :=
  let c0_i32_70 : BitVec 32 := 0#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let c0_i32_23 : BitVec 32 := 0#32
  let v45 : BitVec 32 := Scalar.xori v27 c0_i32_23
  let c4_i32_69 : BitVec 32 := 4#32
  let v105 : BitVec 32 := Scalar.muli v45 c4_i32_69
  let v106 : BitVec 32 := Scalar.addi c0_i32_70 v105
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let c1_i32_24 : BitVec 32 := 1#32
  let v46 : BitVec 32 := Scalar.xori v30 c1_i32_24
  let c2_i32_71 : BitVec 32 := 2#32
  let v107 : BitVec 32 := Scalar.muli v46 c2_i32_71
  let v108 : BitVec 32 := Scalar.addi v106 v107
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let c0_i32_25 : BitVec 32 := 0#32
  let v47 : BitVec 32 := Scalar.xori v33 c0_i32_25
  let c1_i32_72 : BitVec 32 := 1#32
  let v109 : BitVec 32 := Scalar.muli v47 c1_i32_72
  let v110 : BitVec 32 := Scalar.addi v108 v109
  v110.toNat
def k0_dev3 (d25 : Dev nD) : Nat :=
  let c0_i32_80 : BitVec 32 := 0#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let c0_i32_28 : BitVec 32 := 0#32
  let v52 : BitVec 32 := Scalar.xori v27 c0_i32_28
  let c4_i32_79 : BitVec 32 := 4#32
  let v119 : BitVec 32 := Scalar.muli v52 c4_i32_79
  let v120 : BitVec 32 := Scalar.addi c0_i32_80 v119
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let c1_i32_29 : BitVec 32 := 1#32
  let v53 : BitVec 32 := Scalar.xori v30 c1_i32_29
  let c2_i32_81 : BitVec 32 := 2#32
  let v121 : BitVec 32 := Scalar.muli v53 c2_i32_81
  let v122 : BitVec 32 := Scalar.addi v120 v121
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let c1_i32_30 : BitVec 32 := 1#32
  let v54 : BitVec 32 := Scalar.xori v33 c1_i32_30
  let c1_i32_82 : BitVec 32 := 1#32
  let v123 : BitVec 32 := Scalar.muli v54 c1_i32_82
  let v124 : BitVec 32 := Scalar.addi v122 v123
  v124.toNat
def k0_dev4 (d25 : Dev nD) : Nat :=
  let c0_i32_89 : BitVec 32 := 0#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let c1_i32_33 : BitVec 32 := 1#32
  let v59 : BitVec 32 := Scalar.xori v27 c1_i32_33
  let c4_i32_88 : BitVec 32 := 4#32
  let v133 : BitVec 32 := Scalar.muli v59 c4_i32_88
  let v134 : BitVec 32 := Scalar.addi c0_i32_89 v133
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let c0_i32_34 : BitVec 32 := 0#32
  let v60 : BitVec 32 := Scalar.xori v30 c0_i32_34
  let c2_i32_90 : BitVec 32 := 2#32
  let v135 : BitVec 32 := Scalar.muli v60 c2_i32_90
  let v136 : BitVec 32 := Scalar.addi v134 v135
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let c0_i32_35 : BitVec 32 := 0#32
  let v61 : BitVec 32 := Scalar.xori v33 c0_i32_35
  let c1_i32_91 : BitVec 32 := 1#32
  let v137 : BitVec 32 := Scalar.muli v61 c1_i32_91
  let v138 : BitVec 32 := Scalar.addi v136 v137
  v138.toNat
def k0_dev5 (d25 : Dev nD) : Nat :=
  let c0_i32_99 : BitVec 32 := 0#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let c1_i32_38 : BitVec 32 := 1#32
  let v66 : BitVec 32 := Scalar.xori v27 c1_i32_38
  let c4_i32_98 : BitVec 32 := 4#32
  let v147 : BitVec 32 := Scalar.muli v66 c4_i32_98
  let v148 : BitVec 32 := Scalar.addi c0_i32_99 v147
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let c0_i32_39 : BitVec 32 := 0#32
  let v67 : BitVec 32 := Scalar.xori v30 c0_i32_39
  let c2_i32_100 : BitVec 32 := 2#32
  let v149 : BitVec 32 := Scalar.muli v67 c2_i32_100
  let v150 : BitVec 32 := Scalar.addi v148 v149
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let c1_i32_40 : BitVec 32 := 1#32
  let v68 : BitVec 32 := Scalar.xori v33 c1_i32_40
  let c1_i32_101 : BitVec 32 := 1#32
  let v151 : BitVec 32 := Scalar.muli v68 c1_i32_101
  let v152 : BitVec 32 := Scalar.addi v150 v151
  v152.toNat
def k0_dev6 (d25 : Dev nD) : Nat :=
  let c0_i32_108 : BitVec 32 := 0#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let c1_i32_43 : BitVec 32 := 1#32
  let v73 : BitVec 32 := Scalar.xori v27 c1_i32_43
  let c4_i32_107 : BitVec 32 := 4#32
  let v161 : BitVec 32 := Scalar.muli v73 c4_i32_107
  let v162 : BitVec 32 := Scalar.addi c0_i32_108 v161
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let c1_i32_44 : BitVec 32 := 1#32
  let v74 : BitVec 32 := Scalar.xori v30 c1_i32_44
  let c2_i32_109 : BitVec 32 := 2#32
  let v163 : BitVec 32 := Scalar.muli v74 c2_i32_109
  let v164 : BitVec 32 := Scalar.addi v162 v163
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let c0_i32_45 : BitVec 32 := 0#32
  let v75 : BitVec 32 := Scalar.xori v33 c0_i32_45
  let c1_i32_110 : BitVec 32 := 1#32
  let v165 : BitVec 32 := Scalar.muli v75 c1_i32_110
  let v166 : BitVec 32 := Scalar.addi v164 v165
  v166.toNat
def k0_dev7 (d25 : Dev nD) : Nat :=
  let c0_i32_117 : BitVec 32 := 0#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let c1_i32_48 : BitVec 32 := 1#32
  let v80 : BitVec 32 := Scalar.xori v27 c1_i32_48
  let c4_i32_116 : BitVec 32 := 4#32
  let v175 : BitVec 32 := Scalar.muli v80 c4_i32_116
  let v176 : BitVec 32 := Scalar.addi c0_i32_117 v175
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let c1_i32_49 : BitVec 32 := 1#32
  let v81 : BitVec 32 := Scalar.xori v30 c1_i32_49
  let c2_i32_118 : BitVec 32 := 2#32
  let v177 : BitVec 32 := Scalar.muli v81 c2_i32_118
  let v178 : BitVec 32 := Scalar.addi v176 v177
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let c1_i32_50 : BitVec 32 := 1#32
  let v82 : BitVec 32 := Scalar.xori v33 c1_i32_50
  let c1_i32_119 : BitVec 32 := 1#32
  let v179 : BitVec 32 := Scalar.muli v82 c1_i32_119
  let v180 : BitVec 32 := Scalar.addi v178 v179
  v180.toNat
def k0_cond2 (i : grid0.Coords) : BitVec 1 :=
  let arg0 : BitVec 32 := BitVec.ofNat 32 (i 0).val
  let c7_i32 : BitVec 32 := 7#32
  let v5 : BitVec 1 := Scalar.cmpi .eq arg0 c7_i32
  let arg1 : BitVec 32 := BitVec.ofNat 32 (i 1).val
  let c0_i32_2 : BitVec 32 := 0#32
  let v6 : BitVec 1 := Scalar.cmpi .eq arg1 c0_i32_2
  let v8 : BitVec 1 := Scalar.andi v5 v6
  let arg2 : BitVec 32 := BitVec.ofNat 32 (i 2).val
  let c0_i32_3 : BitVec 32 := 0#32
  let v7 : BitVec 1 := Scalar.cmpi .eq arg2 c0_i32_3
  let v9 : BitVec 1 := Scalar.andi v8 v7
  let v23 : BitVec 32 := Scalar.extui v9
  let c0_i32_12 : BitVec 32 := 0#32
  let v24 : BitVec 1 := Scalar.cmpi .ne v23 c0_i32_12
  v24

def k0_off3 (d25 : Dev nD) (c0_i32_18 : BitVec 32) (c0_i32_19 : BitVec 32) (c1_i32_20 : BitVec 32) : Fin 3 → Nat :=
  let c4_i32_21 : BitVec 32 := 4#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let v38 : BitVec 32 := Scalar.xori v27 c0_i32_18
  let v41 : BitVec 32 := Scalar.muli c4_i32_21 v38
  let c2_i32_22 : BitVec 32 := 2#32
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let v39 : BitVec 32 := Scalar.xori v30 c0_i32_19
  let v42 : BitVec 32 := Scalar.muli c2_i32_22 v39
  let v43 : BitVec 32 := Scalar.addi v41 v42
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let v40 : BitVec 32 := Scalar.xori v33 c1_i32_20
  let v44 : BitVec 32 := Scalar.addi v43 v40
  let c0_i32_59 : BitVec 32 := 0#32
  let c0_i32_60 : BitVec 32 := 0#32
  ![v44.toNat, 0, 0]
def k0_off3_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_off4 (d25 : Dev nD) : Fin 3 → Nat :=
  let c4_i32_16 : BitVec 32 := 4#32
  let v25 : BitVec 32 := Dev.word d25
  let c4_i32 : BitVec 32 := 4#32
  let v26 : BitVec 32 := Scalar.divsi v25 c4_i32
  let c2_i32 : BitVec 32 := 2#32
  let v27 : BitVec 32 := Scalar.remsi v26 c2_i32
  let v34 : BitVec 32 := Scalar.muli c4_i32_16 v27
  let c2_i32_17 : BitVec 32 := 2#32
  let v28 : BitVec 32 := Dev.word d25
  let c2_i32_14 : BitVec 32 := 2#32
  let v29 : BitVec 32 := Scalar.divsi v28 c2_i32_14
  let c2_i32_13 : BitVec 32 := 2#32
  let v30 : BitVec 32 := Scalar.remsi v29 c2_i32_13
  let v35 : BitVec 32 := Scalar.muli c2_i32_17 v30
  let v36 : BitVec 32 := Scalar.addi v34 v35
  let v31 : BitVec 32 := Dev.word d25
  let c1_i32 : BitVec 32 := 1#32
  let v32 : BitVec 32 := Scalar.divsi v31 c1_i32
  let c2_i32_15 : BitVec 32 := 2#32
  let v33 : BitVec 32 := Scalar.remsi v32 c2_i32_15
  let v37 : BitVec 32 := Scalar.addi v36 v33
  let c0_i32_125 : BitVec 32 := 0#32
  let c0_i32_126 : BitVec 32 := 0#32
  ![v37.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutDxRefIdeal.lean ====
abbrev S65536x1024 : Shape := ⟨2, ![65536, 1024]⟩
abbrev S1024x1024 : Shape := ⟨2, ![1024, 1024]⟩
abbrev S8x1024 : Shape := ⟨2, ![8, 1024]⟩
abbrev S64x128x1024 : Shape := ⟨3, ![64, 128, 1024]⟩
abbrev S8x8192x1024 : Shape := ⟨3, ![8, 8192, 1024]⟩
abbrev S8x1x1024 : Shape := ⟨3, ![8, 1, 1024]⟩
abbrev S8x8x128x1024 : Shape := ⟨4, ![8, 8, 128, 1024]⟩

abbrev nBuf : Space → Nat
  | .hbm => 15
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .bf16⟩
  | .hbm, ⟨2, _⟩ => ⟨S8x1024, .f32⟩
  | .hbm, ⟨3, _⟩ => ⟨S64x128x1024, .bf16⟩
  | .hbm, ⟨4, _⟩ => ⟨S8x8192x1024, .f32⟩
  | .hbm, ⟨5, _⟩ => ⟨S8x1x1024, .f32⟩
  | .hbm, ⟨6, _⟩ => ⟨S8x8192x1024, .f32⟩
  | .hbm, ⟨7, _⟩ => ⟨S8x8192x1024, .f32⟩
  | .hbm, ⟨8, _⟩ => ⟨S65536x1024, .f32⟩
  | .hbm, ⟨9, _⟩ => ⟨S1024x1024, .f32⟩
  | .hbm, ⟨10, _⟩ => ⟨S1024x1024, .f32⟩
  | .hbm, ⟨11, _⟩ => ⟨S65536x1024, .f32⟩
  | .hbm, ⟨12, _⟩ => ⟨S8x8x128x1024, .bf16⟩
  | .hbm, ⟨13, _⟩ => ⟨S8x8x128x1024, .bf16⟩
  | .hbm, ⟨14, _⟩ => ⟨S64x128x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AdamIn.lean ====
abbrev S8x1024x1154 : Shape := ⟨3, ![8, 1024, 1154]⟩
abbrev S4096x1154 : Shape := ⟨2, ![4096, 1154]⟩
abbrev S8x128x1154 : Shape := ⟨3, ![8, 128, 1154]⟩
abbrev S128x1154 : Shape := ⟨2, ![128, 1154]⟩
abbrev S1x128x1154 : Shape := ⟨3, ![1, 128, 1154]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x1154, .bf16⟩
  | .hbm, ⟨1, _⟩ => ⟨S8x1024x1154, .bf16⟩
  | .hbm, ⟨2, _⟩ => ⟨S8x1024x1154, .bf16⟩
  | .hbm, ⟨3, _⟩ => ⟨S8x1024x1154, .bf16⟩
  | .hbm, ⟨4, _⟩ => ⟨S4096x1154, .f32⟩
  | .hbm, ⟨5, _⟩ => ⟨S4096x1154, .f32⟩
  | .hbm, ⟨6, _⟩ => ⟨S4096x1154, .f32⟩
  | .hbm, ⟨7, _⟩ => ⟨S4096x1154, .f32⟩
  | .hbm, ⟨8, _⟩ => ⟨S4096x1154, .f32⟩
  | .hbm, ⟨9, _⟩ => ⟨S4096x1154, .f32⟩
  | .hbm, ⟨10, _⟩ => ⟨S4096x1154, .f32⟩
  | .local _ .vmem, ⟨0, _⟩ => ⟨S8x128x1154, .bf16⟩
  | .local _ .vmem, ⟨1, _⟩ => ⟨S8x128x1154, .bf16⟩
  | .local _ .vmem, ⟨2, _⟩ => ⟨S8x128x1154, .bf16⟩
  | .local _ .vmem, ⟨3, _⟩ => ⟨S8x128x1154, .bf16⟩
  | .local _ .vmem, ⟨4, _⟩ => ⟨S8x128x1154, .bf16⟩
  | .local _ .vmem, ⟨5, _⟩ => ⟨S8x128x1154, .bf16⟩
  | .local _ .vmem, ⟨6, _⟩ => ⟨S8x128x1154, .bf16⟩
  | .local _ .vmem, ⟨7, _⟩ => ⟨S8x128x1154, .bf16⟩
  | .local _ .vmem, ⟨8, _⟩ => ⟨S128x1154, .f32⟩
  | .local _ .vmem, ⟨9, _⟩ => ⟨S128x1154, .f32⟩
  | .local _ .vmem, ⟨10, _⟩ => ⟨S128x1154, .f32⟩
  | .local _ .vmem, ⟨11, _⟩ => ⟨S128x1154, .f32⟩
  | .local _ .vmem, ⟨12, _⟩ => ⟨S128x1154, .f32⟩
  | .local _ .vmem, ⟨13, _⟩ => ⟨S128x1154, .f32⟩
  | .local _ .vmem, ⟨14, _⟩ => ⟨S128x1154, .f32⟩
  | .local _ .vmem, ⟨15, _⟩ => ⟨S128x1154, .f32⟩
  | .local _ .vmem, ⟨16, _⟩ => ⟨S128x1154, .f32⟩
  | .local _ .vmem, ⟨17, _⟩ => ⟨S128x1154, .f32⟩
  | .local _ .vmem, ⟨18, _⟩ => ⟨S128x1154, .f32⟩
  | .local _ .vmem, ⟨19, _⟩ => ⟨S128x1154, .f32⟩
  | .local _ .vmem, ⟨20, _⟩ => ⟨S128x1154, .f32⟩
  | .local _ .vmem, ⟨21, _⟩ => ⟨S128x1154, .f32⟩
  | _, _ => ⟨S8x1024x1154, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1154 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1154 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1154 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1154 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1154 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1154 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1154 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInRefIdeal.lean ====
abbrev S8x1024x1154 : Shape := ⟨3, ![8, 1024, 1154]⟩
abbrev S4096x1154 : Shape := ⟨2, ![4096, 1154]⟩
abbrev S_ : Shape := ⟨0, ![]⟩
abbrev S1024x1154 : Shape := ⟨2, ![1024, 1154]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x1154, .bf16⟩
  | .hbm, ⟨1, _⟩ => ⟨S8x1024x1154, .bf16⟩
  | .hbm, ⟨2, _⟩ => ⟨S8x1024x1154, .bf16⟩
  | .hbm, ⟨3, _⟩ => ⟨S8x1024x1154, .bf16⟩
  | .hbm, ⟨4, _⟩ => ⟨S4096x1154, .f32⟩
  | .hbm, ⟨5, _⟩ => ⟨S4096x1154, .f32⟩
  | .hbm, ⟨6, _⟩ => ⟨S4096x1154, .f32⟩
  | .hbm, ⟨7, _⟩ => ⟨S8x1024x1154, .f32⟩
  | .hbm, ⟨8, _⟩ => ⟨S_, .f32⟩
  | .hbm, ⟨9, _⟩ => ⟨S1024x1154, .f32⟩
  | .hbm, ⟨10, _⟩ => ⟨S8x1024x1154, .f32⟩
  | .hbm, ⟨11, _⟩ => ⟨S_, .f32⟩
  | .hbm, ⟨12, _⟩ => ⟨S1024x1154, .f32⟩
  | .hbm, ⟨13, _⟩ => ⟨S8x1024x1154, .f32⟩
  | .hbm, ⟨14, _⟩ => ⟨S_, .f32⟩
  | .hbm, ⟨15, _⟩ => ⟨S1024x1154, .f32⟩
  | .hbm, ⟨16, _⟩ => ⟨S8x1024x1154, .f32⟩
  | .hbm, ⟨17, _⟩ => ⟨S_, .f32⟩
  | .hbm, ⟨18, _⟩ => ⟨S1024x1154, .f32⟩
  | .hbm, ⟨19, _⟩ => ⟨S4096x1154, .f32⟩
  | .hbm, ⟨20, _⟩ => ⟨S_, .f32⟩
  | .hbm, ⟨21, _⟩ => ⟨S4096x1154, .f32⟩
  | .hbm, ⟨22, _⟩ => ⟨S4096x1154, .f32⟩
  | .hbm, ⟨23, _⟩ => ⟨S_, .f32⟩
  | .hbm, ⟨24, _⟩ => ⟨S4096x1154, .f32⟩
  | .hbm, ⟨25, _⟩ => ⟨S4096x1154, .f32⟩
  | .hbm, ⟨26, _⟩ => ⟨S4096x1154, .f32⟩
  | .hbm, ⟨27, _⟩ => ⟨S_, .f32⟩
  | .hbm, ⟨28, _⟩ => ⟨S4096x1154, .f32⟩
  | .hbm, ⟨29, _⟩ => ⟨S4096x1154, .f32⟩
  | .hbm, ⟨30, _⟩ => ⟨S4096x1154, .f32⟩
  | .hbm, ⟨31, _⟩ => ⟨S_, .f32⟩
  | .hbm, ⟨32, _⟩ => ⟨S4096x1154, .f32⟩
  | .hbm, ⟨33, _⟩ => ⟨S4096x1154, .f32⟩
  | .hbm, ⟨34, _⟩ => ⟨S4096x1154, .f32⟩
  | .hbm, ⟨35, _⟩ => ⟨S_, .f32⟩
  | .hbm, ⟨36, _⟩ => ⟨S4096x1154, .f32⟩
  | .hbm, ⟨37, _⟩ => ⟨S4096x1154, .f32⟩
  | .hbm, ⟨38, _⟩ => ⟨S_, .f32⟩
  | .hbm, ⟨39, _⟩ => ⟨S4096x1154, .f32⟩
  | .hbm, ⟨40, _⟩ => ⟨S4096x1154, .f32⟩
  | .hbm, ⟨41, _⟩ => ⟨S4096x1154, .f32⟩
  | .hbm, ⟨42, _⟩ => ⟨S_, .f32⟩
  | .hbm, ⟨43, _⟩ => ⟨S4096x1154, .f32⟩
  | .hbm, ⟨44, _⟩ => ⟨S4096x1154, .f32⟩
  | .hbm, ⟨45, _⟩ => ⟨S4096x1154, .f32⟩
  | .hbm, ⟨46, _⟩ => ⟨S_, .f32⟩
  | .hbm, ⟨47, _⟩ => ⟨S4096x1154, .f32⟩
  | .hbm, ⟨48, _⟩ => ⟨S4096x1154, .f32⟩
  | .hbm, ⟨49, _⟩ => ⟨S4096x1154, .f32⟩
  | .hbm, ⟨50, _⟩ => ⟨S_, .f32⟩
  | .hbm, ⟨51, _⟩ => ⟨S4096x1154, .f32⟩
  | .hbm, ⟨52, _⟩ => ⟨S4096x1154, .f32⟩
  | _, _ => ⟨S8x1024x1154, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamOut.lean ====
abbrev S8x128x1024 : Shape := ⟨3, ![8, 128, 1024]⟩
abbrev S512x1024 : Shape := ⟨2, ![512, 1024]⟩
abbrev S128x1024 : Shape := ⟨2, ![128, 1024]⟩
abbrev S1x128x1024 : Shape := ⟨3, ![1, 128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutRefIdeal.lean ====
abbrev S8x128x1024 : Shape := ⟨3, ![8, 128, 1024]⟩
abbrev S512x1024 : Shape := ⟨2, ![512, 1024]⟩
abbrev S_ : Shape := ⟨0, ![]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S_, .f32⟩
  | .hbm, ⟨51, _⟩ => ⟨S512x1024, .f32⟩
  | .hbm, ⟨52, _⟩ => ⟨S512x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamFfIn.lean ====
abbrev S8x1024x512 : Shape := ⟨3, ![8, 1024, 512]⟩
abbrev S4096x512 : Shape := ⟨2, ![4096, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfInRefIdeal.lean ====
abbrev S8x1024x512 : Shape := ⟨3, ![8, 1024, 512]⟩
abbrev S4096x512 : Shape := ⟨2, ![4096, 512]⟩
abbrev S_ : Shape := ⟨0, ![]⟩
abbrev S1024x512 : Shape := ⟨2, ![1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096x512, .f32⟩
  | .hbm, ⟨52, _⟩ => ⟨S4096x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamFfOut.lean ====
abbrev S8x512x1024 : Shape := ⟨3, ![8, 512, 1024]⟩
abbrev S2048x1024 : Shape := ⟨2, ![2048, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfOutRefIdeal.lean ====
abbrev S8x512x1024 : Shape := ⟨3, ![8, 512, 1024]⟩
abbrev S2048x1024 : Shape := ⟨2, ![2048, 1024]⟩
abbrev S_ : Shape := ⟨0, ![]⟩
abbrev S512x1024 : Shape := ⟨2, ![512, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S8x512x1024, .f32⟩
  | .hbm, ⟨8, _⟩ => ⟨S_, .f32⟩
  | .hbm, ⟨9, _⟩ => ⟨S512x1024, .f32⟩
  | .hbm, ⟨10, _⟩ => ⟨S8x512x1024, .f32⟩
  | .hbm, ⟨11, _⟩ => ⟨S_, .f32⟩
  | .hbm, ⟨12, _⟩ => ⟨S512x1024, .f32⟩
  | .hbm, ⟨13, _⟩ => ⟨S8x512x1024, .f32⟩
  | .hbm, ⟨14, _⟩ => ⟨S_, .f32⟩
  | .hbm, ⟨15, _⟩ => ⟨S512x1024, .f32⟩
  | .hbm, ⟨16, _⟩ => ⟨S8x512x1024, .f32⟩
  | .hbm, ⟨17, _⟩ => ⟨S_, .f32⟩
  | .hbm, ⟨18, _⟩ => ⟨S512x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamAda.lean ====
abbrev S1024x8 : Shape := ⟨2, ![1024, 8]⟩
abbrev S4x8x768 : Shape := ⟨3, ![4, 8, 768]⟩
abbrev S4x1024x768 : Shape := ⟨3, ![4, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 9
  | .vmem => 17
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .hbm, ⟨8, _⟩ => ⟨S4x1024x768, .f32⟩
  | .local _ .vmem, ⟨0, _⟩ => ⟨S1024x8, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | .local _ .vmem, ⟨8, _⟩ => ⟨S1x1024x768, .f32⟩
  | .local _ .vmem, ⟨9, _⟩ => ⟨S1x1024x768, .f32⟩
  | .local _ .vmem, ⟨10, _⟩ => ⟨S1x1024x768, .f32⟩
  | .local _ .vmem, ⟨11, _⟩ => ⟨S1x1024x768, .f32⟩
  | .local _ .vmem, ⟨12, _⟩ => ⟨S1x1024x768, .f32⟩
  | .local _ .vmem, ⟨13, _⟩ => ⟨S1x1024x768, .f32⟩
  | .local _ .vmem, ⟨14, _⟩ => ⟨S1x1024x768, .f32⟩
  | .local _ .vmem, ⟨15, _⟩ => ⟨S1x1024x768, .f32⟩
  | .local _ .vmem, ⟨16, _⟩ => ⟨S1x1024x768, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaRefIdeal.lean ====
abbrev S1024x8 : Shape := ⟨2, ![1024, 8]⟩
abbrev S4x8x768 : Shape := ⟨3, ![4, 8, 768]⟩
abbrev S4x1024x768 : Shape := ⟨3, ![4, 1024, 768]⟩
abbrev S_ : Shape := ⟨0, ![]⟩
abbrev S4x768x1024 : Shape := ⟨3, ![4, 768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S1024x8, .f32⟩
  | .hbm, ⟨6, _⟩ => ⟨S1024x8, .f32⟩
  | .hbm, ⟨7, _⟩ => ⟨S_, .f32⟩
  | .hbm, ⟨8, _⟩ => ⟨S1024x8, .f32⟩
  | .hbm, ⟨9, _⟩ => ⟨S1024x8, .f32⟩
  | .hbm, ⟨10, _⟩ => ⟨S_, .f32⟩
  | .hbm, ⟨11, _⟩ => ⟨S1024x8, .f32⟩
  | .hbm, ⟨12, _⟩ => ⟨S1024x8, .f32⟩
  | .hbm, ⟨13, _⟩ => ⟨S1024x8, .f32⟩
  | .hbm, ⟨14, _⟩ => ⟨S4x768x1024, .f32⟩
  | .hbm, ⟨15, _⟩ => ⟨S4x1024x768, .f32⟩
  | .hbm, ⟨16, _⟩ => ⟨S_, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S4x1024x768, .f32⟩
  | .hbm, ⟨23, _⟩ => ⟨S_, .f32⟩
  | .hbm, ⟨24, _⟩ => ⟨S4x1024x768, .f32⟩
  | .hbm, ⟨25, _⟩ => ⟨S4x1024x768, .f32⟩
  | .hbm, ⟨26, _⟩ => ⟨S4x1024x768, .f32⟩
  | .hbm, ⟨27, _⟩ => ⟨S_, .f32⟩
  | .hbm, ⟨28, _⟩ => ⟨S4x1024x768, .f32⟩
  | .hbm, ⟨29, _⟩ => ⟨S4x1024x768, .f32⟩
  | .hbm, ⟨30, _⟩ => ⟨S4x1024x768, .f32⟩
  | .hbm, ⟨31, _⟩ => ⟨S_, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4x1024x768, .f32⟩
  | .hbm, ⟨38, _⟩ => ⟨S_, .f32⟩
  | .hbm, ⟨39, _⟩ => ⟨S4x1024x768, .f32⟩
  | .hbm, ⟨40, _⟩ => ⟨S4x1024x768, .f32⟩
  | .hbm, ⟨41, _⟩ => ⟨S4x1024x768, .f32⟩
  | .hbm, ⟨42, _⟩ => ⟨S_, .f32⟩
  | .hbm, ⟨43, _⟩ => ⟨S4x1024x768, .f32⟩
  | .hbm, ⟨44, _⟩ => ⟨S4x1024x768, .f32⟩
  | .hbm, ⟨45, _⟩ => ⟨S4x1024x768, .f32⟩
  | .hbm, ⟨46, _⟩ => ⟨S_, .f32⟩
  | .hbm, ⟨47, _⟩ => ⟨S4x1024x768, .f32⟩
  | .hbm, ⟨48, _⟩ => ⟨S4x1024x768, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== AdamSmall.lean ====
abbrev S1x56x1024 : Shape := ⟨3, ![1, 56, 1024]⟩
abbrev S56x1024 : Shape := ⟨2, ![56, 1024]⟩
abbrev S1x8x1024 : Shape := ⟨3, ![1, 8, 1024]⟩
abbrev S8x1024 : Shape := ⟨2, ![8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x56x1024, .f32⟩
  | .hbm, ⟨1, _⟩ => ⟨S56x1024, .f32⟩
  | .hbm, ⟨2, _⟩ => ⟨S56x1024, .f32⟩
  | .hbm, ⟨3, _⟩ => ⟨S56x1024, .f32⟩
  | .hbm, ⟨4, _⟩ => ⟨S56x1024, .f32⟩
  | .hbm, ⟨5, _⟩ => ⟨S56x1024, .f32⟩
  | .hbm, ⟨6, _⟩ => ⟨S56x1024, .f32⟩
  | .hbm, ⟨7, _⟩ => ⟨S56x1024, .f32⟩
  | .local _ .vmem, ⟨0, _⟩ => ⟨S1x8x1024, .f32⟩
  | .local _ .vmem, ⟨1, _⟩ => ⟨S1x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S1x56x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 7], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSmallRefIdeal.lean ====
abbrev S1x56x1024 : Shape := ⟨3, ![1, 56, 1024]⟩
abbrev S56x1024 : Shape := ⟨2, ![56, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x56x1024, .f32⟩
  | .hbm, ⟨1, _⟩ => ⟨S56x1024, .f32⟩
  | .hbm, ⟨2, _⟩ => ⟨S56x1024, .f32⟩
  | .hbm, ⟨3, _⟩ => ⟨S56x1024, .f32⟩
  | .hbm, ⟨4, _⟩ => ⟨S_, .f32⟩
  | .hbm, ⟨5, _⟩ => ⟨S56x1024, .f32⟩
  | .hbm, ⟨6, _⟩ => ⟨S_, .f32⟩
  | .hbm, ⟨7, _⟩ => ⟨S56x1024, .f32⟩
  | .hbm, ⟨8, _⟩ => ⟨S56x1024, .f32⟩
  | .hbm, ⟨9, _⟩ => ⟨S_, .f32⟩
  | .hbm, ⟨10, _⟩ => ⟨S56x1024, .f32⟩
  | .hbm, ⟨11, _⟩ => ⟨S56x1024, .f32⟩
  | .hbm, ⟨12, _⟩ => ⟨S56x1024, .f32⟩
  | .hbm, ⟨13, _⟩ => ⟨S_, .f32⟩
  | .hbm, ⟨14, _⟩ => ⟨S56x1024, .f32⟩
  | .hbm, ⟨15, _⟩ => ⟨S56x1024, .f32⟩
  | .hbm, ⟨16, _⟩ => ⟨S56x1024, .f32⟩
  | .hbm, ⟨17, _⟩ => ⟨S_, .f32⟩
  | .hbm, ⟨18, _⟩ => ⟨S56x1024, .f32⟩
  | .hbm, ⟨19, _⟩ => ⟨S56x1024, .f32⟩
  | .hbm, ⟨20, _⟩ => ⟨S56x1024, .f32⟩
  | .hbm, ⟨21, _⟩ => ⟨S_, .f32⟩
  | .hbm, ⟨22, _⟩ => ⟨S56x1024, .f32⟩
  | .hbm, ⟨23, _⟩ => ⟨S56x1024, .f32⟩
  | .hbm, ⟨24, _⟩ => ⟨S_, .f32⟩
  | .hbm, ⟨25, _⟩ => ⟨S56x1024, .f32⟩
  | .hbm, ⟨26, _⟩ => ⟨S56x1024, .f32⟩
  | .hbm, ⟨27, _⟩ => ⟨S56x1024, .f32⟩
  | .hbm, ⟨28, _⟩ => ⟨S_, .f32⟩
  | .hbm, ⟨29, _⟩ => ⟨S56x1024, .f32⟩
  | .hbm, ⟨30, _⟩ => ⟨S56x1024, .f32⟩
  | .hbm, ⟨31, _⟩ => ⟨S56x1024, .f32⟩
  | .hbm, ⟨32, _⟩ => ⟨S_, .f32⟩
  | .hbm, ⟨33, _⟩ => ⟨S56x1024, .f32⟩
  | .hbm, ⟨34, _⟩ => ⟨S56x1024, .f32⟩
  | .hbm, ⟨35, _⟩ => ⟨S56x1024, .f32⟩
  | .hbm, ⟨36, _⟩ => ⟨S_, .f32⟩
  | .hbm, ⟨37, _⟩ => ⟨S56x1024, .f32⟩
  | .hbm, ⟨38, _⟩ => ⟨S56x1024, .f32⟩
  | _, _ => ⟨S1x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SumSmall.lean ====
abbrev S8x104x1024 : Shape := ⟨3, ![8, 104, 1024]⟩
abbrev S104x1024 : Shape := ⟨2, ![104, 1024]⟩
abbrev S1x104x1024 : Shape := ⟨3, ![1, 104, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x104x1024, .f32⟩
  | .hbm, ⟨1, _⟩ => ⟨S104x1024, .f32⟩
  | .local _ .vmem, ⟨0, _⟩ => ⟨S8x104x1024, .f32⟩
  | .local _ .vmem, ⟨1, _⟩ => ⟨S104x1024, .f32⟩
  | _, _ => ⟨S8x104x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x104x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S104x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSmallRefIdeal.lean ====
abbrev S8x104x1024 : Shape := ⟨3, ![8, 104, 1024]⟩
abbrev S_ : Shape := ⟨0, ![]⟩
abbrev S104x1024 : Shape := ⟨2, ![104, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x104x1024, .f32⟩
  | .hbm, ⟨1, _⟩ => ⟨S_, .f32⟩
  | .hbm, ⟨2, _⟩ => ⟨S104x1024, .f32⟩
  | _, _ => ⟨S8x104x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== WInGather.lean ====
abbrev S1024x1154 : Shape := ⟨2, ![1024, 1154]⟩
abbrev S8x1024x1154 : Shape := ⟨3, ![8, 1024, 1154]⟩
abbrev S7 : Shape := ⟨1, ![7]⟩
abbrev S_ : Shape := ⟨0, ![]⟩
abbrev S1x1024x1154 : Shape := ⟨3, ![1, 1024, 1154]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1024x1154, .bf16⟩
  | .hbm, ⟨1, _⟩ => ⟨S8x1024x1154, .bf16⟩
  | _, _ => ⟨S1024x1154, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_39 : BitVec 32 := 0#32
  let c0_i32_40 : BitVec 32 := 0#32
  ![v12.toNat, 0, 0]
def k0_dev1 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_43 : BitVec 32 := 4#32
  let v64 : BitVec 32 := Scalar.muli v13 c4_i32_43
  let v65 : BitVec 32 := Scalar.addi c0_i32_44 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_45 : BitVec 32 := 2#32
  let v66 : BitVec 32 := Scalar.muli v14 c2_i32_45
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_46 : BitVec 32 := 1#32
  let v68 : BitVec 32 := Scalar.muli v15 c1_i32_46
  let v69 : BitVec 32 := Scalar.addi v67 v68
  v69.toNat
def k0_dev2 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_51 : BitVec 32 := 4#32
  let v76 : BitVec 32 := Scalar.muli v20 c4_i32_51
  let v77 : BitVec 32 := Scalar.addi c0_i32_52 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_53 : BitVec 32 := 2#32
  let v78 : BitVec 32 := Scalar.muli v21 c2_i32_53
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_54 : BitVec 32 := 1#32
  let v80 : BitVec 32 := Scalar.muli v22 c1_i32_54
  let v81 : BitVec 32 := Scalar.addi v79 v80
  v81.toNat
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_59 : BitVec 32 := 4#32
  let v88 : BitVec 32 := Scalar.muli v27 c4_i32_59
  let v89 : BitVec 32 := Scalar.addi c0_i32_60 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_61 : BitVec 32 := 2#32
  let v90 : BitVec 32 := Scalar.muli v28 c2_i32_61
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_62 : BitVec 32 := 1#32
  let v92 : BitVec 32 := Scalar.muli v29 c1_i32_62
  let v93 : BitVec 32 := Scalar.addi v91 v92
  v93.toNat
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_66 : BitVec 32 := 4#32
  let v100 : BitVec 32 := Scalar.muli v34 c4_i32_66
  let v101 : BitVec 32 := Scalar.addi c0_i32_67 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_68 : BitVec 32 := 2#32
  let v102 : BitVec 32 := Scalar.muli v35 c2_i32_68
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_69 : BitVec 32 := 1#32
  let v104 : BitVec 32 := Scalar.muli v36 c1_i32_69
  let v105 : BitVec 32 := Scalar.addi v103 v104
  v105.toNat
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_74 : BitVec 32 := 4#32
  let v112 : BitVec 32 := Scalar.muli v41 c4_i32_74
  let v113 : BitVec 32 := Scalar.addi c0_i32_75 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_76 : BitVec 32 := 2#32
  let v114 : BitVec 32 := Scalar.muli v42 c2_i32_76
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_77 : BitVec 32 := 1#32
  let v116 : BitVec 32 := Scalar.muli v43 c1_i32_77
  let v117 : BitVec 32 := Scalar.addi v115 v116
  v117.toNat
def k0_dev6 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_81 : BitVec 32 := 4#32
  let v124 : BitVec 32 := Scalar.muli v48 c4_i32_81
  let v125 : BitVec 32 := Scalar.addi c0_i32_82 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_83 : BitVec 32 := 2#32
  let v126 : BitVec 32 := Scalar.muli v49 c2_i32_83
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_84 : BitVec 32 := 1#32
  let v128 : BitVec 32 := Scalar.muli v50 c1_i32_84
  let v129 : BitVec 32 := Scalar.addi v127 v128
  v129.toNat
def k0_dev7 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_88 : BitVec 32 := 4#32
  let v136 : BitVec 32 := Scalar.muli v55 c4_i32_88
  let v137 : BitVec 32 := Scalar.addi c0_i32_89 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_90 : BitVec 32 := 2#32
  let v138 : BitVec 32 := Scalar.muli v56 c2_i32_90
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_91 : BitVec 32 := 1#32
  let v140 : BitVec 32 := Scalar.muli v57 c1_i32_91
  let v141 : BitVec 32 := Scalar.addi v139 v140
  v141.toNat
def k0_off2 (d0 : Dev nD) (c0_i32 : BitVec 32) (c0_i32_5 : BitVec 32) (c1_i32_6 : BitVec 32) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c0_i32_100 : BitVec 32 := 0#32
  let c0_i32_101 : BitVec 32 := 0#32
  ![v19.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== WInGatherRefIdeal.lean ====
abbrev S1024x9232 : Shape := ⟨2, ![1024, 9232]⟩
abbrev S1024x8x1154 : Shape := ⟨3, ![1024, 8, 1154]⟩
abbrev S8x1024x1154 : Shape := ⟨3, ![8, 1024, 1154]⟩

abbrev nBuf : Space → Nat
  | .hbm => 3
  | .vmem => 0
  | .smem => 0
  | _ => 0

abbrev bufTy : (tb : Table) → Fin (tcTables nBuf tb) → BufTy
  | .hbm, ⟨0, _⟩ => ⟨S1024x9232, .bf16⟩
  | .hbm, ⟨1, _⟩ => ⟨S1024x8x1154, .bf16⟩
  | .hbm, ⟨2, _⟩ => ⟨S8x1024x1154, .bf16⟩
  | _, _ => ⟨S1024x9232, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== SmallGather.lean ====
abbrev S104x1024 : Shape := ⟨2, ![104, 1024]⟩
abbrev S8x104x1024 : Shape := ⟨3, ![8, 104, 1024]⟩
abbrev S7 : Shape := ⟨1, ![7]⟩
abbrev S_ : Shape := ⟨0, ![]⟩
abbrev S1x104x1024 : Shape := ⟨3, ![1, 104, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S104x1024, .f32⟩
  | .hbm, ⟨1, _⟩ => ⟨S8x104x1024, .f32⟩
  | _, _ => ⟨S104x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_39 : BitVec 32 := 0#32
  let c0_i32_40 : BitVec 32 := 0#32
  ![v12.toNat, 0, 0]
def k0_dev1 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_43 : BitVec 32 := 4#32
  let v64 : BitVec 32 := Scalar.muli v13 c4_i32_43
  let v65 : BitVec 32 := Scalar.addi c0_i32_44 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_45 : BitVec 32 := 2#32
  let v66 : BitVec 32 := Scalar.muli v14 c2_i32_45
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_46 : BitVec 32 := 1#32
  let v68 : BitVec 32 := Scalar.muli v15 c1_i32_46
  let v69 : BitVec 32 := Scalar.addi v67 v68
  v69.toNat
def k0_dev2 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_51 : BitVec 32 := 4#32
  let v76 : BitVec 32 := Scalar.muli v20 c4_i32_51
  let v77 : BitVec 32 := Scalar.addi c0_i32_52 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_53 : BitVec 32 := 2#32
  let v78 : BitVec 32 := Scalar.muli v21 c2_i32_53
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_54 : BitVec 32 := 1#32
  let v80 : BitVec 32 := Scalar.muli v22 c1_i32_54
  let v81 : BitVec 32 := Scalar.addi v79 v80
  v81.toNat
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_59 : BitVec 32 := 4#32
  let v88 : BitVec 32 := Scalar.muli v27 c4_i32_59
  let v89 : BitVec 32 := Scalar.addi c0_i32_60 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_61 : BitVec 32 := 2#32
  let v90 : BitVec 32 := Scalar.muli v28 c2_i32_61
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_62 : BitVec 32 := 1#32
  let v92 : BitVec 32 := Scalar.muli v29 c1_i32_62
  let v93 : BitVec 32 := Scalar.addi v91 v92
  v93.toNat
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_66 : BitVec 32 := 4#32
  let v100 : BitVec 32 := Scalar.muli v34 c4_i32_66
  let v101 : BitVec 32 := Scalar.addi c0_i32_67 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_68 : BitVec 32 := 2#32
  let v102 : BitVec 32 := Scalar.muli v35 c2_i32_68
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_69 : BitVec 32 := 1#32
  let v104 : BitVec 32 := Scalar.muli v36 c1_i32_69
  let v105 : BitVec 32 := Scalar.addi v103 v104
  v105.toNat
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_74 : BitVec 32 := 4#32
  let v112 : BitVec 32 := Scalar.muli v41 c4_i32_74
  let v113 : BitVec 32 := Scalar.addi c0_i32_75 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_76 : BitVec 32 := 2#32
  let v114 : BitVec 32 := Scalar.muli v42 c2_i32_76
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_77 : BitVec 32 := 1#32
  let v116 : BitVec 32 := Scalar.muli v43 c1_i32_77
  let v117 : BitVec 32 := Scalar.addi v115 v116
  v117.toNat
def k0_dev6 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_81 : BitVec 32 := 4#32
  let v124 : BitVec 32 := Scalar.muli v48 c4_i32_81
  let v125 : BitVec 32 := Scalar.addi c0_i32_82 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_83 : BitVec 32 := 2#32
  let v126 : BitVec 32 := Scalar.muli v49 c2_i32_83
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_84 : BitVec 32 := 1#32
  let v128 : BitVec 32 := Scalar.muli v50 c1_i32_84
  let v129 : BitVec 32 := Scalar.addi v127 v128
  v129.toNat
def k0_dev7 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_88 : BitVec 32 := 4#32
  let v136 : BitVec 32 := Scalar.muli v55 c4_i32_88
  let v137 : BitVec 32 := Scalar.addi c0_i32_89 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_90 : BitVec 32 := 2#32
  let v138 : BitVec 32 := Scalar.muli v56 c2_i32_90
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_91 : BitVec 32 := 1#32
  let v140 : BitVec 32 := Scalar.muli v57 c1_i32_91
  let v141 : BitVec 32 := Scalar.addi v139 v140
  v141.toNat
def k0_off2 (d0 : Dev nD) (c0_i32 : BitVec 32) (c0_i32_5 : BitVec 32) (c1_i32_6 : BitVec 32) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c0_i32_100 : BitVec 32 := 0#32
  let c0_i32_101 : BitVec 32 := 0#32
  ![v19.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== SmallGatherRefIdeal.lean ====
abbrev S832x1024 : Shape := ⟨2, ![832, 1024]⟩
abbrev S8x104x1024 : Shape := ⟨3, ![8, 104, 1024]⟩

abbrev nBuf : Space → Nat
  | .hbm => 2
  | .vmem => 0
  | .smem => 0
  | _ => 0

abbrev bufTy : (tb : Table) → Fin (tcTables nBuf tb) → BufTy
  | .hbm, ⟨0, _⟩ => ⟨S832x1024, .f32⟩
  | .hbm, ⟨1, _⟩ => ⟨S8x104x1024, .f32⟩
  | _, _ => ⟨S832x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CondGather.lean ====
abbrev S8x1024 : Shape := ⟨2, ![8, 1024]⟩
abbrev S8x8x1024 : Shape := ⟨3, ![8, 8, 1024]⟩
abbrev S7 : Shape := ⟨1, ![7]⟩
abbrev S_ : Shape := ⟨0, ![]⟩
abbrev S1x8x1024 : Shape := ⟨3, ![1, 8, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_39 : BitVec 32 := 0#32
  let c0_i32_40 : BitVec 32 := 0#32
  ![v12.toNat, 0, 0]
def k0_dev1 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_43 : BitVec 32 := 4#32
  let v64 : BitVec 32 := Scalar.muli v13 c4_i32_43
  let v65 : BitVec 32 := Scalar.addi c0_i32_44 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_45 : BitVec 32 := 2#32
  let v66 : BitVec 32 := Scalar.muli v14 c2_i32_45
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_46 : BitVec 32 := 1#32
  let v68 : BitVec 32 := Scalar.muli v15 c1_i32_46
  let v69 : BitVec 32 := Scalar.addi v67 v68
  v69.toNat
def k0_dev2 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_9 : BitVec 32 := 0#32
  let v20 : BitVec 32 := Scalar.xori v2 c0_i32_9
  let c4_i32_51 : BitVec 32 := 4#32
  let v76 : BitVec 32 := Scalar.muli v20 c4_i32_51
  let v77 : BitVec 32 := Scalar.addi c0_i32_52 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v21 : BitVec 32 := Scalar.xori v5 c1_i32_10
  let c2_i32_53 : BitVec 32 := 2#32
  let v78 : BitVec 32 := Scalar.muli v21 c2_i32_53
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_11 : BitVec 32 := 0#32
  let v22 : BitVec 32 := Scalar.xori v8 c0_i32_11
  let c1_i32_54 : BitVec 32 := 1#32
  let v80 : BitVec 32 := Scalar.muli v22 c1_i32_54
  let v81 : BitVec 32 := Scalar.addi v79 v80
  v81.toNat
def k0_dev3 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_14 : BitVec 32 := 0#32
  let v27 : BitVec 32 := Scalar.xori v2 c0_i32_14
  let c4_i32_59 : BitVec 32 := 4#32
  let v88 : BitVec 32 := Scalar.muli v27 c4_i32_59
  let v89 : BitVec 32 := Scalar.addi c0_i32_60 v88
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_15 : BitVec 32 := 1#32
  let v28 : BitVec 32 := Scalar.xori v5 c1_i32_15
  let c2_i32_61 : BitVec 32 := 2#32
  let v90 : BitVec 32 := Scalar.muli v28 c2_i32_61
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.xori v8 c1_i32_16
  let c1_i32_62 : BitVec 32 := 1#32
  let v92 : BitVec 32 := Scalar.muli v29 c1_i32_62
  let v93 : BitVec 32 := Scalar.addi v91 v92
  v93.toNat
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v34 : BitVec 32 := Scalar.xori v2 c1_i32_19
  let c4_i32_66 : BitVec 32 := 4#32
  let v100 : BitVec 32 := Scalar.muli v34 c4_i32_66
  let v101 : BitVec 32 := Scalar.addi c0_i32_67 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v35 : BitVec 32 := Scalar.xori v5 c0_i32_20
  let c2_i32_68 : BitVec 32 := 2#32
  let v102 : BitVec 32 := Scalar.muli v35 c2_i32_68
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v36 : BitVec 32 := Scalar.xori v8 c0_i32_21
  let c1_i32_69 : BitVec 32 := 1#32
  let v104 : BitVec 32 := Scalar.muli v36 c1_i32_69
  let v105 : BitVec 32 := Scalar.addi v103 v104
  v105.toNat
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_24 : BitVec 32 := 1#32
  let v41 : BitVec 32 := Scalar.xori v2 c1_i32_24
  let c4_i32_74 : BitVec 32 := 4#32
  let v112 : BitVec 32 := Scalar.muli v41 c4_i32_74
  let v113 : BitVec 32 := Scalar.addi c0_i32_75 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_25 : BitVec 32 := 0#32
  let v42 : BitVec 32 := Scalar.xori v5 c0_i32_25
  let c2_i32_76 : BitVec 32 := 2#32
  let v114 : BitVec 32 := Scalar.muli v42 c2_i32_76
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.xori v8 c1_i32_26
  let c1_i32_77 : BitVec 32 := 1#32
  let v116 : BitVec 32 := Scalar.muli v43 c1_i32_77
  let v117 : BitVec 32 := Scalar.addi v115 v116
  v117.toNat
def k0_dev6 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_29 : BitVec 32 := 1#32
  let v48 : BitVec 32 := Scalar.xori v2 c1_i32_29
  let c4_i32_81 : BitVec 32 := 4#32
  let v124 : BitVec 32 := Scalar.muli v48 c4_i32_81
  let v125 : BitVec 32 := Scalar.addi c0_i32_82 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_30 : BitVec 32 := 1#32
  let v49 : BitVec 32 := Scalar.xori v5 c1_i32_30
  let c2_i32_83 : BitVec 32 := 2#32
  let v126 : BitVec 32 := Scalar.muli v49 c2_i32_83
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_31 : BitVec 32 := 0#32
  let v50 : BitVec 32 := Scalar.xori v8 c0_i32_31
  let c1_i32_84 : BitVec 32 := 1#32
  let v128 : BitVec 32 := Scalar.muli v50 c1_i32_84
  let v129 : BitVec 32 := Scalar.addi v127 v128
  v129.toNat
def k0_dev7 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_34 : BitVec 32 := 1#32
  let v55 : BitVec 32 := Scalar.xori v2 c1_i32_34
  let c4_i32_88 : BitVec 32 := 4#32
  let v136 : BitVec 32 := Scalar.muli v55 c4_i32_88
  let v137 : BitVec 32 := Scalar.addi c0_i32_89 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_35 : BitVec 32 := 1#32
  let v56 : BitVec 32 := Scalar.xori v5 c1_i32_35
  let c2_i32_90 : BitVec 32 := 2#32
  let v138 : BitVec 32 := Scalar.muli v56 c2_i32_90
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.xori v8 c1_i32_36
  let c1_i32_91 : BitVec 32 := 1#32
  let v140 : BitVec 32 := Scalar.muli v57 c1_i32_91
  let v141 : BitVec 32 := Scalar.addi v139 v140
  v141.toNat
def k0_off2 (d0 : Dev nD) (c0_i32 : BitVec 32) (c0_i32_5 : BitVec 32) (c1_i32_6 : BitVec 32) : Fin 3 → Nat :=
  let c4_i32_7 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v16 : BitVec 32 := Scalar.muli c4_i32_7 v13
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v17 : BitVec 32 := Scalar.muli c2_i32_8 v14
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v19 : BitVec 32 := Scalar.addi v18 v15
  let c0_i32_100 : BitVec 32 := 0#32
  let c0_i32_101 : BitVec 32 := 0#32
  ![v19.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== CondGatherRefIdeal.lean ====
abbrev S64x1024 : Shape := ⟨2, ![64, 1024]⟩
abbrev S8x8x1024 : Shape := ⟨3, ![8, 8, 1024]⟩

abbrev nBuf : Space → Nat
  | .hbm => 2
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S8x8x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== NormFwd.lean ====
abbrev S8192x1024 : Shape := ⟨2, ![8192, 1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x512, .bf16⟩
  | .local _ .vmem, ⟨8, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormFwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x128, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== AdaMod.lean ====
abbrev S8x1024 : Shape := ⟨2, ![8, 1024]⟩
abbrev S4x1024x768 : Shape := ⟨3, ![4, 1024, 768]⟩
abbrev S4x768 : Shape := ⟨2, ![4, 768]⟩
abbrev S4x1x768 : Shape := ⟨3, ![4, 1, 768]⟩
abbrev S4x8x768 : Shape := ⟨3, ![4, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S4x1x768, .f32⟩
  | .hbm, ⟨4, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaModRefIdeal.lean ====
abbrev S8x1024 : Shape := ⟨2, ![8, 1024]⟩
abbrev S4x1024x768 : Shape := ⟨3, ![4, 1024, 768]⟩
abbrev S4x768 : Shape := ⟨2, ![4, 768]⟩
abbrev S_ : Shape := ⟨0, ![]⟩
abbrev S4x768x8 : Shape := ⟨3, ![4, 768, 8]⟩
abbrev S4x8x768 : Shape := ⟨3, ![4, 8, 768]⟩
abbrev S4x1x768 : Shape := ⟨3, ![4, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x768x8, .f32⟩
  | .hbm, ⟨13, _⟩ => ⟨S4x8x768, .f32⟩
  | .hbm, ⟨14, _⟩ => ⟨S4x1x768, .f32⟩
  | .hbm, ⟨15, _⟩ => ⟨S4x8x768, .f32⟩
  | .hbm, ⟨16, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== OutProjRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== FfIn.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfInRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfOut.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfOutRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfInDw.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfInDwRefIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x8192, .bf16⟩
  | .hbm, ⟨3, _⟩ => ⟨S1024x4096, .f32⟩
  | .hbm, ⟨4, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutDw.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨3, ![1, 1, 8], ![false, false, false]⟩

def k0_cond4 (i : grid0.Coords) : BitVec 1 :=
  let arg2 : BitVec 32 := BitVec.ofNat 32 (i 2).val
  let c7_i32_9 : BitVec 32 := 7#32
  let v18 : BitVec 1 := Scalar.cmpi .eq arg2 c7_i32_9
  let v19 : BitVec 32 := Scalar.extui v18
  let c0_i32_10 : BitVec 32 := 0#32
  let v20 : BitVec 1 := Scalar.cmpi .ne v19 c0_i32_10
  v20

def k0_cond3 (i : grid0.Coords) : BitVec 1 :=
  let arg2 : BitVec 32 := BitVec.ofNat 32 (i 2).val
  let c0_i32_6 : BitVec 32 := 0#32
  let v13 : BitVec 1 := Scalar.cmpi .eq arg2 c0_i32_6
  let arg1 : BitVec 32 := BitVec.ofNat 32 (i 1).val
  let c0_i32_7 : BitVec 32 := 0#32
  let v14 : BitVec 1 := Scalar.cmpi .eq arg1 c0_i32_7
  let v15 : BitVec 1 := Scalar.andi v13 v14
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]
-- ==== OutDwRefIdeal.lean ====
abbrev S8192x1024 : Shape := ⟨2, ![8192, 1024]⟩
abbrev S1x1024 : Shape := ⟨2, ![1, 1024]⟩
abbrev S1024x1024 : Shape := ⟨2, ![1024, 1024]⟩
abbrev S1024x8192 : Shape := ⟨2, ![1024, 8192]⟩
abbrev S_ : Shape := ⟨0, ![]⟩
abbrev S1024 : Shape := ⟨1, ![1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S1024x8192, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== FfOutDw.lean ====
abbrev S8192x4096 : Shape := ⟨2, ![8192, 4096]⟩
abbrev S8192x1024 : Shape := ⟨2, ![8192, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![1, 4, 8], ![false, false, false]⟩

def k0_cond4 (i : grid0.Coords) : BitVec 1 :=
  let arg2 : BitVec 32 := BitVec.ofNat 32 (i 2).val
  let c7_i32_9 : BitVec 32 := 7#32
  let v18 : BitVec 1 := Scalar.cmpi .eq arg2 c7_i32_9
  let v19 : BitVec 32 := Scalar.extui v18
  let c0_i32_10 : BitVec 32 := 0#32
  let v20 : BitVec 1 := Scalar.cmpi .ne v19 c0_i32_10
  v20

def k0_cond3 (i : grid0.Coords) : BitVec 1 :=
  let arg2 : BitVec 32 := BitVec.ofNat 32 (i 2).val
  let c0_i32_6 : BitVec 32 := 0#32
  let v13 : BitVec 1 := Scalar.cmpi .eq arg2 c0_i32_6
  let arg1 : BitVec 32 := BitVec.ofNat 32 (i 1).val
  let c0_i32_7 : BitVec 32 := 0#32
  let v14 : BitVec 1 := Scalar.cmpi .eq arg1 c0_i32_7
  let v15 : BitVec 1 := Scalar.andi v13 v14
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]
-- ==== FfOutDwRefIdeal.lean ====
abbrev S8192x4096 : Shape := ⟨2, ![8192, 4096]⟩
abbrev S8192x1024 : Shape := ⟨2, ![8192, 1024]⟩
abbrev S1x1024 : Shape := ⟨2, ![1, 1024]⟩
abbrev S4096x1024 : Shape := ⟨2, ![4096, 1024]⟩
abbrev S4096x8192 : Shape := ⟨2, ![4096, 8192]⟩
abbrev S_ : Shape := ⟨0, ![]⟩
abbrev S1024 : Shape := ⟨1, ![1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1x1024, .f32⟩
  | .hbm, ⟨3, _⟩ => ⟨S4096x1024, .bf16⟩
  | .hbm, ⟨4, _⟩ => ⟨S4096x8192, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1024, .f32⟩
  | .hbm, ⟨13, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Launch.lean ====
/-
  The launch of a program whose @main is one pallas_call, when the devices copy into each other's result
  arrays without any handshake first. A device may then write a part of its peer's array before the peer has
  begun, so the arrays that are no pipelined window have to be dealt among the devices at launch, together with
  the kernel's semaphores and the credit for what each device will be sent.
-/
module

public import Idealize.ShloMosaic.Lib.Pipeline.Kit
public import Idealize.ShloMosaic.Lib.Pipeline.Regions

@[expose] public section

set_option Elab.async false

noncomputable section

namespace Cert.Exchange

open Idealize.ShloMosaic Idealize.ShloMosaic.TcCoe Idealize.ShloMosaic.Rounds Idealize.ShloMosaic.Pipeline
open Idealize.ShloMosaic.Pipeline.PerCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-! ## The levels, assigned once for the machine -/

/-- Every TensorCore's right to assign levels, spent on one assignment. -/
theorem levels_assigned (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  refine (bigSep_mono fun c _ => lev_assign_cells (c.tc : Thread nD τ) L lv).trans ((BI.bigSep_bupd _ _).trans (BI.bupd_mono ?_))
  have hother (d : Dev nD) (p : Proc τ) (hp : p ∈ Finset.univ.erase Proc.tc) : (coreLevAts ((d, p) : Thread nD τ) L lv : sProp 𝕄) = BI.emp := by
    unfold coreLevAts
    refine (bigSep_congr (Ψ := fun _ : SemLoc sig => (BI.emp : sProp 𝕄)) fun sm _ => ?_).trans (BI.bigSep_emp_const _)
    rw [hL _ (Finset.ne_of_mem_erase hp), BI.bigSep_empty]
  have hrest : (bigSep Finset.univ fun d : Dev nD => bigSep (Finset.univ.erase Proc.tc) fun p => (coreLevAts ((d, p) : Thread nD τ) L lv : sProp 𝕄)) = BI.emp :=
    (bigSep_congr (Ψ := fun _ : Dev nD => (BI.emp : sProp 𝕄)) fun d _ =>
      (bigSep_congr (Ψ := fun _ : Proc τ => (BI.emp : sProp 𝕄)) fun p hp => hother d p hp).trans (BI.bigSep_emp_const _)).trans (BI.bigSep_emp_const _)
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  have hsort : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun p => (coreLevAts ((d, p) : Thread nD τ) L lv : sProp 𝕄)) := by
    rw [hrest, bigSep_sep']
    iintro ⟨-, H⟩
    isplitl [H]; · iexact H
    iempintro
  exact hsort

/-! ## The launch -/

section Region

variable {Λ₀ : Idealize.SL.Sem.Labels} {P : Type} [Fintype P] [DecidableEq P]
variable (pcs : P → PCfg sig Λ₀ Val) (a : Dev nD → (p : P) → (pcs p).Adm)
  (dats : (p : P) → (c : Dev nD) → Dat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem) (hp : PreFacts (pcs p).spec (pcs p).pre)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- What a device holds at launch besides its pipeline's own resources: the kernel's semaphores at zero, the arrays
    that are no window's, the credit for what the others owe it. -/
def Dealt (osem : K → SemLoc sig) (O₀ : Dev nD → CellTallies nD τ sig Ix) (m : (ℓ : Loc nD τ sig) → Buf Val ℓ) (c : Dev nD) : sProp 𝕄 :=
  iprop(ownSems0 osem c ∗ unscopedRestP (pcs p).pre (pinD pcs a c p).spec c (fun b => m ((c.tc : Thread nD τ).loc b)) ∗ launchCred O₀ c)

include phinj hw ho hp in
/-- The launch with everything that is not the pipeline's dealt at once, over all devices (`hdeal`): from the body's
    obligation to every fair run of the program, the windows' arrays at the computed contents, whatever the devices
    still hold at the end read by `hY`, every scoped semaphore at zero. -/
theorem run_dealt [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (dats p c) defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ c w, (dats p c).share w = fullShare) (hdistinct : Function.Injective (arrRef (pcs p).spec))
    (O₀ : Dev nD → CellTallies nD τ sig Ix) (howed₀ : ∀ c, (dats p c).owed 0 = O₀ c) (howedN : ∀ c, (dats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ cellsWaits (pinD pcs a) dats ι p c)
    (G : sProp 𝕄) (u₀ : U)
    (hu₀ : (ownU u₀ : sProp 𝕄)
      ⊢ |={Set.univ}=> iprop(BI.own (EP (initOf (cells (pinD pcs a) phinj) (launchToks (pinD pcs a) phinj))) ∗ G))
    (X Y : Dev nD → sProp 𝕄)
    (hdeal : iprop((bigSep Finset.univ fun c => Dealt pcs a p osem O₀ m c) ∗ G) ⊢ |={Set.univ}=> bigSep Finset.univ X)
    (hA : ∀ c w, (dats p c).A w = m (((pinD pcs a c p).spec w).arr.view.loc (c.tc : Thread nD τ)))
    (hpf : ∀ (c : Dev nD) k, m ((c.tc : Thread nD τ).loc ((pcs p).pre.ref k)) = (a c p).1 k)
    (hin : ∀ c, iprop(X c ∗ prefHeld (pcs p).pre c (fun _ => fullShare) (a c p).1 ∗ scopedRest (pinD pcs a c p).spec c) ⊢ (dats p c).Φ 0)
    (hout : ∀ c, (dats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ SI s') ⊢ |={Set.univ}=> iprop(⌜QY c s'.mem⌝ ∗ SI s')) :
    θ_run 𝔻 (onTc main) ⟨m, fun _ => 0, g⟩ fun r =>
      (∀ c : Dev nD, (∀ w, r.2.mem (((pinD pcs a c p).spec w).arr.view.loc (c.tc : Thread nD τ)) = (dats p c).arrAt w (pinD pcs a c p).N) ∧ QY c r.2)
      ∧ ∀ g' : GSem nD τ sig, (g'.1.2 ≠ .tc ∨ g'.2.isScoped .tc = true) → r.2.sem g' = 0 := by
  classical
  let rdats := Dat.toRs dats
  have hss := fun c : Dev nD => scopedSems0_split (pinD pcs a) phinj p (fun _ => hw) (fun _ => ho) (Ix := Ix) (Val := Val) (Name := Name) (U := U) (Lvl := Lvl) c
  have hsb := fun c : Dev nD => scopedBufs_split (pinD pcs a) p c hw.stage_scoped hw.stage_inj hstage (nD := nD) (τ := τ) (Ix := Ix) (Val := Val) (Name := Name) (U := U) (Lvl := Lvl)
  -- what each device's run of @main starts from, and what it ends with
  let keep : Dev nD → sProp 𝕄 := fun c => iprop(scopedBufs (c.tc : Thread nD τ) ∗ cellsSems0 (pinD pcs a) p c ∗ idleSems0 (pinD pcs a) phinj p (fun _ => ho) c)
  let held : Dev nD → sProp 𝕄 := fun c => iprop((rdats p c).arrays (rdats p c).A ∗ prefHeld (pcs p).pre c (fun _ => fullShare) (a c p).1)
  let pre : Dev nD → sProp 𝕄 := fun c => iprop(keep c ∗ held c ∗ owes (c.tc : Thread nD τ) (O₀ c) ∅ ∗ levAts L lv
    ∗ cellsGhost (pinD pcs a) EP p c ∗ toksInit (pinD pcs a) EP p c ∗ X c)
  let fin : Dev nD → sProp 𝕄 := fun c => iprop((rdats p c).arraysAt (pinD pcs a c p).N ∗ Y c ∗ scopedSems0 (c.tc : Thread nD τ))
  refine (θ_run 𝔻 _ _).mono (Q := fun r => (∀ c : Dev nD, ((∀ w, (rdats p c).ArrAt w (pinD pcs a c p).N (r.2.mem (((pinD pcs a c p).spec w).arr.view.loc (c.tc : Thread nD τ)))) ∧ QY c r.2)
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => ⟨fun w => ((dats p c).toR_arrAt_iff w _ _).mp ((hr.1 c).1.1 w), (hr.1 c).1.2⟩, sems_of_reads (fun c => (hr.1 c).2) hr.2⟩)
    (adequate_tpu 𝔻 _ _ _
      (reflect_intro_fupd_tc_sems (X := Unit) 𝕍 (owing O₀) 0 (noBookings fun _ => le_rfl) (owing_of_ne O₀) u₀ (fun _ => pre) (fun _ => fin)
        (fun _ => iprop(emp)) Set.univ ?_ (fun _ c => ?_) fun _ => ?_))
  · -- one device's launch holdings, sorted into its pipeline's and what is dealt
    have hcore (c : Dev nD) :
        coreInit (Ix := Ix) (Name := Name) (U := U) (Lvl := Lvl) (owing O₀) 0 (⟨m, fun _ => 0, g⟩ : MemSt nD τ sig Val) (c.tc : Thread nD τ)
          ⊢ iprop(keep c ∗ held c ∗ owes (c.tc : Thread nD τ) (O₀ c) ∅ ∗ levels0 c ∗ Dealt pcs a p osem O₀ m c) := by
      have hub := unscopedBufs_split (pinD pcs a) p c hw.arr_unscoped hdistinct (Ix := Ix) (Name := Name) (U := U) (Lvl := Lvl) (fun b => m ((c.tc : Thread nD τ).loc b))
      have hur := unscopedRest_split (Ix := Ix) (Name := Name) (U := U) (Lvl := Lvl) hp c (fun b => m ((c.tc : Thread nD τ).loc b))
      rw [funext (hpf c)] at hur
      have harr₀ : (bigSep Finset.univ fun w => (((c.tc : Thread nD τ).loc (arrRef (pinD pcs a c p).spec w)) ↦{fullShare} m ((c.tc : Thread nD τ).loc (arrRef (pinD pcs a c p).spec w)) : sProp 𝕄))
          = (rdats p c).arrays (rdats p c).A := by
        rw [RDat.arrays_eq pcs a rdats p c harr (hshare c)]
        exact bigSep_congr fun w _ => by rw [show (rdats p c).A w = m (((pinD pcs a c p).spec w).arr.view.loc (c.tc : Thread nD τ)) from hA c w]
      refine (coreInit_boundary_owing O₀ m g c).trans ?_
      simp only [keep, held, Dealt]
      unfold boundary
      rw [hss c]
      iintro ⟨⟨Hsc, ⟨⟨Hcells, Hos⟩, Hidle⟩, -⟩, Hub, -, HL, Hlv, -, Hcr⟩
      ihave Hub' := (Entails.of_eq hub) $$ Hub
      icases Hub' with ⟨Harr, Hur0⟩
      ihave Hur1 := (Entails.of_eq hur) $$ Hur0
      icases Hur1 with ⟨Hpf, Hur⟩
      isplitl [Hsc Hcells Hidle]
      · isplitl [Hsc]; · iexact Hsc
        isplitl [Hcells] <;> iassumption
      isplitl [Harr Hpf]
      · isplitl [Harr]; · iapply (Entails.of_eq harr₀); iexact Harr
        iexact Hpf
      isplitl [HL]; · iexact HL
      isplitl [Hlv]; · iexact Hlv
      isplitl [Hos]; · iexact Hos
      isplitl [Hur] <;> iassumption
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop(bigSep Finset.univ keep ∗ bigSep Finset.univ held ∗ (bigSep Finset.univ fun c : Dev nD => owes (c.tc : Thread nD τ) (O₀ c) ∅)
            ∗ (bigSep Finset.univ fun c : Dev nD => levels0 (Ix := Ix) (Val := Val) (Name := Name) (U := U) (Lvl := Lvl) (τ := τ) (sig := sig) c)
            ∗ (bigSep Finset.univ fun c : Dev nD => Dealt pcs a p osem O₀ m c) : sProp 𝕄) := by
      refine (bigSep_mono fun c _ => hcore c).trans ?_
      simp only [bigSep_sep']
      exact BI.Entails.refl _
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    iintro ⟨Hcores, Hu⟩
    ihave Hc := hcores $$ Hcores
    icases Hc with ⟨Hkeep, Hheld, HL, Hlv, HD⟩
    imod (levels_assigned L lv hL) $$ Hlv with Hla
    imod hu₀ $$ Hu with ⟨HP, HG⟩
    imod (fund_ghost (pinD pcs a) EP phinj) $$ HP with ⟨Hg, Ht⟩
    imod hdeal $$ [HD HG] with HX
    · isplitl [HD] <;> iassumption
    imodintro
    iexists ()
    isplitr []
    · simp only [pre, bigSep_sep']
      isplitl [Hkeep]; · iexact Hkeep
      isplitl [Hheld]; · iexact Hheld
      isplitl [HL]; · iexact HL
      isplitl [Hla]; · iapply (BI.bigSep_intro_persistent (S := Finset.univ) fun (c : Dev nD) _ => (BI.Entails.refl (levAts L lv : sProp 𝕄))); iexact Hla
      isplitl [Hg]; · iapply (hpick fun p' c => cellsGhost (pinD pcs a) EP p' c); iexact Hg
      isplitl [Ht]; · iapply (hpick fun p' c => toksInit (pinD pcs a) EP p' c); iexact Ht
      iexact HX
    · iempintro
  · -- one device's run: the pallas_call, then the return
    have hout' : iprop((rdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [hss c, hsb c]
      iintro ⟨HΦ, Hcells, Hst, Hidle⟩
      ihave H := (show (rdats p c).Φ (Fin.last (pinD pcs a c p).N) ⊢ iprop(Y c ∗ ownSems0 osem c ∗ scopedRest (pinD pcs a c p).spec c) from hout c) $$ HΦ
      icases H with ⟨HY, Hos, Hrest⟩
      isplitl [HY]; · iexact HY
      isplitl [Hcells Hos Hidle]
      · isplitl [Hcells Hos]; · isplitl [Hcells] <;> iassumption
        iexact Hidle
      isplitl [Hst] <;> iassumption
    have hpost : PerCore.RDat.EntryPost (pinD pcs a) rdats ι p c
        ⊢ iprop((rdats p c).arraysAt (pinD pcs a c p).N ∗ ∃ W, owes (c.tc : Thread nD τ) (0 : CellTallies nD τ sig Ix) W) := by
      unfold PerCore.RDat.EntryPost RDat.owesAt owesWithin
      rw [show (rdats p c).owed (Fin.last (pinD pcs a c p).N) = 0 from howedN c]
      iintro ⟨Ha, ⟨%W, -, HW⟩⟩
      isplitl [Ha]; · iexact Ha
      iexists W; iexact HW
    simp only [pre, keep, held]
    rw [hmain c]
    iintro ⟨⟨Hsc, Hcells, Hidle⟩, ⟨Harr, Hpf⟩, HL, #Hla, Hg, Ht, HX⟩
    ihave Hw := (hwaits c) $$ Hla
    iapply (fupd_wp frame (wpE 𝔻 𝕍 (c.tc : Thread nD τ) none) Set.univ _ _)
    imod (RDat.cellsInit_alloc (pinD pcs a) rdats EP phinj p c) $$ [Hcells Hg] with ⟨%κ, -, Hinit⟩
    · isplitl [Hcells] <;> iassumption
    imodintro
    iapply (RDat.wp_customCall_entry_frame pcs a rdats ι EP κ phinj p defs₀ 𝒱₀ (fun _ => fullShare) c Set.univ (fun _ _ => Set.mem_univ _)
        ((hbody c).toR) hne none (fun u h => nomatch h) (X := X c) (Y := Y c) (R := scopedRest (pinD pcs a c p).spec c) (I := idleSems0 (pinD pcs a) phinj p (fun _ => ho) c)
        (Entails.of_eq (hsb c)) (hin c) hout'
        (k := fun _ => .ret ⟨⟩) (Q := fun _ => post (liftTc fin BI.emp) (c.tc : Thread nD τ))) $$ [Harr HL Hinit Ht Hpf HX Hidle Hsc Hw]
    · isplitl [Harr HL Hinit Ht Hw]
      · unfold PerCore.RDat.EntryPre RDat.owesAt owesWithin
        rw [show (rdats p c).owed 0 = O₀ c from howed₀ c]
        isplitl [Harr]; · iexact Harr
        isplitl [HL]
        · iexists ∅; isplitr; · ipureintro; rw [Finset.coe_empty]; exact Set.empty_subset _
          iexact HL
        isplitl [Hw]; · iexact Hw
        isplitl [Hinit] <;> iassumption
      isplitl [Hpf]; · iexact Hpf
      isplitl [HX]; · iexact HX
      isplitl [Hidle] <;> iassumption
    iintro ⟨Hpost, HY, Hss2, -⟩
    rw [wp_ret]; imodintro
    unfold post; simp only [liftTc_tc, fin]
    ihave Hp := hpost $$ Hpost
    icases Hp with ⟨Ha, HW⟩
    isplitr [HW]
    · isplitl [Ha]; · iexact Ha
      isplitl [HY] <;> iassumption
    · iexact HW
  · -- what is held at the end, read off the final state
    have hread (c : Dev nD) (s' : Phys nD τ sig Val) : iprop(fin c ∗ SI s') ⊢ |={Set.univ}=>
        iprop(⌜((∀ w, (rdats p c).ArrAt w (pinD pcs a c p).N (s'.mem.mem (((pinD pcs a c p).spec w).arr.view.loc (c.tc : Thread nD τ)))) ∧ QY c s'.mem)
          ∧ ∀ sm : SemLoc sig, sm.isScoped .tc = true → s'.mem.sem ((c.tc : Thread nD τ), sm) = 0⌝ ∗ SI s') := by
      simp only [fin]
      iintro ⟨⟨Ha, HY, Hss⟩, HSI⟩
      ihave %hz := (tcScoped_read_pers c s') $$ [Hss HSI]
      · isplitl [Hss] <;> iassumption
      ihave Hr := (RDat.arraysAt_read pcs a rdats p c harr (pinD pcs a c p).N s') $$ [Ha HSI]
      · isplitl [Ha] <;> iassumption
      icases Hr with ⟨%ha, HSI⟩
      imod (hY c s') $$ [HY HSI] with ⟨%hy, HSI⟩
      · isplitl [HY] <;> iassumption
      imodintro
      isplitr
      · ipureintro; exact ⟨⟨ha, hy⟩, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Region

end Cert.Exchange

end
-- ==== Proof.Exchange.lean ====
/-
  The exchange that a kernel keeps in flight behind its own work: every device sends one piece to each of seven
  peers and copies one piece to itself, all at its first grid point, and waits for all fifteen transfers at its
  last. Semaphore by semaphore, on device `c`:

    send k   raised by `c`'s copy to `peer k c` once its source has been read; waited for by `c`;
    recv k   raised by `peer k c`'s copy when it has landed on `c`; waited for by `c`;
    own      raised by `c`'s copy to itself; waited for by `c`.

  Each is raised once, by `N`, and waited for once. No device waits before it has sent everything it owes, so the
  waits of the exchange itself never block on one another; the pipeline's own waits at the first point come while
  the sends are still owed, which the levels allow: the receive semaphores lie above every other.

  What a transfer hands to the waiting device is `pay`, left open here.
-/
module

public import Idealize.ShloMosaic.Lib.Pipeline.Kit
public import Idealize.ShloMosaic.Lib.Pipeline.Regions
public import Idealize.ShloMosaic.Lib.Tactic

@[expose] public section

noncomputable section

namespace Cert.Exchange

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

/-- The fifteen semaphores' parts: send `k`, receive `k`, the device's own copy. -/
abbrev Part : Type := Fin 7 ⊕ Fin 7 ⊕ Unit
abbrev send (k : Fin 7) : Part := .inl k
abbrev recv (k : Fin 7) : Part := .inr (.inl k)
abbrev own : Part := .inr (.inr ())

variable {nD : Nat} {τ : Topo} {sig : RefSig} {Val : EltTy → Type}

abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

/-! ## Conjunctions over the parts -/

theorem bigSep_seven {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- In the order of the waits: the receives, the sends, the device's own copy. -/
theorem bigSep_waits {M : Type} [URA M] (Φ : Part → sProp M) :
    bigSep Finset.univ Φ = iprop(Φ (recv 0) ∗ Φ (recv 1) ∗ Φ (recv 2) ∗ Φ (recv 3) ∗ Φ (recv 4) ∗ Φ (recv 5) ∗ Φ (recv 6)
      ∗ Φ (send 0) ∗ Φ (send 1) ∗ Φ (send 2) ∗ Φ (send 3) ∗ Φ (send 4) ∗ Φ (send 5) ∗ Φ (send 6) ∗ Φ own) :=
  bigSep_univ_eq_bigSepL [recv 0, recv 1, recv 2, recv 3, recv 4, recv 5, recv 6, send 0, send 1, send 2, send 3, send 4, send 5, send 6, own] (by decide) (by decide) Φ

/-- The three kinds apart. -/
theorem bigSep_parts {M : Type} [URA M] (Φ : Part → sProp M) :
    bigSep Finset.univ Φ = iprop((bigSep Finset.univ fun k => Φ (send k)) ∗ (bigSep Finset.univ fun k => Φ (recv k)) ∗ Φ own) := by
  rw [bigSep_univ_sum, bigSep_univ_sum]
  rw [show (Finset.univ : Finset Unit) = {()} from rfl, bigSep_singleton]
  rfl

theorem each {M : Type} [URA M] {I : Type} [DecidableEq I] {S : Finset I} {i : I} (h : i ∈ S) {Φ : I → sProp M} : (bigSep S Φ : sProp M) ⊢ Φ i :=
  bigSep_elim h

theorem with_persistent {M : Type} [URA M] {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The protocol -/

section Protocol

variable (osem : Part → SemLoc sig) (N : ℕ) (hN0 : 0 < N) (peer : Fin 7 → Dev nD → Dev nD)
variable (pay : Dev nD → Part → sProp (MT nD τ sig Unit Val ℕ (UU nD τ sig) ℕ))

abbrev cell (c : Dev nD) (j : Part) : GSem nD τ sig := ((c : Thread nD τ), osem j)

open Classical in
/-- One round: each of the fifteen cells of every device raised once by `N`, handing over `pay`. -/
def sched : Schedule (GSem nD τ sig) Unit 𝕄 where
  duties g r := if r = 0 ∧ g.1.2 = .tc ∧ ∃ j, osem j = g.2 then {()} else ∅
  amount _ _ _ := N
  payload g _ _ := if h : ∃ j, osem j = g.2 then pay g.1.1 h.choose else iprop(emp)
  amount_pos _ _ _ _ := hN0
  unitless _ := False

instance sched_storable [∀ c j, BI.Storable (upEmb : UEmb _ 𝕄) (pay c j)] (g : GSem nD τ sig) (r : ℕ) (d : Unit) :
    BI.Storable (upEmb : UEmb _ 𝕄) ((sched osem N hN0 pay).payload g r d) := by
  dsimp only [sched]; split <;> infer_instance

local notation "𝓡" => sched (nD := nD) (τ := τ) osem N hN0 pay

theorem duties_cell (c : Dev nD) (j : Part) : (𝓡).duties (cell osem c j) 0 = {()} := by
  dsimp only [sched]; exact if_pos ⟨rfl, rfl, j, rfl⟩
theorem duties_later (g : GSem nD τ sig) (r : ℕ) (hr : 1 ≤ r) : (𝓡).duties g r = ∅ := by
  dsimp only [sched]; exact if_neg fun h => by omega
theorem expect_cell (c : Dev nD) (j : Part) : (𝓡).expect (cell osem c j) 0 = N := by
  unfold Schedule.expect Schedule.amountOf; rw [duties_cell, Finset.sum_singleton]; rfl
variable {osem} in
theorem payload_cell (hinj : Function.Injective osem) (c : Dev nD) (j : Part) (u : Unit) : (𝓡).payload (cell osem c j) 0 u = pay c j := by
  dsimp only [sched]
  have h : ∃ j', osem j' = osem j := ⟨j, rfl⟩
  rw [dif_pos h, hinj h.choose_spec]

/-! ### What a device holds: before it has sent, in flight, landed -/

/-- Every cell's invariant, and that its round is reached: everyone's to use. -/
def records (K : Dev nD × Part → ℕ) : sProp 𝕄 :=
  iprop((bigSep Finset.univ fun x : Dev nD × Part => cellInv ER 𝓡 (K x) (cell osem x.1 x.2))
    ∗ bigSep Finset.univ fun x : Dev nD × Part => reached ER (cell osem x.1 x.2) 0)
instance records_persistent (K : Dev nD × Part → ℕ) : BI.Persistent (records osem N hN0 pay K) := by unfold records; infer_instance

theorem records_at (K : Dev nD × Part → ℕ) (c : Dev nD) (j : Part) :
    records osem N hN0 pay K ⊢ iprop(cellInv ER 𝓡 (K (c, j)) (cell osem c j) ∗ reached ER (cell osem c j) 0) := by
  unfold records
  iintro ⟨H, R⟩
  isplitl [H]
  · iapply (each (Finset.mem_univ (c, j)) (Φ := fun x : Dev nD × Part => (cellInv ER 𝓡 (K x) (cell osem x.1 x.2) : sProp 𝕄))); iexact H
  · iapply (each (Finset.mem_univ (c, j)) (Φ := fun x : Dev nD × Part => (reached ER (cell osem x.1 x.2) 0 : sProp 𝕄))); iexact R

/-- The tokens with which `c` pays for what it sends. -/
def tokens (c : Dev nD) : sProp 𝕄 :=
  iprop((bigSep Finset.univ fun k => dutyTok ER (cell osem c (send k)) 0 ())
    ∗ (bigSep Finset.univ fun k => dutyTok ER (cell osem (peer k c) (recv k)) 0 ()) ∗ dutyTok ER (cell osem c own) 0 ())

/-- The credit a cell's owner waits with. -/
abbrev credit (c : Dev nD) (j : Part) : sProp 𝕄 := cred (tallyAt (cell osem c j) () N)

/-- Before the sends: `mine` is what `c` keeps of its own, `give d k` what device `d` hands to `peer k d`. -/
def ready (mine : Dev nD → sProp 𝕄) (give : Dev nD → Fin 7 → sProp 𝕄) (c : Dev nD) : sProp 𝕄 :=
  iprop((∃ K, records osem N hN0 pay K) ∗ (bigSep Finset.univ fun j => atPos ER (cell osem c j) 0 ∅ 0) ∗ tokens osem peer c
    ∗ (bigSep Finset.univ fun k => credit osem N c (recv k)) ∗ mine c ∗ bigSep Finset.univ fun k => give (peer k c) k)
/-- Everything sent, nothing waited for. -/
def flying (c : Dev nD) : sProp 𝕄 :=
  iprop((∃ K, records osem N hN0 pay K) ∗ bigSep Finset.univ fun j => iprop(atPos ER (cell osem c j) 0 ∅ 0 ∗ credit osem N c j))
/-- Everything waited for. -/
def landed (c : Dev nD) : sProp 𝕄 := bigSep Finset.univ fun j => iprop(semVal (cell osem c j) 0 ∗ pay c j)

/-! ### What a device owes -/

/-- The sends from `k = n` on. -/
def debt (c : Dev nD) (n : ℕ) : CellTallies nD τ sig Unit :=
  ∑ k ∈ Finset.univ.filter (fun k : Fin 7 => n ≤ k.val), tallyAt (cell osem (peer k c) (recv k)) () N

theorem debt_step (c : Dev nD) (k : Fin 7) : debt (τ := τ) osem N peer c k.val = debt osem N peer c (k.val + 1) + tallyAt (cell osem (peer k c) (recv k)) () N := by
  unfold debt
  have h : Finset.univ.filter (fun k' : Fin 7 => k.val ≤ k'.val) = insert k (Finset.univ.filter fun k' : Fin 7 => k.val + 1 ≤ k'.val) := by
    revert k; decide
  rw [h]
  exact (Finset.sum_insert fun h => absurd (Finset.mem_filter.mp h).2 (by omega)).trans (add_comm _ _)
theorem debt_seven (c : Dev nD) : debt (τ := τ) osem N peer c 7 = 0 := by
  unfold debt
  rw [show Finset.univ.filter (fun k' : Fin 7 => 7 ≤ k'.val) = ∅ from by decide, Finset.sum_empty]
theorem debt_zero (c : Dev nD) : debt (τ := τ) osem N peer c 0 = ∑ k : Fin 7, tallyAt (cell osem (peer k c) (recv k)) () N := by
  unfold debt
  rw [show Finset.univ.filter (fun k' : Fin 7 => 0 ≤ k'.val) = Finset.univ from by decide]

/-- The levels: the receive semaphores above every other. -/
def L (g : GSem nD τ sig) : Finset Unit := if g.1.2 = .tc then {()} else ∅
open Classical in
def lv (g : GSem nD τ sig) (_ : Unit) : ℕ := if ∃ k, osem (recv k) = g.2 then 1 else 0
theorem L_of_ne (g : GSem nD τ sig) (h : g.1.2 ≠ .tc) : L g = ∅ := if_neg h

/-- A wait on any semaphore that is no receive semaphore, while the sends are owed or once they are not. -/
theorem mayWait_stage (c : Dev nD) (s : SemLoc sig) (hs : ∀ k, osem (recv k) ≠ s) (n : ℕ) (O : CellTallies nD τ sig Unit)
    (hO : O = debt osem N peer c n) :
    (levAts L (lv osem) : sProp 𝕄) ⊢ MayWait (c : Thread nD τ) s () O := by
  subst hO
  refine Pipeline.mayWait_of_levAts (by unfold L; rw [if_pos rfl]; exact Finset.mem_singleton_self _) fun g i h => ?_
  obtain ⟨k, -, hk⟩ := Pipeline.sum_pos_exists h
  obtain ⟨rfl, rfl⟩ := Pipeline.tallyAt_pos hk
  refine ⟨by unfold L; rw [if_pos rfl]; exact Finset.mem_singleton_self _, ?_⟩
  unfold lv
  rw [if_neg (fun ⟨k', h'⟩ => hs k' h'), if_pos ⟨k, rfl⟩]
  exact Nat.one_pos

/-! ### The launch -/

variable {osem peer}

section Funding

variable (hinj : Function.Injective osem)

include hinj in
theorem cell_injective : Function.Injective (fun x : Dev nD × Part => cell (τ := τ) osem x.1 x.2) := by
  rintro ⟨c, j⟩ ⟨c', j'⟩ h
  have h1 : c = c' := congrArg (fun g : GSem nD τ sig => g.1.1) h
  have h2 : j = j' := hinj (congrArg Prod.snd h)
  rw [h1, h2]

def cellsOf : Finset (GSem nD τ sig) := Finset.univ.map ⟨_, cell_injective (nD := nD) (τ := τ) hinj⟩
def toksOf : Finset (GSem nD τ sig × ℕ × Unit) :=
  Finset.univ.map ⟨fun x : Dev nD × Part => (cell osem x.1 x.2, 0, ()), fun _ _ h => cell_injective hinj (congrArg Prod.fst h)⟩

/-- The launch's ghost state: the pipelines', and the exchange's. -/
def u₀ (uP : UR sig nD τ) : UU nD τ sig := (uP, initOf (cellsOf hinj) (toksOf hinj))

/-- Every cell's round state, position and token. -/
def ghosts : sProp 𝕄 :=
  iprop((bigSep Finset.univ fun x : Dev nD × Part => roundState ER 𝓡 (cell osem x.1 x.2) 0)
    ∗ (bigSep Finset.univ fun x : Dev nD × Part => reached ER (cell osem x.1 x.2) 0)
    ∗ (bigSep Finset.univ fun x : Dev nD × Part => atPos ER (cell osem x.1 x.2) 0 ∅ 0)
    ∗ bigSep Finset.univ fun x : Dev nD × Part => dutyTok ER (cell osem x.1 x.2) 0 ())

theorem fund_ghosts : (BI.own (ER (initOf (cellsOf hinj) (toksOf hinj))) : sProp 𝕄) ⊢ |==> ghosts (osem := osem) N hN0 pay := by
  have hX (Φ : GSem nD τ sig → sProp 𝕄) : bigSep (cellsOf hinj) Φ = bigSep Finset.univ fun x : Dev nD × Part => Φ (cell osem x.1 x.2) := by
    unfold cellsOf; rw [bigSep_map]; rfl
  have hT : bigSep (toksOf hinj) (fun x => (dutyTok ER x.1 x.2.1 x.2.2 : sProp 𝕄)) = bigSep Finset.univ fun x : Dev nD × Part => dutyTok ER (cell osem x.1 x.2) 0 () := by
    unfold toksOf; rw [bigSep_map]; rfl
  iintro HX
  imod (Rounds.fund ER 𝓡 (cellsOf hinj) (toksOf hinj)) $$ HX with ⟨Hst, Hr, Hat, Htok⟩
  ihave Hst' := (Entails.of_eq (hX fun g => roundState ER 𝓡 g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  imodintro
  unfold ghosts
  isplitl [Hst']; · iexact Hst'
  isplitl [Hr']; · iexact Hr'
  isplitl [Hat'] <;> iassumption

end Funding

/-- The credit dealt at launch: each device's seven arrivals. -/
theorem launch_credit (hpeer : ∀ k c, peer k (peer k c) = c) (c : Dev nD) :
    (Pipeline.launchCred (fun d => debt osem N peer d 0) c : sProp 𝕄) ⊢ bigSep Finset.univ fun k => credit osem N c (recv k) := by
  rw [show (fun d => debt osem N peer d 0) = fun d : Dev nD => ∑ k ∈ (Finset.univ : Finset (Fin 7)), tallyAt (cell (τ := τ) osem (peer k d) (recv k)) () N from
    funext fun d => debt_zero osem N peer d, Pipeline.launchCred_sum]
  exact bigSep_mono fun k _ => Pipeline.launchCred_tallyAt (osem (recv k)) (peer k) (peer k) (hpeer k) (hpeer k) () N c

/-- Dealing at launch: from every device's semaphores at zero, what it gives away and its credit, every device ready. -/
theorem deal [∀ c j, BI.Storable (upEmb : UEmb _ 𝕄) (pay c j)] (hpeer : ∀ k c, peer k (peer k c) = c)
    (mine : Dev nD → sProp 𝕄) (give : Dev nD → Fin 7 → sProp 𝕄) :
    iprop((bigSep Finset.univ fun c : Dev nD => iprop(Pipeline.ownSems0 (Ix := Unit) (Name := ℕ) (U := UU nD τ sig) (Lvl := ℕ) (Val := Val) (τ := τ) osem c
          ∗ (mine c ∗ bigSep Finset.univ fun k => give c k) ∗ Pipeline.launchCred (fun d => debt osem N peer d 0) c))
        ∗ ghosts (osem := osem) N hN0 pay)
      ⊢ |={Set.univ}=> bigSep Finset.univ (ready osem N hN0 peer pay mine give) := by
  have around (Φ : Dev nD → Fin 7 → sProp 𝕄) :
      (bigSep Finset.univ fun c : Dev nD => bigSep Finset.univ fun k => Φ c k) = bigSep Finset.univ fun c : Dev nD => bigSep Finset.univ fun k => Φ (peer k c) k := by
    rw [bigSep_univ_comm, bigSep_univ_comm (fun (c : Dev nD) (k : Fin 7) => Φ (peer k c) k)]
    exact bigSep_congr fun k _ => bigSep_univ_equiv (⟨peer k, peer k, hpeer k, hpeer k⟩ : Dev nD ≃ Dev nD) fun c => Φ c k
  have htok : (bigSep Finset.univ fun x : Dev nD × Part => (dutyTok ER (cell osem x.1 x.2) 0 () : sProp 𝕄)) = bigSep Finset.univ fun c => tokens osem peer c := by
    unfold tokens
    rw [bigSep_univ_prod, bigSep_congr fun (c : Dev nD) _ => bigSep_parts fun j => (dutyTok ER (cell osem c j) 0 () : sProp 𝕄)]
    simp only [bigSep_sep']
    rw [around fun c k => dutyTok ER (cell osem c (recv k)) 0 ()]
  have hinv : iprop((bigSep Finset.univ fun x : Dev nD × Part => semVal (cell osem x.1 x.2) 0) ∗ bigSep Finset.univ fun x : Dev nD × Part => roundState ER 𝓡 (cell osem x.1 x.2) 0)
      ⊢ (|={Set.univ}=> bigSep Finset.univ fun x : Dev nD × Part => iprop(∃ κ : ℕ, cellInv ER 𝓡 κ (cell osem x.1 x.2)) : sProp 𝕄) := by
    rw [← bigSep_sep']
    exact (bigSep_mono fun x _ => (Rounds.body_intro ER 𝓡 (cell osem x.1 x.2)).trans inv_alloc).trans (bigSep_fupd _ _)
  have hown : (bigSep Finset.univ fun c : Dev nD => (Pipeline.ownSems0 (Ix := Unit) (Name := ℕ) (U := UU nD τ sig) (Lvl := ℕ) (Val := Val) (τ := τ) osem c : sProp 𝕄))
      = bigSep Finset.univ fun x : Dev nD × Part => semVal (cell osem x.1 x.2) 0 := by
    rw [bigSep_univ_prod]; rfl
  have hcred : (bigSep Finset.univ fun c : Dev nD => (Pipeline.launchCred (fun d => debt osem N peer d 0) c : sProp 𝕄))
      ⊢ bigSep Finset.univ fun c : Dev nD => bigSep Finset.univ fun k => credit osem N c (recv k) :=
    bigSep_mono fun c _ => launch_credit N hpeer c
  simp only [bigSep_sep']
  rw [hown, around give]
  unfold ghosts
  iintro ⟨⟨Hv, ⟨Hmine, Hgive⟩, Hcr⟩, Hst, #Hr, Hat, Htok⟩
  imod hinv $$ [Hv Hst] with Hinv
  · isplitl [Hv] <;> iassumption
  ihave Hcr' := hcred $$ Hcr
  ihave Htok' := (Entails.of_eq htok) $$ Htok
  ihave HK := (BI.bigSep_exists_pi Finset.univ (fun (x : Dev nD × Part) (κ : ℕ) => (cellInv ER 𝓡 κ (cell osem x.1 x.2) : sProp 𝕄))) $$ Hinv
  icases HK with ⟨%K, #HI⟩
  imodintro
  iapply (with_persistent (R := records osem N hN0 pay K)
    (Φ := fun c => iprop((bigSep Finset.univ fun j => atPos ER (cell osem c j) 0 ∅ 0) ∗ tokens osem peer c
      ∗ (bigSep Finset.univ fun k => credit osem N c (recv k)) ∗ mine c ∗ bigSep Finset.univ fun k => give (peer k c) k)) fun c _ => by
      unfold ready
      iintro ⟨HR, H⟩
      isplitl [HR]; · iexists K; iexact HR
      iexact H)
  isplitr
  · unfold records; isplitl; · iexact HI
    iexact Hr
  simp only [bigSep_sep']
  isplitl [Hat]; · iapply (Entails.of_eq (bigSep_univ_prod fun x : Dev nD × Part => (atPos ER (cell osem x.1 x.2) 0 ∅ 0 : sProp 𝕄))); iexact Hat
  isplitl [Htok']; · iexact Htok'
  isplitl [Hcr']; · iexact Hcr'
  isplitl [Hmine] <;> iassumption

/-! ### The transfers and the waits -/

section Steps

variable (hinj : Function.Injective osem)
variable {Λ : Labels} {defs : Defs nD τ sig Val Λ} (𝒱 : Variants) {α : Type} {Q : α → sProp (MT nD τ sig Unit Val ℕ (UU nD τ sig) ℕ)}
variable {sp sp' : Space} {s : Shape} {e : EltTy}

include hinj in
/-- The copy to peer `k`: its source share and the peer's slot go in; the credit to wait for the source comes out. -/
theorem wp_send [∀ c j, BI.Storable (upEmb : UEmb _ 𝕄) (pay c j)] (K : Dev nD × Part → ℕ) (c c' : Dev nD) (k : Fin 7) (hc : c' = peer k c)
    {src : Memref sig .tc sp s e} {dst : Memref sig .tc sp' s e} {hsc : dst.view.ref.isScScratch = false} {sS sR : SemLoc sig}
    {hsrc : src.view.WordExact} {hdst : dst.view.WordExact} {hsem : DmaTarget.Typed sp sR (.remote (Dev.tc c' : Thread nD τ) dst sS hsc)}
    {kont : PUnit → Prog (TpuEff nD τ sig Val Λ .tc) α} {q : PosShare TreeShare}
    {fs : Buf Val (src.view.loc (c : Thread nD τ))} {fd : Buf Val (dst.view.loc (c' : Thread nD τ))}
    (hS : sS = osem (send k)) (hR : sR = osem (recv k)) (hN : dst.view.amount sR = N)
    (hpayS : (src.view.loc (c : Thread nD τ) ↦[src.view.set]{q} fs) ⊢ pay c (send k))
    (hpayR : (dst.view.loc (c' : Thread nD τ) ↦[dst.view.set]{fullShare} (dst.view.write Val fd (src.view.read Val fs) Finset.univ)) ⊢ pay c' (recv k))
    {n n' : ℕ} (hn : n = k.val) (hn' : n' = k.val + 1) (W : Waits sig Unit) (hr : τ.routes (c : Thread nD τ) (c' : Thread nD τ) = true) :
    iprop(records osem N hN0 pay K ∗ (src.view.loc (c : Thread nD τ) ↦[src.view.set]{q} fs) ∗ (dst.view.loc (c' : Thread nD τ) ↦[dst.view.set]{fullShare} fd)
        ∗ owes (c : Thread nD τ) (debt osem N peer c n) W ∗ dutyTok ER (cell osem c (send k)) 0 () ∗ dutyTok ER (cell osem (peer k c) (recv k)) 0 ())
      ⊢ iprop(((credit osem N c (send k) ∗ owes (c : Thread nD τ) (debt osem N peer c n') W) -∗ wp frame (wpE defs 𝒱 (c : Thread nD τ) none) Set.univ (kont ⟨⟩) Q)
          -∗ wp frame (wpE defs 𝒱 (c : Thread nD τ) none) Set.univ (.op (.enqueueDma src (.remote (Dev.tc c' : Thread nD τ) dst sS hsc) sR hsrc hdst hsem) kont) Q) := by
  subst hc hS hR hn hn'
  refine BIBase.Entails.trans ?_ (Rounds.wp_send_pointsTo 𝒱 ER 𝓡 (c : Thread nD τ) none (κ₁ := K (c, send k)) (κ₂ := K (peer k c, recv k))
    (r₁ := 0) (r₂ := 0) (d₁ := ()) (d₂ := ()) (fs := fs) (fd := fd) (q := q)
    (by rw [duties_cell]; exact Finset.mem_singleton_self _) (by rw [duties_cell]; exact Finset.mem_singleton_self _)
    () () N hN rfl rfl (debt osem N peer c (k.val + 1)) (debt_step osem N peer c k) (W := W)
    (by rw [payload_cell N hN0 pay hinj]; exact hpayS) (by rw [payload_cell N hN0 pay hinj]; exact hpayR) hr)
  iintro ⟨#HR, Hs, Hd, HO, HtS, HtR⟩
  ihave H1 := (records_at osem N hN0 pay K c (send k)) $$ HR
  icases H1 with ⟨HI1, HR1⟩
  ihave H2 := (records_at osem N hN0 pay K (peer k c) (recv k)) $$ HR
  icases H2 with ⟨HI2, HR2⟩
  isplitl [HI1]; · iexact HI1
  isplitl [HI2]; · iexact HI2
  isplitl [Hs]; · iexact Hs
  isplitl [Hd]; · iexact Hd
  isplitl [HO]; · iexact HO
  isplitl [HtS]; · iexact HtS
  isplitl [HR1]; · iexact HR1
  isplitl [HtR] <;> iassumption

include hinj in
/-- The device's copy to itself. -/
theorem wp_own [∀ c j, BI.Storable (upEmb : UEmb _ 𝕄) (pay c j)] (K : Dev nD × Part → ℕ) (c : Dev nD)
    {src : Memref sig .tc sp s e} {dst : Memref sig .tc sp' s e} {sO : SemLoc sig}
    {hsrc : src.view.WordExact} {hdst : dst.view.WordExact} {hsem : DmaTarget.Typed (nD := nD) (p := (.tc : Proc τ)) sp sO (.here dst)}
    {kont : PUnit → Prog (TpuEff nD τ sig Val Λ .tc) α} {q : PosShare TreeShare}
    {fs : Buf Val (src.view.loc (c : Thread nD τ))} {fd : Buf Val (dst.view.loc (c : Thread nD τ))}
    (hO : sO = osem own) (hN : dst.view.amount sO = N)
    (hpay : iprop((dst.view.loc (c : Thread nD τ) ↦[dst.view.set]{fullShare} (dst.view.write Val fd (src.view.read Val fs) Finset.univ))
      ∗ (src.view.loc (c : Thread nD τ) ↦[src.view.set]{q} fs)) ⊢ pay c own) :
    iprop(records osem N hN0 pay K ∗ (src.view.loc (c : Thread nD τ) ↦[src.view.set]{q} fs) ∗ (dst.view.loc (c : Thread nD τ) ↦[dst.view.set]{fullShare} fd)
        ∗ dutyTok ER (cell osem c own) 0 ())
      ⊢ iprop((credit osem N c own -∗ wp frame (wpE defs 𝒱 (c : Thread nD τ) none) Set.univ (kont ⟨⟩) Q)
          -∗ wp frame (wpE defs 𝒱 (c : Thread nD τ) none) Set.univ (.op (.enqueueDma src (.here dst) sO hsrc hdst hsem) kont) Q) := by
  subst hO
  refine BIBase.Entails.trans ?_ (Rounds.wp_copy_pointsTo 𝒱 ER 𝓡 (c : Thread nD τ) none (κ := K (c, own)) (r := 0) (d := ()) (fs := fs) (fd := fd) (q := q)
    (by rw [duties_cell]; exact Finset.mem_singleton_self _) () N hN rfl (by rw [payload_cell N hN0 pay hinj]; exact hpay))
  iintro ⟨#HR, Hs, Hd, Ht⟩
  ihave H1 := (records_at osem N hN0 pay K c own) $$ HR
  icases H1 with ⟨HI1, HR1⟩
  isplitl [HI1]; · iexact HI1
  isplitl [Hs]; · iexact Hs
  isplitl [Hd]; · iexact Hd
  isplitl [Ht] <;> iassumption

include hinj in
/-- A wait: the cell's payload comes out, and the cell is done with, its counter back at zero. -/
theorem wp_wait [∀ c j, BI.Storable (upEmb : UEmb _ 𝕄) (pay c j)] (K : Dev nD × Part → ℕ) (c : Dev nD) (j : Part) {w : TpuEff nD τ sig Val Λ .tc PUnit} {sm : SemLoc sig} {n : ℕ}
    (hw : ∀ K' : PUnit → sProp 𝕄, wpE defs 𝒱 (c : Thread nD τ) none Set.univ w K' = waitSpec (c : Thread nD τ) Set.univ sm n K')
    (hsm : sm = osem j) (hn : n = N)
    {kont : PUnit → Prog (TpuEff nD τ sig Val Λ .tc) α} (W : Waits sig Unit) :
    iprop(records osem N hN0 pay K ∗ (atPos ER (cell osem c j) 0 ∅ 0 ∗ credit osem N c j) ∗ owes (c : Thread nD τ) 0 W)
      ⊢ iprop((((semVal (cell osem c j) 0 ∗ pay c j) ∗ ∃ W', owes (c : Thread nD τ) 0 W') -∗ wp frame (wpE defs 𝒱 (c : Thread nD τ) none) Set.univ (kont ⟨⟩) Q)
          -∗ wp frame (wpE defs 𝒱 (c : Thread nD τ) none) Set.univ (.op w kont) Q) := by
  subst hsm hn
  iintro ⟨#HR, ⟨Hat, Hcr⟩, HO⟩ Hk
  ihave H1 := (records_at osem n hN0 pay K c j) $$ HR
  icases H1 with ⟨#HI, -⟩
  iapply (Rounds.wp_wait_rest_token 𝒱 ER (sched osem n hN0 pay) (c : Thread nD τ) none (κ := K (c, j)) hw (Set.mem_univ _) () (O := 0) (W := W) (R := 0) (m := 0) (T := ∅)
      (by rw [Nat.zero_add, expect_cell])) $$ [HO Hat Hcr]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (show bigSep ((sched osem n hN0 pay).duties (cell osem c j) 0 \ ∅) (fun u => (sched osem n hN0 pay).payload (cell osem c j) 0 u) = pay c j by
    rw [Finset.sdiff_empty, duties_cell, bigSep_singleton, payload_cell n hN0 pay hinj])) $$ Hpay
  iapply (fupd_wp frame (wpE defs 𝒱 (c : Thread nD τ) none) Set.univ _ _)
  imod (Rounds.cell_close ER (sched osem n hN0 pay) (Set.mem_univ (K (c, j))) (fun h => h) (R := 0 + 1) (fun r hr => duties_later osem n hN0 pay _ r hr)) $$ [Hat] with Hz
  · isplitr; · iexact HI
    iexact Hat
  imodintro
  iapply Hk
  isplitl [Hz Hp]; · isplitl [Hz] <;> iassumption
  iexists _; iexact HO

end Steps

end Protocol

end Cert.Exchange

end
-- ==== Proof.Slots.lean ====
/-
  Eight devices and an array of eight slots, one for each of them.

  A device's peers: peer `k` differs from it in the bits of `k + 1`, so the seven peers are the seven other devices and
  each relation is its own inverse. The array's slot `d` is its rectangle `[d, 0, 0]` of one plane: which elements it
  holds, where an index of the plane lies in it, and the eight slots together.
-/
module

public import Idealize.ShloMosaic.Lib.ValueLayout
public import Idealize.ShloMosaic.Lib.Transfers
public import Idealize.ShloMosaic.Lib.Tactic

@[expose] public section

noncomputable section

namespace Cert.Exchange

open Idealize.ShloMosaic Idealize.ShloMosaic.ValueIdx
open Idealize.SL Idealize.SL.RA Idealize.SL.BI
open scoped Idealize.SL.BI
open Idealize.SL.BI.BIBase Idealize.SL.Sem

/-! ## Peers -/

/-- Peer `k` of device `c`. -/
def peer (k : Fin 7) (c : Fin 8) : Fin 8 := c ^^^ k.succ

theorem peer_peer (k : Fin 7) (c : Fin 8) : peer k (peer k c) = c := by revert k c; decide
theorem peer_ne (k : Fin 7) (c : Fin 8) : peer k c ≠ c := by revert k c; decide

/-- A conjunction over the devices: the device's own conjunct and its peers'. -/
theorem bigSep_peers {M : Type} [URA M] (c : Fin 8) (Φ : Fin 8 → sProp M) :
    bigSep Finset.univ Φ = iprop(Φ c ∗ bigSep Finset.univ fun k => Φ (peer k c)) := by
  have hinj : Function.Injective fun k => peer k c := by revert c; unfold Function.Injective; decide
  have h : (Finset.univ : Finset (Fin 8)) = insert c (Finset.univ.map ⟨fun k => peer k c, hinj⟩) := by
    ext d
    simp only [Finset.mem_univ, Finset.mem_insert, Finset.mem_map, Function.Embedding.coeFn_mk, true_and, true_iff]
    revert c d; decide
  have hc : c ∉ Finset.univ.map ⟨fun k => peer k c, hinj⟩ := by
    simp only [Finset.mem_map, Finset.mem_univ, Function.Embedding.coeFn_mk, true_and, not_exists]
    exact fun k => peer_ne k c
  rw [h, bigSep_insert hc, bigSep_map]
  rfl

/-! ## Slots -/

abbrev Plane (A B : ℕ) : Shape := ⟨2, ![A, B]⟩
abbrev Plane1 (A B : ℕ) : Shape := ⟨3, ![1, A, B]⟩
abbrev Planes (A B : ℕ) : Shape := ⟨3, ![8, A, B]⟩

variable {A B : ℕ}

/-- The elements of slot `d`. -/
def slab (A B : ℕ) (d : Fin 8) : Finset (Planes A B).Idx := Finset.univ.filter fun i => (i 0).val = d.val

theorem slab_disjoint {d d' : Fin 8} (h : d ≠ d') : Disjoint (slab A B d) (slab A B d') :=
  Finset.disjoint_left.mpr fun _ hi hi' => h (Fin.ext ((Finset.mem_filter.mp hi).2.symm.trans (Finset.mem_filter.mp hi').2))
theorem slab_cover (i : (Planes A B).Idx) : ∃ d, i ∈ slab A B d := ⟨⟨(i 0).val, (i 0).isLt⟩, Finset.mem_filter.mpr ⟨Finset.mem_univ i, rfl⟩⟩

/-- A whole array, part by part. -/
theorem split_parts {nD : Nat} {τ : Topo} {sig : RefSig} {Val : EltTy → Type} {U : Type} [URA U] {ℓ : Loc nD τ sig} (K : Fin 8 → Finset (Idx ℓ))
    (hd : ∀ d d', d ≠ d' → Disjoint (K d) (K d')) (hu : ∀ i, ∃ d, i ∈ K d) (q : PosShare TreeShare) (f : Buf Val ℓ) :
    (ℓ ↦{q} f : sProp (MT nD τ sig Unit Val ℕ U ℕ)) = bigSep Finset.univ fun d => ℓ ↦[K d]{q} f := by
  rw [← pointsTo_biUnion Finset.univ K fun t _ t' _ h => hd t t' h,
    show Finset.univ.biUnion K = Finset.univ from Finset.eq_univ_of_forall fun i => Finset.mem_biUnion.mpr ((hu i).imp fun d h => ⟨Finset.mem_univ d, h⟩)]

/-- Slot `d` as a rectangle. -/
theorem rect_set (d : Fin 8) {off : Fin 3 → ℕ} (ho : off = ![d.val, 0, 0])
    (inb : ∀ a, off a + (Plane1 A B).size a ≤ (Planes A B).size a) :
    (Rect.unit (s := Planes A B) off (Plane1 A B).size inb).set = slab A B d := by
  subst ho
  ext i
  rw [Rect.mem_set_unit]
  simp only [slab, Finset.mem_filter, Finset.mem_univ, true_and]
  constructor
  · intro h
    have h0 := h 0
    have h1 : d.val ≤ (i 0).val ∧ (i 0).val < d.val + 1 := h0
    omega
  · intro h a
    have hb := (i a).isLt
    match a with
    | ⟨0, _⟩ => exact ⟨h.ge, by show (i 0).val < d.val + 1; omega⟩
    | ⟨1, _⟩ => exact ⟨Nat.zero_le _, by show (i 1).val < 0 + A; rw [Nat.zero_add]; exact hb⟩
    | ⟨2, _⟩ => exact ⟨Nat.zero_le _, by show (i 2).val < 0 + B; rw [Nat.zero_add]; exact hb⟩

/-- Where an index of the plane lies in slot `d`. -/
theorem rect_emb (d : Fin 8) {off : Fin 3 → ℕ} (ho : off = ![d.val, 0, 0])
    (inb : ∀ a, off a + (Plane1 A B).size a ≤ (Planes A B).size a) (h : (Plane A B).numel = (Plane1 A B).numel) (j : (Plane A B).Idx) :
    (Rect.unit (s := Planes A B) off (Plane1 A B).size inb).emb (Shape.reshapeEquiv h j) = ix3 d (j 0) (j 1) := by
  subst ho
  have e : Shape.reshapeEquiv h j = ix3 (⟨0, Nat.one_pos⟩ : Fin 1) (j 0) (j 1) :=
    (congrArg (Shape.reshapeEquiv h) (eq_ix2 j)).trans (reshapeEquiv_ix2_1ab h (j 0) (j 1))
  rw [e]
  funext a
  apply Fin.ext
  match a with
  | ⟨0, h0⟩ =>
    exact (Rect.emb_apply (r := Rect.unit (s := Planes A B) ![d.val, 0, 0] (Plane1 A B).size inb) _ ⟨0, h0⟩).trans
      rfl
  | ⟨1, h1⟩ =>
    exact (Rect.emb_apply (r := Rect.unit (s := Planes A B) ![d.val, 0, 0] (Plane1 A B).size inb) _ ⟨1, h1⟩).trans
      (by show 0 + 1 * (j 0).val = (j 0).val; omega)
  | ⟨2, h2⟩ =>
    exact (Rect.emb_apply (r := Rect.unit (s := Planes A B) ![d.val, 0, 0] (Plane1 A B).size inb) _ ⟨2, h2⟩).trans
      (by show 0 + 1 * (j 1).val = (j 1).val; omega)

end Cert.Exchange

end
-- ==== Proof.Contents.lean ====
/-
  What the transfers of the weight gather carry, and what each hands over where it is waited for. On device `c`:

    send k   the share of `c`'s shard that the copy to `peer k c` read;
    recv k   slot `peer k c` of `c`'s result, holding that device's shard;
    own      slot `c` of `c`'s result, holding `c`'s own shard, and the share of it that was read.
-/
module

public import proofs.«01_k».proof.Proof.Gen.KernelIdeal.Frame
public import proofs.«01_k».proof.Proof.Gen.KernelIdeal.Skeleton
public import proofs.«01_k».proof.Proof.Exchange
public import proofs.«01_k».proof.Proof.Slots

@[expose] public section

noncomputable section

namespace Cert.KernelIdeal.Gather

open Cert.KernelIdeal Cert.KernelIdeal.Gen Cert.Exchange
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## The semaphores and the amount -/

def osem : Part → SemLoc sig
  | .inl k => .dma ((![6, 7, 8, 9, 10, 11, 12] : Fin 7 → DmaSem sig) k)
  | .inr (.inl k) => .dma ((![13, 14, 15, 16, 17, 18, 19] : Fin 7 → DmaSem sig) k)
  | .inr (.inr _) => .dma 20
theorem osem_inj : Function.Injective osem := by decide
theorem ownSemFacts : Pipeline.OwnSemFacts cfg0.spec osem := by decide

abbrev shardM : Memref sig .tc .hbm S1024x1154 .bf16 := Memref.whole main_arg2
abbrev allM : Memref sig .tc .hbm S8x1024x1154 .bf16 := Memref.whole main_v1_1
/-- The slot at offset `off` of the result. -/
abbrev slotM (off : Fin 3 → ℕ) (inb : ∀ a, off a + S1x1024x1154.size a ≤ S8x1024x1154.size a) : Memref sig .tc .hbm S1024x1154 .bf16 :=
  (allM.slice (Rect.unit (s := S8x1024x1154) off S1x1024x1154.size inb) (fun _ => rfl)).squeeze S1024x1154 squeezes_S1x1024x1154_S1024x1154

/-- What one transfer raises a semaphore by. -/
def N : ℕ := shardM.view.dmaCredit
theorem N_pos : 0 < N := View.dmaCredit_pos _ (by decide)
theorem slot_amount (off : Fin 3 → ℕ) (inb) : (slotM off inb).view.dmaCredit = N := rfl

/-! ## The contents -/

variable (m : (ℓ : Loc nD τ sig) → Buf (Elt F) ℓ)

/-- The gathered array on device `c`: slot `d` is device `d`'s shard. -/
def gathered (c : Dev nD) : Buf (Elt F) ((c : Thread nD τ).loc main_v1_1) :=
  fun i : S8x1024x1154.Idx => m (((⟨(i 0).val, (i 0).isLt⟩ : Dev nD) : Thread nD τ).loc main_arg2) (ValueIdx.ix2 (i 1) (i 2))

/-- The share of its shard that a device lends to the copy to device `d`. -/
abbrev sh (d : Dev nD) : PosShare TreeShare := Transfers.dealOf fullShare Finset.univ d

/-- Device `c`'s shard, at a share. -/
abbrev shardPt (c : Dev nD) (q : PosShare TreeShare) : sProp 𝕄 := ((c : Thread nD τ).loc main_arg2) ↦{q} m ((c : Thread nD τ).loc main_arg2)
/-- Slot `d` of device `c`'s result. -/
abbrev slotPt (c d : Dev nD) (f : Buf (Elt F) ((c : Thread nD τ).loc main_v1_1)) : sProp 𝕄 :=
  ((c : Thread nD τ).loc main_v1_1) ↦[slab 1024 1154 d]{fullShare} f

def pay (c : Dev nD) : Part → sProp 𝕄
  | .inl k => shardPt m c (sh (peer k c))
  | .inr (.inl k) => slotPt c (peer k c) (gathered m c)
  | .inr (.inr _) => iprop(slotPt c c (gathered m c) ∗ shardPt m c (sh c))
instance pay_storable (c : Dev nD) (j : Part) : BI.Storable (upEmb : UEmb _ 𝕄) (pay m c j) := by
  rcases j with k | k | _ <;> (dsimp only [pay]; infer_instance)

def mine (c : Dev nD) : sProp 𝕄 :=
  iprop(slotPt c c (m ((c : Thread nD τ).loc main_v1_1)) ∗ shardPt m c (sh c) ∗ bigSep Finset.univ fun k => shardPt m c (sh (peer k c)))
def give (c : Dev nD) (k : Fin 7) : sProp 𝕄 := slotPt c (peer k c) (m ((c : Thread nD τ).loc main_v1_1))

/-- A whole array of slots, slot by slot: the device's own first. -/
theorem slots_eq (c : Dev nD) (f : Buf (Elt F) ((c : Thread nD τ).loc main_v1_1)) :
    (((c : Thread nD τ).loc main_v1_1) ↦{fullShare} f : sProp 𝕄) = iprop(slotPt c c f ∗ bigSep Finset.univ fun k => slotPt c (peer k c) f) := by
  rw [← bigSep_peers c fun d => slotPt c d f]
  exact split_parts (ℓ := (c : Thread nD τ).loc main_v1_1) (slab 1024 1154) (fun _ _ h => slab_disjoint h) slab_cover fullShare f
/-- A shard, share by share. -/
theorem shares_eq (c : Dev nD) :
    (shardPt m c fullShare : sProp 𝕄) = iprop(shardPt m c (sh c) ∗ bigSep Finset.univ fun k => shardPt m c (sh (peer k c))) := by
  rw [← bigSep_peers c fun d => shardPt m c (sh d)]
  exact Transfers.pointsTo_deal Finset.univ ⟨c, Finset.mem_univ _⟩ fullShare

/-- What a device has at launch. -/
theorem hold_eq (c : Dev nD) : iprop((((c : Thread nD τ).loc main_arg2) ↦{fullShare} m ((c : Thread nD τ).loc main_arg2))
      ∗ ((c : Thread nD τ).loc main_v1_1) ↦{fullShare} m ((c : Thread nD τ).loc main_v1_1))
    ⊢ (iprop(mine m c ∗ bigSep Finset.univ fun k => give m c k) : sProp 𝕄) := by
  rw [slots_eq, show ((((c : Thread nD τ).loc main_arg2) ↦{fullShare} m ((c : Thread nD τ).loc main_arg2)) : sProp 𝕄) = _ from shares_eq m c]
  unfold mine give
  iintro ⟨⟨H1, H2⟩, H3, H4⟩
  isplitr [H4]
  · isplitl [H3]; · iexact H3
    isplitl [H1] <;> iassumption
  iexact H4

/-- What it has once every transfer is waited for. -/
theorem landed_eq (c : Dev nD) : (landed osem (pay m) c : sProp 𝕄)
    ⊢ iprop(Pipeline.ownSems0 (Ix := Unit) (Name := ℕ) (U := UU nD τ sig) (Lvl := ℕ) (Val := Elt F) (τ := τ) osem c ∗ shardPt m c fullShare
        ∗ ((c : Thread nD τ).loc main_v1_1) ↦{fullShare} gathered m c) := by
  unfold landed
  rw [bigSep_sep', bigSep_parts (fun j => pay m c j), slots_eq, shares_eq,
    show pay m c Exchange.own = iprop(slotPt c c (gathered m c) ∗ shardPt m c (sh c)) from rfl,
    show (fun k => pay m c (send k)) = fun k => shardPt m c (sh (peer k c)) from rfl, show (fun k => pay m c (recv k)) = fun k => slotPt c (peer k c) (gathered m c) from rfl]
  unfold Pipeline.ownSems0
  iintro ⟨H1, H2, H3, ⟨H4, H5⟩⟩
  isplitl [H1]; · iexact H1
  isplitl [H2 H5]
  · isplitl [H5] <;> iassumption
  isplitl [H4] <;> iassumption

/-! ## The slots -/

theorem slot_set (d : Fin 8) {off : Fin 3 → ℕ} (ho : off = ![d.val, 0, 0]) (inb) : (slotM off inb).view.set = slab 1024 1154 d := by
  refine (View.set_reshape _ _).trans ((View.set_slice_whole _ _).trans ?_)
  exact rect_set d ho inb

/-- A shard of device `d` copied into slot `d`. -/
theorem slot_write (c d : Dev nD) {off : Fin 3 → ℕ} (ho : off = ![d.val, 0, 0]) (inb) (f : Buf (Elt F) ((c : Thread nD τ).loc main_v1_1)) :
    (((c : Thread nD τ).loc main_v1_1) ↦[(slotM off inb).view.set]{fullShare}
        ((slotM off inb).view.write (Elt F) f (shardM.view.read (Elt F) (m ((d : Thread nD τ).loc main_arg2))) Finset.univ) : sProp 𝕄)
      = slotPt c d (gathered m c) := by
  rw [show (((c : Thread nD τ).loc main_v1_1) ↦[(slotM off inb).view.set]{fullShare}
        ((slotM off inb).view.write (Elt F) f (shardM.view.read (Elt F) (m ((d : Thread nD τ).loc main_arg2))) Finset.univ) : sProp 𝕄)
      = (((c : Thread nD τ).loc main_v1_1) ↦[(slotM off inb).view.set]{fullShare} gathered m c) from pointsTo_congr fun i hi => ?_, slot_set d ho inb]
  obtain ⟨x, -, rfl⟩ := Finset.mem_map.mp hi
  refine (View.write_emb_of_mem _ _ (Finset.mem_univ x)).trans ?_
  have he : (slotM off inb).view.emb x = ValueIdx.ix3 d (x 0) (x 1) :=
    rect_emb (A := 1024) (B := 1154) d ho inb _ x
  rw [he]
  exact congrArg (m ((d : Thread nD τ).loc main_arg2)) (ValueIdx.eq_ix2 x)

end Cert.KernelIdeal.Gather

end
-- ==== Proof.Body.lean ====
/-
  The kernel at one grid point: every point multiplies its two blocks; the first also starts the eight transfers of
  the gather, the last waits for all of them. The body is run once for each of the three kinds of point, at a
  symbolic device.
-/
module

public import proofs.«01_k».proof.Proof.Contents
public import Idealize.ShloMosaic.Lib.VecWindow

@[expose] public section

noncomputable section

namespace Cert.KernelIdeal.Gather

open Cert.KernelIdeal Cert.KernelIdeal.Gen Cert.Exchange
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

abbrev 𝒱₀ : Variants := Variants.none

/-! ## The block product -/

theorem wp_tile (c : Dev nD) {a : Memref sig .tc .vmem S2048x1024 .bf16} {w : Memref sig .tc .vmem S1024x512 .bf16} {o : Memref sig .tc .vmem S2048x512 .f32}
    {ha hw ho hs hm} (X : S2048x1024.Idx → Elt F .bf16) (Y : S1024x512.Idx → Elt F .bf16)
    {k : PUnit → Prog (TpuEff nD τ sig (Elt F) Λ₀ .tc) PUnit} {Q : PUnit → sProp 𝕄} :
    iprop(owns (c : Thread nD τ) a fullShare X ∗ owns (c : Thread nD τ) w fullShare Y ∗ (∃ d, owns (c : Thread nD τ) o fullShare d))
      ⊢ iprop(((owns (c : Thread nD τ) a fullShare X ∗ owns (c : Thread nD τ) w fullShare Y ∗ owns (c : Thread nD τ) o fullShare (k0_pay1 X Y))
            -∗ wp frame (wpE (defs₀ (F := F)) 𝒱₀ c none) Set.univ (k ⟨⟩) Q)
          -∗ wp frame (wpE (defs₀ (F := F)) 𝒱₀ c none) Set.univ
            (.op (.load a (Rect.unit (s := S2048x1024) ![0, 0] S2048x1024.size inb_S2048x1024_S2048x1024_0_0).toLoadRect ha) fun v12 =>
              .op (.load w (Rect.unit (s := S1024x512) ![0, 0] S1024x512.size inb_S1024x512_S1024x512_0_0).toLoadRect hw) fun v14 =>
              .op (.load o (Rect.unit (s := S2048x512) ![0, 0] S2048x512.size inb_S2048x512_S2048x512_0_0).toLoadRect ho) fun _ =>
              .op (.store o (Rect.unit (s := S2048x512) ![0, 0] S2048x512.size inb_S2048x512_S2048x512_0_0) (k0_pay1 v12 v14) Finset.univ hs hm) k) Q) := by
  unfold owns
  iintro ⟨⟨%fa, %ea, Ha⟩, ⟨%fw, %ew, Hw⟩, ⟨%d, %fo, -, Ho⟩⟩ Hk
  subst ea ew
  iapply (wp_load 𝒱₀ (c : Thread nD τ) none Set.univ (m := a) (View.setOn_subset_set _ _)) $$ Ha; iintro Ha
  iapply (wp_load 𝒱₀ (c : Thread nD τ) none Set.univ (m := w) (View.setOn_subset_set _ _)) $$ Hw; iintro Hw
  iapply (wp_load 𝒱₀ (c : Thread nD τ) none Set.univ (m := o) (View.setOn_subset_set _ _)) $$ Ho; iintro Ho
  iapply (wp_store 𝒱₀ (c : Thread nD τ) none Set.univ (m := o) (r := Rect.unit (s := S2048x512) ![0, 0] S2048x512.size inb_S2048x512_S2048x512_0_0) (Mk := Finset.univ)
    (S := o.view.set) (f := fo) (View.set_slice_subset _ _)) $$ Ho; iintro Ho
  iapply Hk
  isplitl [Ha]
  · iexists fa; isplitr; · (ipureintro; rfl)
    iexact Ha
  isplitl [Hw]
  · iexists fw; isplitr; · (ipureintro; rfl)
    iexact Hw
  iexists _; isplitr; swap; · iexact Ho
  ipureintro
  rw [View.readAt_full, View.readAt_full]
  exact View.read_writes_full o.view fo inb_S2048x512_S2048x512_0_0 _ []

/-! ## The transfers and the waits of the gather -/

theorem dev1_eq (d : Dev nD) (h) : (⟨k0_dev1 d, h⟩ : Dev nD) = peer 0 d := Fin.ext (by revert d; decide +kernel)
theorem dev2_eq (d : Dev nD) (h) : (⟨k0_dev2 d, h⟩ : Dev nD) = peer 1 d := Fin.ext (by revert d; decide +kernel)
theorem dev3_eq (d : Dev nD) (h) : (⟨k0_dev3 d, h⟩ : Dev nD) = peer 2 d := Fin.ext (by revert d; decide +kernel)
theorem dev4_eq (d : Dev nD) (h) : (⟨k0_dev4 d, h⟩ : Dev nD) = peer 3 d := Fin.ext (by revert d; decide +kernel)
theorem dev5_eq (d : Dev nD) (h) : (⟨k0_dev5 d, h⟩ : Dev nD) = peer 4 d := Fin.ext (by revert d; decide +kernel)
theorem dev6_eq (d : Dev nD) (h) : (⟨k0_dev6 d, h⟩ : Dev nD) = peer 5 d := Fin.ext (by revert d; decide +kernel)
theorem dev7_eq (d : Dev nD) (h) : (⟨k0_dev7 d, h⟩ : Dev nD) = peer 6 d := Fin.ext (by revert d; decide +kernel)
theorem off1_eq : ∀ d : Dev nD, k0_off1 d = ![d.val, 0, 0] := by decide +kernel

variable (m : (ℓ : Loc nD τ sig) → Buf (Elt F) ℓ)

theorem shard_eq (c : Dev nD) (q : PosShare TreeShare) :
    (shardM.view.loc (c : Thread nD τ) ↦[shardM.view.set]{q} m ((c : Thread nD τ).loc main_arg2) : sProp 𝕄) = shardPt m c q := by
  rw [show shardM.view.set = Finset.univ from View.set_whole _]

/-- What the copy to peer `k` takes. -/
def kit (c : Dev nD) (k : Fin 7) : sProp 𝕄 :=
  iprop(dutyTok ER (cell osem c (send k)) 0 () ∗ dutyTok ER (cell osem (peer k c) (recv k)) 0 () ∗ credit osem N c (recv k)
    ∗ shardPt m c (sh (peer k c)) ∗ slotPt (peer k c) c (m ((peer k c : Thread nD τ).loc main_v1_1)))

variable {Λ : Labels} {defs : Defs nD τ sig (Elt F) Λ} {α : Type} {Q : α → sProp (MT nD τ sig Unit (Elt F) ℕ (UU nD τ sig) ℕ)}

theorem wp_gather_send (K : Dev nD × Part → ℕ) (c c' : Dev nD) (k : Fin 7) (hc : c' = peer k c) {off : Fin 3 → ℕ} (ho : off = ![c.val, 0, 0]) {inb}
    {sS sR : SemLoc sig} (hS : sS = osem (send k)) (hR : sR = osem (recv k)) (hN : (slotM off inb).view.amount sR = N)
    {hsc hsrc hdst hsem} {kont : PUnit → Prog (TpuEff nD τ sig (Elt F) Λ .tc) α} {n n' : ℕ} (hn : n = k.val) (hn' : n' = k.val + 1) (W : Waits sig Unit) :
    iprop(records osem N N_pos (pay m) K ∗ kit m c k ∗ owes (c : Thread nD τ) (debt osem N peer c n) W)
      ⊢ iprop(((credit osem N c (send k) ∗ credit osem N c (recv k) ∗ owes (c : Thread nD τ) (debt osem N peer c n') W)
            -∗ wp frame (wpE defs 𝒱₀ (c : Thread nD τ) none) Set.univ (kont ⟨⟩) Q)
          -∗ wp frame (wpE defs 𝒱₀ (c : Thread nD τ) none) Set.univ
            (.op (.enqueueDma shardM (.remote (Dev.tc c' : Thread nD τ) (slotM off inb) sS hsc) sR hsrc hdst hsem) kont) Q) := by
  subst hc
  unfold kit
  iintro ⟨HR, ⟨HtS, HtR, Hcr, Hs, Hd⟩, HO⟩ Hk
  iapply (wp_send N N_pos (pay m) osem_inj 𝒱₀ K c (peer k c) k rfl hS hR hN
      (fs := m ((c : Thread nD τ).loc main_arg2)) (fd := m ((peer k c : Thread nD τ).loc main_v1_1)) (q := sh (peer k c))
      (by rw [shard_eq]; exact .rfl)
      (by rw [slot_write m (peer k c) c ho inb]; show _ ⊢ slotPt (peer k c) (peer k (peer k c)) _; rw [peer_peer])
      hn hn' W (by routes)) $$ [HR HtS HtR Hs Hd HO]
  · isplitl [HR]; · iexact HR
    isplitl [Hs]; · iapply (Entails.of_eq (shard_eq m c _).symm); iexact Hs
    isplitl [Hd]
    · rw [slot_set c ho inb]; iexact Hd
    isplitl [HO]; · iexact HO
    isplitl [HtS] <;> iassumption
  iintro ⟨H, HO⟩
  iapply Hk
  isplitl [H]; · iexact H
  isplitl [Hcr] <;> iassumption

theorem wp_gather_own (K : Dev nD × Part → ℕ) (c : Dev nD) {off : Fin 3 → ℕ} (ho : off = ![c.val, 0, 0]) {inb}
    {sO : SemLoc sig} (hO : sO = osem own) (hN : (slotM off inb).view.amount sO = N)
    {hsrc hdst hsem} {kont : PUnit → Prog (TpuEff nD τ sig (Elt F) Λ .tc) α} :
    iprop(records osem N N_pos (pay m) K ∗ dutyTok ER (cell osem c own) 0 () ∗ shardPt m c (sh c) ∗ slotPt c c (m ((c : Thread nD τ).loc main_v1_1)))
      ⊢ iprop((credit osem N c own -∗ wp frame (wpE defs 𝒱₀ (c : Thread nD τ) none) Set.univ (kont ⟨⟩) Q)
          -∗ wp frame (wpE defs 𝒱₀ (c : Thread nD τ) none) Set.univ
            (.op (.enqueueDma shardM (.here (slotM off inb)) sO hsrc hdst hsem) kont) Q) := by
  iintro ⟨HR, Ht, Hs, Hd⟩ Hk
  iapply (wp_own N N_pos (pay m) osem_inj 𝒱₀ K c hO hN
      (fs := m ((c : Thread nD τ).loc main_arg2)) (fd := m ((c : Thread nD τ).loc main_v1_1)) (q := sh c)
      (by rw [shard_eq, slot_write m c c ho inb]; exact .rfl)) $$ [HR Ht Hs Hd]
  · isplitl [HR]; · iexact HR
    isplitl [Hs]; · iapply (Entails.of_eq (shard_eq m c _).symm); iexact Hs
    isplitl [Hd]
    · rw [slot_set c ho inb]; iexact Hd
    iexact Ht
  iexact Hk

/-- A wait with the result's slot as the copy's target. -/
theorem wp_gather_wait_slot (K : Dev nD × Part → ℕ) (c : Dev nD) (j : Part) {sm : DmaSem sig} (hsm : SemLoc.dma sm = osem j) {off : Fin 3 → ℕ} {inb} {hsrc hdst}
    {kont : PUnit → Prog (TpuEff nD τ sig (Elt F) Λ .tc) α} (W : Waits sig Unit) :
    iprop(records osem N N_pos (pay m) K ∗ (atPos ER (cell osem c j) 0 ∅ 0 ∗ credit osem N c j) ∗ owes (c : Thread nD τ) 0 W)
      ⊢ iprop((((semVal (cell osem c j) 0 ∗ pay m c j) ∗ ∃ W', owes (c : Thread nD τ) 0 W') -∗ wp frame (wpE defs 𝒱₀ (c : Thread nD τ) none) Set.univ (kont ⟨⟩) Q)
          -∗ wp frame (wpE defs 𝒱₀ (c : Thread nD τ) none) Set.univ (.op (.waitDma2 sm shardM (slotM off inb) hsrc hdst) kont) Q) :=
  wp_wait N N_pos (pay m) osem_inj 𝒱₀ K c j (wpE_waitDma2_eq 𝒱₀ (c : Thread nD τ) none Set.univ) hsm (slot_amount off inb) W
/-- A wait with the shard as the copy's target. -/
theorem wp_gather_wait_shard (K : Dev nD × Part → ℕ) (c : Dev nD) (j : Part) {sm : DmaSem sig} (hsm : SemLoc.dma sm = osem j) {off : Fin 3 → ℕ} {inb} {hsrc hdst}
    {kont : PUnit → Prog (TpuEff nD τ sig (Elt F) Λ .tc) α} (W : Waits sig Unit) :
    iprop(records osem N N_pos (pay m) K ∗ (atPos ER (cell osem c j) 0 ∅ 0 ∗ credit osem N c j) ∗ owes (c : Thread nD τ) 0 W)
      ⊢ iprop((((semVal (cell osem c j) 0 ∗ pay m c j) ∗ ∃ W', owes (c : Thread nD τ) 0 W') -∗ wp frame (wpE defs 𝒱₀ (c : Thread nD τ) none) Set.univ (kont ⟨⟩) Q)
          -∗ wp frame (wpE defs 𝒱₀ (c : Thread nD τ) none) Set.univ (.op (.waitDma2 sm (slotM off inb) shardM hsrc hdst) kont) Q) :=
  wp_wait N N_pos (pay m) osem_inj 𝒱₀ K c j (wpE_waitDma2_eq 𝒱₀ (c : Thread nD τ) none Set.univ) hsm rfl W

/-! ## The body at the three kinds of point -/

section Points

variable (c : Dev nD) (i : grid0.Coords) (W : Waits sig Unit)
variable (a : Memref sig .tc .vmem S2048x1024 .bf16) (ha : a.IsWhole) (w : Memref sig .tc .vmem S1024x512 .bf16) (hw : w.IsWhole) (o : Memref sig .tc .vmem S2048x512 .f32) (ho : o.IsWhole)
variable (X : S2048x1024.Idx → Elt F .bf16) (Y : S1024x512.Idx → Elt F .bf16)

abbrev tiles (Z : sProp (MT nD τ sig Unit (Elt F) ℕ (UU nD τ sig) ℕ)) : sProp 𝕄 :=
  iprop(owns (c : Thread nD τ) a fullShare X ∗ owns (c : Thread nD τ) w fullShare Y ∗ Z)
abbrev someOut : sProp 𝕄 := iprop(∃ d, owns (c : Thread nD τ) o fullShare d)
abbrev theOut : sProp 𝕄 := owns (c : Thread nD τ) o fullShare (k0_pay1 X Y)
abbrev body : Prog (TpuEff nD τ sig (Elt F) Λ₀ .tc) PUnit :=
  cc0_in_proj i a ha w hw shardM (Memref.isWhole_whole _) o ho allM (Memref.isWhole_whole _) cc0_scratch0 cc0_scratch1 cc0_scratch2

/-- A point in between: the product alone. -/
theorem wp_mid (h1 : ¬ k0_cond1 i = 1#1) (h2 : ¬ k0_cond2 i = 1#1) {Q : PUnit → sProp 𝕄} :
    iprop(tiles c a w X Y (someOut c o) ∗ (tiles c a w X Y (theOut c o X Y) -∗ Q ⟨⟩))
      ⊢ wp frame (wpE (defs₀ (F := F)) 𝒱₀ c none) Set.univ (body i a ha w hw o ho) Q := by
  simp only [body, cc0_in_proj_eq_skeleton]; unfold cc0_in_proj_skel
  simp only [dif_neg h1, dif_neg h2, Prog.lift, Prog.bind_op, Prog.bind_ret, Prog.pure_eq_ret]
  iintro ⟨HT, Hk⟩
  iapply (wp_tile c X Y) $$ HT
  iintro HT
  rw [wp_ret]; imodintro
  iapply Hk; iexact HT

set_option maxHeartbeats 1600000 in
/-- The first point: the transfers, then the product. -/
theorem wp_first (h1 : k0_cond1 i = 1#1) (h2 : ¬ k0_cond2 i = 1#1) {Q : PUnit → sProp 𝕄} :
    iprop(ready osem N N_pos peer (pay m) (mine m) (give m) c ∗ owes (c : Thread nD τ) (debt osem N peer c 0) W
        ∗ tiles c a w X Y (someOut c o)
        ∗ ((flying osem N N_pos (pay m) c ∗ owes (c : Thread nD τ) 0 W ∗ tiles c a w X Y (theOut c o X Y)) -∗ Q ⟨⟩))
      ⊢ wp frame (wpE (defs₀ (F := F)) 𝒱₀ c none) Set.univ (body i a ha w hw o ho) Q := by
  have hkit : iprop(tokens osem peer c ∗ (bigSep Finset.univ fun k => credit osem N c (recv k)) ∗ mine m c ∗ bigSep Finset.univ fun k => give m (peer k c) k)
      ⊢ (iprop((dutyTok ER (cell osem c own) 0 () ∗ shardPt m c (sh c) ∗ slotPt c c (m ((c : Thread nD τ).loc main_v1_1))) ∗ bigSep Finset.univ (kit m c)) : sProp 𝕄) := by
    unfold tokens mine give kit
    simp only [bigSep_sep', peer_peer]
    iintro ⟨⟨A, B, C⟩, D, ⟨E, G, H⟩, I⟩
    isplitl [C E G]
    · isplitl [C]; · iexact C
      isplitl [G] <;> iassumption
    isplitl [A]; · iexact A
    isplitl [B]; · iexact B
    isplitl [D]; · iexact D
    isplitl [H] <;> iassumption
  simp only [body, cc0_in_proj_eq_skeleton]; unfold cc0_in_proj_skel
  simp only [dif_pos h1, dif_neg h2, k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  unfold ready
  iintro ⟨⟨⟨%K, #HR⟩, Hat, Hkit⟩, HO, HT, Hk⟩
  ihave Hkit' := hkit $$ Hkit
  icases Hkit' with ⟨Hown, Hkits⟩
  ihave Hkits' := (Entails.of_eq (bigSep_seven (kit m c))) $$ Hkits
  icases Hkits' with ⟨K0, K1, K2, K3, K4, K5, K6⟩
  iapply (wp_gather_own m K c (off1_eq c) rfl rfl) $$ [Hown]
  · isplitr; · iexact HR
    iexact Hown
  iintro Co
  iapply (wp_gather_send (n := 0) (n' := 1) m K c _ 0 (dev1_eq c _) (off1_eq c) rfl rfl rfl rfl rfl W) $$ [K0 HO]
  · isplitr; · iexact HR
    isplitl [K0]; · iexact K0
    iexact HO
  iintro ⟨S0, V0, HO⟩
  iapply (wp_gather_send (n := 1) (n' := 2) m K c _ 1 (dev2_eq c _) (off1_eq c) rfl rfl rfl rfl rfl W) $$ [K1 HO]
  · isplitr; · iexact HR
    isplitl [K1]; · iexact K1
    iexact HO
  iintro ⟨S1, V1, HO⟩
  iapply (wp_gather_send (n := 2) (n' := 3) m K c _ 2 (dev3_eq c _) (off1_eq c) rfl rfl rfl rfl rfl W) $$ [K2 HO]
  · isplitr; · iexact HR
    isplitl [K2]; · iexact K2
    iexact HO
  iintro ⟨S2, V2, HO⟩
  iapply (wp_gather_send (n := 3) (n' := 4) m K c _ 3 (dev4_eq c _) (off1_eq c) rfl rfl rfl rfl rfl W) $$ [K3 HO]
  · isplitr; · iexact HR
    isplitl [K3]; · iexact K3
    iexact HO
  iintro ⟨S3, V3, HO⟩
  iapply (wp_gather_send (n := 4) (n' := 5) m K c _ 4 (dev5_eq c _) (off1_eq c) rfl rfl rfl rfl rfl W) $$ [K4 HO]
  · isplitr; · iexact HR
    isplitl [K4]; · iexact K4
    iexact HO
  iintro ⟨S4, V4, HO⟩
  iapply (wp_gather_send (n := 5) (n' := 6) m K c _ 5 (dev6_eq c _) (off1_eq c) rfl rfl rfl rfl rfl W) $$ [K5 HO]
  · isplitr; · iexact HR
    isplitl [K5]; · iexact K5
    iexact HO
  iintro ⟨S5, V5, HO⟩
  iapply (wp_gather_send (n := 6) (n' := 7) m K c _ 6 (dev7_eq c _) (off1_eq c) rfl rfl rfl rfl rfl W) $$ [K6 HO]
  · isplitr; · iexact HR
    isplitl [K6]; · iexact K6
    iexact HO
  iintro ⟨S6, V6, HO⟩
  iapply (wp_tile c X Y) $$ HT
  iintro HT
  rw [wp_ret]; imodintro
  iapply Hk
  isplitl [Hat Co S0 S1 S2 S3 S4 S5 S6 V0 V1 V2 V3 V4 V5 V6]
  · unfold flying
    isplitr; · iexists K; iexact HR
    rw [bigSep_sep', bigSep_waits fun j => credit osem N c j]
    isplitl [Hat]; · iexact Hat
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [S0]; · iexact S0
    isplitl [S1]; · iexact S1
    isplitl [S2]; · iexact S2
    isplitl [S3]; · iexact S3
    isplitl [S4]; · iexact S4
    isplitl [S5]; · iexact S5
    isplitl [S6] <;> iassumption
  isplitl [HO]
  · iapply (Entails.of_eq (congrArg (fun O => (owes (c : Thread nD τ) O W : sProp 𝕄)) (debt_seven osem N peer c))); iexact HO
  iexact HT

set_option maxHeartbeats 1600000 in
/-- The last point: the product, then the waits. -/
theorem wp_last (h1 : ¬ k0_cond1 i = 1#1) (h2 : k0_cond2 i = 1#1) {Q : PUnit → sProp 𝕄} :
    iprop(flying osem N N_pos (pay m) c ∗ owes (c : Thread nD τ) 0 W ∗ tiles c a w X Y (someOut c o)
        ∗ ((landed osem (pay m) c ∗ (∃ W', owes (c : Thread nD τ) 0 W') ∗ tiles c a w X Y (theOut c o X Y)) -∗ Q ⟨⟩))
      ⊢ wp frame (wpE (defs₀ (F := F)) 𝒱₀ c none) Set.univ (body i a ha w hw o ho) Q := by
  simp only [body, cc0_in_proj_eq_skeleton]; unfold cc0_in_proj_skel
  simp only [dif_neg h1, dif_pos h2, k0_part4_eq_skeleton, k0_part5_eq_skeleton, k0_part6_eq_skeleton, k0_part7_eq_skeleton, k0_part8_eq_skeleton]
  unfold k0_part4_skel k0_part5_skel k0_part6_skel k0_part7_skel k0_part8_skel
  simp only [Prog.lift, Prog.bind_op, Prog.bind_ret, Prog.pure_eq_ret]
  unfold flying
  rw [bigSep_waits fun j => iprop(atPos ER (cell osem c j) 0 ∅ 0 ∗ credit osem N c j)]
  iintro ⟨⟨⟨%K, #HR⟩, T0, T1, T2, T3, T4, T5, T6, T7, T8, T9, T10, T11, T12, T13, T14⟩, HO, HT, Hk⟩
  iapply (wp_tile c X Y) $$ HT
  iintro HT
  simp only [wp_deviceId]
  iapply (wp_gather_wait_slot m K c (recv 0) rfl _) $$ [T0 HO]
  · isplitr; · iexact HR
    isplitl [T0] <;> iassumption
  iintro ⟨L0, ⟨%W0, HO⟩⟩
  iapply (wp_gather_wait_slot m K c (recv 1) rfl _) $$ [T1 HO]
  · isplitr; · iexact HR
    isplitl [T1] <;> iassumption
  iintro ⟨L1, ⟨%W1, HO⟩⟩
  iapply (wp_gather_wait_slot m K c (recv 2) rfl _) $$ [T2 HO]
  · isplitr; · iexact HR
    isplitl [T2] <;> iassumption
  iintro ⟨L2, ⟨%W2, HO⟩⟩
  iapply (wp_gather_wait_slot m K c (recv 3) rfl _) $$ [T3 HO]
  · isplitr; · iexact HR
    isplitl [T3] <;> iassumption
  iintro ⟨L3, ⟨%W3, HO⟩⟩
  iapply (wp_gather_wait_slot m K c (recv 4) rfl _) $$ [T4 HO]
  · isplitr; · iexact HR
    isplitl [T4] <;> iassumption
  iintro ⟨L4, ⟨%W4, HO⟩⟩
  iapply (wp_gather_wait_slot m K c (recv 5) rfl _) $$ [T5 HO]
  · isplitr; · iexact HR
    isplitl [T5] <;> iassumption
  iintro ⟨L5, ⟨%W5, HO⟩⟩
  iapply (wp_gather_wait_slot m K c (recv 6) rfl _) $$ [T6 HO]
  · isplitr; · iexact HR
    isplitl [T6] <;> iassumption
  iintro ⟨L6, ⟨%W6, HO⟩⟩
  iapply (wp_gather_wait_shard m K c (send 0) rfl _) $$ [T7 HO]
  · isplitr; · iexact HR
    isplitl [T7] <;> iassumption
  iintro ⟨L7, ⟨%W7, HO⟩⟩
  iapply (wp_gather_wait_shard m K c (send 1) rfl _) $$ [T8 HO]
  · isplitr; · iexact HR
    isplitl [T8] <;> iassumption
  iintro ⟨L8, ⟨%W8, HO⟩⟩
  iapply (wp_gather_wait_shard m K c (send 2) rfl _) $$ [T9 HO]
  · isplitr; · iexact HR
    isplitl [T9] <;> iassumption
  iintro ⟨L9, ⟨%W9, HO⟩⟩
  iapply (wp_gather_wait_shard m K c (send 3) rfl _) $$ [T10 HO]
  · isplitr; · iexact HR
    isplitl [T10] <;> iassumption
  iintro ⟨L10, ⟨%W10, HO⟩⟩
  iapply (wp_gather_wait_shard m K c (send 4) rfl _) $$ [T11 HO]
  · isplitr; · iexact HR
    isplitl [T11] <;> iassumption
  iintro ⟨L11, ⟨%W11, HO⟩⟩
  iapply (wp_gather_wait_shard m K c (send 5) rfl _) $$ [T12 HO]
  · isplitr; · iexact HR
    isplitl [T12] <;> iassumption
  iintro ⟨L12, ⟨%W12, HO⟩⟩
  iapply (wp_gather_wait_shard m K c (send 6) rfl _) $$ [T13 HO]
  · isplitr; · iexact HR
    isplitl [T13] <;> iassumption
  iintro ⟨L13, ⟨%W13, HO⟩⟩
  iapply (wp_gather_wait_slot m K c own rfl _) $$ [T14 HO]
  · isplitr; · iexact HR
    isplitl [T14] <;> iassumption
  iintro ⟨L14, ⟨%W14, HO⟩⟩
  rw [wp_ret]; imodintro
  iapply Hk
  isplitl [L0 L1 L2 L3 L4 L5 L6 L7 L8 L9 L10 L11 L12 L13 L14]
  · unfold landed
    rw [bigSep_waits fun j => iprop(semVal (cell osem c j) 0 ∗ pay m c j)]
    isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    isplitl [L9]; · iexact L9
    isplitl [L10]; · iexact L10
    isplitl [L11]; · iexact L11
    isplitl [L12]; · iexact L12
    isplitl [L13]; · iexact L13
    iexact L14
  isplitl [HO]; · iexists _; iexact HO
  iexact HT

end Points

end Cert.KernelIdeal.Gather

end
-- ==== Proof.Run.lean ====
/-
  The run of the whole program: what the pipeline's arrays hold after it, and what the gathered array holds.
-/
module

public import proofs.«01_k».proof.Proof.Launch
public import proofs.«01_k».proof.Proof.Body
public import Idealize.ShloMosaic.Lib.Pipeline.FrameBody

@[expose] public section

noncomputable section

namespace Cert.KernelIdeal.Gather

open Cert.KernelIdeal Cert.KernelIdeal.Gen Cert.Exchange
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UU nD τ sig) ℕ

variable (m : (ℓ : Loc nD τ sig) → Buf (Elt F) ℓ) (ρ : Dev nD → PrngReg)

/-! ## Which point is which -/

theorem cond1_iff : ∀ t : Fin grid0.N, k0_cond1 (grid0.coords t) = 1#1 ↔ t.val = 0 := by decide +kernel
theorem cond2_iff : ∀ t : Fin grid0.N, k0_cond2 (grid0.coords t) = 1#1 ↔ t.val = 75 := by decide +kernel

/-! ## The proof data -/

/-- What a device holds before point `n`. -/
def state (c : Dev nD) (n : ℕ) : sProp 𝕄 :=
  if n = 0 then ready osem N N_pos peer (pay m) (mine m) (give m) c
  else if n = 76 then landed osem (pay m) c else flying osem N N_pos (pay m) c
def owing (c : Dev nD) (n : ℕ) : CellTallies nD τ sig Unit := if n = 0 then debt osem N peer c 0 else 0

/-- The block of the product at point `t`. -/
def prod (c : Dev nD) (t : Fin cfg0.N) : S2048x512.Idx → Elt F .f32 := k0_pay1 (iblk m c 0 t) (iblk m c 1 t)

def dats (_ : Fin 1) (c : Dev nD) : Dat τ (Elt F) Unit ℕ (UU nD τ sig) ℕ cfg0 c where
  A w := V m c (Pipeline.arrRef spec0 w)
  after w t := match w with
    | ⟨0, _⟩ => iblk m c 0 t
    | ⟨1, _⟩ => iblk m c 1 t
    | ⟨2, _⟩ => prod m c t
    | ⟨_ + 3, h⟩ => absurd h (Nat.not_lt.2 (Nat.le_add_left _ _))
  Φ t := state m c t.val
  q _ := fullShare
  owed t := owing c t.val

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-! ## The body obligation -/

def bodyPre (c : Dev nD) (t : Fin cfg0.N) : sProp 𝕄 :=
  iprop(state m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop(state m c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (prod m c t))

/-- What the point takes and leaves of the debts, and the state, apart from the blocks. -/
theorem step (c : Dev nD) (t : Fin cfg0.N) (W : Waits sig Unit) (a ha w hw o ho) (X : S2048x1024.Idx → Elt F .bf16) (Y : S1024x512.Idx → Elt F .bf16)
    {Q : PUnit → sProp 𝕄} :
    iprop(state m c t.val ∗ owes (c : Thread nD τ) (owing c t.val) W ∗ tiles c a w X Y (someOut c o)
        ∗ ((state m c (t.val + 1) ∗ (∃ W', owes (c : Thread nD τ) (owing c (t.val + 1)) W') ∗ tiles c a w X Y (theOut c o X Y)) -∗ Q ⟨⟩))
      ⊢ wp frame (wpE (defs₀ (F := F)) 𝒱₀ c none) Set.univ (body (grid0.coords t) a ha w hw o ho) Q := by
  have hlt : t.val < 76 := lt_of_lt_of_eq t.isLt N_0
  have hO : owing c (t.val + 1) = (0 : CellTallies nD τ sig Unit) := if_neg (Nat.succ_ne_zero _)
  rw [hO]
  by_cases h0 : t.val = 0
  · rw [show state m c (t.val + 1) = flying osem N N_pos (pay m) c from (if_neg (Nat.succ_ne_zero _)).trans (if_neg (by omega)),
      show state m c t.val = ready osem N N_pos peer (pay m) (mine m) (give m) c from if_pos h0,
      show owing c t.val = (debt osem N peer c 0 : CellTallies nD τ sig Unit) from if_pos h0]
    iintro ⟨HS, HO, HT, Hk⟩
    iapply (wp_first m c (grid0.coords t) W a ha w hw o ho X Y ((cond1_iff t).mpr h0) (fun h => by have := (cond2_iff t).mp h; omega))
    isplitl [HS]; · iexact HS
    isplitl [HO]; · iexact HO
    isplitl [HT]; · iexact HT
    iintro ⟨HS, HO, HT⟩
    iapply Hk
    isplitl [HS]; · iexact HS
    isplitl [HO]; · iexists W; iexact HO
    iexact HT
  · rw [show owing c t.val = (0 : CellTallies nD τ sig Unit) from if_neg h0,
      show state m c t.val = flying osem N N_pos (pay m) c from (if_neg h0).trans (if_neg (by omega))]
    by_cases h1 : t.val = 75
    · rw [show state m c (t.val + 1) = landed osem (pay m) c from (if_neg (Nat.succ_ne_zero _)).trans (if_pos (by omega))]
      exact wp_last m c (grid0.coords t) W a ha w hw o ho X Y (fun h => h0 ((cond1_iff t).mp h)) ((cond2_iff t).mpr h1)
    · rw [show state m c (t.val + 1) = flying osem N N_pos (pay m) c from (if_neg (Nat.succ_ne_zero _)).trans (if_neg (by omega))]
      iintro ⟨HS, HO, HT, Hk⟩
      iapply (wp_mid c (grid0.coords t) a ha w hw o ho X Y (fun h => h0 ((cond1_iff t).mp h)) (fun h => h1 ((cond2_iff t).mp h)))
      isplitl [HT]; · iexact HT
      iintro HT
      iapply Hk
      isplitl [HS]; · iexact HS
      isplitl [HO]; · iexists W; iexact HO
      iexact HT

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0 Dat.owesAt Pipeline.owesWithin
  simp only [before0, before1]
  rw [show (dats m 0 c).owed t.castSucc = owing c t.val from rfl, show (dats m 0 c).owed t.succ = owing c (t.val + 1) from rfl]
  iintro ⟨HS, ⟨%W, %hW, HO⟩, ⟨%d0, H0⟩, ⟨%d1, H1⟩, ⟨%d2, H2⟩⟩
  iapply (step m c t W (st0_0 t) _ (st0_1 t) _ (st0_2 t) _ (iblk m c 0 t) (iblk m c 1 t))
  isplitl [HS]; · iexact HS
  isplitl [HO]; · iexact HO
  isplitl [H0 H1 H2]
  · isplitl [H0]; · iexact H0
    isplitl [H1]; · iexact H1
    iexists _; iexact H2
  iintro ⟨HS, ⟨%W', HO⟩, H0, H1, H2⟩
  isplitl [HS]; · iexact HS
  isplitl [HO]
  · iexists W'; isplitr; · ipureintro; exact fun _ _ => Or.inl trivial
    iexact HO
  isplitl [H0]; · iexact H0
  isplitl [H1]; · iexact H1
  iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

theorem waits (c : Dev nD) : (levAts L (lv osem) : sProp 𝕄) ⊢ Pipeline.cellsWaits cfgs (dats m) () 0 c :=
  Pipeline.cellsWaits_intro cfgs (dats m) () 0 c fun w s t => by
    show _ ⊢ MayWait _ _ _ (owing c t.val)
    unfold owing
    split
    · exact mayWait_stage osem N peer c _ (by revert w s; decide) 0 _ rfl
    · exact mayWait_stage osem N peer c _ (by revert w s; decide) 7 _ (debt_seven osem N peer c).symm

/-- What the program leaves in the buffers of device `c` that are no window's array. -/
def rest (c : Dev nD) (s : MemSt nD τ sig (Elt F)) : Prop :=
  s.mem ((c : Thread nD τ).loc main_arg2) = m ((c : Thread nD τ).loc main_arg2) ∧ s.mem ((c : Thread nD τ).loc main_v1_1) = gathered m c
def done (c : Dev nD) : sProp 𝕄 := iprop(shardPt m c fullShare ∗ ((c : Thread nD τ).loc main_v1_1) ↦{fullShare} gathered m c)

/-- What the launch deals to device `c`, in the shape the exchange takes it. -/
theorem dealt_in (c : Dev nD) :
    (Dealt (fun p => (cfgs p).toPCfg) (fun _ p => (cfgs p).toPCfg_adm) (0 : Fin 1) osem (fun d => debt osem N peer d 0) m c : sProp 𝕄)
      ⊢ iprop(Pipeline.ownSems0 (Ix := Unit) (Name := ℕ) (U := UU nD τ sig) (Lvl := ℕ) (Val := Elt F) (τ := τ) osem c
          ∗ (mine m c ∗ bigSep Finset.univ fun k => give m c k) ∗ Pipeline.launchCred (fun d => debt osem N peer d 0) c) := by
  unfold Dealt
  iintro ⟨H1, H2', H3⟩
  ihave H2 := (Entails.of_eq (Pipeline.unscopedRestP_none cfg0.spec c fun b => m ((c : Thread nD τ).loc b))) $$ H2'
  isplitl [H1]; · iexact H1
  isplitl [H2]
  · iapply (hold_eq m c)
    iapply (Entails.of_eq (unscopedRest0_eq c fun b => m ((c : Thread nD τ).loc b)))
    iexact H2
  iexact H3

theorem run_main : θ_run defs (onTc (τ := τ) (main (F := F))) ⟨m, fun _ => 0, ρ⟩ fun r =>
    (∀ c : Dev nD, (∀ w, r.2.mem (((cfg0.win w).arr.view.loc (c : Thread nD τ))) = (dats m 0 c).arrAt w cfg0.N) ∧ rest m c r.2) ∧ r.2.sem = fun _ => 0 :=
  (θ_run defs _ _).mono (fun _ h => ⟨h.1, sem_eq_zero_of_scoped (by decide) h.2⟩)
    (run_dealt (fun p => (cfgs p).toPCfg) (fun _ p => (cfgs p).toPCfg_adm) (dats m) () cellOf_inj (0 : Fin 1) winFacts0.to₀ ownSemFacts (Pipeline.PreFacts.none _)
      EP defs₀ 𝒱₀ m ρ main (hmain := fun _ => rfl) (hbody := fun c => (body_obligation m c).loose)
      (hne := fun w => by fin_cases w <;> exact Nat.succ_pos _) (harr := arr_whole0) (hstage := stage_whole0)
      (hshare := fun c => (dats m 0 c).share_full fun _ => rfl) (hdistinct := winFacts0.arr_inj)
      (O₀ := fun c => debt osem N peer c 0) (howed₀ := fun _ => rfl) (howedN := fun _ => rfl)
      (L := L) (lv := lv osem) (hL := L_of_ne) (hwaits := waits m)
      (G := ghosts (osem := osem) N N_pos (pay m)) (u₀ := u₀ osem_inj _)
      (hu₀ := by
        unfold u₀
        iintro Hu
        ihave H := (ownU_pair _ _) $$ Hu
        icases H with ⟨HP, HX⟩
        imod (fund_ghosts N N_pos (pay m) osem_inj) $$ HX with HG
        imodintro
        isplitl [HP] <;> iassumption)
      (X := ready osem N N_pos peer (pay m) (mine m) (give m)) (Y := done m)
      (hdeal := by
        exact (sep_mono_left (bigSep_mono fun c _ => dealt_in m c)).trans (deal N N_pos (pay m) peer_peer (mine m) (give m)))
      (hA := fun _ _ => rfl) (hpf := fun _ k => k.elim0)
      (hin := fun c => by
        show _ ⊢ ready osem N N_pos peer (pay m) (mine m) (give m) c
        iintro ⟨H, -, -⟩
        iexact H)
      (hout := fun c => by
        show landed osem (pay m) c ⊢ _
        rw [scopedRest0_eq]
        refine (landed_eq m c).trans ?_
        unfold done
        iintro ⟨H1, H2, H3⟩
        isplitl [H2 H3]; · isplitl [H2] <;> iassumption
        isplitl [H1]; · iexact H1
        iempintro)
      (QY := rest m)
      (hY := fun c s' => by
        unfold done rest
        iintro ⟨⟨H1, H2⟩, HSI⟩
        icombine HSI H1 gives %h1
        icombine HSI H2 gives %h2
        imodintro
        isplitr
        · ipureintro; exact ⟨funext fun i => h1 i (Finset.mem_univ i), funext fun i => h2 i (Finset.mem_univ i)⟩
        iexact HSI))

end Cert.KernelIdeal.Gather

end
-- ==== Proof.Product.lean ====
/-
  What the product's array holds after the run, at the exact values: each entry is the sum over the contracted axis.
-/
module

public import proofs.«01_k».proof.Proof.Run
public import Idealize.ShloMosaic.Lib.Pipeline.ValueKit
public import Idealize.ShloMosaic.Lib.MatmulPlain

@[expose] public section

noncomputable section

namespace Cert.KernelIdeal.Gather

open Cert.KernelIdeal Cert.KernelIdeal.Gen
open Idealize.ShloMosaic Idealize.ShloMosaic.TcCoe
open Idealize.SL Idealize.SL.Sem

/-- One block of the product, at an index. -/
theorem tile_apply (x : S2048x1024.Idx → Elt Ideal .bf16) (y : S1024x512.Idx → Elt Ideal .bf16) (i : S2048x512.Idx) :
    k0_pay1 x y i = ∑ k : Fin 1024, (x (ValueIdx.ix2 (i 0) k) * y (ValueIdx.ix2 k (i 1)) : EReal) := by
  rw [ValueIdx.eq_ix2 i]
  refine (Ideal.matmul_plain_apply (M := 2048) (K := 1024) (N := 512) none (shapeCast S2048x1024 x _) (shapeCast S1024x512 y _)
    (constant S2048x512 .f32 0x00000000#32) (i 0) (i 1)).trans ?_
  rw [show (constant (F := Ideal) S2048x512 .f32 0x00000000#32 (ValueIdx.ix2 (i 0) (i 1)) : EReal) = 0 from Ideal.ofBits_zero_f32, zero_add]
  refine Finset.sum_congr rfl fun k _ => ?_
  rw [shapeCast_id, shapeCast_id]

variable (m : (ℓ : Loc nD τ sig) → Buf (Elt Ideal) ℓ)

/-- The product of two whole arrays, at an index. -/
def product (a : S8192x1024.Idx → EReal) (w : S1024x9728.Idx → EReal) : S8192x9728.Idx → EReal :=
  fun i => ∑ k : Fin 1024, a (ValueIdx.ix2 (i 0) k) * w (ValueIdx.ix2 k (i 1))

/-- Which blocks of the operands a point multiplies. -/
theorem index_eq : ∀ t : Fin grid0.N, win0_0.index t 0 = win0_2.index t 0 ∧ win0_0.index t 1 = 0 ∧ win0_1.index t 0 = 0
    ∧ win0_1.index t 1 = win0_2.index t 1 := by decide +kernel

/-- After the run the first result's array is the product of the two operands' arrays. -/
theorem out_eq (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  show prod m c t y = _
  refine (tile_apply _ _ y).trans ?_
  refine Finset.sum_congr rfl fun k _ => ?_
  obtain ⟨e0, e1, e2, e3⟩ := index_eq t
  congr 1 <;> blk_ext [iblk, V]
  · show win0_0.index t 0 * 2048 + (y 0).val = ((win0_2.rect t).emb y 0).val
    rw [e0, win0_2.rect_emb_val t y 0]; rfl
  · show win0_0.index t 1 * 1024 + k.val = k.val
    rw [e1]; omega
  · show win0_1.index t 0 * 1024 + k.val = k.val
    rw [e2]; omega
  · show win0_1.index t 1 * 512 + (y 1).val = ((win0_2.rect t).emb y 1).val
    rw [e3, win0_2.rect_emb_val t y 1]; rfl

end Cert.KernelIdeal.Gather

end
-- ==== Proof.Whole.lean ====
/-
  The results of the one-device reference, cut into the blocks the devices hold, are what the devices end holding.
-/
module

public import proofs.«01_k».proof.Proof.Product
public import proofs.«01_k».proof.Proof.Gen.ReferenceIdeal
public import Idealize.ShloMosaic.Lib.Layout
public import Idealize.ShloMosaic.Lib.StackMember

@[expose] public section

noncomputable section

namespace Cert.KernelIdeal.Gather

open Cert.KernelIdeal.Gen Cert.ReferenceIdeal.Gen
open Idealize.ShloMosaic Idealize.ShloMosaic.TcCoe
open Idealize.SL Idealize.SL.Sem

/-- A block of rows of the whole product is the product of that block of rows. -/
theorem product_block (c : Dev nD) (a : Cert.ReferenceIdeal.S65536x1024.Idx → Elt Ideal .bf16) (w : S1024x9728.Idx → Elt Ideal .bf16) :
    product (Layout.block ⟨2, ![8192, 1024]⟩ ⟨2, ![65536, 1024]⟩ 0 8 c a) w
      = Layout.block ⟨2, ![8192, 9728]⟩ ⟨2, ![65536, 9728]⟩ 0 8 c
          (Host.dotGeneral (F := Ideal) Cert.ReferenceIdeal.dot_S65536x1024_S1024x9728_S65536x9728_1_0_0_1_n_n none
            (extf .f32 a Cert.ReferenceIdeal.Facts₀.bitsLt_bf16_f32) (extf .f32 w Cert.ReferenceIdeal.Facts₀.bitsLt_bf16_f32)) := by
  funext i
  rw [Layout.block_apply]
  generalize hj : Layout.Tiles.idx _ c i = j
  rw [ValueIdx.eq_ix2 j]
  refine Eq.trans ?_ (StackMember.dotGeneral_plain_apply (m := 65536) (k := 1024) (n := 9728) none _ _ (j 0) (j 1)).symm
  refine Finset.sum_congr rfl fun k _ => ?_
  subst hj
  refine congrArg₂ (· * ·) (congrArg a ?_) (congrArg w ?_) <;> funext b <;> apply Fin.ext <;> fin_cases b <;> rfl

/-- The gathered array of every device is the whole matrix, its columns split into the devices' parts. -/
theorem gathered_whole (m : (ℓ : Loc nD τ sig) → Buf (Elt Ideal) ℓ) (w : Cert.ReferenceIdeal.S1024x9232.Idx → Elt Ideal .bf16)
    (h : ∀ d : Dev nD, m ((d : Thread nD τ).loc main_arg2) = Layout.block ⟨2, ![1024, 1154]⟩ ⟨2, ![1024, 9232]⟩ 1 8 d w) (c : Dev nD) :
    gathered m c = transpose Cert.ReferenceIdeal.S8x1024x1154 [1, 0, 2]
      (shapeCast Cert.ReferenceIdeal.S1024x8x1154 w Cert.ReferenceIdeal.Facts₀.shapeCasts_S1024x9232_S1024x8x1154)
      Cert.ReferenceIdeal.Facts₀.transposes_S1024x8x1154_S8x1024x1154_1_0_2 := by
  funext i
  refine Eq.trans ?_ (transpose_apply _ _ _ _ (ValueIdx.ix3 (i 1) (i 0) (i 2)) ?_).symm
  · refine Eq.trans ?_ (shapeCast_apply _ _ _ (Layout.Tiles.idx (S := ⟨2, ![1024, 1154]⟩) (T := ⟨2, ![1024, 9232]⟩) (a := 1) (k := 8)
      (by decide) (i 0) (ValueIdx.ix2 (i 1) (i 2))) ?_).symm
    · exact congrFun (h _) _
    · refine (Shape.rowMajor_val_two _).trans (Eq.trans ?_ (Shape.rowMajor_val_three (ValueIdx.ix3 (i 1) (i 0) (i 2))).symm)
      show (i 1).val * 9232 + ((i 0).val * 1154 + (i 2).val) = ((i 1).val * 8 + (i 0).val) * 1154 + (i 2).val
      omega
  · intro b
    fin_cases b <;> rfl

end Cert.KernelIdeal.Gather

end
-- ==== Proof.GatherClaim.lean ====
/-
  The claims about the input projection that carries the gather of the next layer's weights, put together.
-/
module

public import proofs.«01_k».proof.Defs
public import proofs.«01_k».proof.Proof.Whole
public import proofs.«01_k».proof.Proof.Gen.Kernel
public import proofs.«01_k».proof.Proof.Gen.ReferenceIdeal.Run
public import Idealize.ShloMosaic.Adequacy
public import Idealize.ShloMosaic.Init

@[expose] public section

noncomputable section

namespace Cert.KernelIdeal.Gather

open Idealize.ShloMosaic Idealize.ShloMosaic.TcCoe Idealize.SL.Sem
open Cert.KernelIdeal

/-- After the run the arguments are as they were, and the results are the product and the gathered array. -/
theorem read_back {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        (r.2.mem ((c : Thread Cert.KernelIdeal.nD Cert.KernelIdeal.τ).loc main_arg0) = m ((c : Thread Cert.KernelIdeal.nD Cert.KernelIdeal.τ).loc main_arg0)
        ∧ r.2.mem ((c : Thread Cert.KernelIdeal.nD Cert.KernelIdeal.τ).loc main_arg1) = m ((c : Thread Cert.KernelIdeal.nD Cert.KernelIdeal.τ).loc main_arg1)
        ∧ r.2.mem ((c : Thread Cert.KernelIdeal.nD Cert.KernelIdeal.τ).loc main_arg2) = m ((c : Thread Cert.KernelIdeal.nD Cert.KernelIdeal.τ).loc main_arg2))
        ∧ r.2.mem ((c : Thread Cert.KernelIdeal.nD Cert.KernelIdeal.τ).loc main_v1_0) = (dats m 0 c).arrAt 2 Cert.KernelIdeal.cfg0.N
        ∧ r.2.mem ((c : Thread Cert.KernelIdeal.nD Cert.KernelIdeal.τ).loc main_v1_1) = gathered m c)
      ∧ r.2.sem = fun _ => 0 :=
  (θ_run Cert.KernelIdeal.defs _ _).mono (fun _ h => ⟨fun c =>
      ⟨⟨((h.1 c).1 0).trans ((dats m 0 c).arrAt_in 0 rfl _), ((h.1 c).1 1).trans ((dats m 0 c).arrAt_in 1 rfl _), (h.1 c).2.1⟩,
        (h.1 c).1 2, (h.1 c).2.2⟩, h.2⟩)
    (run_main m ρ)

/-- The run of `read_back`, its results dropped. -/
theorem frame_of {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c : Thread Cert.KernelIdeal.nD Cert.KernelIdeal.τ).loc main_arg0) = m ((c : Thread Cert.KernelIdeal.nD Cert.KernelIdeal.τ).loc main_arg0)
        ∧ r.2.mem ((c : Thread Cert.KernelIdeal.nD Cert.KernelIdeal.τ).loc main_arg1) = m ((c : Thread Cert.KernelIdeal.nD Cert.KernelIdeal.τ).loc main_arg1)
        ∧ r.2.mem ((c : Thread Cert.KernelIdeal.nD Cert.KernelIdeal.τ).loc main_arg2) = m ((c : Thread Cert.KernelIdeal.nD Cert.KernelIdeal.τ).loc main_arg2))
      ∧ r.2.sem = fun _ => 0 :=
  (θ_run Cert.KernelIdeal.defs _ _).mono (fun _ h => ⟨fun c => (h.1 c).1, h.2⟩) (read_back m ρ)

/-- The two programs have the same body table: the one kernel is the same function. -/
theorem bodies_eq : Cert.Kernel.defs₀ (F := Bits) = Cert.KernelIdeal.defs₀ (F := Bits) := by
  unfold Cert.Kernel.defs₀ Cert.KernelIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.Kernel.defs (F := Bits) = Cert.KernelIdeal.defs (F := Bits) := congrArg (Pipeline.defs Cert.KernelIdeal.pcfgs) bodies_eq

theorem frame_bits : Cert.quiescent_Kernel (hKernel := Cert.Kernel.Gen.facts) := fun m ρ _ => by
  rw [table_eq]; exact frame_of (F := Bits) m ρ

theorem frame_ideal : Cert.quiescent_KernelIdeal (hKernelIdeal := Cert.KernelIdeal.Gen.facts) := fun m ρ _ => frame_of m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)

theorem values : Cert.algebraic_KernelIdeal_ReferenceIdeal (hKernelIdeal := Cert.KernelIdeal.Gen.facts) (hReferenceIdeal := Cert.ReferenceIdeal.Gen.facts) := fun m ρ m' ρ' _ h => by
  refine ⟨_, _, (θ_run Cert.KernelIdeal.defs _ _).mono (fun r hr c => ?_) (read_back m ρ),
    (θ_run Cert.ReferenceIdeal.defs _ _).mono (fun _ h => h 0) (Cert.ReferenceIdeal.Value.run m' ρ')⟩
  obtain ⟨⟨h0, h1, h2⟩, h3, h4⟩ := hr.1 c
  refine ⟨?_, ?_, h0, h1, h2⟩
  · refine (h3.trans (out_eq m c)).trans ?_
    rw [(h c).1, (h c).2.1]
    exact product_block c _ _
  · exact h4.trans (gathered_whole m _ (fun d => (h d).2.2) c)

end Cert.KernelIdeal.Gather

end
-- ==== Proof.Talk.lean ====
/-
  The exchange, carried out: the fifteen operations in the order the kernels run them, and what goes in and comes out.

  A plan says where the pieces lie and what they hold: device `c` sends its piece `src d`, holding `X c d`, to device
  `d`, which receives it in its piece `dst c`. The transfers all move as much as `N` says. On device `c`:

    send k   hands back the piece that was sent to `peer k c`;
    recv k   hands over the piece `dst (peer k c)`, holding what that device sent;
    own      hands over both for the piece the device keeps.
-/
module

public import proofs.«01_k».proof.Proof.Exchange
public import proofs.«01_k».proof.Proof.Slots
public import Idealize.ShloMosaic.Lib.Memref

@[expose] public section

noncomputable section

namespace Cert.Exchange

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

structure Plan (sig : RefSig) (Val : EltTy → Type) (s : Shape) (e : EltTy) where
  dsem : Part → DmaSem sig
  inj : Function.Injective dsem
  src : Fin 8 → Memref sig .tc .hbm s e
  dst : Fin 8 → Memref sig .tc .hbm s e
  q : Fin 8 → PosShare TreeShare
  X : Fin 8 → Fin 8 → s.Idx → Val e
  N : ℕ
  pos : 0 < N
  amt : ∀ d, (dst d).view.dmaCredit = N

namespace Plan

variable {τ : Topo} {sig : RefSig} {Val : EltTy → Type} {s : Shape} {e : EltTy} (P : Plan sig Val s e)

local notation "𝕄" => MT 8 τ sig Unit Val ℕ (UU 8 τ sig) ℕ

def osem (j : Part) : SemLoc sig := .dma (P.dsem j)
theorem osem_inj : Function.Injective P.osem := fun _ _ h => P.inj (SemLoc.dma.inj h)

abbrev srcPt (c d : Dev 8) : sProp 𝕄 := owns (c : Thread 8 τ) (P.src d) (P.q d) (P.X c d)
/-- Piece `d` of device `c`'s result, holding what device `d` sent there. -/
abbrev dstPt (c d : Dev 8) : sProp 𝕄 := owns (c : Thread 8 τ) (P.dst d) fullShare (P.X d c)
abbrev dstAny (c d : Dev 8) : sProp 𝕄 := iprop(∃ v, owns (c : Thread 8 τ) (P.dst d) fullShare v)

def pay (c : Dev 8) : Part → sProp 𝕄
  | .inl k => P.srcPt c (peer k c)
  | .inr (.inl k) => P.dstPt c (peer k c)
  | .inr (.inr _) => iprop(P.dstPt c c ∗ P.srcPt c c)
instance pay_storable (c : Dev 8) (j : Part) : BI.Storable (upEmb : UEmb _ 𝕄) (P.pay (τ := τ) c j) := by
  rcases j with k | k | _ <;> (dsimp only [pay]; infer_instance)

def mine (c : Dev 8) : sProp 𝕄 := iprop(P.dstAny c c ∗ P.srcPt c c ∗ bigSep Finset.univ fun k => P.srcPt c (peer k c))
def give (c : Dev 8) (k : Fin 7) : sProp 𝕄 := P.dstAny c (peer k c)

abbrev Ready (c : Dev 8) : sProp 𝕄 := ready P.osem P.N P.pos peer P.pay P.mine P.give c
abbrev Flying (c : Dev 8) : sProp 𝕄 := flying P.osem P.N P.pos P.pay c
abbrev Landed (c : Dev 8) : sProp 𝕄 := landed P.osem P.pay c
abbrev Owed (c : Dev 8) (n : ℕ) : CellTallies 8 τ sig Unit := debt P.osem P.N peer c n

/-- What a device's pieces are at launch. -/
theorem hold (c : Dev 8) :
    iprop((bigSep Finset.univ fun d => P.srcPt c d) ∗ bigSep Finset.univ fun d => P.dstAny c d)
      ⊢ (iprop(P.mine c ∗ bigSep Finset.univ fun k => P.give c k) : sProp 𝕄) := by
  rw [bigSep_peers c fun d => P.srcPt c d, bigSep_peers c fun d => P.dstAny c d]
  unfold mine give
  iintro ⟨⟨H1, H2⟩, H3, H4⟩
  isplitr [H4]
  · isplitl [H3]; · iexact H3
    isplitl [H1] <;> iassumption
  iexact H4

/-- What they are once every transfer is waited for. -/
theorem back (c : Dev 8) : P.Landed c
    ⊢ (iprop(Pipeline.ownSems0 (Ix := Unit) (Name := ℕ) (U := UU 8 τ sig) (Lvl := ℕ) (Val := Val) (τ := τ) P.osem c
        ∗ (bigSep Finset.univ fun d => P.srcPt c d) ∗ bigSep Finset.univ fun d => P.dstPt c d) : sProp 𝕄) := by
  unfold Landed landed
  rw [bigSep_sep', bigSep_parts (fun j => P.pay c j), bigSep_peers c fun d => P.srcPt c d, bigSep_peers c fun d => P.dstPt c d,
    show P.pay c Exchange.own = iprop(P.dstPt c c ∗ P.srcPt c c) from rfl,
    show (fun k => P.pay c (send k)) = fun k => P.srcPt c (peer k c) from rfl, show (fun k => P.pay c (recv k)) = fun k => P.dstPt c (peer k c) from rfl]
  unfold Pipeline.ownSems0
  iintro ⟨H1, H2, H3, ⟨H4, H5⟩⟩
  isplitl [H1]; · iexact H1
  isplitl [H2 H5]
  · isplitl [H5] <;> iassumption
  isplitl [H4] <;> iassumption

/-! ## The operations one by one -/

section Ops

variable {Λ : Labels} {defs : Defs 8 τ sig Val Λ} (𝒱 : Variants) {α : Type} {Q : α → sProp (MT 8 τ sig Unit Val ℕ (UU 8 τ sig) ℕ)}

theorem amount_eq (d : Fin 8) (j : Part) : (P.dst d).view.amount (P.osem j) = P.N := P.amt d

/-- What the copy to peer `k` takes. -/
def kit (c : Dev 8) (k : Fin 7) : sProp 𝕄 :=
  iprop(dutyTok ER (cell P.osem c (send k)) 0 () ∗ dutyTok ER (cell P.osem (peer k c) (recv k)) 0 () ∗ credit P.osem P.N c (recv k)
    ∗ P.srcPt c (peer k c) ∗ P.dstAny (peer k c) c)
/-- What the copy of its own piece takes. -/
def ownKit (c : Dev 8) : sProp 𝕄 := iprop(dutyTok ER (cell P.osem c own) 0 () ∗ P.srcPt c c ∗ P.dstAny c c)

variable (K : Dev 8 × Part → ℕ) (c : Dev 8)

theorem wp_copy_out (k : Fin 7) {c' : Dev 8} {a t : Memref sig .tc .hbm s e} {sS sR : SemLoc sig}
    (h : c' = peer k c ∧ a = P.src (peer k c) ∧ t = P.dst c ∧ sS = P.osem (send k) ∧ sR = P.osem (recv k))
    {hsc hsrc hdst hsem} {kont : PUnit → Prog (TpuEff 8 τ sig Val Λ .tc) α} {n n' : ℕ} (hn : n = k.val) (hn' : n' = k.val + 1) (W : Waits sig Unit) :
    iprop(records P.osem P.N P.pos P.pay K ∗ P.kit c k ∗ owes (c : Thread 8 τ) (P.Owed c n) W)
      ⊢ iprop(((credit P.osem P.N c (send k) ∗ credit P.osem P.N c (recv k) ∗ owes (c : Thread 8 τ) (P.Owed c n') W)
            -∗ wp frame (wpE defs 𝒱 (c : Thread 8 τ) none) Set.univ (kont ⟨⟩) Q)
          -∗ wp frame (wpE defs 𝒱 (c : Thread 8 τ) none) Set.univ
            (.op (.enqueueDma a (.remote (Dev.tc c' : Thread 8 τ) t sS hsc) sR hsrc hdst hsem) kont) Q) := by
  obtain ⟨rfl, rfl, rfl, rfl, rfl⟩ := h
  unfold kit srcPt dstAny owns
  iintro ⟨HR, ⟨HtS, HtR, Hcr, ⟨%fs, %es, Hs⟩, ⟨%v, %fd, %ed, Hd⟩⟩, HO⟩ Hk
  iapply (wp_send P.N P.pos P.pay P.osem_inj 𝒱 K c (peer k c) k (src := P.src (peer k c)) (dst := P.dst c) rfl rfl rfl (P.amount_eq c _) (fs := fs) (fd := fd) (q := P.q (peer k c))
      (by
        show _ ⊢ owns (c : Thread 8 τ) (P.src (peer k c)) (P.q (peer k c)) (P.X c (peer k c))
        rw [← show _ = P.X c (peer k c) from es]
        exact owns_intro (c : Thread 8 τ) (P.src (peer k c)) _ fs)
      (by
        show _ ⊢ owns (peer k c : Thread 8 τ) (P.dst (peer k (peer k c))) fullShare (P.X (peer k (peer k c)) (peer k c))
        rw [peer_peer, ← show _ = P.X c (peer k c) from es]
        refine (owns_intro (peer k c : Thread 8 τ) (P.dst c) _ _).trans (Entails.of_eq ?_)
        rw [View.read_write_univ])
      hn hn' W (by routes)) $$ [HR HtS HtR Hs Hd HO]
  · isplitl [HR]; · iexact HR
    isplitl [Hs]; · iexact Hs
    isplitl [Hd]; · iexact Hd
    isplitl [HO]; · iexact HO
    isplitl [HtS] <;> iassumption
  iintro ⟨H, HO⟩
  iapply Hk
  isplitl [H]; · iexact H
  isplitl [Hcr] <;> iassumption

theorem wp_copy_own {a t : Memref sig .tc .hbm s e} {sO : SemLoc sig} (h : a = P.src c ∧ t = P.dst c ∧ sO = P.osem own)
    {hsrc hdst hsem} {kont : PUnit → Prog (TpuEff 8 τ sig Val Λ .tc) α} :
    iprop(records P.osem P.N P.pos P.pay K ∗ P.ownKit c)
      ⊢ iprop((credit P.osem P.N c own -∗ wp frame (wpE defs 𝒱 (c : Thread 8 τ) none) Set.univ (kont ⟨⟩) Q)
          -∗ wp frame (wpE defs 𝒱 (c : Thread 8 τ) none) Set.univ (.op (.enqueueDma a (.here t) sO hsrc hdst hsem) kont) Q) := by
  obtain ⟨rfl, rfl, rfl⟩ := h
  unfold ownKit srcPt dstAny owns
  iintro ⟨HR, Ht, ⟨%fs, %es, Hs⟩, ⟨%v, %fd, %ed, Hd⟩⟩ Hk
  iapply (wp_own P.N P.pos P.pay P.osem_inj 𝒱 K c (src := P.src c) (dst := P.dst c) rfl (P.amount_eq c _) (fs := fs) (fd := fd) (q := P.q c)
      (by
        show _ ⊢ iprop(owns (c : Thread 8 τ) (P.dst c) fullShare (P.X c c) ∗ owns (c : Thread 8 τ) (P.src c) (P.q c) (P.X c c))
        rw [← show _ = P.X c c from es]
        refine BI.sep_mono ((owns_intro (c : Thread 8 τ) (P.dst c) _ _).trans (Entails.of_eq ?_)) (owns_intro (c : Thread 8 τ) (P.src c) _ fs)
        rw [View.read_write_univ])) $$ [HR Ht Hs Hd]
  · isplitl [HR]; · iexact HR
    isplitl [Hs]; · iexact Hs
    isplitl [Hd] <;> iassumption
  iexact Hk

theorem wp_await (j : Part) {sm : DmaSem sig} {sp sp' : Space} {s' : Shape} {e' : EltTy} {a : Memref sig .tc sp s' e'} {t : Memref sig .tc sp' s' e'}
    (h : sm = P.dsem j ∧ t.view.dmaCredit = P.N) {hsrc hdst} {kont : PUnit → Prog (TpuEff 8 τ sig Val Λ .tc) α} (W : Waits sig Unit) :
    iprop(records P.osem P.N P.pos P.pay K ∗ (atPos ER (cell P.osem c j) 0 ∅ 0 ∗ credit P.osem P.N c j) ∗ owes (c : Thread 8 τ) 0 W)
      ⊢ iprop((((semVal (cell P.osem c j) 0 ∗ P.pay c j) ∗ ∃ W', owes (c : Thread 8 τ) 0 W') -∗ wp frame (wpE defs 𝒱 (c : Thread 8 τ) none) Set.univ (kont ⟨⟩) Q)
          -∗ wp frame (wpE defs 𝒱 (c : Thread 8 τ) none) Set.univ (.op (.waitDma2 sm a t hsrc hdst) kont) Q) :=
  wp_wait P.N P.pos P.pay P.osem_inj 𝒱 K c j (wpE_waitDma2_eq 𝒱 (c : Thread 8 τ) none Set.univ) (congrArg SemLoc.dma h.1) h.2 W

/-! ## All of them in a row -/

set_option maxHeartbeats 1600000 in
/-- The eight copies. -/
theorem wp_start {W : Waits sig Unit} {a0 a1 a2 a3 a4 a5 a6 ao t0 t1 t2 t3 t4 t5 t6 td : Memref sig .tc .hbm s e} {c0 c1 c2 c3 c4 c5 c6 : Dev 8}
    {x0 x1 x2 x3 x4 x5 x6 y0 y1 y2 y3 y4 y5 y6 yo : SemLoc sig}
    (ho : ao = P.src c ∧ td = P.dst c ∧ yo = P.osem own)
    (h0 : c0 = peer 0 c ∧ a0 = P.src (peer 0 c) ∧ t0 = P.dst c ∧ x0 = P.osem (send 0) ∧ y0 = P.osem (recv 0))
    (h1 : c1 = peer 1 c ∧ a1 = P.src (peer 1 c) ∧ t1 = P.dst c ∧ x1 = P.osem (send 1) ∧ y1 = P.osem (recv 1))
    (h2 : c2 = peer 2 c ∧ a2 = P.src (peer 2 c) ∧ t2 = P.dst c ∧ x2 = P.osem (send 2) ∧ y2 = P.osem (recv 2))
    (h3 : c3 = peer 3 c ∧ a3 = P.src (peer 3 c) ∧ t3 = P.dst c ∧ x3 = P.osem (send 3) ∧ y3 = P.osem (recv 3))
    (h4 : c4 = peer 4 c ∧ a4 = P.src (peer 4 c) ∧ t4 = P.dst c ∧ x4 = P.osem (send 4) ∧ y4 = P.osem (recv 4))
    (h5 : c5 = peer 5 c ∧ a5 = P.src (peer 5 c) ∧ t5 = P.dst c ∧ x5 = P.osem (send 5) ∧ y5 = P.osem (recv 5))
    (h6 : c6 = peer 6 c ∧ a6 = P.src (peer 6 c) ∧ t6 = P.dst c ∧ x6 = P.osem (send 6) ∧ y6 = P.osem (recv 6))
    {p0 p1 p2 p3 p4 p5 p6 p7 p8 p9 p10 p11 p12 p13 p14 p15 p16 p17 p18 p19 p20 p21 p22 p23 p24 p25 p26 p27 p28 p29 p30}
    {kont : PUnit → Prog (TpuEff 8 τ sig Val Λ .tc) α} :
    iprop(P.Ready c ∗ owes (c : Thread 8 τ) (P.Owed c 0) W)
      ⊢ iprop(((P.Flying c ∗ owes (c : Thread 8 τ) 0 W) -∗ wp frame (wpE defs 𝒱 (c : Thread 8 τ) none) Set.univ (kont ⟨⟩) Q)
          -∗ wp frame (wpE defs 𝒱 (c : Thread 8 τ) none) Set.univ
            (.op (.enqueueDma ao (.here td) yo p0 p1 p2) fun _ =>
             .op (.enqueueDma a0 (.remote (Dev.tc c0 : Thread 8 τ) t0 x0 p3) y0 p4 p5 p6) fun _ =>
             .op (.enqueueDma a1 (.remote (Dev.tc c1 : Thread 8 τ) t1 x1 p7) y1 p8 p9 p10) fun _ =>
             .op (.enqueueDma a2 (.remote (Dev.tc c2 : Thread 8 τ) t2 x2 p11) y2 p12 p13 p14) fun _ =>
             .op (.enqueueDma a3 (.remote (Dev.tc c3 : Thread 8 τ) t3 x3 p15) y3 p16 p17 p18) fun _ =>
             .op (.enqueueDma a4 (.remote (Dev.tc c4 : Thread 8 τ) t4 x4 p19) y4 p20 p21 p22) fun _ =>
             .op (.enqueueDma a5 (.remote (Dev.tc c5 : Thread 8 τ) t5 x5 p23) y5 p24 p25 p26) fun _ =>
             .op (.enqueueDma a6 (.remote (Dev.tc c6 : Thread 8 τ) t6 x6 p27) y6 p28 p29 p30) kont) Q) := by
  have hkit : iprop(tokens P.osem peer c ∗ (bigSep Finset.univ fun k => credit P.osem P.N c (recv k)) ∗ P.mine c ∗ bigSep Finset.univ fun k => P.give (peer k c) k)
      ⊢ (iprop(P.ownKit c ∗ bigSep Finset.univ (P.kit c)) : sProp 𝕄) := by
    unfold tokens mine give kit ownKit
    simp only [bigSep_sep', peer_peer]
    iintro ⟨⟨A, B, C⟩, D, ⟨E, G, H⟩, I⟩
    isplitl [C E G]
    · isplitl [C]; · iexact C
      isplitl [G] <;> iassumption
    isplitl [A]; · iexact A
    isplitl [B]; · iexact B
    isplitl [D]; · iexact D
    isplitl [H] <;> iassumption
  unfold Ready ready
  iintro ⟨⟨⟨%K, #HR⟩, Hat, Hkit⟩, HO⟩ Hk
  ihave Hkit' := hkit $$ Hkit
  icases Hkit' with ⟨Hown, Hkits⟩
  ihave Hkits' := (Entails.of_eq (bigSep_seven (P.kit c))) $$ Hkits
  icases Hkits' with ⟨K0, K1, K2, K3, K4, K5, K6⟩
  iapply (P.wp_copy_own 𝒱 K c ho) $$ [Hown]
  · isplitr; · iexact HR
    iexact Hown
  iintro Co
  iapply (P.wp_copy_out 𝒱 (n := 0) (n' := 1) K c 0 h0 rfl rfl W) $$ [K0 HO]
  · isplitr; · iexact HR
    isplitl [K0] <;> iassumption
  iintro ⟨S0, V0, HO⟩
  iapply (P.wp_copy_out 𝒱 (n := 1) (n' := 2) K c 1 h1 rfl rfl W) $$ [K1 HO]
  · isplitr; · iexact HR
    isplitl [K1] <;> iassumption
  iintro ⟨S1, V1, HO⟩
  iapply (P.wp_copy_out 𝒱 (n := 2) (n' := 3) K c 2 h2 rfl rfl W) $$ [K2 HO]
  · isplitr; · iexact HR
    isplitl [K2] <;> iassumption
  iintro ⟨S2, V2, HO⟩
  iapply (P.wp_copy_out 𝒱 (n := 3) (n' := 4) K c 3 h3 rfl rfl W) $$ [K3 HO]
  · isplitr; · iexact HR
    isplitl [K3] <;> iassumption
  iintro ⟨S3, V3, HO⟩
  iapply (P.wp_copy_out 𝒱 (n := 4) (n' := 5) K c 4 h4 rfl rfl W) $$ [K4 HO]
  · isplitr; · iexact HR
    isplitl [K4] <;> iassumption
  iintro ⟨S4, V4, HO⟩
  iapply (P.wp_copy_out 𝒱 (n := 5) (n' := 6) K c 5 h5 rfl rfl W) $$ [K5 HO]
  · isplitr; · iexact HR
    isplitl [K5] <;> iassumption
  iintro ⟨S5, V5, HO⟩
  iapply (P.wp_copy_out 𝒱 (n := 6) (n' := 7) K c 6 h6 rfl rfl W) $$ [K6 HO]
  · isplitr; · iexact HR
    isplitl [K6] <;> iassumption
  iintro ⟨S6, V6, HO⟩
  iapply Hk
  isplitl [Hat Co S0 S1 S2 S3 S4 S5 S6 V0 V1 V2 V3 V4 V5 V6]
  · unfold Flying flying
    isplitr; · iexists K; iexact HR
    rw [bigSep_sep', bigSep_waits fun j => credit P.osem P.N c j]
    isplitl [Hat]; · iexact Hat
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [S0]; · iexact S0
    isplitl [S1]; · iexact S1
    isplitl [S2]; · iexact S2
    isplitl [S3]; · iexact S3
    isplitl [S4]; · iexact S4
    isplitl [S5]; · iexact S5
    isplitl [S6] <;> iassumption
  iapply (Entails.of_eq (congrArg (fun O => (owes (c : Thread 8 τ) O W : sProp 𝕄)) (debt_seven P.osem P.N peer c))); iexact HO

set_option maxHeartbeats 1600000 in
/-- The fifteen waits. -/
theorem wp_finish {W : Waits sig Unit} {s' : Shape} {e' : EltTy}
    {a0 a1 a2 a3 a4 a5 a6 a7 a8 a9 a10 a11 a12 a13 a14 t0 t1 t2 t3 t4 t5 t6 t7 t8 t9 t10 t11 t12 t13 t14 : Memref sig .tc .hbm s' e'}
    {x0 x1 x2 x3 x4 x5 x6 x7 x8 x9 x10 x11 x12 x13 x14 : DmaSem sig}
    (h0 : x0 = P.dsem (recv 0) ∧ t0.view.dmaCredit = P.N)
    (h1 : x1 = P.dsem (recv 1) ∧ t1.view.dmaCredit = P.N)
    (h2 : x2 = P.dsem (recv 2) ∧ t2.view.dmaCredit = P.N)
    (h3 : x3 = P.dsem (recv 3) ∧ t3.view.dmaCredit = P.N)
    (h4 : x4 = P.dsem (recv 4) ∧ t4.view.dmaCredit = P.N)
    (h5 : x5 = P.dsem (recv 5) ∧ t5.view.dmaCredit = P.N)
    (h6 : x6 = P.dsem (recv 6) ∧ t6.view.dmaCredit = P.N)
    (h7 : x7 = P.dsem (send 0) ∧ t7.view.dmaCredit = P.N)
    (h8 : x8 = P.dsem (send 1) ∧ t8.view.dmaCredit = P.N)
    (h9 : x9 = P.dsem (send 2) ∧ t9.view.dmaCredit = P.N)
    (h10 : x10 = P.dsem (send 3) ∧ t10.view.dmaCredit = P.N)
    (h11 : x11 = P.dsem (send 4) ∧ t11.view.dmaCredit = P.N)
    (h12 : x12 = P.dsem (send 5) ∧ t12.view.dmaCredit = P.N)
    (h13 : x13 = P.dsem (send 6) ∧ t13.view.dmaCredit = P.N)
    (h14 : x14 = P.dsem own ∧ t14.view.dmaCredit = P.N)
    {p0 p1 p2 p3 p4 p5 p6 p7 p8 p9 p10 p11 p12 p13 p14 p15 p16 p17 p18 p19 p20 p21 p22 p23 p24 p25 p26 p27 p28 p29}
    {kont : PUnit → Prog (TpuEff 8 τ sig Val Λ .tc) α} :
    iprop(P.Flying c ∗ owes (c : Thread 8 τ) 0 W)
      ⊢ iprop(((P.Landed c ∗ ∃ W', owes (c : Thread 8 τ) 0 W') -∗ wp frame (wpE defs 𝒱 (c : Thread 8 τ) none) Set.univ (kont ⟨⟩) Q)
          -∗ wp frame (wpE defs 𝒱 (c : Thread 8 τ) none) Set.univ
            (.op (.waitDma2 x0 a0 t0 p0 p1) fun _ =>
             .op (.waitDma2 x1 a1 t1 p2 p3) fun _ =>
             .op (.waitDma2 x2 a2 t2 p4 p5) fun _ =>
             .op (.waitDma2 x3 a3 t3 p6 p7) fun _ =>
             .op (.waitDma2 x4 a4 t4 p8 p9) fun _ =>
             .op (.waitDma2 x5 a5 t5 p10 p11) fun _ =>
             .op (.waitDma2 x6 a6 t6 p12 p13) fun _ =>
             .op (.waitDma2 x7 a7 t7 p14 p15) fun _ =>
             .op (.waitDma2 x8 a8 t8 p16 p17) fun _ =>
             .op (.waitDma2 x9 a9 t9 p18 p19) fun _ =>
             .op (.waitDma2 x10 a10 t10 p20 p21) fun _ =>
             .op (.waitDma2 x11 a11 t11 p22 p23) fun _ =>
             .op (.waitDma2 x12 a12 t12 p24 p25) fun _ =>
             .op (.waitDma2 x13 a13 t13 p26 p27) fun _ =>
             .op (.waitDma2 x14 a14 t14 p28 p29) kont) Q) := by
  unfold Flying flying
  rw [bigSep_waits fun j => iprop(atPos ER (cell P.osem c j) 0 ∅ 0 ∗ credit P.osem P.N c j)]
  iintro ⟨⟨⟨%K, #HR⟩, T0, T1, T2, T3, T4, T5, T6, T7, T8, T9, T10, T11, T12, T13, T14⟩, HO⟩ Hk
  iapply (P.wp_await 𝒱 K c (recv 0) h0 _) $$ [T0 HO]
  · isplitr; · iexact HR
    isplitl [T0] <;> iassumption
  iintro ⟨L0, ⟨%W0, HO⟩⟩
  iapply (P.wp_await 𝒱 K c (recv 1) h1 _) $$ [T1 HO]
  · isplitr; · iexact HR
    isplitl [T1] <;> iassumption
  iintro ⟨L1, ⟨%W1, HO⟩⟩
  iapply (P.wp_await 𝒱 K c (recv 2) h2 _) $$ [T2 HO]
  · isplitr; · iexact HR
    isplitl [T2] <;> iassumption
  iintro ⟨L2, ⟨%W2, HO⟩⟩
  iapply (P.wp_await 𝒱 K c (recv 3) h3 _) $$ [T3 HO]
  · isplitr; · iexact HR
    isplitl [T3] <;> iassumption
  iintro ⟨L3, ⟨%W3, HO⟩⟩
  iapply (P.wp_await 𝒱 K c (recv 4) h4 _) $$ [T4 HO]
  · isplitr; · iexact HR
    isplitl [T4] <;> iassumption
  iintro ⟨L4, ⟨%W4, HO⟩⟩
  iapply (P.wp_await 𝒱 K c (recv 5) h5 _) $$ [T5 HO]
  · isplitr; · iexact HR
    isplitl [T5] <;> iassumption
  iintro ⟨L5, ⟨%W5, HO⟩⟩
  iapply (P.wp_await 𝒱 K c (recv 6) h6 _) $$ [T6 HO]
  · isplitr; · iexact HR
    isplitl [T6] <;> iassumption
  iintro ⟨L6, ⟨%W6, HO⟩⟩
  iapply (P.wp_await 𝒱 K c (send 0) h7 _) $$ [T7 HO]
  · isplitr; · iexact HR
    isplitl [T7] <;> iassumption
  iintro ⟨L7, ⟨%W7, HO⟩⟩
  iapply (P.wp_await 𝒱 K c (send 1) h8 _) $$ [T8 HO]
  · isplitr; · iexact HR
    isplitl [T8] <;> iassumption
  iintro ⟨L8, ⟨%W8, HO⟩⟩
  iapply (P.wp_await 𝒱 K c (send 2) h9 _) $$ [T9 HO]
  · isplitr; · iexact HR
    isplitl [T9] <;> iassumption
  iintro ⟨L9, ⟨%W9, HO⟩⟩
  iapply (P.wp_await 𝒱 K c (send 3) h10 _) $$ [T10 HO]
  · isplitr; · iexact HR
    isplitl [T10] <;> iassumption
  iintro ⟨L10, ⟨%W10, HO⟩⟩
  iapply (P.wp_await 𝒱 K c (send 4) h11 _) $$ [T11 HO]
  · isplitr; · iexact HR
    isplitl [T11] <;> iassumption
  iintro ⟨L11, ⟨%W11, HO⟩⟩
  iapply (P.wp_await 𝒱 K c (send 5) h12 _) $$ [T12 HO]
  · isplitr; · iexact HR
    isplitl [T12] <;> iassumption
  iintro ⟨L12, ⟨%W12, HO⟩⟩
  iapply (P.wp_await 𝒱 K c (send 6) h13 _) $$ [T13 HO]
  · isplitr; · iexact HR
    isplitl [T13] <;> iassumption
  iintro ⟨L13, ⟨%W13, HO⟩⟩
  iapply (P.wp_await 𝒱 K c own h14 _) $$ [T14 HO]
  · isplitr; · iexact HR
    isplitl [T14] <;> iassumption
  iintro ⟨L14, ⟨%W14, HO⟩⟩
  iapply Hk
  isplitr [HO]
  · unfold Landed landed
    rw [bigSep_waits fun j => iprop(semVal (cell P.osem c j) 0 ∗ P.pay c j)]
    isplitl [L0]; · iexact L0
    isplitl [L1]; · iexact L1
    isplitl [L2]; · iexact L2
    isplitl [L3]; · iexact L3
    isplitl [L4]; · iexact L4
    isplitl [L5]; · iexact L5
    isplitl [L6]; · iexact L6
    isplitl [L7]; · iexact L7
    isplitl [L8]; · iexact L8
    isplitl [L9]; · iexact L9
    isplitl [L10]; · iexact L10
    isplitl [L11]; · iexact L11
    isplitl [L12]; · iexact L12
    isplitl [L13]; · iexact L13
    iexact L14
  iexists _; iexact HO

end Ops

end Plan

end Cert.Exchange

end
-- ==== Proof.Stages.lean ====
/-
  The exchange over a grid, and the exchange of slots.

  A kernel on a grid of `T` points starts the exchange at its first point and finishes it at its last: what a device
  holds and owes before each point, and how a point carries that on once the three kinds of point are known. In the
  exchange of slots the pieces are the slots of two arrays of eight: device `c`'s slot `d` of the one goes to slot `c`
  of the other on device `d`.
-/
module

public import proofs.«01_k».proof.Proof.Talk

@[expose] public section

noncomputable section

namespace Cert.Exchange

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {τ : Topo} {sig : RefSig} {Val : EltTy → Type}

local notation "𝕄" => MT 8 τ sig Unit Val ℕ (UU 8 τ sig) ℕ

/-! ## Over a grid -/

namespace Plan

variable {s : Shape} {e : EltTy} (P : Plan sig Val s e) (T : ℕ) (c : Dev 8)

/-- What a device holds of the exchange before point `n`. -/
def held (n : ℕ) : sProp 𝕄 := if n = 0 then P.Ready c else if n = T then P.Landed c else P.Flying c
/-- What it owes. -/
def owing (n : ℕ) : CellTallies 8 τ sig Unit := if n = 0 then P.Owed c 0 else 0

theorem held_zero : P.held (τ := τ) T c 0 = P.Ready c := if_pos rfl
theorem held_last (hT : 0 < T) : P.held (τ := τ) T c T = P.Landed c := (if_neg (by omega)).trans (if_pos rfl)
theorem owing_zero : P.owing (τ := τ) c 0 = P.Owed c 0 := if_pos rfl
theorem owing_succ (n : ℕ) : P.owing (τ := τ) c (n + 1) = 0 := if_neg (Nat.succ_ne_zero n)

/-- No point's debts block a wait on a semaphore that is no receive semaphore. -/
theorem mayWait (sl : SemLoc sig) (hs : ∀ k, P.osem (recv k) ≠ sl) (n : ℕ) :
    (levAts L (lv P.osem) : sProp 𝕄) ⊢ MayWait (c : Thread 8 τ) sl () (P.owing c n) := by
  unfold owing
  split
  · exact mayWait_stage P.osem P.N peer c sl hs 0 _ rfl
  · exact mayWait_stage P.osem P.N peer c sl hs 7 _ (debt_seven P.osem P.N peer c).symm

variable {Λ : Labels} {defs : Defs 8 τ sig Val Λ} {𝒱 : Variants}

/-- One point of a kernel, from the three kinds of point. -/
theorem step (n : ℕ) (hT : 2 ≤ T) (hn : n < T) {W : Waits sig Unit} {B : Prog (TpuEff 8 τ sig Val Λ .tc) PUnit} {pre post : sProp 𝕄} {Q : PUnit → sProp 𝕄}
    (first : n = 0 → iprop(P.Ready c ∗ owes (c : Thread 8 τ) (P.Owed c 0) W ∗ pre ∗ ((P.Flying c ∗ owes (c : Thread 8 τ) 0 W ∗ post) -∗ Q ⟨⟩))
      ⊢ wp frame (wpE defs 𝒱 (c : Thread 8 τ) none) Set.univ B Q)
    (mid : n ≠ 0 → n + 1 ≠ T → iprop(pre ∗ (post -∗ Q ⟨⟩)) ⊢ wp frame (wpE defs 𝒱 (c : Thread 8 τ) none) Set.univ B Q)
    (last : n ≠ 0 → n + 1 = T → iprop(P.Flying c ∗ owes (c : Thread 8 τ) 0 W ∗ pre ∗ ((P.Landed c ∗ (∃ W', owes (c : Thread 8 τ) 0 W') ∗ post) -∗ Q ⟨⟩))
      ⊢ wp frame (wpE defs 𝒱 (c : Thread 8 τ) none) Set.univ B Q) :
    iprop(P.held T c n ∗ owes (c : Thread 8 τ) (P.owing c n) W ∗ pre ∗ ((P.held T c (n + 1) ∗ (∃ W', owes (c : Thread 8 τ) (P.owing c (n + 1)) W') ∗ post) -∗ Q ⟨⟩))
      ⊢ wp frame (wpE defs 𝒱 (c : Thread 8 τ) none) Set.univ B Q := by
  rw [owing_succ]
  by_cases h0 : n = 0
  · subst h0
    rw [show P.held (τ := τ) T c (0 + 1) = P.Flying c from (if_neg (Nat.succ_ne_zero _)).trans (if_neg (by omega)), held_zero, owing_zero]
    refine BIBase.Entails.trans ?_ (first rfl)
    iintro ⟨HS, HO, HT, Hk⟩
    isplitl [HS]; · iexact HS
    isplitl [HO]; · iexact HO
    isplitl [HT]; · iexact HT
    iintro ⟨HS, HO, HT⟩
    iapply Hk
    isplitl [HS]; · iexact HS
    isplitl [HO]; · iexists W; iexact HO
    iexact HT
  · rw [show P.held (τ := τ) T c n = P.Flying c from (if_neg h0).trans (if_neg (by omega)), show P.owing (τ := τ) c n = 0 from if_neg h0]
    by_cases h1 : n + 1 = T
    · rw [show P.held (τ := τ) T c (n + 1) = P.Landed c from (if_neg (Nat.succ_ne_zero _)).trans (if_pos h1)]
      exact last h0 h1
    · rw [show P.held (τ := τ) T c (n + 1) = P.Flying c from (if_neg (Nat.succ_ne_zero _)).trans (if_neg h1)]
      refine BIBase.Entails.trans ?_ (mid h0 h1)
      iintro ⟨HS, HO, HT, Hk⟩
      isplitl [HT]; · iexact HT
      iintro HT
      iapply Hk
      isplitl [HS]; · iexact HS
      isplitl [HO]; · iexists W; iexact HO
      iexact HT

end Plan

/-! ## Slots of an array of eight -/

section Owned

variable {A B : ℕ} {e : EltTy}

theorem inb_slot (A B : ℕ) (d : Fin 8) : ∀ a, (![d.val, 0, 0] : Fin 3 → ℕ) a + (Plane1 A B).size a ≤ (Planes A B).size a := fun a =>
  match a with
  | ⟨0, _⟩ => by show d.val + 1 ≤ 8; omega
  | ⟨1, _⟩ => by show 0 + A ≤ A; omega
  | ⟨2, _⟩ => by show 0 + B ≤ B; omega

abbrev slotAt (M : Memref sig .tc .hbm (Planes A B) e) (sq : (Plane1 A B).Squeezes (Plane A B)) (off : Fin 3 → ℕ)
    (inb : ∀ a, off a + (Plane1 A B).size a ≤ (Planes A B).size a) : Memref sig .tc .hbm (Plane A B) e :=
  (M.slice (Rect.unit (s := Planes A B) off (Plane1 A B).size inb) (fun _ => rfl)).squeeze (Plane A B) sq
def slot (M : Memref sig .tc .hbm (Planes A B) e) (sq : (Plane1 A B).Squeezes (Plane A B)) (d : Fin 8) : Memref sig .tc .hbm (Plane A B) e :=
  slotAt M sq ![d.val, 0, 0] (inb_slot A B d)

theorem slotAt_eq {M : Memref sig .tc .hbm (Planes A B) e} {sq : (Plane1 A B).Squeezes (Plane A B)} {d : Fin 8} {off : Fin 3 → ℕ}
    (h : off = ![d.val, 0, 0]) (inb) : slotAt M sq off inb = slot M sq d := by subst h; rfl

theorem owns_squeezed (t : Thread 8 τ) {s s' : Shape} (M : Memref sig t.2.kind .hbm s e) (h : s.Squeezes s') (q : PosShare TreeShare) (X : s.Idx → Val e) :
    (owns t (M.squeeze s' h) q (fun j => X (Shape.reshapeEquiv h.numel_eq j)) : sProp 𝕄) = owns t M q X := by
  have hset : (M.squeeze s' h).view.set = M.view.set := View.set_reshape _ _
  have hiff (f : M.view.ty.Contents Val) :
      ((M.squeeze s' h).view.read Val f = fun j => X (Shape.reshapeEquiv h.numel_eq j)) ↔ M.view.read Val f = X := by
    constructor
    · intro hh
      funext i
      have := congrFun hh ((Shape.reshapeEquiv h.numel_eq).symm i)
      have e1 : (M.squeeze s' h).view.read Val f ((Shape.reshapeEquiv h.numel_eq).symm i) = M.view.read Val f (Shape.reshapeEquiv h.numel_eq ((Shape.reshapeEquiv h.numel_eq).symm i)) := rfl
      rw [e1, Equiv.apply_symm_apply] at this
      exact this
    · rintro rfl; rfl
  unfold owns
  exact congrArg _ (funext fun f => by rw [hset]; exact congrArg (fun p => iprop(⌜p⌝ ∗ _)) (propext (hiff f)))

variable (c : Dev 8) (M : Memref sig .tc .hbm (Planes A B) e) (sq : (Plane1 A B).Squeezes (Plane A B)) (q : PosShare TreeShare)

abbrev slotRect (A B : ℕ) (d : Fin 8) : Rect (Planes A B) := Rect.unit (s := Planes A B) ![d.val, 0, 0] (Plane1 A B).size (inb_slot A B d)

theorem slotRect_disjoint (d d' : Fin 8) (h : d ≠ d') : Disjoint (slotRect A B d).set (slotRect A B d').set := by
  rw [rect_set d rfl, rect_set d' rfl]; exact slab_disjoint h
theorem slotRect_cover : (Finset.univ : Finset (Fin 8)).biUnion (fun d => (slotRect A B d).set) = Finset.univ :=
  Finset.eq_univ_of_forall fun i => Finset.mem_biUnion.mpr ((slab_cover i).imp fun d h => ⟨Finset.mem_univ d, by rw [rect_set d rfl]; exact h⟩)

theorem owns_slot (d : Fin 8) (X : (Planes A B).Idx → Val e) :
    (owns (c : Thread 8 τ) (slot M sq d) q (fun j => X (ix3 d (j 0) (j 1))) : sProp 𝕄)
      = owns (c : Thread 8 τ) (M.slice (slotRect A B d) fun _ => rfl) q (fun j => X ((slotRect A B d).emb j)) := by
  refine Eq.trans ?_ (owns_squeezed (c : Thread 8 τ) (M.slice (slotRect A B d) fun _ => rfl) sq q fun j => X ((slotRect A B d).emb j))
  exact congrArg _ (funext fun j => congrArg X (rect_emb d rfl _ _ j).symm)

/-- An array of slots, slot by slot, -/
theorem owns_slots (X : (Planes A B).Idx → Val e) :
    (owns (c : Thread 8 τ) M q X : sProp 𝕄) ⊢ bigSep Finset.univ fun d => owns (c : Thread 8 τ) (slot M sq d) q (fun j => X (ix3 d (j 0) (j 1))) := by
  rw [bigSep_congr fun d _ => owns_slot c M sq q d X]
  exact owns_rects (c : Thread 8 τ) M q (slotRect A B) (fun _ _ => rfl) slotRect_disjoint slotRect_cover X
/-- and back. -/
theorem owns_of_slots [∀ e, Nonempty (Val e)] (X : (Planes A B).Idx → Val e) :
    (bigSep Finset.univ fun d => owns (c : Thread 8 τ) (slot M sq d) q (fun j => X (ix3 d (j 0) (j 1)))) ⊢ (owns (c : Thread 8 τ) M q X : sProp 𝕄) := by
  rw [bigSep_congr fun d _ => owns_slot c M sq q d X]
  exact owns_of_rects (c : Thread 8 τ) M q (slotRect A B) (fun _ _ => rfl) slotRect_disjoint slotRect_cover X

end Owned

/-! ## The exchange of slots -/

section Swap

variable {A B : ℕ} {e : EltTy} (src dst : Memref sig .tc .hbm (Planes A B) e) (sq : (Plane1 A B).Squeezes (Plane A B)) (dsem : Part → DmaSem sig)
  (inj : Function.Injective dsem) (hpos : 0 < (Plane A B).numel) (Y : Fin 8 → (Planes A B).Idx → Val e)

/-- Device `c`, holding `Y c`, sends its slot `d` to device `d`. -/
def swapPlan : Plan sig Val (Plane A B) e where
  dsem := dsem
  inj := inj
  src := slot src sq
  dst := slot dst sq
  q _ := fullShare
  X c d j := Y c (ix3 d (j 0) (j 1))
  N := (slot dst sq 0).view.dmaCredit
  pos := View.dmaCredit_pos _ hpos
  amt _ := rfl

/-- What device `c` ends with: in slot `d`, what device `d` had in slot `c`. -/
def swapped (c : Fin 8) : (Planes A B).Idx → Val e := fun i => Y (i 0) (ix3 c (i 1) (i 2))

theorem swap_hold (c : Dev 8) (v : (Planes A B).Idx → Val e) :
    iprop(owns (c : Thread 8 τ) src fullShare (Y c) ∗ owns (c : Thread 8 τ) dst fullShare v)
      ⊢ (iprop((swapPlan src dst sq dsem inj hpos Y).mine c ∗ bigSep Finset.univ fun k => (swapPlan src dst sq dsem inj hpos Y).give c k) : sProp 𝕄) := by
  refine BIBase.Entails.trans ?_ ((swapPlan src dst sq dsem inj hpos Y).hold c)
  refine BI.sep_mono (owns_slots c src sq fullShare (Y c)) ((owns_slots c dst sq fullShare v).trans (bigSep_mono fun d _ => ?_))
  show (owns (c : Thread 8 τ) (slot dst sq d) fullShare _ : sProp 𝕄) ⊢ iprop(∃ v, owns (c : Thread 8 τ) (slot dst sq d) fullShare v)
  iintro H
  iexists _
  iexact H

theorem swap_back [∀ e, Nonempty (Val e)] (c : Dev 8) : (swapPlan src dst sq dsem inj hpos Y).Landed c
    ⊢ (iprop(Pipeline.ownSems0 (Ix := Unit) (Name := ℕ) (U := UU 8 τ sig) (Lvl := ℕ) (Val := Val) (τ := τ) (swapPlan src dst sq dsem inj hpos Y).osem c
        ∗ owns (c : Thread 8 τ) src fullShare (Y c) ∗ owns (c : Thread 8 τ) dst fullShare (swapped Y c)) : sProp 𝕄) := by
  have h1 := owns_of_slots (τ := τ) c src sq fullShare (Y c)
  have h2 := owns_of_slots (τ := τ) c dst sq fullShare (swapped Y c)
  refine ((swapPlan src dst sq dsem inj hpos Y).back c).trans ?_
  iintro ⟨H0, H1, H2⟩
  isplitl [H0]; · iexact H0
  isplitl [H1]
  · iapply h1; iexact H1
  · iapply h2; iexact H2

end Swap

end Cert.Exchange

end
-- ==== Proof.Fold.lean ====
/-
  A quantity that starts anew at every multiple of a period, and is carried on at the points between.
-/
module

public import Idealize.ShloMosaic.Lib.Pipeline.Kit

@[expose] public section

namespace Cert.Fold

variable {M : Type}

/-- What has been gathered up to point `n`, the point included. -/
def running (J : ℕ) (start : ℕ → M) (next : ℕ → M → M) : ℕ → M
  | 0 => start 0
  | n + 1 => if (n + 1) % J = 0 then start (n + 1) else next (n + 1) (running J start next n)

variable {J : ℕ} {start : ℕ → M} {next : ℕ → M → M}

theorem running_start {n : ℕ} (h : n % J = 0) : running J start next n = start n := by
  cases n with
  | zero => rfl
  | succ n => exact if_pos h

theorem running_next {n : ℕ} (h : ¬ n % J = 0) : running J start next n = next n (running J start next (n - 1)) := by
  cases n with
  | zero => exact absurd (Nat.zero_mod J) h
  | succ n => exact if_neg h

end Cert.Fold

end
-- ==== Proof.Values.lean ====
/-
  Operations of the references and of the kernels' blocks, read at an index: an exchange of slots, a product with a
  transposed matrix, rows multiplied with their device's gate.
-/
module

public import proofs.«01_k».proof.Proof.Stages
public import proofs.«01_k».proof.Proof.Fold
public import Idealize.ShloMosaic.Lib.Layout
public import Idealize.ShloMosaic.Lib.StackMember
public import Idealize.ShloMosaic.Lib.MatmulPlain
public import Idealize.ShloMosaic.Lib.Pipeline.ValueKit

@[expose] public section

noncomputable section

namespace Cert.Values

open Cert.Exchange
open Idealize.ShloMosaic

/-- The arrays of the devices, laid one after another, with the slots' two indices exchanged: every device's block is
    what the exchange leaves with it. -/
theorem swapped_eq {A B : ℕ} {Val : EltTy → Type} {e : EltTy} (hT : Layout.Tiles (Planes A B) ⟨3, ![64, A, B]⟩ 0 8)
    (p : (⟨3, ![64, A, B]⟩ : Shape).Idx → Val e) (Y : Fin 8 → (Planes A B).Idx → Val e)
    (hY : ∀ c, Y c = Layout.block (Planes A B) ⟨3, ![64, A, B]⟩ 0 8 c p hT)
    (h1 : (⟨3, ![64, A, B]⟩ : Shape).ShapeCasts ⟨4, ![8, 8, A, B]⟩)
    (h2 : (⟨4, ![8, 8, A, B]⟩ : Shape).Transposes [1, 0, 2, 3] ⟨4, ![8, 8, A, B]⟩)
    (h3 : (⟨4, ![8, 8, A, B]⟩ : Shape).ShapeCasts ⟨3, ![64, A, B]⟩) (c : Fin 8) :
    swapped Y c = Layout.block (Planes A B) ⟨3, ![64, A, B]⟩ 0 8 c
      (shapeCast ⟨3, ![64, A, B]⟩ (transpose ⟨4, ![8, 8, A, B]⟩ [1, 0, 2, 3] (shapeCast ⟨4, ![8, 8, A, B]⟩ p h1) h2) h3) hT := by
  funext i
  rw [Layout.block_apply]
  refine Eq.symm ((shapeCast_apply _ h3 _ (ValueIdx.ix4 c (i 0) (i 1) (i 2)) ?_).trans ?_)
  · refine (Shape.rowMajor_val_four _).trans (Eq.trans ?_ (Shape.rowMajor_val_three (hT.idx c i)).symm)
    rfl
  refine (transpose_apply _ _ h2 _ (ValueIdx.ix4 (i 0) c (i 1) (i 2)) ?_).trans ?_
  · intro b
    fin_cases b <;> rfl
  refine (shapeCast_apply _ h1 _ (hT.idx (i 0) (ValueIdx.ix3 c (i 1) (i 2))) ?_).trans ?_
  · refine (Shape.rowMajor_val_three _).trans (Eq.trans ?_ (Shape.rowMajor_val_four (ValueIdx.ix4 (i 0) c (i 1) (i 2))).symm)
    rfl
  · exact (congrFun (hY (i 0)) _).symm

/-- A product with a transposed matrix, at an index. -/
theorem dot_apply {M K N : ℕ} (A : FVec Ideal ⟨2, ![M, K]⟩ .f32) (B : FVec Ideal ⟨2, ![N, K]⟩ .f32)
    (h : (⟨2, ![N, K]⟩ : Shape).Transposes [1, 0] ⟨2, ![K, N]⟩) (i : (⟨2, ![M, N]⟩ : Shape).Idx) :
    (Host.dotGeneral (F := Ideal) (DotDims.plain M K N) none A (transpose ⟨2, ![K, N]⟩ [1, 0] B h) i : EReal)
      = ∑ k : Fin K, A (ValueIdx.ix2 (i 0) k) * B (ValueIdx.ix2 (i 1) k) := by
  rw [ValueIdx.eq_ix2 i]
  refine (StackMember.dotGeneral_plain_apply none _ _ (i 0) (i 1)).trans ?_
  refine Finset.sum_congr rfl fun k _ => congrArg _ ?_
  refine transpose_apply _ _ h _ (ValueIdx.ix2 (i 1) k) ?_
  intro b
  fin_cases b <;> rfl

/-- A block of such a product with zero for accumulator, at an index. -/
theorem block_apply {M K N : ℕ} {φ₁ φ₂ : FTy} (A : FVec Ideal ⟨2, ![M, K]⟩ φ₁) (B : FVec Ideal ⟨2, ![N, K]⟩ φ₂) (i : (⟨2, ![M, N]⟩ : Shape).Idx) :
    (matmul (DotDims.transposedRhs M K N) none A B (constant (F := Ideal) ⟨2, ![M, N]⟩ .f32 0x00000000#32) i : EReal)
      = ∑ k : Fin K, A (ValueIdx.ix2 (i 0) k) * B (ValueIdx.ix2 (i 1) k) := by
  rw [ValueIdx.eq_ix2 i]
  refine (Ideal.matmul_transposedRhs_apply none _ _ _ (i 0) (i 1)).trans ?_
  exact (congrArg (fun z : EReal => z + ∑ k : Fin K, (A (ValueIdx.ix2 (i 0) k) * B (ValueIdx.ix2 (i 1) k) : EReal)) Ideal.ofBits_zero_f32).trans (zero_add _)

/-- Rows of eight devices, each row multiplied with its device's gate, at an index. -/
theorem gate_apply {R C : ℕ} (hC : C ≠ 1) (x : FVec Ideal ⟨2, ![8 * R, C]⟩ .f32) (g : FVec Ideal ⟨2, ![8, C]⟩ .f32)
    (h1 : (⟨2, ![8 * R, C]⟩ : Shape).ShapeCasts ⟨3, ![8, R, C]⟩) (h2 : (⟨3, ![8, R, C]⟩ : Shape).ShapeCasts ⟨2, ![8 * R, C]⟩)
    (hb1 : (⟨2, ![8, C]⟩ : Shape).BroadcastsInDim ⟨3, ![8, 1, C]⟩ ![0, 2]) (hb2 : (⟨3, ![8, 1, C]⟩ : Shape).BroadcastsInDim ⟨3, ![8, R, C]⟩ ![0, 1, 2])
    (d : Fin 8) (r : Fin R) (k : Fin C) (j : (⟨2, ![8 * R, C]⟩ : Shape).Idx) (hj0 : (j 0).val = d.val * R + r.val) (hj1 : (j 1).val = k.val) :
    (shapeCast ⟨2, ![8 * R, C]⟩ (mulf (shapeCast ⟨3, ![8, R, C]⟩ x h1)
      (broadcastInDim ⟨3, ![8, R, C]⟩ ![0, 1, 2] hb2 (broadcastInDim ⟨3, ![8, 1, C]⟩ ![0, 2] hb1 g))) h2 j : EReal)
      = (x j * g (ValueIdx.ix2 d k) : EReal) := by
  refine (shapeCast_apply _ h2 _ (ValueIdx.ix3 d r k) ?_).trans ?_
  · refine (Shape.rowMajor_val_three _).trans (Eq.trans ?_ (Shape.rowMajor_val_two j).symm)
    show (d.val * R + r.val) * C + k.val = (j 0).val * C + (j 1).val
    rw [hj0, hj1]
  refine congrArg₂ (fun a b : EReal => a * b) ?_ ?_
  · refine shapeCast_apply _ h1 _ j ?_
    refine (Shape.rowMajor_val_two j).trans (Eq.trans ?_ (Shape.rowMajor_val_three (ValueIdx.ix3 d r k)).symm)
    show (j 0).val * C + (j 1).val = (d.val * R + r.val) * C + k.val
    rw [hj0, hj1]
  · refine (broadcastInDim_apply _ hb2 _ _ (ValueIdx.ix3 d (0 : Fin 1) k) ?_).trans (broadcastInDim_apply _ hb1 _ _ (ValueIdx.ix2 d k) ?_)
    · intro a
      fin_cases a
      · rfl
      · rfl
      · exact (if_neg hC).symm
    · intro a
      fin_cases a
      · rfl
      · exact (if_neg hC).symm

/-- A sum gathered over a run of `J` points, read at its last: the sum of the points' terms. -/
theorem running_sum {M N : Type} [AddCommMonoid N] {J : ℕ} (start : ℕ → M) (next : ℕ → M → M) (p : M → N) (term : ℕ → N)
    (h0 : ∀ n, n % J = 0 → p (start n) = term n) (h1 : ∀ n A, p (next n A) = p A + term n) (n : ℕ) :
    p (Fold.running J start next n) = ∑ s ∈ Finset.range (n % J + 1), term (J * (n / J) + s) := by
  induction n with
  | zero => rw [Fold.running_start (Nat.zero_mod J), h0 0 (Nat.zero_mod J), Nat.zero_mod, Finset.sum_range_one, Nat.zero_div]; rfl
  | succ n ih =>
    by_cases h : (n + 1) % J = 0
    · rw [Fold.running_start h, h0 _ h, h, Finset.sum_range_one, Nat.add_zero, Nat.mul_div_cancel' (Nat.dvd_of_mod_eq_zero h)]
    · have e1 : (n + 1) % J = n % J + 1 := by
        rw [Nat.add_mod] at h ⊢
        rcases Nat.lt_or_ge 1 J with hJ | hJ
        · rw [Nat.mod_eq_of_lt hJ] at h ⊢
          have hlt : n % J < J := Nat.mod_lt _ (by omega)
          rcases Nat.lt_or_ge (n % J + 1) J with h2 | h2
          · exact Nat.mod_eq_of_lt h2
          · exact absurd (by rw [show n % J + 1 = J by omega, Nat.mod_self]) h
        · rcases Nat.le_one_iff_eq_zero_or_eq_one.1 hJ with rfl | rfl
          · simp
          · exact absurd (Nat.mod_one _) h
      have e2 : (n + 1) / J = n / J := by
        have a := Nat.div_add_mod (n + 1) J
        have b := Nat.div_add_mod n J
        rw [e1] at a
        rcases Nat.eq_zero_or_pos J with rfl | hJ
        · simp
        · exact Nat.eq_of_mul_eq_mul_left hJ (by omega)
      rw [Fold.running_next h, h1, Nat.add_sub_cancel, ih, e1, e2, Finset.sum_range_succ _ (n % J + 1)]
      congr 2
      have a := Nat.div_add_mod (n + 1) J
      rw [e1, e2] at a
      exact a.symm

/-- The entry of a matrix in row `r` and the column numbered `k`. -/
def entry {R C : ℕ} {α : Type} [Zero α] (x : (⟨2, ![R, C]⟩ : Shape).Idx → α) (r : Fin R) (k : ℕ) : α :=
  if h : k < C then x (ValueIdx.ix2 r ⟨k, h⟩) else 0

theorem entry_eq {R C : ℕ} {α : Type} [Zero α] (x : (⟨2, ![R, C]⟩ : Shape).Idx → α) (r : Fin R) (k : ℕ) (h : k < C)
    (j : (⟨2, ![R, C]⟩ : Shape).Idx) (h0 : (j 0).val = r.val) (h1 : (j 1).val = k) : x j = entry x r k := by
  rw [entry, dif_pos h]
  refine congrArg x (funext fun b => Fin.ext ?_)
  fin_cases b
  · exact h0
  · exact h1

/-- One of the matrices set side by side, read through the whole. -/
theorem beside_apply {R C W : ℕ} {α : Type} [Zero α] (xs : List ((s : Shape) × (s.Idx → α)))
    (h : Shape.Concatenates (xs.map (·.1)) ⟨2, ![R, W]⟩ 1) (n : ℕ) (hn : n < xs.length) (x : (⟨2, ![R, C]⟩ : Shape).Idx → α)
    (hx : xs[n] = ⟨⟨2, ![R, C]⟩, x⟩) (pre : ℕ)
    (hpre : (((xs.take n).map (·.1)).map fun s => if h : s.rank = 2 then s.size ((1 : Fin 2).cast h.symm) else 0).sum = pre)
    (j : (⟨2, ![R, W]⟩ : Shape).Idx) (k : ℕ) (hk : k < C) (hj : pre + k = (j 1).val) :
    concatenate ⟨2, ![R, W]⟩ 1 xs h j = entry x (j 0) k := by
  refine (concatenate_apply_piece (t := ⟨2, ![R, W]⟩) 1 xs h j n hn ⟨2, ![R, C]⟩ x hx rfl pre hpre (ValueIdx.ix2 (j 0) ⟨k, hk⟩) ?_ hj).trans ?_
  · intro b hb
    fin_cases b
    · rfl
    · exact absurd rfl hb
  · exact entry_eq x (j 0) k hk _ rfl rfl

end Cert.Values

end
-- ==== Proof.Runs.lean ====
/-
  The run of a program that is one pallas_call with an exchange in it: from the body's obligation and what the plan's
  pieces are of its two arrays, every fair run ends with the windows' arrays at the computed contents, the array sent
  from as it was, and the array received into at the contents the exchange leaves.
-/
module

public import proofs.«01_k».proof.Proof.Launch
public import proofs.«01_k».proof.Proof.Stages
public import Idealize.ShloMosaic.Lib.Pipeline.FrameBody

@[expose] public section

noncomputable section

namespace Cert.Exchange.Plan

open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {τ : Topo} {sig : RefSig} {Val : EltTy → Type} [∀ e, Nonempty (Val e)] {s : Shape} {e : EltTy} (P : Plan sig Val s e)

local notation "𝕄" => MT 8 τ sig Unit Val ℕ (UU 8 τ sig) ℕ

variable {Λ₀ : Labels} (cfgs : Fin 1 → Cfg sig Λ₀) (dats : (p : Fin 1) → (c : Dev 8) → Dat τ Val Unit ℕ (UU 8 τ sig) ℕ (cfgs p) c)
  (phinj : Function.Injective (cellOf (nD := 8) (τ := τ) cfgs)) (hw : WinFacts (cfgs 0).spec) (ho : OwnSemFacts (cfgs 0).spec P.osem)
  (defs₀ : Defs 8 τ sig Val Λ₀) (𝒱₀ : Variants)

/-- What the launch deals to a device, in the shape the exchange takes it. -/
theorem dealt (m : (ℓ : Loc 8 τ sig) → Buf Val ℓ) (a b : Ref sig .tc)
    (hrest : ∀ c : Dev 8, (unscopedRest (cfgs 0).spec c (fun b => m ((c : Thread 8 τ).loc b)) : sProp 𝕄)
      = iprop((((c : Thread 8 τ).loc a) ↦{fullShare} m ((c : Thread 8 τ).loc a)) ∗ ((c : Thread 8 τ).loc b) ↦{fullShare} m ((c : Thread 8 τ).loc b)))
    (hhold : ∀ c : Dev 8, iprop((((c : Thread 8 τ).loc a) ↦{fullShare} m ((c : Thread 8 τ).loc a)) ∗ ((c : Thread 8 τ).loc b) ↦{fullShare} m ((c : Thread 8 τ).loc b))
      ⊢ (iprop(P.mine c ∗ bigSep Finset.univ fun k => P.give c k) : sProp 𝕄)) (c : Dev 8) :
    (Dealt (fun p => (cfgs p).toPCfg) (fun _ p => (cfgs p).toPCfg_adm) (0 : Fin 1) P.osem (fun d => debt P.osem P.N peer d 0) m c : sProp 𝕄)
      ⊢ iprop(ownSems0 (Ix := Unit) (Name := ℕ) (U := UU 8 τ sig) (Lvl := ℕ) (Val := Val) (τ := τ) P.osem c
          ∗ (P.mine c ∗ bigSep Finset.univ fun k => P.give c k) ∗ launchCred (fun d => debt P.osem P.N peer d 0) c) := by
  unfold Dealt
  iintro ⟨H1, H2', H3⟩
  ihave H2 := (Entails.of_eq (Pipeline.unscopedRestP_none (cfgs 0).spec c fun b => m ((c : Thread 8 τ).loc b))) $$ H2'
  isplitl [H1]; · iexact H1
  isplitl [H2]
  · iapply (hhold c)
    iapply (Entails.of_eq (hrest c))
    iexact H2
  iexact H3

include phinj hw ho in
theorem run (m : (ℓ : Loc 8 τ sig) → Buf Val ℓ) (ρ : Dev 8 → PrngReg)
    (main : Dev 8 → Prog (TpuEff 8 τ sig Val (Sig Λ₀ (Fin 1) fun p => ((cfgs p).toPCfg (Val := Val)).Adm) .tc) PUnit)
    (hmain : ∀ c, main c = .op (.customCall (entry 0) ()) fun _ => .ret ⟨⟩)
    (hbody : ∀ c, BodyObligation (dats 0 c) defs₀ 𝒱₀ () Set.univ)
    (hne : ∀ w : Fin (cfgs 0).W, 0 < ((cfgs 0).spec w).block.numel)
    (harr : ∀ w, ((cfgs 0).spec w).arr.IsWhole) (hstage : ∀ w s, (((cfgs 0).spec w).stage s).IsWhole)
    (hq : ∀ c w, (dats 0 c).q w = fullShare) (hA : ∀ c w, (dats 0 c).A w = m (((cfgs 0).spec w).arr.view.loc (c.tc : Thread 8 τ)))
    (howed : ∀ c t, (dats 0 c).owed t = P.owing c t.val) (hN : 0 < (cfgs 0).N)
    (a b : Ref sig .tc) (D : (c : Dev 8) → Buf Val ((c : Thread 8 τ).loc b))
    (hrest : ∀ c : Dev 8, (unscopedRest (cfgs 0).spec c (fun b => m ((c : Thread 8 τ).loc b)) : sProp 𝕄)
      = iprop((((c : Thread 8 τ).loc a) ↦{fullShare} m ((c : Thread 8 τ).loc a)) ∗ ((c : Thread 8 τ).loc b) ↦{fullShare} m ((c : Thread 8 τ).loc b)))
    (hhold : ∀ c : Dev 8, iprop((((c : Thread 8 τ).loc a) ↦{fullShare} m ((c : Thread 8 τ).loc a)) ∗ ((c : Thread 8 τ).loc b) ↦{fullShare} m ((c : Thread 8 τ).loc b))
      ⊢ (iprop(P.mine c ∗ bigSep Finset.univ fun k => P.give c k) : sProp 𝕄))
    (hback : ∀ c : Dev 8, P.Landed c ⊢ (iprop(ownSems0 (Ix := Unit) (Name := ℕ) (U := UU 8 τ sig) (Lvl := ℕ) (Val := Val) (τ := τ) P.osem c
      ∗ (((c : Thread 8 τ).loc a) ↦{fullShare} m ((c : Thread 8 τ).loc a)) ∗ ((c : Thread 8 τ).loc b) ↦{fullShare} D c) : sProp 𝕄))
    (hin : ∀ c, iprop(P.Ready c ∗ scopedRest (cfgs 0).spec c) ⊢ (dats 0 c).Φ 0)
    (hout : ∀ c, (dats 0 c).Φ (Fin.last (cfgs 0).N) ⊢ iprop(P.Landed c ∗ scopedRest (cfgs 0).spec c)) :
    θ_run (Pipeline.defs (fun p => (cfgs p).toPCfg) defs₀) (onTc main) ⟨m, fun _ => 0, ρ⟩ fun r =>
      (∀ c : Dev 8, (∀ w, r.2.mem (((cfgs 0).spec w).arr.view.loc (c : Thread 8 τ)) = (dats 0 c).arrAt w (cfgs 0).N)
        ∧ r.2.mem ((c : Thread 8 τ).loc a) = m ((c : Thread 8 τ).loc a) ∧ r.2.mem ((c : Thread 8 τ).loc b) = D c)
      ∧ ∀ g' : GSem 8 τ sig, (g'.1.2 ≠ .tc ∨ g'.2.isScoped .tc = true) → r.2.sem g' = 0 :=
  run_dealt (fun p => (cfgs p).toPCfg) (fun _ p => (cfgs p).toPCfg_adm) dats () phinj (0 : Fin 1) hw.to₀ ho (PreFacts.none _)
    EP defs₀ 𝒱₀ m ρ main (hmain := hmain) (hbody := fun c => (hbody c).loose)
    (hne := hne) (harr := harr) (hstage := hstage)
    (hshare := fun c => (dats 0 c).share_full fun w => hq c w) (hdistinct := hw.arr_inj)
    (O₀ := fun c => debt P.osem P.N peer c 0) (howed₀ := fun c => (howed c 0).trans (P.owing_zero c))
    (howedN := fun c => (howed c _).trans (if_neg (Nat.pos_iff_ne_zero.mp hN)))
    (L := L) (lv := lv P.osem) (hL := L_of_ne)
    (hwaits := fun c => Pipeline.cellsWaits_intro cfgs dats () 0 c fun w s t => by
      rw [howed c t]; exact P.mayWait c _ (fun k => ho.disj (recv k) w s) t.val)
    (G := ghosts (osem := P.osem) P.N P.pos P.pay) (u₀ := u₀ P.osem_inj _)
    (hu₀ := by
      unfold u₀
      iintro Hu
      ihave H := (ownU_pair _ _) $$ Hu
      icases H with ⟨HP, HX⟩
      imod (fund_ghosts P.N P.pos P.pay P.osem_inj) $$ HX with HG
      imodintro
      isplitl [HP] <;> iassumption)
    (X := P.Ready)
    (Y := fun c => iprop((((c : Thread 8 τ).loc a) ↦{fullShare} m ((c : Thread 8 τ).loc a)) ∗ ((c : Thread 8 τ).loc b) ↦{fullShare} D c))
    (hdeal := (sep_mono_left (bigSep_mono fun c _ => P.dealt cfgs m a b hrest hhold c)).trans (deal P.N P.pos P.pay peer_peer P.mine P.give))
    (hA := hA) (hpf := fun _ k => k.elim0)
    (hin := fun c => by
      iintro ⟨H, -, HR⟩
      iapply (hin c)
      isplitl [H] <;> iassumption)
    (hout := fun c => by
      refine (hout c).trans ?_
      iintro ⟨HL, HR⟩
      ihave H := (hback c) $$ HL
      icases H with ⟨H1, H2⟩
      isplitl [H2]; · iexact H2
      isplitl [H1] <;> iassumption)
    (QY := fun c s' => s'.mem ((c : Thread 8 τ).loc a) = m ((c : Thread 8 τ).loc a) ∧ s'.mem ((c : Thread 8 τ).loc b) = D c)
    (hY := fun c s' => by
      iintro ⟨⟨H1, H2⟩, HSI⟩
      icombine HSI H1 gives %h1
      icombine HSI H2 gives %h2
      imodintro
      isplitr
      · ipureintro; exact ⟨funext fun i => h1 i (Finset.mem_univ i), funext fun i => h2 i (Finset.mem_univ i)⟩
      iexact HSI)

end Cert.Exchange.Plan

end
-- ==== Proof.Tiles.lean ====
/-
  Loads and stores of a whole block at a point of a grid.
-/
module

public import Idealize.ShloMosaic.Lib.VecWindow
public import Idealize.ShloMosaic.Lib.Pipeline.Kit

@[expose] public section

noncomputable section

namespace Cert.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {𝒱 : Variants} {α : Type} {sp : CoreSpace} {s : Shape} {e : EltTy}

local notation "𝕄" => MT nD τ sig Ix Val Name U Lvl

theorem wp_read (c : Dev nD) {a : Memref sig .tc sp s e} (X : s.Idx → Val e) {off : Fin s.rank → ℕ} {inb : ∀ x, off x + s.size x ≤ s.size x} {ha}
    {k : (s.Idx → Val e) → Prog (TpuEff nD τ sig Val Λ .tc) α} {Q : α → sProp 𝕄} :
    (owns (c : Thread nD τ) a fullShare X : sProp 𝕄)
      ⊢ iprop((owns (c : Thread nD τ) a fullShare X -∗ wp frame (wpE defs 𝒱 (c : Thread nD τ) none) Set.univ (k X) Q)
          -∗ wp frame (wpE defs 𝒱 (c : Thread nD τ) none) Set.univ (.op (.load a (Rect.unit (s := s) off s.size inb).toLoadRect ha) k) Q) := by
  unfold owns
  iintro ⟨%f, %ef, H⟩ Hk
  subst ef
  iapply (wp_load 𝒱 (c : Thread nD τ) none Set.univ (m := a) (View.setOn_subset_set _ _)) $$ H; iintro H
  rw [View.readAt_full]
  iapply Hk
  iexists f; isplitr; · (ipureintro; rfl)
  iexact H

theorem wp_put (c : Dev nD) {o : Memref sig .tc sp s e} {off : Fin s.rank → ℕ} {inb : ∀ x, off x + s.size x ≤ s.size x} {w : s.Idx → Val e} {hx hm}
    {k : PUnit → Prog (TpuEff nD τ sig Val Λ .tc) α} {Q : α → sProp 𝕄} :
    (iprop(∃ d, owns (c : Thread nD τ) o fullShare d) : sProp 𝕄)
      ⊢ iprop((owns (c : Thread nD τ) o fullShare w -∗ wp frame (wpE defs 𝒱 (c : Thread nD τ) none) Set.univ (k ⟨⟩) Q)
          -∗ wp frame (wpE defs 𝒱 (c : Thread nD τ) none) Set.univ (.op (.store o (Rect.unit (s := s) off s.size inb) w Finset.univ hx hm) k) Q) := by
  unfold owns
  iintro ⟨%d, %f, -, H⟩ Hk
  iapply (wp_store 𝒱 (c : Thread nD τ) none Set.univ (m := o) (r := Rect.unit (s := s) off s.size inb) (w := w) (Mk := Finset.univ)
    (S := o.view.set) (f := f) (View.set_slice_subset _ _)) $$ H; iintro H
  iapply Hk
  iexists _; isplitr; swap; · iexact H
  ipureintro
  exact View.read_writes_full o.view f inb w []

end Cert.Tiles

end
-- ==== Proof.InDxBody.lean ====
/-
  The gradient of the input projection's input, at one grid point: every point takes a block of the one of the eight
  gradients whose columns it covers, multiplies it with a block of the transposed weights, and adds to what the points
  of the same rows before it summed up; the last of those writes the sum out. The first point of all also starts the
  exchange of the weight gradient's parts, the last waits for it.
-/
module

public import proofs.«01_k».proof.Proof.Stages
public import proofs.«01_k».proof.Proof.Tiles
public import proofs.«01_k».proof.Proof.Gen.InDxIdeal
public import proofs.«01_k».proof.Proof.Gen.InDxIdeal.Skeleton
public import proofs.«01_k».proof.Proof.Gen.InDxIdeal.Frame

@[expose] public section

noncomputable section

namespace Cert.InDxIdeal.Swap

open Cert.InDxIdeal Cert.InDxIdeal.Gen Cert.Exchange Cert.Tiles
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

abbrev 𝒱₀ : Variants := Variants.none

/-! ## The exchange -/

def dsem : Part → DmaSem sig
  | .inl k => (![20, 21, 22, 23, 24, 25, 26] : Fin 7 → DmaSem sig) k
  | .inr (.inl k) => (![27, 28, 29, 30, 31, 32, 33] : Fin 7 → DmaSem sig) k
  | .inr (.inr _) => 34

variable (m : (ℓ : Loc nD τ sig) → Buf (Elt F) ℓ)

/-- The parts that device `c` sends: slot `d` goes to device `d`. -/
def parts (c : Fin 8) : S8x1024x1154.Idx → Elt F .bf16 := m (((c : Dev nD) : Thread nD τ).loc main_arg9)
def plan : Plan sig (Elt F) S1024x1154 .bf16 :=
  swapPlan (Memref.whole main_arg9) (Memref.whole main_v1_1) squeezes_S1x1024x1154_S1024x1154 dsem (by decide) (by decide) (parts m)

theorem dev1_eq (d : Dev nD) (h) : (⟨k0_dev1 d, h⟩ : Dev nD) = peer 0 d := Fin.ext (by revert d; decide +kernel)
theorem dev2_eq (d : Dev nD) (h) : (⟨k0_dev2 d, h⟩ : Dev nD) = peer 1 d := Fin.ext (by revert d; decide +kernel)
theorem dev3_eq (d : Dev nD) (h) : (⟨k0_dev3 d, h⟩ : Dev nD) = peer 2 d := Fin.ext (by revert d; decide +kernel)
theorem dev4_eq (d : Dev nD) (h) : (⟨k0_dev4 d, h⟩ : Dev nD) = peer 3 d := Fin.ext (by revert d; decide +kernel)
theorem dev5_eq (d : Dev nD) (h) : (⟨k0_dev5 d, h⟩ : Dev nD) = peer 4 d := Fin.ext (by revert d; decide +kernel)
theorem dev6_eq (d : Dev nD) (h) : (⟨k0_dev6 d, h⟩ : Dev nD) = peer 5 d := Fin.ext (by revert d; decide +kernel)
theorem dev7_eq (d : Dev nD) (h) : (⟨k0_dev7 d, h⟩ : Dev nD) = peer 6 d := Fin.ext (by revert d; decide +kernel)
theorem off1_eq : ∀ d : Dev nD, k0_off1 d = ![d.val, 0, 0] := by decide +kernel
theorem off2_eq : ∀ (k : Fin 7) (d : Dev nD), k0_off2 d (k0_off2_at k).1 (k0_off2_at k).2.1 (k0_off2_at k).2.2 = ![(peer k d).val, 0, 0] := by decide +kernel

/-! ## The block product and its sum -/

/-- The point is the first of its rows. -/
abbrev isReset (i : grid0.Coords) : BitVec 1 := Scalar.cmpi .ne (Scalar.extui (Scalar.cmpi .eq (BitVec.ofNat 32 (i 1).val) 0#32) : BitVec 32) 0#32
/-- The point is neither the first nor the last of its rows. -/
abbrev isStep (i : grid0.Coords) : BitVec 1 :=
  Scalar.cmpi .ne (Scalar.extui (Scalar.andi (Scalar.cmpi .sgt (BitVec.ofNat 32 (i 1).val) 0#32) (Scalar.cmpi .slt (BitVec.ofNat 32 (i 1).val) 18#32)) : BitVec 32) 0#32

/-- Which of the eight gradients the point takes a block of. -/
abbrev on (k : Fin 8) (i : grid0.Coords) : BitVec 1 :=
  (![k0_cond2, k0_cond6, k0_cond10, k0_cond14, k0_cond18, k0_cond22, k0_cond26, k0_cond30] : Fin 8 → grid0.Coords → BitVec 1) k i
theorem pay7_eq : k0_pay7 (F := F) = k0_pay3 := rfl
theorem pay11_eq : k0_pay11 (F := F) = k0_pay3 := rfl
theorem pay15_eq : k0_pay15 (F := F) = k0_pay3 := rfl
theorem pay19_eq : k0_pay19 (F := F) = k0_pay3 := rfl
theorem pay23_eq : k0_pay23 (F := F) = k0_pay3 := rfl
theorem pay27_eq : k0_pay27 (F := F) = k0_pay3 := rfl
theorem pay31_eq : k0_pay31 (F := F) = k0_pay3 := rfl
theorem pay32_eq : k0_pay32 (F := F) = k0_pay4 := rfl

section Tile

variable (c : Dev nD) (a w : Memref sig .tc .vmem S1024x512 .bf16) (o : Memref sig .tc .vmem S1024x1024 .f32)
  (X Y : S1024x512.Idx → Elt F .bf16)

/-- The sum so far. -/
abbrev accM : Memref sig .tc .vmem S1024x1024 .f32 := Memref.whole cc0_scratch0
abbrev tiles (R : sProp (MT nD τ sig Unit (Elt F) ℕ (UU nD τ sig) ℕ)) : sProp 𝕄 :=
  iprop(owns (c : Thread nD τ) a fullShare X ∗ owns (c : Thread nD τ) w fullShare Y ∗ R)

abbrev someAcc : sProp 𝕄 := iprop(∃ d, owns (c : Thread nD τ) accM fullShare d)
abbrev theAcc (A : S1024x1024.Idx → Elt F .f32) : sProp 𝕄 := owns (c : Thread nD τ) accM fullShare A
abbrev someOut : sProp 𝕄 := iprop(∃ d, owns (c : Thread nD τ) o fullShare d)
abbrev theOut (A : S1024x1024.Idx → Elt F .f32) : sProp 𝕄 := owns (c : Thread nD τ) o fullShare A

variable {a w o}

/-- The first point of its rows starts the sum. -/
theorem wp_reset (R : sProp (MT nD τ sig Unit (Elt F) ℕ (UU nD τ sig) ℕ)) {ha hw h1 hs hm} {k : PUnit → Prog (TpuEff nD τ sig (Elt F) Λ₀ .tc) PUnit} {Q : PUnit → sProp 𝕄} :
    tiles c a w X Y iprop(someAcc c ∗ R)
      ⊢ iprop((tiles c a w X Y iprop(theAcc c (k0_pay2 X Y) ∗ R) -∗ wp frame (wpE (defs₀ (F := F)) 𝒱₀ c none) Set.univ (k ⟨⟩) Q)
          -∗ wp frame (wpE (defs₀ (F := F)) 𝒱₀ c none) Set.univ
            (.op (.load a (Rect.unit (s := S1024x512) ![0, 0] S1024x512.size inb_S1024x512_S1024x512_0_0).toLoadRect ha) fun v12 =>
              .op (.load w (Rect.unit (s := S1024x512) ![0, 0] S1024x512.size inb_S1024x512_S1024x512_0_0).toLoadRect hw) fun v14 =>
              .op (.load accM (Rect.unit (s := S1024x1024) ![0, 0] S1024x1024.size inb_S1024x1024_S1024x1024_0_0).toLoadRect h1) fun _ =>
              .op (.store accM (Rect.unit (s := S1024x1024) ![0, 0] S1024x1024.size inb_S1024x1024_S1024x1024_0_0) (k0_pay2 v12 v14) Finset.univ hs hm) k) Q) := by
  iintro ⟨Ha, Hw, ⟨%d, Hs⟩, HR⟩ Hk
  iapply (wp_read c X) $$ Ha; iintro Ha
  iapply (wp_read c Y) $$ Hw; iintro Hw
  iapply (wp_read c d) $$ Hs; iintro Hs
  iapply (wp_put c) $$ [Hs]; · (iexists d; iexact Hs)
  iintro Hs
  iapply Hk
  isplitl [Ha]; · iexact Ha
  isplitl [Hw]; · iexact Hw
  isplitl [Hs] <;> iassumption

/-- A later point adds to it. -/
theorem wp_step (A : S1024x1024.Idx → Elt F .f32) (R : sProp (MT nD τ sig Unit (Elt F) ℕ (UU nD τ sig) ℕ)) {ha hw h1 h2 hs hm} {k : PUnit → Prog (TpuEff nD τ sig (Elt F) Λ₀ .tc) PUnit} {Q : PUnit → sProp 𝕄} :
    tiles c a w X Y iprop(theAcc c A ∗ R)
      ⊢ iprop((tiles c a w X Y iprop(theAcc c (k0_pay3 X Y A) ∗ R) -∗ wp frame (wpE (defs₀ (F := F)) 𝒱₀ c none) Set.univ (k ⟨⟩) Q)
          -∗ wp frame (wpE (defs₀ (F := F)) 𝒱₀ c none) Set.univ
            (.op (.load a (Rect.unit (s := S1024x512) ![0, 0] S1024x512.size inb_S1024x512_S1024x512_0_0).toLoadRect ha) fun v12 =>
              .op (.load w (Rect.unit (s := S1024x512) ![0, 0] S1024x512.size inb_S1024x512_S1024x512_0_0).toLoadRect hw) fun v14 =>
              .op (.load accM (Rect.unit (s := S1024x1024) ![0, 0] S1024x1024.size inb_S1024x1024_S1024x1024_0_0).toLoadRect h1) fun v30 =>
              .op (.load accM (Rect.unit (s := S1024x1024) ![0, 0] S1024x1024.size inb_S1024x1024_S1024x1024_0_0).toLoadRect h2) fun _ =>
              .op (.store accM (Rect.unit (s := S1024x1024) ![0, 0] S1024x1024.size inb_S1024x1024_S1024x1024_0_0) (k0_pay3 v12 v14 v30) Finset.univ hs hm) k) Q) := by
  iintro ⟨Ha, Hw, Hs, HR⟩ Hk
  iapply (wp_read c X) $$ Ha; iintro Ha
  iapply (wp_read c Y) $$ Hw; iintro Hw
  iapply (wp_read c A) $$ Hs; iintro Hs
  iapply (wp_read c A) $$ Hs; iintro Hs
  iapply (wp_put c) $$ [Hs]; · (iexists A; iexact Hs)
  iintro Hs
  iapply Hk
  isplitl [Ha]; · iexact Ha
  isplitl [Hw]; · iexact Hw
  isplitl [Hs] <;> iassumption

/-- The last point of its rows writes the sum out. -/
theorem wp_out (A : S1024x1024.Idx → Elt F .f32) {ha hw h1 h2 hs hm} {k : PUnit → Prog (TpuEff nD τ sig (Elt F) Λ₀ .tc) PUnit} {Q : PUnit → sProp 𝕄} :
    tiles c a w X Y iprop(theAcc c A ∗ someOut c o)
      ⊢ iprop((tiles c a w X Y iprop(theAcc c A ∗ theOut c o (k0_pay4 X Y A)) -∗ wp frame (wpE (defs₀ (F := F)) 𝒱₀ c none) Set.univ (k ⟨⟩) Q)
          -∗ wp frame (wpE (defs₀ (F := F)) 𝒱₀ c none) Set.univ
            (.op (.load a (Rect.unit (s := S1024x512) ![0, 0] S1024x512.size inb_S1024x512_S1024x512_0_0).toLoadRect ha) fun v12 =>
              .op (.load w (Rect.unit (s := S1024x512) ![0, 0] S1024x512.size inb_S1024x512_S1024x512_0_0).toLoadRect hw) fun v14 =>
              .op (.load accM (Rect.unit (s := S1024x1024) ![0, 0] S1024x1024.size inb_S1024x1024_S1024x1024_0_0).toLoadRect h1) fun v30 =>
              .op (.load o (Rect.unit (s := S1024x1024) ![0, 0] S1024x1024.size inb_S1024x1024_S1024x1024_0_0).toLoadRect h2) fun _ =>
              .op (.store o (Rect.unit (s := S1024x1024) ![0, 0] S1024x1024.size inb_S1024x1024_S1024x1024_0_0) (k0_pay4 v12 v14 v30) Finset.univ hs hm) k) Q) := by
  iintro ⟨Ha, Hw, Hs, ⟨%d, Ho⟩⟩ Hk
  iapply (wp_read c X) $$ Ha; iintro Ha
  iapply (wp_read c Y) $$ Hw; iintro Hw
  iapply (wp_read c A) $$ Hs; iintro Hs
  iapply (wp_read c d) $$ Ho; iintro Ho
  iapply (wp_put c) $$ [Ho]; · (iexists d; iexact Ho)
  iintro Ho
  iapply Hk
  isplitl [Ha]; · iexact Ha
  isplitl [Hw]; · iexact Hw
  isplitl [Hs] <;> iassumption

end Tile

/-! ## The body at the points -/

section Points

variable (c : Dev nD) (i : grid0.Coords) {W : Waits sig Unit} (a : Fin 8 → Memref sig .tc .vmem S1024x512 .bf16) (ha : ∀ k, (a k).IsWhole)
  (w : Memref sig .tc .vmem S1024x512 .bf16) (hw : w.IsWhole) (o : Memref sig .tc .vmem S1024x1024 .f32) (ho : o.IsWhole) (X Y : S1024x512.Idx → Elt F .bf16)

abbrev body : Prog (TpuEff nD τ sig (Elt F) Λ₀ .tc) PUnit :=
  cc0_in_proj_dx i (a 0) (ha 0) (a 1) (ha 1) (a 2) (ha 2) (a 3) (ha 3) (a 4) (ha 4) (a 5) (ha 5) (a 6) (ha 6) (a 7) (ha 7) w hw (Memref.whole main_arg9) (Memref.isWhole_whole _)
    o ho (Memref.whole main_v1_1) (Memref.isWhole_whole _) accM (Memref.isWhole_whole _) cc0_scratch1 cc0_scratch2 cc0_scratch3

set_option maxHeartbeats 800000 in
theorem wp_mid_reset (R : sProp (MT nD τ sig Unit (Elt F) ℕ (UU nD τ sig) ℕ)) (hs : ∀ k, on k i = 1#1 ↔ k = 0) (h1 : ¬ k0_cond1 i = 1#1) (h2 : ¬ k0_cond34 i = 1#1) (e1 : isReset i = 1#1) (e2 : ¬ isStep i = 1#1) (e3 : ¬ k0_cond5 i = 1#1) {Q : PUnit → sProp 𝕄} :
    iprop(tiles c (a 0) w X Y iprop(someAcc c ∗ R) ∗ (tiles c (a 0) w X Y iprop(theAcc c (k0_pay2 X Y) ∗ R) -∗ Q ⟨⟩))
      ⊢ wp frame (wpE (defs₀ (F := F)) 𝒱₀ c none) Set.univ (body i a ha w hw o ho) Q := by
  have g0 : k0_cond2 i = 1#1 ↔ (0 : Fin 8) = 0 := hs 0
  have g1 : k0_cond6 i = 1#1 ↔ (1 : Fin 8) = 0 := hs 1
  have g2 : k0_cond10 i = 1#1 ↔ (2 : Fin 8) = 0 := hs 2
  have g3 : k0_cond14 i = 1#1 ↔ (3 : Fin 8) = 0 := hs 3
  have g4 : k0_cond18 i = 1#1 ↔ (4 : Fin 8) = 0 := hs 4
  have g5 : k0_cond22 i = 1#1 ↔ (5 : Fin 8) = 0 := hs 5
  have g6 : k0_cond26 i = 1#1 ↔ (6 : Fin 8) = 0 := hs 6
  have g7 : k0_cond30 i = 1#1 ↔ (7 : Fin 8) = 0 := hs 7
  have o9 : ¬ k0_cond9 i = 1#1 := e3
  have o13 : ¬ k0_cond13 i = 1#1 := e3
  have o17 : ¬ k0_cond17 i = 1#1 := e3
  have o21 : ¬ k0_cond21 i = 1#1 := e3
  have o25 : ¬ k0_cond25 i = 1#1 := e3
  have o29 : ¬ k0_cond29 i = 1#1 := e3
  have o33 : ¬ k0_cond33 i = 1#1 := e3
  simp only [body, cc0_in_proj_dx_eq_skeleton]; unfold cc0_in_proj_dx_skel; rw [k0_part11_eq_skeleton]; unfold k0_part11_skel
  simp only [g0, g1, g2, g3, g4, g5, g6, g7, Fin.reduceEq, ↓reduceDIte, pay7_eq, pay11_eq, pay15_eq, pay19_eq, pay23_eq, pay27_eq, pay31_eq, pay32_eq, ↓dif_neg o9, ↓dif_neg o13, ↓dif_neg o17, ↓dif_neg o21, ↓dif_neg o25, ↓dif_neg o29, ↓dif_neg o33, ↓dif_neg h1, ↓dif_neg h2, ↓dif_pos e1, ↓dif_neg e2, ↓dif_neg e3, Prog.lift, Prog.bind_op, Prog.bind_ret, Prog.pure_eq_ret]
  iintro ⟨HT, Hk⟩
  iapply (wp_reset c X Y R) $$ HT
  iintro HT
  rw [wp_ret]; imodintro
  iapply Hk; iexact HT

set_option maxHeartbeats 800000 in
theorem wp_mid_step (s : Fin 8) (A : S1024x1024.Idx → Elt F .f32) (R : sProp (MT nD τ sig Unit (Elt F) ℕ (UU nD τ sig) ℕ)) (hs : ∀ k, on k i = 1#1 ↔ k = s) (h1 : ¬ k0_cond1 i = 1#1) (h2 : ¬ k0_cond34 i = 1#1) (e1 : ¬ isReset i = 1#1) (e2 : isStep i = 1#1) (e3 : ¬ k0_cond5 i = 1#1) {Q : PUnit → sProp 𝕄} :
    iprop(tiles c (a s) w X Y iprop(theAcc c A ∗ R) ∗ (tiles c (a s) w X Y iprop(theAcc c (k0_pay3 X Y A) ∗ R) -∗ Q ⟨⟩))
      ⊢ wp frame (wpE (defs₀ (F := F)) 𝒱₀ c none) Set.univ (body i a ha w hw o ho) Q := by
  have g0 : k0_cond2 i = 1#1 ↔ (0 : Fin 8) = s := hs 0
  have g1 : k0_cond6 i = 1#1 ↔ (1 : Fin 8) = s := hs 1
  have g2 : k0_cond10 i = 1#1 ↔ (2 : Fin 8) = s := hs 2
  have g3 : k0_cond14 i = 1#1 ↔ (3 : Fin 8) = s := hs 3
  have g4 : k0_cond18 i = 1#1 ↔ (4 : Fin 8) = s := hs 4
  have g5 : k0_cond22 i = 1#1 ↔ (5 : Fin 8) = s := hs 5
  have g6 : k0_cond26 i = 1#1 ↔ (6 : Fin 8) = s := hs 6
  have g7 : k0_cond30 i = 1#1 ↔ (7 : Fin 8) = s := hs 7
  have o9 : ¬ k0_cond9 i = 1#1 := e3
  have o13 : ¬ k0_cond13 i = 1#1 := e3
  have o17 : ¬ k0_cond17 i = 1#1 := e3
  have o21 : ¬ k0_cond21 i = 1#1 := e3
  have o25 : ¬ k0_cond25 i = 1#1 := e3
  have o29 : ¬ k0_cond29 i = 1#1 := e3
  have o33 : ¬ k0_cond33 i = 1#1 := e3
  rcases (by decide : ∀ s : Fin 8, s = 0 ∨ s = 1 ∨ s = 2 ∨ s = 3 ∨ s = 4 ∨ s = 5 ∨ s = 6 ∨ s = 7) s with rfl | rfl | rfl | rfl | rfl | rfl | rfl | rfl
  all_goals
    simp only [body, cc0_in_proj_dx_eq_skeleton]; unfold cc0_in_proj_dx_skel; rw [k0_part11_eq_skeleton]; unfold k0_part11_skel
    simp only [g0, g1, g2, g3, g4, g5, g6, g7, Fin.reduceEq, ↓reduceDIte, pay7_eq, pay11_eq, pay15_eq, pay19_eq, pay23_eq, pay27_eq, pay31_eq, pay32_eq, ↓dif_neg o9, ↓dif_neg o13, ↓dif_neg o17, ↓dif_neg o21, ↓dif_neg o25, ↓dif_neg o29, ↓dif_neg o33, ↓dif_neg h1, ↓dif_neg h2, ↓dif_neg e1, ↓dif_pos e2, ↓dif_neg e3, Prog.lift, Prog.bind_op, Prog.bind_ret, Prog.pure_eq_ret]
    iintro ⟨HT, Hk⟩
    iapply (wp_step c X Y A R) $$ HT
    iintro HT
    rw [wp_ret]; imodintro
    iapply Hk; iexact HT

set_option maxHeartbeats 800000 in
theorem wp_mid_out (A : S1024x1024.Idx → Elt F .f32) (hs : ∀ k, on k i = 1#1 ↔ k = 7) (h1 : ¬ k0_cond1 i = 1#1) (h2 : ¬ k0_cond34 i = 1#1) (e1 : ¬ isReset i = 1#1) (e2 : ¬ isStep i = 1#1) (e3 : k0_cond5 i = 1#1) {Q : PUnit → sProp 𝕄} :
    iprop(tiles c (a 7) w X Y iprop(theAcc c A ∗ someOut c o) ∗ (tiles c (a 7) w X Y iprop(theAcc c A ∗ theOut c o (k0_pay4 X Y A)) -∗ Q ⟨⟩))
      ⊢ wp frame (wpE (defs₀ (F := F)) 𝒱₀ c none) Set.univ (body i a ha w hw o ho) Q := by
  have g0 : k0_cond2 i = 1#1 ↔ (0 : Fin 8) = 7 := hs 0
  have g1 : k0_cond6 i = 1#1 ↔ (1 : Fin 8) = 7 := hs 1
  have g2 : k0_cond10 i = 1#1 ↔ (2 : Fin 8) = 7 := hs 2
  have g3 : k0_cond14 i = 1#1 ↔ (3 : Fin 8) = 7 := hs 3
  have g4 : k0_cond18 i = 1#1 ↔ (4 : Fin 8) = 7 := hs 4
  have g5 : k0_cond22 i = 1#1 ↔ (5 : Fin 8) = 7 := hs 5
  have g6 : k0_cond26 i = 1#1 ↔ (6 : Fin 8) = 7 := hs 6
  have g7 : k0_cond30 i = 1#1 ↔ (7 : Fin 8) = 7 := hs 7
  have o9 : k0_cond9 i = 1#1 := e3
  have o13 : k0_cond13 i = 1#1 := e3
  have o17 : k0_cond17 i = 1#1 := e3
  have o21 : k0_cond21 i = 1#1 := e3
  have o25 : k0_cond25 i = 1#1 := e3
  have o29 : k0_cond29 i = 1#1 := e3
  have o33 : k0_cond33 i = 1#1 := e3
  simp only [body, cc0_in_proj_dx_eq_skeleton]; unfold cc0_in_proj_dx_skel; rw [k0_part11_eq_skeleton]; unfold k0_part11_skel
  simp only [g0, g1, g2, g3, g4, g5, g6, g7, Fin.reduceEq, ↓reduceDIte, pay7_eq, pay11_eq, pay15_eq, pay19_eq, pay23_eq, pay27_eq, pay31_eq, pay32_eq, ↓dif_pos o9, ↓dif_pos o13, ↓dif_pos o17, ↓dif_pos o21, ↓dif_pos o25, ↓dif_pos o29, ↓dif_pos o33, ↓dif_neg h1, ↓dif_neg h2, ↓dif_neg e1, ↓dif_neg e2, ↓dif_pos e3, Prog.lift, Prog.bind_op, Prog.bind_ret, Prog.pure_eq_ret]
  iintro ⟨HT, Hk⟩
  iapply (wp_out c X Y A) $$ HT
  iintro HT
  rw [wp_ret]; imodintro
  iapply Hk; iexact HT

set_option maxHeartbeats 800000 in
theorem wp_first (R : sProp (MT nD τ sig Unit (Elt F) ℕ (UU nD τ sig) ℕ)) (hs : ∀ k, on k i = 1#1 ↔ k = 0) (h1 : k0_cond1 i = 1#1) (h2 : ¬ k0_cond34 i = 1#1) (e1 : isReset i = 1#1) (e2 : ¬ isStep i = 1#1) (e3 : ¬ k0_cond5 i = 1#1) {Q : PUnit → sProp 𝕄} :
    iprop((plan m).Ready c ∗ owes (c : Thread nD τ) ((plan m).Owed c 0) W ∗ tiles c (a 0) w X Y iprop(someAcc c ∗ R)
        ∗ (((plan m).Flying c ∗ owes (c : Thread nD τ) 0 W ∗ tiles c (a 0) w X Y iprop(theAcc c (k0_pay2 X Y) ∗ R)) -∗ Q ⟨⟩))
      ⊢ wp frame (wpE (defs₀ (F := F)) 𝒱₀ c none) Set.univ (body i a ha w hw o ho) Q := by
  have g0 : k0_cond2 i = 1#1 ↔ (0 : Fin 8) = 0 := hs 0
  have g1 : k0_cond6 i = 1#1 ↔ (1 : Fin 8) = 0 := hs 1
  have g2 : k0_cond10 i = 1#1 ↔ (2 : Fin 8) = 0 := hs 2
  have g3 : k0_cond14 i = 1#1 ↔ (3 : Fin 8) = 0 := hs 3
  have g4 : k0_cond18 i = 1#1 ↔ (4 : Fin 8) = 0 := hs 4
  have g5 : k0_cond22 i = 1#1 ↔ (5 : Fin 8) = 0 := hs 5
  have g6 : k0_cond26 i = 1#1 ↔ (6 : Fin 8) = 0 := hs 6
  have g7 : k0_cond30 i = 1#1 ↔ (7 : Fin 8) = 0 := hs 7
  have o9 : ¬ k0_cond9 i = 1#1 := e3
  have o13 : ¬ k0_cond13 i = 1#1 := e3
  have o17 : ¬ k0_cond17 i = 1#1 := e3
  have o21 : ¬ k0_cond21 i = 1#1 := e3
  have o25 : ¬ k0_cond25 i = 1#1 := e3
  have o29 : ¬ k0_cond29 i = 1#1 := e3
  have o33 : ¬ k0_cond33 i = 1#1 := e3
  simp only [body, cc0_in_proj_dx_eq_skeleton]; unfold cc0_in_proj_dx_skel; rw [k0_part11_eq_skeleton]; unfold k0_part11_skel
  simp only [g0, g1, g2, g3, g4, g5, g6, g7, Fin.reduceEq, ↓reduceDIte, pay7_eq, pay11_eq, pay15_eq, pay19_eq, pay23_eq, pay27_eq, pay31_eq, pay32_eq, ↓dif_neg o9, ↓dif_neg o13, ↓dif_neg o17, ↓dif_neg o21, ↓dif_neg o25, ↓dif_neg o29, ↓dif_neg o33, ↓dif_pos h1, ↓dif_neg h2, ↓dif_pos e1, ↓dif_neg e2, ↓dif_neg e3, k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iintro ⟨HS, HO, HT, Hk⟩
  iapply ((plan m).wp_start 𝒱₀ c ⟨slotAt_eq (off1_eq c) _, slotAt_eq (off1_eq c) _, rfl⟩
    ⟨dev1_eq c _, slotAt_eq (off2_eq 0 c) _, slotAt_eq (off1_eq c) _, rfl, rfl⟩ ⟨dev2_eq c _, slotAt_eq (off2_eq 1 c) _, slotAt_eq (off1_eq c) _, rfl, rfl⟩
    ⟨dev3_eq c _, slotAt_eq (off2_eq 2 c) _, slotAt_eq (off1_eq c) _, rfl, rfl⟩ ⟨dev4_eq c _, slotAt_eq (off2_eq 3 c) _, slotAt_eq (off1_eq c) _, rfl, rfl⟩
    ⟨dev5_eq c _, slotAt_eq (off2_eq 4 c) _, slotAt_eq (off1_eq c) _, rfl, rfl⟩ ⟨dev6_eq c _, slotAt_eq (off2_eq 5 c) _, slotAt_eq (off1_eq c) _, rfl, rfl⟩
    ⟨dev7_eq c _, slotAt_eq (off2_eq 6 c) _, slotAt_eq (off1_eq c) _, rfl, rfl⟩) $$ [HS HO]
  · isplitl [HS] <;> iassumption
  iintro ⟨HS, HO⟩
  iapply (wp_reset c X Y R) $$ HT
  iintro HT
  rw [wp_ret]; imodintro
  iapply Hk
  isplitl [HS]; · iexact HS
  isplitl [HO] <;> iassumption

set_option maxHeartbeats 800000 in
theorem wp_last (A : S1024x1024.Idx → Elt F .f32) (hs : ∀ k, on k i = 1#1 ↔ k = 7) (h1 : ¬ k0_cond1 i = 1#1) (h2 : k0_cond34 i = 1#1) (e1 : ¬ isReset i = 1#1) (e2 : ¬ isStep i = 1#1) (e3 : k0_cond5 i = 1#1) {Q : PUnit → sProp 𝕄} :
    iprop((plan m).Flying c ∗ owes (c : Thread nD τ) 0 W ∗ tiles c (a 7) w X Y iprop(theAcc c A ∗ someOut c o)
        ∗ (((plan m).Landed c ∗ (∃ W', owes (c : Thread nD τ) 0 W') ∗ tiles c (a 7) w X Y iprop(theAcc c A ∗ theOut c o (k0_pay4 X Y A))) -∗ Q ⟨⟩))
      ⊢ wp frame (wpE (defs₀ (F := F)) 𝒱₀ c none) Set.univ (body i a ha w hw o ho) Q := by
  have g0 : k0_cond2 i = 1#1 ↔ (0 : Fin 8) = 7 := hs 0
  have g1 : k0_cond6 i = 1#1 ↔ (1 : Fin 8) = 7 := hs 1
  have g2 : k0_cond10 i = 1#1 ↔ (2 : Fin 8) = 7 := hs 2
  have g3 : k0_cond14 i = 1#1 ↔ (3 : Fin 8) = 7 := hs 3
  have g4 : k0_cond18 i = 1#1 ↔ (4 : Fin 8) = 7 := hs 4
  have g5 : k0_cond22 i = 1#1 ↔ (5 : Fin 8) = 7 := hs 5
  have g6 : k0_cond26 i = 1#1 ↔ (6 : Fin 8) = 7 := hs 6
  have g7 : k0_cond30 i = 1#1 ↔ (7 : Fin 8) = 7 := hs 7
  have o9 : k0_cond9 i = 1#1 := e3
  have o13 : k0_cond13 i = 1#1 := e3
  have o17 : k0_cond17 i = 1#1 := e3
  have o21 : k0_cond21 i = 1#1 := e3
  have o25 : k0_cond25 i = 1#1 := e3
  have o29 : k0_cond29 i = 1#1 := e3
  have o33 : k0_cond33 i = 1#1 := e3
  simp only [body, cc0_in_proj_dx_eq_skeleton]; unfold cc0_in_proj_dx_skel; rw [k0_part11_eq_skeleton]; unfold k0_part11_skel
  simp only [g0, g1, g2, g3, g4, g5, g6, g7, Fin.reduceEq, ↓reduceDIte, pay7_eq, pay11_eq, pay15_eq, pay19_eq, pay23_eq, pay27_eq, pay31_eq, pay32_eq, ↓dif_pos o9, ↓dif_pos o13, ↓dif_pos o17, ↓dif_pos o21, ↓dif_pos o25, ↓dif_pos o29, ↓dif_pos o33, ↓dif_neg h1, ↓dif_pos h2, ↓dif_neg e1, ↓dif_neg e2, ↓dif_pos e3, k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  simp only [↓dif_neg e1, ↓dif_neg e2, Prog.lift, Prog.bind_op, Prog.bind_ret, Prog.pure_eq_ret]
  iintro ⟨HS, HO, HT, Hk⟩
  iapply (wp_out c X Y A) $$ HT
  iintro HT
  simp only [wp_deviceId]
  iapply ((plan m).wp_finish 𝒱₀ c ⟨rfl, rfl⟩ ⟨rfl, rfl⟩ ⟨rfl, rfl⟩ ⟨rfl, rfl⟩ ⟨rfl, rfl⟩ ⟨rfl, rfl⟩ ⟨rfl, rfl⟩ ⟨rfl, rfl⟩
    ⟨rfl, rfl⟩ ⟨rfl, rfl⟩ ⟨rfl, rfl⟩ ⟨rfl, rfl⟩ ⟨rfl, rfl⟩ ⟨rfl, rfl⟩ ⟨rfl, rfl⟩) $$ [HS HO]
  · isplitl [HS] <;> iassumption
  iintro ⟨HS, HO⟩
  rw [wp_ret]; imodintro
  iapply Hk
  isplitl [HS]; · iexact HS
  isplitl [HO] <;> iassumption

end Points

end Cert.InDxIdeal.Swap

end
-- ==== Proof.InDxRun.lean ====
/-
  The run of the gradient of the input projection's input: what the pipeline's arrays hold after it, and what the
  exchange leaves.
-/
module

public import proofs.«01_k».proof.Proof.Runs
public import proofs.«01_k».proof.Proof.Fold
public import proofs.«01_k».proof.Proof.InDxBody

@[expose] public section

noncomputable section

namespace Cert.InDxIdeal.Swap

open Cert.InDxIdeal Cert.InDxIdeal.Gen Cert.Exchange Cert.Fold
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UU nD τ sig) ℕ

variable (m : (ℓ : Loc nD τ sig) → Buf (Elt F) ℓ) (ρ : Dev nD → PrngReg)

theorem cond1_iff : ∀ t : Fin grid0.N, k0_cond1 (grid0.coords t) = 1#1 ↔ t.val = 0 := by decide +kernel
theorem cond34_iff : ∀ t : Fin grid0.N, k0_cond34 (grid0.coords t) = 1#1 ↔ t.val + 1 = 152 := by decide +kernel
theorem reset_iff : ∀ t : Fin grid0.N, isReset (grid0.coords t) = 1#1 ↔ t.val % 19 = 0 := by decide +kernel
theorem step_iff : ∀ t : Fin grid0.N, isStep (grid0.coords t) = 1#1 ↔ ¬ t.val % 19 = 0 ∧ ¬ t.val % 19 = 18 := by decide +kernel
theorem out_iff : ∀ t : Fin grid0.N, k0_cond5 (grid0.coords t) = 1#1 ↔ t.val % 19 = 18 := by decide +kernel
theorem idle_iff : ∀ t : Fin grid0.N, cfg0.idle 9 (grid0.coords t) = true ↔ ¬ t.val % 19 = 18 := by decide +kernel

/-- The point of a number. -/
def pt (n : ℕ) : Fin cfg0.N := ⟨n % 152, lt_of_lt_of_eq (Nat.mod_lt _ (by decide)) N_0.symm⟩
theorem pt_val (t : Fin cfg0.N) : pt t.val = t := Fin.ext (Nat.mod_eq_of_lt (lt_of_lt_of_eq t.isLt N_0))

/-- The gradient whose columns the point at place `j` of its row covers. -/
def segOf (j : ℕ) : Fin 8 := if j < 6 then 0 else if j = 18 then 7 else ⟨(j - 4) / 2 % 8, Nat.mod_lt _ (by decide)⟩
theorem on_iff : ∀ (t : Fin grid0.N) (k : Fin 8), on k (grid0.coords t) = 1#1 ↔ k = segOf (t.val % 19) := by decide +kernel

/-- The eight gradients' blocks at a point, and their buffers. -/
def blks (c : Dev nD) (t : Fin cfg0.N) : Fin 8 → S1024x512.Idx → Elt F .bf16 :=
  ![iblk m c 0 t, iblk m c 1 t, iblk m c 2 t, iblk m c 3 t, iblk m c 4 t, iblk m c 5 t, iblk m c 6 t, iblk m c 7 t]
def sts (t : Fin cfg0.N) : Fin 8 → Memref sig .tc .vmem S1024x512 .bf16 := ![st0_0 t, st0_1 t, st0_2 t, st0_3 t, st0_4 t, st0_5 t, st0_6 t, st0_7 t]
theorem sts_whole (t : Fin cfg0.N) : ∀ k, (sts t k).IsWhole
  | 0 => hstage0_0 _
  | 1 => hstage0_1 _
  | 2 => hstage0_2 _
  | 3 => hstage0_3 _
  | 4 => hstage0_4 _
  | 5 => hstage0_5 _
  | 6 => hstage0_6 _
  | 7 => hstage0_7 _
/-- The block that point `t` multiplies, and the weights' block. -/
def left (c : Dev nD) (t : Fin cfg0.N) : S1024x512.Idx → Elt F .bf16 := blks m c t (segOf (t.val % 19))

/-- The sum over the points of the same rows up to point `n`. -/
def total (c : Dev nD) : ℕ → S1024x1024.Idx → Elt F .f32 :=
  running 19 (fun n => k0_pay2 (left m c (pt n)) (iblk m c 8 (pt n))) fun n A => k0_pay3 (left m c (pt n)) (iblk m c 8 (pt n)) A
/-- The block of the product that point `t`, the last of its rows, writes. -/
def prod (c : Dev nD) (t : Fin cfg0.N) : S1024x1024.Idx → Elt F .f32 := k0_pay4 (left m c t) (iblk m c 8 t) (total m c (t.val - 1))
/-- The sum so far, as the points before `n` leave it. -/
def sum (c : Dev nD) (n : ℕ) : sProp 𝕄 := if n % 19 = 0 then someAcc c else theAcc c (total m c (n - 1))

theorem sum_some (c : Dev nD) {n : ℕ} (h : n % 19 = 0) : sum m c n = someAcc c := if_pos h
theorem sum_the (c : Dev nD) {n : ℕ} (h : ¬ n % 19 = 0) : sum m c n = theAcc c (total m c (n - 1)) := if_neg h
theorem total_start (c : Dev nD) (t : Fin cfg0.N) (h : t.val % 19 = 0) : total m c t.val = k0_pay2 (left m c t) (iblk m c 8 t) :=
  (running_start h).trans (by rw [pt_val])
theorem total_next (c : Dev nD) (t : Fin cfg0.N) (h : ¬ t.val % 19 = 0) : total m c t.val = k0_pay3 (left m c t) (iblk m c 8 t) (total m c (t.val - 1)) :=
  (running_next h).trans (by rw [pt_val]; rfl)

def dats (_ : Fin 1) (c : Dev nD) : Dat τ (Elt F) Unit ℕ (UU nD τ sig) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => prod m c t
    | ⟨_ + 10, h⟩ => absurd h (Nat.not_lt.2 (Nat.le_add_left _ _))
  Φ t := iprop((plan m).held 152 c t.val ∗ sum m c t.val)
  q _ := fullShare
  owed t := (plan m).owing c t.val

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl

/-- The output's buffer before and after point `t`. -/
def outPre (c : Dev nD) (t : Fin cfg0.N) : sProp 𝕄 := iprop(∃ d, owns (c : Thread nD τ) (st0_9 t) fullShare ((dats m 0 c).before 9 t d))
def outPost (c : Dev nD) (t : Fin cfg0.N) : sProp 𝕄 := if t.val % 19 = 18 then theOut c (st0_9 t) (prod m c t) else outPre m c t

def bodyPre (c : Dev nD) (t : Fin cfg0.N) : sProp 𝕄 :=
  iprop(((plan m).held 152 c t.val ∗ sum m c t.val) ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ outPre m c t)
def bodyPost (c : Dev nD) (t : Fin cfg0.N) : sProp 𝕄 :=
  iprop(((plan m).held 152 c (t.val + 1) ∗ sum m c (t.val + 1)) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ outPost m c t)

/-- One point, from what it does to the sum and to the output. -/
theorem sound_point (c : Dev nD) (t : Fin cfg0.N) (s : Fin 8) (hs : segOf (t.val % 19) = s) {W : Waits sig Unit} {Q : PUnit → sProp 𝕄} :
    iprop((plan m).held 152 c t.val ∗ owes (c : Thread nD τ) ((plan m).owing c t.val) W
        ∗ tiles c (sts t s) (st0_8 t) (left m c t) (iblk m c 8 t) iprop(sum m c t.val ∗ outPre m c t)
        ∗ (((plan m).held 152 c (t.val + 1) ∗ (∃ W', owes (c : Thread nD τ) ((plan m).owing c (t.val + 1)) W')
          ∗ tiles c (sts t s) (st0_8 t) (left m c t) (iblk m c 8 t) iprop(sum m c (t.val + 1) ∗ outPost m c t)) -∗ Q ⟨⟩))
      ⊢ wp frame (wpE (defs₀ (F := F)) 𝒱₀ c none) Set.univ (bodyAt0 t) Q := by
  have hon : ∀ k, on k (grid0.coords t) = 1#1 ↔ k = s := fun k => hs ▸ on_iff t k
  have hN : t.val < 152 := lt_of_lt_of_eq t.isLt N_0
  unfold outPost
  by_cases h0 : t.val % 19 = 0
  · obtain rfl : s = 0 := by rw [← hs, h0]; rfl
    rw [sum_some m c h0, sum_the m c (n := t.val + 1) (by omega), Nat.add_sub_cancel, total_start m c t h0, if_neg (by omega : ¬ t.val % 19 = 18)]
    have e1 := (reset_iff t).mpr h0
    have e2 : ¬ isStep (grid0.coords t) = 1#1 := fun e => ((step_iff t).mp e).1 h0
    have e3 : ¬ k0_cond5 (grid0.coords t) = 1#1 := fun e => by have := (out_iff t).mp e; omega
    exact (plan m).step 152 c t.val (by decide) hN
      (fun h => wp_first m c (grid0.coords t) (sts t) (sts_whole t) (st0_8 t) _ (st0_9 t) _ _ _ _ hon ((cond1_iff t).mpr h) (fun e => by have := (cond34_iff t).mp e; omega) e1 e2 e3)
      (fun h h' => wp_mid_reset c (grid0.coords t) (sts t) (sts_whole t) (st0_8 t) _ (st0_9 t) _ _ _ _ hon (fun e => h ((cond1_iff t).mp e)) (fun e => h' ((cond34_iff t).mp e)) e1 e2 e3)
      (fun h h' => absurd h' (by omega))
  · have e1 : ¬ isReset (grid0.coords t) = 1#1 := fun e => h0 ((reset_iff t).mp e)
    have n0 : t.val ≠ 0 := fun e => h0 (by rw [e])
    rw [sum_the m c h0]
    by_cases h3 : t.val % 19 = 18
    · obtain rfl : s = 7 := by rw [← hs, h3]; rfl
      have e2 : ¬ isStep (grid0.coords t) = 1#1 := fun e => ((step_iff t).mp e).2 h3
      have e3 := (out_iff t).mpr h3
      rw [sum_some m c (n := t.val + 1) (by omega), if_pos h3]
      unfold outPre
      refine BIBase.Entails.trans ?_ ((plan m).step 152 c t.val (by decide) hN (W := W) (fun h => absurd h n0)
        (fun h h' => wp_mid_out c (grid0.coords t) (sts t) (sts_whole t) (st0_8 t) _ (st0_9 t) _ (left m c t) (iblk m c 8 t) (total m c (t.val - 1)) hon
          (fun e => h ((cond1_iff t).mp e)) (fun e => h' ((cond34_iff t).mp e)) e1 e2 e3)
        (fun h h' => wp_last m c (grid0.coords t) (sts t) (sts_whole t) (st0_8 t) _ (st0_9 t) _ _ _ (total m c (t.val - 1)) hon
          (fun e => h ((cond1_iff t).mp e)) ((cond34_iff t).mpr h') e1 e2 e3))
      iintro ⟨HS, HO, ⟨H0, H1, HA, ⟨%d, H2⟩⟩, Hk⟩
      isplitl [HS]; · iexact HS
      isplitl [HO]; · iexact HO
      isplitl [H0 H1 HA H2]
      · isplitl [H0]; · iexact H0
        isplitl [H1]; · iexact H1
        isplitl [HA]; · iexact HA
        iexists _; iexact H2
      iintro ⟨HS, HO, H0, H1, HA, H2⟩
      iapply Hk
      isplitl [HS]; · iexact HS
      isplitl [HO]; · iexact HO
      isplitl [H0]; · iexact H0
      isplitl [H1]; · iexact H1
      isplitl [HA]; · (iexists _; iexact HA)
      iexact H2
    · have e2 := (step_iff t).mpr ⟨h0, h3⟩
      have e3 : ¬ k0_cond5 (grid0.coords t) = 1#1 := fun e => h3 ((out_iff t).mp e)
      rw [sum_the m c (n := t.val + 1) (by omega), Nat.add_sub_cancel, total_next m c t h0, if_neg h3]
      exact (plan m).step 152 c t.val (by decide) hN (fun h => absurd h n0)
        (fun h h' => wp_mid_step c (grid0.coords t) (sts t) (sts_whole t) (st0_8 t) _ (st0_9 t) _ _ _ _ _ _ hon (fun e => h ((cond1_iff t).mp e)) (fun e => h' ((cond34_iff t).mp e)) e1 e2 e3)
        (fun h h' => absurd h' (by omega))

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The eight blocks, the one that the point multiplies apart. -/
theorem eight_split (c : Dev nD) (t : Fin cfg0.N) :
    (iprop(owns (c : Thread nD τ) (sts t 0) fullShare (blks m c t 0) ∗ owns (c : Thread nD τ) (sts t 1) fullShare (blks m c t 1)
      ∗ owns (c : Thread nD τ) (sts t 2) fullShare (blks m c t 2) ∗ owns (c : Thread nD τ) (sts t 3) fullShare (blks m c t 3)
      ∗ owns (c : Thread nD τ) (sts t 4) fullShare (blks m c t 4) ∗ owns (c : Thread nD τ) (sts t 5) fullShare (blks m c t 5)
      ∗ owns (c : Thread nD τ) (sts t 6) fullShare (blks m c t 6) ∗ owns (c : Thread nD τ) (sts t 7) fullShare (blks m c t 7)) : sProp 𝕄)
      = iprop(owns (c : Thread nD τ) (sts t (segOf (t.val % 19))) fullShare (left m c t)
        ∗ bigSep (Finset.univ.erase (segOf (t.val % 19))) fun k => owns (c : Thread nD τ) (sts t k) fullShare (blks m c t k)) :=
  (eight fun k => owns (c : Thread nD τ) (sts t k) fullShare (blks m c t k)).symm.trans (bigSep_erase (Finset.mem_univ _))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost Dat.owesAt Pipeline.owesWithin
  simp only [before0, before1, before2, before3, before4, before5, before6, before7, before8]
  rw [show (dats m 0 c).owed t.castSucc = (plan m).owing c t.val from rfl, show (dats m 0 c).owed t.succ = (plan m).owing c (t.val + 1) from rfl]
  iintro ⟨⟨HS, HA⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  ihave HT := (Entails.of_eq (eight_split m c t)) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases HT with ⟨HX, HR⟩
  iapply (sound_point m c t _ rfl)
  isplitl [HS]; · iexact HS
  isplitl [HO]; · iexact HO
  isplitl [HX H8 HA H9]
  · isplitl [HX]; · iexact HX
    isplitl [H8]; · iexact H8
    isplitl [HA] <;> iassumption
  iintro ⟨HS, ⟨%W', HO⟩, HX, H8, HA, H9⟩
  ihave HT := (Entails.of_eq (eight_split m c t).symm) $$ [HX HR]
  · isplitl [HX] <;> iassumption
  icases HT with ⟨H0, H1, H2, H3, H4, H5, H6, H7⟩
  isplitl [HS HA]
  · isplitl [HS] <;> iassumption
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem flush_false (t : Fin cfg0.N) (h : ¬ t.val % 19 = 18) : (cfg0.win 9).flush t = false :=
  Bool.eq_false_iff.mpr fun e => h ((flush0_9 t).mp e)

theorem out_close (c : Dev nD) (t : Fin cfg0.N) : outPost m c t ⊢ (match cfg0.idle 9 (grid0.coords t) with
    | true => match (cfg0.win 9).flush t with
      | false => iprop(∃ d, owns (c : Thread nD τ) (st0_9 t) fullShare ((dats m 0 c).before 9 t d))
      | true => owns (c : Thread nD τ) (st0_9 t) fullShare (prod m c t)
    | false => owns (c : Thread nD τ) (st0_9 t) fullShare (prod m c t) : sProp 𝕄) := by
  unfold outPost
  by_cases h : t.val % 19 = 18
  · rw [if_pos h, Bool.eq_false_iff.mpr (fun e => (idle_iff t).mp e h)]
  · rw [if_neg h, (idle_iff t).mpr h, flush_false t h]; exact .rfl

theorem defs₀_row (t : Fin cfg0.N) : defs₀ (F := F) .tc cfg0.body (cfg0.bodyArgs t (cfg0.slots t)) = bodyAt0 t := by
  unfold defs₀; rw [Defs.onTc_tc]

theorem body_close (c : Dev nD) (t : Fin cfg0.N) : bodyPost m c t ⊢ (iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (match cfg0.idle 9 (grid0.coords t) with
    | true => match (cfg0.win 9).flush t with
      | false => iprop(∃ d, owns (c : Thread nD τ) (st0_9 t) fullShare ((dats m 0 c).before 9 t d))
      | true => owns (c : Thread nD τ) (st0_9 t) fullShare (prod m c t)
    | false => owns (c : Thread nD τ) (st0_9 t) fullShare (prod m c t))) : sProp 𝕄) := by
  unfold bodyPost
  rw [show (dats m 0 c).Φ t.succ = iprop((plan m).held 152 c (t.val + 1) ∗ sum m c (t.val + 1)) from rfl]
  iintro ⟨HS, HO, H0, H1, H2, H3, H4, H5, H6, H7, H8, H9⟩
  isplitl [HS]; · iexact HS
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (out_close m c t); iexact H9

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => body_close m c t

theorem ownSemFacts : Pipeline.OwnSemFacts cfg0.spec fun j => SemLoc.dma (dsem j) := by decide

theorem hold_in (c : Dev nD) :
    iprop((((c : Thread nD τ).loc main_arg9) ↦{fullShare} m ((c : Thread nD τ).loc main_arg9)) ∗ ((c : Thread nD τ).loc main_v1_1) ↦{fullShare} m ((c : Thread nD τ).loc main_v1_1))
      ⊢ (iprop((plan m).mine c ∗ bigSep Finset.univ fun k => (plan m).give c k) : sProp 𝕄) := by
  rw [← owns_whole (c : Thread nD τ) main_arg9, ← owns_whole (c : Thread nD τ) main_v1_1]
  exact swap_hold (Memref.whole main_arg9) (Memref.whole main_v1_1) squeezes_S1x1024x1154_S1024x1154 dsem _ _ (parts m) c _

theorem back_out (c : Dev nD) : (plan m).Landed c
    ⊢ (iprop(Pipeline.ownSems0 (Ix := Unit) (Name := ℕ) (U := UU 8 τ sig) (Lvl := ℕ) (Val := Elt F) (τ := τ) (plan m).osem c
        ∗ (((c : Thread nD τ).loc main_arg9) ↦{fullShare} m ((c : Thread nD τ).loc main_arg9))
        ∗ ((c : Thread nD τ).loc main_v1_1) ↦{fullShare} swapped (parts m) c) : sProp 𝕄) := by
  rw [← owns_whole (c : Thread nD τ) main_arg9, ← owns_whole (c : Thread nD τ) main_v1_1]
  exact swap_back (Memref.whole main_arg9) (Memref.whole main_v1_1) squeezes_S1x1024x1154_S1024x1154 dsem _ _ (parts m) c

theorem acc_owns (c : Dev nD) (f) : (((c : Thread nD τ).loc cc0_scratch0) ↦{fullShare} f : sProp 𝕄) ⊢ theAcc c f := by
  rw [theAcc, owns_whole]
theorem acc_pts (c : Dev nD) (f) : (theAcc c f : sProp 𝕄) ⊢ ((c : Thread nD τ).loc cc0_scratch0) ↦{fullShare} f := by
  rw [theAcc, owns_whole]
theorem acc_in (c : Dev nD) {P : sProp 𝕄} : iprop(P ∗ ∃ f, ((c : Thread nD τ).loc cc0_scratch0) ↦{fullShare} f) ⊢ (iprop(P ∗ someAcc c) : sProp 𝕄) := by
  iintro ⟨H, ⟨%f, Hf⟩⟩
  isplitl [H]; · iexact H
  iexists f
  iapply (acc_owns c f); iexact Hf
theorem acc_out (c : Dev nD) {P : sProp 𝕄} : (iprop(P ∗ someAcc c) : sProp 𝕄) ⊢ iprop(P ∗ ∃ f, ((c : Thread nD τ).loc cc0_scratch0) ↦{fullShare} f) := by
  iintro ⟨H, ⟨%f, Hf⟩⟩
  isplitl [H]; · iexact H
  iexists f
  iapply (acc_pts c f); iexact Hf

theorem run_main : θ_run defs (onTc (τ := τ) (main (F := F))) ⟨m, fun _ => 0, ρ⟩ fun r =>
    (∀ c : Dev nD, (∀ w, r.2.mem (((cfg0.win w).arr.view.loc (c : Thread nD τ))) = (dats m 0 c).arrAt w cfg0.N)
      ∧ r.2.mem ((c : Thread nD τ).loc main_arg9) = m ((c : Thread nD τ).loc main_arg9)
      ∧ r.2.mem ((c : Thread nD τ).loc main_v1_1) = swapped (parts m) c) ∧ r.2.sem = fun _ => 0 :=
  (θ_run defs _ _).mono (fun _ h => ⟨h.1, sem_eq_zero_of_scoped (by decide) h.2⟩)
    ((plan m).run cfgs (dats m) cellOf_inj winFacts0 ownSemFacts defs₀ 𝒱₀ m ρ main (fun _ => rfl) (body_obligation m) block_pos0 arr_whole0 stage_whole0
      (fun _ _ => rfl) (fun _ _ => rfl) (fun _ _ => rfl) (by decide) main_arg9 main_v1_1 (swapped (parts m))
      (fun c => unscopedRest0_eq c _)
      (hold_in m) (back_out m)
      (fun c => by
        rw [scopedRest0_eq]
        show _ ⊢ iprop((plan m).held 152 c 0 ∗ sum m c 0)
        rw [Plan.held_zero, sum_some m c rfl]
        exact acc_in c)
      (fun c => by
        rw [scopedRest0_eq]
        show iprop((plan m).held 152 c (Fin.last cfg0.N).val ∗ sum m c (Fin.last cfg0.N).val) ⊢ _
        rw [show (Fin.last cfg0.N).val = 152 from N_0, Plan.held_last _ _ _ (by decide), sum_some m c rfl]
        exact acc_out c))

end Cert.InDxIdeal.Swap

end
-- ==== Proof.InDxValue.lean ====
/-
  The gradient of the input projection's input, over the extended reals: the array the grid's blocks fill is this
  device's rows of the whole product of the eight gradients, set side by side, with the transposed weights.
-/
module

public import proofs.«01_k».proof.Proof.Values
public import proofs.«01_k».proof.Proof.InDxRun
public import proofs.«01_k».proof.Proof.Gen.InDxRefIdeal

@[expose] public section

noncomputable section

namespace Cert.InDxIdeal.Swap

open Cert.InDxIdeal Cert.InDxIdeal.Gen Cert.Exchange Cert.Values
open Idealize.ShloMosaic Idealize.ShloMosaic.TcCoe
open Idealize.SL Idealize.SL.Sem

/-- One block of the product, at an index. -/
theorem tile_apply (x w : S1024x512.Idx → Elt Ideal .bf16) (i : S1024x1024.Idx) :
    k0_pay1 x w i = ∑ k : Fin 512, (x (ValueIdx.ix2 (i 0) k) * w (ValueIdx.ix2 (i 1) k) : EReal) := by
  refine (Values.block_apply (M := 1024) (K := 512) (N := 1024) _ _ i).trans ?_
  refine Finset.sum_congr rfl fun k _ => ?_
  rw [shapeCast_id, shapeCast_id]

variable (m : (ℓ : Loc nD τ sig) → Buf (Elt Ideal) ℓ)

/-- What point `n` adds to its block, at an index. -/
def term (c : Dev nD) (y : S1024x1024.Idx) (n : ℕ) : EReal :=
  ∑ k : Fin 512, (show EReal from left m c (pt n) (ValueIdx.ix2 (y 0) k)) * (show EReal from iblk m c 8 (pt n) (ValueIdx.ix2 (y 1) k))

theorem total_apply (c : Dev nD) (y : S1024x1024.Idx) (n : ℕ) :
    (total m c n y : EReal) = ∑ s ∈ Finset.range (n % 19 + 1), term m c y (19 * (n / 19) + s) := by
  refine Values.running_sum _ _ (fun A : S1024x1024.Idx → Elt Ideal .f32 => (A y : EReal)) (term m c y) ?_ ?_ n
  · intro n _
    exact (congrFun (shapeCast_id (k0_pay1 (left m c (pt n)) (iblk m c 8 (pt n))) _) y).trans (tile_apply _ _ y)
  · intro n A
    refine (congrFun (shapeCast_id (addf A (k0_pay1 (left m c (pt n)) (iblk m c 8 (pt n)))) _) y).trans ?_
    exact congrArg (fun z : EReal => A y + z) (tile_apply _ _ y)

/-- The place in a row of points at which each gradient begins. -/
def first : Fin 8 → ℕ := ![0, 6, 8, 10, 12, 14, 16, 18]

/-- Row `r` of eight matrices set side by side: entry `k` of the columns that the place `s` covers. -/
def joined {R : ℕ} (x0 : (⟨2, ![R, 3072]⟩ : Shape).Idx → EReal) (x1 x2 x3 x4 x5 x6 : (⟨2, ![R, 1024]⟩ : Shape).Idx → EReal)
    (x7 : (⟨2, ![R, 512]⟩ : Shape).Idx → EReal) (r : Fin R) (s k : ℕ) : EReal :=
  (![entry x0 r, entry x1 r, entry x2 r, entry x3 r, entry x4 r, entry x5 r, entry x6 r, entry x7 r] : Fin 8 → ℕ → EReal) (segOf s)
    ((s - first (segOf s)) * 512 + k)

/-- The eight gradients, set side by side, times the transposed weights, at an index. -/
def product (x0 : S8192x3072.Idx → EReal) (x1 x2 x3 x4 x5 x6 : S8192x1024.Idx → EReal) (x7 : S8192x512.Idx → EReal) (w : S1024x9728.Idx → EReal) :
    S8192x1024.Idx → EReal :=
  fun i => ∑ s : Fin 19, ∑ k : Fin 512, joined x0 x1 x2 x3 x4 x5 x6 x7 (i 0) s.val k.val
    * w (ValueIdx.ix2 (i 1) ⟨s.val * 512 + k.val, by have := s.isLt; have := k.isLt; omega⟩)

/-- Which blocks of the weights and of the result a point takes. -/
theorem index_eq : ∀ t : Fin grid0.N, win0_8.index t 0 = 0 ∧ win0_8.index t 1 = t.val % 19 ∧ win0_9.index t 0 = t.val / 19 ∧ win0_9.index t 1 = 0 := by
  decide +kernel
/-- Which block of a gradient a point takes, the gradient one whose columns it covers. -/
theorem index_seg : ∀ t : Fin grid0.N,
    (segOf (t.val % 19) = 0 → win0_0.index t 0 = t.val / 19 ∧ win0_0.index t 1 = t.val % 19)
    ∧ (segOf (t.val % 19) = 1 → win0_1.index t 0 = t.val / 19 ∧ win0_1.index t 1 = t.val % 19 - 6)
    ∧ (segOf (t.val % 19) = 2 → win0_2.index t 0 = t.val / 19 ∧ win0_2.index t 1 = t.val % 19 - 8)
    ∧ (segOf (t.val % 19) = 3 → win0_3.index t 0 = t.val / 19 ∧ win0_3.index t 1 = t.val % 19 - 10)
    ∧ (segOf (t.val % 19) = 4 → win0_4.index t 0 = t.val / 19 ∧ win0_4.index t 1 = t.val % 19 - 12)
    ∧ (segOf (t.val % 19) = 5 → win0_5.index t 0 = t.val / 19 ∧ win0_5.index t 1 = t.val % 19 - 14)
    ∧ (segOf (t.val % 19) = 6 → win0_6.index t 0 = t.val / 19 ∧ win0_6.index t 1 = t.val % 19 - 16)
    ∧ (segOf (t.val % 19) = 7 → win0_7.index t 0 = t.val / 19 ∧ win0_7.index t 1 = t.val % 19 - 18) := by decide +kernel
/-- The columns that a place covers lie in its gradient. -/
theorem seg_lt : ∀ s : Fin 19, (s.val - first (segOf s.val) + 1) * 512 ≤ (![3072, 1024, 1024, 1024, 1024, 1024, 1024, 512] : Fin 8 → ℕ) (segOf s.val)
    ∧ first (segOf s.val) ≤ s.val := by decide

theorem eight_cases : ∀ s : Fin 8, s = 0 ∨ s = 1 ∨ s = 2 ∨ s = 3 ∨ s = 4 ∨ s = 5 ∨ s = 6 ∨ s = 7 := by decide

/-- The block of a gradient that a point takes, at an index. -/
theorem left_apply (c : Dev nD) (t : Fin grid0.N) (r : Fin 1024) (k : Fin 512) (r' : Fin 8192) (hr : r'.val = t.val / 19 * 1024 + r.val) :
    (left m c t (ValueIdx.ix2 r k) : EReal)
      = joined (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) r' (t.val % 19) k.val := by
  have hl := seg_lt ⟨t.val % 19, Nat.mod_lt _ (by decide)⟩
  have hi := index_seg t
  have hk := k.isLt
  rw [left, joined]
  generalize segOf (t.val % 19) = g at hl hi ⊢
  obtain ⟨i0, i1, i2, i3, i4, i5, i6, i7⟩ := hi
  rcases eight_cases g with rfl | rfl | rfl | rfl | rfl | rfl | rfl | rfl
  · obtain ⟨a0, a1⟩ := i0 rfl
    refine entry_eq (α := EReal) (m ((c : Thread nD τ).loc main_arg0)) r' _ (by have := hl.1; simp [first] at this ⊢; omega) _ ?_ ?_
    · refine (win0_0.rect_emb_val t (ValueIdx.ix2 r k) 0).trans ?_
      rw [a0, hr]; rfl
    · refine (win0_0.rect_emb_val t (ValueIdx.ix2 r k) 1).trans ?_
      rw [a1]; rfl
  · obtain ⟨a0, a1⟩ := i1 rfl
    refine entry_eq (α := EReal) (m ((c : Thread nD τ).loc main_arg1)) r' _ (by have := hl.1; simp [first] at this ⊢; omega) _ ?_ ?_
    · refine (win0_1.rect_emb_val t (ValueIdx.ix2 r k) 0).trans ?_
      rw [a0, hr]; rfl
    · refine (win0_1.rect_emb_val t (ValueIdx.ix2 r k) 1).trans ?_
      rw [a1]; rfl
  · obtain ⟨a0, a1⟩ := i2 rfl
    refine entry_eq (α := EReal) (m ((c : Thread nD τ).loc main_arg2)) r' _ (by have := hl.1; simp [first] at this ⊢; omega) _ ?_ ?_
    · refine (win0_2.rect_emb_val t (ValueIdx.ix2 r k) 0).trans ?_
      rw [a0, hr]; rfl
    · refine (win0_2.rect_emb_val t (ValueIdx.ix2 r k) 1).trans ?_
      rw [a1]; rfl
  · obtain ⟨a0, a1⟩ := i3 rfl
    refine entry_eq (α := EReal) (m ((c : Thread nD τ).loc main_arg3)) r' _ (by have := hl.1; simp [first] at this ⊢; omega) _ ?_ ?_
    · refine (win0_3.rect_emb_val t (ValueIdx.ix2 r k) 0).trans ?_
      rw [a0, hr]; rfl
    · refine (win0_3.rect_emb_val t (ValueIdx.ix2 r k) 1).trans ?_
      rw [a1]; rfl
  · obtain ⟨a0, a1⟩ := i4 rfl
    refine entry_eq (α := EReal) (m ((c : Thread nD τ).loc main_arg4)) r' _ (by have := hl.1; simp [first] at this ⊢; omega) _ ?_ ?_
    · refine (win0_4.rect_emb_val t (ValueIdx.ix2 r k) 0).trans ?_
      rw [a0, hr]; rfl
    · refine (win0_4.rect_emb_val t (ValueIdx.ix2 r k) 1).trans ?_
      rw [a1]; rfl
  · obtain ⟨a0, a1⟩ := i5 rfl
    refine entry_eq (α := EReal) (m ((c : Thread nD τ).loc main_arg5)) r' _ (by have := hl.1; simp [first] at this ⊢; omega) _ ?_ ?_
    · refine (win0_5.rect_emb_val t (ValueIdx.ix2 r k) 0).trans ?_
      rw [a0, hr]; rfl
    · refine (win0_5.rect_emb_val t (ValueIdx.ix2 r k) 1).trans ?_
      rw [a1]; rfl
  · obtain ⟨a0, a1⟩ := i6 rfl
    refine entry_eq (α := EReal) (m ((c : Thread nD τ).loc main_arg6)) r' _ (by have := hl.1; simp [first] at this ⊢; omega) _ ?_ ?_
    · refine (win0_6.rect_emb_val t (ValueIdx.ix2 r k) 0).trans ?_
      rw [a0, hr]; rfl
    · refine (win0_6.rect_emb_val t (ValueIdx.ix2 r k) 1).trans ?_
      rw [a1]; rfl
  · obtain ⟨a0, a1⟩ := i7 rfl
    refine entry_eq (α := EReal) (m ((c : Thread nD τ).loc main_arg7)) r' _ (by have := hl.1; simp [first] at this ⊢; omega) _ ?_ ?_
    · refine (win0_7.rect_emb_val t (ValueIdx.ix2 r k) 0).trans ?_
      rw [a0, hr]; rfl
    · refine (win0_7.rect_emb_val t (ValueIdx.ix2 r k) 1).trans ?_
      rw [a1]; rfl

/-- After the run the first result's array is the product. -/
theorem out_eq (c : Dev nD) :
    (dats m 0 c).arrAt 9 cfg0.N
      = product (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t hf y => ?_
  have h3 : t.val % 19 = 18 := (flush0_9 t).mp hf
  have hN : t.val < 152 := lt_of_lt_of_eq t.isLt N_0
  show prod m c t y = _
  refine (show (prod m c t y : EReal) = total m c t.val y from ?_).trans ?_
  · rw [total_next m c t (by omega)]
    exact (congrFun (shapeCast_id (k0_pay4 (left m c t) (iblk m c 8 t) (total m c (t.val - 1))) _) y).symm
  rw [total_apply, h3, Finset.sum_range]
  refine Finset.sum_congr rfl fun s _ => Finset.sum_congr rfl fun k _ => ?_
  have hs : s.val < 19 := s.isLt
  have hp : (pt (19 * (t.val / 19) + s.val)).val = 19 * (t.val / 19) + s.val := Nat.mod_eq_of_lt (by omega)
  have hp1 : (pt (19 * (t.val / 19) + s.val)).val % 19 = s.val := by omega
  have hp2 : (pt (19 * (t.val / 19) + s.val)).val / 19 = t.val / 19 := by omega
  obtain ⟨e0, e1, -, -⟩ := index_eq (pt (19 * (t.val / 19) + s.val))
  obtain ⟨-, -, e2, e3⟩ := index_eq t
  refine congrArg₂ (fun a b : EReal => a * b) ?_ ?_
  · refine (left_apply m c _ (y 0) k (((win0_9.rect t).emb y) 0) ?_).trans ?_
    · rw [hp2]
      refine (win0_9.rect_emb_val t y 0).trans ?_
      rw [e2]; rfl
    · rw [hp1]; rfl
  · blk_ext [iblk, V]
    · show win0_8.index (pt (19 * (t.val / 19) + s.val)) 0 * 1024 + (y 1).val = ((win0_9.rect t).emb y 1).val
      rw [win0_9.rect_emb_val t y 1, e0, e3]; rfl
    · show win0_8.index (pt (19 * (t.val / 19) + s.val)) 1 * 512 + k.val = s.val * 512 + k.val
      rw [e1, hp1]

/-- A row of a block of rows is a row of the whole. -/
theorem entry_block {C : ℕ} (c : Dev nD) (x : (⟨2, ![65536, C]⟩ : Shape).Idx → EReal)
    (hT : Layout.Tiles ⟨2, ![8192, C]⟩ ⟨2, ![65536, C]⟩ 0 8) (r : Fin 8192) (r' : Fin 65536) (hr : r'.val = c.val * 8192 + r.val) (k : ℕ) :
    entry (Layout.block ⟨2, ![8192, C]⟩ ⟨2, ![65536, C]⟩ 0 8 c x hT) r k = entry x r' k := by
  unfold entry
  by_cases hk : k < C
  · rw [dif_pos hk, dif_pos hk]
    refine congrArg x (funext fun b => Fin.ext ?_)
    fin_cases b
    · exact hr.symm
    · rfl
  · rw [dif_neg hk, dif_neg hk]

set_option maxRecDepth 20000 in
open Cert.InDxRefIdeal.Gen in
/-- The eight gradients set side by side, at an index. -/
theorem beside (x0 : Cert.InDxRefIdeal.S65536x3072.Idx → Elt Ideal .bf16) (x1 x2 x3 x4 x5 x6 : Cert.InDxRefIdeal.S65536x1024.Idx → Elt Ideal .bf16)
    (x7 : Cert.InDxRefIdeal.S65536x512.Idx → Elt Ideal .bf16) (r : Fin 65536) (s : Fin 19) (k : Fin 512)
    (j : Cert.InDxRefIdeal.S65536x9728.Idx) (h0 : j 0 = r) (h1 : (j 1).val = s.val * 512 + k.val) :
    (concatenate Cert.InDxRefIdeal.S65536x9728 1
              [⟨Cert.InDxRefIdeal.S65536x3072, (x0 : (⟨Cert.InDxRefIdeal.S65536x3072, .bf16⟩ : BufTy).Contents (Elt Ideal))⟩, ⟨Cert.InDxRefIdeal.S65536x1024, (x1 : (⟨Cert.InDxRefIdeal.S65536x1024, .bf16⟩ : BufTy).Contents (Elt Ideal))⟩, ⟨Cert.InDxRefIdeal.S65536x1024, (x2 : (⟨Cert.InDxRefIdeal.S65536x1024, .bf16⟩ : BufTy).Contents (Elt Ideal))⟩, ⟨Cert.InDxRefIdeal.S65536x1024, (x3 : (⟨Cert.InDxRefIdeal.S65536x1024, .bf16⟩ : BufTy).Contents (Elt Ideal))⟩, ⟨Cert.InDxRefIdeal.S65536x1024, (x4 : (⟨Cert.InDxRefIdeal.S65536x1024, .bf16⟩ : BufTy).Contents (Elt Ideal))⟩, ⟨Cert.InDxRefIdeal.S65536x1024, (x5 : (⟨Cert.InDxRefIdeal.S65536x1024, .bf16⟩ : BufTy).Contents (Elt Ideal))⟩, ⟨Cert.InDxRefIdeal.S65536x1024, (x6 : (⟨Cert.InDxRefIdeal.S65536x1024, .bf16⟩ : BufTy).Contents (Elt Ideal))⟩, ⟨Cert.InDxRefIdeal.S65536x512, (x7 : (⟨Cert.InDxRefIdeal.S65536x512, .bf16⟩ : BufTy).Contents (Elt Ideal))⟩]
              Cert.InDxRefIdeal.Facts₀.concatenates_S65536x3072_S65536x1024_S65536x1024_S65536x1024_S65536x1024_S65536x1024_S65536x1024_S65536x512_S65536x9728_d1 j : EReal)
      = joined x0 x1 x2 x3 x4 x5 x6 x7 r s.val k.val := by
  subst h0
  have hl := seg_lt s
  have hk := k.isLt
  unfold joined
  generalize segOf s.val = g at hl ⊢
  rcases eight_cases g with rfl | rfl | rfl | rfl | rfl | rfl | rfl | rfl
  · refine beside_apply (α := EReal) (W := 9728) _ _ 0 (Nat.lt_of_sub_eq_succ rfl) x0 rfl 0 rfl j _ ?_ ?_ <;> simp [first] at hl ⊢ <;> omega
  · refine beside_apply (α := EReal) (W := 9728) _ _ 1 (Nat.lt_of_sub_eq_succ rfl) x1 rfl 3072 rfl j _ ?_ ?_ <;> simp [first] at hl ⊢ <;> omega
  · refine beside_apply (α := EReal) (W := 9728) _ _ 2 (Nat.lt_of_sub_eq_succ rfl) x2 rfl 4096 rfl j _ ?_ ?_ <;> simp [first] at hl ⊢ <;> omega
  · refine beside_apply (α := EReal) (W := 9728) _ _ 3 (Nat.lt_of_sub_eq_succ rfl) x3 rfl 5120 rfl j _ ?_ ?_ <;> simp [first] at hl ⊢ <;> omega
  · refine beside_apply (α := EReal) (W := 9728) _ _ 4 (Nat.lt_of_sub_eq_succ rfl) x4 rfl 6144 rfl j _ ?_ ?_ <;> simp [first] at hl ⊢ <;> omega
  · refine beside_apply (α := EReal) (W := 9728) _ _ 5 (Nat.lt_of_sub_eq_succ rfl) x5 rfl 7168 rfl j _ ?_ ?_ <;> simp [first] at hl ⊢ <;> omega
  · refine beside_apply (α := EReal) (W := 9728) _ _ 6 (Nat.lt_of_sub_eq_succ rfl) x6 rfl 8192 rfl j _ ?_ ?_ <;> simp [first] at hl ⊢ <;> omega
  · refine beside_apply (α := EReal) (W := 9728) _ _ 7 (Nat.lt_of_sub_eq_succ rfl) x7 rfl 9216 rfl j _ ?_ ?_ <;> simp [first] at hl ⊢ <;> omega

open Cert.InDxRefIdeal.Gen in
/-- A block of rows of the whole product is the product of that block of rows. -/
theorem product_block (c : Dev nD) (x0 : Cert.InDxRefIdeal.S65536x3072.Idx → Elt Ideal .bf16) (x1 x2 x3 x4 x5 x6 : Cert.InDxRefIdeal.S65536x1024.Idx → Elt Ideal .bf16)
    (x7 : Cert.InDxRefIdeal.S65536x512.Idx → Elt Ideal .bf16)
    (w : Cert.InDxIdeal.S1024x9728.Idx → Elt Ideal .bf16) :
    product (Layout.block ⟨2, ![8192, 3072]⟩ ⟨2, ![65536, 3072]⟩ 0 8 c x0) (Layout.block ⟨2, ![8192, 1024]⟩ ⟨2, ![65536, 1024]⟩ 0 8 c x1) (Layout.block ⟨2, ![8192, 1024]⟩ ⟨2, ![65536, 1024]⟩ 0 8 c x2) (Layout.block ⟨2, ![8192, 1024]⟩ ⟨2, ![65536, 1024]⟩ 0 8 c x3) (Layout.block ⟨2, ![8192, 1024]⟩ ⟨2, ![65536, 1024]⟩ 0 8 c x4) (Layout.block ⟨2, ![8192, 1024]⟩ ⟨2, ![65536, 1024]⟩ 0 8 c x5) (Layout.block ⟨2, ![8192, 1024]⟩ ⟨2, ![65536, 1024]⟩ 0 8 c x6) (Layout.block ⟨2, ![8192, 512]⟩ ⟨2, ![65536, 512]⟩ 0 8 c x7) w
      = Layout.block ⟨2, ![8192, 1024]⟩ ⟨2, ![65536, 1024]⟩ 0 8 c
          (Host.dotGeneral (F := Ideal) Cert.InDxRefIdeal.dot_S65536x9728_S9728x1024_S65536x1024_1_0_0_1_n_n none
            (extf (F := Ideal) (φ := .bf16) .f32 (concatenate Cert.InDxRefIdeal.S65536x9728 1
              [⟨Cert.InDxRefIdeal.S65536x3072, (x0 : (⟨Cert.InDxRefIdeal.S65536x3072, .bf16⟩ : BufTy).Contents (Elt Ideal))⟩, ⟨Cert.InDxRefIdeal.S65536x1024, (x1 : (⟨Cert.InDxRefIdeal.S65536x1024, .bf16⟩ : BufTy).Contents (Elt Ideal))⟩, ⟨Cert.InDxRefIdeal.S65536x1024, (x2 : (⟨Cert.InDxRefIdeal.S65536x1024, .bf16⟩ : BufTy).Contents (Elt Ideal))⟩, ⟨Cert.InDxRefIdeal.S65536x1024, (x3 : (⟨Cert.InDxRefIdeal.S65536x1024, .bf16⟩ : BufTy).Contents (Elt Ideal))⟩, ⟨Cert.InDxRefIdeal.S65536x1024, (x4 : (⟨Cert.InDxRefIdeal.S65536x1024, .bf16⟩ : BufTy).Contents (Elt Ideal))⟩, ⟨Cert.InDxRefIdeal.S65536x1024, (x5 : (⟨Cert.InDxRefIdeal.S65536x1024, .bf16⟩ : BufTy).Contents (Elt Ideal))⟩, ⟨Cert.InDxRefIdeal.S65536x1024, (x6 : (⟨Cert.InDxRefIdeal.S65536x1024, .bf16⟩ : BufTy).Contents (Elt Ideal))⟩, ⟨Cert.InDxRefIdeal.S65536x512, (x7 : (⟨Cert.InDxRefIdeal.S65536x512, .bf16⟩ : BufTy).Contents (Elt Ideal))⟩]
              Cert.InDxRefIdeal.Facts₀.concatenates_S65536x3072_S65536x1024_S65536x1024_S65536x1024_S65536x1024_S65536x1024_S65536x1024_S65536x512_S65536x9728_d1 : (⟨Cert.InDxRefIdeal.S65536x9728, .bf16⟩ : BufTy).Contents (Elt Ideal)) Cert.InDxRefIdeal.Facts₀.bitsLt_bf16_f32)
            (transpose Cert.InDxRefIdeal.S9728x1024 [1, 0] (extf .f32 w Cert.InDxRefIdeal.Facts₀.bitsLt_bf16_f32)
              Cert.InDxRefIdeal.Facts₀.transposes_S1024x9728_S9728x1024_1_0)) := by
  funext i
  rw [Layout.block_apply]
  refine Eq.trans ?_ (Values.dot_apply (M := 65536) (K := 9728) (N := 1024) _ _ _ _).symm
  refine Fin.sum_mul_add_congr (S := 19) (n := 512) (L := 9728) fun s k hl => ?_
  refine congrArg₂ (fun a b : EReal => a * b) ?_ (congrArg w ?_)
  · refine Eq.trans ?_ (beside x0 x1 x2 x3 x4 x5 x6 x7 _ s k _ rfl rfl).symm
    unfold joined
    rcases eight_cases (segOf s.val) with h | h | h | h | h | h | h | h <;> rw [h] <;> exact entry_block c _ _ _ _ rfl _
  · funext b; apply Fin.ext; fin_cases b <;> rfl

end Cert.InDxIdeal.Swap

end
-- ==== Proof.InDxClaim.lean ====
/-
  The claims about the gradient of the input projection's input, put together.
-/
module

public import proofs.«01_k».proof.Defs
public import proofs.«01_k».proof.Proof.InDxValue
public import proofs.«01_k».proof.Proof.Gen.InDx
public import proofs.«01_k».proof.Proof.Gen.InDxRefIdeal.Run
public import Idealize.ShloMosaic.Adequacy
public import Idealize.ShloMosaic.Init

@[expose] public section

noncomputable section

namespace Cert.InDxIdeal.Swap

open Cert.InDxIdeal Cert.InDxIdeal.Gen Cert.Exchange
open Idealize.ShloMosaic Idealize.ShloMosaic.TcCoe Idealize.SL.Sem

/-- After the run the arguments are as they were, and the results are the grid's blocks and the parts exchanged. -/
theorem read_back {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9))
        ∧ r.2.mem ((c : Thread nD τ).loc main_v1_0) = (dats m 0 c).arrAt 9 cfg0.N
        ∧ r.2.mem ((c : Thread nD τ).loc main_v1_1) = swapped (parts m) c)
      ∧ r.2.sem = fun _ => 0 :=
  (θ_run defs _ _).mono (fun _ h => ⟨fun c => ⟨⟨((h.1 c).1 0).trans ((dats m 0 c).arrAt_in 0 rfl _), ((h.1 c).1 1).trans ((dats m 0 c).arrAt_in 1 rfl _), ((h.1 c).1 2).trans ((dats m 0 c).arrAt_in 2 rfl _), ((h.1 c).1 3).trans ((dats m 0 c).arrAt_in 3 rfl _), ((h.1 c).1 4).trans ((dats m 0 c).arrAt_in 4 rfl _), ((h.1 c).1 5).trans ((dats m 0 c).arrAt_in 5 rfl _), ((h.1 c).1 6).trans ((dats m 0 c).arrAt_in 6 rfl _), ((h.1 c).1 7).trans ((dats m 0 c).arrAt_in 7 rfl _), ((h.1 c).1 8).trans ((dats m 0 c).arrAt_in 8 rfl _), (h.1 c).2.1⟩,
      (h.1 c).1 9, (h.1 c).2.2⟩, h.2⟩) (run_main m ρ)

/-- The run of `read_back`, its results dropped. -/
theorem frame_of {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9))
      ∧ r.2.sem = fun _ => 0 :=
  (θ_run defs _ _).mono (fun _ h => ⟨fun c => (h.1 c).1, h.2⟩) (read_back m ρ)

/-- The two programs have the same body table: the one kernel is the same function. -/
theorem bodies_eq : Cert.InDx.defs₀ (F := Bits) = Cert.InDxIdeal.defs₀ (F := Bits) := by
  unfold Cert.InDx.defs₀ Cert.InDxIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.InDx.defs (F := Bits) = Cert.InDxIdeal.defs (F := Bits) := congrArg (Pipeline.defs Cert.InDxIdeal.pcfgs) bodies_eq

theorem frame_bits : Cert.quiescent_InDx (hInDx := Cert.InDx.Gen.facts) := fun m ρ _ => by
  rw [table_eq]; exact frame_of (F := Bits) m ρ

theorem frame_ideal : Cert.quiescent_InDxIdeal (hInDxIdeal := Cert.InDxIdeal.Gen.facts) := fun m ρ _ => frame_of m ρ

theorem frame_reference : Cert.quiescent_InDxRefIdeal (hInDxRefIdeal := Cert.InDxRefIdeal.Gen.facts) := fun m ρ _ =>
  (θ_run Cert.InDxRefIdeal.defs _ _).mono (fun r h => ⟨fun c => (h c).2.2, sem_eq_zero_of_no_sems (by decide) r.2⟩)
    (Cert.InDxRefIdeal.Value.run m ρ)

theorem values : Cert.algebraic_InDxIdeal_InDxRefIdeal (hInDxIdeal := Cert.InDxIdeal.Gen.facts) (hInDxRefIdeal := Cert.InDxRefIdeal.Gen.facts) := fun m ρ m' ρ' _ h => by
  refine ⟨_, _, (θ_run Cert.InDxIdeal.defs _ _).mono (fun r hr c => ?_) (read_back m ρ),
    (θ_run Cert.InDxRefIdeal.defs _ _).mono (fun _ h => h 0) (Cert.InDxRefIdeal.Value.run m' ρ')⟩
  obtain ⟨⟨h0, h1, h2, h3, h4, h5, h6, h7, h8, h9⟩, hp, hx⟩ := hr.1 c
  refine ⟨?_, ?_, h0, h1, h2, h3, h4, h5, h6, h7, h8, h9⟩
  · refine (hp.trans (out_eq m c)).trans ?_
    rw [(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1]
    exact product_block c _ _ _ _ _ _ _ _ _
  · exact hx.trans (Values.swapped_eq (by decide) _ (parts m) (fun d => (h d).2.2.2.2.2.2.2.2.2) _ _ _ c)

end Cert.InDxIdeal.Swap

end
-- ==== Proof.FfOutDxBody.lean ====
/-
  The gradient of the second feed-forward projection's input, at one grid point: every point multiplies its gated block
  of rows with a block of the transposed weights and with the derivative of the activation; the first also starts the
  exchange of the weight gradient's parts, the last waits for it.
-/
module

public import proofs.«01_k».proof.Proof.Stages
public import proofs.«01_k».proof.Proof.Tiles
public import proofs.«01_k».proof.Proof.Gen.FfOutDxIdeal
public import proofs.«01_k».proof.Proof.Gen.FfOutDxIdeal.Skeleton
public import proofs.«01_k».proof.Proof.Gen.FfOutDxIdeal.Frame

@[expose] public section

noncomputable section

namespace Cert.FfOutDxIdeal.Swap

open Cert.FfOutDxIdeal Cert.FfOutDxIdeal.Gen Cert.Exchange Cert.Tiles
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

abbrev 𝒱₀ : Variants := Variants.none

/-! ## The exchange -/

def dsem : Part → DmaSem sig
  | .inl k => (![9, 10, 11, 12, 13, 14, 15] : Fin 7 → DmaSem sig) k
  | .inr (.inl k) => (![16, 17, 18, 19, 20, 21, 22] : Fin 7 → DmaSem sig) k
  | .inr (.inr _) => 23

variable (m : (ℓ : Loc nD τ sig) → Buf (Elt F) ℓ)

/-- The parts that device `c` sends: slot `d` goes to device `d`. -/
def parts (c : Fin 8) : S8x512x1024.Idx → Elt F .bf16 := m (((c : Dev nD) : Thread nD τ).loc main_arg4)
def plan : Plan sig (Elt F) S512x1024 .bf16 :=
  swapPlan (Memref.whole main_arg4) (Memref.whole main_v1_1) squeezes_S1x512x1024_S512x1024 dsem (by decide) (by decide) (parts m)

theorem dev1_eq (d : Dev nD) (h) : (⟨k0_dev1 d, h⟩ : Dev nD) = peer 0 d := Fin.ext (by revert d; decide +kernel)
theorem dev2_eq (d : Dev nD) (h) : (⟨k0_dev2 d, h⟩ : Dev nD) = peer 1 d := Fin.ext (by revert d; decide +kernel)
theorem dev3_eq (d : Dev nD) (h) : (⟨k0_dev3 d, h⟩ : Dev nD) = peer 2 d := Fin.ext (by revert d; decide +kernel)
theorem dev4_eq (d : Dev nD) (h) : (⟨k0_dev4 d, h⟩ : Dev nD) = peer 3 d := Fin.ext (by revert d; decide +kernel)
theorem dev5_eq (d : Dev nD) (h) : (⟨k0_dev5 d, h⟩ : Dev nD) = peer 4 d := Fin.ext (by revert d; decide +kernel)
theorem dev6_eq (d : Dev nD) (h) : (⟨k0_dev6 d, h⟩ : Dev nD) = peer 5 d := Fin.ext (by revert d; decide +kernel)
theorem dev7_eq (d : Dev nD) (h) : (⟨k0_dev7 d, h⟩ : Dev nD) = peer 6 d := Fin.ext (by revert d; decide +kernel)
theorem off1_eq : ∀ d : Dev nD, k0_off1 d = ![d.val, 0, 0] := by decide +kernel
theorem off2_eq : ∀ (k : Fin 7) (d : Dev nD), k0_off2 d (k0_off2_at k).1 (k0_off2_at k).2.1 (k0_off2_at k).2.2 = ![(peer k d).val, 0, 0] := by decide +kernel

/-! ## The block product -/

section Tile

variable (c : Dev nD) (a : Memref sig .tc .vmem S1024x1024 .f32) (w : Memref sig .tc .vmem S1024x1024 .bf16) (g : Memref sig .tc .vmem S1x1024 .f32)
  (b : Memref sig .tc .vmem S1024x1024 .f32) (o : Memref sig .tc .vmem S1024x1024 .bf16)
  (X : S1024x1024.Idx → Elt F .f32) (Y : S1024x1024.Idx → Elt F .bf16) (Z : S1x1024.Idx → Elt F .f32) (U : S1024x1024.Idx → Elt F .f32)

abbrev tiles (R : sProp (MT nD τ sig Unit (Elt F) ℕ (UU nD τ sig) ℕ)) : sProp 𝕄 :=
  iprop(owns (c : Thread nD τ) a fullShare X ∗ owns (c : Thread nD τ) w fullShare Y ∗ owns (c : Thread nD τ) g fullShare Z ∗ owns (c : Thread nD τ) b fullShare U ∗ R)
abbrev someOut : sProp 𝕄 := iprop(∃ d, owns (c : Thread nD τ) o fullShare d)
abbrev theOut : sProp 𝕄 := owns (c : Thread nD τ) o fullShare (k0_pay1 X Z Y U)

variable {a w g b o}

theorem wp_tile {ha hw hg hb ho hs hm} {k : PUnit → Prog (TpuEff nD τ sig (Elt F) Λ₀ .tc) PUnit} {Q : PUnit → sProp 𝕄} :
    tiles c a w g b X Y Z U (someOut c o)
      ⊢ iprop((tiles c a w g b X Y Z U (theOut c o X Y Z U) -∗ wp frame (wpE (defs₀ (F := F)) 𝒱₀ c none) Set.univ (k ⟨⟩) Q)
          -∗ wp frame (wpE (defs₀ (F := F)) 𝒱₀ c none) Set.univ
            (.op (.load a (Rect.unit (s := S1024x1024) ![0, 0] S1024x1024.size inb_S1024x1024_S1024x1024_0_0).toLoadRect ha) fun v12 =>
              .op (.load g (Rect.unit (s := S1x1024) ![0, 0] S1x1024.size inb_S1x1024_S1x1024_0_0).toLoadRect hg) fun v14 =>
              .op (.load w (Rect.unit (s := S1024x1024) ![0, 0] S1024x1024.size inb_S1024x1024_S1024x1024_0_0).toLoadRect hw) fun v19 =>
              .op (.load b (Rect.unit (s := S1024x1024) ![0, 0] S1024x1024.size inb_S1024x1024_S1024x1024_0_0).toLoadRect hb) fun v22 =>
              .op (.load o (Rect.unit (s := S1024x1024) ![0, 0] S1024x1024.size inb_S1024x1024_S1024x1024_0_0).toLoadRect ho) fun _ =>
              .op (.store o (Rect.unit (s := S1024x1024) ![0, 0] S1024x1024.size inb_S1024x1024_S1024x1024_0_0) (k0_pay1 v12 v14 v19 v22) Finset.univ hs hm) k) Q) := by
  iintro ⟨Ha, Hw, Hg, Hb, ⟨%d, Ho⟩⟩ Hk
  iapply (wp_read c X) $$ Ha; iintro Ha
  iapply (wp_read c Z) $$ Hg; iintro Hg
  iapply (wp_read c Y) $$ Hw; iintro Hw
  iapply (wp_read c U) $$ Hb; iintro Hb
  iapply (wp_read c d) $$ Ho; iintro Ho
  iapply (wp_put c) $$ [Ho]; · (iexists d; iexact Ho)
  iintro Ho
  iapply Hk
  isplitl [Ha]; · iexact Ha
  isplitl [Hw]; · iexact Hw
  isplitl [Hg]; · iexact Hg
  isplitl [Hb] <;> iassumption

end Tile

/-! ## The body at the three kinds of point -/

section Points

variable (c : Dev nD) (i : grid0.Coords) {W : Waits sig Unit} (a : Memref sig .tc .vmem S1024x1024 .f32) (ha : a.IsWhole) (w : Memref sig .tc .vmem S1024x1024 .bf16)
  (hw : w.IsWhole) (g : Memref sig .tc .vmem S1x1024 .f32) (hg : g.IsWhole) (b : Memref sig .tc .vmem S1024x1024 .f32) (hb : b.IsWhole)
  (o : Memref sig .tc .vmem S1024x1024 .bf16) (ho : o.IsWhole) (X : S1024x1024.Idx → Elt F .f32) (Y : S1024x1024.Idx → Elt F .bf16) (Z : S1x1024.Idx → Elt F .f32)
  (U : S1024x1024.Idx → Elt F .f32)

abbrev body : Prog (TpuEff nD τ sig (Elt F) Λ₀ .tc) PUnit :=
  cc0_ff_out_dx i a ha w hw g hg b hb (Memref.whole main_arg4) (Memref.isWhole_whole _) o ho (Memref.whole main_v1_1) (Memref.isWhole_whole _) cc0_scratch0 cc0_scratch1 cc0_scratch2

theorem wp_mid (h1 : ¬ k0_cond1 i = 1#1) (h2 : ¬ k0_cond2 i = 1#1) {Q : PUnit → sProp 𝕄} :
    iprop(tiles c a w g b X Y Z U (someOut c o) ∗ (tiles c a w g b X Y Z U (theOut c o X Y Z U) -∗ Q ⟨⟩))
      ⊢ wp frame (wpE (defs₀ (F := F)) 𝒱₀ c none) Set.univ (body i a ha w hw g hg b hb o ho) Q := by
  simp only [body, cc0_ff_out_dx_eq_skeleton]; unfold cc0_ff_out_dx_skel; rw [k0_part11_eq_skeleton]; unfold k0_part11_skel
  simp only [dif_neg h1, dif_neg h2, Prog.lift, Prog.bind_op, Prog.bind_ret, Prog.pure_eq_ret]
  iintro ⟨HT, Hk⟩
  iapply (wp_tile c X Y Z U) $$ HT
  iintro HT
  rw [wp_ret]; imodintro
  iapply Hk; iexact HT

set_option maxHeartbeats 1600000 in
theorem wp_first (h1 : k0_cond1 i = 1#1) (h2 : ¬ k0_cond2 i = 1#1) {Q : PUnit → sProp 𝕄} :
    iprop((plan m).Ready c ∗ owes (c : Thread nD τ) ((plan m).Owed c 0) W ∗ tiles c a w g b X Y Z U (someOut c o)
        ∗ (((plan m).Flying c ∗ owes (c : Thread nD τ) 0 W ∗ tiles c a w g b X Y Z U (theOut c o X Y Z U)) -∗ Q ⟨⟩))
      ⊢ wp frame (wpE (defs₀ (F := F)) 𝒱₀ c none) Set.univ (body i a ha w hw g hg b hb o ho) Q := by
  simp only [body, cc0_ff_out_dx_eq_skeleton]; unfold cc0_ff_out_dx_skel; rw [k0_part11_eq_skeleton]; unfold k0_part11_skel
  simp only [dif_pos h1, dif_neg h2, k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iintro ⟨HS, HO, HT, Hk⟩
  iapply ((plan m).wp_start 𝒱₀ c ⟨slotAt_eq (off1_eq c) _, slotAt_eq (off1_eq c) _, rfl⟩
    ⟨dev1_eq c _, slotAt_eq (off2_eq 0 c) _, slotAt_eq (off1_eq c) _, rfl, rfl⟩ ⟨dev2_eq c _, slotAt_eq (off2_eq 1 c) _, slotAt_eq (off1_eq c) _, rfl, rfl⟩
    ⟨dev3_eq c _, slotAt_eq (off2_eq 2 c) _, slotAt_eq (off1_eq c) _, rfl, rfl⟩ ⟨dev4_eq c _, slotAt_eq (off2_eq 3 c) _, slotAt_eq (off1_eq c) _, rfl, rfl⟩
    ⟨dev5_eq c _, slotAt_eq (off2_eq 4 c) _, slotAt_eq (off1_eq c) _, rfl, rfl⟩ ⟨dev6_eq c _, slotAt_eq (off2_eq 5 c) _, slotAt_eq (off1_eq c) _, rfl, rfl⟩
    ⟨dev7_eq c _, slotAt_eq (off2_eq 6 c) _, slotAt_eq (off1_eq c) _, rfl, rfl⟩) $$ [HS HO]
  · isplitl [HS] <;> iassumption
  iintro ⟨HS, HO⟩
  iapply (wp_tile c X Y Z U) $$ HT
  iintro HT
  rw [wp_ret]; imodintro
  iapply Hk
  isplitl [HS]; · iexact HS
  isplitl [HO] <;> iassumption

set_option maxHeartbeats 1600000 in
theorem wp_last (h1 : ¬ k0_cond1 i = 1#1) (h2 : k0_cond2 i = 1#1) {Q : PUnit → sProp 𝕄} :
    iprop((plan m).Flying c ∗ owes (c : Thread nD τ) 0 W ∗ tiles c a w g b X Y Z U (someOut c o)
        ∗ (((plan m).Landed c ∗ (∃ W', owes (c : Thread nD τ) 0 W') ∗ tiles c a w g b X Y Z U (theOut c o X Y Z U)) -∗ Q ⟨⟩))
      ⊢ wp frame (wpE (defs₀ (F := F)) 𝒱₀ c none) Set.univ (body i a ha w hw g hg b hb o ho) Q := by
  simp only [body, cc0_ff_out_dx_eq_skeleton]; unfold cc0_ff_out_dx_skel; rw [k0_part11_eq_skeleton]; unfold k0_part11_skel
  simp only [dif_neg h1, dif_pos h2, k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  simp only [Prog.lift, Prog.bind_op, Prog.bind_ret, Prog.pure_eq_ret]
  iintro ⟨HS, HO, HT, Hk⟩
  iapply (wp_tile c X Y Z U) $$ HT
  iintro HT
  simp only [wp_deviceId]
  iapply ((plan m).wp_finish 𝒱₀ c ⟨rfl, rfl⟩ ⟨rfl, rfl⟩ ⟨rfl, rfl⟩ ⟨rfl, rfl⟩ ⟨rfl, rfl⟩ ⟨rfl, rfl⟩ ⟨rfl, rfl⟩ ⟨rfl, rfl⟩
    ⟨rfl, rfl⟩ ⟨rfl, rfl⟩ ⟨rfl, rfl⟩ ⟨rfl, rfl⟩ ⟨rfl, rfl⟩ ⟨rfl, rfl⟩ ⟨rfl, rfl⟩) $$ [HS HO]
  · isplitl [HS] <;> iassumption
  iintro ⟨HS, HO⟩
  rw [wp_ret]; imodintro
  iapply Hk
  isplitl [HS]; · iexact HS
  isplitl [HO] <;> iassumption

end Points

end Cert.FfOutDxIdeal.Swap

end
-- ==== Proof.FfOutDxRun.lean ====
/-
  The run of the gradient of the second feed-forward projection's input: what the pipeline's arrays hold after it, and what the
  exchange leaves.
-/
module

public import proofs.«01_k».proof.Proof.Runs
public import proofs.«01_k».proof.Proof.FfOutDxBody

@[expose] public section

noncomputable section

namespace Cert.FfOutDxIdeal.Swap

open Cert.FfOutDxIdeal Cert.FfOutDxIdeal.Gen Cert.Exchange
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UU nD τ sig) ℕ

variable (m : (ℓ : Loc nD τ sig) → Buf (Elt F) ℓ) (ρ : Dev nD → PrngReg)

theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 = 32 := by decide +kernel

/-- The block of the product at point `t`. -/
def prod (c : Dev nD) (t : Fin cfg0.N) : S1024x1024.Idx → Elt F .bf16 := k0_pay1 (iblk m c 0 t) (iblk m c 2 t) (iblk m c 1 t) (iblk m c 3 t)

def dats (_ : Fin 1) (c : Dev nD) : Dat τ (Elt F) Unit ℕ (UU nD τ sig) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => prod m c t
    | ⟨_ + 5, h⟩ => absurd h (Nat.not_lt.2 (Nat.le_add_left _ _))
  Φ t := (plan m).held 32 c t.val
  q _ := fullShare
  owed t := (plan m).owing c t.val

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

def bodyPre (c : Dev nD) (t : Fin cfg0.N) : sProp 𝕄 :=
  iprop((plan m).held 32 c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((plan m).held 32 c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (prod m c t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0 Dat.owesAt Pipeline.owesWithin
  simp only [before0, before1, before2, before3]
  rw [show (dats m 0 c).owed t.castSucc = (plan m).owing c t.val from rfl, show (dats m 0 c).owed t.succ = (plan m).owing c (t.val + 1) from rfl]
  iintro ⟨HS, ⟨%W, %hW, HO⟩, ⟨%d0, H0⟩, ⟨%d1, H1⟩, ⟨%d2, H2⟩, ⟨%d3, H3⟩, ⟨%d4, H4⟩⟩
  iapply ((plan m).step 32 c t.val (by decide) (lt_of_lt_of_eq t.isLt N_0)
    (fun h => wp_first m c (grid0.coords t) (st0_0 t) _ (st0_1 t) _ (st0_2 t) _ (st0_3 t) _ (st0_4 t) _ (iblk m c 0 t) (iblk m c 1 t) (iblk m c 2 t) (iblk m c 3 t)
      ((cond1_iff t).mpr h) (fun h' => by have := (cond2_iff t).mp h'; omega))
    (fun h h' => wp_mid c (grid0.coords t) (st0_0 t) _ (st0_1 t) _ (st0_2 t) _ (st0_3 t) _ (st0_4 t) _ (iblk m c 0 t) (iblk m c 1 t) (iblk m c 2 t) (iblk m c 3 t)
      (fun e => h ((cond1_iff t).mp e)) (fun e => h' ((cond2_iff t).mp e)))
    (fun h h' => wp_last m c (grid0.coords t) (st0_0 t) _ (st0_1 t) _ (st0_2 t) _ (st0_3 t) _ (st0_4 t) _ (iblk m c 0 t) (iblk m c 1 t) (iblk m c 2 t) (iblk m c 3 t)
      (fun e => h ((cond1_iff t).mp e)) ((cond2_iff t).mpr h')))
  isplitl [HS]; · iexact HS
  isplitl [HO]; · iexact HO
  isplitl [H0 H1 H2 H3 H4]
  · isplitl [H0]; · iexact H0
    isplitl [H1]; · iexact H1
    isplitl [H2]; · iexact H2
    isplitl [H3]; · iexact H3
    iexists _; iexact H4
  iintro ⟨HS, ⟨%W', HO⟩, H0, H1, H2, H3, H4⟩
  isplitl [HS]; · iexact HS
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem ownSemFacts : Pipeline.OwnSemFacts cfg0.spec fun j => SemLoc.dma (dsem j) := by decide

theorem hold_in (c : Dev nD) :
    iprop((((c : Thread nD τ).loc main_arg4) ↦{fullShare} m ((c : Thread nD τ).loc main_arg4)) ∗ ((c : Thread nD τ).loc main_v1_1) ↦{fullShare} m ((c : Thread nD τ).loc main_v1_1))
      ⊢ (iprop((plan m).mine c ∗ bigSep Finset.univ fun k => (plan m).give c k) : sProp 𝕄) := by
  rw [← owns_whole (c : Thread nD τ) main_arg4, ← owns_whole (c : Thread nD τ) main_v1_1]
  exact swap_hold (Memref.whole main_arg4) (Memref.whole main_v1_1) squeezes_S1x512x1024_S512x1024 dsem _ _ (parts m) c _

theorem back_out (c : Dev nD) : (plan m).Landed c
    ⊢ (iprop(Pipeline.ownSems0 (Ix := Unit) (Name := ℕ) (U := UU 8 τ sig) (Lvl := ℕ) (Val := Elt F) (τ := τ) (plan m).osem c
        ∗ (((c : Thread nD τ).loc main_arg4) ↦{fullShare} m ((c : Thread nD τ).loc main_arg4))
        ∗ ((c : Thread nD τ).loc main_v1_1) ↦{fullShare} swapped (parts m) c) : sProp 𝕄) := by
  rw [← owns_whole (c : Thread nD τ) main_arg4, ← owns_whole (c : Thread nD τ) main_v1_1]
  exact swap_back (Memref.whole main_arg4) (Memref.whole main_v1_1) squeezes_S1x512x1024_S512x1024 dsem _ _ (parts m) c

theorem run_main : θ_run defs (onTc (τ := τ) (main (F := F))) ⟨m, fun _ => 0, ρ⟩ fun r =>
    (∀ c : Dev nD, (∀ w, r.2.mem (((cfg0.win w).arr.view.loc (c : Thread nD τ))) = (dats m 0 c).arrAt w cfg0.N)
      ∧ r.2.mem ((c : Thread nD τ).loc main_arg4) = m ((c : Thread nD τ).loc main_arg4)
      ∧ r.2.mem ((c : Thread nD τ).loc main_v1_1) = swapped (parts m) c) ∧ r.2.sem = fun _ => 0 :=
  (θ_run defs _ _).mono (fun _ h => ⟨h.1, sem_eq_zero_of_scoped (by decide) h.2⟩)
    ((plan m).run cfgs (dats m) cellOf_inj winFacts0 ownSemFacts defs₀ 𝒱₀ m ρ main (fun _ => rfl) (body_obligation m) block_pos0 arr_whole0 stage_whole0
      (fun _ _ => rfl) (fun _ _ => rfl) (fun _ _ => rfl) (by decide) main_arg4 main_v1_1 (swapped (parts m))
      (fun c => unscopedRest0_eq c _)
      (hold_in m) (back_out m)
      (fun c => by
        rw [scopedRest0_eq]
        show _ ⊢ (plan m).held 32 c 0
        rw [Plan.held_zero]
        iintro ⟨H, -⟩
        iexact H)
      (fun c => by
        rw [scopedRest0_eq]
        show (plan m).held 32 c (Fin.last cfg0.N).val ⊢ _
        rw [show (Fin.last cfg0.N).val = 32 from N_0, Plan.held_last _ _ _ (by decide)]
        iintro H
        isplitl [H]; · iexact H
        iempintro))

end Cert.FfOutDxIdeal.Swap

end
-- ==== Proof.FfOutDxValue.lean ====
/-
  The gradient of the feed-forward layer's inner values, over the extended reals: the array the grid's blocks fill is this
  device's rows of the whole product.
-/
module

public import proofs.«01_k».proof.Proof.Values
public import proofs.«01_k».proof.Proof.FfOutDxRun
public import proofs.«01_k».proof.Proof.Gen.FfOutDxRefIdeal

@[expose] public section

noncomputable section

namespace Cert.FfOutDxIdeal.Swap

open Cert.FfOutDxIdeal Cert.FfOutDxIdeal.Gen Cert.Exchange
open Idealize.ShloMosaic Idealize.ShloMosaic.TcCoe
open Idealize.SL Idealize.SL.Sem

/-- One block of the product, at an index. -/
theorem tile_apply (x : S1024x1024.Idx → Elt Ideal .f32) (g : S1x1024.Idx → Elt Ideal .f32) (w : S1024x1024.Idx → Elt Ideal .bf16)
    (a : S1024x1024.Idx → Elt Ideal .f32) (i : S1024x1024.Idx) :
    k0_pay1 x g w a i = ((∑ k : Fin 1024, ((x (ValueIdx.ix2 (i 0) k) * g (ValueIdx.ix2 0 k)) * w (ValueIdx.ix2 (i 1) k) : EReal))
      * (Scalar.ofBits (F := Ideal) .f32 0x40000000#32 * Scalar.maximumf (F := Ideal) (φ := .f32) (a i) (Scalar.ofBits .f32 0x00000000#32)) : EReal) := by
  refine congrArg₂ (fun p q : EReal => p * (Scalar.ofBits (F := Ideal) .f32 0x40000000#32
    * Scalar.maximumf (F := Ideal) (φ := .f32) q (Scalar.ofBits .f32 0x00000000#32))) ?_ (congrFun (shapeCast_id a _) i)
  refine (Values.block_apply (M := 1024) (K := 1024) (N := 1024) _ _ i).trans ?_
  refine Finset.sum_congr rfl fun k _ => ?_
  rw [shapeCast_id, shapeCast_id, shapeCast_id]
  refine congrArg (fun z : EReal => (x (ValueIdx.ix2 (i 0) k) * z) * w (ValueIdx.ix2 (i 1) k)) ?_
  refine broadcastTo_apply _ _ _ (ValueIdx.ix2 (0 : Fin 1) k) ?_
  intro a
  fin_cases a <;> rfl

variable (m : (ℓ : Loc nD τ sig) → Buf (Elt Ideal) ℓ)

/-- The gated rows times the transposed weights, times the derivative of the squared rectifier, at an index. -/
def product (x : S8192x1024.Idx → EReal) (g : S1x1024.Idx → EReal) (w : S4096x1024.Idx → EReal) (a : S8192x4096.Idx → EReal) : S8192x4096.Idx → EReal :=
  fun i => (∑ k : Fin 1024, (x (ValueIdx.ix2 (i 0) k) * g (ValueIdx.ix2 0 k)) * w (ValueIdx.ix2 (i 1) k))
    * (Scalar.ofBits (F := Ideal) .f32 0x40000000#32 * Scalar.maximumf (F := Ideal) (φ := .f32) (a i) (Scalar.ofBits .f32 0x00000000#32))

/-- Which blocks of the operands a point multiplies. -/
theorem index_eq : ∀ t : Fin grid0.N, win0_0.index t 0 = win0_4.index t 0 ∧ win0_0.index t 1 = 0 ∧ win0_1.index t 0 = win0_4.index t 1
    ∧ win0_1.index t 1 = 0 ∧ win0_2.index t 0 = 0 ∧ win0_2.index t 1 = 0 ∧ win0_3.index t 0 = win0_4.index t 0 ∧ win0_3.index t 1 = win0_4.index t 1 := by decide +kernel

/-- After the run the first result's array is the product. -/
theorem out_eq (c : Dev nD) :
    (dats m 0 c).arrAt 4 cfg0.N
      = product (m ((c : Thread nD τ).loc main_arg0)) (m ((c : Thread nD τ).loc main_arg2)) (m ((c : Thread nD τ).loc main_arg1))
          (m ((c : Thread nD τ).loc main_arg3)) := by
  refine (dats m 0 c).arrAt_eq_of_covers 4 _ (by decide +kernel) fun t hf y => ?_
  show prod m c t y = _
  refine (tile_apply _ _ _ _ y).trans ?_
  obtain ⟨e0, e1, e2, e3, e4, e5, e6, e7⟩ := index_eq t
  refine congrArg₂ (fun p q : EReal => p * (Scalar.ofBits (F := Ideal) .f32 0x40000000#32
    * Scalar.maximumf (F := Ideal) (φ := .f32) q (Scalar.ofBits .f32 0x00000000#32))) (Finset.sum_congr rfl fun k _ => ?_) ?_
  · congr 1
    · congr 1 <;> blk_ext [iblk, V]
      · show win0_0.index t 0 * 1024 + (y 0).val = ((win0_4.rect t).emb y 0).val
        rw [e0, win0_4.rect_emb_val t y 0]; rfl
      · show win0_0.index t 1 * 1024 + k.val = k.val
        rw [e1]; omega
    · blk_ext [iblk, V]
      · show win0_1.index t 0 * 1024 + (y 1).val = ((win0_4.rect t).emb y 1).val
        rw [e2, win0_4.rect_emb_val t y 1]; rfl
      · show win0_1.index t 1 * 1024 + k.val = k.val
        rw [e3]; omega
  · blk_ext [iblk, V]

open Cert.FfOutDxRefIdeal Cert.FfOutDxRefIdeal.Gen in
/-- A block of rows of the whole product is the product of that block of rows. -/
theorem product_block (c : Dev nD) (x : Cert.FfOutDxRefIdeal.S65536x1024.Idx → Elt Ideal .f32) (g : Cert.FfOutDxRefIdeal.S8x1024.Idx → Elt Ideal .f32)
    (w : Cert.FfOutDxIdeal.S4096x1024.Idx → Elt Ideal .bf16) (a : Cert.FfOutDxRefIdeal.S65536x4096.Idx → Elt Ideal .f32) :
    product (Layout.block ⟨2, ![8192, 1024]⟩ ⟨2, ![65536, 1024]⟩ 0 8 c x) (Layout.block ⟨2, ![1, 1024]⟩ ⟨2, ![8, 1024]⟩ 0 8 c g) w
        (Layout.block ⟨2, ![8192, 4096]⟩ ⟨2, ![65536, 4096]⟩ 0 8 c a)
      = Layout.block ⟨2, ![8192, 4096]⟩ ⟨2, ![65536, 4096]⟩ 0 8 c
          (truncf .bf16 (mulf (Host.dotGeneral (F := Ideal) Cert.FfOutDxRefIdeal.dot_S65536x1024_S1024x4096_S65536x4096_1_0_0_1_n_n none
            (shapeCast Cert.FfOutDxRefIdeal.S65536x1024
              (mulf (F := Ideal) (φ := .f32) (shapeCast Cert.FfOutDxRefIdeal.S8x8192x1024 x Cert.FfOutDxRefIdeal.Facts₀.shapeCasts_S65536x1024_S8x8192x1024)
                (broadcastInDim Cert.FfOutDxRefIdeal.S8x8192x1024 ![0, 1, 2] Cert.FfOutDxRefIdeal.Facts₀.bcast_S8x1x1024_S8x8192x1024_0_1_2
                  (broadcastInDim Cert.FfOutDxRefIdeal.S8x1x1024 ![0, 2] Cert.FfOutDxRefIdeal.Facts₀.bcast_S8x1024_S8x1x1024_0_2 g)))
              Cert.FfOutDxRefIdeal.Facts₀.shapeCasts_S8x8192x1024_S65536x1024)
            (transpose Cert.FfOutDxRefIdeal.S1024x4096 [1, 0] (extf .f32 w Cert.FfOutDxRefIdeal.Facts₀.bitsLt_bf16_f32)
              Cert.FfOutDxRefIdeal.Facts₀.transposes_S4096x1024_S1024x4096_1_0))
            (mulf (broadcastInDim Cert.FfOutDxRefIdeal.S65536x4096 ![] Cert.FfOutDxRefIdeal.Facts₀.bcast_S_S65536x4096 (constant Cert.FfOutDxRefIdeal.S_ .f32 0x40000000#32))
              (maximumf a (broadcastInDim Cert.FfOutDxRefIdeal.S65536x4096 ![] Cert.FfOutDxRefIdeal.Facts₀.bcast_S_S65536x4096
                (constant Cert.FfOutDxRefIdeal.S_ .f32 0x00000000#32))))) Cert.FfOutDxRefIdeal.Facts₀.bitsLt_bf16_f32) := by
  funext i
  rw [Layout.block_apply]
  refine congrArg (fun p : EReal => p * _) ?_
  refine Eq.trans ?_ (Values.dot_apply (M := 65536) (K := 1024) (N := 4096) _ _ _ _).symm
  refine Finset.sum_congr rfl fun k _ => ?_
  refine congrArg₂ (fun a b : EReal => a * b) ?_ (congrArg w ?_)
  · refine Eq.trans ?_ (Values.gate_apply (R := 8192) (C := 1024) (by decide) x g _ _ _ _ c (i 0) k _ rfl rfl).symm
    refine congrArg₂ (fun a b : EReal => a * b) (congrArg x ?_) (congrArg g ?_)
    · funext b; apply Fin.ext; fin_cases b <;> rfl
    · funext b; apply Fin.ext; fin_cases b
      · show c.val * 1 + 0 = c.val
        omega
      · rfl
  · funext b; apply Fin.ext; fin_cases b <;> rfl

end Cert.FfOutDxIdeal.Swap

end
-- ==== Proof.FfOutDxClaim.lean ====
/-
  The claims about the gradient of the feed-forward layer's inner values, put together.
-/
module

public import proofs.«01_k».proof.Defs
public import proofs.«01_k».proof.Proof.FfOutDxValue
public import proofs.«01_k».proof.Proof.Gen.FfOutDx
public import proofs.«01_k».proof.Proof.Gen.FfOutDxRefIdeal.Run
public import Idealize.ShloMosaic.Adequacy
public import Idealize.ShloMosaic.Init

@[expose] public section

noncomputable section

namespace Cert.FfOutDxIdeal.Swap

open Cert.FfOutDxIdeal Cert.FfOutDxIdeal.Gen Cert.Exchange
open Idealize.ShloMosaic Idealize.ShloMosaic.TcCoe Idealize.SL.Sem

/-- After the run the arguments are as they were, and the results are the grid's blocks and the parts exchanged. -/
theorem read_back {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v1_0) = (dats m 0 c).arrAt 4 cfg0.N
        ∧ r.2.mem ((c : Thread nD τ).loc main_v1_1) = swapped (parts m) c)
      ∧ r.2.sem = fun _ => 0 :=
  (θ_run defs _ _).mono (fun _ h => ⟨fun c => ⟨⟨((h.1 c).1 0).trans ((dats m 0 c).arrAt_in 0 rfl _), ((h.1 c).1 1).trans ((dats m 0 c).arrAt_in 1 rfl _), ((h.1 c).1 2).trans ((dats m 0 c).arrAt_in 2 rfl _), ((h.1 c).1 3).trans ((dats m 0 c).arrAt_in 3 rfl _), (h.1 c).2.1⟩,
      (h.1 c).1 4, (h.1 c).2.2⟩, h.2⟩) (run_main m ρ)

/-- The run of `read_back`, its results dropped. -/
theorem frame_of {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0 :=
  (θ_run defs _ _).mono (fun _ h => ⟨fun c => (h.1 c).1, h.2⟩) (read_back m ρ)

/-- The two programs have the same body table: the one kernel is the same function. -/
theorem bodies_eq : Cert.FfOutDx.defs₀ (F := Bits) = Cert.FfOutDxIdeal.defs₀ (F := Bits) := by
  unfold Cert.FfOutDx.defs₀ Cert.FfOutDxIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.FfOutDx.defs (F := Bits) = Cert.FfOutDxIdeal.defs (F := Bits) := congrArg (Pipeline.defs Cert.FfOutDxIdeal.pcfgs) bodies_eq

theorem frame_bits : Cert.quiescent_FfOutDx (hFfOutDx := Cert.FfOutDx.Gen.facts) := fun m ρ _ => by
  rw [table_eq]; exact frame_of (F := Bits) m ρ

theorem frame_ideal : Cert.quiescent_FfOutDxIdeal (hFfOutDxIdeal := Cert.FfOutDxIdeal.Gen.facts) := fun m ρ _ => frame_of m ρ

theorem frame_reference : Cert.quiescent_FfOutDxRefIdeal (hFfOutDxRefIdeal := Cert.FfOutDxRefIdeal.Gen.facts) := fun m ρ _ =>
  (θ_run Cert.FfOutDxRefIdeal.defs _ _).mono (fun r h => ⟨fun c => (h c).2.2, sem_eq_zero_of_no_sems (by decide) r.2⟩)
    (Cert.FfOutDxRefIdeal.Value.run m ρ)

theorem values : Cert.algebraic_FfOutDxIdeal_FfOutDxRefIdeal (hFfOutDxIdeal := Cert.FfOutDxIdeal.Gen.facts) (hFfOutDxRefIdeal := Cert.FfOutDxRefIdeal.Gen.facts) := fun m ρ m' ρ' _ h => by
  refine ⟨_, _, (θ_run Cert.FfOutDxIdeal.defs _ _).mono (fun r hr c => ?_) (read_back m ρ),
    (θ_run Cert.FfOutDxRefIdeal.defs _ _).mono (fun _ h => h 0) (Cert.FfOutDxRefIdeal.Value.run m' ρ')⟩
  obtain ⟨⟨h0, h1, h2, h3, h4⟩, hp, hx⟩ := hr.1 c
  refine ⟨?_, ?_, h0, h1, h2, h3, h4⟩
  · refine (hp.trans (out_eq m c)).trans ?_
    rw [(h c).1, (h c).2.2.1, (h c).2.1, (h c).2.2.2.1]
    exact product_block c _ _ _ _
  · exact hx.trans (Values.swapped_eq (by decide) _ (parts m) (fun d => (h d).2.2.2.2) _ _ _ c)

end Cert.FfOutDxIdeal.Swap

end
-- ==== Proof.FfInDxBody.lean ====
/-
  The gradient of the first feed-forward projection's input, at one grid point: every point multiplies a block of rows
  with a block of the transposed weights, and adds to what the points of the same rows before it summed up; the last of
  those writes the sum out. The first point of all also starts the exchange of the weight gradient's parts, the last
  waits for it.
-/
module

public import proofs.«01_k».proof.Proof.Stages
public import proofs.«01_k».proof.Proof.Tiles
public import proofs.«01_k».proof.Proof.Gen.FfInDxIdeal
public import proofs.«01_k».proof.Proof.Gen.FfInDxIdeal.Skeleton
public import proofs.«01_k».proof.Proof.Gen.FfInDxIdeal.Frame

@[expose] public section

noncomputable section

namespace Cert.FfInDxIdeal.Swap

open Cert.FfInDxIdeal Cert.FfInDxIdeal.Gen Cert.Exchange Cert.Tiles
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

abbrev 𝒱₀ : Variants := Variants.none

/-! ## The exchange -/

def dsem : Part → DmaSem sig
  | .inl k => (![6, 7, 8, 9, 10, 11, 12] : Fin 7 → DmaSem sig) k
  | .inr (.inl k) => (![13, 14, 15, 16, 17, 18, 19] : Fin 7 → DmaSem sig) k
  | .inr (.inr _) => 20

variable (m : (ℓ : Loc nD τ sig) → Buf (Elt F) ℓ)

/-- The parts that device `c` sends: slot `d` goes to device `d`. -/
def parts (c : Fin 8) : S8x1024x512.Idx → Elt F .bf16 := m (((c : Dev nD) : Thread nD τ).loc main_arg2)
def plan : Plan sig (Elt F) S1024x512 .bf16 :=
  swapPlan (Memref.whole main_arg2) (Memref.whole main_v1_1) squeezes_S1x1024x512_S1024x512 dsem (by decide) (by decide) (parts m)

theorem dev1_eq (d : Dev nD) (h) : (⟨k0_dev1 d, h⟩ : Dev nD) = peer 0 d := Fin.ext (by revert d; decide +kernel)
theorem dev2_eq (d : Dev nD) (h) : (⟨k0_dev2 d, h⟩ : Dev nD) = peer 1 d := Fin.ext (by revert d; decide +kernel)
theorem dev3_eq (d : Dev nD) (h) : (⟨k0_dev3 d, h⟩ : Dev nD) = peer 2 d := Fin.ext (by revert d; decide +kernel)
theorem dev4_eq (d : Dev nD) (h) : (⟨k0_dev4 d, h⟩ : Dev nD) = peer 3 d := Fin.ext (by revert d; decide +kernel)
theorem dev5_eq (d : Dev nD) (h) : (⟨k0_dev5 d, h⟩ : Dev nD) = peer 4 d := Fin.ext (by revert d; decide +kernel)
theorem dev6_eq (d : Dev nD) (h) : (⟨k0_dev6 d, h⟩ : Dev nD) = peer 5 d := Fin.ext (by revert d; decide +kernel)
theorem dev7_eq (d : Dev nD) (h) : (⟨k0_dev7 d, h⟩ : Dev nD) = peer 6 d := Fin.ext (by revert d; decide +kernel)
theorem off1_eq : ∀ d : Dev nD, k0_off1 d = ![d.val, 0, 0] := by decide +kernel
theorem off2_eq : ∀ (k : Fin 7) (d : Dev nD), k0_off2 d (k0_off2_at k).1 (k0_off2_at k).2.1 (k0_off2_at k).2.2 = ![(peer k d).val, 0, 0] := by decide +kernel

/-! ## The block product and its sum -/

/-- The point is the first of its rows. -/
abbrev isReset (i : grid0.Coords) : BitVec 1 := Scalar.cmpi .ne (Scalar.extui (Scalar.cmpi .eq (BitVec.ofNat 32 (i 2).val) 0#32) : BitVec 32) 0#32
/-- The point is neither the first nor the last of its rows. -/
abbrev isStep (i : grid0.Coords) : BitVec 1 :=
  Scalar.cmpi .ne (Scalar.extui (Scalar.andi (Scalar.cmpi .sgt (BitVec.ofNat 32 (i 2).val) 0#32) (Scalar.cmpi .slt (BitVec.ofNat 32 (i 2).val) 3#32)) : BitVec 32) 0#32

section Tile

variable (c : Dev nD) (a : Memref sig .tc .vmem S1024x1024 .bf16) (w : Memref sig .tc .vmem S1024x1024 .bf16) (o : Memref sig .tc .vmem S1024x1024 .f32)
  (X Y : S1024x1024.Idx → Elt F .bf16)

/-- The sum so far. -/
abbrev accM : Memref sig .tc .vmem S1024x1024 .f32 := Memref.whole cc0_scratch0
abbrev tiles (R : sProp (MT nD τ sig Unit (Elt F) ℕ (UU nD τ sig) ℕ)) : sProp 𝕄 :=
  iprop(owns (c : Thread nD τ) a fullShare X ∗ owns (c : Thread nD τ) w fullShare Y ∗ R)

abbrev someAcc : sProp 𝕄 := iprop(∃ d, owns (c : Thread nD τ) accM fullShare d)
abbrev theAcc (A : S1024x1024.Idx → Elt F .f32) : sProp 𝕄 := owns (c : Thread nD τ) accM fullShare A
abbrev someOut : sProp 𝕄 := iprop(∃ d, owns (c : Thread nD τ) o fullShare d)
abbrev theOut (A : S1024x1024.Idx → Elt F .f32) : sProp 𝕄 := owns (c : Thread nD τ) o fullShare A

variable {a w o}

/-- The first point of its rows starts the sum. -/
theorem wp_reset (R : sProp (MT nD τ sig Unit (Elt F) ℕ (UU nD τ sig) ℕ)) {ha hw h1 hs hm} {k : PUnit → Prog (TpuEff nD τ sig (Elt F) Λ₀ .tc) PUnit} {Q : PUnit → sProp 𝕄} :
    tiles c a w X Y iprop(someAcc c ∗ R)
      ⊢ iprop((tiles c a w X Y iprop(theAcc c (k0_pay2 X Y) ∗ R) -∗ wp frame (wpE (defs₀ (F := F)) 𝒱₀ c none) Set.univ (k ⟨⟩) Q)
          -∗ wp frame (wpE (defs₀ (F := F)) 𝒱₀ c none) Set.univ
            (.op (.load a (Rect.unit (s := S1024x1024) ![0, 0] S1024x1024.size inb_S1024x1024_S1024x1024_0_0).toLoadRect ha) fun v12 =>
              .op (.load w (Rect.unit (s := S1024x1024) ![0, 0] S1024x1024.size inb_S1024x1024_S1024x1024_0_0).toLoadRect hw) fun v14 =>
              .op (.load accM (Rect.unit (s := S1024x1024) ![0, 0] S1024x1024.size inb_S1024x1024_S1024x1024_0_0).toLoadRect h1) fun _ =>
              .op (.store accM (Rect.unit (s := S1024x1024) ![0, 0] S1024x1024.size inb_S1024x1024_S1024x1024_0_0) (k0_pay2 v12 v14) Finset.univ hs hm) k) Q) := by
  iintro ⟨Ha, Hw, ⟨%d, Hs⟩, HR⟩ Hk
  iapply (wp_read c X) $$ Ha; iintro Ha
  iapply (wp_read c Y) $$ Hw; iintro Hw
  iapply (wp_read c d) $$ Hs; iintro Hs
  iapply (wp_put c) $$ [Hs]; · (iexists d; iexact Hs)
  iintro Hs
  iapply Hk
  isplitl [Ha]; · iexact Ha
  isplitl [Hw]; · iexact Hw
  isplitl [Hs] <;> iassumption

/-- A later point adds to it. -/
theorem wp_step (A : S1024x1024.Idx → Elt F .f32) (R : sProp (MT nD τ sig Unit (Elt F) ℕ (UU nD τ sig) ℕ)) {ha hw h1 h2 hs hm} {k : PUnit → Prog (TpuEff nD τ sig (Elt F) Λ₀ .tc) PUnit} {Q : PUnit → sProp 𝕄} :
    tiles c a w X Y iprop(theAcc c A ∗ R)
      ⊢ iprop((tiles c a w X Y iprop(theAcc c (k0_pay3 X Y A) ∗ R) -∗ wp frame (wpE (defs₀ (F := F)) 𝒱₀ c none) Set.univ (k ⟨⟩) Q)
          -∗ wp frame (wpE (defs₀ (F := F)) 𝒱₀ c none) Set.univ
            (.op (.load a (Rect.unit (s := S1024x1024) ![0, 0] S1024x1024.size inb_S1024x1024_S1024x1024_0_0).toLoadRect ha) fun v12 =>
              .op (.load w (Rect.unit (s := S1024x1024) ![0, 0] S1024x1024.size inb_S1024x1024_S1024x1024_0_0).toLoadRect hw) fun v14 =>
              .op (.load accM (Rect.unit (s := S1024x1024) ![0, 0] S1024x1024.size inb_S1024x1024_S1024x1024_0_0).toLoadRect h1) fun v30 =>
              .op (.load accM (Rect.unit (s := S1024x1024) ![0, 0] S1024x1024.size inb_S1024x1024_S1024x1024_0_0).toLoadRect h2) fun _ =>
              .op (.store accM (Rect.unit (s := S1024x1024) ![0, 0] S1024x1024.size inb_S1024x1024_S1024x1024_0_0) (k0_pay3 v12 v14 v30) Finset.univ hs hm) k) Q) := by
  iintro ⟨Ha, Hw, Hs, HR⟩ Hk
  iapply (wp_read c X) $$ Ha; iintro Ha
  iapply (wp_read c Y) $$ Hw; iintro Hw
  iapply (wp_read c A) $$ Hs; iintro Hs
  iapply (wp_read c A) $$ Hs; iintro Hs
  iapply (wp_put c) $$ [Hs]; · (iexists A; iexact Hs)
  iintro Hs
  iapply Hk
  isplitl [Ha]; · iexact Ha
  isplitl [Hw]; · iexact Hw
  isplitl [Hs] <;> iassumption

/-- The last point of its rows writes the sum out. -/
theorem wp_out (A : S1024x1024.Idx → Elt F .f32) {ha hw h1 h2 hs hm} {k : PUnit → Prog (TpuEff nD τ sig (Elt F) Λ₀ .tc) PUnit} {Q : PUnit → sProp 𝕄} :
    tiles c a w X Y iprop(theAcc c A ∗ someOut c o)
      ⊢ iprop((tiles c a w X Y iprop(theAcc c A ∗ theOut c o (k0_pay4 X Y A)) -∗ wp frame (wpE (defs₀ (F := F)) 𝒱₀ c none) Set.univ (k ⟨⟩) Q)
          -∗ wp frame (wpE (defs₀ (F := F)) 𝒱₀ c none) Set.univ
            (.op (.load a (Rect.unit (s := S1024x1024) ![0, 0] S1024x1024.size inb_S1024x1024_S1024x1024_0_0).toLoadRect ha) fun v12 =>
              .op (.load w (Rect.unit (s := S1024x1024) ![0, 0] S1024x1024.size inb_S1024x1024_S1024x1024_0_0).toLoadRect hw) fun v14 =>
              .op (.load accM (Rect.unit (s := S1024x1024) ![0, 0] S1024x1024.size inb_S1024x1024_S1024x1024_0_0).toLoadRect h1) fun v30 =>
              .op (.load o (Rect.unit (s := S1024x1024) ![0, 0] S1024x1024.size inb_S1024x1024_S1024x1024_0_0).toLoadRect h2) fun _ =>
              .op (.store o (Rect.unit (s := S1024x1024) ![0, 0] S1024x1024.size inb_S1024x1024_S1024x1024_0_0) (k0_pay4 v12 v14 v30) Finset.univ hs hm) k) Q) := by
  iintro ⟨Ha, Hw, Hs, ⟨%d, Ho⟩⟩ Hk
  iapply (wp_read c X) $$ Ha; iintro Ha
  iapply (wp_read c Y) $$ Hw; iintro Hw
  iapply (wp_read c A) $$ Hs; iintro Hs
  iapply (wp_read c d) $$ Ho; iintro Ho
  iapply (wp_put c) $$ [Ho]; · (iexists d; iexact Ho)
  iintro Ho
  iapply Hk
  isplitl [Ha]; · iexact Ha
  isplitl [Hw]; · iexact Hw
  isplitl [Hs] <;> iassumption

end Tile

/-! ## The body at the points -/

section Points

variable (c : Dev nD) (i : grid0.Coords) {W : Waits sig Unit} (a : Memref sig .tc .vmem S1024x1024 .bf16) (ha : a.IsWhole) (w : Memref sig .tc .vmem S1024x1024 .bf16)
  (hw : w.IsWhole) (o : Memref sig .tc .vmem S1024x1024 .f32) (ho : o.IsWhole) (X Y : S1024x1024.Idx → Elt F .bf16)

abbrev body : Prog (TpuEff nD τ sig (Elt F) Λ₀ .tc) PUnit :=
  cc0_ff_in_dx i a ha w hw (Memref.whole main_arg2) (Memref.isWhole_whole _) o ho (Memref.whole main_v1_1) (Memref.isWhole_whole _) accM (Memref.isWhole_whole _) cc0_scratch1 cc0_scratch2 cc0_scratch3

theorem wp_mid_reset (R : sProp (MT nD τ sig Unit (Elt F) ℕ (UU nD τ sig) ℕ)) (h1 : ¬ k0_cond1 i = 1#1) (h2 : ¬ k0_cond5 i = 1#1) (e1 : isReset i = 1#1) (e2 : ¬ isStep i = 1#1) (e3 : ¬ k0_cond4 i = 1#1) {Q : PUnit → sProp 𝕄} :
    iprop(tiles c a w X Y iprop(someAcc c ∗ R) ∗ (tiles c a w X Y iprop(theAcc c (k0_pay2 X Y) ∗ R) -∗ Q ⟨⟩))
      ⊢ wp frame (wpE (defs₀ (F := F)) 𝒱₀ c none) Set.univ (body i a ha w hw o ho) Q := by
  simp only [body, cc0_ff_in_dx_eq_skeleton]; unfold cc0_ff_in_dx_skel
  simp only [dif_neg h1, dif_neg h2, dif_pos e1, dif_neg e2, dif_neg e3, Prog.lift, Prog.bind_op, Prog.bind_ret, Prog.pure_eq_ret]
  iintro ⟨HT, Hk⟩
  iapply (wp_reset c X Y R) $$ HT
  iintro HT
  rw [wp_ret]; imodintro
  iapply Hk; iexact HT

theorem wp_mid_step (A : S1024x1024.Idx → Elt F .f32) (R : sProp (MT nD τ sig Unit (Elt F) ℕ (UU nD τ sig) ℕ)) (h1 : ¬ k0_cond1 i = 1#1) (h2 : ¬ k0_cond5 i = 1#1) (e1 : ¬ isReset i = 1#1) (e2 : isStep i = 1#1) (e3 : ¬ k0_cond4 i = 1#1) {Q : PUnit → sProp 𝕄} :
    iprop(tiles c a w X Y iprop(theAcc c A ∗ R) ∗ (tiles c a w X Y iprop(theAcc c (k0_pay3 X Y A) ∗ R) -∗ Q ⟨⟩))
      ⊢ wp frame (wpE (defs₀ (F := F)) 𝒱₀ c none) Set.univ (body i a ha w hw o ho) Q := by
  simp only [body, cc0_ff_in_dx_eq_skeleton]; unfold cc0_ff_in_dx_skel
  simp only [dif_neg h1, dif_neg h2, dif_neg e1, dif_pos e2, dif_neg e3, Prog.lift, Prog.bind_op, Prog.bind_ret, Prog.pure_eq_ret]
  iintro ⟨HT, Hk⟩
  iapply (wp_step c X Y A R) $$ HT
  iintro HT
  rw [wp_ret]; imodintro
  iapply Hk; iexact HT

theorem wp_mid_out (A : S1024x1024.Idx → Elt F .f32) (h1 : ¬ k0_cond1 i = 1#1) (h2 : ¬ k0_cond5 i = 1#1) (e1 : ¬ isReset i = 1#1) (e2 : ¬ isStep i = 1#1) (e3 : k0_cond4 i = 1#1) {Q : PUnit → sProp 𝕄} :
    iprop(tiles c a w X Y iprop(theAcc c A ∗ someOut c o) ∗ (tiles c a w X Y iprop(theAcc c A ∗ theOut c o (k0_pay4 X Y A)) -∗ Q ⟨⟩))
      ⊢ wp frame (wpE (defs₀ (F := F)) 𝒱₀ c none) Set.univ (body i a ha w hw o ho) Q := by
  simp only [body, cc0_ff_in_dx_eq_skeleton]; unfold cc0_ff_in_dx_skel
  simp only [dif_neg h1, dif_neg h2, dif_neg e1, dif_neg e2, dif_pos e3, Prog.lift, Prog.bind_op, Prog.bind_ret, Prog.pure_eq_ret]
  iintro ⟨HT, Hk⟩
  iapply (wp_out c X Y A) $$ HT
  iintro HT
  rw [wp_ret]; imodintro
  iapply Hk; iexact HT

set_option maxHeartbeats 1600000 in
theorem wp_first (R : sProp (MT nD τ sig Unit (Elt F) ℕ (UU nD τ sig) ℕ)) (h1 : k0_cond1 i = 1#1) (h2 : ¬ k0_cond5 i = 1#1) (e1 : isReset i = 1#1) (e2 : ¬ isStep i = 1#1) (e3 : ¬ k0_cond4 i = 1#1) {Q : PUnit → sProp 𝕄} :
    iprop((plan m).Ready c ∗ owes (c : Thread nD τ) ((plan m).Owed c 0) W ∗ tiles c a w X Y iprop(someAcc c ∗ R)
        ∗ (((plan m).Flying c ∗ owes (c : Thread nD τ) 0 W ∗ tiles c a w X Y iprop(theAcc c (k0_pay2 X Y) ∗ R)) -∗ Q ⟨⟩))
      ⊢ wp frame (wpE (defs₀ (F := F)) 𝒱₀ c none) Set.univ (body i a ha w hw o ho) Q := by
  simp only [body, cc0_ff_in_dx_eq_skeleton]; unfold cc0_ff_in_dx_skel
  simp only [dif_pos h1, dif_neg h2, dif_pos e1, dif_neg e2, dif_neg e3, k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iintro ⟨HS, HO, HT, Hk⟩
  iapply ((plan m).wp_start 𝒱₀ c ⟨slotAt_eq (off1_eq c) _, slotAt_eq (off1_eq c) _, rfl⟩
    ⟨dev1_eq c _, slotAt_eq (off2_eq 0 c) _, slotAt_eq (off1_eq c) _, rfl, rfl⟩ ⟨dev2_eq c _, slotAt_eq (off2_eq 1 c) _, slotAt_eq (off1_eq c) _, rfl, rfl⟩
    ⟨dev3_eq c _, slotAt_eq (off2_eq 2 c) _, slotAt_eq (off1_eq c) _, rfl, rfl⟩ ⟨dev4_eq c _, slotAt_eq (off2_eq 3 c) _, slotAt_eq (off1_eq c) _, rfl, rfl⟩
    ⟨dev5_eq c _, slotAt_eq (off2_eq 4 c) _, slotAt_eq (off1_eq c) _, rfl, rfl⟩ ⟨dev6_eq c _, slotAt_eq (off2_eq 5 c) _, slotAt_eq (off1_eq c) _, rfl, rfl⟩
    ⟨dev7_eq c _, slotAt_eq (off2_eq 6 c) _, slotAt_eq (off1_eq c) _, rfl, rfl⟩) $$ [HS HO]
  · isplitl [HS] <;> iassumption
  iintro ⟨HS, HO⟩
  iapply (wp_reset c X Y R) $$ HT
  iintro HT
  rw [wp_ret]; imodintro
  iapply Hk
  isplitl [HS]; · iexact HS
  isplitl [HO] <;> iassumption

set_option maxHeartbeats 1600000 in
theorem wp_last (A : S1024x1024.Idx → Elt F .f32) (h1 : ¬ k0_cond1 i = 1#1) (h2 : k0_cond5 i = 1#1) (e1 : ¬ isReset i = 1#1) (e2 : ¬ isStep i = 1#1) (e3 : k0_cond4 i = 1#1) {Q : PUnit → sProp 𝕄} :
    iprop((plan m).Flying c ∗ owes (c : Thread nD τ) 0 W ∗ tiles c a w X Y iprop(theAcc c A ∗ someOut c o)
        ∗ (((plan m).Landed c ∗ (∃ W', owes (c : Thread nD τ) 0 W') ∗ tiles c a w X Y iprop(theAcc c A ∗ theOut c o (k0_pay4 X Y A))) -∗ Q ⟨⟩))
      ⊢ wp frame (wpE (defs₀ (F := F)) 𝒱₀ c none) Set.univ (body i a ha w hw o ho) Q := by
  simp only [body, cc0_ff_in_dx_eq_skeleton]; unfold cc0_ff_in_dx_skel
  simp only [dif_neg h1, dif_pos h2, dif_neg e1, dif_neg e2, dif_pos e3, k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  simp only [Prog.lift, Prog.bind_op, Prog.bind_ret, Prog.pure_eq_ret]
  iintro ⟨HS, HO, HT, Hk⟩
  iapply (wp_out c X Y A) $$ HT
  iintro HT
  simp only [wp_deviceId]
  iapply ((plan m).wp_finish 𝒱₀ c ⟨rfl, rfl⟩ ⟨rfl, rfl⟩ ⟨rfl, rfl⟩ ⟨rfl, rfl⟩ ⟨rfl, rfl⟩ ⟨rfl, rfl⟩ ⟨rfl, rfl⟩ ⟨rfl, rfl⟩
    ⟨rfl, rfl⟩ ⟨rfl, rfl⟩ ⟨rfl, rfl⟩ ⟨rfl, rfl⟩ ⟨rfl, rfl⟩ ⟨rfl, rfl⟩ ⟨rfl, rfl⟩) $$ [HS HO]
  · isplitl [HS] <;> iassumption
  iintro ⟨HS, HO⟩
  rw [wp_ret]; imodintro
  iapply Hk
  isplitl [HS]; · iexact HS
  isplitl [HO] <;> iassumption

end Points

end Cert.FfInDxIdeal.Swap

end
-- ==== Proof.FfInDxRun.lean ====
/-
  The run of the gradient of the first feed-forward projection's input: what the pipeline's arrays hold after it, and what the
  exchange leaves.
-/
module

public import proofs.«01_k».proof.Proof.Runs
public import proofs.«01_k».proof.Proof.Fold
public import proofs.«01_k».proof.Proof.FfInDxBody

@[expose] public section

noncomputable section

namespace Cert.FfInDxIdeal.Swap

open Cert.FfInDxIdeal Cert.FfInDxIdeal.Gen Cert.Exchange Cert.Fold
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UU nD τ sig) ℕ

variable (m : (ℓ : Loc nD τ sig) → Buf (Elt F) ℓ) (ρ : Dev nD → PrngReg)

theorem cond1_iff : ∀ t : Fin grid0.N, k0_cond1 (grid0.coords t) = 1#1 ↔ t.val = 0 := by decide +kernel
theorem cond5_iff : ∀ t : Fin grid0.N, k0_cond5 (grid0.coords t) = 1#1 ↔ t.val + 1 = 32 := by decide +kernel
theorem reset_iff : ∀ t : Fin grid0.N, isReset (grid0.coords t) = 1#1 ↔ t.val % 4 = 0 := by decide +kernel
theorem step_iff : ∀ t : Fin grid0.N, isStep (grid0.coords t) = 1#1 ↔ ¬ t.val % 4 = 0 ∧ ¬ t.val % 4 = 3 := by decide +kernel
theorem out_iff : ∀ t : Fin grid0.N, k0_cond4 (grid0.coords t) = 1#1 ↔ t.val % 4 = 3 := by decide +kernel
theorem idle_iff : ∀ t : Fin grid0.N, cfg0.idle 2 (grid0.coords t) = true ↔ ¬ t.val % 4 = 3 := by decide +kernel

/-- The point of a number. -/
def pt (n : ℕ) : Fin cfg0.N := ⟨n % 32, lt_of_lt_of_eq (Nat.mod_lt _ (by decide)) N_0.symm⟩
theorem pt_val (t : Fin cfg0.N) : pt t.val = t := Fin.ext (Nat.mod_eq_of_lt (lt_of_lt_of_eq t.isLt N_0))

/-- The sum over the points of the same rows up to point `n`. -/
def total (c : Dev nD) : ℕ → S1024x1024.Idx → Elt F .f32 :=
  running 4 (fun n => k0_pay2 (iblk m c 0 (pt n)) (iblk m c 1 (pt n))) fun n A => k0_pay3 (iblk m c 0 (pt n)) (iblk m c 1 (pt n)) A
/-- The block of the product that point `t`, the last of its rows, writes. -/
def prod (c : Dev nD) (t : Fin cfg0.N) : S1024x1024.Idx → Elt F .f32 := k0_pay4 (iblk m c 0 t) (iblk m c 1 t) (total m c (t.val - 1))
/-- The sum so far, as the points before `n` leave it. -/
def sum (c : Dev nD) (n : ℕ) : sProp 𝕄 := if n % 4 = 0 then someAcc c else theAcc c (total m c (n - 1))

theorem sum_some (c : Dev nD) {n : ℕ} (h : n % 4 = 0) : sum m c n = someAcc c := if_pos h
theorem sum_the (c : Dev nD) {n : ℕ} (h : ¬ n % 4 = 0) : sum m c n = theAcc c (total m c (n - 1)) := if_neg h
theorem total_start (c : Dev nD) (t : Fin cfg0.N) (h : t.val % 4 = 0) : total m c t.val = k0_pay2 (iblk m c 0 t) (iblk m c 1 t) :=
  (running_start h).trans (by rw [pt_val])
theorem total_next (c : Dev nD) (t : Fin cfg0.N) (h : ¬ t.val % 4 = 0) : total m c t.val = k0_pay3 (iblk m c 0 t) (iblk m c 1 t) (total m c (t.val - 1)) :=
  (running_next h).trans (by rw [pt_val]; rfl)

def dats (_ : Fin 1) (c : Dev nD) : Dat τ (Elt F) Unit ℕ (UU nD τ sig) ℕ cfg0 c where
  A w := V m c (Pipeline.arrRef spec0 w)
  after w t := match w with
    | ⟨0, _⟩ => iblk m c 0 t
    | ⟨1, _⟩ => iblk m c 1 t
    | ⟨2, _⟩ => prod m c t
    | ⟨_ + 3, h⟩ => absurd h (Nat.not_lt.2 (Nat.le_add_left _ _))
  Φ t := iprop((plan m).held 32 c t.val ∗ sum m c t.val)
  q _ := fullShare
  owed t := (plan m).owing c t.val

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The output's buffer before and after point `t`. -/
def outPre (c : Dev nD) (t : Fin cfg0.N) : sProp 𝕄 := iprop(∃ d, owns (c : Thread nD τ) (st0_2 t) fullShare ((dats m 0 c).before 2 t d))
def outPost (c : Dev nD) (t : Fin cfg0.N) : sProp 𝕄 := if t.val % 4 = 3 then theOut c (st0_2 t) (prod m c t) else outPre m c t

def bodyPre (c : Dev nD) (t : Fin cfg0.N) : sProp 𝕄 :=
  iprop(((plan m).held 32 c t.val ∗ sum m c t.val) ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ outPre m c t)
def bodyPost (c : Dev nD) (t : Fin cfg0.N) : sProp 𝕄 :=
  iprop(((plan m).held 32 c (t.val + 1) ∗ sum m c (t.val + 1)) ∗ (dats m 0 c).owesAt () t.succ
    ∗ owns (c : Thread nD τ) (st0_0 t) fullShare (iblk m c 0 t)
    ∗ owns (c : Thread nD τ) (st0_1 t) fullShare (iblk m c 1 t)
    ∗ outPost m c t)

/-- One point, from what it does to the sum and to the output. -/
theorem sound_point (c : Dev nD) (t : Fin cfg0.N) {W : Waits sig Unit} {Q : PUnit → sProp 𝕄} :
    iprop((plan m).held 32 c t.val ∗ owes (c : Thread nD τ) ((plan m).owing c t.val) W
        ∗ tiles c (st0_0 t) (st0_1 t) (iblk m c 0 t) (iblk m c 1 t) iprop(sum m c t.val ∗ outPre m c t)
        ∗ (((plan m).held 32 c (t.val + 1) ∗ (∃ W', owes (c : Thread nD τ) ((plan m).owing c (t.val + 1)) W')
          ∗ tiles c (st0_0 t) (st0_1 t) (iblk m c 0 t) (iblk m c 1 t) iprop(sum m c (t.val + 1) ∗ outPost m c t)) -∗ Q ⟨⟩))
      ⊢ wp frame (wpE (defs₀ (F := F)) 𝒱₀ c none) Set.univ (bodyAt0 t) Q := by
  have hN : t.val < 32 := lt_of_lt_of_eq t.isLt N_0
  unfold outPost
  by_cases h0 : t.val % 4 = 0
  · rw [sum_some m c h0, sum_the m c (n := t.val + 1) (by omega), Nat.add_sub_cancel, total_start m c t h0, if_neg (by omega : ¬ t.val % 4 = 3)]
    have e1 := (reset_iff t).mpr h0
    have e2 : ¬ isStep (grid0.coords t) = 1#1 := fun e => ((step_iff t).mp e).1 h0
    have e3 : ¬ k0_cond4 (grid0.coords t) = 1#1 := fun e => by have := (out_iff t).mp e; omega
    exact (plan m).step 32 c t.val (by decide) hN
      (fun h => wp_first m c (grid0.coords t) (st0_0 t) _ (st0_1 t) _ (st0_2 t) _ _ _ _ ((cond1_iff t).mpr h) (fun e => by have := (cond5_iff t).mp e; omega) e1 e2 e3)
      (fun h h' => wp_mid_reset c (grid0.coords t) (st0_0 t) _ (st0_1 t) _ (st0_2 t) _ _ _ _ (fun e => h ((cond1_iff t).mp e)) (fun e => h' ((cond5_iff t).mp e)) e1 e2 e3)
      (fun h h' => absurd h' (by omega))
  · have e1 : ¬ isReset (grid0.coords t) = 1#1 := fun e => h0 ((reset_iff t).mp e)
    have n0 : t.val ≠ 0 := fun e => h0 (by rw [e])
    rw [sum_the m c h0]
    by_cases h3 : t.val % 4 = 3
    · have e2 : ¬ isStep (grid0.coords t) = 1#1 := fun e => ((step_iff t).mp e).2 h3
      have e3 := (out_iff t).mpr h3
      rw [sum_some m c (n := t.val + 1) (by omega), if_pos h3]
      unfold outPre
      refine BIBase.Entails.trans ?_ ((plan m).step 32 c t.val (by decide) hN (W := W) (fun h => absurd h n0)
        (fun h h' => wp_mid_out c (grid0.coords t) (st0_0 t) _ (st0_1 t) _ (st0_2 t) _ (iblk m c 0 t) (iblk m c 1 t) (total m c (t.val - 1))
          (fun e => h ((cond1_iff t).mp e)) (fun e => h' ((cond5_iff t).mp e)) e1 e2 e3)
        (fun h h' => wp_last m c (grid0.coords t) (st0_0 t) _ (st0_1 t) _ (st0_2 t) _ _ _ (total m c (t.val - 1))
          (fun e => h ((cond1_iff t).mp e)) ((cond5_iff t).mpr h') e1 e2 e3))
      iintro ⟨HS, HO, ⟨H0, H1, HA, ⟨%d, H2⟩⟩, Hk⟩
      isplitl [HS]; · iexact HS
      isplitl [HO]; · iexact HO
      isplitl [H0 H1 HA H2]
      · isplitl [H0]; · iexact H0
        isplitl [H1]; · iexact H1
        isplitl [HA]; · iexact HA
        iexists _; iexact H2
      iintro ⟨HS, HO, H0, H1, HA, H2⟩
      iapply Hk
      isplitl [HS]; · iexact HS
      isplitl [HO]; · iexact HO
      isplitl [H0]; · iexact H0
      isplitl [H1]; · iexact H1
      isplitl [HA]; · (iexists _; iexact HA)
      iexact H2
    · have e2 := (step_iff t).mpr ⟨h0, h3⟩
      have e3 : ¬ k0_cond4 (grid0.coords t) = 1#1 := fun e => h3 ((out_iff t).mp e)
      rw [sum_the m c (n := t.val + 1) (by omega), Nat.add_sub_cancel, total_next m c t h0, if_neg h3]
      exact (plan m).step 32 c t.val (by decide) hN (fun h => absurd h n0)
        (fun h h' => wp_mid_step c (grid0.coords t) (st0_0 t) _ (st0_1 t) _ (st0_2 t) _ _ _ _ _ (fun e => h ((cond1_iff t).mp e)) (fun e => h' ((cond5_iff t).mp e)) e1 e2 e3)
        (fun h h' => absurd h' (by omega))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost Dat.owesAt Pipeline.owesWithin
  simp only [before0, before1]
  rw [show (dats m 0 c).owed t.castSucc = (plan m).owing c t.val from rfl, show (dats m 0 c).owed t.succ = (plan m).owing c (t.val + 1) from rfl]
  iintro ⟨⟨HS, HA⟩, ⟨%W, %hW, HO⟩, ⟨%d0, H0⟩, ⟨%d1, H1⟩, H2⟩
  iapply (sound_point m c t)
  isplitl [HS]; · iexact HS
  isplitl [HO]; · iexact HO
  isplitl [H0 H1 HA H2]
  · isplitl [H0]; · iexact H0
    isplitl [H1]; · iexact H1
    isplitl [HA] <;> iassumption
  iintro ⟨HS, ⟨%W', HO⟩, H0, H1, HA, H2⟩
  isplitl [HS HA]
  · isplitl [HS] <;> iassumption
  isplitl [HO]
  · iexists W'; isplitr; · ipureintro; exact fun _ _ => Or.inl trivial
    iexact HO
  isplitl [H0]; · iexact H0
  isplitl [H1]; · iexact H1
  iexact H2

theorem flush_false (t : Fin cfg0.N) (h : ¬ t.val % 4 = 3) : (cfg0.win 2).flush t = false :=
  Bool.eq_false_iff.mpr fun e => h ((flush0_2 t).mp e)

theorem out_close (c : Dev nD) (t : Fin cfg0.N) : outPost m c t ⊢ (match cfg0.idle 2 (grid0.coords t) with
    | true => match (cfg0.win 2).flush t with
      | false => iprop(∃ d, owns (c : Thread nD τ) (st0_2 t) fullShare ((dats m 0 c).before 2 t d))
      | true => owns (c : Thread nD τ) (st0_2 t) fullShare (prod m c t)
    | false => owns (c : Thread nD τ) (st0_2 t) fullShare (prod m c t) : sProp 𝕄) := by
  unfold outPost
  by_cases h : t.val % 4 = 3
  · rw [if_pos h, Bool.eq_false_iff.mpr (fun e => (idle_iff t).mp e h)]
  · rw [if_neg h, (idle_iff t).mpr h, flush_false t h]; exact .rfl

theorem defs₀_row (t : Fin cfg0.N) : defs₀ (F := F) .tc cfg0.body (cfg0.bodyArgs t (cfg0.slots t)) = bodyAt0 t := by
  unfold defs₀; rw [Defs.onTc_tc]

theorem body_close (c : Dev nD) (t : Fin cfg0.N) : bodyPost m c t ⊢ (iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ (match cfg0.idle 2 (grid0.coords t) with
    | true => match (cfg0.win 2).flush t with
      | false => iprop(∃ d, owns (c : Thread nD τ) (st0_2 t) fullShare ((dats m 0 c).before 2 t d))
      | true => owns (c : Thread nD τ) (st0_2 t) fullShare (prod m c t)
    | false => owns (c : Thread nD τ) (st0_2 t) fullShare (prod m c t))) : sProp 𝕄) := by
  unfold bodyPost
  rw [show (dats m 0 c).Φ t.succ = iprop((plan m).held 32 c (t.val + 1) ∗ sum m c (t.val + 1)) from rfl]
  iintro ⟨HS, HO, H0, H1, H2⟩
  isplitl [HS]; · iexact HS
  isplitl [HO]; · iexact HO
  isplitl [H0]; · iexact H0
  isplitl [H1]; · iexact H1
  iapply (out_close m c t); iexact H2

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => body_close m c t

theorem ownSemFacts : Pipeline.OwnSemFacts cfg0.spec fun j => SemLoc.dma (dsem j) := by decide

theorem hold_in (c : Dev nD) :
    iprop((((c : Thread nD τ).loc main_arg2) ↦{fullShare} m ((c : Thread nD τ).loc main_arg2)) ∗ ((c : Thread nD τ).loc main_v1_1) ↦{fullShare} m ((c : Thread nD τ).loc main_v1_1))
      ⊢ (iprop((plan m).mine c ∗ bigSep Finset.univ fun k => (plan m).give c k) : sProp 𝕄) := by
  rw [← owns_whole (c : Thread nD τ) main_arg2, ← owns_whole (c : Thread nD τ) main_v1_1]
  exact swap_hold (Memref.whole main_arg2) (Memref.whole main_v1_1) squeezes_S1x1024x512_S1024x512 dsem _ _ (parts m) c _

theorem back_out (c : Dev nD) : (plan m).Landed c
    ⊢ (iprop(Pipeline.ownSems0 (Ix := Unit) (Name := ℕ) (U := UU 8 τ sig) (Lvl := ℕ) (Val := Elt F) (τ := τ) (plan m).osem c
        ∗ (((c : Thread nD τ).loc main_arg2) ↦{fullShare} m ((c : Thread nD τ).loc main_arg2))
        ∗ ((c : Thread nD τ).loc main_v1_1) ↦{fullShare} swapped (parts m) c) : sProp 𝕄) := by
  rw [← owns_whole (c : Thread nD τ) main_arg2, ← owns_whole (c : Thread nD τ) main_v1_1]
  exact swap_back (Memref.whole main_arg2) (Memref.whole main_v1_1) squeezes_S1x1024x512_S1024x512 dsem _ _ (parts m) c

theorem acc_owns (c : Dev nD) (f) : (((c : Thread nD τ).loc cc0_scratch0) ↦{fullShare} f : sProp 𝕄) ⊢ theAcc c f := by
  rw [theAcc, owns_whole]
theorem acc_pts (c : Dev nD) (f) : (theAcc c f : sProp 𝕄) ⊢ ((c : Thread nD τ).loc cc0_scratch0) ↦{fullShare} f := by
  rw [theAcc, owns_whole]
theorem acc_in (c : Dev nD) {P : sProp 𝕄} : iprop(P ∗ ∃ f, ((c : Thread nD τ).loc cc0_scratch0) ↦{fullShare} f) ⊢ (iprop(P ∗ someAcc c) : sProp 𝕄) := by
  iintro ⟨H, ⟨%f, Hf⟩⟩
  isplitl [H]; · iexact H
  iexists f
  iapply (acc_owns c f); iexact Hf
theorem acc_out (c : Dev nD) {P : sProp 𝕄} : (iprop(P ∗ someAcc c) : sProp 𝕄) ⊢ iprop(P ∗ ∃ f, ((c : Thread nD τ).loc cc0_scratch0) ↦{fullShare} f) := by
  iintro ⟨H, ⟨%f, Hf⟩⟩
  isplitl [H]; · iexact H
  iexists f
  iapply (acc_pts c f); iexact Hf

theorem run_main : θ_run defs (onTc (τ := τ) (main (F := F))) ⟨m, fun _ => 0, ρ⟩ fun r =>
    (∀ c : Dev nD, (∀ w, r.2.mem (((cfg0.win w).arr.view.loc (c : Thread nD τ))) = (dats m 0 c).arrAt w cfg0.N)
      ∧ r.2.mem ((c : Thread nD τ).loc main_arg2) = m ((c : Thread nD τ).loc main_arg2)
      ∧ r.2.mem ((c : Thread nD τ).loc main_v1_1) = swapped (parts m) c) ∧ r.2.sem = fun _ => 0 :=
  (θ_run defs _ _).mono (fun _ h => ⟨h.1, sem_eq_zero_of_scoped (by decide) h.2⟩)
    ((plan m).run cfgs (dats m) cellOf_inj winFacts0 ownSemFacts defs₀ 𝒱₀ m ρ main (fun _ => rfl) (body_obligation m) block_pos0 arr_whole0 stage_whole0
      (fun _ _ => rfl) (fun _ _ => rfl) (fun _ _ => rfl) (by decide) main_arg2 main_v1_1 (swapped (parts m))
      (fun c => unscopedRest0_eq c _)
      (hold_in m) (back_out m)
      (fun c => by
        rw [scopedRest0_eq]
        show _ ⊢ iprop((plan m).held 32 c 0 ∗ sum m c 0)
        rw [Plan.held_zero, sum_some m c rfl]
        exact acc_in c)
      (fun c => by
        rw [scopedRest0_eq]
        show iprop((plan m).held 32 c (Fin.last cfg0.N).val ∗ sum m c (Fin.last cfg0.N).val) ⊢ _
        rw [show (Fin.last cfg0.N).val = 32 from N_0, Plan.held_last _ _ _ (by decide), sum_some m c rfl]
        exact acc_out c))

end Cert.FfInDxIdeal.Swap

end
-- ==== Proof.FfInDxValue.lean ====
/-
  The gradient of the feed-forward layer's input, over the extended reals: the array the grid's blocks fill is this
  device's rows of the whole product.
-/
module

public import proofs.«01_k».proof.Proof.Values
public import proofs.«01_k».proof.Proof.FfInDxRun
public import proofs.«01_k».proof.Proof.Gen.FfInDxRefIdeal

@[expose] public section

noncomputable section

namespace Cert.FfInDxIdeal.Swap

open Cert.FfInDxIdeal Cert.FfInDxIdeal.Gen Cert.Exchange
open Idealize.ShloMosaic Idealize.ShloMosaic.TcCoe
open Idealize.SL Idealize.SL.Sem

/-- One block of the product, at an index. -/
theorem tile_apply (x w : S1024x1024.Idx → Elt Ideal .bf16) (i : S1024x1024.Idx) :
    k0_pay1 x w i = ∑ k : Fin 1024, (x (ValueIdx.ix2 (i 0) k) * w (ValueIdx.ix2 (i 1) k) : EReal) := by
  refine (Values.block_apply (M := 1024) (K := 1024) (N := 1024) _ _ i).trans ?_
  refine Finset.sum_congr rfl fun k _ => ?_
  rw [shapeCast_id, shapeCast_id]

variable (m : (ℓ : Loc nD τ sig) → Buf (Elt Ideal) ℓ)

/-- What point `n` adds to its block, at an index. -/
def term (c : Dev nD) (y : S1024x1024.Idx) (n : ℕ) : EReal :=
  ∑ k : Fin 1024, (show EReal from iblk m c 0 (pt n) (ValueIdx.ix2 (y 0) k)) * (show EReal from iblk m c 1 (pt n) (ValueIdx.ix2 (y 1) k))

theorem total_apply (c : Dev nD) (y : S1024x1024.Idx) (n : ℕ) :
    (total m c n y : EReal) = ∑ s ∈ Finset.range (n % 4 + 1), term m c y (4 * (n / 4) + s) := by
  refine Values.running_sum _ _ (fun A : S1024x1024.Idx → Elt Ideal .f32 => (A y : EReal)) (term m c y) ?_ ?_ n
  · intro n _
    exact (congrFun (shapeCast_id (k0_pay1 (iblk m c 0 (pt n)) (iblk m c 1 (pt n))) _) y).trans (tile_apply _ _ y)
  · intro n A
    refine (congrFun (shapeCast_id (addf A (k0_pay1 (iblk m c 0 (pt n)) (iblk m c 1 (pt n)))) _) y).trans ?_
    exact congrArg (fun z : EReal => A y + z) (tile_apply _ _ y)

/-- The rows times the transposed weights, at an index. -/
def product (x : S8192x4096.Idx → EReal) (w : S1024x4096.Idx → EReal) : S8192x1024.Idx → EReal :=
  fun i => ∑ k : Fin 4096, x (ValueIdx.ix2 (i 0) k) * w (ValueIdx.ix2 (i 1) k)

/-- Which blocks of the operands a point multiplies. -/
theorem index_eq : ∀ t : Fin grid0.N, win0_0.index t 0 = t.val / 4 ∧ win0_0.index t 1 = t.val % 4 ∧ win0_1.index t 0 = 0
    ∧ win0_1.index t 1 = t.val % 4 ∧ win0_2.index t 0 = t.val / 4 ∧ win0_2.index t 1 = 0 := by decide +kernel

/-- After the run the first result's array is the product. -/
theorem out_eq (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 32 := lt_of_lt_of_eq t.isLt N_0
  show prod m c t y = _
  refine (show (prod m c t y : EReal) = total m c t.val y from ?_).trans ?_
  · rw [total_next m c t (by omega)]
    exact (congrFun (shapeCast_id (k0_pay4 (iblk m c 0 t) (iblk m c 1 t) (total m c (t.val - 1))) _) y).symm
  rw [total_apply, h3, Finset.sum_range]
  refine Fin.sum_mul_add_congr (S := 4) (n := 1024) (L := 4096) fun s k hl => ?_
  have hp : (pt (4 * (t.val / 4) + s.val)).val = 4 * (t.val / 4) + s.val := Nat.mod_eq_of_lt (by have := s.isLt; omega)
  have hs : s.val < 4 := s.isLt
  obtain ⟨e0, e1, e2, e3, -, -⟩ := index_eq (pt (4 * (t.val / 4) + s.val))
  obtain ⟨-, -, -, -, e4, e5⟩ := index_eq t
  rw [hp] at e0 e1 e3
  congr 1 <;> blk_ext [iblk, V]
  · show win0_0.index (pt (4 * (t.val / 4) + s.val)) 0 * 1024 + (y 0).val = ((win0_2.rect t).emb y 0).val
    rw [win0_2.rect_emb_val t y 0, e0, e4]
    show (4 * (t.val / 4) + s.val) / 4 * 1024 + (y 0).val = t.val / 4 * 1024 + (y 0).val
    omega
  · show win0_0.index (pt (4 * (t.val / 4) + s.val)) 1 * 1024 + k.val = s.val * 1024 + k.val
    rw [e1]; omega
  · show win0_1.index (pt (4 * (t.val / 4) + s.val)) 0 * 1024 + (y 1).val = ((win0_2.rect t).emb y 1).val
    rw [win0_2.rect_emb_val t y 1, e2, e5]; rfl
  · show win0_1.index (pt (4 * (t.val / 4) + s.val)) 1 * 1024 + k.val = s.val * 1024 + k.val
    rw [e3]; omega

open Cert.FfInDxRefIdeal.Gen in
/-- A block of rows of the whole product is the product of that block of rows. -/
theorem product_block (c : Dev nD) (x : Cert.FfInDxRefIdeal.S65536x4096.Idx → Elt Ideal .bf16) (w : Cert.FfInDxIdeal.S1024x4096.Idx → Elt Ideal .bf16) :
    product (Layout.block ⟨2, ![8192, 4096]⟩ ⟨2, ![65536, 4096]⟩ 0 8 c x) w
      = Layout.block ⟨2, ![8192, 1024]⟩ ⟨2, ![65536, 1024]⟩ 0 8 c
          (Host.dotGeneral (F := Ideal) Cert.FfInDxRefIdeal.dot_S65536x4096_S4096x1024_S65536x1024_1_0_0_1_n_n none
            (extf .f32 x Cert.FfInDxRefIdeal.Facts₀.bitsLt_bf16_f32)
            (transpose Cert.FfInDxRefIdeal.S4096x1024 [1, 0] (extf .f32 w Cert.FfInDxRefIdeal.Facts₀.bitsLt_bf16_f32)
              Cert.FfInDxRefIdeal.Facts₀.transposes_S1024x4096_S4096x1024_1_0)) := by
  funext i
  rw [Layout.block_apply]
  refine Eq.trans ?_ (Values.dot_apply (M := 65536) (K := 4096) (N := 1024) _ _ _ _).symm
  refine Finset.sum_congr rfl fun k _ => ?_
  refine congrArg₂ (fun a b : EReal => a * b) (congrArg x ?_) (congrArg w ?_) <;> funext b <;> apply Fin.ext <;> fin_cases b <;> rfl

end Cert.FfInDxIdeal.Swap

end
-- ==== Proof.FfInDxClaim.lean ====
/-
  The claims about the gradient of the feed-forward layer's input, put together.
-/
module

public import proofs.«01_k».proof.Defs
public import proofs.«01_k».proof.Proof.FfInDxValue
public import proofs.«01_k».proof.Proof.Gen.FfInDx
public import proofs.«01_k».proof.Proof.Gen.FfInDxRefIdeal.Run
public import Idealize.ShloMosaic.Adequacy
public import Idealize.ShloMosaic.Init

@[expose] public section

noncomputable section

namespace Cert.FfInDxIdeal.Swap

open Cert.FfInDxIdeal Cert.FfInDxIdeal.Gen Cert.Exchange
open Idealize.ShloMosaic Idealize.ShloMosaic.TcCoe Idealize.SL.Sem

/-- After the run the arguments are as they were, and the results are the grid's blocks and the parts exchanged. -/
theorem read_back {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v1_0) = (dats m 0 c).arrAt 2 cfg0.N
        ∧ r.2.mem ((c : Thread nD τ).loc main_v1_1) = swapped (parts m) c)
      ∧ r.2.sem = fun _ => 0 :=
  (θ_run defs _ _).mono (fun _ h => ⟨fun c => ⟨⟨((h.1 c).1 0).trans ((dats m 0 c).arrAt_in 0 rfl _), ((h.1 c).1 1).trans ((dats m 0 c).arrAt_in 1 rfl _), (h.1 c).2.1⟩,
      (h.1 c).1 2, (h.1 c).2.2⟩, h.2⟩) (run_main m ρ)

/-- The run of `read_back`, its results dropped. -/
theorem frame_of {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0 :=
  (θ_run defs _ _).mono (fun _ h => ⟨fun c => (h.1 c).1, h.2⟩) (read_back m ρ)

/-- The two programs have the same body table: the one kernel is the same function. -/
theorem bodies_eq : Cert.FfInDx.defs₀ (F := Bits) = Cert.FfInDxIdeal.defs₀ (F := Bits) := by
  unfold Cert.FfInDx.defs₀ Cert.FfInDxIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.FfInDx.defs (F := Bits) = Cert.FfInDxIdeal.defs (F := Bits) := congrArg (Pipeline.defs Cert.FfInDxIdeal.pcfgs) bodies_eq

theorem frame_bits : Cert.quiescent_FfInDx (hFfInDx := Cert.FfInDx.Gen.facts) := fun m ρ _ => by
  rw [table_eq]; exact frame_of (F := Bits) m ρ

theorem frame_ideal : Cert.quiescent_FfInDxIdeal (hFfInDxIdeal := Cert.FfInDxIdeal.Gen.facts) := fun m ρ _ => frame_of m ρ

theorem frame_reference : Cert.quiescent_FfInDxRefIdeal (hFfInDxRefIdeal := Cert.FfInDxRefIdeal.Gen.facts) := fun m ρ _ =>
  (θ_run Cert.FfInDxRefIdeal.defs _ _).mono (fun r h => ⟨fun c => (h c).2.2, sem_eq_zero_of_no_sems (by decide) r.2⟩)
    (Cert.FfInDxRefIdeal.Value.run m ρ)

theorem values : Cert.algebraic_FfInDxIdeal_FfInDxRefIdeal (hFfInDxIdeal := Cert.FfInDxIdeal.Gen.facts) (hFfInDxRefIdeal := Cert.FfInDxRefIdeal.Gen.facts) := fun m ρ m' ρ' _ h => by
  refine ⟨_, _, (θ_run Cert.FfInDxIdeal.defs _ _).mono (fun r hr c => ?_) (read_back m ρ),
    (θ_run Cert.FfInDxRefIdeal.defs _ _).mono (fun _ h => h 0) (Cert.FfInDxRefIdeal.Value.run m' ρ')⟩
  obtain ⟨⟨h0, h1, h2⟩, hp, hx⟩ := hr.1 c
  refine ⟨?_, ?_, h0, h1, h2⟩
  · refine (hp.trans (out_eq m c)).trans ?_
    rw [(h c).1, (h c).2.1]
    exact product_block c _ _
  · exact hx.trans (Values.swapped_eq (by decide) _ (parts m) (fun d => (h d).2.2) _ _ _ c)

end Cert.FfInDxIdeal.Swap

end
-- ==== Proof.OutDxBody.lean ====
/-
  The gradient of the output projection's input, at one grid point: every point multiplies its gated block of rows with
  the transposed weights; the first also starts the exchange of the weight gradient's parts, the last waits for it.
-/
module

public import proofs.«01_k».proof.Proof.Stages
public import proofs.«01_k».proof.Proof.Tiles
public import proofs.«01_k».proof.Proof.Gen.OutDxIdeal
public import proofs.«01_k».proof.Proof.Gen.OutDxIdeal.Skeleton
public import proofs.«01_k».proof.Proof.Gen.OutDxIdeal.Frame

@[expose] public section

noncomputable section

namespace Cert.OutDxIdeal.Swap

open Cert.OutDxIdeal Cert.OutDxIdeal.Gen Cert.Exchange Cert.Tiles
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

abbrev 𝒱₀ : Variants := Variants.none

/-! ## The exchange -/

def dsem : Part → DmaSem sig
  | .inl k => (![6, 7, 8, 9, 10, 11, 12] : Fin 7 → DmaSem sig) k
  | .inr (.inl k) => (![13, 14, 15, 16, 17, 18, 19] : Fin 7 → DmaSem sig) k
  | .inr (.inr _) => 20

variable (m : (ℓ : Loc nD τ sig) → Buf (Elt F) ℓ)

/-- The parts that device `c` sends: slot `d` goes to device `d`. -/
def parts (c : Fin 8) : S8x128x1024.Idx → Elt F .bf16 := m (((c : Dev nD) : Thread nD τ).loc main_arg3)
def plan : Plan sig (Elt F) S128x1024 .bf16 :=
  swapPlan (Memref.whole main_arg3) (Memref.whole main_v1_1) squeezes_S1x128x1024_S128x1024 dsem (by decide) (by decide) (parts m)

theorem dev1_eq (d : Dev nD) (h) : (⟨k0_dev1 d, h⟩ : Dev nD) = peer 0 d := Fin.ext (by revert d; decide +kernel)
theorem dev2_eq (d : Dev nD) (h) : (⟨k0_dev2 d, h⟩ : Dev nD) = peer 1 d := Fin.ext (by revert d; decide +kernel)
theorem dev3_eq (d : Dev nD) (h) : (⟨k0_dev3 d, h⟩ : Dev nD) = peer 2 d := Fin.ext (by revert d; decide +kernel)
theorem dev4_eq (d : Dev nD) (h) : (⟨k0_dev4 d, h⟩ : Dev nD) = peer 3 d := Fin.ext (by revert d; decide +kernel)
theorem dev5_eq (d : Dev nD) (h) : (⟨k0_dev5 d, h⟩ : Dev nD) = peer 4 d := Fin.ext (by revert d; decide +kernel)
theorem dev6_eq (d : Dev nD) (h) : (⟨k0_dev6 d, h⟩ : Dev nD) = peer 5 d := Fin.ext (by revert d; decide +kernel)
theorem dev7_eq (d : Dev nD) (h) : (⟨k0_dev7 d, h⟩ : Dev nD) = peer 6 d := Fin.ext (by revert d; decide +kernel)
theorem off1_eq : ∀ d : Dev nD, k0_off1 d = ![d.val, 0, 0] := by decide +kernel
theorem off2_eq : ∀ (k : Fin 7) (d : Dev nD), k0_off2 d (k0_off2_at k).1 (k0_off2_at k).2.1 (k0_off2_at k).2.2 = ![(peer k d).val, 0, 0] := by decide +kernel

/-! ## The block product -/

section Tile

variable (c : Dev nD) (a : Memref sig .tc .vmem S1024x1024 .f32) (w : Memref sig .tc .vmem S1024x1024 .bf16) (g : Memref sig .tc .vmem S1x1024 .f32)
  (o : Memref sig .tc .vmem S1024x1024 .f32) (X : S1024x1024.Idx → Elt F .f32) (Y : S1024x1024.Idx → Elt F .bf16) (Z : S1x1024.Idx → Elt F .f32)

abbrev tiles (R : sProp (MT nD τ sig Unit (Elt F) ℕ (UU nD τ sig) ℕ)) : sProp 𝕄 :=
  iprop(owns (c : Thread nD τ) a fullShare X ∗ owns (c : Thread nD τ) w fullShare Y ∗ owns (c : Thread nD τ) g fullShare Z ∗ R)
abbrev someOut : sProp 𝕄 := iprop(∃ d, owns (c : Thread nD τ) o fullShare d)
abbrev theOut : sProp 𝕄 := owns (c : Thread nD τ) o fullShare (k0_pay1 X Z Y)

variable {a w g o}

theorem wp_tile {ha hw hg ho hs hm} {k : PUnit → Prog (TpuEff nD τ sig (Elt F) Λ₀ .tc) PUnit} {Q : PUnit → sProp 𝕄} :
    tiles c a w g X Y Z (someOut c o)
      ⊢ iprop((tiles c a w g X Y Z (theOut c o X Y Z) -∗ wp frame (wpE (defs₀ (F := F)) 𝒱₀ c none) Set.univ (k ⟨⟩) Q)
          -∗ wp frame (wpE (defs₀ (F := F)) 𝒱₀ c none) Set.univ
            (.op (.load a (Rect.unit (s := S1024x1024) ![0, 0] S1024x1024.size inb_S1024x1024_S1024x1024_0_0).toLoadRect ha) fun v12 =>
              .op (.load g (Rect.unit (s := S1x1024) ![0, 0] S1x1024.size inb_S1x1024_S1x1024_0_0).toLoadRect hg) fun v14 =>
              .op (.load w (Rect.unit (s := S1024x1024) ![0, 0] S1024x1024.size inb_S1024x1024_S1024x1024_0_0).toLoadRect hw) fun v19 =>
              .op (.load o (Rect.unit (s := S1024x1024) ![0, 0] S1024x1024.size inb_S1024x1024_S1024x1024_0_0).toLoadRect ho) fun _ =>
              .op (.store o (Rect.unit (s := S1024x1024) ![0, 0] S1024x1024.size inb_S1024x1024_S1024x1024_0_0) (k0_pay1 v12 v14 v19) Finset.univ hs hm) k) Q) := by
  iintro ⟨Ha, Hw, Hg, ⟨%d, Ho⟩⟩ Hk
  iapply (wp_read c X) $$ Ha; iintro Ha
  iapply (wp_read c Z) $$ Hg; iintro Hg
  iapply (wp_read c Y) $$ Hw; iintro Hw
  iapply (wp_read c d) $$ Ho; iintro Ho
  iapply (wp_put c) $$ [Ho]; · (iexists d; iexact Ho)
  iintro Ho
  iapply Hk
  isplitl [Ha]; · iexact Ha
  isplitl [Hw]; · iexact Hw
  isplitl [Hg] <;> iassumption

end Tile

/-! ## The body at the three kinds of point -/

section Points

variable (c : Dev nD) (i : grid0.Coords) {W : Waits sig Unit} (a : Memref sig .tc .vmem S1024x1024 .f32) (ha : a.IsWhole) (w : Memref sig .tc .vmem S1024x1024 .bf16)
  (hw : w.IsWhole) (g : Memref sig .tc .vmem S1x1024 .f32) (hg : g.IsWhole) (o : Memref sig .tc .vmem S1024x1024 .f32) (ho : o.IsWhole)
  (X : S1024x1024.Idx → Elt F .f32) (Y : S1024x1024.Idx → Elt F .bf16) (Z : S1x1024.Idx → Elt F .f32)

abbrev body : Prog (TpuEff nD τ sig (Elt F) Λ₀ .tc) PUnit :=
  cc0_out_proj_dx i a ha w hw g hg (Memref.whole main_arg3) (Memref.isWhole_whole _) o ho (Memref.whole main_v1_1) (Memref.isWhole_whole _) cc0_scratch0 cc0_scratch1 cc0_scratch2

theorem wp_mid (h1 : ¬ k0_cond1 i = 1#1) (h2 : ¬ k0_cond2 i = 1#1) {Q : PUnit → sProp 𝕄} :
    iprop(tiles c a w g X Y Z (someOut c o) ∗ (tiles c a w g X Y Z (theOut c o X Y Z) -∗ Q ⟨⟩))
      ⊢ wp frame (wpE (defs₀ (F := F)) 𝒱₀ c none) Set.univ (body i a ha w hw g hg o ho) Q := by
  simp only [body, cc0_out_proj_dx_eq_skeleton]; unfold cc0_out_proj_dx_skel
  simp only [dif_neg h1, dif_neg h2, Prog.lift, Prog.bind_op, Prog.bind_ret, Prog.pure_eq_ret]
  iintro ⟨HT, Hk⟩
  iapply (wp_tile c X Y Z) $$ HT
  iintro HT
  rw [wp_ret]; imodintro
  iapply Hk; iexact HT

set_option maxHeartbeats 1600000 in
theorem wp_first (h1 : k0_cond1 i = 1#1) (h2 : ¬ k0_cond2 i = 1#1) {Q : PUnit → sProp 𝕄} :
    iprop((plan m).Ready c ∗ owes (c : Thread nD τ) ((plan m).Owed c 0) W ∗ tiles c a w g X Y Z (someOut c o)
        ∗ (((plan m).Flying c ∗ owes (c : Thread nD τ) 0 W ∗ tiles c a w g X Y Z (theOut c o X Y Z)) -∗ Q ⟨⟩))
      ⊢ wp frame (wpE (defs₀ (F := F)) 𝒱₀ c none) Set.univ (body i a ha w hw g hg o ho) Q := by
  simp only [body, cc0_out_proj_dx_eq_skeleton]; unfold cc0_out_proj_dx_skel
  simp only [dif_pos h1, dif_neg h2, k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iintro ⟨HS, HO, HT, Hk⟩
  iapply ((plan m).wp_start 𝒱₀ c ⟨slotAt_eq (off1_eq c) _, slotAt_eq (off1_eq c) _, rfl⟩
    ⟨dev1_eq c _, slotAt_eq (off2_eq 0 c) _, slotAt_eq (off1_eq c) _, rfl, rfl⟩ ⟨dev2_eq c _, slotAt_eq (off2_eq 1 c) _, slotAt_eq (off1_eq c) _, rfl, rfl⟩
    ⟨dev3_eq c _, slotAt_eq (off2_eq 2 c) _, slotAt_eq (off1_eq c) _, rfl, rfl⟩ ⟨dev4_eq c _, slotAt_eq (off2_eq 3 c) _, slotAt_eq (off1_eq c) _, rfl, rfl⟩
    ⟨dev5_eq c _, slotAt_eq (off2_eq 4 c) _, slotAt_eq (off1_eq c) _, rfl, rfl⟩ ⟨dev6_eq c _, slotAt_eq (off2_eq 5 c) _, slotAt_eq (off1_eq c) _, rfl, rfl⟩
    ⟨dev7_eq c _, slotAt_eq (off2_eq 6 c) _, slotAt_eq (off1_eq c) _, rfl, rfl⟩) $$ [HS HO]
  · isplitl [HS] <;> iassumption
  iintro ⟨HS, HO⟩
  iapply (wp_tile c X Y Z) $$ HT
  iintro HT
  rw [wp_ret]; imodintro
  iapply Hk
  isplitl [HS]; · iexact HS
  isplitl [HO] <;> iassumption

set_option maxHeartbeats 1600000 in
theorem wp_last (h1 : ¬ k0_cond1 i = 1#1) (h2 : k0_cond2 i = 1#1) {Q : PUnit → sProp 𝕄} :
    iprop((plan m).Flying c ∗ owes (c : Thread nD τ) 0 W ∗ tiles c a w g X Y Z (someOut c o)
        ∗ (((plan m).Landed c ∗ (∃ W', owes (c : Thread nD τ) 0 W') ∗ tiles c a w g X Y Z (theOut c o X Y Z)) -∗ Q ⟨⟩))
      ⊢ wp frame (wpE (defs₀ (F := F)) 𝒱₀ c none) Set.univ (body i a ha w hw g hg o ho) Q := by
  simp only [body, cc0_out_proj_dx_eq_skeleton]; unfold cc0_out_proj_dx_skel
  simp only [dif_neg h1, dif_pos h2, k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  simp only [Prog.lift, Prog.bind_op, Prog.bind_ret, Prog.pure_eq_ret]
  iintro ⟨HS, HO, HT, Hk⟩
  iapply (wp_tile c X Y Z) $$ HT
  iintro HT
  simp only [wp_deviceId]
  iapply ((plan m).wp_finish 𝒱₀ c ⟨rfl, rfl⟩ ⟨rfl, rfl⟩ ⟨rfl, rfl⟩ ⟨rfl, rfl⟩ ⟨rfl, rfl⟩ ⟨rfl, rfl⟩ ⟨rfl, rfl⟩ ⟨rfl, rfl⟩
    ⟨rfl, rfl⟩ ⟨rfl, rfl⟩ ⟨rfl, rfl⟩ ⟨rfl, rfl⟩ ⟨rfl, rfl⟩ ⟨rfl, rfl⟩ ⟨rfl, rfl⟩) $$ [HS HO]
  · isplitl [HS] <;> iassumption
  iintro ⟨HS, HO⟩
  rw [wp_ret]; imodintro
  iapply Hk
  isplitl [HS]; · iexact HS
  isplitl [HO] <;> iassumption

end Points

end Cert.OutDxIdeal.Swap

end
-- ==== Proof.OutDxRun.lean ====
/-
  The run of the gradient of the output projection's input: what the pipeline's arrays hold after it, and what the
  exchange leaves.
-/
module

public import proofs.«01_k».proof.Proof.Runs
public import proofs.«01_k».proof.Proof.OutDxBody

@[expose] public section

noncomputable section

namespace Cert.OutDxIdeal.Swap

open Cert.OutDxIdeal Cert.OutDxIdeal.Gen Cert.Exchange
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UU nD τ sig) ℕ

variable (m : (ℓ : Loc nD τ sig) → Buf (Elt F) ℓ) (ρ : Dev nD → PrngReg)

theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 = 8 := by decide +kernel

/-- The block of the product at point `t`. -/
def prod (c : Dev nD) (t : Fin cfg0.N) : S1024x1024.Idx → Elt F .f32 := k0_pay1 (iblk m c 0 t) (iblk m c 2 t) (iblk m c 1 t)

def dats (_ : Fin 1) (c : Dev nD) : Dat τ (Elt F) Unit ℕ (UU nD τ sig) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod m c t
    | ⟨_ + 4, h⟩ => absurd h (Nat.not_lt.2 (Nat.le_add_left _ _))
  Φ t := (plan m).held 8 c t.val
  q _ := fullShare
  owed t := (plan m).owing c t.val

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

def bodyPre (c : Dev nD) (t : Fin cfg0.N) : sProp 𝕄 :=
  iprop((plan m).held 8 c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((plan m).held 8 c (t.val + 1) ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (prod m c t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0 Dat.owesAt Pipeline.owesWithin
  simp only [before0, before1, before2]
  rw [show (dats m 0 c).owed t.castSucc = (plan m).owing c t.val from rfl, show (dats m 0 c).owed t.succ = (plan m).owing c (t.val + 1) from rfl]
  iintro ⟨HS, ⟨%W, %hW, HO⟩, ⟨%d0, H0⟩, ⟨%d1, H1⟩, ⟨%d2, H2⟩, ⟨%d3, H3⟩⟩
  iapply ((plan m).step 8 c t.val (by decide) (lt_of_lt_of_eq t.isLt N_0)
    (fun h => wp_first m c (grid0.coords t) (st0_0 t) _ (st0_1 t) _ (st0_2 t) _ (st0_3 t) _ (iblk m c 0 t) (iblk m c 1 t) (iblk m c 2 t)
      ((cond1_iff t).mpr h) (fun h' => by have := (cond2_iff t).mp h'; omega))
    (fun h h' => wp_mid c (grid0.coords t) (st0_0 t) _ (st0_1 t) _ (st0_2 t) _ (st0_3 t) _ (iblk m c 0 t) (iblk m c 1 t) (iblk m c 2 t)
      (fun e => h ((cond1_iff t).mp e)) (fun e => h' ((cond2_iff t).mp e)))
    (fun h h' => wp_last m c (grid0.coords t) (st0_0 t) _ (st0_1 t) _ (st0_2 t) _ (st0_3 t) _ (iblk m c 0 t) (iblk m c 1 t) (iblk m c 2 t)
      (fun e => h ((cond1_iff t).mp e)) ((cond2_iff t).mpr h')))
  isplitl [HS]; · iexact HS
  isplitl [HO]; · iexact HO
  isplitl [H0 H1 H2 H3]
  · isplitl [H0]; · iexact H0
    isplitl [H1]; · iexact H1
    isplitl [H2]; · iexact H2
    iexists _; iexact H3
  iintro ⟨HS, ⟨%W', HO⟩, H0, H1, H2, H3⟩
  isplitl [HS]; · iexact HS
  isplitl [HO]
  · iexists W'; isplitr; · ipureintro; exact fun _ _ => Or.inl trivial
    iexact HO
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem ownSemFacts : Pipeline.OwnSemFacts cfg0.spec fun j => SemLoc.dma (dsem j) := by decide

theorem hold_in (c : Dev nD) :
    iprop((((c : Thread nD τ).loc main_arg3) ↦{fullShare} m ((c : Thread nD τ).loc main_arg3)) ∗ ((c : Thread nD τ).loc main_v1_1) ↦{fullShare} m ((c : Thread nD τ).loc main_v1_1))
      ⊢ (iprop((plan m).mine c ∗ bigSep Finset.univ fun k => (plan m).give c k) : sProp 𝕄) := by
  rw [← owns_whole (c : Thread nD τ) main_arg3, ← owns_whole (c : Thread nD τ) main_v1_1]
  exact swap_hold (Memref.whole main_arg3) (Memref.whole main_v1_1) squeezes_S1x128x1024_S128x1024 dsem _ _ (parts m) c _

theorem back_out (c : Dev nD) : (plan m).Landed c
    ⊢ (iprop(Pipeline.ownSems0 (Ix := Unit) (Name := ℕ) (U := UU 8 τ sig) (Lvl := ℕ) (Val := Elt F) (τ := τ) (plan m).osem c
        ∗ (((c : Thread nD τ).loc main_arg3) ↦{fullShare} m ((c : Thread nD τ).loc main_arg3))
        ∗ ((c : Thread nD τ).loc main_v1_1) ↦{fullShare} swapped (parts m) c) : sProp 𝕄) := by
  rw [← owns_whole (c : Thread nD τ) main_arg3, ← owns_whole (c : Thread nD τ) main_v1_1]
  exact swap_back (Memref.whole main_arg3) (Memref.whole main_v1_1) squeezes_S1x128x1024_S128x1024 dsem _ _ (parts m) c

theorem run_main : θ_run defs (onTc (τ := τ) (main (F := F))) ⟨m, fun _ => 0, ρ⟩ fun r =>
    (∀ c : Dev nD, (∀ w, r.2.mem (((cfg0.win w).arr.view.loc (c : Thread nD τ))) = (dats m 0 c).arrAt w cfg0.N)
      ∧ r.2.mem ((c : Thread nD τ).loc main_arg3) = m ((c : Thread nD τ).loc main_arg3)
      ∧ r.2.mem ((c : Thread nD τ).loc main_v1_1) = swapped (parts m) c) ∧ r.2.sem = fun _ => 0 :=
  (θ_run defs _ _).mono (fun _ h => ⟨h.1, sem_eq_zero_of_scoped (by decide) h.2⟩)
    ((plan m).run cfgs (dats m) cellOf_inj winFacts0 ownSemFacts defs₀ 𝒱₀ m ρ main (fun _ => rfl) (body_obligation m) block_pos0 arr_whole0 stage_whole0
      (fun _ _ => rfl) (fun _ _ => rfl) (fun _ _ => rfl) (by decide) main_arg3 main_v1_1 (swapped (parts m))
      (fun c => unscopedRest0_eq c _)
      (hold_in m) (back_out m)
      (fun c => by
        rw [scopedRest0_eq]
        show _ ⊢ (plan m).held 8 c 0
        rw [Plan.held_zero]
        iintro ⟨H, -⟩
        iexact H)
      (fun c => by
        rw [scopedRest0_eq]
        show (plan m).held 8 c (Fin.last cfg0.N).val ⊢ _
        rw [show (Fin.last cfg0.N).val = 8 from N_0, Plan.held_last _ _ _ (by decide)]
        iintro H
        isplitl [H]; · iexact H
        iempintro))

end Cert.OutDxIdeal.Swap

end
-- ==== Proof.OutDxValue.lean ====
/-
  The gradient of the output projection's input, over the extended reals: the array the grid's blocks fill is this
  device's rows of the whole product.
-/
module

public import proofs.«01_k».proof.Proof.Values
public import proofs.«01_k».proof.Proof.OutDxRun
public import proofs.«01_k».proof.Proof.Gen.OutDxRefIdeal

@[expose] public section

noncomputable section

namespace Cert.OutDxIdeal.Swap

open Cert.OutDxIdeal Cert.OutDxIdeal.Gen Cert.Exchange
open Idealize.ShloMosaic Idealize.ShloMosaic.TcCoe
open Idealize.SL Idealize.SL.Sem

/-- One block of the product, at an index. -/
theorem tile_apply (x : S1024x1024.Idx → Elt Ideal .f32) (g : S1x1024.Idx → Elt Ideal .f32) (w : S1024x1024.Idx → Elt Ideal .bf16) (i : S1024x1024.Idx) :
    k0_pay1 x g w i = ∑ k : Fin 1024, ((x (ValueIdx.ix2 (i 0) k) * g (ValueIdx.ix2 0 k)) * w (ValueIdx.ix2 (i 1) k) : EReal) := by
  refine (Values.block_apply (M := 1024) (K := 1024) (N := 1024) _ _ i).trans ?_
  refine Finset.sum_congr rfl fun k _ => ?_
  rw [shapeCast_id, shapeCast_id, shapeCast_id]
  refine congrArg (fun z : EReal => (x (ValueIdx.ix2 (i 0) k) * z) * w (ValueIdx.ix2 (i 1) k)) ?_
  refine broadcastTo_apply _ _ _ (ValueIdx.ix2 (0 : Fin 1) k) ?_
  intro a
  fin_cases a <;> rfl

variable (m : (ℓ : Loc nD τ sig) → Buf (Elt Ideal) ℓ)

/-- The gated rows times the transposed weights, at an index. -/
def product (x : S8192x1024.Idx → EReal) (g : S1x1024.Idx → EReal) (w : S1024x1024.Idx → EReal) : S8192x1024.Idx → EReal :=
  fun i => ∑ k : Fin 1024, (x (ValueIdx.ix2 (i 0) k) * g (ValueIdx.ix2 0 k)) * w (ValueIdx.ix2 (i 1) k)

/-- Which blocks of the operands a point multiplies. -/
theorem index_eq : ∀ t : Fin grid0.N, win0_0.index t 0 = win0_3.index t 0 ∧ win0_0.index t 1 = 0 ∧ win0_1.index t 0 = win0_3.index t 1
    ∧ win0_1.index t 1 = 0 ∧ win0_2.index t 0 = 0 ∧ win0_2.index t 1 = 0 := by decide +kernel

/-- After the run the first result's array is the product. -/
theorem out_eq (c : Dev nD) :
    (dats m 0 c).arrAt 3 cfg0.N
      = product (m ((c : Thread nD τ).loc main_arg0)) (m ((c : Thread nD τ).loc main_arg2)) (m ((c : Thread nD τ).loc main_arg1)) := by
  refine (dats m 0 c).arrAt_eq_of_covers 3 _ (by decide +kernel) fun t hf y => ?_
  show prod m c t y = _
  refine (tile_apply _ _ _ y).trans ?_
  refine Finset.sum_congr rfl fun k _ => ?_
  obtain ⟨e0, e1, e2, e3, e4, e5⟩ := index_eq t
  congr 1
  · congr 1 <;> blk_ext [iblk, V]
    · show win0_0.index t 0 * 1024 + (y 0).val = ((win0_3.rect t).emb y 0).val
      rw [e0, win0_3.rect_emb_val t y 0]; rfl
    · show win0_0.index t 1 * 1024 + k.val = k.val
      rw [e1]; omega
  · blk_ext [iblk, V]
    · show win0_1.index t 0 * 1024 + (y 1).val = ((win0_3.rect t).emb y 1).val
      rw [e2, win0_3.rect_emb_val t y 1]; rfl
    · show win0_1.index t 1 * 1024 + k.val = k.val
      rw [e3]; omega

open Cert.OutDxRefIdeal.Gen in
/-- A block of rows of the whole product is the product of that block of rows. -/
theorem product_block (c : Dev nD) (x : Cert.OutDxRefIdeal.S65536x1024.Idx → Elt Ideal .f32) (g : Cert.OutDxRefIdeal.S8x1024.Idx → Elt Ideal .f32)
    (w : S1024x1024.Idx → Elt Ideal .bf16) :
    product (Layout.block ⟨2, ![8192, 1024]⟩ ⟨2, ![65536, 1024]⟩ 0 8 c x) (Layout.block ⟨2, ![1, 1024]⟩ ⟨2, ![8, 1024]⟩ 0 8 c g) w
      = Layout.block ⟨2, ![8192, 1024]⟩ ⟨2, ![65536, 1024]⟩ 0 8 c
          (Host.dotGeneral (F := Ideal) Cert.OutDxRefIdeal.dot_S65536x1024_S1024x1024_S65536x1024_1_0_0_1_n_n none
            (shapeCast Cert.OutDxRefIdeal.S65536x1024
              (mulf (F := Ideal) (φ := .f32) (shapeCast Cert.OutDxRefIdeal.S8x8192x1024 x Cert.OutDxRefIdeal.Facts₀.shapeCasts_S65536x1024_S8x8192x1024)
                (broadcastInDim Cert.OutDxRefIdeal.S8x8192x1024 ![0, 1, 2] Cert.OutDxRefIdeal.Facts₀.bcast_S8x1x1024_S8x8192x1024_0_1_2
                  (broadcastInDim Cert.OutDxRefIdeal.S8x1x1024 ![0, 2] Cert.OutDxRefIdeal.Facts₀.bcast_S8x1024_S8x1x1024_0_2 g)))
              Cert.OutDxRefIdeal.Facts₀.shapeCasts_S8x8192x1024_S65536x1024)
            (transpose Cert.OutDxRefIdeal.S1024x1024 [1, 0] (extf .f32 w Cert.OutDxRefIdeal.Facts₀.bitsLt_bf16_f32)
              Cert.OutDxRefIdeal.Facts₀.transposes_S1024x1024_S1024x1024_1_0)) := by
  funext i
  rw [Layout.block_apply]
  refine Eq.trans ?_ (Values.dot_apply (M := 65536) (K := 1024) (N := 1024) _ _ _ _).symm
  refine Finset.sum_congr rfl fun k _ => ?_
  refine congrArg₂ (fun a b : EReal => a * b) ?_ (congrArg w ?_)
  · refine Eq.trans ?_ (Values.gate_apply (R := 8192) (C := 1024) (by decide) x g _ _ _ _ c (i 0) k _ rfl rfl).symm
    refine congrArg₂ (fun a b : EReal => a * b) (congrArg x ?_) (congrArg g ?_)
    · funext b; apply Fin.ext; fin_cases b <;> rfl
    · funext b; apply Fin.ext; fin_cases b
      · show c.val * 1 + 0 = c.val
        omega
      · rfl
  · funext b; apply Fin.ext; fin_cases b <;> rfl

end Cert.OutDxIdeal.Swap

end
-- ==== Proof.OutDxClaim.lean ====
/-
  The claims about the gradient of the output projection's input, put together.
-/
module

public import proofs.«01_k».proof.Defs
public import proofs.«01_k».proof.Proof.OutDxValue
public import proofs.«01_k».proof.Proof.Gen.OutDx
public import proofs.«01_k».proof.Proof.Gen.OutDxRefIdeal.Run
public import Idealize.ShloMosaic.Adequacy
public import Idealize.ShloMosaic.Init

@[expose] public section

noncomputable section

namespace Cert.OutDxIdeal.Swap

open Cert.OutDxIdeal Cert.OutDxIdeal.Gen Cert.Exchange
open Idealize.ShloMosaic Idealize.ShloMosaic.TcCoe Idealize.SL.Sem

/-- After the run the arguments are as they were, and the results are the grid's blocks and the parts exchanged. -/
theorem read_back {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v1_0) = (dats m 0 c).arrAt 3 cfg0.N
        ∧ r.2.mem ((c : Thread nD τ).loc main_v1_1) = swapped (parts m) c)
      ∧ r.2.sem = fun _ => 0 :=
  (θ_run defs _ _).mono (fun _ h => ⟨fun c => ⟨⟨((h.1 c).1 0).trans ((dats m 0 c).arrAt_in 0 rfl _), ((h.1 c).1 1).trans ((dats m 0 c).arrAt_in 1 rfl _), ((h.1 c).1 2).trans ((dats m 0 c).arrAt_in 2 rfl _), (h.1 c).2.1⟩,
      (h.1 c).1 3, (h.1 c).2.2⟩, h.2⟩) (run_main m ρ)

/-- The run of `read_back`, its results dropped. -/
theorem frame_of {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 :=
  (θ_run defs _ _).mono (fun _ h => ⟨fun c => (h.1 c).1, h.2⟩) (read_back m ρ)

/-- The two programs have the same body table: the one kernel is the same function. -/
theorem bodies_eq : Cert.OutDx.defs₀ (F := Bits) = Cert.OutDxIdeal.defs₀ (F := Bits) := by
  unfold Cert.OutDx.defs₀ Cert.OutDxIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.OutDx.defs (F := Bits) = Cert.OutDxIdeal.defs (F := Bits) := congrArg (Pipeline.defs Cert.OutDxIdeal.pcfgs) bodies_eq

theorem frame_bits : Cert.quiescent_OutDx (hOutDx := Cert.OutDx.Gen.facts) := fun m ρ _ => by
  rw [table_eq]; exact frame_of (F := Bits) m ρ

theorem frame_ideal : Cert.quiescent_OutDxIdeal (hOutDxIdeal := Cert.OutDxIdeal.Gen.facts) := fun m ρ _ => frame_of m ρ

theorem frame_reference : Cert.quiescent_OutDxRefIdeal (hOutDxRefIdeal := Cert.OutDxRefIdeal.Gen.facts) := fun m ρ _ =>
  (θ_run Cert.OutDxRefIdeal.defs _ _).mono (fun r h => ⟨fun c => (h c).2.2, sem_eq_zero_of_no_sems (by decide) r.2⟩)
    (Cert.OutDxRefIdeal.Value.run m ρ)

theorem values : Cert.algebraic_OutDxIdeal_OutDxRefIdeal (hOutDxIdeal := Cert.OutDxIdeal.Gen.facts) (hOutDxRefIdeal := Cert.OutDxRefIdeal.Gen.facts) := fun m ρ m' ρ' _ h => by
  refine ⟨_, _, (θ_run Cert.OutDxIdeal.defs _ _).mono (fun r hr c => ?_) (read_back m ρ),
    (θ_run Cert.OutDxRefIdeal.defs _ _).mono (fun _ h => h 0) (Cert.OutDxRefIdeal.Value.run m' ρ')⟩
  obtain ⟨⟨h0, h1, h2, h3⟩, hp, hx⟩ := hr.1 c
  refine ⟨?_, ?_, h0, h1, h2, h3⟩
  · refine (hp.trans (out_eq m c)).trans ?_
    rw [(h c).1, (h c).2.2.1, (h c).2.1]
    exact product_block c _ _ _
  · exact hx.trans (Values.swapped_eq (by decide) _ (parts m) (fun d => (h d).2.2.2) _ _ _ c)

end Cert.OutDxIdeal.Swap

end
-- ==== Proof.AdamW.lean ====
/-
  The optimizer's update of one weight, entry by entry, and the gradient it is made from.

  The gradient of a layer arrives as eight parts, one from each device, and is their sum. The four layers' sums lie
  one below the other. From the gradient `g`, the weight `w` and the two moments `μ` and `ν` come the new moments and
  the step.
-/
module

public import Idealize.ShloMosaic.Lib.Pipeline.ValueKit

@[expose] public section

noncomputable section

namespace Cert.AdamW

open Idealize.ShloMosaic Idealize.ShloMosaic.TcCoe

/-- A constant of the update, at its bits. -/
abbrev lit (b : BitVec 32) : EReal := Scalar.ofBits (F := Ideal) .f32 b

/-- The new first moment: nine tenths of the old one and one tenth of the gradient. -/
def first (g μ : EReal) : EReal := lit 0x3F666666#32 * μ + lit 0x3DCCCCCD#32 * g

/-- The new second moment: 0.999 of the old one and a thousandth of the gradient's square. -/
def second (g ν : EReal) : EReal := lit 0x3F7FBE77#32 * ν + lit 0x3A83126F#32 * (g * g)

/-- The step: both moments corrected for their start at nothing, their quotient, the weight's decay, the rate. -/
def step (g w μ ν : EReal) : EReal :=
  lit 0xBA83126F#32 * (Ideal.div (Ideal.div (first g μ) (lit 0x3F26BD02#32))
    (Ideal.sqrt (Ideal.div (second g ν) (lit 0x3C231ACC#32)) + lit 0x322BCC77#32) + lit 0x3C23D70A#32 * w)

theorem first_congr {g g' μ μ' : EReal} (hg : g = g') (hμ : μ = μ') : first g μ = first g' μ' := by rw [hg, hμ]

theorem second_congr {g g' ν ν' : EReal} (hg : g = g') (hν : ν = ν') : second g ν = second g' ν' := by rw [hg, hν]

theorem step_congr {g g' w w' μ μ' ν ν' : EReal} (hg : g = g') (hw : w = w') (hμ : μ = μ') (hν : ν = ν') :
    step g w μ ν = step g' w' μ' ν' := by rw [hg, hw, hμ, hν]

/-- Eight parts, summed. -/
def total {a b : ℕ} (x : FVec Ideal ⟨3, ![8, a, b]⟩ .bf16) : FVec Ideal ⟨2, ![a, b]⟩ .f32 :=
  fun y => (∑ d : Fin 8, (x (ix3 d (y 0) (y 1)) : EReal) : EReal)

/-- The four layers' sums, one below the other. -/
def stacked {a b n : ℕ} (hn : n = 4 * a) (x₀ x₁ x₂ x₃ : FVec Ideal ⟨3, ![8, a, b]⟩ .bf16) : FVec Ideal ⟨2, ![n, b]⟩ .f32 :=
  fun i =>
    if h₀ : (i 0).val < a then total x₀ (ix2 ⟨(i 0).val, h₀⟩ (i 1))
    else if h₁ : (i 0).val - a < a then total x₁ (ix2 ⟨(i 0).val - a, h₁⟩ (i 1))
    else if h₂ : (i 0).val - a - a < a then total x₂ (ix2 ⟨(i 0).val - a - a, h₂⟩ (i 1))
    else total x₃ (ix2 ⟨(i 0).val - a - a - a, by have := (i 0).isLt; dsimp at this; omega⟩ (i 1))

/-- Rows `k * a` to `k * a + a` are layer `k`'s. -/
theorem stacked_at {a b n : ℕ} (hn : n = 4 * a) (x : Fin 4 → FVec Ideal ⟨3, ![8, a, b]⟩ .bf16) (k : Fin 4) (r : Fin a) (j : Fin b)
    (i : (⟨2, ![n, b]⟩ : Shape).Idx) (h₀ : (i 0).val = k.val * a + r.val) (h₁ : i 1 = j) :
    stacked hn (x 0) (x 1) (x 2) (x 3) i = total (x k) (ix2 r j) := by
  subst h₁
  have hr := r.isLt
  unfold stacked
  rcases (by decide : ∀ k : Fin 4, k = 0 ∨ k = 1 ∨ k = 2 ∨ k = 3) k with rfl | rfl | rfl | rfl
  · have h : (i 0).val = r.val := by simpa using h₀
    rw [dif_pos (by omega)]; simp only [h]
  · have h : (i 0).val = a + r.val := by simpa using h₀
    rw [dif_neg (by omega), dif_pos (by omega)]; simp only [h, Nat.add_sub_cancel_left]
  · have h : (i 0).val = a + (a + r.val) := by rw [h₀]; show 2 * a + _ = _; omega
    rw [dif_neg (by omega), dif_neg (by omega), dif_pos (by omega)]; simp only [h, Nat.add_sub_cancel_left]
  · have h : (i 0).val = a + (a + (a + r.val)) := by rw [h₀]; show 3 * a + _ = _; omega
    rw [dif_neg (by omega), dif_neg (by omega), dif_neg (by omega)]; simp only [h, Nat.add_sub_cancel_left]

/-- The step, entry by entry. -/
def steps {S : Shape} (g w μ ν : FVec Ideal S .f32) : FVec Ideal S .f32 := fun i => step (g i) (w i) (μ i) (ν i)
/-- The new first moments. -/
def firsts {S : Shape} (g μ : FVec Ideal S .f32) : FVec Ideal S .f32 := fun i => first (g i) (μ i)
/-- The new second moments. -/
def seconds {S : Shape} (g ν : FVec Ideal S .f32) : FVec Ideal S .f32 := fun i => second (g i) (ν i)

end Cert.AdamW

end
-- ==== Proof.AdamInValue.lean ====
/-
  What the update of the input projection's weight writes.

  A point of the grid takes one block of rows of one layer. The eight parts' sum there is the gradient, and the other
  three results are the update's, entry by entry. The reference sums each layer's parts, puts the sums one below the
  other, and updates the whole.
-/
module

public import proofs.«01_k».proof.Proof.AdamW
public import proofs.«01_k».proof.Proof.Gen.AdamInIdeal.Value
public import proofs.«01_k».proof.Proof.Gen.AdamInRefIdeal.Run

@[expose] public section

set_option maxRecDepth 16384

noncomputable section

namespace Cert.AdamInIdeal.Update

open Cert.AdamInIdeal Cert.AdamInIdeal.Gen Cert.AdamW
open Idealize.ShloMosaic Idealize.ShloMosaic.TcCoe Idealize.SL.Sem
open Idealize.ShloMosaic.Pipeline (Dat)

variable (m : (ℓ : Loc nD τ sig) → Buf (Elt Ideal) ℓ)

/-- The four results of a block: its gradient, and the update made from it. -/
abbrev made (g w μ ν : FVec Ideal S128x1154 .f32) :
    FVec Ideal S128x1154 .f32 × FVec Ideal S128x1154 .f32 × FVec Ideal S128x1154 .f32 × FVec Ideal S128x1154 .f32 :=
  (g, k0_pay3 g w μ ν, k0_pay1 g μ, k0_pay2 g ν)

theorem made_of {g g' w μ ν : FVec Ideal S128x1154 .f32} (h : g = g') : made g w μ ν = made g' w μ ν := h ▸ rfl

theorem steps_at (g w μ ν : FVec Ideal S128x1154 .f32) (y : S128x1154.Idx) : k0_pay3 g w μ ν y = step (g y) (w y) (μ y) (ν y) := by
  pointwise [k0_pay3, k0_pay1, k0_pay2, step, first, second, lit]

theorem firsts_at (g μ : FVec Ideal S128x1154 .f32) (y : S128x1154.Idx) : k0_pay1 g μ y = first (g y) (μ y) := by
  pointwise [k0_pay1, first, lit]

theorem seconds_at (g ν : FVec Ideal S128x1154 .f32) (y : S128x1154.Idx) : k0_pay2 g ν y = second (g y) (ν y) := by
  pointwise [k0_pay2, second, lit]

theorem block₀ (c : Dev nD) (t : Fin cfg0.N) (h : t.val / 8 = 0) :
    outsAt0 m c t.val t.isLt = made (total (iblk m c 0 t)) (iblk m c 4 t) (iblk m c 5 t) (iblk m c 6 t) := by
  rw [outsAt0_A m c t (by omega) (by omega) (by omega) (by omega)]; frame_out
  refine made_of (funext fun y => ?_)
  pointwise [k0_pay13, total, Fin.sum_univ_eight]

theorem block₁ (c : Dev nD) (t : Fin cfg0.N) (h : t.val / 8 = 1) :
    outsAt0 m c t.val t.isLt = made (total (iblk m c 1 t)) (iblk m c 4 t) (iblk m c 5 t) (iblk m c 6 t) := by
  rw [outsAt0_B m c t (by omega) (by omega) (by omega) (by omega)]; frame_out
  refine made_of (funext fun y => ?_)
  pointwise [k0_pay14, total, Fin.sum_univ_eight]

theorem block₂ (c : Dev nD) (t : Fin cfg0.N) (h : t.val / 8 = 2) :
    outsAt0 m c t.val t.isLt = made (total (iblk m c 2 t)) (iblk m c 4 t) (iblk m c 5 t) (iblk m c 6 t) := by
  rw [outsAt0_C m c t (by omega) (by omega) (by omega) (by omega)]; frame_out
  refine made_of (funext fun y => ?_)
  pointwise [k0_pay15, total, Fin.sum_univ_eight]

theorem block₃ (c : Dev nD) (t : Fin cfg0.N) (h : t.val / 8 = 3) :
    outsAt0 m c t.val t.isLt = made (total (iblk m c 3 t)) (iblk m c 4 t) (iblk m c 5 t) (iblk m c 6 t) := by
  rw [outsAt0_D m c t (by omega) (by omega) (by omega) (by omega)]; frame_out
  refine made_of (funext fun y => ?_)
  pointwise [k0_pay16, total, Fin.sum_univ_eight]

/-- Where the blocks of a point lie: the rows follow the points, and of the parts of its layer a point takes the rows
    its place within the layer names. -/
theorem placed : ∀ t : Fin cfg0.N, t.val / 8 < 4
    ∧ (t.val / 8 = 0 → win0_0.index t = ![0, t.val % 8, 0]) ∧ (t.val / 8 = 1 → win0_1.index t = ![0, t.val % 8, 0])
    ∧ (t.val / 8 = 2 → win0_2.index t = ![0, t.val % 8, 0]) ∧ (t.val / 8 = 3 → win0_3.index t = ![0, t.val % 8, 0])
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The gradient: the four layers' parts, summed. -/
abbrev grad (c : Dev nD) : FVec Ideal S4096x1154 .f32 :=
  stacked (a := 1024) (b := 1154) rfl (m ((c : Thread nD τ).loc main_arg0)) (m ((c : Thread nD τ).loc main_arg1))
    (m ((c : Thread nD τ).loc main_arg2)) (m ((c : Thread nD τ).loc main_arg3))

/-- At every point the body leaves the gradient of its rows, and the update made from it. -/
theorem block_at (c : Dev nD) (t : Fin cfg0.N) : ∃ g : FVec Ideal S128x1154 .f32,
    outsAt0 m c t.val t.isLt = made g (iblk m c 4 t) (iblk m c 5 t) (iblk m c 6 t)
      ∧ ∀ (y : S128x1154.Idx) (i : S4096x1154.Idx), (i 0).val = t.val * 128 + (y 0).val → (i 1).val = (y 1).val → g y = grad m c i := by
  obtain ⟨h4, p0, p1, p2, p3, -⟩ := placed t
  have arg (k : Fin 4) (x : FVec Ideal S8x128x1154 .bf16) (X : Fin 4 → FVec Ideal S8x1024x1154 .bf16) (hk : t.val / 8 = k.val)
      (hx : ∀ (d : Fin 8) (r : Fin 128) (j : Fin 1154) (r' : Fin 1024), r'.val = t.val % 8 * 128 + r.val → x (ix3 d r j) = X k (ix3 d r' j))
      (y : S128x1154.Idx) (i : S4096x1154.Idx) (h0 : (i 0).val = t.val * 128 + (y 0).val) (h1 : (i 1).val = (y 1).val) :
      total x y = stacked (a := 1024) (b := 1154) (n := 4096) rfl (X 0) (X 1) (X 2) (X 3) i := by
    have hy : (y 0).val < 128 := (y 0).isLt
    refine Eq.trans ?_ (stacked_at rfl X k ⟨t.val % 8 * 128 + (y 0).val, by omega⟩ (y 1) i (by dsimp only; omega) (Fin.ext h1)).symm
    exact Finset.sum_congr rfl fun d _ => hx d (y 0) (y 1) _ rfl
  rcases (by omega : t.val / 8 = 0 ∨ t.val / 8 = 1 ∨ t.val / 8 = 2 ∨ t.val / 8 = 3) with h | h | h | h
  · refine ⟨_, block₀ m c t h, arg 0 _ ![_, _, _, _] h fun d r j r' hr => ?_⟩
    blk_ext [iblk, V, p0 h, hr]
  · refine ⟨_, block₁ m c t h, arg 1 _ ![_, _, _, _] h fun d r j r' hr => ?_⟩
    blk_ext [iblk, V, p1 h, hr]
  · refine ⟨_, block₂ m c t h, arg 2 _ ![_, _, _, _] h fun d r j r' hr => ?_⟩
    blk_ext [iblk, V, p2 h, hr]
  · refine ⟨_, block₃ m c t h, arg 3 _ ![_, _, _, _] h fun d r j r' hr => ?_⟩
    blk_ext [iblk, V, p3 h, hr]

theorem gradients (c : Dev nD) : (dats m 0 c).arrAt 7 cfg0.N = grad m c := by
  refine (dats m 0 c).arrAt_eq_of_covers 7 _ (by decide +kernel) fun t _ y => ?_
  obtain ⟨g, hg, hy⟩ := block_at m c t
  obtain ⟨-, -, -, -, -, -, -, -, p7, -⟩ := placed t
  blk_simp
  rw [after0_7, hg]
  refine hy y _ ?_ ?_ <;> blk_simp [p7]

theorem steps_eq (c : Dev nD) : (dats m 0 c).arrAt 8 cfg0.N
    = steps (grad m c) (m ((c : Thread nD τ).loc main_arg4)) (m ((c : Thread nD τ).loc main_arg5)) (m ((c : Thread nD τ).loc main_arg6)) := by
  refine (dats m 0 c).arrAt_eq_of_covers 8 _ (by decide +kernel) fun t _ y => ?_
  obtain ⟨g, hg, hy⟩ := block_at m c t
  obtain ⟨-, -, -, -, -, p4, p5, p6, -, p8, -⟩ := placed t
  blk_simp
  rw [after0_8, hg]
  refine (steps_at _ _ _ _ y).trans (step_congr (hy y _ ?_ ?_) ?_ ?_ ?_)
  · blk_simp [p8]
  · blk_simp [p8]
  · blk_ext [iblk, V, p4, p8]
  · blk_ext [iblk, V, p5, p8]
  · blk_ext [iblk, V, p6, p8]

theorem firsts_eq (c : Dev nD) : (dats m 0 c).arrAt 9 cfg0.N = firsts (grad m c) (m ((c : Thread nD τ).loc main_arg5)) := by
  refine (dats m 0 c).arrAt_eq_of_covers 9 _ (by decide +kernel) fun t _ y => ?_
  obtain ⟨g, hg, hy⟩ := block_at m c t
  obtain ⟨-, -, -, -, -, -, p5, -, -, -, p9, -⟩ := placed t
  blk_simp
  rw [after0_9, hg]
  refine (firsts_at _ _ y).trans (first_congr (hy y _ ?_ ?_) ?_)
  · blk_simp [p9]
  · blk_simp [p9]
  · blk_ext [iblk, V, p5, p9]

theorem seconds_eq (c : Dev nD) : (dats m 0 c).arrAt 10 cfg0.N = seconds (grad m c) (m ((c : Thread nD τ).loc main_arg6)) := by
  refine (dats m 0 c).arrAt_eq_of_covers 10 _ (by decide +kernel) fun t _ y => ?_
  obtain ⟨g, hg, hy⟩ := block_at m c t
  obtain ⟨-, -, -, -, -, -, -, p6, -, -, -, p10⟩ := placed t
  blk_simp
  rw [after0_10, hg]
  refine (seconds_at _ _ y).trans (second_congr (hy y _ ?_ ?_) ?_)
  · blk_simp [p10]
  · blk_simp [p10]
  · blk_ext [iblk, V, p6, p10]

end Cert.AdamInIdeal.Update

namespace Cert.AdamInRefIdeal.Update

open Cert.AdamInRefIdeal Cert.AdamInRefIdeal.Gen Cert.AdamW
open Idealize.ShloMosaic Idealize.ShloMosaic.TcCoe Idealize.SL.Sem

/-- The reference's gradient is the same stack of sums. -/
theorem stacked_ref (x₀ x₁ x₂ x₃ : FVec Ideal S8x1024x1154 .bf16) :
    (concatenate S4096x1154 0
      [⟨S1024x1154, Host.reduceAdd (extf .f32 x₀ bitsLt_bf16_f32) (constant S_ .f32 0x00000000#32) reducesTo_S8x1024x1154_S1024x1154_d0 h_S_⟩,
       ⟨S1024x1154, Host.reduceAdd (extf .f32 x₁ bitsLt_bf16_f32) (constant S_ .f32 0x00000000#32) reducesTo_S8x1024x1154_S1024x1154_d0 h_S_⟩,
       ⟨S1024x1154, Host.reduceAdd (extf .f32 x₂ bitsLt_bf16_f32) (constant S_ .f32 0x00000000#32) reducesTo_S8x1024x1154_S1024x1154_d0 h_S_⟩,
       ⟨S1024x1154, Host.reduceAdd (extf .f32 x₃ bitsLt_bf16_f32) (constant S_ .f32 0x00000000#32) reducesTo_S8x1024x1154_S1024x1154_d0 h_S_⟩]
      concatenates_S1024x1154_S1024x1154_S1024x1154_S1024x1154_S4096x1154_d0 : FVec Ideal S4096x1154 .f32)
    = stacked (a := 1024) (b := 1154) rfl x₀ x₁ x₂ x₃ := by
  funext i
  pointwise [stacked, total]

theorem steps_ref (G w μ ν : FVec Ideal S4096x1154 .f32) :
    mulf (broadcastInDim S4096x1154 ![] bcast_S_S4096x1154 (constant S_ .f32 0xBA83126F#32))
      (addf (Host.divf (Host.divf
          (addf (mulf (broadcastInDim S4096x1154 ![] bcast_S_S4096x1154 (constant S_ .f32 0x3F666666#32)) μ)
            (mulf (broadcastInDim S4096x1154 ![] bcast_S_S4096x1154 (constant S_ .f32 0x3DCCCCCD#32)) G))
          (broadcastInDim S4096x1154 ![] bcast_S_S4096x1154 (constant S_ .f32 0x3F26BD02#32)))
        (addf (Host.sqrt (Host.divf
            (addf (mulf (broadcastInDim S4096x1154 ![] bcast_S_S4096x1154 (constant S_ .f32 0x3F7FBE77#32)) ν)
              (mulf (broadcastInDim S4096x1154 ![] bcast_S_S4096x1154 (constant S_ .f32 0x3A83126F#32)) (mulf G G)))
            (broadcastInDim S4096x1154 ![] bcast_S_S4096x1154 (constant S_ .f32 0x3C231ACC#32))))
          (broadcastInDim S4096x1154 ![] bcast_S_S4096x1154 (constant S_ .f32 0x322BCC77#32))))
        (mulf (broadcastInDim S4096x1154 ![] bcast_S_S4096x1154 (constant S_ .f32 0x3C23D70A#32)) w)) = steps G w μ ν := by
  funext i
  pointwise [steps, step, first, second, lit]

theorem firsts_ref (G μ : FVec Ideal S4096x1154 .f32) :
    addf (mulf (broadcastInDim S4096x1154 ![] bcast_S_S4096x1154 (constant S_ .f32 0x3F666666#32)) μ)
      (mulf (broadcastInDim S4096x1154 ![] bcast_S_S4096x1154 (constant S_ .f32 0x3DCCCCCD#32)) G) = firsts G μ := by
  funext i
  pointwise [firsts, first, lit]

theorem seconds_ref (G ν : FVec Ideal S4096x1154 .f32) :
    addf (mulf (broadcastInDim S4096x1154 ![] bcast_S_S4096x1154 (constant S_ .f32 0x3F7FBE77#32)) ν)
      (mulf (broadcastInDim S4096x1154 ![] bcast_S_S4096x1154 (constant S_ .f32 0x3A83126F#32)) (mulf G G)) = seconds G ν := by
  funext i
  pointwise [seconds, second, lit]

end Cert.AdamInRefIdeal.Update

end
-- ==== Proof.AdamInClaim.lean ====
/-
  The claims about the update of the input projection's weight, put together.
-/
module

public import proofs.«01_k».proof.Defs
public import proofs.«01_k».proof.Proof.AdamInValue
public import proofs.«01_k».proof.Proof.Gen.AdamIn
public import Idealize.ShloMosaic.Adequacy
public import Idealize.ShloMosaic.Init

@[expose] public section

noncomputable section

namespace Cert.AdamInIdeal.Update

open Cert.AdamInIdeal Cert.AdamInIdeal.Gen Cert.AdamW Cert.AdamInRefIdeal.Update
open Idealize.ShloMosaic Idealize.ShloMosaic.TcCoe Idealize.SL.Sem

/-- The two programs have the same body table: the one kernel is the same function. -/
theorem bodies_eq : Cert.AdamIn.defs₀ (F := Bits) = Cert.AdamInIdeal.defs₀ (F := Bits) := by
  unfold Cert.AdamIn.defs₀ Cert.AdamInIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.AdamIn.defs (F := Bits) = Cert.AdamInIdeal.defs (F := Bits) := congrArg (Pipeline.defs Cert.AdamInIdeal.pcfgs) bodies_eq

theorem frame_bits : Cert.quiescent_AdamIn (hAdamIn := Cert.AdamIn.Gen.facts) := fun m ρ _ => by
  rw [table_eq]; exact frame (F := Bits) m ρ

theorem frame_ideal : Cert.quiescent_AdamInIdeal (hAdamInIdeal := Cert.AdamInIdeal.Gen.facts) := fun m ρ _ => frame m ρ

theorem frame_reference : Cert.quiescent_AdamInRefIdeal (hAdamInRefIdeal := Cert.AdamInRefIdeal.Gen.facts) := fun m ρ _ =>
  (θ_run Cert.AdamInRefIdeal.defs _ _).mono (fun r h => ⟨fun c => (h c).2.2.2.2, sem_eq_zero_of_no_sems (by decide) r.2⟩)
    (Cert.AdamInRefIdeal.Value.run m ρ)

theorem values : Cert.algebraic_AdamInIdeal_AdamInRefIdeal (hAdamInIdeal := Cert.AdamInIdeal.Gen.facts) (hAdamInRefIdeal := Cert.AdamInRefIdeal.Gen.facts) := fun m ρ m' ρ' _ h => by
  refine ⟨_, _, _, _, (θ_run Cert.AdamInIdeal.defs _ _).mono (fun r hr c => ?_) (Cert.AdamInIdeal.Value.run_blocks m ρ),
    Cert.AdamInRefIdeal.Value.run m' ρ'⟩
  obtain ⟨hg, hs, hμ, hν, kept⟩ := hr c
  obtain ⟨a0, a1, a2, a3, a4, a5, a6⟩ := h c
  refine ⟨(hg.trans (gradients m c)).trans ?_, (hs.trans (steps_eq m c)).trans ?_, (hμ.trans (firsts_eq m c)).trans ?_,
    (hν.trans (seconds_eq m c)).trans ?_, kept⟩
  · rw [a0, a1, a2, a3]; exact (stacked_ref _ _ _ _).symm
  · unfold Cert.AdamInRefIdeal.Value.res_main_v32
    rw [a0, a1, a2, a3, a4, a5, a6]
    refine (congrArg (fun G => steps G _ _ _) (stacked_ref _ _ _ _).symm).trans (steps_ref _ _ _ _).symm
  · rw [a0, a1, a2, a3, a5]
    exact (congrArg (fun G => firsts G _) (stacked_ref _ _ _ _).symm).trans (firsts_ref _ _).symm
  · rw [a0, a1, a2, a3, a6]
    exact (congrArg (fun G => seconds G _) (stacked_ref _ _ _ _).symm).trans (seconds_ref _ _).symm

end Cert.AdamInIdeal.Update

end
-- ==== Proof.AdamOutValue.lean ====
/-
  What the update of the output projection's weight writes.

  A point of the grid takes one block of rows of one layer. The eight parts' sum there is the gradient, and the other
  three results are the update's, entry by entry. The reference sums each layer's parts, puts the sums one below the
  other, and updates the whole.
-/
module

public import proofs.«01_k».proof.Proof.AdamW
public import proofs.«01_k».proof.Proof.Gen.AdamOutIdeal.Value
public import proofs.«01_k».proof.Proof.Gen.AdamOutRefIdeal.Run

@[expose] public section

set_option maxRecDepth 16384

noncomputable section

namespace Cert.AdamOutIdeal.Update

open Cert.AdamOutIdeal Cert.AdamOutIdeal.Gen Cert.AdamW
open Idealize.ShloMosaic Idealize.ShloMosaic.TcCoe Idealize.SL.Sem
open Idealize.ShloMosaic.Pipeline (Dat)

variable (m : (ℓ : Loc nD τ sig) → Buf (Elt Ideal) ℓ)

/-- The four results of a block: its gradient, and the update made from it. -/
abbrev made (g w μ ν : FVec Ideal S128x1024 .f32) :
    FVec Ideal S128x1024 .f32 × FVec Ideal S128x1024 .f32 × FVec Ideal S128x1024 .f32 × FVec Ideal S128x1024 .f32 :=
  (g, k0_pay3 g w μ ν, k0_pay1 g μ, k0_pay2 g ν)

theorem made_of {g g' w μ ν : FVec Ideal S128x1024 .f32} (h : g = g') : made g w μ ν = made g' w μ ν := h ▸ rfl

theorem steps_at (g w μ ν : FVec Ideal S128x1024 .f32) (y : S128x1024.Idx) : k0_pay3 g w μ ν y = step (g y) (w y) (μ y) (ν y) := by
  pointwise [k0_pay3, k0_pay1, k0_pay2, step, first, second, lit]

theorem firsts_at (g μ : FVec Ideal S128x1024 .f32) (y : S128x1024.Idx) : k0_pay1 g μ y = first (g y) (μ y) := by
  pointwise [k0_pay1, first, lit]

theorem seconds_at (g ν : FVec Ideal S128x1024 .f32) (y : S128x1024.Idx) : k0_pay2 g ν y = second (g y) (ν y) := by
  pointwise [k0_pay2, second, lit]

theorem block₀ (c : Dev nD) (t : Fin cfg0.N) (h : t.val / 1 = 0) :
    outsAt0 m c t.val t.isLt = made (total (iblk m c 0 t)) (iblk m c 4 t) (iblk m c 5 t) (iblk m c 6 t) := by
  rw [outsAt0_A m c t (by omega) (by omega) (by omega) (by omega)]; frame_out
  refine made_of (funext fun y => ?_)
  pointwise [k0_pay13, total, Fin.sum_univ_eight]

theorem block₁ (c : Dev nD) (t : Fin cfg0.N) (h : t.val / 1 = 1) :
    outsAt0 m c t.val t.isLt = made (total (iblk m c 1 t)) (iblk m c 4 t) (iblk m c 5 t) (iblk m c 6 t) := by
  rw [outsAt0_B m c t (by omega) (by omega) (by omega) (by omega)]; frame_out
  refine made_of (funext fun y => ?_)
  pointwise [k0_pay14, total, Fin.sum_univ_eight]

theorem block₂ (c : Dev nD) (t : Fin cfg0.N) (h : t.val / 1 = 2) :
    outsAt0 m c t.val t.isLt = made (total (iblk m c 2 t)) (iblk m c 4 t) (iblk m c 5 t) (iblk m c 6 t) := by
  rw [outsAt0_C m c t (by omega) (by omega) (by omega) (by omega)]; frame_out
  refine made_of (funext fun y => ?_)
  pointwise [k0_pay15, total, Fin.sum_univ_eight]

theorem block₃ (c : Dev nD) (t : Fin cfg0.N) (h : t.val / 1 = 3) :
    outsAt0 m c t.val t.isLt = made (total (iblk m c 3 t)) (iblk m c 4 t) (iblk m c 5 t) (iblk m c 6 t) := by
  rw [outsAt0_D m c t (by omega) (by omega) (by omega) (by omega)]; frame_out
  refine made_of (funext fun y => ?_)
  pointwise [k0_pay16, total, Fin.sum_univ_eight]

/-- Where the blocks of a point lie: the rows follow the points, and of the parts of its layer a point takes the rows
    its place within the layer names. -/
theorem placed : ∀ t : Fin cfg0.N, t.val / 1 < 4
    ∧ (t.val / 1 = 0 → win0_0.index t = ![0, t.val % 1, 0]) ∧ (t.val / 1 = 1 → win0_1.index t = ![0, t.val % 1, 0])
    ∧ (t.val / 1 = 2 → win0_2.index t = ![0, t.val % 1, 0]) ∧ (t.val / 1 = 3 → win0_3.index t = ![0, t.val % 1, 0])
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The gradient: the four layers' parts, summed. -/
abbrev grad (c : Dev nD) : FVec Ideal S512x1024 .f32 :=
  stacked (a := 128) (b := 1024) rfl (m ((c : Thread nD τ).loc main_arg0)) (m ((c : Thread nD τ).loc main_arg1))
    (m ((c : Thread nD τ).loc main_arg2)) (m ((c : Thread nD τ).loc main_arg3))

/-- At every point the body leaves the gradient of its rows, and the update made from it. -/
theorem block_at (c : Dev nD) (t : Fin cfg0.N) : ∃ g : FVec Ideal S128x1024 .f32,
    outsAt0 m c t.val t.isLt = made g (iblk m c 4 t) (iblk m c 5 t) (iblk m c 6 t)
      ∧ ∀ (y : S128x1024.Idx) (i : S512x1024.Idx), (i 0).val = t.val * 128 + (y 0).val → (i 1).val = (y 1).val → g y = grad m c i := by
  obtain ⟨h4, p0, p1, p2, p3, -⟩ := placed t
  have arg (k : Fin 4) (x : FVec Ideal S8x128x1024 .bf16) (X : Fin 4 → FVec Ideal S8x128x1024 .bf16) (hk : t.val / 1 = k.val)
      (hx : ∀ (d : Fin 8) (r : Fin 128) (j : Fin 1024) (r' : Fin 128), r'.val = t.val % 1 * 128 + r.val → x (ix3 d r j) = X k (ix3 d r' j))
      (y : S128x1024.Idx) (i : S512x1024.Idx) (h0 : (i 0).val = t.val * 128 + (y 0).val) (h1 : (i 1).val = (y 1).val) :
      total x y = stacked (a := 128) (b := 1024) (n := 512) rfl (X 0) (X 1) (X 2) (X 3) i := by
    have hy : (y 0).val < 128 := (y 0).isLt
    refine Eq.trans ?_ (stacked_at rfl X k ⟨t.val % 1 * 128 + (y 0).val, by omega⟩ (y 1) i (by dsimp only; omega) (Fin.ext h1)).symm
    exact Finset.sum_congr rfl fun d _ => hx d (y 0) (y 1) _ rfl
  rcases (by omega : t.val / 1 = 0 ∨ t.val / 1 = 1 ∨ t.val / 1 = 2 ∨ t.val / 1 = 3) with h | h | h | h
  · refine ⟨_, block₀ m c t h, arg 0 _ ![_, _, _, _] h fun d r j r' hr => ?_⟩
    blk_ext [iblk, V, p0 h, hr]
  · refine ⟨_, block₁ m c t h, arg 1 _ ![_, _, _, _] h fun d r j r' hr => ?_⟩
    blk_ext [iblk, V, p1 h, hr]
  · refine ⟨_, block₂ m c t h, arg 2 _ ![_, _, _, _] h fun d r j r' hr => ?_⟩
    blk_ext [iblk, V, p2 h, hr]
  · refine ⟨_, block₃ m c t h, arg 3 _ ![_, _, _, _] h fun d r j r' hr => ?_⟩
    blk_ext [iblk, V, p3 h, hr]

theorem gradients (c : Dev nD) : (dats m 0 c).arrAt 7 cfg0.N = grad m c := by
  refine (dats m 0 c).arrAt_eq_of_covers 7 _ (by decide +kernel) fun t _ y => ?_
  obtain ⟨g, hg, hy⟩ := block_at m c t
  obtain ⟨-, -, -, -, -, -, -, -, p7, -⟩ := placed t
  blk_simp
  rw [after0_7, hg]
  refine hy y _ ?_ ?_ <;> blk_simp [p7]

theorem steps_eq (c : Dev nD) : (dats m 0 c).arrAt 8 cfg0.N
    = steps (grad m c) (m ((c : Thread nD τ).loc main_arg4)) (m ((c : Thread nD τ).loc main_arg5)) (m ((c : Thread nD τ).loc main_arg6)) := by
  refine (dats m 0 c).arrAt_eq_of_covers 8 _ (by decide +kernel) fun t _ y => ?_
  obtain ⟨g, hg, hy⟩ := block_at m c t
  obtain ⟨-, -, -, -, -, p4, p5, p6, -, p8, -⟩ := placed t
  blk_simp
  rw [after0_8, hg]
  refine (steps_at _ _ _ _ y).trans (step_congr (hy y _ ?_ ?_) ?_ ?_ ?_)
  · blk_simp [p8]
  · blk_simp [p8]
  · blk_ext [iblk, V, p4, p8]
  · blk_ext [iblk, V, p5, p8]
  · blk_ext [iblk, V, p6, p8]

theorem firsts_eq (c : Dev nD) : (dats m 0 c).arrAt 9 cfg0.N = firsts (grad m c) (m ((c : Thread nD τ).loc main_arg5)) := by
  refine (dats m 0 c).arrAt_eq_of_covers 9 _ (by decide +kernel) fun t _ y => ?_
  obtain ⟨g, hg, hy⟩ := block_at m c t
  obtain ⟨-, -, -, -, -, -, p5, -, -, -, p9, -⟩ := placed t
  blk_simp
  rw [after0_9, hg]
  refine (firsts_at _ _ y).trans (first_congr (hy y _ ?_ ?_) ?_)
  · blk_simp [p9]
  · blk_simp [p9]
  · blk_ext [iblk, V, p5, p9]

theorem seconds_eq (c : Dev nD) : (dats m 0 c).arrAt 10 cfg0.N = seconds (grad m c) (m ((c : Thread nD τ).loc main_arg6)) := by
  refine (dats m 0 c).arrAt_eq_of_covers 10 _ (by decide +kernel) fun t _ y => ?_
  obtain ⟨g, hg, hy⟩ := block_at m c t
  obtain ⟨-, -, -, -, -, -, -, p6, -, -, -, p10⟩ := placed t
  blk_simp
  rw [after0_10, hg]
  refine (seconds_at _ _ y).trans (second_congr (hy y _ ?_ ?_) ?_)
  · blk_simp [p10]
  · blk_simp [p10]
  · blk_ext [iblk, V, p6, p10]

end Cert.AdamOutIdeal.Update

namespace Cert.AdamOutRefIdeal.Update

open Cert.AdamOutRefIdeal Cert.AdamOutRefIdeal.Gen Cert.AdamW
open Idealize.ShloMosaic Idealize.ShloMosaic.TcCoe Idealize.SL.Sem

/-- The reference's gradient is the same stack of sums. -/
theorem stacked_ref (x₀ x₁ x₂ x₃ : FVec Ideal S8x128x1024 .bf16) :
    (concatenate S512x1024 0
      [⟨S128x1024, Host.reduceAdd (extf .f32 x₀ bitsLt_bf16_f32) (constant S_ .f32 0x00000000#32) reducesTo_S8x128x1024_S128x1024_d0 h_S_⟩,
       ⟨S128x1024, Host.reduceAdd (extf .f32 x₁ bitsLt_bf16_f32) (constant S_ .f32 0x00000000#32) reducesTo_S8x128x1024_S128x1024_d0 h_S_⟩,
       ⟨S128x1024, Host.reduceAdd (extf .f32 x₂ bitsLt_bf16_f32) (constant S_ .f32 0x00000000#32) reducesTo_S8x128x1024_S128x1024_d0 h_S_⟩,
       ⟨S128x1024, Host.reduceAdd (extf .f32 x₃ bitsLt_bf16_f32) (constant S_ .f32 0x00000000#32) reducesTo_S8x128x1024_S128x1024_d0 h_S_⟩]
      concatenates_S128x1024_S128x1024_S128x1024_S128x1024_S512x1024_d0 : FVec Ideal S512x1024 .f32)
    = stacked (a := 128) (b := 1024) rfl x₀ x₁ x₂ x₃ := by
  funext i
  pointwise [stacked, total]

theorem steps_ref (G w μ ν : FVec Ideal S512x1024 .f32) :
    mulf (broadcastInDim S512x1024 ![] bcast_S_S512x1024 (constant S_ .f32 0xBA83126F#32))
      (addf (Host.divf (Host.divf
          (addf (mulf (broadcastInDim S512x1024 ![] bcast_S_S512x1024 (constant S_ .f32 0x3F666666#32)) μ)
            (mulf (broadcastInDim S512x1024 ![] bcast_S_S512x1024 (constant S_ .f32 0x3DCCCCCD#32)) G))
          (broadcastInDim S512x1024 ![] bcast_S_S512x1024 (constant S_ .f32 0x3F26BD02#32)))
        (addf (Host.sqrt (Host.divf
            (addf (mulf (broadcastInDim S512x1024 ![] bcast_S_S512x1024 (constant S_ .f32 0x3F7FBE77#32)) ν)
              (mulf (broadcastInDim S512x1024 ![] bcast_S_S512x1024 (constant S_ .f32 0x3A83126F#32)) (mulf G G)))
            (broadcastInDim S512x1024 ![] bcast_S_S512x1024 (constant S_ .f32 0x3C231ACC#32))))
          (broadcastInDim S512x1024 ![] bcast_S_S512x1024 (constant S_ .f32 0x322BCC77#32))))
        (mulf (broadcastInDim S512x1024 ![] bcast_S_S512x1024 (constant S_ .f32 0x3C23D70A#32)) w)) = steps G w μ ν := by
  funext i
  pointwise [steps, step, first, second, lit]

theorem firsts_ref (G μ : FVec Ideal S512x1024 .f32) :
    addf (mulf (broadcastInDim S512x1024 ![] bcast_S_S512x1024 (constant S_ .f32 0x3F666666#32)) μ)
      (mulf (broadcastInDim S512x1024 ![] bcast_S_S512x1024 (constant S_ .f32 0x3DCCCCCD#32)) G) = firsts G μ := by
  funext i
  pointwise [firsts, first, lit]

theorem seconds_ref (G ν : FVec Ideal S512x1024 .f32) :
    addf (mulf (broadcastInDim S512x1024 ![] bcast_S_S512x1024 (constant S_ .f32 0x3F7FBE77#32)) ν)
      (mulf (broadcastInDim S512x1024 ![] bcast_S_S512x1024 (constant S_ .f32 0x3A83126F#32)) (mulf G G)) = seconds G ν := by
  funext i
  pointwise [seconds, second, lit]

end Cert.AdamOutRefIdeal.Update

end
-- ==== Proof.AdamOutClaim.lean ====
/-
  The claims about the update of the output projection's weight, put together.
-/
module

public import proofs.«01_k».proof.Defs
public import proofs.«01_k».proof.Proof.AdamOutValue
public import proofs.«01_k».proof.Proof.Gen.AdamOut
public import Idealize.ShloMosaic.Adequacy
public import Idealize.ShloMosaic.Init

@[expose] public section

noncomputable section

namespace Cert.AdamOutIdeal.Update

open Cert.AdamOutIdeal Cert.AdamOutIdeal.Gen Cert.AdamW Cert.AdamOutRefIdeal.Update
open Idealize.ShloMosaic Idealize.ShloMosaic.TcCoe Idealize.SL.Sem

/-- The two programs have the same body table: the one kernel is the same function. -/
theorem bodies_eq : Cert.AdamOut.defs₀ (F := Bits) = Cert.AdamOutIdeal.defs₀ (F := Bits) := by
  unfold Cert.AdamOut.defs₀ Cert.AdamOutIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.AdamOut.defs (F := Bits) = Cert.AdamOutIdeal.defs (F := Bits) := congrArg (Pipeline.defs Cert.AdamOutIdeal.pcfgs) bodies_eq

theorem frame_bits : Cert.quiescent_AdamOut (hAdamOut := Cert.AdamOut.Gen.facts) := fun m ρ _ => by
  rw [table_eq]; exact frame (F := Bits) m ρ

theorem frame_ideal : Cert.quiescent_AdamOutIdeal (hAdamOutIdeal := Cert.AdamOutIdeal.Gen.facts) := fun m ρ _ => frame m ρ

theorem frame_reference : Cert.quiescent_AdamOutRefIdeal (hAdamOutRefIdeal := Cert.AdamOutRefIdeal.Gen.facts) := fun m ρ _ =>
  (θ_run Cert.AdamOutRefIdeal.defs _ _).mono (fun r h => ⟨fun c => (h c).2.2.2.2, sem_eq_zero_of_no_sems (by decide) r.2⟩)
    (Cert.AdamOutRefIdeal.Value.run m ρ)

theorem values : Cert.algebraic_AdamOutIdeal_AdamOutRefIdeal (hAdamOutIdeal := Cert.AdamOutIdeal.Gen.facts) (hAdamOutRefIdeal := Cert.AdamOutRefIdeal.Gen.facts) := fun m ρ m' ρ' _ h => by
  refine ⟨_, _, _, _, (θ_run Cert.AdamOutIdeal.defs _ _).mono (fun r hr c => ?_) (Cert.AdamOutIdeal.Value.run_blocks m ρ),
    Cert.AdamOutRefIdeal.Value.run m' ρ'⟩
  obtain ⟨hg, hs, hμ, hν, kept⟩ := hr c
  obtain ⟨a0, a1, a2, a3, a4, a5, a6⟩ := h c
  refine ⟨(hg.trans (gradients m c)).trans ?_, (hs.trans (steps_eq m c)).trans ?_, (hμ.trans (firsts_eq m c)).trans ?_,
    (hν.trans (seconds_eq m c)).trans ?_, kept⟩
  · rw [a0, a1, a2, a3]; exact (stacked_ref _ _ _ _).symm
  · unfold Cert.AdamOutRefIdeal.Value.res_main_v32
    rw [a0, a1, a2, a3, a4, a5, a6]
    refine (congrArg (fun G => steps G _ _ _) (stacked_ref _ _ _ _).symm).trans (steps_ref _ _ _ _).symm
  · rw [a0, a1, a2, a3, a5]
    exact (congrArg (fun G => firsts G _) (stacked_ref _ _ _ _).symm).trans (firsts_ref _ _).symm
  · rw [a0, a1, a2, a3, a6]
    exact (congrArg (fun G => seconds G _) (stacked_ref _ _ _ _).symm).trans (seconds_ref _ _).symm

end Cert.AdamOutIdeal.Update

end
-- ==== Proof.AdamFfInValue.lean ====
/-
  What the update of the feed-forward's first weight writes.

  A point of the grid takes one block of rows of one layer. The eight parts' sum there is the gradient, and the other
  three results are the update's, entry by entry. The reference sums each layer's parts, puts the sums one below the
  other, and updates the whole.
-/
module

public import proofs.«01_k».proof.Proof.AdamW
public import proofs.«01_k».proof.Proof.Gen.AdamFfInIdeal.Value
public import proofs.«01_k».proof.Proof.Gen.AdamFfInRefIdeal.Run

@[expose] public section

set_option maxRecDepth 16384

noncomputable section

namespace Cert.AdamFfInIdeal.Update

open Cert.AdamFfInIdeal Cert.AdamFfInIdeal.Gen Cert.AdamW
open Idealize.ShloMosaic Idealize.ShloMosaic.TcCoe Idealize.SL.Sem
open Idealize.ShloMosaic.Pipeline (Dat)

variable (m : (ℓ : Loc nD τ sig) → Buf (Elt Ideal) ℓ)

/-- The four results of a block: its gradient, and the update made from it. -/
abbrev made (g w μ ν : FVec Ideal S256x512 .f32) :
    FVec Ideal S256x512 .f32 × FVec Ideal S256x512 .f32 × FVec Ideal S256x512 .f32 × FVec Ideal S256x512 .f32 :=
  (g, k0_pay3 g w μ ν, k0_pay1 g μ, k0_pay2 g ν)

theorem made_of {g g' w μ ν : FVec Ideal S256x512 .f32} (h : g = g') : made g w μ ν = made g' w μ ν := h ▸ rfl

theorem steps_at (g w μ ν : FVec Ideal S256x512 .f32) (y : S256x512.Idx) : k0_pay3 g w μ ν y = step (g y) (w y) (μ y) (ν y) := by
  pointwise [k0_pay3, k0_pay1, k0_pay2, step, first, second, lit]

theorem firsts_at (g μ : FVec Ideal S256x512 .f32) (y : S256x512.Idx) : k0_pay1 g μ y = first (g y) (μ y) := by
  pointwise [k0_pay1, first, lit]

theorem seconds_at (g ν : FVec Ideal S256x512 .f32) (y : S256x512.Idx) : k0_pay2 g ν y = second (g y) (ν y) := by
  pointwise [k0_pay2, second, lit]

theorem block₀ (c : Dev nD) (t : Fin cfg0.N) (h : t.val / 4 = 0) :
    outsAt0 m c t.val t.isLt = made (total (iblk m c 0 t)) (iblk m c 4 t) (iblk m c 5 t) (iblk m c 6 t) := by
  rw [outsAt0_A m c t (by omega) (by omega) (by omega) (by omega)]; frame_out
  refine made_of (funext fun y => ?_)
  pointwise [k0_pay13, total, Fin.sum_univ_eight]

theorem block₁ (c : Dev nD) (t : Fin cfg0.N) (h : t.val / 4 = 1) :
    outsAt0 m c t.val t.isLt = made (total (iblk m c 1 t)) (iblk m c 4 t) (iblk m c 5 t) (iblk m c 6 t) := by
  rw [outsAt0_B m c t (by omega) (by omega) (by omega) (by omega)]; frame_out
  refine made_of (funext fun y => ?_)
  pointwise [k0_pay14, total, Fin.sum_univ_eight]

theorem block₂ (c : Dev nD) (t : Fin cfg0.N) (h : t.val / 4 = 2) :
    outsAt0 m c t.val t.isLt = made (total (iblk m c 2 t)) (iblk m c 4 t) (iblk m c 5 t) (iblk m c 6 t) := by
  rw [outsAt0_C m c t (by omega) (by omega) (by omega) (by omega)]; frame_out
  refine made_of (funext fun y => ?_)
  pointwise [k0_pay15, total, Fin.sum_univ_eight]

theorem block₃ (c : Dev nD) (t : Fin cfg0.N) (h : t.val / 4 = 3) :
    outsAt0 m c t.val t.isLt = made (total (iblk m c 3 t)) (iblk m c 4 t) (iblk m c 5 t) (iblk m c 6 t) := by
  rw [outsAt0_D m c t (by omega) (by omega) (by omega) (by omega)]; frame_out
  refine made_of (funext fun y => ?_)
  pointwise [k0_pay16, total, Fin.sum_univ_eight]

/-- Where the blocks of a point lie: the rows follow the points, and of the parts of its layer a point takes the rows
    its place within the layer names. -/
theorem placed : ∀ t : Fin cfg0.N, t.val / 4 < 4
    ∧ (t.val / 4 = 0 → win0_0.index t = ![0, t.val % 4, 0]) ∧ (t.val / 4 = 1 → win0_1.index t = ![0, t.val % 4, 0])
    ∧ (t.val / 4 = 2 → win0_2.index t = ![0, t.val % 4, 0]) ∧ (t.val / 4 = 3 → win0_3.index t = ![0, t.val % 4, 0])
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The gradient: the four layers' parts, summed. -/
abbrev grad (c : Dev nD) : FVec Ideal S4096x512 .f32 :=
  stacked (a := 1024) (b := 512) rfl (m ((c : Thread nD τ).loc main_arg0)) (m ((c : Thread nD τ).loc main_arg1))
    (m ((c : Thread nD τ).loc main_arg2)) (m ((c : Thread nD τ).loc main_arg3))

/-- At every point the body leaves the gradient of its rows, and the update made from it. -/
theorem block_at (c : Dev nD) (t : Fin cfg0.N) : ∃ g : FVec Ideal S256x512 .f32,
    outsAt0 m c t.val t.isLt = made g (iblk m c 4 t) (iblk m c 5 t) (iblk m c 6 t)
      ∧ ∀ (y : S256x512.Idx) (i : S4096x512.Idx), (i 0).val = t.val * 256 + (y 0).val → (i 1).val = (y 1).val → g y = grad m c i := by
  obtain ⟨h4, p0, p1, p2, p3, -⟩ := placed t
  have arg (k : Fin 4) (x : FVec Ideal S8x256x512 .bf16) (X : Fin 4 → FVec Ideal S8x1024x512 .bf16) (hk : t.val / 4 = k.val)
      (hx : ∀ (d : Fin 8) (r : Fin 256) (j : Fin 512) (r' : Fin 1024), r'.val = t.val % 4 * 256 + r.val → x (ix3 d r j) = X k (ix3 d r' j))
      (y : S256x512.Idx) (i : S4096x512.Idx) (h0 : (i 0).val = t.val * 256 + (y 0).val) (h1 : (i 1).val = (y 1).val) :
      total x y = stacked (a := 1024) (b := 512) (n := 4096) rfl (X 0) (X 1) (X 2) (X 3) i := by
    have hy : (y 0).val < 256 := (y 0).isLt
    refine Eq.trans ?_ (stacked_at rfl X k ⟨t.val % 4 * 256 + (y 0).val, by omega⟩ (y 1) i (by dsimp only; omega) (Fin.ext h1)).symm
    exact Finset.sum_congr rfl fun d _ => hx d (y 0) (y 1) _ rfl
  rcases (by omega : t.val / 4 = 0 ∨ t.val / 4 = 1 ∨ t.val / 4 = 2 ∨ t.val / 4 = 3) with h | h | h | h
  · refine ⟨_, block₀ m c t h, arg 0 _ ![_, _, _, _] h fun d r j r' hr => ?_⟩
    blk_ext [iblk, V, p0 h, hr]
  · refine ⟨_, block₁ m c t h, arg 1 _ ![_, _, _, _] h fun d r j r' hr => ?_⟩
    blk_ext [iblk, V, p1 h, hr]
  · refine ⟨_, block₂ m c t h, arg 2 _ ![_, _, _, _] h fun d r j r' hr => ?_⟩
    blk_ext [iblk, V, p2 h, hr]
  · refine ⟨_, block₃ m c t h, arg 3 _ ![_, _, _, _] h fun d r j r' hr => ?_⟩
    blk_ext [iblk, V, p3 h, hr]

theorem gradients (c : Dev nD) : (dats m 0 c).arrAt 7 cfg0.N = grad m c := by
  refine (dats m 0 c).arrAt_eq_of_covers 7 _ (by decide +kernel) fun t _ y => ?_
  obtain ⟨g, hg, hy⟩ := block_at m c t
  obtain ⟨-, -, -, -, -, -, -, -, p7, -⟩ := placed t
  blk_simp
  rw [after0_7, hg]
  refine hy y _ ?_ ?_ <;> blk_simp [p7]

theorem steps_eq (c : Dev nD) : (dats m 0 c).arrAt 8 cfg0.N
    = steps (grad m c) (m ((c : Thread nD τ).loc main_arg4)) (m ((c : Thread nD τ).loc main_arg5)) (m ((c : Thread nD τ).loc main_arg6)) := by
  refine (dats m 0 c).arrAt_eq_of_covers 8 _ (by decide +kernel) fun t _ y => ?_
  obtain ⟨g, hg, hy⟩ := block_at m c t
  obtain ⟨-, -, -, -, -, p4, p5, p6, -, p8, -⟩ := placed t
  blk_simp
  rw [after0_8, hg]
  refine (steps_at _ _ _ _ y).trans (step_congr (hy y _ ?_ ?_) ?_ ?_ ?_)
  · blk_simp [p8]
  · blk_simp [p8]
  · blk_ext [iblk, V, p4, p8]
  · blk_ext [iblk, V, p5, p8]
  · blk_ext [iblk, V, p6, p8]

theorem firsts_eq (c : Dev nD) : (dats m 0 c).arrAt 9 cfg0.N = firsts (grad m c) (m ((c : Thread nD τ).loc main_arg5)) := by
  refine (dats m 0 c).arrAt_eq_of_covers 9 _ (by decide +kernel) fun t _ y => ?_
  obtain ⟨g, hg, hy⟩ := block_at m c t
  obtain ⟨-, -, -, -, -, -, p5, -, -, -, p9, -⟩ := placed t
  blk_simp
  rw [after0_9, hg]
  refine (firsts_at _ _ y).trans (first_congr (hy y _ ?_ ?_) ?_)
  · blk_simp [p9]
  · blk_simp [p9]
  · blk_ext [iblk, V, p5, p9]

theorem seconds_eq (c : Dev nD) : (dats m 0 c).arrAt 10 cfg0.N = seconds (grad m c) (m ((c : Thread nD τ).loc main_arg6)) := by
  refine (dats m 0 c).arrAt_eq_of_covers 10 _ (by decide +kernel) fun t _ y => ?_
  obtain ⟨g, hg, hy⟩ := block_at m c t
  obtain ⟨-, -, -, -, -, -, -, p6, -, -, -, p10⟩ := placed t
  blk_simp
  rw [after0_10, hg]
  refine (seconds_at _ _ y).trans (second_congr (hy y _ ?_ ?_) ?_)
  · blk_simp [p10]
  · blk_simp [p10]
  · blk_ext [iblk, V, p6, p10]

end Cert.AdamFfInIdeal.Update

namespace Cert.AdamFfInRefIdeal.Update

open Cert.AdamFfInRefIdeal Cert.AdamFfInRefIdeal.Gen Cert.AdamW
open Idealize.ShloMosaic Idealize.ShloMosaic.TcCoe Idealize.SL.Sem

/-- The reference's gradient is the same stack of sums. -/
theorem stacked_ref (x₀ x₁ x₂ x₃ : FVec Ideal S8x1024x512 .bf16) :
    (concatenate S4096x512 0
      [⟨S1024x512, Host.reduceAdd (extf .f32 x₀ bitsLt_bf16_f32) (constant S_ .f32 0x00000000#32) reducesTo_S8x1024x512_S1024x512_d0 h_S_⟩,
       ⟨S1024x512, Host.reduceAdd (extf .f32 x₁ bitsLt_bf16_f32) (constant S_ .f32 0x00000000#32) reducesTo_S8x1024x512_S1024x512_d0 h_S_⟩,
       ⟨S1024x512, Host.reduceAdd (extf .f32 x₂ bitsLt_bf16_f32) (constant S_ .f32 0x00000000#32) reducesTo_S8x1024x512_S1024x512_d0 h_S_⟩,
       ⟨S1024x512, Host.reduceAdd (extf .f32 x₃ bitsLt_bf16_f32) (constant S_ .f32 0x00000000#32) reducesTo_S8x1024x512_S1024x512_d0 h_S_⟩]
      concatenates_S1024x512_S1024x512_S1024x512_S1024x512_S4096x512_d0 : FVec Ideal S4096x512 .f32)
    = stacked (a := 1024) (b := 512) rfl x₀ x₁ x₂ x₃ := by
  funext i
  pointwise [stacked, total]

theorem steps_ref (G w μ ν : FVec Ideal S4096x512 .f32) :
    mulf (broadcastInDim S4096x512 ![] bcast_S_S4096x512 (constant S_ .f32 0xBA83126F#32))
      (addf (Host.divf (Host.divf
          (addf (mulf (broadcastInDim S4096x512 ![] bcast_S_S4096x512 (constant S_ .f32 0x3F666666#32)) μ)
            (mulf (broadcastInDim S4096x512 ![] bcast_S_S4096x512 (constant S_ .f32 0x3DCCCCCD#32)) G))
          (broadcastInDim S4096x512 ![] bcast_S_S4096x512 (constant S_ .f32 0x3F26BD02#32)))
        (addf (Host.sqrt (Host.divf
            (addf (mulf (broadcastInDim S4096x512 ![] bcast_S_S4096x512 (constant S_ .f32 0x3F7FBE77#32)) ν)
              (mulf (broadcastInDim S4096x512 ![] bcast_S_S4096x512 (constant S_ .f32 0x3A83126F#32)) (mulf G G)))
            (broadcastInDim S4096x512 ![] bcast_S_S4096x512 (constant S_ .f32 0x3C231ACC#32))))
          (broadcastInDim S4096x512 ![] bcast_S_S4096x512 (constant S_ .f32 0x322BCC77#32))))
        (mulf (broadcastInDim S4096x512 ![] bcast_S_S4096x512 (constant S_ .f32 0x3C23D70A#32)) w)) = steps G w μ ν := by
  funext i
  pointwise [steps, step, first, second, lit]

theorem firsts_ref (G μ : FVec Ideal S4096x512 .f32) :
    addf (mulf (broadcastInDim S4096x512 ![] bcast_S_S4096x512 (constant S_ .f32 0x3F666666#32)) μ)
      (mulf (broadcastInDim S4096x512 ![] bcast_S_S4096x512 (constant S_ .f32 0x3DCCCCCD#32)) G) = firsts G μ := by
  funext i
  pointwise [firsts, first, lit]

theorem seconds_ref (G ν : FVec Ideal S4096x512 .f32) :
    addf (mulf (broadcastInDim S4096x512 ![] bcast_S_S4096x512 (constant S_ .f32 0x3F7FBE77#32)) ν)
      (mulf (broadcastInDim S4096x512 ![] bcast_S_S4096x512 (constant S_ .f32 0x3A83126F#32)) (mulf G G)) = seconds G ν := by
  funext i
  pointwise [seconds, second, lit]

end Cert.AdamFfInRefIdeal.Update

end
-- ==== Proof.AdamFfInClaim.lean ====
/-
  The claims about the update of the feed-forward's first weight, put together.
-/
module

public import proofs.«01_k».proof.Defs
public import proofs.«01_k».proof.Proof.AdamFfInValue
public import proofs.«01_k».proof.Proof.Gen.AdamFfIn
public import Idealize.ShloMosaic.Adequacy
public import Idealize.ShloMosaic.Init

@[expose] public section

noncomputable section

namespace Cert.AdamFfInIdeal.Update

open Cert.AdamFfInIdeal Cert.AdamFfInIdeal.Gen Cert.AdamW Cert.AdamFfInRefIdeal.Update
open Idealize.ShloMosaic Idealize.ShloMosaic.TcCoe Idealize.SL.Sem

/-- The two programs have the same body table: the one kernel is the same function. -/
theorem bodies_eq : Cert.AdamFfIn.defs₀ (F := Bits) = Cert.AdamFfInIdeal.defs₀ (F := Bits) := by
  unfold Cert.AdamFfIn.defs₀ Cert.AdamFfInIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.AdamFfIn.defs (F := Bits) = Cert.AdamFfInIdeal.defs (F := Bits) := congrArg (Pipeline.defs Cert.AdamFfInIdeal.pcfgs) bodies_eq

theorem frame_bits : Cert.quiescent_AdamFfIn (hAdamFfIn := Cert.AdamFfIn.Gen.facts) := fun m ρ _ => by
  rw [table_eq]; exact frame (F := Bits) m ρ

theorem frame_ideal : Cert.quiescent_AdamFfInIdeal (hAdamFfInIdeal := Cert.AdamFfInIdeal.Gen.facts) := fun m ρ _ => frame m ρ

theorem frame_reference : Cert.quiescent_AdamFfInRefIdeal (hAdamFfInRefIdeal := Cert.AdamFfInRefIdeal.Gen.facts) := fun m ρ _ =>
  (θ_run Cert.AdamFfInRefIdeal.defs _ _).mono (fun r h => ⟨fun c => (h c).2.2.2.2, sem_eq_zero_of_no_sems (by decide) r.2⟩)
    (Cert.AdamFfInRefIdeal.Value.run m ρ)

theorem values : Cert.algebraic_AdamFfInIdeal_AdamFfInRefIdeal (hAdamFfInIdeal := Cert.AdamFfInIdeal.Gen.facts) (hAdamFfInRefIdeal := Cert.AdamFfInRefIdeal.Gen.facts) := fun m ρ m' ρ' _ h => by
  refine ⟨_, _, _, _, (θ_run Cert.AdamFfInIdeal.defs _ _).mono (fun r hr c => ?_) (Cert.AdamFfInIdeal.Value.run_blocks m ρ),
    Cert.AdamFfInRefIdeal.Value.run m' ρ'⟩
  obtain ⟨hg, hs, hμ, hν, kept⟩ := hr c
  obtain ⟨a0, a1, a2, a3, a4, a5, a6⟩ := h c
  refine ⟨(hg.trans (gradients m c)).trans ?_, (hs.trans (steps_eq m c)).trans ?_, (hμ.trans (firsts_eq m c)).trans ?_,
    (hν.trans (seconds_eq m c)).trans ?_, kept⟩
  · rw [a0, a1, a2, a3]; exact (stacked_ref _ _ _ _).symm
  · unfold Cert.AdamFfInRefIdeal.Value.res_main_v32
    rw [a0, a1, a2, a3, a4, a5, a6]
    refine (congrArg (fun G => steps G _ _ _) (stacked_ref _ _ _ _).symm).trans (steps_ref _ _ _ _).symm
  · rw [a0, a1, a2, a3, a5]
    exact (congrArg (fun G => firsts G _) (stacked_ref _ _ _ _).symm).trans (firsts_ref _ _).symm
  · rw [a0, a1, a2, a3, a6]
    exact (congrArg (fun G => seconds G _) (stacked_ref _ _ _ _).symm).trans (seconds_ref _ _).symm

end Cert.AdamFfInIdeal.Update

end
-- ==== Proof.AdamFfOutValue.lean ====
/-
  What the update of the feed-forward's second weight writes.

  A point of the grid takes one block of rows of one layer. The eight parts' sum there is the gradient, and the other
  three results are the update's, entry by entry. The reference sums each layer's parts, puts the sums one below the
  other, and updates the whole.
-/
module

public import proofs.«01_k».proof.Proof.AdamW
public import proofs.«01_k».proof.Proof.Gen.AdamFfOutIdeal.Value
public import proofs.«01_k».proof.Proof.Gen.AdamFfOutRefIdeal.Run

@[expose] public section

set_option maxRecDepth 16384

noncomputable section

namespace Cert.AdamFfOutIdeal.Update

open Cert.AdamFfOutIdeal Cert.AdamFfOutIdeal.Gen Cert.AdamW
open Idealize.ShloMosaic Idealize.ShloMosaic.TcCoe Idealize.SL.Sem
open Idealize.ShloMosaic.Pipeline (Dat)

variable (m : (ℓ : Loc nD τ sig) → Buf (Elt Ideal) ℓ)

/-- The four results of a block: its gradient, and the update made from it. -/
abbrev made (g w μ ν : FVec Ideal S128x1024 .f32) :
    FVec Ideal S128x1024 .f32 × FVec Ideal S128x1024 .f32 × FVec Ideal S128x1024 .f32 × FVec Ideal S128x1024 .f32 :=
  (g, k0_pay3 g w μ ν, k0_pay1 g μ, k0_pay2 g ν)

theorem made_of {g g' w μ ν : FVec Ideal S128x1024 .f32} (h : g = g') : made g w μ ν = made g' w μ ν := h ▸ rfl

theorem steps_at (g w μ ν : FVec Ideal S128x1024 .f32) (y : S128x1024.Idx) : k0_pay3 g w μ ν y = step (g y) (w y) (μ y) (ν y) := by
  pointwise [k0_pay3, k0_pay1, k0_pay2, step, first, second, lit]

theorem firsts_at (g μ : FVec Ideal S128x1024 .f32) (y : S128x1024.Idx) : k0_pay1 g μ y = first (g y) (μ y) := by
  pointwise [k0_pay1, first, lit]

theorem seconds_at (g ν : FVec Ideal S128x1024 .f32) (y : S128x1024.Idx) : k0_pay2 g ν y = second (g y) (ν y) := by
  pointwise [k0_pay2, second, lit]

theorem block₀ (c : Dev nD) (t : Fin cfg0.N) (h : t.val / 4 = 0) :
    outsAt0 m c t.val t.isLt = made (total (iblk m c 0 t)) (iblk m c 4 t) (iblk m c 5 t) (iblk m c 6 t) := by
  rw [outsAt0_A m c t (by omega) (by omega) (by omega) (by omega)]; frame_out
  refine made_of (funext fun y => ?_)
  pointwise [k0_pay13, total, Fin.sum_univ_eight]

theorem block₁ (c : Dev nD) (t : Fin cfg0.N) (h : t.val / 4 = 1) :
    outsAt0 m c t.val t.isLt = made (total (iblk m c 1 t)) (iblk m c 4 t) (iblk m c 5 t) (iblk m c 6 t) := by
  rw [outsAt0_B m c t (by omega) (by omega) (by omega) (by omega)]; frame_out
  refine made_of (funext fun y => ?_)
  pointwise [k0_pay14, total, Fin.sum_univ_eight]

theorem block₂ (c : Dev nD) (t : Fin cfg0.N) (h : t.val / 4 = 2) :
    outsAt0 m c t.val t.isLt = made (total (iblk m c 2 t)) (iblk m c 4 t) (iblk m c 5 t) (iblk m c 6 t) := by
  rw [outsAt0_C m c t (by omega) (by omega) (by omega) (by omega)]; frame_out
  refine made_of (funext fun y => ?_)
  pointwise [k0_pay15, total, Fin.sum_univ_eight]

theorem block₃ (c : Dev nD) (t : Fin cfg0.N) (h : t.val / 4 = 3) :
    outsAt0 m c t.val t.isLt = made (total (iblk m c 3 t)) (iblk m c 4 t) (iblk m c 5 t) (iblk m c 6 t) := by
  rw [outsAt0_D m c t (by omega) (by omega) (by omega) (by omega)]; frame_out
  refine made_of (funext fun y => ?_)
  pointwise [k0_pay16, total, Fin.sum_univ_eight]

/-- Where the blocks of a point lie: the rows follow the points, and of the parts of its layer a point takes the rows
    its place within the layer names. -/
theorem placed : ∀ t : Fin cfg0.N, t.val / 4 < 4
    ∧ (t.val / 4 = 0 → win0_0.index t = ![0, t.val % 4, 0]) ∧ (t.val / 4 = 1 → win0_1.index t = ![0, t.val % 4, 0])
    ∧ (t.val / 4 = 2 → win0_2.index t = ![0, t.val % 4, 0]) ∧ (t.val / 4 = 3 → win0_3.index t = ![0, t.val % 4, 0])
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The gradient: the four layers' parts, summed. -/
abbrev grad (c : Dev nD) : FVec Ideal S2048x1024 .f32 :=
  stacked (a := 512) (b := 1024) rfl (m ((c : Thread nD τ).loc main_arg0)) (m ((c : Thread nD τ).loc main_arg1))
    (m ((c : Thread nD τ).loc main_arg2)) (m ((c : Thread nD τ).loc main_arg3))

/-- At every point the body leaves the gradient of its rows, and the update made from it. -/
theorem block_at (c : Dev nD) (t : Fin cfg0.N) : ∃ g : FVec Ideal S128x1024 .f32,
    outsAt0 m c t.val t.isLt = made g (iblk m c 4 t) (iblk m c 5 t) (iblk m c 6 t)
      ∧ ∀ (y : S128x1024.Idx) (i : S2048x1024.Idx), (i 0).val = t.val * 128 + (y 0).val → (i 1).val = (y 1).val → g y = grad m c i := by
  obtain ⟨h4, p0, p1, p2, p3, -⟩ := placed t
  have arg (k : Fin 4) (x : FVec Ideal S8x128x1024 .bf16) (X : Fin 4 → FVec Ideal S8x512x1024 .bf16) (hk : t.val / 4 = k.val)
      (hx : ∀ (d : Fin 8) (r : Fin 128) (j : Fin 1024) (r' : Fin 512), r'.val = t.val % 4 * 128 + r.val → x (ix3 d r j) = X k (ix3 d r' j))
      (y : S128x1024.Idx) (i : S2048x1024.Idx) (h0 : (i 0).val = t.val * 128 + (y 0).val) (h1 : (i 1).val = (y 1).val) :
      total x y = stacked (a := 512) (b := 1024) (n := 2048) rfl (X 0) (X 1) (X 2) (X 3) i := by
    have hy : (y 0).val < 128 := (y 0).isLt
    refine Eq.trans ?_ (stacked_at rfl X k ⟨t.val % 4 * 128 + (y 0).val, by omega⟩ (y 1) i (by dsimp only; omega) (Fin.ext h1)).symm
    exact Finset.sum_congr rfl fun d _ => hx d (y 0) (y 1) _ rfl
  rcases (by omega : t.val / 4 = 0 ∨ t.val / 4 = 1 ∨ t.val / 4 = 2 ∨ t.val / 4 = 3) with h | h | h | h
  · refine ⟨_, block₀ m c t h, arg 0 _ ![_, _, _, _] h fun d r j r' hr => ?_⟩
    blk_ext [iblk, V, p0 h, hr]
  · refine ⟨_, block₁ m c t h, arg 1 _ ![_, _, _, _] h fun d r j r' hr => ?_⟩
    blk_ext [iblk, V, p1 h, hr]
  · refine ⟨_, block₂ m c t h, arg 2 _ ![_, _, _, _] h fun d r j r' hr => ?_⟩
    blk_ext [iblk, V, p2 h, hr]
  · refine ⟨_, block₃ m c t h, arg 3 _ ![_, _, _, _] h fun d r j r' hr => ?_⟩
    blk_ext [iblk, V, p3 h, hr]

theorem gradients (c : Dev nD) : (dats m 0 c).arrAt 7 cfg0.N = grad m c := by
  refine (dats m 0 c).arrAt_eq_of_covers 7 _ (by decide +kernel) fun t _ y => ?_
  obtain ⟨g, hg, hy⟩ := block_at m c t
  obtain ⟨-, -, -, -, -, -, -, -, p7, -⟩ := placed t
  blk_simp
  rw [after0_7, hg]
  refine hy y _ ?_ ?_ <;> blk_simp [p7]

theorem steps_eq (c : Dev nD) : (dats m 0 c).arrAt 8 cfg0.N
    = steps (grad m c) (m ((c : Thread nD τ).loc main_arg4)) (m ((c : Thread nD τ).loc main_arg5)) (m ((c : Thread nD τ).loc main_arg6)) := by
  refine (dats m 0 c).arrAt_eq_of_covers 8 _ (by decide +kernel) fun t _ y => ?_
  obtain ⟨g, hg, hy⟩ := block_at m c t
  obtain ⟨-, -, -, -, -, p4, p5, p6, -, p8, -⟩ := placed t
  blk_simp
  rw [after0_8, hg]
  refine (steps_at _ _ _ _ y).trans (step_congr (hy y _ ?_ ?_) ?_ ?_ ?_)
  · blk_simp [p8]
  · blk_simp [p8]
  · blk_ext [iblk, V, p4, p8]
  · blk_ext [iblk, V, p5, p8]
  · blk_ext [iblk, V, p6, p8]

theorem firsts_eq (c : Dev nD) : (dats m 0 c).arrAt 9 cfg0.N = firsts (grad m c) (m ((c : Thread nD τ).loc main_arg5)) := by
  refine (dats m 0 c).arrAt_eq_of_covers 9 _ (by decide +kernel) fun t _ y => ?_
  obtain ⟨g, hg, hy⟩ := block_at m c t
  obtain ⟨-, -, -, -, -, -, p5, -, -, -, p9, -⟩ := placed t
  blk_simp
  rw [after0_9, hg]
  refine (firsts_at _ _ y).trans (first_congr (hy y _ ?_ ?_) ?_)
  · blk_simp [p9]
  · blk_simp [p9]
  · blk_ext [iblk, V, p5, p9]

theorem seconds_eq (c : Dev nD) : (dats m 0 c).arrAt 10 cfg0.N = seconds (grad m c) (m ((c : Thread nD τ).loc main_arg6)) := by
  refine (dats m 0 c).arrAt_eq_of_covers 10 _ (by decide +kernel) fun t _ y => ?_
  obtain ⟨g, hg, hy⟩ := block_at m c t
  obtain ⟨-, -, -, -, -, -, -, p6, -, -, -, p10⟩ := placed t
  blk_simp
  rw [after0_10, hg]
  refine (seconds_at _ _ y).trans (second_congr (hy y _ ?_ ?_) ?_)
  · blk_simp [p10]
  · blk_simp [p10]
  · blk_ext [iblk, V, p6, p10]

end Cert.AdamFfOutIdeal.Update

namespace Cert.AdamFfOutRefIdeal.Update

open Cert.AdamFfOutRefIdeal Cert.AdamFfOutRefIdeal.Gen Cert.AdamW
open Idealize.ShloMosaic Idealize.ShloMosaic.TcCoe Idealize.SL.Sem

/-- The reference's gradient is the same stack of sums. -/
theorem stacked_ref (x₀ x₁ x₂ x₃ : FVec Ideal S8x512x1024 .bf16) :
    (concatenate S2048x1024 0
      [⟨S512x1024, Host.reduceAdd (extf .f32 x₀ bitsLt_bf16_f32) (constant S_ .f32 0x00000000#32) reducesTo_S8x512x1024_S512x1024_d0 h_S_⟩,
       ⟨S512x1024, Host.reduceAdd (extf .f32 x₁ bitsLt_bf16_f32) (constant S_ .f32 0x00000000#32) reducesTo_S8x512x1024_S512x1024_d0 h_S_⟩,
       ⟨S512x1024, Host.reduceAdd (extf .f32 x₂ bitsLt_bf16_f32) (constant S_ .f32 0x00000000#32) reducesTo_S8x512x1024_S512x1024_d0 h_S_⟩,
       ⟨S512x1024, Host.reduceAdd (extf .f32 x₃ bitsLt_bf16_f32) (constant S_ .f32 0x00000000#32) reducesTo_S8x512x1024_S512x1024_d0 h_S_⟩]
      concatenates_S512x1024_S512x1024_S512x1024_S512x1024_S2048x1024_d0 : FVec Ideal S2048x1024 .f32)
    = stacked (a := 512) (b := 1024) rfl x₀ x₁ x₂ x₃ := by
  funext i
  pointwise [stacked, total]

theorem steps_ref (G w μ ν : FVec Ideal S2048x1024 .f32) :
    mulf (broadcastInDim S2048x1024 ![] bcast_S_S2048x1024 (constant S_ .f32 0xBA83126F#32))
      (addf (Host.divf (Host.divf
          (addf (mulf (broadcastInDim S2048x1024 ![] bcast_S_S2048x1024 (constant S_ .f32 0x3F666666#32)) μ)
            (mulf (broadcastInDim S2048x1024 ![] bcast_S_S2048x1024 (constant S_ .f32 0x3DCCCCCD#32)) G))
          (broadcastInDim S2048x1024 ![] bcast_S_S2048x1024 (constant S_ .f32 0x3F26BD02#32)))
        (addf (Host.sqrt (Host.divf
            (addf (mulf (broadcastInDim S2048x1024 ![] bcast_S_S2048x1024 (constant S_ .f32 0x3F7FBE77#32)) ν)
              (mulf (broadcastInDim S2048x1024 ![] bcast_S_S2048x1024 (constant S_ .f32 0x3A83126F#32)) (mulf G G)))
            (broadcastInDim S2048x1024 ![] bcast_S_S2048x1024 (constant S_ .f32 0x3C231ACC#32))))
          (broadcastInDim S2048x1024 ![] bcast_S_S2048x1024 (constant S_ .f32 0x322BCC77#32))))
        (mulf (broadcastInDim S2048x1024 ![] bcast_S_S2048x1024 (constant S_ .f32 0x3C23D70A#32)) w)) = steps G w μ ν := by
  funext i
  pointwise [steps, step, first, second, lit]

theorem firsts_ref (G μ : FVec Ideal S2048x1024 .f32) :
    addf (mulf (broadcastInDim S2048x1024 ![] bcast_S_S2048x1024 (constant S_ .f32 0x3F666666#32)) μ)
      (mulf (broadcastInDim S2048x1024 ![] bcast_S_S2048x1024 (constant S_ .f32 0x3DCCCCCD#32)) G) = firsts G μ := by
  funext i
  pointwise [firsts, first, lit]

theorem seconds_ref (G ν : FVec Ideal S2048x1024 .f32) :
    addf (mulf (broadcastInDim S2048x1024 ![] bcast_S_S2048x1024 (constant S_ .f32 0x3F7FBE77#32)) ν)
      (mulf (broadcastInDim S2048x1024 ![] bcast_S_S2048x1024 (constant S_ .f32 0x3A83126F#32)) (mulf G G)) = seconds G ν := by
  funext i
  pointwise [seconds, second, lit]

end Cert.AdamFfOutRefIdeal.Update

end
-- ==== Proof.AdamFfOutClaim.lean ====
/-
  The claims about the update of the feed-forward's second weight, put together.
-/
module

public import proofs.«01_k».proof.Defs
public import proofs.«01_k».proof.Proof.AdamFfOutValue
public import proofs.«01_k».proof.Proof.Gen.AdamFfOut
public import Idealize.ShloMosaic.Adequacy
public import Idealize.ShloMosaic.Init

@[expose] public section

noncomputable section

namespace Cert.AdamFfOutIdeal.Update

open Cert.AdamFfOutIdeal Cert.AdamFfOutIdeal.Gen Cert.AdamW Cert.AdamFfOutRefIdeal.Update
open Idealize.ShloMosaic Idealize.ShloMosaic.TcCoe Idealize.SL.Sem

/-- The two programs have the same body table: the one kernel is the same function. -/
theorem bodies_eq : Cert.AdamFfOut.defs₀ (F := Bits) = Cert.AdamFfOutIdeal.defs₀ (F := Bits) := by
  unfold Cert.AdamFfOut.defs₀ Cert.AdamFfOutIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.AdamFfOut.defs (F := Bits) = Cert.AdamFfOutIdeal.defs (F := Bits) := congrArg (Pipeline.defs Cert.AdamFfOutIdeal.pcfgs) bodies_eq

theorem frame_bits : Cert.quiescent_AdamFfOut (hAdamFfOut := Cert.AdamFfOut.Gen.facts) := fun m ρ _ => by
  rw [table_eq]; exact frame (F := Bits) m ρ

theorem frame_ideal : Cert.quiescent_AdamFfOutIdeal (hAdamFfOutIdeal := Cert.AdamFfOutIdeal.Gen.facts) := fun m ρ _ => frame m ρ

theorem frame_reference : Cert.quiescent_AdamFfOutRefIdeal (hAdamFfOutRefIdeal := Cert.AdamFfOutRefIdeal.Gen.facts) := fun m ρ _ =>
  (θ_run Cert.AdamFfOutRefIdeal.defs _ _).mono (fun r h => ⟨fun c => (h c).2.2.2.2, sem_eq_zero_of_no_sems (by decide) r.2⟩)
    (Cert.AdamFfOutRefIdeal.Value.run m ρ)

theorem values : Cert.algebraic_AdamFfOutIdeal_AdamFfOutRefIdeal (hAdamFfOutIdeal := Cert.AdamFfOutIdeal.Gen.facts) (hAdamFfOutRefIdeal := Cert.AdamFfOutRefIdeal.Gen.facts) := fun m ρ m' ρ' _ h => by
  refine ⟨_, _, _, _, (θ_run Cert.AdamFfOutIdeal.defs _ _).mono (fun r hr c => ?_) (Cert.AdamFfOutIdeal.Value.run_blocks m ρ),
    Cert.AdamFfOutRefIdeal.Value.run m' ρ'⟩
  obtain ⟨hg, hs, hμ, hν, kept⟩ := hr c
  obtain ⟨a0, a1, a2, a3, a4, a5, a6⟩ := h c
  refine ⟨(hg.trans (gradients m c)).trans ?_, (hs.trans (steps_eq m c)).trans ?_, (hμ.trans (firsts_eq m c)).trans ?_,
    (hν.trans (seconds_eq m c)).trans ?_, kept⟩
  · rw [a0, a1, a2, a3]; exact (stacked_ref _ _ _ _).symm
  · unfold Cert.AdamFfOutRefIdeal.Value.res_main_v32
    rw [a0, a1, a2, a3, a4, a5, a6]
    refine (congrArg (fun G => steps G _ _ _) (stacked_ref _ _ _ _).symm).trans (steps_ref _ _ _ _).symm
  · rw [a0, a1, a2, a3, a5]
    exact (congrArg (fun G => firsts G _) (stacked_ref _ _ _ _).symm).trans (firsts_ref _ _).symm
  · rw [a0, a1, a2, a3, a6]
    exact (congrArg (fun G => seconds G _) (stacked_ref _ _ _ _).symm).trans (seconds_ref _ _).symm

end Cert.AdamFfOutIdeal.Update

end
-- ==== Proof.AdamRef.lean ====
/-
  The update as a host program spells it, for arrays of any shape: a constant is a number broadcast over the array.
  And the gate of the conditioning, which the kernel spells by the hyperbolic tangent and the reference by the
  exponential.
-/
module

public import proofs.«01_k».proof.Proof.AdamW

@[expose] public section

noncomputable section

namespace Cert.AdamW

open Idealize.ShloMosaic Idealize.ShloMosaic.TcCoe

variable {S : Shape} (hb : (⟨0, ![]⟩ : Shape).BroadcastsInDim S ![])

/-- A constant, broadcast over the array. -/
abbrev splat (b : BitVec 32) : FVec Ideal S .f32 := broadcastInDim S ![] hb (constant ⟨0, ![]⟩ .f32 b)

theorem steps_host (G w μ ν : FVec Ideal S .f32) :
    mulf (splat hb 0xBA83126F#32) (addf (Host.divf (Host.divf
          (addf (mulf (splat hb 0x3F666666#32) μ) (mulf (splat hb 0x3DCCCCCD#32) G)) (splat hb 0x3F26BD02#32))
        (addf (Host.sqrt (Host.divf (addf (mulf (splat hb 0x3F7FBE77#32) ν) (mulf (splat hb 0x3A83126F#32) (mulf G G)))
            (splat hb 0x3C231ACC#32))) (splat hb 0x322BCC77#32)))
        (mulf (splat hb 0x3C23D70A#32) w)) = steps G w μ ν := by
  funext i
  pointwise [steps, step, first, second, lit, splat]

theorem firsts_host (G μ : FVec Ideal S .f32) :
    addf (mulf (splat hb 0x3F666666#32) μ) (mulf (splat hb 0x3DCCCCCD#32) G) = firsts G μ := by
  funext i
  pointwise [firsts, first, lit, splat]

theorem seconds_host (G ν : FVec Ideal S .f32) :
    addf (mulf (splat hb 0x3F7FBE77#32) ν) (mulf (splat hb 0x3A83126F#32) (mulf G G)) = seconds G ν := by
  funext i
  pointwise [seconds, second, lit, splat]

/-- The logistic function. -/
def logistic (x : EReal) : EReal := Ideal.div 1 (1 + Ideal.exp (-x))

theorem half_eq : lit 0x3F000000#32 = (((1 : ℝ) / 2 : ℝ) : EReal) := by
  simp [lit, Ideal.ofBits, Ideal.ieee, -EReal.coe_mul]; norm_num

theorem real_gate (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have p := Real.exp_pos (1 / 2 * r)
  rw [Real.tanh_eq_sinh_div_cosh, Real.sinh_eq, Real.cosh_eq, e, Real.exp_neg]
  generalize Real.exp (1 / 2 * r) = u at p
  have h1 : u + u⁻¹ ≠ 0 := by positivity
  have h2 : 1 + u⁻¹ * u⁻¹ ≠ 0 := by positivity
  field_simp
  ring

/-- Half the hyperbolic tangent of half the argument, plus a half, is the logistic function, at the infinities too. -/
theorem gate_eq (x : EReal) : lit 0x3F000000#32 * Ideal.tanh (lit 0x3F000000#32 * x) + lit 0x3F000000#32 = logistic x := by
  rw [half_eq]
  change _ = Ideal.logistic x
  induction x using EReal.rec with
  | bot =>
    rw [EReal.coe_mul_bot_of_pos (by norm_num), Ideal.tanh_bot, Ideal.logistic_bot, mul_neg, mul_one, ← EReal.coe_neg, ← EReal.coe_add]
    norm_num
  | coe r =>
    rw [← EReal.coe_mul, Ideal.tanh_coe, Ideal.logistic_coe, ← EReal.coe_mul, ← EReal.coe_add, real_gate]
  | top =>
    rw [EReal.coe_mul_top_of_pos (by norm_num), Ideal.tanh_top, Ideal.logistic_top]
    norm_cast; norm_num

end Cert.AdamW

end
-- ==== Proof.AdamAdaValue.lean ====
/-
  What the update of the modulation's weight writes. A point of the grid takes one layer: the gated conditioning of the
  eight rows times their modulation's gradient is the weight's gradient.
-/
module

public import proofs.«01_k».proof.Proof.AdamRef
public import proofs.«01_k».proof.Proof.Gen.AdamAdaIdeal.Value
public import proofs.«01_k».proof.Proof.Gen.AdamAdaRefIdeal.Run

@[expose] public section

set_option maxRecDepth 16384

noncomputable section

namespace Cert.AdamAdaIdeal.Update

open Cert.AdamAdaIdeal Cert.AdamAdaIdeal.Gen Cert.AdamW
open Idealize.ShloMosaic Idealize.ShloMosaic.TcCoe Idealize.SL.Sem
open Idealize.ShloMosaic.Pipeline (Dat)

variable (m : (ℓ : Loc nD τ sig) → Buf (Elt Ideal) ℓ)

/-- The gradient: each row's gated conditioning times the row's gradient, summed over the rows. -/
def outer {n : ℕ} (x : FVec Ideal ⟨2, ![1024, 8]⟩ .f32) (d : FVec Ideal ⟨3, ![n, 8, 768]⟩ .f32) : FVec Ideal ⟨3, ![n, 1024, 768]⟩ .f32 :=
  fun y => (∑ b : Fin 8, (x (ix2 (y 1) b) * logistic (x (ix2 (y 1) b))) * d (ix3 (y 0) b (y 2)) : EReal)

/-- The kernel's gate is the logistic function. -/
theorem outer_at (x : FVec Ideal S1024x8 .f32) (d : FVec Ideal S1x8x768 .f32) (i : Fin 1024) (j : Fin 768) :
    k0_pay4 (F := Ideal) x d (ix2 i j) = outer (n := 1) x d (ix3 0 i j) := by
  pointwise [k0_pay4, outer, ← gate_eq, lit]

/-- The first axis of a block is one long. -/
theorem first_zero (y : S1x1024x768.Idx) : ix3 0 (y 1) (y 2) = y := by
  funext a
  match a with
  | 0 => exact Subsingleton.elim (α := Fin 1) _ _
  | 1 => rfl
  | 2 => rfl

theorem gradients_at (x : FVec Ideal S1024x8 .f32) (d : FVec Ideal S1x8x768 .f32) (y : S1x1024x768.Idx) :
    k0_pay5 (F := Ideal) x d y = outer (n := 1) x d y := by
  pointwise [k0_pay5, outer_at, first_zero]

theorem firsts_at (x : FVec Ideal S1024x8 .f32) (d : FVec Ideal S1x8x768 .f32) (μ : FVec Ideal S1x1024x768 .f32) (y : S1x1024x768.Idx) :
    k0_pay2 (F := Ideal) (k0_pay7 x d μ) y = first (outer (n := 1) x d y) (μ y) := by
  pointwise [k0_pay2, k0_pay7, outer_at, first_zero, first, lit]

theorem seconds_at (x : FVec Ideal S1024x8 .f32) (d : FVec Ideal S1x8x768 .f32) (ν : FVec Ideal S1x1024x768 .f32) (y : S1x1024x768.Idx) :
    k0_pay3 (F := Ideal) (k0_pay8 x d ν) y = second (outer (n := 1) x d y) (ν y) := by
  pointwise [k0_pay3, k0_pay8, outer_at, first_zero, second, lit]

theorem steps_at (x : FVec Ideal S1024x8 .f32) (d : FVec Ideal S1x8x768 .f32) (w μ ν : FVec Ideal S1x1024x768 .f32) (y : S1x1024x768.Idx) :
    k0_pay1 (F := Ideal) (k0_pay6 w) (k0_pay7 x d μ) (k0_pay8 x d ν) (Scalar.ofBits .f32 0x3F26BD02#32) y
      = step (outer (n := 1) x d y) (w y) (μ y) (ν y) := by
  pointwise [k0_pay1, k0_pay6, k0_pay7, k0_pay8, outer_at, first_zero, step, first, second, lit]

/-- Where the blocks of a point lie. -/
theorem placed : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

abbrev grad (c : Dev nD) : FVec Ideal S4x1024x768 .f32 :=
  outer (n := 4) (m ((c : Thread nD τ).loc main_arg0)) (m ((c : Thread nD τ).loc main_arg1))

theorem grad_at (c : Dev nD) (t : Fin cfg0.N) (y : S1x1024x768.Idx) (i : S4x1024x768.Idx) (h0 : (i 0).val = t.val + (y 0).val)
    (h1 : (i 1).val = (y 1).val) (h2 : (i 2).val = (y 2).val) : outer (n := 1) (iblk m c 0 t) (iblk m c 1 t) y = grad m c i := by
  obtain ⟨p0, p1, -⟩ := placed t
  refine Finset.sum_congr rfl fun b _ => ?_
  have e : (iblk m c 0 t : FVec Ideal S1024x8 .f32) (ix2 (y 1) b) = (m ((c : Thread nD τ).loc main_arg0) : FVec Ideal S1024x8 .f32) (ix2 (i 1) b) := by
    blk_ext [iblk, V, p0, h1]
  have f : (iblk m c 1 t : FVec Ideal S1x8x768 .f32) (ix3 (y 0) b (y 2)) = (m ((c : Thread nD τ).loc main_arg1) : FVec Ideal S4x8x768 .f32) (ix3 (i 0) b (i 2)) := by
    blk_ext [iblk, V, p1, h0, h2]
  rw [e, f]

theorem gradients (c : Dev nD) : (dats m 0 c).arrAt 5 cfg0.N = grad m c := by
  refine (dats m 0 c).arrAt_eq_of_covers 5 _ (by decide +kernel) fun t _ y => ?_
  obtain ⟨-, -, -, -, -, p5, -⟩ := placed t
  blk_simp
  rw [after0_5]; frame_out
  refine (gradients_at _ _ y).trans (grad_at m c t y _ ?_ ?_ ?_) <;> blk_simp [p5]

theorem steps_eq (c : Dev nD) : (dats m 0 c).arrAt 6 cfg0.N
    = steps (grad m c) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨-, -, p2, p3, p4, -, p6, -⟩ := placed t
  blk_simp
  rw [after0_6]; simp only [out0_6, k0_pay9, k0_pay10]; frame_out
  refine (steps_at _ _ _ _ _ y).trans (step_congr (grad_at m c t y _ ?_ ?_ ?_) ?_ ?_ ?_)
  · blk_simp [p6]
  · blk_simp [p6]
  · blk_simp [p6]
  · blk_ext [iblk, V, p2, p6]
  · blk_ext [iblk, V, p3, p6]
  · blk_ext [iblk, V, p4, p6]

theorem firsts_eq (c : Dev nD) : (dats m 0 c).arrAt 7 cfg0.N = firsts (grad m c) (m ((c : Thread nD τ).loc main_arg3)) := by
  refine (dats m 0 c).arrAt_eq_of_covers 7 _ (by decide +kernel) fun t _ y => ?_
  obtain ⟨-, -, -, p3, -, -, -, p7, -⟩ := placed t
  blk_simp
  rw [after0_7]; simp only [out0_7, k0_pay9, k0_pay10]; frame_out
  refine (firsts_at _ _ _ y).trans (first_congr (grad_at m c t y _ ?_ ?_ ?_) ?_)
  · blk_simp [p7]
  · blk_simp [p7]
  · blk_simp [p7]
  · blk_ext [iblk, V, p3, p7]

theorem seconds_eq (c : Dev nD) : (dats m 0 c).arrAt 8 cfg0.N = seconds (grad m c) (m ((c : Thread nD τ).loc main_arg4)) := by
  refine (dats m 0 c).arrAt_eq_of_covers 8 _ (by decide +kernel) fun t _ y => ?_
  obtain ⟨-, -, -, -, p4, -, -, -, p8⟩ := placed t
  blk_simp
  rw [after0_8]; simp only [out0_8, k0_pay9, k0_pay10]; frame_out
  refine (seconds_at _ _ _ y).trans (second_congr (grad_at m c t y _ ?_ ?_ ?_) ?_)
  · blk_simp [p8]
  · blk_simp [p8]
  · blk_simp [p8]
  · blk_ext [iblk, V, p4, p8]

open Cert.AdamAdaRefIdeal Cert.AdamAdaRefIdeal.Gen in
/-- The reference's product, its axes put in the weight's order. -/
theorem outer_ref (x : FVec Ideal Cert.AdamAdaRefIdeal.S1024x8 .f32) (d : FVec Ideal Cert.AdamAdaRefIdeal.S4x8x768 .f32) :
    (transpose Cert.AdamAdaRefIdeal.S4x1024x768 [0, 2, 1]
      (Host.dotGeneral Cert.AdamAdaRefIdeal.dot_S4x8x768_S1024x8_S4x768x1024_1_1_02_0_n_n none d
        (mulf x (Host.divf (broadcastInDim Cert.AdamAdaRefIdeal.S1024x8 ![] Cert.AdamAdaRefIdeal.Facts₀.bcast_S_S1024x8 (constant Cert.AdamAdaRefIdeal.S_ .f32 0x3F800000#32))
          (addf (broadcastInDim Cert.AdamAdaRefIdeal.S1024x8 ![] Cert.AdamAdaRefIdeal.Facts₀.bcast_S_S1024x8 (constant Cert.AdamAdaRefIdeal.S_ .f32 0x3F800000#32))
            (Host.exp (Host.negf x))))))
      Cert.AdamAdaRefIdeal.Facts₀.transposes_S4x768x1024_S4x1024x768_0_2_1 : FVec Ideal Cert.AdamAdaRefIdeal.S4x1024x768 .f32) = outer x d := by
  funext y
  pointwise [outer, Cert.AdamW.logistic]
  refine Finset.sum_congr rfl fun b _ => mul_comm _ _

end Cert.AdamAdaIdeal.Update

end
-- ==== Proof.AdamAdaClaim.lean ====
/-
  The claims about the update of the modulation's weight, put together.
-/
module

public import proofs.«01_k».proof.Defs
public import proofs.«01_k».proof.Proof.AdamAdaValue
public import proofs.«01_k».proof.Proof.Gen.AdamAda
public import Idealize.ShloMosaic.Adequacy
public import Idealize.ShloMosaic.Init

@[expose] public section

noncomputable section

namespace Cert.AdamAdaIdeal.Update

open Cert.AdamAdaIdeal Cert.AdamAdaIdeal.Gen Cert.AdamW
open Idealize.ShloMosaic Idealize.ShloMosaic.TcCoe Idealize.SL.Sem

/-- The two programs have the same body table: the one kernel is the same function. -/
theorem bodies_eq : Cert.AdamAda.defs₀ (F := Bits) = Cert.AdamAdaIdeal.defs₀ (F := Bits) := by
  unfold Cert.AdamAda.defs₀ Cert.AdamAdaIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.AdamAda.defs (F := Bits) = Cert.AdamAdaIdeal.defs (F := Bits) := congrArg (Pipeline.defs Cert.AdamAdaIdeal.pcfgs) bodies_eq

theorem frame_bits : Cert.quiescent_AdamAda (hAdamAda := Cert.AdamAda.Gen.facts) := fun m ρ _ => by
  rw [table_eq]; exact frame (F := Bits) m ρ

theorem frame_ideal : Cert.quiescent_AdamAdaIdeal (hAdamAdaIdeal := Cert.AdamAdaIdeal.Gen.facts) := fun m ρ _ => frame m ρ

theorem frame_reference : Cert.quiescent_AdamAdaRefIdeal (hAdamAdaRefIdeal := Cert.AdamAdaRefIdeal.Gen.facts) := fun m ρ _ =>
  (θ_run Cert.AdamAdaRefIdeal.defs _ _).mono (fun r h => ⟨fun c => (h c).2.2.2.2, sem_eq_zero_of_no_sems (by decide) r.2⟩)
    (Cert.AdamAdaRefIdeal.Value.run m ρ)

theorem values : Cert.algebraic_AdamAdaIdeal_AdamAdaRefIdeal (hAdamAdaIdeal := Cert.AdamAdaIdeal.Gen.facts) (hAdamAdaRefIdeal := Cert.AdamAdaRefIdeal.Gen.facts) := fun m ρ m' ρ' _ h => by
  refine ⟨_, _, _, _, (θ_run Cert.AdamAdaIdeal.defs _ _).mono (fun r hr c => ?_) (Cert.AdamAdaIdeal.Value.run_blocks m ρ),
    Cert.AdamAdaRefIdeal.Value.run m' ρ'⟩
  obtain ⟨hg, hs, hμ, hν, kept⟩ := hr c
  obtain ⟨a0, a1, a2, a3, a4⟩ := h c
  refine ⟨(hg.trans (gradients m c)).trans ?_, (hs.trans (steps_eq m c)).trans ?_, (hμ.trans (firsts_eq m c)).trans ?_,
    (hν.trans (seconds_eq m c)).trans ?_, kept⟩
  · rw [a0, a1]; exact (outer_ref _ _).symm
  · rw [a0, a1, a2, a3, a4]
    exact (congrArg (fun G => steps G _ _ _) (outer_ref _ _).symm).trans (steps_host _ _ _ _ _).symm
  · rw [a0, a1, a3]
    exact (congrArg (fun G => firsts G _) (outer_ref _ _).symm).trans (firsts_host _ _ _).symm
  · rw [a0, a1, a4]
    exact (congrArg (fun G => seconds G _) (outer_ref _ _).symm).trans (seconds_host _ _ _).symm

end Cert.AdamAdaIdeal.Update

end
-- ==== Proof.AdamSmallValue.lean ====
/-
  What the update of the small weights writes. The small weights lie packed in rows, and so do their gradients, which
  are already summed. A point of the grid takes eight rows.
-/
module

public import proofs.«01_k».proof.Proof.AdamRef
public import proofs.«01_k».proof.Proof.Gen.AdamSmallIdeal.Value
public import proofs.«01_k».proof.Proof.Gen.AdamSmallRefIdeal.Run

@[expose] public section

set_option maxRecDepth 16384

noncomputable section

namespace Cert.AdamSmallIdeal.Update

open Cert.AdamSmallIdeal Cert.AdamSmallIdeal.Gen Cert.AdamW
open Idealize.ShloMosaic Idealize.ShloMosaic.TcCoe Idealize.SL.Sem
open Idealize.ShloMosaic.Pipeline (Dat)

variable (m : (ℓ : Loc nD τ sig) → Buf (Elt Ideal) ℓ)

/-- The gradient: the one layer of the argument. -/
def layer {a b : ℕ} (x : FVec Ideal ⟨3, ![1, a, b]⟩ .f32) : FVec Ideal ⟨2, ![a, b]⟩ .f32 := fun y => x (ix3 0 (y 0) (y 1))

theorem layer_at (x : FVec Ideal S1x8x1024 .f32) (y : S8x1024.Idx) : k0_pay1 (F := Ideal) x y = layer x y := by
  pointwise [k0_pay1, layer]

theorem steps_at (x : FVec Ideal S1x8x1024 .f32) (w μ ν : FVec Ideal S8x1024 .f32) (y : S8x1024.Idx) :
    k0_pay4 (F := Ideal) x w μ ν y = step (layer x y) (w y) (μ y) (ν y) := by
  pointwise [k0_pay4, k0_pay3, k0_pay2, k0_pay1, step, first, second, lit, layer]

theorem firsts_at (x : FVec Ideal S1x8x1024 .f32) (μ : FVec Ideal S8x1024 .f32) (y : S8x1024.Idx) :
    k0_pay2 (F := Ideal) x μ y = first (layer x y) (μ y) := by
  pointwise [k0_pay2, k0_pay1, first, lit, layer]

theorem seconds_at (x : FVec Ideal S1x8x1024 .f32) (ν : FVec Ideal S8x1024 .f32) (y : S8x1024.Idx) :
    k0_pay3 (F := Ideal) x ν y = second (layer x y) (ν y) := by
  pointwise [k0_pay3, k0_pay1, second, lit, layer]

/-- Where the blocks of a point lie. -/
theorem placed : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

abbrev grad (c : Dev nD) : FVec Ideal S56x1024 .f32 := layer (m ((c : Thread nD τ).loc main_arg0))

theorem grad_at (c : Dev nD) (t : Fin cfg0.N) (y : S8x1024.Idx) (i : S56x1024.Idx) (h0 : (i 0).val = t.val * 8 + (y 0).val)
    (h1 : (i 1).val = (y 1).val) : layer (iblk m c 0 t) y = grad m c i := by
  obtain ⟨p0, -⟩ := placed t
  unfold layer grad layer
  blk_ext [iblk, V, p0, h0, h1]

/-- At every point the body leaves the gradient of its rows, and the update made from it. -/
theorem block_at (c : Dev nD) (t : Fin cfg0.N) :
    outsAt0 m c t = (k0_pay1 (iblk m c 0 t), k0_pay4 (iblk m c 0 t) (iblk m c 1 t) (iblk m c 2 t) (iblk m c 3 t),
      k0_pay2 (iblk m c 0 t) (iblk m c 2 t), k0_pay3 (iblk m c 0 t) (iblk m c 3 t)) := by
  unfold outsAt0; frame_out

theorem gradients (c : Dev nD) : (dats m 0 c).arrAt 4 cfg0.N = grad m c := by
  refine (dats m 0 c).arrAt_eq_of_covers 4 _ (by decide +kernel) fun t _ y => ?_
  obtain ⟨-, -, -, -, p4, -⟩ := placed t
  blk_simp
  rw [after0_4, block_at]
  refine (layer_at _ y).trans (grad_at m c t y _ ?_ ?_) <;> blk_simp [p4]

theorem steps_eq (c : Dev nD) : (dats m 0 c).arrAt 5 cfg0.N
    = steps (grad m c) (m ((c : Thread nD τ).loc main_arg1)) (m ((c : Thread nD τ).loc main_arg2)) (m ((c : Thread nD τ).loc main_arg3)) := by
  refine (dats m 0 c).arrAt_eq_of_covers 5 _ (by decide +kernel) fun t _ y => ?_
  obtain ⟨-, p1, p2, p3, -, p5, -⟩ := placed t
  blk_simp
  rw [after0_5, block_at]
  refine (steps_at _ _ _ _ y).trans (step_congr (grad_at m c t y _ ?_ ?_) ?_ ?_ ?_)
  · blk_simp [p5]
  · blk_simp [p5]
  · blk_ext [iblk, V, p1, p5]
  · blk_ext [iblk, V, p2, p5]
  · blk_ext [iblk, V, p3, p5]

theorem firsts_eq (c : Dev nD) : (dats m 0 c).arrAt 6 cfg0.N = firsts (grad m c) (m ((c : Thread nD τ).loc main_arg2)) := by
  refine (dats m 0 c).arrAt_eq_of_covers 6 _ (by decide +kernel) fun t _ y => ?_
  obtain ⟨-, -, p2, -, -, -, p6, -⟩ := placed t
  blk_simp
  rw [after0_6, block_at]
  refine (firsts_at _ _ y).trans (first_congr (grad_at m c t y _ ?_ ?_) ?_)
  · blk_simp [p6]
  · blk_simp [p6]
  · blk_ext [iblk, V, p2, p6]

theorem seconds_eq (c : Dev nD) : (dats m 0 c).arrAt 7 cfg0.N = seconds (grad m c) (m ((c : Thread nD τ).loc main_arg3)) := by
  refine (dats m 0 c).arrAt_eq_of_covers 7 _ (by decide +kernel) fun t _ y => ?_
  obtain ⟨-, -, -, p3, -, -, -, p7⟩ := placed t
  blk_simp
  rw [after0_7, block_at]
  refine (seconds_at _ _ y).trans (second_congr (grad_at m c t y _ ?_ ?_) ?_)
  · blk_simp [p7]
  · blk_simp [p7]
  · blk_ext [iblk, V, p3, p7]

open Cert.AdamSmallRefIdeal.Gen in
/-- The reference sums over the one layer. -/
theorem layer_ref (x : FVec Ideal Cert.AdamSmallRefIdeal.S1x56x1024 .f32) :
    (Host.reduceAdd x (constant Cert.AdamSmallRefIdeal.S_ .f32 0x00000000#32) Cert.AdamSmallRefIdeal.Facts₀.reducesTo_S1x56x1024_S56x1024_d0
      Cert.AdamSmallRefIdeal.Facts₀.h_S_ : FVec Ideal Cert.AdamSmallRefIdeal.S56x1024 .f32) = layer x := by
  funext y
  pointwise [layer, Fin.sum_univ_one]

end Cert.AdamSmallIdeal.Update

end
-- ==== Proof.AdamSmallClaim.lean ====
/-
  The claims about the update of the small weights, put together.
-/
module

public import proofs.«01_k».proof.Defs
public import proofs.«01_k».proof.Proof.AdamSmallValue
public import proofs.«01_k».proof.Proof.Gen.AdamSmall
public import Idealize.ShloMosaic.Adequacy
public import Idealize.ShloMosaic.Init

@[expose] public section

noncomputable section

namespace Cert.AdamSmallIdeal.Update

open Cert.AdamSmallIdeal Cert.AdamSmallIdeal.Gen Cert.AdamW
open Idealize.ShloMosaic Idealize.ShloMosaic.TcCoe Idealize.SL.Sem

/-- The two programs have the same body table: the one kernel is the same function. -/
theorem bodies_eq : Cert.AdamSmall.defs₀ (F := Bits) = Cert.AdamSmallIdeal.defs₀ (F := Bits) := by
  unfold Cert.AdamSmall.defs₀ Cert.AdamSmallIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.AdamSmall.defs (F := Bits) = Cert.AdamSmallIdeal.defs (F := Bits) := congrArg (Pipeline.defs Cert.AdamSmallIdeal.pcfgs) bodies_eq

theorem frame_bits : Cert.quiescent_AdamSmall (hAdamSmall := Cert.AdamSmall.Gen.facts) := fun m ρ _ => by
  rw [table_eq]; exact frame (F := Bits) m ρ

theorem frame_ideal : Cert.quiescent_AdamSmallIdeal (hAdamSmallIdeal := Cert.AdamSmallIdeal.Gen.facts) := fun m ρ _ => frame m ρ

theorem frame_reference : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2.2, sem_eq_zero_of_no_sems (by decide) r.2⟩)
    (Cert.AdamSmallRefIdeal.Value.run m ρ)

theorem values : Cert.algebraic_AdamSmallIdeal_AdamSmallRefIdeal (hAdamSmallIdeal := Cert.AdamSmallIdeal.Gen.facts) (hAdamSmallRefIdeal := Cert.AdamSmallRefIdeal.Gen.facts) := fun m ρ m' ρ' _ h => by
  refine ⟨_, _, _, _, (θ_run Cert.AdamSmallIdeal.defs _ _).mono (fun r hr c => ?_) (Cert.AdamSmallIdeal.Value.run_blocks m ρ),
    Cert.AdamSmallRefIdeal.Value.run m' ρ'⟩
  obtain ⟨hg, hs, hμ, hν, kept⟩ := hr c
  obtain ⟨a0, a1, a2, a3⟩ := h c
  refine ⟨(hg.trans (gradients m c)).trans ?_, (hs.trans (steps_eq m c)).trans ?_, (hμ.trans (firsts_eq m c)).trans ?_,
    (hν.trans (seconds_eq m c)).trans ?_, kept⟩
  · rw [a0]; exact (layer_ref _).symm
  · rw [a0, a1, a2, a3]
    exact (congrArg (fun G => steps G _ _ _) (layer_ref _).symm).trans (steps_host _ _ _ _ _).symm
  · rw [a0, a2]
    exact (congrArg (fun G => firsts G _) (layer_ref _).symm).trans (firsts_host _ _ _).symm
  · rw [a0, a3]
    exact (congrArg (fun G => seconds G _) (layer_ref _).symm).trans (seconds_host _ _ _).symm

end Cert.AdamSmallIdeal.Update

end
-- ==== Proof.SumSmall.lean ====
/-
  The claims about the sum of the small weights' gradients: the eight devices' packed rows, added up.
-/
module

public import proofs.«01_k».proof.Defs
public import proofs.«01_k».proof.Proof.Gen.SumSmall
public import proofs.«01_k».proof.Proof.Gen.SumSmallIdeal.Value
public import proofs.«01_k».proof.Proof.Gen.SumSmallRefIdeal.Run
public import Idealize.ShloMosaic.Lib.Pipeline.ValueKit
public import Idealize.ShloMosaic.Adequacy
public import Idealize.ShloMosaic.Init

@[expose] public section

set_option maxRecDepth 16384

noncomputable section

namespace Cert.SumSmallIdeal.Total

open Cert.SumSmallIdeal Cert.SumSmallIdeal.Gen
open Idealize.ShloMosaic Idealize.ShloMosaic.TcCoe Idealize.SL.Sem

/-- The two programs have the same body table: the one kernel is the same function. -/
theorem bodies_eq : Cert.SumSmall.defs₀ (F := Bits) = Cert.SumSmallIdeal.defs₀ (F := Bits) := by
  unfold Cert.SumSmall.defs₀ Cert.SumSmallIdeal.defs₀
  refine congrArg _ (funext fun ℓ => funext fun x => ?_)
  match ℓ, x with
  | 0, (t, s) => rfl
  | ⟨_ + 1, h⟩, _ => exact absurd h (Nat.not_lt.2 (Nat.le_add_left _ _))

theorem table_eq : Cert.SumSmall.defs (F := Bits) = Cert.SumSmallIdeal.defs (F := Bits) := congrArg (Pipeline.defs Cert.SumSmallIdeal.pcfgs) bodies_eq

theorem frame_bits : Cert.quiescent_SumSmall (hSumSmall := Cert.SumSmall.Gen.facts) := fun m ρ _ => by
  rw [table_eq]; exact frame (F := Bits) m ρ

theorem frame_ideal : Cert.quiescent_SumSmallIdeal (hSumSmallIdeal := Cert.SumSmallIdeal.Gen.facts) := fun m ρ _ => frame m ρ

theorem frame_reference : Cert.quiescent_SumSmallRefIdeal (hSumSmallRefIdeal := Cert.SumSmallRefIdeal.Gen.facts) := fun m ρ _ =>
  (θ_run Cert.SumSmallRefIdeal.defs _ _).mono (fun r h => ⟨fun c => (h c).2, sem_eq_zero_of_no_sems (by decide) r.2⟩)
    (Cert.SumSmallRefIdeal.Value.run m ρ)

/-- The eight parts, summed. -/
def total (x : FVec Ideal S8x104x1024 .f32) : FVec Ideal S104x1024 .f32 := fun y => (∑ d : Fin 8, (x (ix3 d (y 0) (y 1)) : EReal) : EReal)

/-- The body adds them one after the other. -/
theorem total_eq (x : FVec Ideal S8x104x1024 .f32) : Cert.SumSmallIdeal.Value.G1 (F := Ideal) x = total x := by
  funext y
  pointwise [Cert.SumSmallIdeal.Value.G1, k0_pay1, total, Fin.sum_univ_eight]

open Cert.SumSmallRefIdeal.Gen in
theorem total_ref (x : FVec Ideal Cert.SumSmallRefIdeal.S8x104x1024 .f32) :
    (Host.reduceAdd x (constant Cert.SumSmallRefIdeal.S_ .f32 0x00000000#32) Cert.SumSmallRefIdeal.Facts₀.reducesTo_S8x104x1024_S104x1024_d0 Cert.SumSmallRefIdeal.Facts₀.h_S_
      : FVec Ideal Cert.SumSmallRefIdeal.S104x1024 .f32) = total x := by
  funext y
  pointwise [total]

theorem values : Cert.algebraic_SumSmallIdeal_SumSmallRefIdeal (hSumSmallIdeal := Cert.SumSmallIdeal.Gen.facts) (hSumSmallRefIdeal := Cert.SumSmallRefIdeal.Gen.facts) := fun m ρ m' ρ' _ h => by
  refine ⟨_, (θ_run Cert.SumSmallIdeal.defs _ _).mono (fun r hr c => ?_) (Cert.SumSmallIdeal.Value.run m ρ), Cert.SumSmallRefIdeal.Value.run m' ρ'⟩
  obtain ⟨hs, kept⟩ := hr c
  refine ⟨hs.trans ?_, kept⟩
  rw [h c, total_eq]
  exact (total_ref _).symm

end Cert.SumSmallIdeal.Total

end
-- ==== Proof.RmsNorm.lean ====
/-
  A row divided by its root mean square, in arrays of rows of 1024 columns.
-/
module

public import proofs.«01_k».proof.Proof.AdamW

@[expose] public section

noncomputable section

namespace Cert.RmsNorm

open Cert.AdamW
open Idealize.ShloMosaic Idealize.ShloMosaic.TcCoe

variable {n : ℕ}

abbrev Mat (n : ℕ) : Type := FVec Ideal ⟨2, ![n, 1024]⟩ .f32

/-- One over a row's root mean square. -/
def rootInv (x : Mat n) (i : Fin n) : EReal :=
  Ideal.rsqrt (Ideal.div (∑ k : Fin 1024, (x (ix2 i k) * x (ix2 i k) : EReal)) (lit 0x44800000#32) + lit 0x358637BD#32)

/-- The row divided by its root mean square. -/
def normed (x : Mat n) (i : Fin n) (k : Fin 1024) : EReal := x (ix2 i k) * rootInv x i

/-- The gradient of a row, from the gradient `u` of the divided row. -/
def through (x u : Mat n) (i : Fin n) (k : Fin 1024) : EReal :=
  rootInv x i * (u (ix2 i k) - normed x i k * Ideal.div (∑ l : Fin 1024, (normed x i l * u (ix2 i l) : EReal)) (lit 0x44800000#32))

/-- A row, normed and modulated. -/
def modulated (x : Mat n) (g sc sh : Mat 1) (i : Fin n) (k : Fin 1024) : EReal :=
  normed x i k * g (ix2 0 k) * (lit 0x3F800000#32 + sc (ix2 0 k)) + sh (ix2 0 k)

/-! A row of a block is a row of the array. -/

variable {n' : ℕ} {x u : Mat n} {x' u' : Mat n'} {i : Fin n} {i' : Fin n'}

theorem rootInv_congr (hx : ∀ k, x (ix2 i k) = x' (ix2 i' k)) : rootInv x i = rootInv x' i' := by
  simp only [rootInv, hx]

theorem normed_congr (hx : ∀ k, x (ix2 i k) = x' (ix2 i' k)) (k : Fin 1024) : normed x i k = normed x' i' k := by
  simp only [normed, rootInv_congr hx, hx]

theorem through_congr (hx : ∀ k, x (ix2 i k) = x' (ix2 i' k)) (hu : ∀ k, u (ix2 i k) = u' (ix2 i' k)) (k : Fin 1024) :
    through x u i k = through x' u' i' k := by
  simp only [through, normed_congr hx, rootInv_congr hx, hu]

theorem modulated_congr {g sc sh g' sc' sh' : Mat 1} (hx : ∀ k, x (ix2 i k) = x' (ix2 i' k)) (hg : g = g') (hc : sc = sc') (hs : sh = sh')
    (k : Fin 1024) : modulated x g sc sh i k = modulated x' g' sc' sh' i' k := by
  subst hg hc hs
  simp only [modulated, normed_congr hx]

end Cert.RmsNorm

end
-- ==== Proof.NormBwdValue.lean ====
/-
  What the backward pass of the first norm writes. A point of the grid takes 512 rows: it writes their gradient, and adds
  what they contribute to the gradients of the scale, of the shift and of the gain to what the points before it left.
-/
module

public import proofs.«01_k».proof.Proof.RmsNorm
public import proofs.«01_k».proof.Proof.Gen.NormBwdIdeal.Value
public import proofs.«01_k».proof.Proof.Gen.NormBwdRefIdeal.Run
public import Idealize.ShloMosaic.Lib.Pipeline.ValueKit

@[expose] public section

set_option maxRecDepth 16384

noncomputable section

namespace Cert.NormBwdIdeal.Rows

open Cert.NormBwdIdeal Cert.NormBwdIdeal.Gen Cert.AdamW Cert.RmsNorm
open Idealize.ShloMosaic Idealize.ShloMosaic.TcCoe Idealize.SL.Sem
open Idealize.ShloMosaic.Pipeline (Dat)

/-! ## The mathematics, for any number of rows -/

section Math

variable {n : ℕ}

/-- The gradient before the modulation. -/
def inner (dh : Mat n) (sc : Mat 1) (i : Fin n) (k : Fin 1024) : EReal := dh (ix2 i k) * (lit 0x3F800000#32 + sc (ix2 0 k))

/-- The gradient before the gain. -/
def outer (dh : Mat n) (g sc : Mat 1) (i : Fin n) (k : Fin 1024) : EReal := inner dh sc i k * g (ix2 0 k)

/-- The gradient of the input, added to what came by the other way. -/
def grad (dh x : Mat n) (g sc : Mat 1) (dx : Mat n) (i : Fin n) (k : Fin 1024) : EReal :=
  dx (ix2 i k) + rootInv x i * (outer dh g sc i k
    - normed x i k * Ideal.div (∑ l : Fin 1024, (normed x i l * outer dh g sc i l : EReal)) (lit 0x44800000#32))

/-- What a row contributes to the gradient of the scale. -/
def scaleTerm (dh x : Mat n) (g : Mat 1) (i : Fin n) (k : Fin 1024) : EReal := dh (ix2 i k) * (normed x i k * g (ix2 0 k))

/-- What a row contributes to the gradient of the gain. -/
def gainTerm (dh x : Mat n) (sc : Mat 1) (i : Fin n) (k : Fin 1024) : EReal := inner dh sc i k * normed x i k

/-! A row of a block is a row of the array. -/

variable {n' : ℕ} {dh x dx : Mat n} {dh' x' dx' : Mat n'} {g sc g' sc' : Mat 1} {i : Fin n} {i' : Fin n'}

theorem grad_congr (hd : ∀ k, dh (ix2 i k) = dh' (ix2 i' k)) (hx : ∀ k, x (ix2 i k) = x' (ix2 i' k)) (hg : g = g') (hs : sc = sc')
    (ho : ∀ k, dx (ix2 i k) = dx' (ix2 i' k)) (k : Fin 1024) : grad dh x g sc dx i k = grad dh' x' g' sc' dx' i' k := by
  subst hg hs
  simp only [grad, outer, inner, normed_congr hx, rootInv_congr hx, hd, ho]

theorem scaleTerm_congr (hd : ∀ k, dh (ix2 i k) = dh' (ix2 i' k)) (hx : ∀ k, x (ix2 i k) = x' (ix2 i' k)) (hg : g = g') (k : Fin 1024) :
    scaleTerm dh x g i k = scaleTerm dh' x' g' i' k := by
  subst hg
  simp only [scaleTerm, normed_congr hx, hd]

theorem gainTerm_congr (hd : ∀ k, dh (ix2 i k) = dh' (ix2 i' k)) (hx : ∀ k, x (ix2 i k) = x' (ix2 i' k)) (hs : sc = sc') (k : Fin 1024) :
    gainTerm dh x sc i k = gainTerm dh' x' sc' i' k := by
  subst hs
  simp only [gainTerm, inner, normed_congr hx, hd]

end Math

/-! ## The payloads of the body -/

theorem inv_at (x : FVec Ideal S512x1024 .f32) (i : Fin 512) : k0_pay4 (F := Ideal) x (ix2 i 0) = rootInv x i := by
  pointwise [k0_pay4, rootInv, lit]

theorem normed_at (x : FVec Ideal S512x1024 .f32) (i : Fin 512) (k : Fin 1024) : k0_pay5 (F := Ideal) x (ix2 i k) = normed x i k := by
  pointwise [k0_pay5, normed, inv_at]

theorem inner_at (dh : FVec Ideal S512x1024 .f32) (sc : FVec Ideal S1x1024 .f32) (i : Fin 512) (k : Fin 1024) :
    k0_pay6 (F := Ideal) dh sc (ix2 i k) = inner dh sc i k := by
  pointwise [k0_pay6, inner, lit]

theorem grad_at (x dh : FVec Ideal S512x1024 .f32) (g sc : FVec Ideal S1x1024 .f32) (dx : FVec Ideal S512x1024 .f32) (i : Fin 512) (k : Fin 1024) :
    k0_pay7 (F := Ideal) x dh g sc dx (ix2 i k) = grad dh x g sc dx i k := by
  pointwise [k0_pay7, grad, outer, normed_at, inner_at, inv_at, lit]

theorem zero_at (y : S1x1024.Idx) : k0_pay8 (F := Ideal) y = 0 ∧ k0_pay9 (F := Ideal) y = 0 ∧ k0_pay10 (F := Ideal) y = 0 := by
  refine ⟨?_, ?_, ?_⟩ <;> pointwise [k0_pay8, k0_pay9, k0_pay10]

theorem scale_at (x dh : FVec Ideal S512x1024 .f32) (g acc : FVec Ideal S1x1024 .f32) (y : S1x1024.Idx) :
    k0_pay1 (F := Ideal) dh g (k0_pay5 x) acc y = acc y + (∑ i : Fin 512, scaleTerm dh x g i (y 1) : EReal) := by
  pointwise [k0_pay1, scaleTerm, normed_at]

theorem shift_at (dh : FVec Ideal S512x1024 .f32) (acc : FVec Ideal S1x1024 .f32) (y : S1x1024.Idx) :
    k0_pay2 (F := Ideal) dh acc y = acc y + (∑ i : Fin 512, dh (ix2 i (y 1)) : EReal) := by
  pointwise [k0_pay2]

theorem gain_at (x dh : FVec Ideal S512x1024 .f32) (sc acc : FVec Ideal S1x1024 .f32) (y : S1x1024.Idx) :
    k0_pay3 (F := Ideal) (k0_pay5 x) (k0_pay6 dh sc) acc y = acc y + (∑ i : Fin 512, gainTerm dh x sc i (y 1) : EReal) := by
  pointwise [k0_pay3, gainTerm, normed_at, inner_at]

/-! ## The arrays the run leaves -/

variable (m : (ℓ : Loc nD τ sig) → Buf (Elt Ideal) ℓ)

/-- Where the blocks of a point lie. -/
theorem placed : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

abbrev up (c : Dev nD) : FVec Ideal S8192x1024 .f32 := m ((c : Thread nD τ).loc main_arg0)
abbrev input (c : Dev nD) : FVec Ideal S8192x1024 .f32 := m ((c : Thread nD τ).loc main_arg1)
abbrev gain (c : Dev nD) : FVec Ideal S1x1024 .f32 := m ((c : Thread nD τ).loc main_arg2)
abbrev scale (c : Dev nD) : FVec Ideal S1x1024 .f32 := m ((c : Thread nD τ).loc main_arg3)
abbrev other (c : Dev nD) : FVec Ideal S8192x1024 .f32 := m ((c : Thread nD τ).loc main_arg5)

section Blocks

variable (c : Dev nD) (t : Fin cfg0.N) (i : Fin 512) (i' : Fin 8192) (h : i'.val = t.val * 512 + i.val)

include h in
theorem up_at (k : Fin 1024) : (iblk m c 0 t : FVec Ideal S512x1024 .f32) (ix2 i k) = up m c (ix2 i' k) := by
  blk_ext [iblk, V, up, (placed t).1, h]

include h in
theorem input_at (k : Fin 1024) : (iblk m c 1 t : FVec Ideal S512x1024 .f32) (ix2 i k) = input m c (ix2 i' k) := by
  blk_ext [iblk, V, input, (placed t).2.1, h]

include h in
theorem other_at (k : Fin 1024) : (iblk m c 5 t : FVec Ideal S512x1024 .f32) (ix2 i k) = other m c (ix2 i' k) := by
  blk_ext [iblk, V, other, (placed t).2.2.2.2.2.1, h]

theorem gain_eq : (iblk m c 2 t : FVec Ideal S1x1024 .f32) = gain m c := by
  funext y
  blk_ext [iblk, V, gain, (placed t).2.2.1]

theorem scale_eq : (iblk m c 3 t : FVec Ideal S1x1024 .f32) = scale m c := by
  funext y
  blk_ext [iblk, V, scale, (placed t).2.2.2.1]

end Blocks

/-- The gradient of the input. -/
def grads (dh x : FVec Ideal S8192x1024 .f32) (g sc : FVec Ideal S1x1024 .f32) (dx : FVec Ideal S8192x1024 .f32) : FVec Ideal S8192x1024 .f32 :=
  fun y => grad dh x g sc dx (y 0) (y 1)

def scaleSum (dh x : FVec Ideal S8192x1024 .f32) (g : FVec Ideal S1x1024 .f32) : FVec Ideal S1x1024 .f32 :=
  fun y => (∑ i : Fin 8192, scaleTerm dh x g i (y 1) : EReal)

def shiftSum (dh : FVec Ideal S8192x1024 .f32) : FVec Ideal S1x1024 .f32 :=
  fun y => (∑ i : Fin 8192, dh (ix2 i (y 1)) : EReal)

def gainSum (dh x : FVec Ideal S8192x1024 .f32) (sc : FVec Ideal S1x1024 .f32) : FVec Ideal S1x1024 .f32 :=
  fun y => (∑ i : Fin 8192, gainTerm dh x sc i (y 1) : EReal)

theorem grads_eq (c : Dev nD) : (dats m 0 c).arrAt 6 cfg0.N = grads (up m c) (input m c) (gain m c) (scale m c) (other m c) := by
  refine (dats m 0 c).arrAt_eq_of_covers 6 _ (by decide +kernel) fun t _ y => ?_
  obtain ⟨i, k, rfl⟩ : ∃ i k, y = ix2 i k := ⟨y 0, y 1, eq_ix2 y⟩
  have p6 := (placed t).2.2.2.2.2.2
  have hi : t.val * 512 + i.val < 8192 := by have := lt_of_lt_of_eq t.isLt N_0; omega
  have key : k0_pay7 (F := Ideal) (iblk m c 1 t) (iblk m c 0 t) (iblk m c 2 t) (iblk m c 3 t) (iblk m c 5 t) (ix2 i k)
      = grads (up m c) (input m c) (gain m c) (scale m c) (other m c) (ix2 ⟨t.val * 512 + i.val, hi⟩ k) :=
    (grad_at _ _ _ _ _ i k).trans (grad_congr (up_at m c t i ⟨_, hi⟩ rfl) (input_at m c t i ⟨_, hi⟩ rfl) (gain_eq m c t) (scale_eq m c t) (other_at m c t i ⟨_, hi⟩ rfl) k)
  have place : (ix2 ⟨t.val * 512 + i.val, hi⟩ k : S8192x1024.Idx) = ((View.whole main_v0_0).slice (win0_6.rect t)).emb (ix2 i k) := by
    funext a
    match a with
    | 0 => exact Fin.ext (by blk_simp [p6])
    | 1 => exact Fin.ext (by blk_simp [p6])
  blk_simp
  rw [after0_6, ← place]
  by_cases h : t.val % 16 = 0
  · rw [outsAt0_A m c t h]; frame_out; exact key
  · rw [outsAt0_B m c t h]; frame_out; exact key

theorem scale_sum (c : Dev nD) : (dats m 0 c).arrAt 7 cfg0.N = scaleSum (up m c) (input m c) (gain m c) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) _
    (fun t h j => by rw [outsAt0_A m c t h]; frame_out; rw [scale_at, (zero_at _).1])
    (fun t h j => by rw [outsAt0_B m c t h]; frame_out; rw [scale_at])
    (le_of_eq N_0) t0_15 rfl j, zero_add, scaleSum]
  refine Fin.sum_mul_add_congr fun t k hl => ?_
  exact scaleTerm_congr (up_at m c t k _ rfl) (input_at m c t k _ rfl) (gain_eq m c t) _

theorem shift_sum (c : Dev nD) : (dats m 0 c).arrAt 8 cfg0.N = shiftSum (up m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) _
    (fun t h j => by rw [outsAt0_A m c t h]; frame_out; rw [shift_at, (zero_at _).2.1])
    (fun t h j => by rw [outsAt0_B m c t h]; frame_out; rw [shift_at])
    (le_of_eq N_0) t0_15 rfl j, zero_add, shiftSum]
  refine Fin.sum_mul_add_congr fun t k hl => ?_
  exact up_at m c t k _ rfl _

theorem gain_sum (c : Dev nD) : (dats m 0 c).arrAt 9 cfg0.N = gainSum (up m c) (input m c) (scale m c) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) _
    (fun t h j => by rw [outsAt0_A m c t h]; frame_out; rw [gain_at, (zero_at _).2.2])
    (fun t h j => by rw [outsAt0_B m c t h]; frame_out; rw [gain_at])
    (le_of_eq N_0) t0_15 rfl j, zero_add, gainSum]
  refine Fin.sum_mul_add_congr fun t k hl => ?_
  exact gainTerm_congr (up_at m c t k _ rfl) (input_at m c t k _ rfl) (scale_eq m c t) _

/-! ## The reference -/

namespace Ref

open Cert.NormBwdRefIdeal (S_ S8192 S8192x1 S8192x1024 S1x1024 S1024)
open Cert.NormBwdRefIdeal.Facts₀

abbrev mean (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))
abbrev inv (x : FVec Ideal S8192x1024 .f32) : FVec Ideal S8192x1 .f32 :=
  Host.rsqrt (addf (mean (mulf x x)) (broadcastInDim S8192x1 ![] bcast_S_S8192x1 (constant S_ .f32 0x358637BD#32)))
abbrev wide (r : FVec Ideal S8192x1 .f32) : FVec Ideal S8192x1024 .f32 := broadcastInDim S8192x1024 ![0, 1] bcast_S8192x1_S8192x1024_0_1 r
abbrev rows (g : FVec Ideal S1x1024 .f32) : FVec Ideal S8192x1024 .f32 := broadcastInDim S8192x1024 ![0, 1] bcast_S1x1024_S8192x1024_0_1 g
abbrev normed (x : FVec Ideal S8192x1024 .f32) : FVec Ideal S8192x1024 .f32 := mulf x (wide (inv x))
abbrev inner (dh : FVec Ideal S8192x1024 .f32) (sc : FVec Ideal S1x1024 .f32) : FVec Ideal S8192x1024 .f32 :=
  mulf dh (rows (addf (broadcastInDim S1x1024 ![] bcast_S_S1x1024 (constant S_ .f32 0x3F800000#32)) sc))
abbrev outer (dh : FVec Ideal S8192x1024 .f32) (g sc : FVec Ideal S1x1024 .f32) : FVec Ideal S8192x1024 .f32 := mulf (inner dh sc) (rows g)
abbrev columns (x : FVec Ideal S8192x1024 .f32) : FVec Ideal S1x1024 .f32 :=
  broadcastInDim S1x1024 ![1] bcast_S1024_S1x1024_1 (Host.reduceAdd x (constant S_ .f32 0x00000000#32) reducesTo_S8192x1024_S1024_d0 h_S_)

variable (dh x dx : FVec Ideal S8192x1024 .f32) (g sc : FVec Ideal S1x1024 .f32)

theorem grads_ref : addf dx (mulf (wide (inv x)) (subf (outer dh g sc) (mulf (normed x) (wide (mean (mulf (normed x) (outer dh g sc)))))))
    = grads dh x g sc dx := by
  funext y
  pointwise [grads, grad, Rows.outer, Rows.inner, RmsNorm.normed, rootInv, lit]

theorem scale_ref : columns (mulf dh (mulf (normed x) (rows g))) = scaleSum dh x g := by
  funext y
  pointwise [scaleSum, scaleTerm, RmsNorm.normed, rootInv, lit]

theorem shift_ref : columns dh = shiftSum dh := by
  funext y
  pointwise [shiftSum]

theorem gain_ref : columns (mulf (inner dh sc) (normed x)) = gainSum dh x sc := by
  funext y
  pointwise [gainSum, gainTerm, Rows.inner, RmsNorm.normed, rootInv, lit]

end Ref

end Cert.NormBwdIdeal.Rows

end
-- ==== Proof.NormBwdClaim.lean ====
/-
  The claims about the backward pass of the first norm, put together.
-/
module

public import proofs.«01_k».proof.Defs
public import proofs.«01_k».proof.Proof.NormBwdValue
public import proofs.«01_k».proof.Proof.Gen.NormBwd
public import Idealize.ShloMosaic.Adequacy
public import Idealize.ShloMosaic.Init

@[expose] public section

noncomputable section

namespace Cert.NormBwdIdeal.Rows

open Cert.NormBwdIdeal Cert.NormBwdIdeal.Gen
open Idealize.ShloMosaic Idealize.ShloMosaic.TcCoe Idealize.SL.Sem

/-- The two programs have the same body table: the one kernel is the same function. -/
theorem bodies_eq : Cert.NormBwd.defs₀ (F := Bits) = Cert.NormBwdIdeal.defs₀ (F := Bits) := by
  unfold Cert.NormBwd.defs₀ Cert.NormBwdIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.NormBwd.defs (F := Bits) = Cert.NormBwdIdeal.defs (F := Bits) := congrArg (Pipeline.defs Cert.NormBwdIdeal.pcfgs) bodies_eq

theorem frame_bits : Cert.quiescent_NormBwd (hNormBwd := Cert.NormBwd.Gen.facts) := fun m ρ _ => by
  rw [table_eq]; exact frame (F := Bits) m ρ

theorem frame_ideal : Cert.quiescent_NormBwdIdeal (hNormBwdIdeal := Cert.NormBwdIdeal.Gen.facts) := fun m ρ _ => frame m ρ

theorem frame_reference : Cert.quiescent_NormBwdRefIdeal (hNormBwdRefIdeal := Cert.NormBwdRefIdeal.Gen.facts) := fun m ρ _ =>
  (θ_run Cert.NormBwdRefIdeal.defs _ _).mono (fun r h => ⟨fun c => (h c).2.2.2.2, sem_eq_zero_of_no_sems (by decide) r.2⟩)
    (Cert.NormBwdRefIdeal.Value.run m ρ)

theorem values : Cert.algebraic_NormBwdIdeal_NormBwdRefIdeal (hNormBwdIdeal := Cert.NormBwdIdeal.Gen.facts) (hNormBwdRefIdeal := Cert.NormBwdRefIdeal.Gen.facts) := fun m ρ m' ρ' _ h => by
  refine ⟨_, _, _, _, (θ_run Cert.NormBwdIdeal.defs _ _).mono (fun r hr c => ?_) (Cert.NormBwdIdeal.Value.run_blocks m ρ),
    Cert.NormBwdRefIdeal.Value.run m' ρ'⟩
  obtain ⟨hx, hs, hb, hg, kept⟩ := hr c
  obtain ⟨a0, a1, a2, a3, a4, a5⟩ := h c
  refine ⟨(hx.trans (grads_eq m c)).trans ?_, (hs.trans (scale_sum m c)).trans ?_, (hb.trans (shift_sum m c)).trans ?_,
    (hg.trans (gain_sum m c)).trans ?_, kept⟩
  · rw [a0, a1, a2, a3, a5]; exact (Ref.grads_ref _ _ _ _ _).symm
  · rw [a0, a1, a2]; exact (Ref.scale_ref _ _ _).symm
  · rw [a0]; exact (Ref.shift_ref _).symm
  · rw [a0, a1, a3]; exact (Ref.gain_ref _ _ _).symm

end Cert.NormBwdIdeal.Rows

end
-- ==== Proof.Spread.lean ====
/-
  The gather: every device sends the one array it has to all the others, and keeps a copy. The array is read by eight
  copies at once, so each takes a share of it. On device `c`, slot `d` of the result ends as device `d`'s array.
-/
module

public import proofs.«01_k».proof.Proof.Stages

@[expose] public section

noncomputable section

namespace Cert.Exchange

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {τ : Topo} {sig : RefSig} {Val : EltTy → Type}

local notation "𝕄" => MT 8 τ sig Unit Val ℕ (UU 8 τ sig) ℕ

variable {A B : ℕ} {e : EltTy} (src : Memref sig .tc .hbm (Plane A B) e) (dst : Memref sig .tc .hbm (Planes A B) e)
  (sq : (Plane1 A B).Squeezes (Plane A B)) (dsem : Part → DmaSem sig)
  (inj : Function.Injective dsem) (hpos : 0 < (Plane A B).numel) (Y : Fin 8 → (Plane A B).Idx → Val e)

/-- The share of its array that a device lends to the copy to device `d`. -/
abbrev lent (d : Fin 8) : PosShare TreeShare := Transfers.dealOf fullShare Finset.univ d

/-- Device `c`, holding `Y c`, sends it to every device. -/
def spreadPlan : Plan sig Val (Plane A B) e where
  dsem := dsem
  inj := inj
  src _ := src
  dst := slot dst sq
  q := lent
  X c _ := Y c
  N := (slot dst sq 0).view.dmaCredit
  pos := View.dmaCredit_pos _ hpos
  amt _ := rfl

/-- What every device ends with: in slot `d`, what device `d` had. -/
def spread : (Planes A B).Idx → Val e := fun i => Y (i 0) (ix2 (i 1) (i 2))

/-- A whole array, lent share by share. -/
theorem owns_lent (c : Dev 8) (b : Ref sig .tc) (f : b.ty.Contents Val) :
    (owns (c : Thread 8 τ) (Memref.whole b) fullShare f : sProp 𝕄) = bigSep Finset.univ fun d => owns (c : Thread 8 τ) (Memref.whole b) (lent d) f :=
  (owns_whole (c : Thread 8 τ) b fullShare f).trans ((Transfers.pointsTo_deal Finset.univ ⟨c, Finset.mem_univ c⟩ fullShare).trans
    (bigSep_congr fun d _ => (owns_whole (c : Thread 8 τ) b (lent d) f).symm))

variable (c : Dev 8)
  (hlend : (owns (c : Thread 8 τ) src fullShare (Y c) : sProp (MT 8 τ sig Unit Val ℕ (UU 8 τ sig) ℕ)) = bigSep Finset.univ fun d => owns (c : Thread 8 τ) src (lent d) (Y c))

include hlend

theorem spread_hold (v : (Planes A B).Idx → Val e) :
    iprop(owns (c : Thread 8 τ) src fullShare (Y c) ∗ owns (c : Thread 8 τ) dst fullShare v)
      ⊢ (iprop((spreadPlan src dst sq dsem inj hpos Y).mine c ∗ bigSep Finset.univ fun k => (spreadPlan src dst sq dsem inj hpos Y).give c k) : sProp 𝕄) := by
  refine BIBase.Entails.trans ?_ ((spreadPlan src dst sq dsem inj hpos Y).hold c)
  refine BI.sep_mono (Entails.of_eq hlend) ((owns_slots c dst sq fullShare v).trans (bigSep_mono fun d _ => ?_))
  show (owns (c : Thread 8 τ) (slot dst sq d) fullShare _ : sProp 𝕄) ⊢ iprop(∃ v, owns (c : Thread 8 τ) (slot dst sq d) fullShare v)
  iintro H
  iexists _
  iexact H

theorem spread_back [∀ e, Nonempty (Val e)] : (spreadPlan src dst sq dsem inj hpos Y).Landed c
    ⊢ (iprop(Pipeline.ownSems0 (Ix := Unit) (Name := ℕ) (U := UU 8 τ sig) (Lvl := ℕ) (Val := Val) (τ := τ) (spreadPlan src dst sq dsem inj hpos Y).osem c
        ∗ owns (c : Thread 8 τ) src fullShare (Y c) ∗ owns (c : Thread 8 τ) dst fullShare (spread Y)) : sProp 𝕄) := by
  refine ((spreadPlan src dst sq dsem inj hpos Y).back c).trans (BI.sep_mono (BI.Entails.refl _) (BI.sep_mono (Entails.of_eq hlend.symm) ?_))
  refine BIBase.Entails.trans (bigSep_mono fun d _ => ?_) (owns_of_slots c dst sq fullShare (spread Y))
  exact Entails.of_eq (congrArg (owns (c : Thread 8 τ) (slot dst sq d) fullShare) (funext fun j => congrArg (Y d) (eq_ix2 j)))

end Cert.Exchange

end
-- ==== Proof.WInGatherRun.lean ====
/-
  The gather of the first layer's input weights: every device sends its shard to each of the others and keeps one copy,
  all of it at the one point of a kernel without a grid.
-/
module

public import proofs.«01_k».proof.Proof.Runs
public import proofs.«01_k».proof.Proof.Spread
public import proofs.«01_k».proof.Proof.Gen.WInGatherIdeal
public import proofs.«01_k».proof.Proof.Gen.WInGatherIdeal.Skeleton
public import proofs.«01_k».proof.Proof.Gen.WInGatherIdeal.Frame

@[expose] public section

noncomputable section

namespace Cert.WInGatherIdeal.Gather

open Cert.WInGatherIdeal Cert.WInGatherIdeal.Gen Cert.Exchange
open Idealize.ShloMosaic Idealize.ShloMosaic.TcCoe Idealize.ShloMosaic.Tactic Idealize.ShloMosaic.Rounds Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ sig) ℕ

abbrev 𝒱₀ : Variants := Variants.none

/-! ## The gather -/

def dsem : Part → DmaSem sig
  | .inl k => (![0, 1, 2, 3, 4, 5, 6] : Fin 7 → DmaSem sig) k
  | .inr (.inl k) => (![7, 8, 9, 10, 11, 12, 13] : Fin 7 → DmaSem sig) k
  | .inr (.inr _) => 14

theorem ownSemFacts : Pipeline.OwnSemFacts cfg0.spec fun j => SemLoc.dma (dsem j) := by decide

variable (m : (ℓ : Loc nD τ sig) → Buf (Elt F) ℓ)

/-- Device `c`'s shard. -/
def shard (c : Fin 8) : S1024x1154.Idx → Elt F .bf16 := m (((c : Dev nD) : Thread nD τ).loc main_arg0)
def plan : Plan sig (Elt F) S1024x1154 .bf16 :=
  spreadPlan (Memref.whole main_arg0) (Memref.whole main_v1) squeezes_S1x1024x1154_S1024x1154 dsem (by decide) (by decide) (shard m)

theorem dev1_eq (d : Dev nD) (h) : (⟨k0_dev1 d, h⟩ : Dev nD) = peer 0 d := Fin.ext (by revert d; decide +kernel)
theorem dev2_eq (d : Dev nD) (h) : (⟨k0_dev2 d, h⟩ : Dev nD) = peer 1 d := Fin.ext (by revert d; decide +kernel)
theorem dev3_eq (d : Dev nD) (h) : (⟨k0_dev3 d, h⟩ : Dev nD) = peer 2 d := Fin.ext (by revert d; decide +kernel)
theorem dev4_eq (d : Dev nD) (h) : (⟨k0_dev4 d, h⟩ : Dev nD) = peer 3 d := Fin.ext (by revert d; decide +kernel)
theorem dev5_eq (d : Dev nD) (h) : (⟨k0_dev5 d, h⟩ : Dev nD) = peer 4 d := Fin.ext (by revert d; decide +kernel)
theorem dev6_eq (d : Dev nD) (h) : (⟨k0_dev6 d, h⟩ : Dev nD) = peer 5 d := Fin.ext (by revert d; decide +kernel)
theorem dev7_eq (d : Dev nD) (h) : (⟨k0_dev7 d, h⟩ : Dev nD) = peer 6 d := Fin.ext (by revert d; decide +kernel)
theorem off1_eq : ∀ d : Dev nD, k0_off1 d = ![d.val, 0, 0] := by decide +kernel

/-! ## The body -/

set_option maxHeartbeats 3200000 in
theorem wp_body (c : Dev nD) {W : Waits sig Unit} {Q : PUnit → sProp 𝕄} :
    iprop((plan m).Ready c ∗ owes (c : Thread nD τ) ((plan m).Owed c 0) W ∗ (((plan m).Landed c ∗ ∃ W', owes (c : Thread nD τ) 0 W') -∗ Q ⟨⟩))
      ⊢ wp frame (wpE (defs₀ (F := F)) 𝒱₀ (c : Thread nD τ) none) Set.univ (bodyAt0 t0_0) Q := by
  simp only [bodyAt0, cc0_gather_w_in_eq_skeleton]; unfold cc0_gather_w_in_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  iintro ⟨HS, HO, Hk⟩
  iapply ((plan m).wp_start 𝒱₀ c ⟨rfl, slotAt_eq (off1_eq c) _, rfl⟩
    ⟨dev1_eq c _, rfl, slotAt_eq (off1_eq c) _, rfl, rfl⟩ ⟨dev2_eq c _, rfl, slotAt_eq (off1_eq c) _, rfl, rfl⟩
    ⟨dev3_eq c _, rfl, slotAt_eq (off1_eq c) _, rfl, rfl⟩ ⟨dev4_eq c _, rfl, slotAt_eq (off1_eq c) _, rfl, rfl⟩
    ⟨dev5_eq c _, rfl, slotAt_eq (off1_eq c) _, rfl, rfl⟩ ⟨dev6_eq c _, rfl, slotAt_eq (off1_eq c) _, rfl, rfl⟩
    ⟨dev7_eq c _, rfl, slotAt_eq (off1_eq c) _, rfl, rfl⟩) $$ [HS HO]
  · isplitl [HS] <;> iassumption
  iintro ⟨HS, HO⟩
  iapply ((plan m).wp_finish 𝒱₀ c ⟨rfl, rfl⟩ ⟨rfl, rfl⟩ ⟨rfl, rfl⟩ ⟨rfl, rfl⟩ ⟨rfl, rfl⟩ ⟨rfl, rfl⟩ ⟨rfl, rfl⟩ ⟨rfl, rfl⟩
    ⟨rfl, rfl⟩ ⟨rfl, rfl⟩ ⟨rfl, rfl⟩ ⟨rfl, rfl⟩ ⟨rfl, rfl⟩ ⟨rfl, rfl⟩ ⟨rfl, rfl⟩) $$ [HS HO]
  · isplitl [HS] <;> iassumption
  iintro ⟨HS, HO⟩
  rw [wp_ret]; imodintro
  iapply Hk
  isplitl [HS] <;> iassumption

/-! ## The run -/

variable [∀ e, Nonempty (Elt F e)] (ρ : Dev nD → PrngReg)

def dats (_ : Fin 1) (c : Dev nD) : Dat τ (Elt F) Unit ℕ (UU nD τ sig) ℕ cfg0 c where
  A w := w.elim0
  after w _ := w.elim0
  Φ t := (plan m).held 1 c t.val
  q _ := fullShare
  owed t := (plan m).owing c t.val

theorem sound_body (c : Dev nD) (t : Fin cfg0.N) :
    iprop((plan m).held 1 c t.val ∗ (dats m 0 c).owesAt () t.castSucc)
      ⊢ wp frame (wpE (defs₀ (F := F)) 𝒱₀ (c : Thread nD τ) none) Set.univ (bodyAt0 t)
          fun _ => iprop((plan m).held 1 c (t.val + 1) ∗ (dats m 0 c).owesAt () t.succ) := by
  unfold Dat.owesAt Pipeline.owesWithin
  rw [show (dats m 0 c).owed t.castSucc = (plan m).owing c t.val from rfl, show (dats m 0 c).owed t.succ = (plan m).owing c (t.val + 1) from rfl]
  rw [show t.val = 0 by rw [fin_N0 t]; rfl, Plan.held_zero, show (0 + 1 : ℕ) = 1 from rfl, Plan.held_last _ _ _ (by decide), Plan.owing_zero, Plan.owing_succ _ _ 0]
  iintro ⟨HS, ⟨%W, %hW, HO⟩⟩
  iapply (wp_body m c (W := W))
  isplitl [HS]; · iexact HS
  isplitl [HO]; · iexact HO
  iintro ⟨HS, ⟨%W', HO⟩⟩
  isplitl [HS]; · iexact HS
  iexists W'; isplitr; · ipureintro; exact fun _ _ => Or.inl trivial
  iexact HO

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [defs₀_row]
  exact triple_restated (sound_body m c t) rfl (by
    show iprop((plan m).held 1 c t.val ∗ _ ∗ _) ⊢ _
    iintro ⟨H, H1, -⟩
    isplitl [H] <;> iassumption) fun _ => by
    show _ ⊢ iprop((plan m).held 1 c (t.val + 1) ∗ _ ∗ _)
    iintro ⟨H, H1⟩
    isplitl [H]; · iexact H
    isplitl [H1]; · iexact H1
    iempintro

theorem hold_in (c : Dev nD) :
    iprop((((c : Thread nD τ).loc main_arg0) ↦{fullShare} m ((c : Thread nD τ).loc main_arg0)) ∗ ((c : Thread nD τ).loc main_v1) ↦{fullShare} m ((c : Thread nD τ).loc main_v1))
      ⊢ (iprop((plan m).mine c ∗ bigSep Finset.univ fun k => (plan m).give c k) : sProp 𝕄) := by
  rw [← owns_whole (c : Thread nD τ) main_arg0, ← owns_whole (c : Thread nD τ) main_v1]
  exact spread_hold (Memref.whole main_arg0) (Memref.whole main_v1) squeezes_S1x1024x1154_S1024x1154 dsem _ _ (shard m) c (owns_lent c main_arg0 _) _

theorem back_out (c : Dev nD) : (plan m).Landed c
    ⊢ (iprop(Pipeline.ownSems0 (Ix := Unit) (Name := ℕ) (U := UU 8 τ sig) (Lvl := ℕ) (Val := Elt F) (τ := τ) (plan m).osem c
        ∗ (((c : Thread nD τ).loc main_arg0) ↦{fullShare} m ((c : Thread nD τ).loc main_arg0))
        ∗ ((c : Thread nD τ).loc main_v1) ↦{fullShare} spread (shard m)) : sProp 𝕄) := by
  rw [← owns_whole (c : Thread nD τ) main_arg0, ← owns_whole (c : Thread nD τ) main_v1]
  exact spread_back (Memref.whole main_arg0) (Memref.whole main_v1) squeezes_S1x1024x1154_S1024x1154 dsem _ _ (shard m) c (owns_lent c main_arg0 _)

theorem run_main : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_v1) = spread (shard m)) ∧ r.2.sem = fun _ => 0 :=
  (θ_run defs _ _).mono (fun _ h => ⟨fun c => (h.1 c).2, sem_eq_zero_of_scoped (by decide) h.2⟩)
    ((plan m).run cfgs (dats m) cellOf_inj winFacts0 ownSemFacts defs₀ 𝒱₀ m ρ main (fun _ => rfl) (body_obligation m) block_pos0 arr_whole0 stage_whole0
      (fun _ _ => rfl) (fun _ w => w.elim0) (fun _ _ => rfl) (by decide) main_arg0 main_v1 (fun _ => spread (shard m))
      (fun c => unscopedRest0_eq c _)
      (hold_in m) (back_out m)
      (fun c => by
        rw [scopedRest0_eq]
        show _ ⊢ (plan m).held 1 c 0
        rw [Plan.held_zero]
        iintro ⟨H, -⟩
        iexact H)
      (fun c => by
        rw [scopedRest0_eq]
        show (plan m).held 1 c (Fin.last cfg0.N).val ⊢ _
        rw [show (Fin.last cfg0.N).val = 1 from N_0, Plan.held_last _ _ _ (by decide)]
        iintro H
        isplitl [H]; · iexact H
        iempintro))

end Cert.WInGatherIdeal.Gather

end
-- ==== Proof.WInGatherClaim.lean ====
/-
  The claims about the gather of the first layer's input weights, put together.
-/
module

public import proofs.«01_k».proof.Defs
public import proofs.«01_k».proof.Proof.WInGatherRun
public import proofs.«01_k».proof.Proof.Gen.WInGather
public import proofs.«01_k».proof.Proof.Gen.WInGatherRefIdeal
public import proofs.«01_k».proof.Proof.Gen.WInGatherRefIdeal.Run
public import Idealize.ShloMosaic.Lib.Layout
public import Idealize.ShloMosaic.Adequacy
public import Idealize.ShloMosaic.Init

@[expose] public section

noncomputable section

namespace Cert.WInGatherIdeal.Gather

open Cert.WInGatherIdeal Cert.WInGatherIdeal.Gen Cert.Exchange
open Idealize.ShloMosaic Idealize.ShloMosaic.TcCoe Idealize.SL.Sem

/-- The two programs have the same body table: the one kernel is the same function. -/
theorem bodies_eq : Cert.WInGather.defs₀ (F := Bits) = Cert.WInGatherIdeal.defs₀ (F := Bits) := by
  unfold Cert.WInGather.defs₀ Cert.WInGatherIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.WInGather.defs (F := Bits) = Cert.WInGatherIdeal.defs (F := Bits) := congrArg (Pipeline.defs Cert.WInGatherIdeal.pcfgs) bodies_eq

/-- The run of `run_main`, its result dropped. -/
theorem frame_of {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun _ h => ⟨fun c => (h.1 c).1, h.2⟩) (run_main m ρ)

theorem frame_bits : Cert.quiescent_WInGather (hWInGather := Cert.WInGather.Gen.facts) := fun m ρ _ => by
  rw [table_eq]; exact frame_of (F := Bits) m ρ

theorem frame_ideal : Cert.quiescent_WInGatherIdeal (hWInGatherIdeal := Cert.WInGatherIdeal.Gen.facts) := fun m ρ _ => frame_of m ρ

theorem frame_reference : Cert.quiescent_WInGatherRefIdeal (hWInGatherRefIdeal := Cert.WInGatherRefIdeal.Gen.facts) := fun m ρ _ =>
  (θ_run Cert.WInGatherRefIdeal.defs _ _).mono (fun r h => ⟨fun c => (h c).2, sem_eq_zero_of_no_sems (by decide) r.2⟩)
    (Cert.WInGatherRefIdeal.Value.run m ρ)

/-- The gathered array is the whole matrix, its columns split into the devices' parts. -/
theorem gathered_eq (m : (ℓ : Loc nD τ sig) → Buf (Elt Ideal) ℓ) (w : Cert.WInGatherRefIdeal.S1024x9232.Idx → Elt Ideal .bf16)
    (h : ∀ d : Dev nD, m ((d : Thread nD τ).loc main_arg0) = Layout.block ⟨2, ![1024, 1154]⟩ ⟨2, ![1024, 9232]⟩ 1 8 d w) :
    spread (shard m) = transpose Cert.WInGatherRefIdeal.S8x1024x1154 [1, 0, 2]
      (shapeCast Cert.WInGatherRefIdeal.S1024x8x1154 w Cert.WInGatherRefIdeal.Facts₀.shapeCasts_S1024x9232_S1024x8x1154)
      Cert.WInGatherRefIdeal.Facts₀.transposes_S1024x8x1154_S8x1024x1154_1_0_2 := by
  funext i
  refine Eq.trans ?_ (transpose_apply _ _ _ _ (ValueIdx.ix3 (i 1) (i 0) (i 2)) (fun b => by fin_cases b <;> rfl)).symm
  refine Eq.trans (congrFun (h (i 0)) (ValueIdx.ix2 (i 1) (i 2))) (shapeCast_apply _ _ _ (Layout.Tiles.idx (S := ⟨2, ![1024, 1154]⟩)
    (T := ⟨2, ![1024, 9232]⟩) (a := 1) (k := 8) (by decide) (i 0) (ValueIdx.ix2 (i 1) (i 2))) ?_).symm
  refine (Shape.rowMajor_val_two _).trans (Eq.trans ?_ (Shape.rowMajor_val_three (ValueIdx.ix3 (i 1) (i 0) (i 2))).symm)
  show (i 1).val * 9232 + ((i 0).val * 1154 + (i 2).val) = ((i 1).val * 8 + (i 0).val) * 1154 + (i 2).val
  omega

theorem values : Cert.algebraic_WInGatherIdeal_WInGatherRefIdeal (hWInGatherIdeal := Cert.WInGatherIdeal.Gen.facts) (hWInGatherRefIdeal := Cert.WInGatherRefIdeal.Gen.facts) := fun m ρ m' ρ' _ h => by
  refine ⟨_, (θ_run Cert.WInGatherIdeal.defs _ _).mono (fun r hr c => ?_) (run_main m ρ),
    (θ_run Cert.WInGatherRefIdeal.defs _ _).mono (fun _ h => h 0) (Cert.WInGatherRefIdeal.Value.run m' ρ')⟩
  exact ⟨(hr.1 c).2.trans (gathered_eq m _ h), (hr.1 c).1⟩

end Cert.WInGatherIdeal.Gather

end
-- ==== Proof.SmallGatherRun.lean ====
/-
  The gather of the packed small gradients: every device sends its rows to each of the others and keeps one copy.
-/
module

public import proofs.«01_k».proof.Proof.Runs
public import proofs.«01_k».proof.Proof.Spread
public import proofs.«01_k».proof.Proof.Gen.SmallGatherIdeal
public import proofs.«01_k».proof.Proof.Gen.SmallGatherIdeal.Skeleton
public import proofs.«01_k».proof.Proof.Gen.SmallGatherIdeal.Frame

@[expose] public section

noncomputable section

namespace Cert.SmallGatherIdeal.Gather

open Cert.SmallGatherIdeal Cert.SmallGatherIdeal.Gen Cert.Exchange
open Idealize.ShloMosaic Idealize.ShloMosaic.TcCoe Idealize.ShloMosaic.Tactic Idealize.ShloMosaic.Rounds Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ sig) ℕ

abbrev 𝒱₀ : Variants := Variants.none

/-! ## The gather -/

def dsem : Part → DmaSem sig
  | .inl k => (![0, 1, 2, 3, 4, 5, 6] : Fin 7 → DmaSem sig) k
  | .inr (.inl k) => (![7, 8, 9, 10, 11, 12, 13] : Fin 7 → DmaSem sig) k
  | .inr (.inr _) => 14

theorem ownSemFacts : Pipeline.OwnSemFacts cfg0.spec fun j => SemLoc.dma (dsem j) := by decide

variable (m : (ℓ : Loc nD τ sig) → Buf (Elt F) ℓ)

/-- Device `c`'s rows. -/
def rows (c : Fin 8) : S104x1024.Idx → Elt F .f32 := m (((c : Dev nD) : Thread nD τ).loc main_arg0)
def plan : Plan sig (Elt F) S104x1024 .f32 :=
  spreadPlan (Memref.whole main_arg0) (Memref.whole main_v1) squeezes_S1x104x1024_S104x1024 dsem (by decide) (by decide) (rows m)

theorem dev1_eq (d : Dev nD) (h) : (⟨k0_dev1 d, h⟩ : Dev nD) = peer 0 d := Fin.ext (by revert d; decide +kernel)
theorem dev2_eq (d : Dev nD) (h) : (⟨k0_dev2 d, h⟩ : Dev nD) = peer 1 d := Fin.ext (by revert d; decide +kernel)
theorem dev3_eq (d : Dev nD) (h) : (⟨k0_dev3 d, h⟩ : Dev nD) = peer 2 d := Fin.ext (by revert d; decide +kernel)
theorem dev4_eq (d : Dev nD) (h) : (⟨k0_dev4 d, h⟩ : Dev nD) = peer 3 d := Fin.ext (by revert d; decide +kernel)
theorem dev5_eq (d : Dev nD) (h) : (⟨k0_dev5 d, h⟩ : Dev nD) = peer 4 d := Fin.ext (by revert d; decide +kernel)
theorem dev6_eq (d : Dev nD) (h) : (⟨k0_dev6 d, h⟩ : Dev nD) = peer 5 d := Fin.ext (by revert d; decide +kernel)
theorem dev7_eq (d : Dev nD) (h) : (⟨k0_dev7 d, h⟩ : Dev nD) = peer 6 d := Fin.ext (by revert d; decide +kernel)
theorem off1_eq : ∀ d : Dev nD, k0_off1 d = ![d.val, 0, 0] := by decide +kernel

/-! ## The body -/

set_option maxHeartbeats 3200000 in
theorem wp_body (c : Dev nD) {W : Waits sig Unit} {Q : PUnit → sProp 𝕄} :
    iprop((plan m).Ready c ∗ owes (c : Thread nD τ) ((plan m).Owed c 0) W ∗ (((plan m).Landed c ∗ ∃ W', owes (c : Thread nD τ) 0 W') -∗ Q ⟨⟩))
      ⊢ wp frame (wpE (defs₀ (F := F)) 𝒱₀ (c : Thread nD τ) none) Set.univ (bodyAt0 t0_0) Q := by
  simp only [bodyAt0, cc0_gather_small_grads_eq_skeleton]; unfold cc0_gather_small_grads_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  iintro ⟨HS, HO, Hk⟩
  iapply ((plan m).wp_start 𝒱₀ c ⟨rfl, slotAt_eq (off1_eq c) _, rfl⟩
    ⟨dev1_eq c _, rfl, slotAt_eq (off1_eq c) _, rfl, rfl⟩ ⟨dev2_eq c _, rfl, slotAt_eq (off1_eq c) _, rfl, rfl⟩
    ⟨dev3_eq c _, rfl, slotAt_eq (off1_eq c) _, rfl, rfl⟩ ⟨dev4_eq c _, rfl, slotAt_eq (off1_eq c) _, rfl, rfl⟩
    ⟨dev5_eq c _, rfl, slotAt_eq (off1_eq c) _, rfl, rfl⟩ ⟨dev6_eq c _, rfl, slotAt_eq (off1_eq c) _, rfl, rfl⟩
    ⟨dev7_eq c _, rfl, slotAt_eq (off1_eq c) _, rfl, rfl⟩) $$ [HS HO]
  · isplitl [HS] <;> iassumption
  iintro ⟨HS, HO⟩
  iapply ((plan m).wp_finish 𝒱₀ c ⟨rfl, rfl⟩ ⟨rfl, rfl⟩ ⟨rfl, rfl⟩ ⟨rfl, rfl⟩ ⟨rfl, rfl⟩ ⟨rfl, rfl⟩ ⟨rfl, rfl⟩ ⟨rfl, rfl⟩
    ⟨rfl, rfl⟩ ⟨rfl, rfl⟩ ⟨rfl, rfl⟩ ⟨rfl, rfl⟩ ⟨rfl, rfl⟩ ⟨rfl, rfl⟩ ⟨rfl, rfl⟩) $$ [HS HO]
  · isplitl [HS] <;> iassumption
  iintro ⟨HS, HO⟩
  rw [wp_ret]; imodintro
  iapply Hk
  isplitl [HS] <;> iassumption

/-! ## The run -/

variable [∀ e, Nonempty (Elt F e)] (ρ : Dev nD → PrngReg)

def dats (_ : Fin 1) (c : Dev nD) : Dat τ (Elt F) Unit ℕ (UU nD τ sig) ℕ cfg0 c where
  A w := w.elim0
  after w _ := w.elim0
  Φ t := (plan m).held 1 c t.val
  q _ := fullShare
  owed t := (plan m).owing c t.val

theorem sound_body (c : Dev nD) (t : Fin cfg0.N) :
    iprop((plan m).held 1 c t.val ∗ (dats m 0 c).owesAt () t.castSucc)
      ⊢ wp frame (wpE (defs₀ (F := F)) 𝒱₀ (c : Thread nD τ) none) Set.univ (bodyAt0 t)
          fun _ => iprop((plan m).held 1 c (t.val + 1) ∗ (dats m 0 c).owesAt () t.succ) := by
  unfold Dat.owesAt Pipeline.owesWithin
  rw [show (dats m 0 c).owed t.castSucc = (plan m).owing c t.val from rfl, show (dats m 0 c).owed t.succ = (plan m).owing c (t.val + 1) from rfl]
  rw [show t.val = 0 by rw [fin_N0 t]; rfl, Plan.held_zero, show (0 + 1 : ℕ) = 1 from rfl, Plan.held_last _ _ _ (by decide), Plan.owing_zero, Plan.owing_succ _ _ 0]
  iintro ⟨HS, ⟨%W, %hW, HO⟩⟩
  iapply (wp_body m c (W := W))
  isplitl [HS]; · iexact HS
  isplitl [HO]; · iexact HO
  iintro ⟨HS, ⟨%W', HO⟩⟩
  isplitl [HS]; · iexact HS
  iexists W'; isplitr; · ipureintro; exact fun _ _ => Or.inl trivial
  iexact HO

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [defs₀_row]
  exact triple_restated (sound_body m c t) rfl (by
    show iprop((plan m).held 1 c t.val ∗ _ ∗ _) ⊢ _
    iintro ⟨H, H1, -⟩
    isplitl [H] <;> iassumption) fun _ => by
    show _ ⊢ iprop((plan m).held 1 c (t.val + 1) ∗ _ ∗ _)
    iintro ⟨H, H1⟩
    isplitl [H]; · iexact H
    isplitl [H1]; · iexact H1
    iempintro

theorem hold_in (c : Dev nD) :
    iprop((((c : Thread nD τ).loc main_arg0) ↦{fullShare} m ((c : Thread nD τ).loc main_arg0)) ∗ ((c : Thread nD τ).loc main_v1) ↦{fullShare} m ((c : Thread nD τ).loc main_v1))
      ⊢ (iprop((plan m).mine c ∗ bigSep Finset.univ fun k => (plan m).give c k) : sProp 𝕄) := by
  rw [← owns_whole (c : Thread nD τ) main_arg0, ← owns_whole (c : Thread nD τ) main_v1]
  exact spread_hold (Memref.whole main_arg0) (Memref.whole main_v1) squeezes_S1x104x1024_S104x1024 dsem _ _ (rows m) c (owns_lent c main_arg0 _) _

theorem back_out (c : Dev nD) : (plan m).Landed c
    ⊢ (iprop(Pipeline.ownSems0 (Ix := Unit) (Name := ℕ) (U := UU 8 τ sig) (Lvl := ℕ) (Val := Elt F) (τ := τ) (plan m).osem c
        ∗ (((c : Thread nD τ).loc main_arg0) ↦{fullShare} m ((c : Thread nD τ).loc main_arg0))
        ∗ ((c : Thread nD τ).loc main_v1) ↦{fullShare} spread (rows m)) : sProp 𝕄) := by
  rw [← owns_whole (c : Thread nD τ) main_arg0, ← owns_whole (c : Thread nD τ) main_v1]
  exact spread_back (Memref.whole main_arg0) (Memref.whole main_v1) squeezes_S1x104x1024_S104x1024 dsem _ _ (rows m) c (owns_lent c main_arg0 _)

theorem run_main : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_v1) = spread (rows m)) ∧ r.2.sem = fun _ => 0 :=
  (θ_run defs _ _).mono (fun _ h => ⟨fun c => (h.1 c).2, sem_eq_zero_of_scoped (by decide) h.2⟩)
    ((plan m).run cfgs (dats m) cellOf_inj winFacts0 ownSemFacts defs₀ 𝒱₀ m ρ main (fun _ => rfl) (body_obligation m) block_pos0 arr_whole0 stage_whole0
      (fun _ _ => rfl) (fun _ w => w.elim0) (fun _ _ => rfl) (by decide) main_arg0 main_v1 (fun _ => spread (rows m))
      (fun c => unscopedRest0_eq c _)
      (hold_in m) (back_out m)
      (fun c => by
        rw [scopedRest0_eq]
        show _ ⊢ (plan m).held 1 c 0
        rw [Plan.held_zero]
        iintro ⟨H, -⟩
        iexact H)
      (fun c => by
        rw [scopedRest0_eq]
        show (plan m).held 1 c (Fin.last cfg0.N).val ⊢ _
        rw [show (Fin.last cfg0.N).val = 1 from N_0, Plan.held_last _ _ _ (by decide)]
        iintro H
        isplitl [H]; · iexact H
        iempintro))

end Cert.SmallGatherIdeal.Gather

end
-- ==== Proof.SmallGatherClaim.lean ====
/-
  The claims about the gather of the packed small gradients, put together.
-/
module

public import proofs.«01_k».proof.Defs
public import proofs.«01_k».proof.Proof.SmallGatherRun
public import proofs.«01_k».proof.Proof.Gen.SmallGather
public import proofs.«01_k».proof.Proof.Gen.SmallGatherRefIdeal
public import proofs.«01_k».proof.Proof.Gen.SmallGatherRefIdeal.Run
public import Idealize.ShloMosaic.Lib.Layout
public import Idealize.ShloMosaic.Adequacy
public import Idealize.ShloMosaic.Init

@[expose] public section

noncomputable section

namespace Cert.SmallGatherIdeal.Gather

open Cert.SmallGatherIdeal Cert.SmallGatherIdeal.Gen Cert.Exchange
open Idealize.ShloMosaic Idealize.ShloMosaic.TcCoe Idealize.SL.Sem

/-- The two programs have the same body table: the one kernel is the same function. -/
theorem bodies_eq : Cert.SmallGather.defs₀ (F := Bits) = Cert.SmallGatherIdeal.defs₀ (F := Bits) := by
  unfold Cert.SmallGather.defs₀ Cert.SmallGatherIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.SmallGather.defs (F := Bits) = Cert.SmallGatherIdeal.defs (F := Bits) := congrArg (Pipeline.defs Cert.SmallGatherIdeal.pcfgs) bodies_eq

/-- The run of `run_main`, its result dropped. -/
theorem frame_of {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun _ h => ⟨fun c => (h.1 c).1, h.2⟩) (run_main m ρ)

theorem frame_bits : Cert.quiescent_SmallGather (hSmallGather := Cert.SmallGather.Gen.facts) := fun m ρ _ => by
  rw [table_eq]; exact frame_of (F := Bits) m ρ

theorem frame_ideal : Cert.quiescent_SmallGatherIdeal (hSmallGatherIdeal := Cert.SmallGatherIdeal.Gen.facts) := fun m ρ _ => frame_of m ρ

theorem frame_reference : Cert.quiescent_SmallGatherRefIdeal (hSmallGatherRefIdeal := Cert.SmallGatherRefIdeal.Gen.facts) := fun m ρ _ =>
  (θ_run Cert.SmallGatherRefIdeal.defs _ _).mono (fun r h => ⟨fun c => (h c).2, sem_eq_zero_of_no_sems (by decide) r.2⟩)
    (Cert.SmallGatherRefIdeal.Value.run m ρ)

/-- The gathered array is the whole array, its rows split into the devices' parts. -/
theorem gathered_eq (m : (ℓ : Loc nD τ sig) → Buf (Elt Ideal) ℓ) (w : Cert.SmallGatherRefIdeal.S832x1024.Idx → Elt Ideal .f32)
    (h : ∀ d : Dev nD, m ((d : Thread nD τ).loc main_arg0) = Layout.block ⟨2, ![104, 1024]⟩ ⟨2, ![832, 1024]⟩ 0 8 d w) :
    spread (rows m) = shapeCast Cert.SmallGatherRefIdeal.S8x104x1024 w Cert.SmallGatherRefIdeal.Facts₀.shapeCasts_S832x1024_S8x104x1024 := by
  funext i
  refine Eq.trans (congrFun (h (i 0)) (ValueIdx.ix2 (i 1) (i 2))) (shapeCast_apply _ _ _ (Layout.Tiles.idx (S := ⟨2, ![104, 1024]⟩)
    (T := ⟨2, ![832, 1024]⟩) (a := 0) (k := 8) (by decide) (i 0) (ValueIdx.ix2 (i 1) (i 2))) ?_).symm
  refine (Shape.rowMajor_val_two _).trans (Eq.trans ?_ (Shape.rowMajor_val_three i).symm)
  show ((i 0).val * 104 + (i 1).val) * 1024 + (i 2).val = ((i 0).val * 104 + (i 1).val) * 1024 + (i 2).val
  rfl

theorem values : Cert.algebraic_SmallGatherIdeal_SmallGatherRefIdeal (hSmallGatherIdeal := Cert.SmallGatherIdeal.Gen.facts) (hSmallGatherRefIdeal := Cert.SmallGatherRefIdeal.Gen.facts) := fun m ρ m' ρ' _ h => by
  refine ⟨_, (θ_run Cert.SmallGatherIdeal.defs _ _).mono (fun r hr c => ?_) (run_main m ρ),
    (θ_run Cert.SmallGatherRefIdeal.defs _ _).mono (fun _ h => h 0) (Cert.SmallGatherRefIdeal.Value.run m' ρ')⟩
  exact ⟨(hr.1 c).2.trans (gathered_eq m _ h), (hr.1 c).1⟩

end Cert.SmallGatherIdeal.Gather

end
-- ==== Proof.CondGatherRun.lean ====
/-
  The gather of the conditioning and the convolution's weights: every device sends its packed rows to each of the others
  and keeps one copy.
-/
module

public import proofs.«01_k».proof.Proof.Runs
public import proofs.«01_k».proof.Proof.Spread
public import proofs.«01_k».proof.Proof.Gen.CondGatherIdeal
public import proofs.«01_k».proof.Proof.Gen.CondGatherIdeal.Skeleton
public import proofs.«01_k».proof.Proof.Gen.CondGatherIdeal.Frame

@[expose] public section

noncomputable section

namespace Cert.CondGatherIdeal.Gather

open Cert.CondGatherIdeal Cert.CondGatherIdeal.Gen Cert.Exchange
open Idealize.ShloMosaic Idealize.ShloMosaic.TcCoe Idealize.ShloMosaic.Tactic Idealize.ShloMosaic.Rounds Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ sig) ℕ

abbrev 𝒱₀ : Variants := Variants.none

/-! ## The gather -/

def dsem : Part → DmaSem sig
  | .inl k => (![0, 1, 2, 3, 4, 5, 6] : Fin 7 → DmaSem sig) k
  | .inr (.inl k) => (![7, 8, 9, 10, 11, 12, 13] : Fin 7 → DmaSem sig) k
  | .inr (.inr _) => 14

theorem ownSemFacts : Pipeline.OwnSemFacts cfg0.spec fun j => SemLoc.dma (dsem j) := by decide

variable (m : (ℓ : Loc nD τ sig) → Buf (Elt F) ℓ)

/-- Device `c`'s rows. -/
def rows (c : Fin 8) : S8x1024.Idx → Elt F .f32 := m (((c : Dev nD) : Thread nD τ).loc main_arg0)
def plan : Plan sig (Elt F) S8x1024 .f32 :=
  spreadPlan (Memref.whole main_arg0) (Memref.whole main_v1) squeezes_S1x8x1024_S8x1024 dsem (by decide) (by decide) (rows m)

theorem dev1_eq (d : Dev nD) (h) : (⟨k0_dev1 d, h⟩ : Dev nD) = peer 0 d := Fin.ext (by revert d; decide +kernel)
theorem dev2_eq (d : Dev nD) (h) : (⟨k0_dev2 d, h⟩ : Dev nD) = peer 1 d := Fin.ext (by revert d; decide +kernel)
theorem dev3_eq (d : Dev nD) (h) : (⟨k0_dev3 d, h⟩ : Dev nD) = peer 2 d := Fin.ext (by revert d; decide +kernel)
theorem dev4_eq (d : Dev nD) (h) : (⟨k0_dev4 d, h⟩ : Dev nD) = peer 3 d := Fin.ext (by revert d; decide +kernel)
theorem dev5_eq (d : Dev nD) (h) : (⟨k0_dev5 d, h⟩ : Dev nD) = peer 4 d := Fin.ext (by revert d; decide +kernel)
theorem dev6_eq (d : Dev nD) (h) : (⟨k0_dev6 d, h⟩ : Dev nD) = peer 5 d := Fin.ext (by revert d; decide +kernel)
theorem dev7_eq (d : Dev nD) (h) : (⟨k0_dev7 d, h⟩ : Dev nD) = peer 6 d := Fin.ext (by revert d; decide +kernel)
theorem off1_eq : ∀ d : Dev nD, k0_off1 d = ![d.val, 0, 0] := by decide +kernel

/-! ## The body -/

set_option maxHeartbeats 3200000 in
theorem wp_body (c : Dev nD) {W : Waits sig Unit} {Q : PUnit → sProp 𝕄} :
    iprop((plan m).Ready c ∗ owes (c : Thread nD τ) ((plan m).Owed c 0) W ∗ (((plan m).Landed c ∗ ∃ W', owes (c : Thread nD τ) 0 W') -∗ Q ⟨⟩))
      ⊢ wp frame (wpE (defs₀ (F := F)) 𝒱₀ (c : Thread nD τ) none) Set.univ (bodyAt0 t0_0) Q := by
  simp only [bodyAt0, cc0_gather_c_conv_eq_skeleton]; unfold cc0_gather_c_conv_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  iintro ⟨HS, HO, Hk⟩
  iapply ((plan m).wp_start 𝒱₀ c ⟨rfl, slotAt_eq (off1_eq c) _, rfl⟩
    ⟨dev1_eq c _, rfl, slotAt_eq (off1_eq c) _, rfl, rfl⟩ ⟨dev2_eq c _, rfl, slotAt_eq (off1_eq c) _, rfl, rfl⟩
    ⟨dev3_eq c _, rfl, slotAt_eq (off1_eq c) _, rfl, rfl⟩ ⟨dev4_eq c _, rfl, slotAt_eq (off1_eq c) _, rfl, rfl⟩
    ⟨dev5_eq c _, rfl, slotAt_eq (off1_eq c) _, rfl, rfl⟩ ⟨dev6_eq c _, rfl, slotAt_eq (off1_eq c) _, rfl, rfl⟩
    ⟨dev7_eq c _, rfl, slotAt_eq (off1_eq c) _, rfl, rfl⟩) $$ [HS HO]
  · isplitl [HS] <;> iassumption
  iintro ⟨HS, HO⟩
  iapply ((plan m).wp_finish 𝒱₀ c ⟨rfl, rfl⟩ ⟨rfl, rfl⟩ ⟨rfl, rfl⟩ ⟨rfl, rfl⟩ ⟨rfl, rfl⟩ ⟨rfl, rfl⟩ ⟨rfl, rfl⟩ ⟨rfl, rfl⟩
    ⟨rfl, rfl⟩ ⟨rfl, rfl⟩ ⟨rfl, rfl⟩ ⟨rfl, rfl⟩ ⟨rfl, rfl⟩ ⟨rfl, rfl⟩ ⟨rfl, rfl⟩) $$ [HS HO]
  · isplitl [HS] <;> iassumption
  iintro ⟨HS, HO⟩
  rw [wp_ret]; imodintro
  iapply Hk
  isplitl [HS] <;> iassumption

/-! ## The run -/

variable [∀ e, Nonempty (Elt F e)] (ρ : Dev nD → PrngReg)

def dats (_ : Fin 1) (c : Dev nD) : Dat τ (Elt F) Unit ℕ (UU nD τ sig) ℕ cfg0 c where
  A w := w.elim0
  after w _ := w.elim0
  Φ t := (plan m).held 1 c t.val
  q _ := fullShare
  owed t := (plan m).owing c t.val

theorem sound_body (c : Dev nD) (t : Fin cfg0.N) :
    iprop((plan m).held 1 c t.val ∗ (dats m 0 c).owesAt () t.castSucc)
      ⊢ wp frame (wpE (defs₀ (F := F)) 𝒱₀ (c : Thread nD τ) none) Set.univ (bodyAt0 t)
          fun _ => iprop((plan m).held 1 c (t.val + 1) ∗ (dats m 0 c).owesAt () t.succ) := by
  unfold Dat.owesAt Pipeline.owesWithin
  rw [show (dats m 0 c).owed t.castSucc = (plan m).owing c t.val from rfl, show (dats m 0 c).owed t.succ = (plan m).owing c (t.val + 1) from rfl]
  rw [show t.val = 0 by rw [fin_N0 t]; rfl, Plan.held_zero, show (0 + 1 : ℕ) = 1 from rfl, Plan.held_last _ _ _ (by decide), Plan.owing_zero, Plan.owing_succ _ _ 0]
  iintro ⟨HS, ⟨%W, %hW, HO⟩⟩
  iapply (wp_body m c (W := W))
  isplitl [HS]; · iexact HS
  isplitl [HO]; · iexact HO
  iintro ⟨HS, ⟨%W', HO⟩⟩
  isplitl [HS]; · iexact HS
  iexists W'; isplitr; · ipureintro; exact fun _ _ => Or.inl trivial
  iexact HO

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [defs₀_row]
  exact triple_restated (sound_body m c t) rfl (by
    show iprop((plan m).held 1 c t.val ∗ _ ∗ _) ⊢ _
    iintro ⟨H, H1, -⟩
    isplitl [H] <;> iassumption) fun _ => by
    show _ ⊢ iprop((plan m).held 1 c (t.val + 1) ∗ _ ∗ _)
    iintro ⟨H, H1⟩
    isplitl [H]; · iexact H
    isplitl [H1]; · iexact H1
    iempintro

theorem hold_in (c : Dev nD) :
    iprop((((c : Thread nD τ).loc main_arg0) ↦{fullShare} m ((c : Thread nD τ).loc main_arg0)) ∗ ((c : Thread nD τ).loc main_v1) ↦{fullShare} m ((c : Thread nD τ).loc main_v1))
      ⊢ (iprop((plan m).mine c ∗ bigSep Finset.univ fun k => (plan m).give c k) : sProp 𝕄) := by
  rw [← owns_whole (c : Thread nD τ) main_arg0, ← owns_whole (c : Thread nD τ) main_v1]
  exact spread_hold (Memref.whole main_arg0) (Memref.whole main_v1) squeezes_S1x8x1024_S8x1024 dsem _ _ (rows m) c (owns_lent c main_arg0 _) _

theorem back_out (c : Dev nD) : (plan m).Landed c
    ⊢ (iprop(Pipeline.ownSems0 (Ix := Unit) (Name := ℕ) (U := UU 8 τ sig) (Lvl := ℕ) (Val := Elt F) (τ := τ) (plan m).osem c
        ∗ (((c : Thread nD τ).loc main_arg0) ↦{fullShare} m ((c : Thread nD τ).loc main_arg0))
        ∗ ((c : Thread nD τ).loc main_v1) ↦{fullShare} spread (rows m)) : sProp 𝕄) := by
  rw [← owns_whole (c : Thread nD τ) main_arg0, ← owns_whole (c : Thread nD τ) main_v1]
  exact spread_back (Memref.whole main_arg0) (Memref.whole main_v1) squeezes_S1x8x1024_S8x1024 dsem _ _ (rows m) c (owns_lent c main_arg0 _)

theorem run_main : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_v1) = spread (rows m)) ∧ r.2.sem = fun _ => 0 :=
  (θ_run defs _ _).mono (fun _ h => ⟨fun c => (h.1 c).2, sem_eq_zero_of_scoped (by decide) h.2⟩)
    ((plan m).run cfgs (dats m) cellOf_inj winFacts0 ownSemFacts defs₀ 𝒱₀ m ρ main (fun _ => rfl) (body_obligation m) block_pos0 arr_whole0 stage_whole0
      (fun _ _ => rfl) (fun _ w => w.elim0) (fun _ _ => rfl) (by decide) main_arg0 main_v1 (fun _ => spread (rows m))
      (fun c => unscopedRest0_eq c _)
      (hold_in m) (back_out m)
      (fun c => by
        rw [scopedRest0_eq]
        show _ ⊢ (plan m).held 1 c 0
        rw [Plan.held_zero]
        iintro ⟨H, -⟩
        iexact H)
      (fun c => by
        rw [scopedRest0_eq]
        show (plan m).held 1 c (Fin.last cfg0.N).val ⊢ _
        rw [show (Fin.last cfg0.N).val = 1 from N_0, Plan.held_last _ _ _ (by decide)]
        iintro H
        isplitl [H]; · iexact H
        iempintro))

end Cert.CondGatherIdeal.Gather

end
-- ==== Proof.CondGatherClaim.lean ====
/-
  The claims about the gather of the conditioning and the convolution's weights, put together.
-/
module

public import proofs.«01_k».proof.Defs
public import proofs.«01_k».proof.Proof.CondGatherRun
public import proofs.«01_k».proof.Proof.Gen.CondGather
public import proofs.«01_k».proof.Proof.Gen.CondGatherRefIdeal
public import proofs.«01_k».proof.Proof.Gen.CondGatherRefIdeal.Run
public import Idealize.ShloMosaic.Lib.Layout
public import Idealize.ShloMosaic.Adequacy
public import Idealize.ShloMosaic.Init

@[expose] public section

noncomputable section

namespace Cert.CondGatherIdeal.Gather

open Cert.CondGatherIdeal Cert.CondGatherIdeal.Gen Cert.Exchange
open Idealize.ShloMosaic Idealize.ShloMosaic.TcCoe Idealize.SL.Sem

/-- The two programs have the same body table: the one kernel is the same function. -/
theorem bodies_eq : Cert.CondGather.defs₀ (F := Bits) = Cert.CondGatherIdeal.defs₀ (F := Bits) := by
  unfold Cert.CondGather.defs₀ Cert.CondGatherIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.CondGather.defs (F := Bits) = Cert.CondGatherIdeal.defs (F := Bits) := congrArg (Pipeline.defs Cert.CondGatherIdeal.pcfgs) bodies_eq

/-- The run of `run_main`, its result dropped. -/
theorem frame_of {F : FTy → Type} [FloatOps F] [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun _ h => ⟨fun c => (h.1 c).1, h.2⟩) (run_main m ρ)

theorem frame_bits : Cert.quiescent_CondGather (hCondGather := Cert.CondGather.Gen.facts) := fun m ρ _ => by
  rw [table_eq]; exact frame_of (F := Bits) m ρ

theorem frame_ideal : Cert.quiescent_CondGatherIdeal (hCondGatherIdeal := Cert.CondGatherIdeal.Gen.facts) := fun m ρ _ => frame_of m ρ

theorem frame_reference : Cert.quiescent_CondGatherRefIdeal (hCondGatherRefIdeal := Cert.CondGatherRefIdeal.Gen.facts) := fun m ρ _ =>
  (θ_run Cert.CondGatherRefIdeal.defs _ _).mono (fun r h => ⟨fun c => (h c).2, sem_eq_zero_of_no_sems (by decide) r.2⟩)
    (Cert.CondGatherRefIdeal.Value.run m ρ)

/-- The gathered array is the whole array, its rows split into the devices' parts. -/
theorem gathered_eq (m : (ℓ : Loc nD τ sig) → Buf (Elt Ideal) ℓ) (w : Cert.CondGatherRefIdeal.S64x1024.Idx → Elt Ideal .f32)
    (h : ∀ d : Dev nD, m ((d : Thread nD τ).loc main_arg0) = Layout.block ⟨2, ![8, 1024]⟩ ⟨2, ![64, 1024]⟩ 0 8 d w) :
    spread (rows m) = shapeCast Cert.CondGatherRefIdeal.S8x8x1024 w Cert.CondGatherRefIdeal.Facts₀.shapeCasts_S64x1024_S8x8x1024 := by
  funext i
  refine Eq.trans (congrFun (h (i 0)) (ValueIdx.ix2 (i 1) (i 2))) (shapeCast_apply _ _ _ (Layout.Tiles.idx (S := ⟨2, ![8, 1024]⟩)
    (T := ⟨2, ![64, 1024]⟩) (a := 0) (k := 8) (by decide) (i 0) (ValueIdx.ix2 (i 1) (i 2))) ?_).symm
  refine (Shape.rowMajor_val_two _).trans (Eq.trans ?_ (Shape.rowMajor_val_three i).symm)
  show ((i 0).val * 8 + (i 1).val) * 1024 + (i 2).val = ((i 0).val * 8 + (i 1).val) * 1024 + (i 2).val
  rfl

theorem values : Cert.algebraic_CondGatherIdeal_CondGatherRefIdeal (hCondGatherIdeal := Cert.CondGatherIdeal.Gen.facts) (hCondGatherRefIdeal := Cert.CondGatherRefIdeal.Gen.facts) := fun m ρ m' ρ' _ h => by
  refine ⟨_, (θ_run Cert.CondGatherIdeal.defs _ _).mono (fun r hr c => ?_) (run_main m ρ),
    (θ_run Cert.CondGatherRefIdeal.defs _ _).mono (fun _ h => h 0) (Cert.CondGatherRefIdeal.Value.run m' ρ')⟩
  exact ⟨(hr.1 c).2.trans (gathered_eq m _ h), (hr.1 c).1⟩

end Cert.CondGatherIdeal.Gather

end
-- ==== Proof.NormFwdValue.lean ====
/-
  What the first norm writes. A point of the grid takes 512 rows, divides each by its root mean square, applies gain,
  scale and shift, and writes them twice: as rows, and turned.
-/
module

public import proofs.«01_k».proof.Proof.RmsNorm
public import proofs.«01_k».proof.Proof.Gen.NormFwdIdeal.Value
public import proofs.«01_k».proof.Proof.Gen.NormFwdRefIdeal.Run
public import Idealize.ShloMosaic.Lib.Pipeline.ValueKit

@[expose] public section

set_option maxRecDepth 16384

noncomputable section

namespace Cert.NormFwdIdeal.Rows

open Cert.NormFwdIdeal Cert.NormFwdIdeal.Gen Cert.AdamW Cert.RmsNorm
open Idealize.ShloMosaic Idealize.ShloMosaic.TcCoe Idealize.SL.Sem
open Idealize.ShloMosaic.Pipeline (Dat)

theorem rows_at (x : FVec Ideal S512x1024 .f32) (g sc sh : FVec Ideal S1x1024 .f32) (i : Fin 512) (k : Fin 1024) :
    k0_pay2 (F := Ideal) x g sc sh (ix2 i k) = modulated x g sc sh i k := by
  pointwise [k0_pay2, k0_pay1, modulated, normed, rootInv, lit]

theorem turned_at (x : FVec Ideal S512x1024 .f32) (g sc sh : FVec Ideal S1x1024 .f32) (i : Fin 512) (k : Fin 1024) :
    k0_pay3 (F := Ideal) x g sc sh (ix2 k i) = modulated x g sc sh i k := by
  pointwise [k0_pay3, k0_pay1, modulated, normed, rootInv, lit]

/-! ## The arrays the run leaves -/

variable (m : (ℓ : Loc nD τ sig) → Buf (Elt Ideal) ℓ)

/-- Where the blocks of a point lie. -/
theorem placed : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, t.val] :=
  (by decide +kernel : ∀ t : Fin grid0.N, _)

abbrev input (c : Dev nD) : FVec Ideal S8192x1024 .f32 := m ((c : Thread nD τ).loc main_arg0)
abbrev gain (c : Dev nD) : FVec Ideal S1x1024 .f32 := m ((c : Thread nD τ).loc main_arg1)
abbrev scale (c : Dev nD) : FVec Ideal S1x1024 .f32 := m ((c : Thread nD τ).loc main_arg2)
abbrev shift (c : Dev nD) : FVec Ideal S1x1024 .f32 := m ((c : Thread nD τ).loc main_arg3)

/-- A row of a point's block, normed and modulated, is that of the array. -/
theorem block_at (c : Dev nD) (t : Fin cfg0.N) (i : Fin 512) (i' : Fin 8192) (h : i'.val = t.val * 512 + i.val) (k : Fin 1024) :
    modulated (n := 512) (iblk m c 0 t) (iblk m c 1 t) (iblk m c 2 t) (iblk m c 3 t) i k
      = modulated (input m c) (gain m c) (scale m c) (shift m c) i' k := by
  obtain ⟨p0, p1, p2, p3, -⟩ := placed t
  refine modulated_congr (fun k => ?_) (funext fun y => ?_) (funext fun y => ?_) (funext fun y => ?_) k
  · blk_ext [iblk, V, input, p0, h]
  · blk_ext [iblk, V, gain, p1]
  · blk_ext [iblk, V, scale, p2]
  · blk_ext [iblk, V, shift, p3]

/-- The normed rows. -/
def rows (x : FVec Ideal S8192x1024 .f32) (g sc sh : FVec Ideal S1x1024 .f32) : FVec Ideal S8192x1024 .bf16 :=
  fun y => modulated x g sc sh (y 0) (y 1)

/-- The normed rows, turned. -/
def turned (x : FVec Ideal S8192x1024 .f32) (g sc sh : FVec Ideal S1x1024 .f32) : FVec Ideal S1024x8192 .bf16 :=
  fun y => modulated x g sc sh (y 1) (y 0)

theorem rows_eq (c : Dev nD) : (dats m 0 c).arrAt 4 cfg0.N = rows (input m c) (gain m c) (scale m c) (shift m c) := by
  refine (dats m 0 c).arrAt_eq_of_covers 4 _ (by decide +kernel) fun t _ y => ?_
  obtain ⟨i, k, rfl⟩ : ∃ i k, y = ix2 i k := ⟨y 0, y 1, eq_ix2 y⟩
  have p4 := (placed t).2.2.2.2.1
  have hi : t.val * 512 + i.val < 8192 := by have := lt_of_lt_of_eq t.isLt N_0; omega
  have place : (ix2 ⟨t.val * 512 + i.val, hi⟩ k : S8192x1024.Idx) = ((View.whole main_v0_0).slice (win0_4.rect t)).emb (ix2 i k) := by
    funext a
    match a with
    | 0 => exact Fin.ext (by blk_simp [p4])
    | 1 => exact Fin.ext (by blk_simp [p4])
  blk_simp
  rw [after0_4, ← place]
  frame_out
  exact (rows_at _ _ _ _ i k).trans (block_at m c t i ⟨_, hi⟩ rfl k)

theorem turned_eq (c : Dev nD) : (dats m 0 c).arrAt 5 cfg0.N = turned (input m c) (gain m c) (scale m c) (shift m c) := by
  refine (dats m 0 c).arrAt_eq_of_covers 5 _ (by decide +kernel) fun t _ y => ?_
  obtain ⟨k, i, rfl⟩ : ∃ k i, y = ix2 k i := ⟨y 0, y 1, eq_ix2 y⟩
  have p5 := (placed t).2.2.2.2.2
  have hi : t.val * 512 + i.val < 8192 := by have := lt_of_lt_of_eq t.isLt N_0; omega
  have place : (ix2 k ⟨t.val * 512 + i.val, hi⟩ : S1024x8192.Idx) = ((View.whole main_v0_1).slice (win0_5.rect t)).emb (ix2 k i) := by
    funext a
    match a with
    | 0 => exact Fin.ext (by blk_simp [p5])
    | 1 => exact Fin.ext (by blk_simp [p5])
  blk_simp
  rw [after0_5, ← place]
  frame_out
  exact (turned_at _ _ _ _ i k).trans (block_at m c t i ⟨_, hi⟩ rfl k)

/-! ## The reference -/

namespace Ref

open Cert.NormFwdRefIdeal (S_ S8192 S8192x1 S8192x1024 S1x1024 S1024x8192)
open Cert.NormFwdRefIdeal.Facts₀

abbrev mean (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))
abbrev spread (g : FVec Ideal S1x1024 .f32) : FVec Ideal S8192x1024 .f32 := broadcastInDim S8192x1024 ![0, 1] bcast_S1x1024_S8192x1024_0_1 g
abbrev result (x : FVec Ideal S8192x1024 .f32) (g sc sh : FVec Ideal S1x1024 .f32) : FVec Ideal S8192x1024 .bf16 :=
  truncf .bf16 (addf (mulf (mulf (mulf x (broadcastInDim S8192x1024 ![0, 1] bcast_S8192x1_S8192x1024_0_1
      (Host.rsqrt (addf (mean (mulf x x)) (broadcastInDim S8192x1 ![] bcast_S_S8192x1 (constant S_ .f32 0x358637BD#32))))))
    (spread g)) (spread (addf (broadcastInDim S1x1024 ![] bcast_S_S1x1024 (constant S_ .f32 0x3F800000#32)) sc))) (spread sh)) Cert.NormFwdRefIdeal.Facts₀.bitsLt_bf16_f32

variable (x : FVec Ideal S8192x1024 .f32) (g sc sh : FVec Ideal S1x1024 .f32)

theorem rows_ref : result x g sc sh = rows x g sc sh := by
  funext y
  pointwise [rows, modulated, normed, rootInv, lit]

theorem turned_ref : transpose S1024x8192 [1, 0] (result x g sc sh) transposes_S8192x1024_S1024x8192_1_0 = turned x g sc sh := by
  funext y
  pointwise [turned, modulated, normed, rootInv, lit]

end Ref

end Cert.NormFwdIdeal.Rows

end
-- ==== Proof.NormFwdClaim.lean ====
/-
  The claims about the first norm, put together.
-/
module

public import proofs.«01_k».proof.Defs
public import proofs.«01_k».proof.Proof.NormFwdValue
public import proofs.«01_k».proof.Proof.Gen.NormFwd
public import Idealize.ShloMosaic.Adequacy
public import Idealize.ShloMosaic.Init

@[expose] public section

noncomputable section

namespace Cert.NormFwdIdeal.Rows

open Cert.NormFwdIdeal Cert.NormFwdIdeal.Gen
open Idealize.ShloMosaic Idealize.ShloMosaic.TcCoe Idealize.SL.Sem

/-- The two programs have the same body table: the one kernel is the same function. -/
theorem bodies_eq : Cert.NormFwd.defs₀ (F := Bits) = Cert.NormFwdIdeal.defs₀ (F := Bits) := by
  unfold Cert.NormFwd.defs₀ Cert.NormFwdIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.NormFwd.defs (F := Bits) = Cert.NormFwdIdeal.defs (F := Bits) := congrArg (Pipeline.defs Cert.NormFwdIdeal.pcfgs) bodies_eq

theorem frame_bits : Cert.quiescent_NormFwd (hNormFwd := Cert.NormFwd.Gen.facts) := fun m ρ _ => by
  rw [table_eq]; exact frame (F := Bits) m ρ

theorem frame_ideal : Cert.quiescent_NormFwdIdeal (hNormFwdIdeal := Cert.NormFwdIdeal.Gen.facts) := fun m ρ _ => frame m ρ

theorem frame_reference : Cert.quiescent_NormFwdRefIdeal (hNormFwdRefIdeal := Cert.NormFwdRefIdeal.Gen.facts) := fun m ρ _ =>
  (θ_run Cert.NormFwdRefIdeal.defs _ _).mono (fun r h => ⟨fun c => (h c).2.2, sem_eq_zero_of_no_sems (by decide) r.2⟩)
    (Cert.NormFwdRefIdeal.Value.run m ρ)

theorem values : Cert.algebraic_NormFwdIdeal_NormFwdRefIdeal (hNormFwdIdeal := Cert.NormFwdIdeal.Gen.facts) (hNormFwdRefIdeal := Cert.NormFwdRefIdeal.Gen.facts) := fun m ρ m' ρ' _ h => by
  refine ⟨_, _, (θ_run Cert.NormFwdIdeal.defs _ _).mono (fun r hr c => ?_) (Cert.NormFwdIdeal.Value.run_blocks m ρ),
    Cert.NormFwdRefIdeal.Value.run m' ρ'⟩
  obtain ⟨hr, ht, kept⟩ := hr c
  obtain ⟨a0, a1, a2, a3⟩ := h c
  refine ⟨(hr.trans (rows_eq m c)).trans ?_, (ht.trans (turned_eq m c)).trans ?_, kept⟩
  · rw [a0, a1, a2, a3]; exact (Ref.rows_ref _ _ _ _).symm
  · rw [a0, a1, a2, a3]; exact (Ref.turned_ref _ _ _ _).symm

end Cert.NormFwdIdeal.Rows

end
-- ==== Proof.LossHeadValue.lean ====
/-
  What the loss's call writes. A point of the grid takes 512 rows: it writes the gradient of their input, and adds what they
  contribute to the loss and to the gradient of the last gain to what the points before it left.
-/
module

public import proofs.«01_k».proof.Proof.AdamRef
public import proofs.«01_k».proof.Proof.RmsNorm
public import proofs.«01_k».proof.Proof.Gen.LossHeadIdeal.Value
public import proofs.«01_k».proof.Proof.Gen.LossHeadRefIdeal.Run
public import Idealize.ShloMosaic.Lib.Pipeline.ValueKit

@[expose] public section

set_option maxRecDepth 16384

noncomputable section

namespace Cert.LossHeadIdeal.Rows

open Cert.LossHeadIdeal Cert.LossHeadIdeal.Gen Cert.AdamW Cert.RmsNorm
open Idealize.ShloMosaic Idealize.ShloMosaic.TcCoe Idealize.SL.Sem
open Idealize.ShloMosaic.Pipeline (Dat)

/-! ## The mathematics, for any number of rows -/

section Math

variable {n : ℕ}

/-- The error: the normed row times the gain, less the target. -/
def err (x t : Mat n) (g : Mat 1) (i : Fin n) (k : Fin 1024) : EReal := normed x i k * g (ix2 0 k) - t (ix2 i k)

/-- The loss's gradient at the output: a 1024th of the error. -/
def slope (x t : Mat n) (g : Mat 1) (i : Fin n) (k : Fin 1024) : EReal := Ideal.div (err x t g i k) (lit 0x44800000#32)

/-- The gradient before the gain. -/
def outer (x t : Mat n) (g : Mat 1) : Mat n := fun y => slope x t g (y 0) (y 1) * g (ix2 0 (y 1))

/-- What a row contributes to the loss: half the mean square of its error. -/
def lossTerm (x t : Mat n) (g : Mat 1) (i : Fin n) : EReal :=
  lit 0x3F000000#32 * Ideal.div (∑ k : Fin 1024, (err x t g i k * err x t g i k : EReal)) (lit 0x44800000#32)

/-- What a row contributes to the gradient of the gain. -/
def gainTerm (x t : Mat n) (g : Mat 1) (i : Fin n) (k : Fin 1024) : EReal := slope x t g i k * normed x i k

/-! A row of a block is a row of the array. -/

variable {n' : ℕ} {x t : Mat n} {x' t' : Mat n'} {g g' : Mat 1} {i : Fin n} {i' : Fin n'}

theorem err_congr (hx : ∀ k, x (ix2 i k) = x' (ix2 i' k)) (ht : ∀ k, t (ix2 i k) = t' (ix2 i' k)) (hg : g = g') (k : Fin 1024) :
    err x t g i k = err x' t' g' i' k := by
  subst hg
  simp only [err, normed_congr hx, ht]

theorem outer_congr (hx : ∀ k, x (ix2 i k) = x' (ix2 i' k)) (ht : ∀ k, t (ix2 i k) = t' (ix2 i' k)) (hg : g = g') (k : Fin 1024) :
    outer x t g (ix2 i k) = outer x' t' g' (ix2 i' k) := by
  subst hg
  show slope x t g i k * g (ix2 0 k) = slope x' t' g i' k * g (ix2 0 k)
  simp only [slope, err_congr hx ht rfl]

theorem lossTerm_congr (hx : ∀ k, x (ix2 i k) = x' (ix2 i' k)) (ht : ∀ k, t (ix2 i k) = t' (ix2 i' k)) (hg : g = g') :
    lossTerm x t g i = lossTerm x' t' g' i' := by
  simp only [lossTerm, err_congr hx ht hg]

theorem gainTerm_congr (hx : ∀ k, x (ix2 i k) = x' (ix2 i' k)) (ht : ∀ k, t (ix2 i k) = t' (ix2 i' k)) (hg : g = g') (k : Fin 1024) :
    gainTerm x t g i k = gainTerm x' t' g' i' k := by
  simp only [gainTerm, slope, err_congr hx ht hg, normed_congr hx]

/-- Half a sum is the sum of the halves. -/
theorem half_sum {ι : Type} [Fintype ι] (f : ι → EReal) : lit 0x3F000000#32 * (∑ i, f i : EReal) = (∑ i, lit 0x3F000000#32 * f i : EReal) := by
  rw [half_eq]
  classical
  refine Finset.induction_on (Finset.univ : Finset ι) (by simp) fun a s ha ih => ?_
  rw [Finset.sum_insert ha, Finset.sum_insert ha,
    EReal.left_distrib_of_nonneg_of_ne_top (EReal.coe_nonneg.2 (by norm_num)) (EReal.coe_ne_top _), ih]

/-- To multiply by 2⁻¹⁰ is to divide by 1024. -/
theorem slope_eq (a : EReal) : a * lit 0x3A800000#32 = Ideal.div a (lit 0x44800000#32) := by
  have h : lit 0x44800000#32 = ((1024 : ℝ) : EReal) := by
    simp [lit, Ideal.ofBits, Ideal.ieee, -EReal.coe_mul]; norm_num
  have h' : lit 0x3A800000#32 = ((1 / 1024 : ℝ) : EReal) := by
    simp [lit, Ideal.ofBits, Ideal.ieee, -EReal.coe_mul]; norm_num
  rw [h, h', Ideal.div_coe (by norm_num)]

end Math

/-! ## The payloads of the body -/

theorem rootInv_at (x : FVec Ideal S512x1024 .f32) (i : Fin 512) : k0_pay3 (F := Ideal) x (ix2 i 0) = rootInv x i := by
  pointwise [k0_pay3, rootInv, lit]

theorem normed_at (x : FVec Ideal S512x1024 .f32) (i : Fin 512) (k : Fin 1024) : k0_pay4 (F := Ideal) x (ix2 i k) = normed x i k := by
  pointwise [k0_pay4, normed, rootInv_at]

theorem err_at (x t : FVec Ideal S512x1024 .f32) (g : FVec Ideal S1x1024 .f32) (i : Fin 512) (k : Fin 1024) :
    k0_pay5 (F := Ideal) x g t (ix2 i k) = err x t g i k := by
  pointwise [k0_pay5, err, normed_at]

theorem slope_at (x t : FVec Ideal S512x1024 .f32) (g : FVec Ideal S1x1024 .f32) (i : Fin 512) (k : Fin 1024) :
    k0_pay6 (F := Ideal) x g t (ix2 i k) = slope x t g i k := by
  refine Eq.trans ?_ (slope_eq _)
  pointwise [k0_pay6, err_at, lit]

theorem grad_at (x t : FVec Ideal S512x1024 .f32) (g : FVec Ideal S1x1024 .f32) (i : Fin 512) (k : Fin 1024) :
    k0_pay7 (F := Ideal) x g t (ix2 i k) = through x (outer x t g) i k := by
  pointwise [k0_pay7, through, outer, normed_at, slope_at, rootInv_at, lit]

theorem zero_loss (y : S1x128.Idx) : k0_pay8 (F := Ideal) y = 0 := by
  pointwise [k0_pay8]

theorem zero_gain (y : S1x1024.Idx) : k0_pay9 (F := Ideal) y = 0 := by
  pointwise [k0_pay9]

theorem loss_at (x t : FVec Ideal S512x1024 .f32) (g : FVec Ideal S1x1024 .f32) (acc : FVec Ideal S1x128 .f32) (y : S1x128.Idx) :
    k0_pay1 (F := Ideal) (k0_pay10 x g t) acc y = acc y + (∑ i : Fin 512, lossTerm x t g i : EReal) := by
  simp only [lossTerm]
  rw [← half_sum]
  pointwise [k0_pay1, k0_pay10, err_at, lit]

theorem gain_at (x t : FVec Ideal S512x1024 .f32) (g acc : FVec Ideal S1x1024 .f32) (y : S1x1024.Idx) :
    k0_pay2 (F := Ideal) (k0_pay4 x) (k0_pay6 x g t) acc y = acc y + (∑ i : Fin 512, gainTerm x t g i (y 1) : EReal) := by
  pointwise [k0_pay2, gainTerm, normed_at, slope_at]

/-! ## The arrays the run leaves -/

variable (m : (ℓ : Loc nD τ sig) → Buf (Elt Ideal) ℓ)

/-- Where the blocks of a point lie. -/
theorem placed : ∀ t : Fin cfg0.N, win0_0.index t = ![t.val, 0] ∧ win0_1.index t = ![t.val, 0] ∧ win0_2.index t = ![0, 0]
    ∧ win0_4.index t = ![t.val, 0] :=
  (by decide +kernel : ∀ t : Fin grid0.N, _)

abbrev input (c : Dev nD) : FVec Ideal S8192x1024 .f32 := m ((c : Thread nD τ).loc main_arg0)
abbrev target (c : Dev nD) : FVec Ideal S8192x1024 .f32 := m ((c : Thread nD τ).loc main_arg1)
abbrev gain (c : Dev nD) : FVec Ideal S1x1024 .f32 := m ((c : Thread nD τ).loc main_arg2)

section Blocks

variable (c : Dev nD) (t : Fin cfg0.N) (i : Fin 512) (i' : Fin 8192) (h : i'.val = t.val * 512 + i.val)

include h in
theorem input_at (k : Fin 1024) : (iblk m c 0 t : FVec Ideal S512x1024 .f32) (ix2 i k) = input m c (ix2 i' k) := by
  blk_ext [iblk, V, input, (placed t).1, h]

include h in
theorem target_at (k : Fin 1024) : (iblk m c 1 t : FVec Ideal S512x1024 .f32) (ix2 i k) = target m c (ix2 i' k) := by
  blk_ext [iblk, V, target, (placed t).2.1, h]

theorem gain_eq : (iblk m c 2 t : FVec Ideal S1x1024 .f32) = gain m c := by
  funext y
  blk_ext [iblk, V, gain, (placed t).2.2.1]

end Blocks

/-- The loss, in every entry of its row. -/
def lossSum (x t : FVec Ideal S8192x1024 .f32) (g : FVec Ideal S1x1024 .f32) : FVec Ideal S1x128 .f32 :=
  fun _ => (∑ i : Fin 8192, lossTerm x t g i : EReal)

/-- The gradient of the input. -/
def grads (x t : FVec Ideal S8192x1024 .f32) (g : FVec Ideal S1x1024 .f32) : FVec Ideal S8192x1024 .f32 :=
  fun y => through x (outer x t g) (y 0) (y 1)

def gainSum (x t : FVec Ideal S8192x1024 .f32) (g : FVec Ideal S1x1024 .f32) : FVec Ideal S1x1024 .f32 :=
  fun y => (∑ i : Fin 8192, gainTerm x t g i (y 1) : EReal)

theorem loss_sum (c : Dev nD) : (dats m 0 c).arrAt 3 cfg0.N = lossSum (input m c) (target m c) (gain m c) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0) _
    (fun t h j => by rw [outsAt0_A m c t h]; frame_out; rw [loss_at, zero_loss])
    (fun t h j => by rw [outsAt0_B m c t h]; frame_out; rw [loss_at])
    (le_of_eq N_0) t0_15 rfl j, zero_add, lossSum]
  refine Fin.sum_mul_add_congr fun t k hl => ?_
  exact lossTerm_congr (input_at m c t k _ rfl) (target_at m c t k _ rfl) (gain_eq m c t)

theorem grads_eq (c : Dev nD) : (dats m 0 c).arrAt 4 cfg0.N = grads (input m c) (target m c) (gain m c) := by
  refine (dats m 0 c).arrAt_eq_of_covers 4 _ (by decide +kernel) fun t _ y => ?_
  obtain ⟨i, k, rfl⟩ : ∃ i k, y = ix2 i k := ⟨y 0, y 1, eq_ix2 y⟩
  have p4 := (placed t).2.2.2
  have hi : t.val * 512 + i.val < 8192 := by have := lt_of_lt_of_eq t.isLt N_0; omega
  have key : k0_pay7 (F := Ideal) (iblk m c 0 t) (iblk m c 2 t) (iblk m c 1 t) (ix2 i k)
      = grads (input m c) (target m c) (gain m c) (ix2 ⟨t.val * 512 + i.val, hi⟩ k) :=
    (grad_at _ _ _ i k).trans (through_congr (input_at m c t i ⟨_, hi⟩ rfl)
      (outer_congr (input_at m c t i ⟨_, hi⟩ rfl) (target_at m c t i ⟨_, hi⟩ rfl) (gain_eq m c t)) k)
  have place : (ix2 ⟨t.val * 512 + i.val, hi⟩ k : S8192x1024.Idx) = ((View.whole main_v0_1).slice (win0_4.rect t)).emb (ix2 i k) := by
    funext a
    match a with
    | 0 => exact Fin.ext (by blk_simp [p4])
    | 1 => exact Fin.ext (by blk_simp [p4])
  blk_simp
  rw [after0_4, ← place]
  by_cases h : t.val % 16 = 0
  · rw [outsAt0_A m c t h]; frame_out; exact key
  · rw [outsAt0_B m c t h]; frame_out; exact key

theorem gain_sum (c : Dev nD) : (dats m 0 c).arrAt 5 cfg0.N = gainSum (input m c) (target m c) (gain m c) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0) _
    (fun t h j => by rw [outsAt0_A m c t h]; frame_out; rw [gain_at, zero_gain])
    (fun t h j => by rw [outsAt0_B m c t h]; frame_out; rw [gain_at])
    (le_of_eq N_0) t0_15 rfl j, zero_add, gainSum]
  refine Fin.sum_mul_add_congr fun t k hl => ?_
  exact gainTerm_congr (input_at m c t k _ rfl) (target_at m c t k _ rfl) (gain_eq m c t) _

/-! ## The reference -/

namespace Ref

open Cert.LossHeadRefIdeal (S_ S8192 S8192x1 S8192x1024 S1x1024 S1024 S1x128)
open Cert.LossHeadRefIdeal.Facts₀

abbrev mean (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))
abbrev inverse (x : FVec Ideal S8192x1024 .f32) : FVec Ideal S8192x1 .f32 :=
  Host.rsqrt (addf (mean (mulf x x)) (broadcastInDim S8192x1 ![] bcast_S_S8192x1 (constant S_ .f32 0x358637BD#32)))
abbrev wide (r : FVec Ideal S8192x1 .f32) : FVec Ideal S8192x1024 .f32 := broadcastInDim S8192x1024 ![0, 1] bcast_S8192x1_S8192x1024_0_1 r
abbrev spread (g : FVec Ideal S1x1024 .f32) : FVec Ideal S8192x1024 .f32 := broadcastInDim S8192x1024 ![0, 1] bcast_S1x1024_S8192x1024_0_1 g
abbrev divided (x : FVec Ideal S8192x1024 .f32) : FVec Ideal S8192x1024 .f32 := mulf x (wide (inverse x))
abbrev error (x t : FVec Ideal S8192x1024 .f32) (g : FVec Ideal S1x1024 .f32) : FVec Ideal S8192x1024 .f32 := subf (mulf (divided x) (spread g)) t
abbrev steep (x t : FVec Ideal S8192x1024 .f32) (g : FVec Ideal S1x1024 .f32) : FVec Ideal S8192x1024 .f32 :=
  Host.divf (error x t g) (broadcastInDim S8192x1024 ![] bcast_S_S8192x1024 (constant S_ .f32 0x44800000#32))

variable (x t : FVec Ideal S8192x1024 .f32) (g : FVec Ideal S1x1024 .f32)

theorem loss_ref : broadcastInDim S1x128 ![] bcast_S_S1x128 (mulf (constant S_ .f32 0x3F000000#32)
      (Host.reduceAdd (Host.divf (Host.reduceAdd (mulf (error x t g) (error x t g)) (constant S_ .f32 0x00000000#32) reducesTo_S8192x1024_S8192_d1 h_S_)
        (broadcastInDim S8192 ![] bcast_S_S8192 (constant S_ .f32 0x44800000#32))) (constant S_ .f32 0x00000000#32) reducesTo_S8192_S_d0 h_S_))
    = lossSum x t g := by
  funext y
  simp only [lossSum, lossTerm]
  rw [← half_sum]
  pointwise [err, normed, rootInv, lit]

theorem grads_ref : mulf (wide (inverse x)) (subf (mulf (steep x t g) (spread g))
      (mulf (divided x) (wide (mean (mulf (divided x) (mulf (steep x t g) (spread g))))))) = grads x t g := by
  funext y
  pointwise [grads, through, outer, slope, err, normed, rootInv, lit]

theorem gain_ref : broadcastInDim S1x1024 ![1] bcast_S1024_S1x1024_1
      (Host.reduceAdd (mulf (steep x t g) (divided x)) (constant S_ .f32 0x00000000#32) reducesTo_S8192x1024_S1024_d0 h_S_) = gainSum x t g := by
  funext y
  pointwise [gainSum, gainTerm, slope, err, normed, rootInv, lit]

end Ref

end Cert.LossHeadIdeal.Rows

end
-- ==== Proof.LossHeadClaim.lean ====
/-
  The claims about the loss and its gradients, put together.
-/
module

public import proofs.«01_k».proof.Defs
public import proofs.«01_k».proof.Proof.LossHeadValue
public import proofs.«01_k».proof.Proof.Gen.LossHead
public import Idealize.ShloMosaic.Adequacy
public import Idealize.ShloMosaic.Init

@[expose] public section

noncomputable section

namespace Cert.LossHeadIdeal.Rows

open Cert.LossHeadIdeal Cert.LossHeadIdeal.Gen
open Idealize.ShloMosaic Idealize.ShloMosaic.TcCoe Idealize.SL.Sem

/-- The two programs have the same body table: the one kernel is the same function. -/
theorem bodies_eq : Cert.LossHead.defs₀ (F := Bits) = Cert.LossHeadIdeal.defs₀ (F := Bits) := by
  unfold Cert.LossHead.defs₀ Cert.LossHeadIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.LossHead.defs (F := Bits) = Cert.LossHeadIdeal.defs (F := Bits) := congrArg (Pipeline.defs Cert.LossHeadIdeal.pcfgs) bodies_eq

theorem frame_bits : Cert.quiescent_LossHead (hLossHead := Cert.LossHead.Gen.facts) := fun m ρ _ => by
  rw [table_eq]; exact frame (F := Bits) m ρ

theorem frame_ideal : Cert.quiescent_LossHeadIdeal (hLossHeadIdeal := Cert.LossHeadIdeal.Gen.facts) := fun m ρ _ => frame m ρ

theorem frame_reference : Cert.quiescent_LossHeadRefIdeal (hLossHeadRefIdeal := Cert.LossHeadRefIdeal.Gen.facts) := fun m ρ _ =>
  (θ_run Cert.LossHeadRefIdeal.defs _ _).mono (fun r h => ⟨fun c => (h c).2.2.2, sem_eq_zero_of_no_sems (by decide) r.2⟩)
    (Cert.LossHeadRefIdeal.Value.run m ρ)

theorem values : Cert.algebraic_LossHeadIdeal_LossHeadRefIdeal (hLossHeadIdeal := Cert.LossHeadIdeal.Gen.facts) (hLossHeadRefIdeal := Cert.LossHeadRefIdeal.Gen.facts) := fun m ρ m' ρ' _ h => by
  refine ⟨_, _, _, (θ_run Cert.LossHeadIdeal.defs _ _).mono (fun r hr c => ?_) (Cert.LossHeadIdeal.Value.run_blocks m ρ),
    Cert.LossHeadRefIdeal.Value.run m' ρ'⟩
  obtain ⟨hl, hx, hg, kept⟩ := hr c
  obtain ⟨a0, a1, a2⟩ := h c
  refine ⟨(hl.trans (loss_sum m c)).trans ?_, (hx.trans (grads_eq m c)).trans ?_, (hg.trans (gain_sum m c)).trans ?_, kept⟩
  · rw [a0, a1, a2]; exact (Ref.loss_ref _ _ _).symm
  · rw [a0, a1, a2]; exact (Ref.grads_ref _ _ _).symm
  · rw [a0, a1, a2]; exact (Ref.gain_ref _ _ _).symm

end Cert.LossHeadIdeal.Rows

end
-- ==== Proof.AdaModValue.lean ====
/-
  What the modulation's call writes. A point of the grid takes one layer: the gated conditioning of the eight devices times
  this device's columns of the layer's weight, and the bias added.
-/
module

public import proofs.«01_k».proof.Proof.AdamRef
public import proofs.«01_k».proof.Proof.Gen.AdaModIdeal.Value
public import proofs.«01_k».proof.Proof.Gen.AdaModRefIdeal.Run

@[expose] public section

set_option maxRecDepth 16384

noncomputable section

namespace Cert.AdaModIdeal.Mix

open Cert.AdaModIdeal Cert.AdaModIdeal.Gen Cert.AdamW
open Idealize.ShloMosaic Idealize.ShloMosaic.TcCoe Idealize.SL.Sem
open Idealize.ShloMosaic.Pipeline (Dat)

variable (m : (ℓ : Loc nD τ sig) → Buf (Elt Ideal) ℓ)

/-- The modulation before the bias. -/
def product {n : ℕ} (x : FVec Ideal ⟨2, ![8, 1024]⟩ .f32) (w : FVec Ideal ⟨3, ![n, 1024, 768]⟩ .f32) (l : Fin n) (d : Fin 8) (j : Fin 768) : EReal :=
  (∑ k : Fin 1024, (x (ix2 d k) * logistic (x (ix2 d k))) * w (ix3 l k j) : EReal)

/-- The modulation. -/
def modulation (x : FVec Ideal S8x1024 .f32) (w : FVec Ideal S4x1024x768 .f32) (b : FVec Ideal S4x768 .f32) : FVec Ideal S4x8x768 .f32 :=
  fun y => product x w (y 0) (y 1) (y 2) + b (ix2 (y 0) (y 2))

/-- The kernel's gate is the logistic function. -/
theorem block_at (x : FVec Ideal S8x1024 .f32) (w : FVec Ideal S1x1024x768 .f32) (b : FVec Ideal S1x1x768 .f32) (d : Fin 8) (j : Fin 768) :
    k0_pay1 (F := Ideal) x w b (ix3 0 d j) = product x w 0 d j + b (ix3 0 0 j) := by
  pointwise [k0_pay1, product, ← gate_eq, lit]

/-- Where the blocks of a point lie. -/
theorem placed : ∀ t : Fin cfg0.N, win0_0.index t = ![0, 0] ∧ win0_1.index t = ![t.val, 0, 0] ∧ win0_2.index t = ![t.val, 0, 0]
    ∧ win0_3.index t = ![t.val, 0, 0] :=
  (by decide +kernel : ∀ t : Fin grid0.N, _)

abbrev cond (c : Dev nD) : FVec Ideal S8x1024 .f32 := m ((c : Thread nD τ).loc main_arg0)
abbrev weight (c : Dev nD) : FVec Ideal S4x1024x768 .f32 := m ((c : Thread nD τ).loc main_arg1)
abbrev bias (c : Dev nD) : FVec Ideal S4x768 .f32 := m ((c : Thread nD τ).loc main_arg2)

/-- The call gets the bias with an axis of length one put in. -/
theorem bias_in (c : Dev nD) : (V m c main_v0 : FVec Ideal S4x1x768 .f32) = shapeCast S4x1x768 (bias m c) shapeCasts_S4x768_S4x1x768 := by
  show StableHlo.after hostOps0 (fun b => m (c, b)) (Proc.devRef .tc main_v0) = _
  after_results
  rfl

theorem modulation_eq (c : Dev nD) : (dats m 0 c).arrAt 3 cfg0.N = modulation (cond m c) (weight m c) (bias m c) := by
  refine (dats m 0 c).arrAt_eq_of_covers 3 _ (by decide +kernel) fun t _ y => ?_
  obtain ⟨d, j, rfl⟩ : ∃ d j, y = ix3 0 d j :=
    ⟨y 1, y 2, (eq_ix3 y).trans (congrArg (fun a => ix3 a (y 1) (y 2)) (Subsingleton.elim (α := Fin 1) _ _))⟩
  obtain ⟨p0, p1, p2, p3⟩ := placed t
  have ht : t.val < 4 := lt_of_lt_of_eq t.isLt N_0
  have place : (ix3 ⟨t.val, ht⟩ d j : S4x8x768.Idx) = ((View.whole main_v1).slice (win0_3.rect t)).emb (ix3 0 d j) := by
    funext a
    match a with
    | 0 => exact Fin.ext (by blk_simp [p3]; rfl)
    | 1 => exact Fin.ext (by blk_simp [p3])
    | 2 => exact Fin.ext (by blk_simp [p3])
  blk_simp
  rw [after0_3, ← place]
  frame_out
  refine (block_at _ _ _ d j).trans (congrArg₂ (· + ·) (Finset.sum_congr rfl fun k _ => ?_) ?_)
  · have e : (iblk m c 0 t : FVec Ideal S8x1024 .f32) (ix2 d k) = cond m c (ix2 d k) := by
      blk_ext [iblk, cond, V_main_arg0, p0]
    have f : (iblk m c 1 t : FVec Ideal S1x1024x768 .f32) (ix3 0 k j) = weight m c (ix3 ⟨t.val, ht⟩ k j) := by
      blk_ext [iblk, weight, V_main_arg1, p1]
    rw [e, f]
    rfl
  · have g : (iblk m c 2 t : FVec Ideal S1x1x768 .f32) (ix3 0 0 j) = (V m c main_v0 : FVec Ideal S4x1x768 .f32) (ix3 ⟨t.val, ht⟩ 0 j) := by
      blk_ext [iblk, p2]
    rw [g, bias_in]
    pointwise []

open Cert.AdaModRefIdeal.Facts₀ in
theorem modulation_ref (x : FVec Ideal Cert.AdaModRefIdeal.S8x1024 .f32) (w : FVec Ideal Cert.AdaModRefIdeal.S4x1024x768 .f32)
    (b : FVec Ideal Cert.AdaModRefIdeal.S4x768 .f32) :
    (addf (transpose Cert.AdaModRefIdeal.S4x8x768 [0, 2, 1]
        (Host.dotGeneral Cert.AdaModRefIdeal.dot_S4x1024x768_S8x1024_S4x768x8_1_1_02_0_n_n none w
          (mulf x (Host.divf (broadcastInDim Cert.AdaModRefIdeal.S8x1024 ![] bcast_S_S8x1024 (constant Cert.AdaModRefIdeal.S_ .f32 0x3F800000#32))
            (addf (broadcastInDim Cert.AdaModRefIdeal.S8x1024 ![] bcast_S_S8x1024 (constant Cert.AdaModRefIdeal.S_ .f32 0x3F800000#32))
              (Host.exp (Host.negf x))))))
        transposes_S4x768x8_S4x8x768_0_2_1)
      (broadcastInDim Cert.AdaModRefIdeal.S4x8x768 ![0, 1, 2] bcast_S4x1x768_S4x8x768_0_1_2
        (broadcastInDim Cert.AdaModRefIdeal.S4x1x768 ![0, 2] bcast_S4x768_S4x1x768_0_2 b)) : FVec Ideal Cert.AdaModRefIdeal.S4x8x768 .f32)
      = modulation x w b := by
  funext y
  pointwise [modulation, product, Cert.AdamW.logistic]
  refine congrArg (· + _) (Finset.sum_congr rfl fun k _ => mul_comm _ _)

end Cert.AdaModIdeal.Mix

end
-- ==== Proof.AdaModClaim.lean ====
/-
  The claims about the update of the modulation's weight, put together.
-/
module

public import proofs.«01_k».proof.Defs
public import proofs.«01_k».proof.Proof.AdaModValue
public import proofs.«01_k».proof.Proof.Gen.AdaMod
public import Idealize.ShloMosaic.Adequacy
public import Idealize.ShloMosaic.Init

@[expose] public section

noncomputable section

namespace Cert.AdaModIdeal.Mix

open Cert.AdaModIdeal Cert.AdaModIdeal.Gen Cert.AdamW
open Idealize.ShloMosaic Idealize.ShloMosaic.TcCoe Idealize.SL.Sem

/-- The two programs have the same body table: the one kernel is the same function. -/
theorem bodies_eq : Cert.AdaMod.defs₀ (F := Bits) = Cert.AdaModIdeal.defs₀ (F := Bits) := by
  unfold Cert.AdaMod.defs₀ Cert.AdaModIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.AdaMod.defs (F := Bits) = Cert.AdaModIdeal.defs (F := Bits) := congrArg (Pipeline.defs Cert.AdaModIdeal.pcfgs) bodies_eq

theorem frame_bits : Cert.quiescent_AdaMod (hAdaMod := Cert.AdaMod.Gen.facts) := fun m ρ _ => by
  rw [table_eq]; exact frame (F := Bits) m ρ

theorem frame_ideal : Cert.quiescent_AdaModIdeal (hAdaModIdeal := Cert.AdaModIdeal.Gen.facts) := fun m ρ _ => frame m ρ

theorem frame_reference : Cert.quiescent_AdaModRefIdeal (hAdaModRefIdeal := Cert.AdaModRefIdeal.Gen.facts) := fun m ρ _ =>
  (θ_run Cert.AdaModRefIdeal.defs _ _).mono (fun r h => ⟨fun c => (h c).2, sem_eq_zero_of_no_sems (by decide) r.2⟩)
    (Cert.AdaModRefIdeal.Value.run m ρ)

theorem values : Cert.algebraic_AdaModIdeal_AdaModRefIdeal (hAdaModIdeal := Cert.AdaModIdeal.Gen.facts) (hAdaModRefIdeal := Cert.AdaModRefIdeal.Gen.facts) := fun m ρ m' ρ' _ h => by
  refine ⟨_, (θ_run Cert.AdaModIdeal.defs _ _).mono (fun r hr c => ?_) (Cert.AdaModIdeal.Value.run_blocks m ρ),
    Cert.AdaModRefIdeal.Value.run m' ρ'⟩
  obtain ⟨hv, kept⟩ := hr c
  obtain ⟨a0, a1, a2⟩ := h c
  refine ⟨(hv.trans (modulation_eq m c)).trans ?_, kept⟩
  rw [a0, a1, a2]; exact (modulation_ref _ _ _).symm

end Cert.AdaModIdeal.Mix

end
-- ==== Proof.OutProjValue.lean ====
/-
  What the output projection writes. A point of the grid takes 1024 rows: their product with the whole weight, gated and
  added to the stream, and the second norm of that.
-/
module

public import proofs.«01_k».proof.Proof.RmsNorm
public import proofs.«01_k».proof.Proof.Gen.OutProjIdeal.Value
public import proofs.«01_k».proof.Proof.Gen.OutProjRefIdeal.Run
public import Idealize.ShloMosaic.Lib.Pipeline.ValueKit

@[expose] public section

set_option maxRecDepth 16384

noncomputable section

namespace Cert.OutProjIdeal.Rows

open Cert.OutProjIdeal Cert.OutProjIdeal.Gen Cert.AdamW Cert.RmsNorm
open Idealize.ShloMosaic Idealize.ShloMosaic.TcCoe Idealize.SL.Sem
open Idealize.ShloMosaic.Pipeline (Dat)

/-- The stream, and the gated product added. -/
def stream {n : ℕ} (x : FVec Ideal ⟨2, ![n, 1024]⟩ .bf16) (w : FVec Ideal ⟨2, ![1024, 1024]⟩ .bf16) (res : Mat n) (gate : Mat 1) : Mat n :=
  fun y => res y + gate (ix2 0 (y 1)) * (∑ k : Fin 1024, x (ix2 (y 0) k) * w (ix2 k (y 1)) : EReal)

theorem stream_congr {n n' : ℕ} {x : FVec Ideal ⟨2, ![n, 1024]⟩ .bf16} {x' : FVec Ideal ⟨2, ![n', 1024]⟩ .bf16} {w w' : FVec Ideal ⟨2, ![1024, 1024]⟩ .bf16}
    {res : Mat n} {res' : Mat n'} {gate gate' : Mat 1} {i : Fin n} {i' : Fin n'} (hx : ∀ k, x (ix2 i k) = x' (ix2 i' k)) (hw : w = w')
    (hr : ∀ k, res (ix2 i k) = res' (ix2 i' k)) (hg : gate = gate') (k : Fin 1024) :
    stream x w res gate (ix2 i k) = stream x' w' res' gate' (ix2 i' k) := by
  subst hw hg
  show res (ix2 i k) + gate (ix2 0 k) * (∑ l : Fin 1024, x (ix2 i l) * w (ix2 l k) : EReal)
    = res' (ix2 i' k) + gate (ix2 0 k) * (∑ l : Fin 1024, x' (ix2 i' l) * w (ix2 l k) : EReal)
  simp only [hx, hr]

theorem stream_at (x w : FVec Ideal S1024x1024 .bf16) (res : FVec Ideal S1024x1024 .f32) (gate : FVec Ideal S1x1024 .f32) (i k : Fin 1024) :
    k0_pay1 (F := Ideal) x w res gate (ix2 i k) = stream x w res gate (ix2 i k) := by
  pointwise [k0_pay1, stream]

theorem normed_at (x w : FVec Ideal S1024x1024 .bf16) (res : FVec Ideal S1024x1024 .f32) (gate g sc sh : FVec Ideal S1x1024 .f32) (i k : Fin 1024) :
    k0_pay2 (F := Ideal) x w res gate g sc sh (ix2 i k) = modulated (stream x w res gate) g sc sh i k := by
  pointwise [k0_pay2, stream_at, modulated, normed, rootInv, lit]

/-! ## The arrays the run leaves -/

variable (m : (ℓ : Loc nD τ sig) → Buf (Elt Ideal) ℓ)

/-- Where the blocks of a point lie. -/
theorem placed : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

abbrev mixed (c : Dev nD) : FVec Ideal S8192x1024 .bf16 := m ((c : Thread nD τ).loc main_arg0)
abbrev weight (c : Dev nD) : FVec Ideal S1024x1024 .bf16 := m ((c : Thread nD τ).loc main_arg1)
abbrev input (c : Dev nD) : FVec Ideal S8192x1024 .f32 := m ((c : Thread nD τ).loc main_arg2)
abbrev gate (c : Dev nD) : FVec Ideal S1x1024 .f32 := m ((c : Thread nD τ).loc main_arg3)
abbrev gain (c : Dev nD) : FVec Ideal S1x1024 .f32 := m ((c : Thread nD τ).loc main_arg4)
abbrev scale (c : Dev nD) : FVec Ideal S1x1024 .f32 := m ((c : Thread nD τ).loc main_arg5)
abbrev shift (c : Dev nD) : FVec Ideal S1x1024 .f32 := m ((c : Thread nD τ).loc main_arg6)

section Blocks

variable (c : Dev nD) (t : Fin cfg0.N) (i : Fin 1024) (i' : Fin 8192) (h : i'.val = t.val * 1024 + i.val)

include h in
theorem block_at (k : Fin 1024) : stream (n := 1024) (iblk m c 0 t) (iblk m c 1 t) (iblk m c 2 t) (iblk m c 3 t) (ix2 i k)
    = stream (mixed m c) (weight m c) (input m c) (gate m c) (ix2 i' k) := by
  obtain ⟨p0, p1, p2, p3, -⟩ := placed t
  refine stream_congr (fun k => ?_) (funext fun y => ?_) (fun k => ?_) (funext fun y => ?_) k
  · blk_ext [iblk, V, mixed, p0, h]
  · blk_ext [iblk, V, weight, p1]
  · blk_ext [iblk, V, input, p2, h]
  · blk_ext [iblk, V, gate, p3]

theorem gain_eq : (iblk m c 4 t : FVec Ideal S1x1024 .f32) = gain m c := by
  funext y
  blk_ext [iblk, V, gain, (placed t).2.2.2.2.1]

theorem scale_eq : (iblk m c 5 t : FVec Ideal S1x1024 .f32) = scale m c := by
  funext y
  blk_ext [iblk, V, scale, (placed t).2.2.2.2.2.1]

theorem shift_eq : (iblk m c 6 t : FVec Ideal S1x1024 .f32) = shift m c := by
  funext y
  blk_ext [iblk, V, shift, (placed t).2.2.2.2.2.2.1]

end Blocks

/-- The stream's norm. -/
def after (x : FVec Ideal S8192x1024 .bf16) (w : FVec Ideal S1024x1024 .bf16) (res : FVec Ideal S8192x1024 .f32) (gate g sc sh : FVec Ideal S1x1024 .f32) :
    FVec Ideal S8192x1024 .bf16 := fun y => modulated (stream x w res gate) g sc sh (y 0) (y 1)

theorem stream_eq (c : Dev nD) : (dats m 0 c).arrAt 7 cfg0.N = stream (mixed m c) (weight m c) (input m c) (gate m c) := by
  refine (dats m 0 c).arrAt_eq_of_covers 7 _ (by decide +kernel) fun t _ y => ?_
  obtain ⟨i, k, rfl⟩ : ∃ i k, y = ix2 i k := ⟨y 0, y 1, eq_ix2 y⟩
  have p := (placed t).2.2.2.2.2.2.2.1
  have hi : t.val * 1024 + i.val < 8192 := by have := lt_of_lt_of_eq t.isLt N_0; omega
  have place : (ix2 ⟨t.val * 1024 + i.val, hi⟩ k : S8192x1024.Idx) = ((View.whole main_v0_0).slice (win0_7.rect t)).emb (ix2 i k) := by
    funext a
    match a with
    | 0 => exact Fin.ext (by blk_simp [p])
    | 1 => exact Fin.ext (by blk_simp [p])
  blk_simp
  rw [after0_7, ← place]
  frame_out
  exact (stream_at _ _ _ _ i k).trans (block_at m c t i ⟨_, hi⟩ rfl k)

theorem after_eq (c : Dev nD) : (dats m 0 c).arrAt 8 cfg0.N
    = after (mixed m c) (weight m c) (input m c) (gate m c) (gain m c) (scale m c) (shift m c) := by
  refine (dats m 0 c).arrAt_eq_of_covers 8 _ (by decide +kernel) fun t _ y => ?_
  obtain ⟨i, k, rfl⟩ : ∃ i k, y = ix2 i k := ⟨y 0, y 1, eq_ix2 y⟩
  have p := (placed t).2.2.2.2.2.2.2.2
  have hi : t.val * 1024 + i.val < 8192 := by have := lt_of_lt_of_eq t.isLt N_0; omega
  have place : (ix2 ⟨t.val * 1024 + i.val, hi⟩ k : S8192x1024.Idx) = ((View.whole main_v0_1).slice (win0_8.rect t)).emb (ix2 i k) := by
    funext a
    match a with
    | 0 => exact Fin.ext (by blk_simp [p])
    | 1 => exact Fin.ext (by blk_simp [p])
  blk_simp
  rw [after0_8, ← place]
  frame_out
  exact (normed_at _ _ _ _ _ _ _ i k).trans
    (modulated_congr (block_at m c t i ⟨_, hi⟩ rfl) (gain_eq m c t) (scale_eq m c t) (shift_eq m c t) k)

/-! ## The reference -/

namespace Ref

open Cert.OutProjRefIdeal (S_ S8192 S8192x1 S8192x1024 S1x1024 S1024x1024 dot_S8192x1024_S1024x1024_S8192x1024_1_0_0_1_n_n)
open Cert.OutProjRefIdeal.Facts₀

abbrev mean (x : FVec Ideal S8192x1024 .f32) : FVec Ideal S8192x1 .f32 :=
  Host.divf (broadcastInDim S8192x1 ![0] bcast_S8192_S8192x1_0 (Host.reduceAdd x (constant S_ .f32 0x00000000#32) reducesTo_S8192x1024_S8192_d1 h_S_))
    (broadcastInDim S8192x1 ![] bcast_S_S8192x1 (constant S_ .f32 0x44800000#32))
abbrev spread (g : FVec Ideal S1x1024 .f32) : FVec Ideal S8192x1024 .f32 := broadcastInDim S8192x1024 ![0, 1] bcast_S1x1024_S8192x1024_0_1 g
abbrev result (x : FVec Ideal S8192x1024 .f32) (g sc sh : FVec Ideal S1x1024 .f32) : FVec Ideal S8192x1024 .bf16 :=
  truncf .bf16 (addf (mulf (mulf (mulf x (broadcastInDim S8192x1024 ![0, 1] bcast_S8192x1_S8192x1024_0_1
      (Host.rsqrt (addf (mean (mulf x x)) (broadcastInDim S8192x1 ![] bcast_S_S8192x1 (constant S_ .f32 0x358637BD#32))))))
    (spread g)) (spread (addf (broadcastInDim S1x1024 ![] bcast_S_S1x1024 (constant S_ .f32 0x3F800000#32)) sc))) (spread sh)) Cert.OutProjRefIdeal.Facts₀.bitsLt_bf16_f32

variable (x : FVec Ideal S8192x1024 .bf16) (w : FVec Ideal S1024x1024 .bf16) (res : FVec Ideal S8192x1024 .f32) (gate g sc sh : FVec Ideal S1x1024 .f32)

abbrev added : FVec Ideal S8192x1024 .f32 :=
  addf res (mulf (spread gate) (Host.dotGeneral dot_S8192x1024_S1024x1024_S8192x1024_1_0_0_1_n_n none x w))

theorem stream_ref : added x w res gate = stream x w res gate := by
  funext y
  pointwise [stream]

theorem after_ref : result (added x w res gate) g sc sh = after x w res gate g sc sh := by
  rw [stream_ref]
  funext y
  pointwise [after, modulated, normed, rootInv, lit]

end Ref

end Cert.OutProjIdeal.Rows

end
-- ==== Proof.OutProjClaim.lean ====
/-
  The claims about the output projection, put together.
-/
module

public import proofs.«01_k».proof.Defs
public import proofs.«01_k».proof.Proof.OutProjValue
public import proofs.«01_k».proof.Proof.Gen.OutProj
public import Idealize.ShloMosaic.Adequacy
public import Idealize.ShloMosaic.Init

@[expose] public section

noncomputable section

namespace Cert.OutProjIdeal.Rows

open Cert.OutProjIdeal Cert.OutProjIdeal.Gen
open Idealize.ShloMosaic Idealize.ShloMosaic.TcCoe Idealize.SL.Sem

/-- The two programs have the same body table: the one kernel is the same function. -/
theorem bodies_eq : Cert.OutProj.defs₀ (F := Bits) = Cert.OutProjIdeal.defs₀ (F := Bits) := by
  unfold Cert.OutProj.defs₀ Cert.OutProjIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.OutProj.defs (F := Bits) = Cert.OutProjIdeal.defs (F := Bits) := congrArg (Pipeline.defs Cert.OutProjIdeal.pcfgs) bodies_eq

theorem frame_bits : Cert.quiescent_OutProj (hOutProj := Cert.OutProj.Gen.facts) := fun m ρ _ => by
  rw [table_eq]; exact frame (F := Bits) m ρ

theorem frame_ideal : Cert.quiescent_OutProjIdeal (hOutProjIdeal := Cert.OutProjIdeal.Gen.facts) := fun m ρ _ => frame m ρ

theorem frame_reference : Cert.quiescent_OutProjRefIdeal (hOutProjRefIdeal := Cert.OutProjRefIdeal.Gen.facts) := fun m ρ _ =>
  (θ_run Cert.OutProjRefIdeal.defs _ _).mono (fun r h => ⟨fun c => (h c).2.2, sem_eq_zero_of_no_sems (by decide) r.2⟩)
    (Cert.OutProjRefIdeal.Value.run m ρ)

theorem values : Cert.algebraic_OutProjIdeal_OutProjRefIdeal (hOutProjIdeal := Cert.OutProjIdeal.Gen.facts) (hOutProjRefIdeal := Cert.OutProjRefIdeal.Gen.facts) := fun m ρ m' ρ' _ h => by
  refine ⟨_, _, (θ_run Cert.OutProjIdeal.defs _ _).mono (fun r hr c => ?_) (Cert.OutProjIdeal.Value.run_blocks m ρ),
    Cert.OutProjRefIdeal.Value.run m' ρ'⟩
  obtain ⟨h0, h1, kept⟩ := hr c
  obtain ⟨a0, a1, a2, a3, a4, a5, a6⟩ := h c
  refine ⟨(h0.trans (stream_eq m c)).trans ?_, (h1.trans (after_eq m c)).trans ?_, kept⟩
  · rw [a0, a1, a2, a3]; exact (Ref.stream_ref _ _ _ _).symm
  · rw [a0, a1, a2, a3, a4, a5, a6]; exact (Ref.after_ref _ _ _ _ _ _ _).symm

end Cert.OutProjIdeal.Rows

end
-- ==== Proof.FfInValue.lean ====
/-
  What the first feed-forward product writes. A point of the grid takes one tile of the result: the product, and its squared
  positive part.
-/
module

public import proofs.«01_k».proof.Proof.AdamW
public import proofs.«01_k».proof.Proof.Gen.FfInIdeal.Value
public import proofs.«01_k».proof.Proof.Gen.FfInRefIdeal.Run
public import Idealize.ShloMosaic.Lib.Pipeline.ValueKit

@[expose] public section

set_option maxRecDepth 16384

noncomputable section

namespace Cert.FfInIdeal.Tile

open Cert.FfInIdeal Cert.FfInIdeal.Gen
open Idealize.ShloMosaic Idealize.ShloMosaic.TcCoe Idealize.SL.Sem
open Idealize.ShloMosaic.Pipeline (Dat)

/-- The product, at an index. -/
def product {r n : ℕ} (x : FVec Ideal ⟨2, ![r, 1024]⟩ .bf16) (w : FVec Ideal ⟨2, ![1024, n]⟩ .bf16) (i : Fin r) (j : Fin n) : EReal :=
  (∑ k : Fin 1024, x (ix2 i k) * w (ix2 k j) : EReal)

/-- The square of what is positive. -/
def bent (a : EReal) : EReal := max a 0 * max a 0

theorem product_at (x w : FVec Ideal S1024x1024 .bf16) (i j : Fin 1024) : k0_pay1 (F := Ideal) x w (ix2 i j) = product x w i j := by
  pointwise [k0_pay1, product]

theorem bent_at (x w : FVec Ideal S1024x1024 .bf16) (i j : Fin 1024) : k0_pay2 (F := Ideal) x w (ix2 i j) = bent (product x w i j) := by
  pointwise [k0_pay2, product_at, bent]

/-! ## The arrays the run leaves -/

variable (m : (ℓ : Loc nD τ sig) → Buf (Elt Ideal) ℓ)

/-- Where the blocks of a point lie. -/
theorem placed : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

abbrev input (c : Dev nD) : FVec Ideal S8192x1024 .bf16 := m ((c : Thread nD τ).loc main_arg0)
abbrev weight (c : Dev nD) : FVec Ideal S1024x4096 .bf16 := m ((c : Thread nD τ).loc main_arg1)

theorem block_at (c : Dev nD) (t : Fin cfg0.N) (i j : Fin 1024) (i' : Fin 8192) (j' : Fin 4096) (h : i'.val = t.val / 4 * 1024 + i.val)
    (h' : j'.val = t.val % 4 * 1024 + j.val) : product (r := 1024) (n := 1024) (iblk m c 0 t) (iblk m c 1 t) i j = product (input m c) (weight m c) i' j' := by
  obtain ⟨p0, p1, -⟩ := placed t
  refine Finset.sum_congr rfl fun k _ => ?_
  have e : (iblk m c 0 t : FVec Ideal S1024x1024 .bf16) (ix2 i k) = input m c (ix2 i' k) := by
    blk_ext [iblk, V, input, p0, h]
  have f : (iblk m c 1 t : FVec Ideal S1024x1024 .bf16) (ix2 k j) = weight m c (ix2 k j') := by
    blk_ext [iblk, V, weight, p1, h']
  rw [e, f]

def products (x : FVec Ideal S8192x1024 .bf16) (w : FVec Ideal S1024x4096 .bf16) : FVec Ideal S8192x4096 .f32 := fun y => product x w (y 0) (y 1)
def bents (x : FVec Ideal S8192x1024 .bf16) (w : FVec Ideal S1024x4096 .bf16) : FVec Ideal S8192x4096 .bf16 := fun y => bent (product x w (y 0) (y 1))

theorem products_eq (c : Dev nD) : (dats m 0 c).arrAt 2 cfg0.N = products (input m c) (weight m c) := by
  refine (dats m 0 c).arrAt_eq_of_covers 2 _ (by decide +kernel) fun t _ y => ?_
  obtain ⟨i, j, rfl⟩ : ∃ i j, y = ix2 i j := ⟨y 0, y 1, eq_ix2 y⟩
  have p := (placed t).2.2.1
  blk_simp
  rw [after0_2]
  frame_out
  refine (product_at _ _ i j).trans (block_at m c t i j _ _ ?_ ?_) <;> blk_simp [p]

theorem bents_eq (c : Dev nD) : (dats m 0 c).arrAt 3 cfg0.N = bents (input m c) (weight m c) := by
  refine (dats m 0 c).arrAt_eq_of_covers 3 _ (by decide +kernel) fun t _ y => ?_
  obtain ⟨i, j, rfl⟩ : ∃ i j, y = ix2 i j := ⟨y 0, y 1, eq_ix2 y⟩
  have p := (placed t).2.2.2
  blk_simp
  rw [after0_3]
  frame_out
  refine (bent_at _ _ i j).trans (congrArg bent (block_at m c t i j _ _ ?_ ?_)) <;> blk_simp [p]

/-! ## The reference -/

namespace Ref

open Cert.FfInRefIdeal (S_ S8192x1024 S1024x4096 S8192x4096 dot_S8192x1024_S1024x4096_S8192x4096_1_0_0_1_n_n)
open Cert.FfInRefIdeal.Facts₀

variable (x : FVec Ideal S8192x1024 .bf16) (w : FVec Ideal S1024x4096 .bf16)

abbrev whole : FVec Ideal S8192x4096 .f32 := Host.dotGeneral dot_S8192x1024_S1024x4096_S8192x4096_1_0_0_1_n_n none x w
abbrev positive : FVec Ideal S8192x4096 .f32 := maximumf (whole x w) (broadcastInDim S8192x4096 ![] bcast_S_S8192x4096 (constant S_ .f32 0x00000000#32))

theorem products_ref : whole x w = products x w := by
  funext y
  pointwise [products, product]

theorem bents_ref : truncf .bf16 (mulf (positive x w) (positive x w)) Cert.FfInRefIdeal.Facts₀.bitsLt_bf16_f32 = bents x w := by
  funext y
  pointwise [bents, bent, product]

end Ref

end Cert.FfInIdeal.Tile

end
-- ==== Proof.FfInClaim.lean ====
/-
  The claims about the first feed-forward product, put together.
-/
module

public import proofs.«01_k».proof.Defs
public import proofs.«01_k».proof.Proof.FfInValue
public import proofs.«01_k».proof.Proof.Gen.FfIn
public import Idealize.ShloMosaic.Adequacy
public import Idealize.ShloMosaic.Init

@[expose] public section

noncomputable section

namespace Cert.FfInIdeal.Tile

open Cert.FfInIdeal Cert.FfInIdeal.Gen
open Idealize.ShloMosaic Idealize.ShloMosaic.TcCoe Idealize.SL.Sem

/-- The two programs have the same body table: the one kernel is the same function. -/
theorem bodies_eq : Cert.FfIn.defs₀ (F := Bits) = Cert.FfInIdeal.defs₀ (F := Bits) := by
  unfold Cert.FfIn.defs₀ Cert.FfInIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.FfIn.defs (F := Bits) = Cert.FfInIdeal.defs (F := Bits) := congrArg (Pipeline.defs Cert.FfInIdeal.pcfgs) bodies_eq

theorem frame_bits : Cert.quiescent_FfIn (hFfIn := Cert.FfIn.Gen.facts) := fun m ρ _ => by
  rw [table_eq]; exact frame (F := Bits) m ρ

theorem frame_ideal : Cert.quiescent_FfInIdeal (hFfInIdeal := Cert.FfInIdeal.Gen.facts) := fun m ρ _ => frame m ρ

theorem frame_reference : Cert.quiescent_FfInRefIdeal (hFfInRefIdeal := Cert.FfInRefIdeal.Gen.facts) := fun m ρ _ =>
  (θ_run Cert.FfInRefIdeal.defs _ _).mono (fun r h => ⟨fun c => (h c).2.2, sem_eq_zero_of_no_sems (by decide) r.2⟩)
    (Cert.FfInRefIdeal.Value.run m ρ)

theorem values : Cert.algebraic_FfInIdeal_FfInRefIdeal (hFfInIdeal := Cert.FfInIdeal.Gen.facts) (hFfInRefIdeal := Cert.FfInRefIdeal.Gen.facts) := fun m ρ m' ρ' _ h => by
  refine ⟨_, _, (θ_run Cert.FfInIdeal.defs _ _).mono (fun r hr c => ?_) (Cert.FfInIdeal.Value.run_blocks m ρ),
    Cert.FfInRefIdeal.Value.run m' ρ'⟩
  obtain ⟨h0, h1, kept⟩ := hr c
  obtain ⟨a0, a1⟩ := h c
  refine ⟨(h0.trans (products_eq m c)).trans ?_, (h1.trans (bents_eq m c)).trans ?_, kept⟩
  · rw [a0, a1]; exact (Ref.products_ref _ _).symm
  · rw [a0, a1]; exact (Ref.bents_ref _ _).symm

end Cert.FfInIdeal.Tile

end
-- ==== Proof.Carried.lean ====
/-
  Products that are summed up over several points: at the last point of a run, what was carried and what is added make the
  whole sum. And the products of two tall matrices, column with column.
-/
module

public import proofs.«01_k».proof.Proof.AdamW
public import Idealize.ShloMosaic.Lib.Pipeline.ValueKit
public import Idealize.ShloMosaic.Lib.Pipeline.ReadBack

@[expose] public section

noncomputable section

namespace Cert.Carried

open Idealize.ShloMosaic

/-- What the last point of a run finds, with its own term, is the sum over the run. -/
theorem carried {N : ℕ} {ι : Type} (f : (n : ℕ) → n < N → ι → EReal) (J : ℕ) [NeZero J] (hJ : 1 < J) (term : Fin N → ι → EReal)
    (h0 : ∀ t : Fin N, t.val % J = 0 → ∀ i, f t.val t.isLt i = term t i)
    (hs : ∀ t : Fin N, ¬t.val % J = 0 → ¬t.val % J = J - 1 → ∀ i,
      f t.val t.isLt i = f (t.val - 1) (Nat.lt_of_le_of_lt (Nat.sub_le _ _) t.isLt) i + term t i)
    (t : Fin N) (ht : t.val % J = J - 1) (i : ι) :
    f (t.val - 1) (Nat.lt_of_le_of_lt (Nat.sub_le _ _) t.isLt) i + term t i
      = ∑ s : Fin J, term ⟨J * (t.val / J) + s.val, Pipeline.run_point_lt_of_flush t ht s⟩ i := by
  let g : (n : ℕ) → n < N → ι → EReal := fun n hn i =>
    if n % J = J - 1 then f (n - 1) (Nat.lt_of_le_of_lt (Nat.sub_le _ _) hn) i + term ⟨n, hn⟩ i else f n hn i
  have key := Pipeline.eq_sum_fin_of_reset_step_apply_of_flush g J (fun _ => 0) term
    (fun t h i => by
      show (if t.val % J = J - 1 then _ else _) = _
      rw [if_neg (by omega), h0 t h i, zero_add])
    (fun t h i => by
      have hp : ¬(t.val - 1) % J = J - 1 := by
        intro e
        apply h
        have d := Nat.div_add_mod (t.val - 1) J
        have pos : t.val ≠ 0 := fun z => h (by rw [z, Nat.zero_mod])
        have e2 : t.val = J * ((t.val - 1) / J + 1) := by rw [Nat.mul_add]; omega
        rw [e2, Nat.mul_mod_right]
      show (if t.val % J = J - 1 then _ else _) = (if (t.val - 1) % J = J - 1 then _ else _) + _
      rw [if_neg hp]
      by_cases hl : t.val % J = J - 1
      · rw [if_pos hl]
      · rw [if_neg hl, hs t h hl i])
    t ht i
  rw [zero_add] at key
  rw [← key]
  show _ = (if t.val % J = J - 1 then _ else _)
  rw [if_pos ht]

/-- A sum over runs of eight, of which only the last members count. -/
theorem sum_of_lasts {N A : ℕ} (hN : N = 8 * A) (g : Fin N → EReal) :
    (∑ t : Fin N, if t.val % 8 = 7 then g t else 0 : EReal) = (∑ q : Fin A, g ⟨8 * q.val + 7, by omega⟩ : EReal) := by
  subst hN
  rw [← Finset.sum_filter]
  refine Finset.sum_bij' (fun t _ => (⟨t.val / 8, by omega⟩ : Fin A)) (fun q _ => ⟨8 * q.val + 7, by omega⟩) (fun t _ => Finset.mem_univ _)
    (fun q _ => Finset.mem_filter.mpr ⟨Finset.mem_univ _, ?_⟩) (fun t ht => Fin.ext ?_) (fun q _ => Fin.ext ?_) (fun t ht => congrArg g (Fin.ext ?_))
  · show (8 * q.val + 7) % 8 = 7
    omega
  · have := (Finset.mem_filter.mp ht).2
    show 8 * (t.val / 8) + 7 = t.val
    omega
  · show (8 * q.val + 7) / 8 = q.val
    omega
  · have := (Finset.mem_filter.mp ht).2
    show t.val = 8 * (t.val / 8) + 7
    omega

/-- Of two tall matrices, the product of a column with a column. -/
def turned {r a b : ℕ} {φ ψ : FTy} (x : FVec Ideal ⟨2, ![r, a]⟩ φ) (y : FVec Ideal ⟨2, ![r, b]⟩ ψ) (i : Fin a) (j : Fin b) : EReal :=
  (∑ l : Fin r, x (ix2 l i) * y (ix2 l j) : EReal)

end Cert.Carried

end
-- ==== Proof.FfOutValue.lean ====
/-
  What the second feed-forward product writes. Four points in a row sum up the product of 1024 rows with the weight; the last
  of them gates it and adds it to the stream.
-/
module

public import proofs.«01_k».proof.Proof.Carried
public import proofs.«01_k».proof.Proof.Gen.FfOutIdeal.Value
public import proofs.«01_k».proof.Proof.Gen.FfOutRefIdeal.Run

@[expose] public section

set_option maxRecDepth 16384

noncomputable section

namespace Cert.FfOutIdeal.Tile

open Cert.FfOutIdeal Cert.FfOutIdeal.Gen Cert.Carried
open Idealize.ShloMosaic Idealize.ShloMosaic.TcCoe Idealize.SL.Sem
open Idealize.ShloMosaic.Pipeline (Dat)

/-- A row with a column. -/
def product {r k n : ℕ} (x : FVec Ideal ⟨2, ![r, k]⟩ .bf16) (w : FVec Ideal ⟨2, ![k, n]⟩ .bf16) (i : Fin r) (j : Fin n) : EReal :=
  (∑ l : Fin k, x (ix2 i l) * w (ix2 l j) : EReal)

theorem part_at (x w : FVec Ideal S1024x1024 .bf16) (i j : Fin 1024) : k0_pay1 (F := Ideal) x w (ix2 i j) = product x w i j := by
  pointwise [k0_pay1, product]

theorem first_at (x w : FVec Ideal S1024x1024 .bf16) (i j : Fin 1024) : k0_pay2 (F := Ideal) x w (ix2 i j) = product x w i j := by
  pointwise [k0_pay2, part_at]

theorem next_at (x w : FVec Ideal S1024x1024 .bf16) (a : FVec Ideal S1024x1024 .f32) (i j : Fin 1024) :
    k0_pay3 (F := Ideal) x w a (ix2 i j) = a (ix2 i j) + product x w i j := by
  pointwise [k0_pay3, part_at]

theorem last_at (x w : FVec Ideal S1024x1024 .bf16) (a res : FVec Ideal S1024x1024 .f32) (gate : FVec Ideal S1x1024 .f32) (i j : Fin 1024) :
    k0_pay4 (F := Ideal) x w a res gate (ix2 i j) = res (ix2 i j) + gate (ix2 0 j) * (a (ix2 i j) + product x w i j) := by
  pointwise [k0_pay4, part_at]

/-! ## The array the run leaves -/

variable (m : (ℓ : Loc nD τ sig) → Buf (Elt Ideal) ℓ)

/-- Where the blocks of a point lie. -/
theorem placed : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0] :=
  (by decide +kernel : ∀ t : Fin grid0.N, _)

abbrev hidden (c : Dev nD) : FVec Ideal S8192x4096 .bf16 := m ((c : Thread nD τ).loc main_arg0)
abbrev weight (c : Dev nD) : FVec Ideal S4096x1024 .bf16 := m ((c : Thread nD τ).loc main_arg1)
abbrev input (c : Dev nD) : FVec Ideal S8192x1024 .f32 := m ((c : Thread nD τ).loc main_arg2)
abbrev gate (c : Dev nD) : FVec Ideal S1x1024 .f32 := m ((c : Thread nD τ).loc main_arg3)

/-- What a point adds to its rows. -/
def part (c : Dev nD) (t : Fin cfg0.N) (y : S1024x1024.Idx) : EReal :=
  product (r := 1024) (k := 1024) (n := 1024) (iblk m c 0 t) (iblk m c 1 t) (y 0) (y 1)

theorem summed (c : Dev nD) (t : Fin cfg0.N) (ht : t.val % 4 = 3) (y : S1024x1024.Idx) :
    ((outsAt0 m c (t.val - 1) (Nat.lt_of_le_of_lt (Nat.sub_le _ _) t.isLt)).2 y + part m c t y : EReal)
      = (∑ s : Fin 4, part m c ⟨4 * (t.val / 4) + s.val, Pipeline.run_point_lt_of_flush t ht s⟩ y : EReal) := by
  refine carried (fun n h => (outsAt0 m c n h).2) 4 (by decide) (part m c) (fun t h y => ?_) (fun t h h' y => ?_) t ht y
  · obtain ⟨i, j, rfl⟩ : ∃ i j, y = ix2 i j := ⟨y 0, y 1, eq_ix2 y⟩
    rw [outsAt0_A m c t h (by omega) (by omega)]
    frame_out
    exact first_at _ _ i j
  · obtain ⟨i, j, rfl⟩ : ∃ i j, y = ix2 i j := ⟨y 0, y 1, eq_ix2 y⟩
    rw [outsAt0_B m c t h (by omega) (by omega)]
    frame_out
    simp only [read_unread_whole]
    exact next_at _ _ _ i j

/-- The stream, and the gated product added. -/
def stream (x : FVec Ideal S8192x4096 .bf16) (w : FVec Ideal S4096x1024 .bf16) (res : FVec Ideal S8192x1024 .f32) (gate : FVec Ideal S1x1024 .f32) :
    FVec Ideal S8192x1024 .f32 := fun y => res y + gate (ix2 0 (y 1)) * product x w (y 0) (y 1)

theorem stream_eq (c : Dev nD) : (dats m 0 c).arrAt 4 cfg0.N = stream (hidden m c) (weight m c) (input m c) (gate m c) := by
  refine (dats m 0 c).arrAt_eq_of_covers 4 _ (by decide +kernel) fun t hf y => ?_
  obtain ⟨i, j, rfl⟩ : ∃ i j, y = ix2 i j := ⟨y 0, y 1, eq_ix2 y⟩
  have ht := (flush0_4 t).mp hf
  obtain ⟨-, -, p2, p3, p4⟩ := placed t
  have hi : t.val / 4 * 1024 + i.val < 8192 := by have := lt_of_lt_of_eq t.isLt N_0; omega
  have place : (ix2 ⟨t.val / 4 * 1024 + i.val, hi⟩ j : S8192x1024.Idx) = ((View.whole main_v0).slice (win0_4.rect t)).emb (ix2 i j) := by
    funext a
    match a with
    | 0 => exact Fin.ext (by blk_simp [p4])
    | 1 => exact Fin.ext (by blk_simp [p4])
  have total : (∑ s : Fin 4, part m c ⟨4 * (t.val / 4) + s.val, Pipeline.run_point_lt_of_flush t ht s⟩ (ix2 i j) : EReal)
      = product (hidden m c) (weight m c) ⟨t.val / 4 * 1024 + i.val, hi⟩ j := by
    refine Fin.sum_mul_add_congr fun s l hl => ?_
    have hs : (4 * (t.val / 4) + s.val) % 4 = s.val := by omega
    have hd : (4 * (t.val / 4) + s.val) / 4 = t.val / 4 := by omega
    obtain ⟨p0, p1, -⟩ := placed ⟨4 * (t.val / 4) + s.val, Pipeline.run_point_lt_of_flush t ht s⟩
    have e : (iblk m c 0 ⟨4 * (t.val / 4) + s.val, Pipeline.run_point_lt_of_flush t ht s⟩ : FVec Ideal S1024x1024 .bf16) (ix2 i l)
        = hidden m c (ix2 ⟨t.val / 4 * 1024 + i.val, hi⟩ ⟨s.val * 1024 + l.val, hl⟩) := by
      blk_ext [iblk, V, hidden, p0, hs, hd]
    have f : (iblk m c 1 ⟨4 * (t.val / 4) + s.val, Pipeline.run_point_lt_of_flush t ht s⟩ : FVec Ideal S1024x1024 .bf16) (ix2 l j)
        = weight m c (ix2 ⟨s.val * 1024 + l.val, hl⟩ j) := by
      blk_ext [iblk, V, weight, p1, hs]
    exact congrArg₂ (fun u v : EReal => u * v) e f
  have er : (iblk m c 2 t : FVec Ideal S1024x1024 .f32) (ix2 i j) = input m c (ix2 ⟨t.val / 4 * 1024 + i.val, hi⟩ j) := by
    blk_ext [iblk, V, input, p2]
  have eg : (iblk m c 3 t : FVec Ideal S1x1024 .f32) (ix2 0 j) = gate m c (ix2 0 j) := by
    blk_ext [iblk, V, gate, p3]
  blk_simp
  rw [after0_4, ← place, outsAt0_C m c t (by omega) (by omega) ht]
  frame_out
  simp only [read_unread_whole]
  refine (last_at _ _ _ _ _ i j).trans ?_
  exact congrArg₂ (fun u v : EReal => u + v) er (congrArg₂ (fun u v : EReal => u * v) eg ((summed m c t ht (ix2 i j)).trans total))

/-! ## The reference -/

namespace Ref

open Cert.FfOutRefIdeal (S8192x4096 S4096x1024 S8192x1024 S1x1024 dot_S8192x4096_S4096x1024_S8192x1024_1_0_0_1_n_n)
open Cert.FfOutRefIdeal.Facts₀

variable (x : FVec Ideal S8192x4096 .bf16) (w : FVec Ideal S4096x1024 .bf16) (res : FVec Ideal S8192x1024 .f32) (gate : FVec Ideal S1x1024 .f32)

theorem stream_ref : addf res (mulf (broadcastInDim S8192x1024 ![0, 1] bcast_S1x1024_S8192x1024_0_1 gate)
    (Host.dotGeneral dot_S8192x4096_S4096x1024_S8192x1024_1_0_0_1_n_n none x w)) = stream x w res gate := by
  funext y
  pointwise [stream, product]

end Ref

end Cert.FfOutIdeal.Tile

end
-- ==== Proof.FfOutClaim.lean ====
/-
  The claims about the second feed-forward product, put together.
-/
module

public import proofs.«01_k».proof.Defs
public import proofs.«01_k».proof.Proof.FfOutValue
public import proofs.«01_k».proof.Proof.Gen.FfOut
public import Idealize.ShloMosaic.Adequacy
public import Idealize.ShloMosaic.Init

@[expose] public section

noncomputable section

namespace Cert.FfOutIdeal.Tile

open Cert.FfOutIdeal Cert.FfOutIdeal.Gen
open Idealize.ShloMosaic Idealize.ShloMosaic.TcCoe Idealize.SL.Sem

/-- The two programs have the same body table: the one kernel is the same function. -/
theorem bodies_eq : Cert.FfOut.defs₀ (F := Bits) = Cert.FfOutIdeal.defs₀ (F := Bits) := by
  unfold Cert.FfOut.defs₀ Cert.FfOutIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.FfOut.defs (F := Bits) = Cert.FfOutIdeal.defs (F := Bits) := congrArg (Pipeline.defs Cert.FfOutIdeal.pcfgs) bodies_eq

theorem frame_bits : Cert.quiescent_FfOut (hFfOut := Cert.FfOut.Gen.facts) := fun m ρ _ => by
  rw [table_eq]; exact frame (F := Bits) m ρ

theorem frame_ideal : Cert.quiescent_FfOutIdeal (hFfOutIdeal := Cert.FfOutIdeal.Gen.facts) := fun m ρ _ => frame m ρ

theorem frame_reference : Cert.quiescent_FfOutRefIdeal (hFfOutRefIdeal := Cert.FfOutRefIdeal.Gen.facts) := fun m ρ _ =>
  (θ_run Cert.FfOutRefIdeal.defs _ _).mono (fun r h => ⟨fun c => (h c).2, sem_eq_zero_of_no_sems (by decide) r.2⟩)
    (Cert.FfOutRefIdeal.Value.run m ρ)

theorem values : Cert.algebraic_FfOutIdeal_FfOutRefIdeal (hFfOutIdeal := Cert.FfOutIdeal.Gen.facts) (hFfOutRefIdeal := Cert.FfOutRefIdeal.Gen.facts) := fun m ρ m' ρ' _ h => by
  refine ⟨_, (θ_run Cert.FfOutIdeal.defs _ _).mono (fun r hr c => ?_) (Cert.FfOutIdeal.Value.run_blocks m ρ),
    Cert.FfOutRefIdeal.Value.run m' ρ'⟩
  obtain ⟨h0, kept⟩ := hr c
  obtain ⟨a0, a1, a2, a3⟩ := h c
  refine ⟨(h0.trans (stream_eq m c)).trans ?_, kept⟩
  · rw [a0, a1, a2, a3]; exact (Ref.stream_ref _ _ _ _).symm

end Cert.FfOutIdeal.Tile

end
-- ==== Proof.FfInDwValue.lean ====
/-
  The gradient of the first feed-forward weight: the product of the normed stream, turned, with the gradient behind the
  weight. Eight points in a row sum one tile up.
-/
module

public import proofs.«01_k».proof.Proof.Carried
public import proofs.«01_k».proof.Proof.Gen.FfInDwIdeal.Value
public import proofs.«01_k».proof.Proof.Gen.FfInDwRefIdeal.Run

@[expose] public section

set_option maxRecDepth 16384

noncomputable section

namespace Cert.FfInDwIdeal.Tile

open Cert.FfInDwIdeal Cert.FfInDwIdeal.Gen Cert.Carried
open Idealize.ShloMosaic Idealize.ShloMosaic.TcCoe Idealize.SL.Sem
open Idealize.ShloMosaic.Pipeline (Dat)

theorem part_at (x y : FVec Ideal S1024x1024 .bf16) (i j : Fin 1024) : k0_pay1 (F := Ideal) x y (ix2 i j) = turned x y i j := by
  pointwise [k0_pay1, turned]

theorem first_at (x y : FVec Ideal S1024x1024 .bf16) (i j : Fin 1024) : k0_pay2 (F := Ideal) x y (ix2 i j) = turned x y i j := by
  pointwise [k0_pay2, part_at]

theorem next_at (x y : FVec Ideal S1024x1024 .bf16) (a : FVec Ideal S1024x1024 .f32) (i j : Fin 1024) :
    k0_pay3 (F := Ideal) x y a (ix2 i j) = a (ix2 i j) + turned x y i j := by
  pointwise [k0_pay3, part_at]

theorem last_at (x y : FVec Ideal S1024x1024 .bf16) (a : FVec Ideal S1024x1024 .f32) (i j : Fin 1024) :
    k0_pay4 (F := Ideal) x y a (ix2 i j) = a (ix2 i j) + turned x y i j := by
  pointwise [k0_pay4, part_at]

/-! ## The array the run leaves -/

variable (m : (ℓ : Loc nD τ sig) → Buf (Elt Ideal) ℓ)

/-- Where the blocks of a point lie. -/
theorem placed : ∀ t : Fin cfg0.N, win0_0.index t = ![t.val % 8, 0] ∧ win0_1.index t = ![t.val % 8, t.val / 8]
    ∧ win0_2.index t = ![0, t.val / 8] :=
  (by decide +kernel : ∀ t : Fin grid0.N, _)

abbrev input (c : Dev nD) : FVec Ideal S8192x1024 .bf16 := m ((c : Thread nD τ).loc main_arg0)
abbrev behind (c : Dev nD) : FVec Ideal S8192x4096 .bf16 := m ((c : Thread nD τ).loc main_arg1)

/-- What a point adds to its tile. -/
def part (c : Dev nD) (t : Fin cfg0.N) (y : S1024x1024.Idx) : EReal :=
  turned (a := 1024) (b := 1024) (r := 1024) (φ := .bf16) (ψ := .bf16) (iblk m c 0 t) (iblk m c 1 t) (y 0) (y 1)

theorem summed (c : Dev nD) (t : Fin cfg0.N) (ht : t.val % 8 = 7) (y : S1024x1024.Idx) :
    (outsAt0 m c t.val t.isLt).1 y = (∑ s : Fin 8, part m c ⟨8 * (t.val / 8) + s.val, Pipeline.run_point_lt_of_flush t ht s⟩ y : EReal) := by
  refine Eq.trans ?_ (carried (fun n h => (outsAt0 m c n h).2) 8 (by decide) (part m c) (fun t h y => ?_) (fun t h h' y => ?_) t ht y)
  · obtain ⟨i, j, rfl⟩ : ∃ i j, y = ix2 i j := ⟨y 0, y 1, eq_ix2 y⟩
    rw [outsAt0_C m c t (by omega) (by omega) ht]
    frame_out
    simp only [read_unread_whole]
    exact last_at _ _ _ i j
  · obtain ⟨i, j, rfl⟩ : ∃ i j, y = ix2 i j := ⟨y 0, y 1, eq_ix2 y⟩
    rw [outsAt0_A m c t h (by omega) (by omega)]
    frame_out
    exact first_at _ _ i j
  · obtain ⟨i, j, rfl⟩ : ∃ i j, y = ix2 i j := ⟨y 0, y 1, eq_ix2 y⟩
    rw [outsAt0_B m c t h (by omega) (by omega)]
    frame_out
    simp only [read_unread_whole]
    exact next_at _ _ _ i j

def grads (x : FVec Ideal S8192x1024 .bf16) (g : FVec Ideal S8192x4096 .bf16) : FVec Ideal S1024x4096 .bf16 := fun y => turned x g (y 0) (y 1)

theorem grads_eq (c : Dev nD) : (dats m 0 c).arrAt 2 cfg0.N = grads (input m c) (behind m c) := by
  refine (dats m 0 c).arrAt_eq_of_covers 2 _ (by decide +kernel) fun t hf y => ?_
  obtain ⟨i, j, rfl⟩ : ∃ i j, y = ix2 i j := ⟨y 0, y 1, eq_ix2 y⟩
  have ht := (flush0_2 t).mp hf
  have p := (placed t).2.2
  have hj : t.val / 8 * 1024 + j.val < 4096 := by have := lt_of_lt_of_eq t.isLt N_0; omega
  have place : (ix2 i ⟨t.val / 8 * 1024 + j.val, hj⟩ : S1024x4096.Idx) = ((View.whole main_v0).slice (win0_2.rect t)).emb (ix2 i j) := by
    funext a
    match a with
    | 0 => exact Fin.ext (by blk_simp [p])
    | 1 => exact Fin.ext (by blk_simp [p])
  blk_simp
  rw [after0_2, ← place]
  refine (summed m c t ht (ix2 i j)).trans ?_
  refine Fin.sum_mul_add_congr fun s l hl => ?_
  have hs : (8 * (t.val / 8) + s.val) % 8 = s.val := by omega
  have hd : (8 * (t.val / 8) + s.val) / 8 = t.val / 8 := by omega
  obtain ⟨p0, p1, -⟩ := placed ⟨8 * (t.val / 8) + s.val, Pipeline.run_point_lt_of_flush t ht s⟩
  have e : (iblk m c 0 ⟨8 * (t.val / 8) + s.val, Pipeline.run_point_lt_of_flush t ht s⟩ : FVec Ideal S1024x1024 .bf16) (ix2 l i)
      = input m c (ix2 ⟨s.val * 1024 + l.val, hl⟩ i) := by
    blk_ext [iblk, V, input, p0, hs]
  have f : (iblk m c 1 ⟨8 * (t.val / 8) + s.val, Pipeline.run_point_lt_of_flush t ht s⟩ : FVec Ideal S1024x1024 .bf16) (ix2 l j)
      = behind m c (ix2 ⟨s.val * 1024 + l.val, hl⟩ ⟨t.val / 8 * 1024 + j.val, hj⟩) := by
    blk_ext [iblk, V, behind, p1, hs, hd]
  exact congrArg₂ (fun u v : EReal => u * v) e f

/-! ## The reference -/

namespace Ref

open Cert.FfInDwRefIdeal (S8192x1024 S8192x4096 S1024x8192 S1024x4096 dot_S1024x8192_S8192x4096_S1024x4096_1_0_0_1_n_n)
open Cert.FfInDwRefIdeal.Facts₀

variable (x : FVec Ideal S8192x1024 .bf16) (g : FVec Ideal S8192x4096 .bf16)

theorem grads_ref : truncf .bf16 (Host.dotGeneral (F := Ideal) (φ₁ := .bf16) (φ₂ := .bf16) dot_S1024x8192_S8192x4096_S1024x4096_1_0_0_1_n_n none
    (transpose S1024x8192 [1, 0] x transposes_S8192x1024_S1024x8192_1_0) g) Cert.FfInDwRefIdeal.Facts₀.bitsLt_bf16_f32 = grads x g := by
  funext y
  pointwise [grads, turned]

end Ref

end Cert.FfInDwIdeal.Tile

end
-- ==== Proof.FfInDwClaim.lean ====
/-
  The claims about the first feed-forward weight's gradient, put together.
-/
module

public import proofs.«01_k».proof.Defs
public import proofs.«01_k».proof.Proof.FfInDwValue
public import proofs.«01_k».proof.Proof.Gen.FfInDw
public import Idealize.ShloMosaic.Adequacy
public import Idealize.ShloMosaic.Init

@[expose] public section

noncomputable section

namespace Cert.FfInDwIdeal.Tile

open Cert.FfInDwIdeal Cert.FfInDwIdeal.Gen
open Idealize.ShloMosaic Idealize.ShloMosaic.TcCoe Idealize.SL.Sem

/-- The two programs have the same body table: the one kernel is the same function. -/
theorem bodies_eq : Cert.FfInDw.defs₀ (F := Bits) = Cert.FfInDwIdeal.defs₀ (F := Bits) := by
  unfold Cert.FfInDw.defs₀ Cert.FfInDwIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.FfInDw.defs (F := Bits) = Cert.FfInDwIdeal.defs (F := Bits) := congrArg (Pipeline.defs Cert.FfInDwIdeal.pcfgs) bodies_eq

theorem frame_bits : Cert.quiescent_FfInDw (hFfInDw := Cert.FfInDw.Gen.facts) := fun m ρ _ => by
  rw [table_eq]; exact frame (F := Bits) m ρ

theorem frame_ideal : Cert.quiescent_FfInDwIdeal (hFfInDwIdeal := Cert.FfInDwIdeal.Gen.facts) := fun m ρ _ => frame m ρ

theorem frame_reference : Cert.quiescent_FfInDwRefIdeal (hFfInDwRefIdeal := Cert.FfInDwRefIdeal.Gen.facts) := fun m ρ _ =>
  (θ_run Cert.FfInDwRefIdeal.defs _ _).mono (fun r h => ⟨fun c => (h c).2, sem_eq_zero_of_no_sems (by decide) r.2⟩)
    (Cert.FfInDwRefIdeal.Value.run m ρ)

theorem values : Cert.algebraic_FfInDwIdeal_FfInDwRefIdeal (hFfInDwIdeal := Cert.FfInDwIdeal.Gen.facts) (hFfInDwRefIdeal := Cert.FfInDwRefIdeal.Gen.facts) := fun m ρ m' ρ' _ h => by
  refine ⟨_, (θ_run Cert.FfInDwIdeal.defs _ _).mono (fun r hr c => ?_) (Cert.FfInDwIdeal.Value.run_blocks m ρ),
    Cert.FfInDwRefIdeal.Value.run m' ρ'⟩
  obtain ⟨h0, kept⟩ := hr c
  obtain ⟨a0, a1⟩ := h c
  refine ⟨(h0.trans (grads_eq m c)).trans ?_, kept⟩
  · rw [a0, a1]; exact (Ref.grads_ref _ _).symm

end Cert.FfInDwIdeal.Tile

end
-- ==== Proof.OutDwValue.lean ====
/-
  The gradients of the output weight and of its gate. The eight points sum up the product of the mixed rows, turned, with
  the gradient behind; the last of them gates it for the weight's gradient, and sums its columns, weighted, for the gate's.
-/
module

public import proofs.«01_k».proof.Proof.Carried
public import proofs.«01_k».proof.Proof.Gen.OutDwIdeal.Value
public import proofs.«01_k».proof.Proof.Gen.OutDwRefIdeal.Run

@[expose] public section

set_option maxRecDepth 16384

noncomputable section

namespace Cert.OutDwIdeal.Tile

open Cert.OutDwIdeal Cert.OutDwIdeal.Gen Cert.Carried
open Idealize.ShloMosaic Idealize.ShloMosaic.TcCoe Idealize.SL.Sem
open Idealize.ShloMosaic.Pipeline (Dat)

theorem part_at (x : FVec Ideal S1024x1024 .bf16) (y : FVec Ideal S1024x1024 .f32) (i j : Fin 1024) : k0_pay1 (F := Ideal) x y (ix2 i j) = turned x y i j := by
  pointwise [k0_pay1, turned]

theorem first_at (x : FVec Ideal S1024x1024 .bf16) (y : FVec Ideal S1024x1024 .f32) (i j : Fin 1024) : k0_pay2 (F := Ideal) x y (ix2 i j) = turned x y i j := by
  pointwise [k0_pay2, part_at]

theorem next_at (x : FVec Ideal S1024x1024 .bf16) (y a : FVec Ideal S1024x1024 .f32) (i j : Fin 1024) :
    k0_pay3 (F := Ideal) x y a (ix2 i j) = a (ix2 i j) + turned x y i j := by
  pointwise [k0_pay3, part_at]

theorem tile_at (x : FVec Ideal S1024x1024 .bf16) (y a : FVec Ideal S1024x1024 .f32) (i j : Fin 1024) :
    k0_pay5 (F := Ideal) x y a (ix2 i j) = a (ix2 i j) + turned x y i j := by
  pointwise [k0_pay5, part_at]

theorem gated_at (x : FVec Ideal S1024x1024 .bf16) (y a : FVec Ideal S1024x1024 .f32) (gate : FVec Ideal S1x1024 .f32) (i j : Fin 1024) :
    k0_pay6 (F := Ideal) x y a gate (ix2 i j) = (a (ix2 i j) + turned x y i j) * gate (ix2 0 j) := by
  pointwise [k0_pay6, tile_at]

theorem zero_at (z : S1x1024.Idx) : k0_pay4 (F := Ideal) z = (0 : EReal) := by
  pointwise [k0_pay4]

theorem gate_at (x : FVec Ideal S1024x1024 .bf16) (y a : FVec Ideal S1024x1024 .f32) (p : FVec Ideal S1x1024 .f32) (w : FVec Ideal S1024x1024 .bf16)
    (z : S1x1024.Idx) : k0_pay7 (F := Ideal) x y a p w z
      = p z + (∑ i : Fin 1024, (a (ix2 i (z 1)) + turned x y i (z 1)) * w (ix2 i (z 1)) : EReal) := by
  pointwise [k0_pay7, tile_at]

/-! ## The arrays the run leaves -/

variable (m : (ℓ : Loc nD τ sig) → Buf (Elt Ideal) ℓ)

/-- Where the blocks of a point lie. -/
theorem placed : ∀ t : Fin cfg0.N, win0_0.index t = ![t.val % 8, t.val / 8] ∧ win0_1.index t = ![t.val % 8, 0] ∧ win0_2.index t = ![0, 0]
    ∧ win0_3.index t = ![0, 0] ∧ win0_4.index t = ![t.val / 8, 0] ∧ win0_5.index t = ![0, 0] :=
  (by decide +kernel : ∀ t : Fin grid0.N, _)

abbrev mixed (c : Dev nD) : FVec Ideal S8192x1024 .bf16 := m ((c : Thread nD τ).loc main_arg0)
abbrev behind (c : Dev nD) : FVec Ideal S8192x1024 .f32 := m ((c : Thread nD τ).loc main_arg1)
abbrev gate (c : Dev nD) : FVec Ideal S1x1024 .f32 := m ((c : Thread nD τ).loc main_arg2)
abbrev weight (c : Dev nD) : FVec Ideal S1024x1024 .bf16 := m ((c : Thread nD τ).loc main_arg3)

/-- What a point adds to its tile. -/
def part (c : Dev nD) (t : Fin cfg0.N) (y : S1024x1024.Idx) : EReal :=
  turned (r := 1024) (a := 1024) (b := 1024) (φ := .bf16) (ψ := .f32) (iblk m c 0 t) (iblk m c 1 t) (y 0) (y 1)

/-- What the last point of a run has of its tile. -/
def tile (c : Dev nD) (t : Fin cfg0.N) (y : S1024x1024.Idx) : EReal :=
  ((outsAt0 m c (t.val - 1) (Nat.lt_of_le_of_lt (Nat.sub_le _ _) t.isLt)).2.2 y + part m c t y : EReal)

theorem tile_eq (c : Dev nD) (t : Fin cfg0.N) (ht : t.val % 8 = 7) (i j : Fin 1024) (i' : Fin 1024) (h : i'.val = t.val / 8 * 1024 + i.val) :
    tile m c t (ix2 i j) = turned (mixed m c) (behind m c) i' j := by
  refine (carried (fun n h => (outsAt0 m c n h).2.2) 8 (by decide) (part m c) (fun t h y => ?_) (fun t h h' y => ?_) t ht (ix2 i j)).trans ?_
  · obtain ⟨i, j, rfl⟩ : ∃ i j, y = ix2 i j := ⟨y 0, y 1, eq_ix2 y⟩
    rw [outsAt0_A m c t h (by omega) h (by omega)]
    frame_out
    exact first_at _ _ i j
  · obtain ⟨i, j, rfl⟩ : ∃ i j, y = ix2 i j := ⟨y 0, y 1, eq_ix2 y⟩
    rw [outsAt0_B m c t h (by omega) (by omega) (by omega)]
    frame_out
    simp only [read_unread_whole]
    exact next_at _ _ _ i j
  refine Fin.sum_mul_add_congr fun s l hl => ?_
  have hs : (8 * (t.val / 8) + s.val) % 8 = s.val := by omega
  have hd : (8 * (t.val / 8) + s.val) / 8 = t.val / 8 := by omega
  obtain ⟨p0, p1, -⟩ := placed ⟨8 * (t.val / 8) + s.val, Pipeline.run_point_lt_of_flush t ht s⟩
  have e : (iblk m c 0 ⟨8 * (t.val / 8) + s.val, Pipeline.run_point_lt_of_flush t ht s⟩ : FVec Ideal S1024x1024 .bf16) (ix2 l i)
      = mixed m c (ix2 ⟨s.val * 1024 + l.val, hl⟩ i') := by
    blk_ext [iblk, V, mixed, p0, hs, hd, h]
  have f : (iblk m c 1 ⟨8 * (t.val / 8) + s.val, Pipeline.run_point_lt_of_flush t ht s⟩ : FVec Ideal S1024x1024 .f32) (ix2 l j)
      = behind m c (ix2 ⟨s.val * 1024 + l.val, hl⟩ j) := by
    blk_ext [iblk, V, behind, p1, hs]
  exact congrArg₂ (fun u v : EReal => u * v) e f

def grads (x : FVec Ideal S8192x1024 .bf16) (y : FVec Ideal S8192x1024 .f32) (g : FVec Ideal S1x1024 .f32) : FVec Ideal S1024x1024 .bf16 :=
  fun z => turned x y (z 0) (z 1) * g (ix2 0 (z 1))

def gates (x : FVec Ideal S8192x1024 .bf16) (y : FVec Ideal S8192x1024 .f32) (w : FVec Ideal S1024x1024 .bf16) : FVec Ideal S1x1024 .f32 :=
  fun z => (∑ i : Fin 1024, turned x y i (z 1) * w (ix2 i (z 1)) : EReal)

theorem grads_eq (c : Dev nD) : (dats m 0 c).arrAt 4 cfg0.N = grads (mixed m c) (behind m c) (gate m c) := by
  refine (dats m 0 c).arrAt_eq_of_covers 4 _ (by decide +kernel) fun t hf y => ?_
  obtain ⟨i, j, rfl⟩ : ∃ i j, y = ix2 i j := ⟨y 0, y 1, eq_ix2 y⟩
  have ht := (flush0_4 t).mp hf
  obtain ⟨-, -, p2, -, p4, -⟩ := placed t
  have hi : t.val / 8 * 1024 + i.val < 1024 := by have := lt_of_lt_of_eq t.isLt N_0; omega
  have place : (ix2 ⟨t.val / 8 * 1024 + i.val, hi⟩ j : S1024x1024.Idx) = ((View.whole main_v0_0).slice (win0_4.rect t)).emb (ix2 i j) := by
    funext a
    match a with
    | 0 => exact Fin.ext (by blk_simp [p4])
    | 1 => exact Fin.ext (by blk_simp [p4])
  have eg : (iblk m c 2 t : FVec Ideal S1x1024 .f32) (ix2 0 j) = gate m c (ix2 0 j) := by
    blk_ext [iblk, V, gate, p2]
  blk_simp
  rw [after0_4, ← place, outsAt0_C m c t (by omega) (by omega) (by omega) ht]
  frame_out
  simp only [read_unread_whole]
  refine (gated_at _ _ _ _ i j).trans ?_
  exact congrArg₂ (fun u v : EReal => u * v) (tile_eq m c t ht i j _ rfl) eg

/-- What the last point of a run adds to the gate's gradient. -/
def column (c : Dev nD) (t : Fin cfg0.N) (z : S1x1024.Idx) : EReal :=
  (∑ i : Fin 1024, tile m c t (ix2 i (z 1)) * (iblk m c 3 t : FVec Ideal S1024x1024 .bf16) (ix2 i (z 1)) : EReal)

theorem weight_at (c : Dev nD) (t : Fin cfg0.N) (k j k' : Fin 1024) (h : k'.val = k.val) :
    (iblk m c 3 t : FVec Ideal S1024x1024 .bf16) (ix2 k j) = weight m c (ix2 k' j) := by
  blk_ext [iblk, V, weight, (placed t).2.2.2.1, h]

theorem gates_eq (c : Dev nD) : (dats m 0 c).arrAt 5 cfg0.N = gates (mixed m c) (behind m c) (weight m c) := by
  refine (dats m 0 c).arrAt_eq_of_covers 5 _ (by decide +kernel) fun t hf z => ?_
  obtain ⟨i, j, rfl⟩ : ∃ i j, z = ix2 i j := ⟨z 0, z 1, eq_ix2 z⟩
  have ht := (flush0_5 t).mp hf
  have hN : cfg0.N = 8 := N_0
  have p5 := (placed t).2.2.2.2.2
  have place : (ix2 i j : S1x1024.Idx) = ((View.whole main_v0_1).slice (win0_5.rect t)).emb (ix2 i j) := by
    funext a
    match a with
    | 0 => exact Fin.ext (by blk_simp [p5])
    | 1 => exact Fin.ext (by blk_simp [p5])
  blk_simp
  rw [after0_5, ← place, Pipeline.eq_sum_fin_of_reset_step_apply_last (fun n h => (outsAt0 m c n h).2.1) 8 (fun _ => 0)
    (fun t z => if t.val % 8 = 7 then column m c t z else 0)
    (fun t h z => by
      rw [if_neg (by omega), outsAt0_A m c t (by omega) (by omega) h (by omega)]
      frame_out
      rw [zero_at, add_zero])
    (fun t h z => by
      by_cases h7 : t.val % 8 = 7
      · rw [if_pos h7, outsAt0_C m c t (by omega) (by omega) h h7]
        frame_out
        simp only [read_unread_whole]
        exact gate_at _ _ _ _ _ z
      · rw [if_neg h7, add_zero]
        rw [outsAt0_B m c t h (by omega) h h7]
        rfl)
    (le_of_eq N_0) t (by have := t.isLt; omega) (ix2 i j), zero_add, sum_of_lasts (A := 1) hN (fun t => column m c t (ix2 i j))]
  refine Fin.sum_mul_add_congr fun q k hk => ?_
  have hd : (8 * q.val + 7) / 8 = q.val := by omega
  have hq : 8 * q.val + 7 < cfg0.N := by omega
  exact congrArg₂ (fun u v : EReal => u * v) (tile_eq m c ⟨8 * q.val + 7, hq⟩ (by show (8 * q.val + 7) % 8 = 7; omega) k j
    ⟨q.val * 1024 + k.val, hk⟩ (by show q.val * 1024 + k.val = (8 * q.val + 7) / 8 * 1024 + k.val; rw [hd]))
    (weight_at m c ⟨8 * q.val + 7, hq⟩ k j ⟨q.val * 1024 + k.val, hk⟩ (by show q.val * 1024 + k.val = k.val; omega))

/-! ## The reference -/

namespace Ref

open Cert.OutDwRefIdeal (S_ S8192x1024 S1024x8192 S1024x1024 S1x1024 S1024 dot_S1024x8192_S8192x1024_S1024x1024_1_0_0_1_n_n)
open Cert.OutDwRefIdeal.Facts₀

variable (x : FVec Ideal S8192x1024 .bf16) (y : FVec Ideal S8192x1024 .f32) (g : FVec Ideal S1x1024 .f32) (w : FVec Ideal S1024x1024 .bf16)

abbrev product : FVec Ideal S1024x1024 .f32 :=
  Host.dotGeneral dot_S1024x8192_S8192x1024_S1024x1024_1_0_0_1_n_n none (transpose S1024x8192 [1, 0] x transposes_S8192x1024_S1024x8192_1_0) y

theorem grads_ref : truncf .bf16 (mulf (product x y) (broadcastInDim S1024x1024 ![0, 1] bcast_S1x1024_S1024x1024_0_1 g))
    Cert.OutDwRefIdeal.Facts₀.bitsLt_bf16_f32 = grads x y g := by
  funext z
  pointwise [grads, turned]

theorem gates_ref : broadcastInDim S1x1024 ![1] bcast_S1024_S1x1024_1 (Host.reduceAdd (mulf (product x y)
    (extf .f32 w Cert.OutDwRefIdeal.Facts₀.bitsLt_bf16_f32)) (constant S_ .f32 0x00000000#32) reducesTo_S1024x1024_S1024_d0 h_S_) = gates x y w := by
  funext z
  pointwise [gates, turned]

end Ref

end Cert.OutDwIdeal.Tile

end
-- ==== Proof.OutDwClaim.lean ====
/-
  The claims about the output weight's gradient, put together.
-/
module

public import proofs.«01_k».proof.Defs
public import proofs.«01_k».proof.Proof.OutDwValue
public import proofs.«01_k».proof.Proof.Gen.OutDw
public import Idealize.ShloMosaic.Adequacy
public import Idealize.ShloMosaic.Init

@[expose] public section

noncomputable section

namespace Cert.OutDwIdeal.Tile

open Cert.OutDwIdeal Cert.OutDwIdeal.Gen
open Idealize.ShloMosaic Idealize.ShloMosaic.TcCoe Idealize.SL.Sem

/-- The two programs have the same body table: the one kernel is the same function. -/
theorem bodies_eq : Cert.OutDw.defs₀ (F := Bits) = Cert.OutDwIdeal.defs₀ (F := Bits) := by
  unfold Cert.OutDw.defs₀ Cert.OutDwIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.OutDw.defs (F := Bits) = Cert.OutDwIdeal.defs (F := Bits) := congrArg (Pipeline.defs Cert.OutDwIdeal.pcfgs) bodies_eq

theorem frame_bits : Cert.quiescent_OutDw (hOutDw := Cert.OutDw.Gen.facts) := fun m ρ _ => by
  rw [table_eq]; exact frame (F := Bits) m ρ

theorem frame_ideal : Cert.quiescent_OutDwIdeal (hOutDwIdeal := Cert.OutDwIdeal.Gen.facts) := fun m ρ _ => frame m ρ

theorem frame_reference : Cert.quiescent_OutDwRefIdeal (hOutDwRefIdeal := Cert.OutDwRefIdeal.Gen.facts) := fun m ρ _ =>
  (θ_run Cert.OutDwRefIdeal.defs _ _).mono (fun r h => ⟨fun c => (h c).2.2, sem_eq_zero_of_no_sems (by decide) r.2⟩)
    (Cert.OutDwRefIdeal.Value.run m ρ)

theorem values : Cert.algebraic_OutDwIdeal_OutDwRefIdeal (hOutDwIdeal := Cert.OutDwIdeal.Gen.facts) (hOutDwRefIdeal := Cert.OutDwRefIdeal.Gen.facts) := fun m ρ m' ρ' _ h => by
  refine ⟨_, _, (θ_run Cert.OutDwIdeal.defs _ _).mono (fun r hr c => ?_) (Cert.OutDwIdeal.Value.run_blocks m ρ),
    Cert.OutDwRefIdeal.Value.run m' ρ'⟩
  obtain ⟨h0, h1, kept⟩ := hr c
  obtain ⟨a0, a1, a2, a3⟩ := h c
  refine ⟨(h0.trans (grads_eq m c)).trans ?_, (h1.trans (gates_eq m c)).trans ?_, kept⟩
  · rw [a0, a1, a2]; exact (Ref.grads_ref _ _ _).symm
  · rw [a0, a1, a3]; exact (Ref.gates_ref _ _ _).symm

end Cert.OutDwIdeal.Tile

end
-- ==== Proof.FfOutDwValue.lean ====
/-
  The gradients of the second feed-forward weight and of its gate. Eight points in a row sum one tile of the product of the
  hidden rows, turned, with the gradient behind; the last of them gates the tile for the weight's gradient, and adds the
  tile's columns, weighted, to the gate's.
-/
module

public import proofs.«01_k».proof.Proof.Carried
public import proofs.«01_k».proof.Proof.Gen.FfOutDwIdeal.Value
public import proofs.«01_k».proof.Proof.Gen.FfOutDwRefIdeal.Run

@[expose] public section

set_option maxRecDepth 16384

noncomputable section

namespace Cert.FfOutDwIdeal.Tile

open Cert.FfOutDwIdeal Cert.FfOutDwIdeal.Gen Cert.Carried
open Idealize.ShloMosaic Idealize.ShloMosaic.TcCoe Idealize.SL.Sem
open Idealize.ShloMosaic.Pipeline (Dat)

theorem part_at (x : FVec Ideal S1024x1024 .bf16) (y : FVec Ideal S1024x1024 .f32) (i j : Fin 1024) : k0_pay1 (F := Ideal) x y (ix2 i j) = turned x y i j := by
  pointwise [k0_pay1, turned]

theorem first_at (x : FVec Ideal S1024x1024 .bf16) (y : FVec Ideal S1024x1024 .f32) (i j : Fin 1024) : k0_pay2 (F := Ideal) x y (ix2 i j) = turned x y i j := by
  pointwise [k0_pay2, part_at]

theorem next_at (x : FVec Ideal S1024x1024 .bf16) (y a : FVec Ideal S1024x1024 .f32) (i j : Fin 1024) :
    k0_pay3 (F := Ideal) x y a (ix2 i j) = a (ix2 i j) + turned x y i j := by
  pointwise [k0_pay3, part_at]

theorem tile_at (x : FVec Ideal S1024x1024 .bf16) (y a : FVec Ideal S1024x1024 .f32) (i j : Fin 1024) :
    k0_pay5 (F := Ideal) x y a (ix2 i j) = a (ix2 i j) + turned x y i j := by
  pointwise [k0_pay5, part_at]

theorem gated_at (x : FVec Ideal S1024x1024 .bf16) (y a : FVec Ideal S1024x1024 .f32) (gate : FVec Ideal S1x1024 .f32) (i j : Fin 1024) :
    k0_pay6 (F := Ideal) x y a gate (ix2 i j) = (a (ix2 i j) + turned x y i j) * gate (ix2 0 j) := by
  pointwise [k0_pay6, tile_at]

theorem zero_at (z : S1x1024.Idx) : k0_pay4 (F := Ideal) z = (0 : EReal) := by
  pointwise [k0_pay4]

theorem gate_at (x : FVec Ideal S1024x1024 .bf16) (y a : FVec Ideal S1024x1024 .f32) (p : FVec Ideal S1x1024 .f32) (w : FVec Ideal S1024x1024 .bf16)
    (z : S1x1024.Idx) : k0_pay7 (F := Ideal) x y a p w z
      = p z + (∑ i : Fin 1024, (a (ix2 i (z 1)) + turned x y i (z 1)) * w (ix2 i (z 1)) : EReal) := by
  pointwise [k0_pay7, tile_at]

/-! ## The arrays the run leaves -/

variable (m : (ℓ : Loc nD τ sig) → Buf (Elt Ideal) ℓ)

/-- Where the blocks of a point lie. -/
theorem placed : ∀ t : Fin cfg0.N, win0_0.index t = ![t.val % 8, t.val / 8] ∧ win0_1.index t = ![t.val % 8, 0] ∧ win0_2.index t = ![0, 0]
    ∧ win0_3.index t = ![t.val / 8, 0] ∧ win0_4.index t = ![t.val / 8, 0] ∧ win0_5.index t = ![0, 0] :=
  (by decide +kernel : ∀ t : Fin grid0.N, _)

abbrev hidden (c : Dev nD) : FVec Ideal S8192x4096 .bf16 := m ((c : Thread nD τ).loc main_arg0)
abbrev behind (c : Dev nD) : FVec Ideal S8192x1024 .f32 := m ((c : Thread nD τ).loc main_arg1)
abbrev gate (c : Dev nD) : FVec Ideal S1x1024 .f32 := m ((c : Thread nD τ).loc main_arg2)
abbrev weight (c : Dev nD) : FVec Ideal S4096x1024 .bf16 := m ((c : Thread nD τ).loc main_arg3)

/-- What a point adds to its tile. -/
def part (c : Dev nD) (t : Fin cfg0.N) (y : S1024x1024.Idx) : EReal :=
  turned (r := 1024) (a := 1024) (b := 1024) (φ := .bf16) (ψ := .f32) (iblk m c 0 t) (iblk m c 1 t) (y 0) (y 1)

/-- What the last point of a run has of its tile. -/
def tile (c : Dev nD) (t : Fin cfg0.N) (y : S1024x1024.Idx) : EReal :=
  ((outsAt0 m c (t.val - 1) (Nat.lt_of_le_of_lt (Nat.sub_le _ _) t.isLt)).2.2 y + part m c t y : EReal)

theorem tile_eq (c : Dev nD) (t : Fin cfg0.N) (ht : t.val % 8 = 7) (i j : Fin 1024) (i' : Fin 4096) (h : i'.val = t.val / 8 * 1024 + i.val) :
    tile m c t (ix2 i j) = turned (hidden m c) (behind m c) i' j := by
  refine (carried (fun n h => (outsAt0 m c n h).2.2) 8 (by decide) (part m c) (fun t h y => ?_) (fun t h h' y => ?_) t ht (ix2 i j)).trans ?_
  · obtain ⟨i, j, rfl⟩ : ∃ i j, y = ix2 i j := ⟨y 0, y 1, eq_ix2 y⟩
    by_cases h2 : t.val % 32 = 0
    · rw [outsAt0_A m c t h (by omega) h2 (by omega)]
      frame_out
      exact first_at _ _ i j
    · rw [outsAt0_D m c t h (by omega) h2 (by omega)]
      frame_out
      exact first_at _ _ i j
  · obtain ⟨i, j, rfl⟩ : ∃ i j, y = ix2 i j := ⟨y 0, y 1, eq_ix2 y⟩
    rw [outsAt0_B m c t h (by omega) (by omega) (by omega)]
    frame_out
    simp only [read_unread_whole]
    exact next_at _ _ _ i j
  refine Fin.sum_mul_add_congr fun s l hl => ?_
  have hs : (8 * (t.val / 8) + s.val) % 8 = s.val := by omega
  have hd : (8 * (t.val / 8) + s.val) / 8 = t.val / 8 := by omega
  obtain ⟨p0, p1, -⟩ := placed ⟨8 * (t.val / 8) + s.val, Pipeline.run_point_lt_of_flush t ht s⟩
  have e : (iblk m c 0 ⟨8 * (t.val / 8) + s.val, Pipeline.run_point_lt_of_flush t ht s⟩ : FVec Ideal S1024x1024 .bf16) (ix2 l i)
      = hidden m c (ix2 ⟨s.val * 1024 + l.val, hl⟩ i') := by
    blk_ext [iblk, V, hidden, p0, hs, hd, h]
  have f : (iblk m c 1 ⟨8 * (t.val / 8) + s.val, Pipeline.run_point_lt_of_flush t ht s⟩ : FVec Ideal S1024x1024 .f32) (ix2 l j)
      = behind m c (ix2 ⟨s.val * 1024 + l.val, hl⟩ j) := by
    blk_ext [iblk, V, behind, p1, hs]
  exact congrArg₂ (fun u v : EReal => u * v) e f

def grads (x : FVec Ideal S8192x4096 .bf16) (y : FVec Ideal S8192x1024 .f32) (g : FVec Ideal S1x1024 .f32) : FVec Ideal S4096x1024 .bf16 :=
  fun z => turned x y (z 0) (z 1) * g (ix2 0 (z 1))

def gates (x : FVec Ideal S8192x4096 .bf16) (y : FVec Ideal S8192x1024 .f32) (w : FVec Ideal S4096x1024 .bf16) : FVec Ideal S1x1024 .f32 :=
  fun z => (∑ i : Fin 4096, turned x y i (z 1) * w (ix2 i (z 1)) : EReal)

theorem grads_eq (c : Dev nD) : (dats m 0 c).arrAt 4 cfg0.N = grads (hidden m c) (behind m c) (gate m c) := by
  refine (dats m 0 c).arrAt_eq_of_covers 4 _ (by decide +kernel) fun t hf y => ?_
  obtain ⟨i, j, rfl⟩ : ∃ i j, y = ix2 i j := ⟨y 0, y 1, eq_ix2 y⟩
  have ht := (flush0_4 t).mp hf
  obtain ⟨-, -, p2, -, p4, -⟩ := placed t
  have hi : t.val / 8 * 1024 + i.val < 4096 := by have := lt_of_lt_of_eq t.isLt N_0; omega
  have place : (ix2 ⟨t.val / 8 * 1024 + i.val, hi⟩ j : S4096x1024.Idx) = ((View.whole main_v0_0).slice (win0_4.rect t)).emb (ix2 i j) := by
    funext a
    match a with
    | 0 => exact Fin.ext (by blk_simp [p4])
    | 1 => exact Fin.ext (by blk_simp [p4])
  have eg : (iblk m c 2 t : FVec Ideal S1x1024 .f32) (ix2 0 j) = gate m c (ix2 0 j) := by
    blk_ext [iblk, V, gate, p2]
  blk_simp
  rw [after0_4, ← place, outsAt0_C m c t (by omega) (by omega) (by omega) ht]
  frame_out
  simp only [read_unread_whole]
  refine (gated_at _ _ _ _ i j).trans ?_
  exact congrArg₂ (fun u v : EReal => u * v) (tile_eq m c t ht i j _ rfl) eg

/-- What the last point of a run adds to the gate's gradient. -/
def column (c : Dev nD) (t : Fin cfg0.N) (z : S1x1024.Idx) : EReal :=
  (∑ i : Fin 1024, tile m c t (ix2 i (z 1)) * (iblk m c 3 t : FVec Ideal S1024x1024 .bf16) (ix2 i (z 1)) : EReal)

theorem gates_eq (c : Dev nD) : (dats m 0 c).arrAt 5 cfg0.N = gates (hidden m c) (behind m c) (weight m c) := by
  refine (dats m 0 c).arrAt_eq_of_covers 5 _ (by decide +kernel) fun t hf z => ?_
  obtain ⟨i, j, rfl⟩ : ∃ i j, z = ix2 i j := ⟨z 0, z 1, eq_ix2 z⟩
  have ht := (flush0_5 t).mp hf
  have hN : cfg0.N = 32 := N_0
  have p5 := (placed t).2.2.2.2.2
  have place : (ix2 i j : S1x1024.Idx) = ((View.whole main_v0_1).slice (win0_5.rect t)).emb (ix2 i j) := by
    funext a
    match a with
    | 0 => exact Fin.ext (by blk_simp [p5])
    | 1 => exact Fin.ext (by blk_simp [p5])
  blk_simp
  rw [after0_5, ← place, Pipeline.eq_sum_fin_of_reset_step_apply_last (fun n h => (outsAt0 m c n h).2.1) 32 (fun _ => 0)
    (fun t z => if t.val % 8 = 7 then column m c t z else 0)
    (fun t h z => by
      rw [if_neg (by omega), outsAt0_A m c t (by omega) (by omega) h (by omega)]
      frame_out
      rw [zero_at, add_zero])
    (fun t h z => by
      by_cases h7 : t.val % 8 = 7
      · rw [if_pos h7, outsAt0_C m c t (by omega) (by omega) h h7]
        frame_out
        simp only [read_unread_whole]
        exact gate_at _ _ _ _ _ z
      · rw [if_neg h7, add_zero]
        by_cases h0 : t.val % 8 = 0
        · rw [outsAt0_D m c t h0 (by omega) h h7]
          rfl
        · rw [outsAt0_B m c t h0 (by omega) h h7]
          rfl)
    (le_of_eq N_0) t (by have := t.isLt; omega) (ix2 i j), zero_add, sum_of_lasts (A := 4) hN (fun t => column m c t (ix2 i j))]
  refine Fin.sum_mul_add_congr fun q k hk => ?_
  have hd : (8 * q.val + 7) / 8 = q.val := by omega
  have hq : 8 * q.val + 7 < cfg0.N := by omega
  have p3 := (placed ⟨8 * q.val + 7, hq⟩).2.2.2.1
  have e : (iblk m c 3 ⟨8 * q.val + 7, hq⟩ : FVec Ideal S1024x1024 .bf16) (ix2 k j) = weight m c (ix2 ⟨q.val * 1024 + k.val, hk⟩ j) := by
    blk_ext [iblk, V, weight, p3, hd]
  exact congrArg₂ (fun u v : EReal => u * v) (tile_eq m c ⟨8 * q.val + 7, hq⟩ (by show (8 * q.val + 7) % 8 = 7; omega) k j
    ⟨q.val * 1024 + k.val, hk⟩ (by show q.val * 1024 + k.val = (8 * q.val + 7) / 8 * 1024 + k.val; rw [hd])) e

/-! ## The reference -/

namespace Ref

open Cert.FfOutDwRefIdeal (S_ S8192x4096 S8192x1024 S4096x8192 S4096x1024 S1x1024 S1024 dot_S4096x8192_S8192x1024_S4096x1024_1_0_0_1_n_n)
open Cert.FfOutDwRefIdeal.Facts₀

variable (x : FVec Ideal S8192x4096 .bf16) (y : FVec Ideal S8192x1024 .f32) (g : FVec Ideal S1x1024 .f32) (w : FVec Ideal S4096x1024 .bf16)

abbrev product : FVec Ideal S4096x1024 .f32 :=
  Host.dotGeneral dot_S4096x8192_S8192x1024_S4096x1024_1_0_0_1_n_n none (transpose S4096x8192 [1, 0] x transposes_S8192x4096_S4096x8192_1_0) y

theorem grads_ref : truncf .bf16 (mulf (product x y) (broadcastInDim S4096x1024 ![0, 1] bcast_S1x1024_S4096x1024_0_1 g))
    Cert.FfOutDwRefIdeal.Facts₀.bitsLt_bf16_f32 = grads x y g := by
  funext z
  pointwise [grads, turned]

theorem gates_ref : broadcastInDim S1x1024 ![1] bcast_S1024_S1x1024_1 (Host.reduceAdd (mulf (product x y)
    (extf .f32 w Cert.FfOutDwRefIdeal.Facts₀.bitsLt_bf16_f32)) (constant S_ .f32 0x00000000#32) reducesTo_S4096x1024_S1024_d0 h_S_) = gates x y w := by
  funext z
  pointwise [gates, turned]

end Ref

end Cert.FfOutDwIdeal.Tile

end
-- ==== Proof.FfOutDwClaim.lean ====
/-
  The claims about the second feed-forward weight's gradient, put together.
-/
module

public import proofs.«01_k».proof.Defs
public import proofs.«01_k».proof.Proof.FfOutDwValue
public import proofs.«01_k».proof.Proof.Gen.FfOutDw
public import Idealize.ShloMosaic.Adequacy
public import Idealize.ShloMosaic.Init

@[expose] public section

noncomputable section

namespace Cert.FfOutDwIdeal.Tile

open Cert.FfOutDwIdeal Cert.FfOutDwIdeal.Gen
open Idealize.ShloMosaic Idealize.ShloMosaic.TcCoe Idealize.SL.Sem

/-- The two programs have the same body table: the one kernel is the same function. -/
theorem bodies_eq : Cert.FfOutDw.defs₀ (F := Bits) = Cert.FfOutDwIdeal.defs₀ (F := Bits) := by
  unfold Cert.FfOutDw.defs₀ Cert.FfOutDwIdeal.defs₀
  refine congrArg _ (funext fun ℓ => funext fun x => ?_)
  match ℓ, x with
  | 0, (t, s) => rfl
  | ⟨_ + 1, h⟩, _ => exact absurd h (Nat.not_lt.2 (Nat.le_add_left _ _))
theorem table_eq : Cert.FfOutDw.defs (F := Bits) = Cert.FfOutDwIdeal.defs (F := Bits) := congrArg (Pipeline.defs Cert.FfOutDwIdeal.pcfgs) bodies_eq

theorem frame_bits : Cert.quiescent_FfOutDw (hFfOutDw := Cert.FfOutDw.Gen.facts) := fun m ρ _ => by
  rw [table_eq]; exact frame (F := Bits) m ρ

theorem frame_ideal : Cert.quiescent_FfOutDwIdeal (hFfOutDwIdeal := Cert.FfOutDwIdeal.Gen.facts) := fun m ρ _ => frame m ρ

theorem frame_reference : Cert.quiescent_FfOutDwRefIdeal (hFfOutDwRefIdeal := Cert.FfOutDwRefIdeal.Gen.facts) := fun m ρ _ =>
  (θ_run Cert.FfOutDwRefIdeal.defs _ _).mono (fun r h => ⟨fun c => (h c).2.2, sem_eq_zero_of_no_sems (by decide) r.2⟩)
    (Cert.FfOutDwRefIdeal.Value.run m ρ)

theorem values : Cert.algebraic_FfOutDwIdeal_FfOutDwRefIdeal (hFfOutDwIdeal := Cert.FfOutDwIdeal.Gen.facts) (hFfOutDwRefIdeal := Cert.FfOutDwRefIdeal.Gen.facts) := fun m ρ m' ρ' _ h => by
  refine ⟨_, _, (θ_run Cert.FfOutDwIdeal.defs _ _).mono (fun r hr c => ?_) (Cert.FfOutDwIdeal.Value.run_blocks m ρ),
    Cert.FfOutDwRefIdeal.Value.run m' ρ'⟩
  obtain ⟨h0, h1, kept⟩ := hr c
  obtain ⟨a0, a1, a2, a3⟩ := h c
  refine ⟨(h0.trans (grads_eq m c)).trans ?_, (h1.trans (gates_eq m c)).trans ?_, kept⟩
  · rw [a0, a1, a2]; exact (Ref.grads_ref _ _ _).symm
  · rw [a0, a1, a3]; exact (Ref.gates_ref _ _ _).symm

end Cert.FfOutDwIdeal.Tile

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.InDxRefIdeal.Run
public import proofs.«01_k».proof.Proof.Gen.FfOutDx
public import proofs.«01_k».proof.Proof.Gen.FfOutDx.Skeleton
public import proofs.«01_k».proof.Proof.Gen.FfOutDx.Launch
public import proofs.«01_k».proof.Proof.Gen.FfOutDx.Points
public import proofs.«01_k».proof.Proof.Gen.FfOutDx.Frame
public import proofs.«01_k».proof.Proof.Gen.FfOutDxIdeal
public import proofs.«01_k».proof.Proof.Gen.FfOutDxIdeal.Skeleton
public import proofs.«01_k».proof.Proof.Gen.FfOutDxIdeal.Launch
public import proofs.«01_k».proof.Proof.Gen.FfOutDxIdeal.Points
public import proofs.«01_k».proof.Proof.Gen.FfOutDxIdeal.Frame
public import proofs.«01_k».proof.Proof.Gen.FfOutDxRefIdeal
public import proofs.«01_k».proof.Proof.Gen.FfOutDxRefIdeal.Run
public import proofs.«01_k».proof.Proof.Gen.FfInDx
public import proofs.«01_k».proof.Proof.Gen.FfInDx.Skeleton
public import proofs.«01_k».proof.Proof.Gen.FfInDx.Launch
public import proofs.«01_k».proof.Proof.Gen.FfInDx.Points
public import proofs.«01_k».proof.Proof.Gen.FfInDx.Frame
public import proofs.«01_k».proof.Proof.Gen.FfInDxIdeal
public import proofs.«01_k».proof.Proof.Gen.FfInDxIdeal.Skeleton
public import proofs.«01_k».proof.Proof.Gen.FfInDxIdeal.Launch
public import proofs.«01_k».proof.Proof.Gen.FfInDxIdeal.Points
public import proofs.«01_k».proof.Proof.Gen.FfInDxIdeal.Frame
public import proofs.«01_k».proof.Proof.Gen.FfInDxRefIdeal
public import proofs.«01_k».proof.Proof.Gen.FfInDxRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxRefIdeal
public import proofs.«01_k».proof.Proof.Gen.OutDxRefIdeal.Run
public import proofs.«01_k».proof.Proof.Gen.AdamIn
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamFfIn
public import proofs.«01_k».proof.Proof.Gen.AdamFfInIdeal
public import proofs.«01_k».proof.Proof.Gen.AdamFfInIdeal.Skeleton
public import proofs.«01_k».proof.Proof.Gen.AdamFfInIdeal.Launch
public import proofs.«01_k».proof.Proof.Gen.AdamFfInIdeal.Points
public import proofs.«01_k».proof.Proof.Gen.AdamFfInIdeal.Frame
public import proofs.«01_k».proof.Proof.Gen.AdamFfInIdeal.Value
public import proofs.«01_k».proof.Proof.Gen.AdamFfInRefIdeal
public import proofs.«01_k».proof.Proof.Gen.AdamFfInRefIdeal.Run
public import proofs.«01_k».proof.Proof.Gen.AdamFfOut
public import proofs.«01_k».proof.Proof.Gen.AdamFfOutIdeal
public import proofs.«01_k».proof.Proof.Gen.AdamFfOutIdeal.Skeleton
public import proofs.«01_k».proof.Proof.Gen.AdamFfOutIdeal.Launch
public import proofs.«01_k».proof.Proof.Gen.AdamFfOutIdeal.Points
public import proofs.«01_k».proof.Proof.Gen.AdamFfOutIdeal.Frame
public import proofs.«01_k».proof.Proof.Gen.AdamFfOutIdeal.Value
public import proofs.«01_k».proof.Proof.Gen.AdamFfOutRefIdeal
public import proofs.«01_k».proof.Proof.Gen.AdamFfOutRefIdeal.Run
public import proofs.«01_k».proof.Proof.Gen.AdamAda
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamSmall
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.SumSmall
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.NormBwd
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.WInGather
public import proofs.«01_k».proof.Proof.Gen.WInGather.Skeleton
public import proofs.«01_k».proof.Proof.Gen.WInGather.Launch
public import proofs.«01_k».proof.Proof.Gen.WInGather.Points
public import proofs.«01_k».proof.Proof.Gen.WInGather.Frame
public import proofs.«01_k».proof.Proof.Gen.WInGatherIdeal
public import proofs.«01_k».proof.Proof.Gen.WInGatherIdeal.Skeleton
public import proofs.«01_k».proof.Proof.Gen.WInGatherIdeal.Launch
public import proofs.«01_k».proof.Proof.Gen.WInGatherIdeal.Points
public import proofs.«01_k».proof.Proof.Gen.WInGatherIdeal.Frame
public import proofs.«01_k».proof.Proof.Gen.WInGatherRefIdeal
public import proofs.«01_k».proof.Proof.Gen.WInGatherRefIdeal.Run
public import proofs.«01_k».proof.Proof.Gen.SmallGather
public import proofs.«01_k».proof.Proof.Gen.SmallGather.Skeleton
public import proofs.«01_k».proof.Proof.Gen.SmallGather.Launch
public import proofs.«01_k».proof.Proof.Gen.SmallGather.Points
public import proofs.«01_k».proof.Proof.Gen.SmallGather.Frame
public import proofs.«01_k».proof.Proof.Gen.SmallGatherIdeal
public import proofs.«01_k».proof.Proof.Gen.SmallGatherIdeal.Skeleton
public import proofs.«01_k».proof.Proof.Gen.SmallGatherIdeal.Launch
public import proofs.«01_k».proof.Proof.Gen.SmallGatherIdeal.Points
public import proofs.«01_k».proof.Proof.Gen.SmallGatherIdeal.Frame
public import proofs.«01_k».proof.Proof.Gen.SmallGatherRefIdeal
public import proofs.«01_k».proof.Proof.Gen.SmallGatherRefIdeal.Run
public import proofs.«01_k».proof.Proof.Gen.CondGather
public import proofs.«01_k».proof.Proof.Gen.CondGather.Skeleton
public import proofs.«01_k».proof.Proof.Gen.CondGather.Launch
public import proofs.«01_k».proof.Proof.Gen.CondGather.Points
public import proofs.«01_k».proof.Proof.Gen.CondGather.Frame
public import proofs.«01_k».proof.Proof.Gen.CondGatherIdeal
public import proofs.«01_k».proof.Proof.Gen.CondGatherIdeal.Skeleton
public import proofs.«01_k».proof.Proof.Gen.CondGatherIdeal.Launch
public import proofs.«01_k».proof.Proof.Gen.CondGatherIdeal.Points
public import proofs.«01_k».proof.Proof.Gen.CondGatherIdeal.Frame
public import proofs.«01_k».proof.Proof.Gen.CondGatherRefIdeal
public import proofs.«01_k».proof.Proof.Gen.CondGatherRefIdeal.Run
public import proofs.«01_k».proof.Proof.Gen.NormFwd
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.LossHead
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.AdaMod
public import proofs.«01_k».proof.Proof.Gen.AdaModIdeal
public import proofs.«01_k».proof.Proof.Gen.AdaModIdeal.Skeleton
public import proofs.«01_k».proof.Proof.Gen.AdaModIdeal.Launch
public import proofs.«01_k».proof.Proof.Gen.AdaModIdeal.Points
public import proofs.«01_k».proof.Proof.Gen.AdaModIdeal.Frame
public import proofs.«01_k».proof.Proof.Gen.AdaModIdeal.Value
public import proofs.«01_k».proof.Proof.Gen.AdaModRefIdeal
public import proofs.«01_k».proof.Proof.Gen.AdaModRefIdeal.Run
public import proofs.«01_k».proof.Proof.Gen.OutProj
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.FfIn
public import proofs.«01_k».proof.Proof.Gen.FfInIdeal
public import proofs.«01_k».proof.Proof.Gen.FfInIdeal.Skeleton
public import proofs.«01_k».proof.Proof.Gen.FfInIdeal.Launch
public import proofs.«01_k».proof.Proof.Gen.FfInIdeal.Points
public import proofs.«01_k».proof.Proof.Gen.FfInIdeal.Frame
public import proofs.«01_k».proof.Proof.Gen.FfInIdeal.Value
public import proofs.«01_k».proof.Proof.Gen.FfInRefIdeal
public import proofs.«01_k».proof.Proof.Gen.FfInRefIdeal.Run
public import proofs.«01_k».proof.Proof.Gen.FfOut
public import proofs.«01_k».proof.Proof.Gen.FfOutIdeal
public import proofs.«01_k».proof.Proof.Gen.FfOutIdeal.Skeleton
public import proofs.«01_k».proof.Proof.Gen.FfOutIdeal.Launch
public import proofs.«01_k».proof.Proof.Gen.FfOutIdeal.Points
public import proofs.«01_k».proof.Proof.Gen.FfOutIdeal.Frame
public import proofs.«01_k».proof.Proof.Gen.FfOutIdeal.Value
public import proofs.«01_k».proof.Proof.Gen.FfOutRefIdeal
public import proofs.«01_k».proof.Proof.Gen.FfOutRefIdeal.Run
public import proofs.«01_k».proof.Proof.Gen.FfInDw
public import proofs.«01_k».proof.Proof.Gen.FfInDwIdeal
public import proofs.«01_k».proof.Proof.Gen.FfInDwIdeal.Skeleton
public import proofs.«01_k».proof.Proof.Gen.FfInDwIdeal.Launch
public import proofs.«01_k».proof.Proof.Gen.FfInDwIdeal.Points
public import proofs.«01_k».proof.Proof.Gen.FfInDwIdeal.Frame
public import proofs.«01_k».proof.Proof.Gen.FfInDwIdeal.Value
public import proofs.«01_k».proof.Proof.Gen.FfInDwRefIdeal
public import proofs.«01_k».proof.Proof.Gen.FfInDwRefIdeal.Run
public import proofs.«01_k».proof.Proof.Gen.OutDw
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.FfOutDw
public import proofs.«01_k».proof.Proof.Gen.FfOutDwIdeal
public import proofs.«01_k».proof.Proof.Gen.FfOutDwIdeal.Skeleton
public import proofs.«01_k».proof.Proof.Gen.FfOutDwIdeal.Launch
public import proofs.«01_k».proof.Proof.Gen.FfOutDwIdeal.Points
public import proofs.«01_k».proof.Proof.Gen.FfOutDwIdeal.Frame
public import proofs.«01_k».proof.Proof.Gen.FfOutDwIdeal.Value
public import proofs.«01_k».proof.Proof.Gen.FfOutDwRefIdeal
public import proofs.«01_k».proof.Proof.Gen.FfOutDwRefIdeal.Run
public import proofs.«01_k».proof.Proof.GatherClaim
public import proofs.«01_k».proof.Proof.InDxClaim
public import proofs.«01_k».proof.Proof.FfOutDxClaim
public import proofs.«01_k».proof.Proof.FfInDxClaim
public import proofs.«01_k».proof.Proof.OutDxClaim
public import proofs.«01_k».proof.Proof.AdamInClaim
public import proofs.«01_k».proof.Proof.AdamOutClaim
public import proofs.«01_k».proof.Proof.AdamFfInClaim
public import proofs.«01_k».proof.Proof.AdamFfOutClaim
public import proofs.«01_k».proof.Proof.AdamAdaClaim
public import proofs.«01_k».proof.Proof.AdamSmallClaim
public import proofs.«01_k».proof.Proof.SumSmall
public import proofs.«01_k».proof.Proof.NormBwdClaim
public import proofs.«01_k».proof.Proof.WInGatherClaim
public import proofs.«01_k».proof.Proof.SmallGatherClaim
public import proofs.«01_k».proof.Proof.CondGatherClaim
public import proofs.«01_k».proof.Proof.NormFwdClaim
public import proofs.«01_k».proof.Proof.LossHeadClaim
public import proofs.«01_k».proof.Proof.AdaModClaim
public import proofs.«01_k».proof.Proof.OutProjClaim
public import proofs.«01_k».proof.Proof.FfInClaim
public import proofs.«01_k».proof.Proof.FfOutClaim
public import proofs.«01_k».proof.Proof.FfInDwClaim
public import proofs.«01_k».proof.Proof.OutDwClaim
public import proofs.«01_k».proof.Proof.FfOutDwClaim
public import Idealize.ShloMosaic.Adequacy
public import Idealize.ShloMosaic.Init

@[expose] public section

noncomputable section

namespace Cert.Proof

open Idealize.ShloMosaic Idealize.SL.Sem

/-- Every claim, call by call: each call's claims are proved in its own module. -/
theorem claim : Cert.Claim :=
  ⟨Cert.Kernel.Gen.facts, Cert.KernelIdeal.Gen.facts, Cert.ReferenceIdeal.Gen.facts,
    Cert.InDx.Gen.facts, Cert.InDxIdeal.Gen.facts, Cert.InDxRefIdeal.Gen.facts,
    Cert.FfOutDx.Gen.facts, Cert.FfOutDxIdeal.Gen.facts, Cert.FfOutDxRefIdeal.Gen.facts,
    Cert.FfInDx.Gen.facts, Cert.FfInDxIdeal.Gen.facts, Cert.FfInDxRefIdeal.Gen.facts,
    Cert.OutDx.Gen.facts, Cert.OutDxIdeal.Gen.facts, Cert.OutDxRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamFfIn.Gen.facts, Cert.AdamFfInIdeal.Gen.facts, Cert.AdamFfInRefIdeal.Gen.facts,
    Cert.AdamFfOut.Gen.facts, Cert.AdamFfOutIdeal.Gen.facts, Cert.AdamFfOutRefIdeal.Gen.facts,
    Cert.AdamAda.Gen.facts, Cert.AdamAdaIdeal.Gen.facts, Cert.AdamAdaRefIdeal.Gen.facts,
    Cert.AdamSmall.Gen.facts, Cert.AdamSmallIdeal.Gen.facts, Cert.AdamSmallRefIdeal.Gen.facts,
    Cert.SumSmall.Gen.facts, Cert.SumSmallIdeal.Gen.facts, Cert.SumSmallRefIdeal.Gen.facts,
    Cert.NormBwd.Gen.facts, Cert.NormBwdIdeal.Gen.facts, Cert.NormBwdRefIdeal.Gen.facts,
    Cert.WInGather.Gen.facts, Cert.WInGatherIdeal.Gen.facts, Cert.WInGatherRefIdeal.Gen.facts,
    Cert.SmallGather.Gen.facts, Cert.SmallGatherIdeal.Gen.facts, Cert.SmallGatherRefIdeal.Gen.facts,
    Cert.CondGather.Gen.facts, Cert.CondGatherIdeal.Gen.facts, Cert.CondGatherRefIdeal.Gen.facts,
    Cert.NormFwd.Gen.facts, Cert.NormFwdIdeal.Gen.facts, Cert.NormFwdRefIdeal.Gen.facts,
    Cert.LossHead.Gen.facts, Cert.LossHeadIdeal.Gen.facts, Cert.LossHeadRefIdeal.Gen.facts,
    Cert.AdaMod.Gen.facts, Cert.AdaModIdeal.Gen.facts, Cert.AdaModRefIdeal.Gen.facts,
    Cert.OutProj.Gen.facts, Cert.OutProjIdeal.Gen.facts, Cert.OutProjRefIdeal.Gen.facts,
    Cert.FfIn.Gen.facts, Cert.FfInIdeal.Gen.facts, Cert.FfInRefIdeal.Gen.facts,
    Cert.FfOut.Gen.facts, Cert.FfOutIdeal.Gen.facts, Cert.FfOutRefIdeal.Gen.facts,
    Cert.FfInDw.Gen.facts, Cert.FfInDwIdeal.Gen.facts, Cert.FfInDwRefIdeal.Gen.facts,
    Cert.OutDw.Gen.facts, Cert.OutDwIdeal.Gen.facts, Cert.OutDwRefIdeal.Gen.facts,
    Cert.FfOutDw.Gen.facts, Cert.FfOutDwIdeal.Gen.facts, Cert.FfOutDwRefIdeal.Gen.facts,
    Cert.KernelIdeal.Gather.frame_bits, Cert.KernelIdeal.Gather.frame_ideal, Cert.KernelIdeal.Gather.frame_reference,
    Cert.InDxIdeal.Swap.frame_bits, Cert.InDxIdeal.Swap.frame_ideal, Cert.InDxIdeal.Swap.frame_reference,
    Cert.FfOutDxIdeal.Swap.frame_bits, Cert.FfOutDxIdeal.Swap.frame_ideal, Cert.FfOutDxIdeal.Swap.frame_reference,
    Cert.FfInDxIdeal.Swap.frame_bits, Cert.FfInDxIdeal.Swap.frame_ideal, Cert.FfInDxIdeal.Swap.frame_reference,
    Cert.OutDxIdeal.Swap.frame_bits, Cert.OutDxIdeal.Swap.frame_ideal, Cert.OutDxIdeal.Swap.frame_reference,
    Cert.AdamInIdeal.Update.frame_bits, Cert.AdamInIdeal.Update.frame_ideal, Cert.AdamInIdeal.Update.frame_reference,
    Cert.AdamOutIdeal.Update.frame_bits, Cert.AdamOutIdeal.Update.frame_ideal, Cert.AdamOutIdeal.Update.frame_reference,
    Cert.AdamFfInIdeal.Update.frame_bits, Cert.AdamFfInIdeal.Update.frame_ideal, Cert.AdamFfInIdeal.Update.frame_reference,
    Cert.AdamFfOutIdeal.Update.frame_bits, Cert.AdamFfOutIdeal.Update.frame_ideal, Cert.AdamFfOutIdeal.Update.frame_reference,
    Cert.AdamAdaIdeal.Update.frame_bits, Cert.AdamAdaIdeal.Update.frame_ideal, Cert.AdamAdaIdeal.Update.frame_reference,
    Cert.AdamSmallIdeal.Update.frame_bits, Cert.AdamSmallIdeal.Update.frame_ideal, Cert.AdamSmallIdeal.Update.frame_reference,
    Cert.SumSmallIdeal.Total.frame_bits, Cert.SumSmallIdeal.Total.frame_ideal, Cert.SumSmallIdeal.Total.frame_reference,
    Cert.NormBwdIdeal.Rows.frame_bits, Cert.NormBwdIdeal.Rows.frame_ideal, Cert.NormBwdIdeal.Rows.frame_reference,
    Cert.WInGatherIdeal.Gather.frame_bits, Cert.WInGatherIdeal.Gather.frame_ideal, Cert.WInGatherIdeal.Gather.frame_reference,
    Cert.SmallGatherIdeal.Gather.frame_bits, Cert.SmallGatherIdeal.Gather.frame_ideal, Cert.SmallGatherIdeal.Gather.frame_reference,
    Cert.CondGatherIdeal.Gather.frame_bits, Cert.CondGatherIdeal.Gather.frame_ideal, Cert.CondGatherIdeal.Gather.frame_reference,
    Cert.NormFwdIdeal.Rows.frame_bits, Cert.NormFwdIdeal.Rows.frame_ideal, Cert.NormFwdIdeal.Rows.frame_reference,
    Cert.LossHeadIdeal.Rows.frame_bits, Cert.LossHeadIdeal.Rows.frame_ideal, Cert.LossHeadIdeal.Rows.frame_reference,
    Cert.AdaModIdeal.Mix.frame_bits, Cert.AdaModIdeal.Mix.frame_ideal, Cert.AdaModIdeal.Mix.frame_reference,
    Cert.OutProjIdeal.Rows.frame_bits, Cert.OutProjIdeal.Rows.frame_ideal, Cert.OutProjIdeal.Rows.frame_reference,
    Cert.FfInIdeal.Tile.frame_bits, Cert.FfInIdeal.Tile.frame_ideal, Cert.FfInIdeal.Tile.frame_reference,
    Cert.FfOutIdeal.Tile.frame_bits, Cert.FfOutIdeal.Tile.frame_ideal, Cert.FfOutIdeal.Tile.frame_reference,
    Cert.FfInDwIdeal.Tile.frame_bits, Cert.FfInDwIdeal.Tile.frame_ideal, Cert.FfInDwIdeal.Tile.frame_reference,
    Cert.OutDwIdeal.Tile.frame_bits, Cert.OutDwIdeal.Tile.frame_ideal, Cert.OutDwIdeal.Tile.frame_reference,
    Cert.FfOutDwIdeal.Tile.frame_bits, Cert.FfOutDwIdeal.Tile.frame_ideal, Cert.FfOutDwIdeal.Tile.frame_reference,
    trivial, Cert.KernelIdeal.Gather.values,
    trivial, Cert.InDxIdeal.Swap.values,
    trivial, Cert.FfOutDxIdeal.Swap.values,
    trivial, Cert.FfInDxIdeal.Swap.values,
    trivial, Cert.OutDxIdeal.Swap.values,
    trivial, Cert.AdamInIdeal.Update.values,
    trivial, Cert.AdamOutIdeal.Update.values,
    trivial, Cert.AdamFfInIdeal.Update.values,
    trivial, Cert.AdamFfOutIdeal.Update.values,
    trivial, Cert.AdamAdaIdeal.Update.values,
    trivial, Cert.AdamSmallIdeal.Update.values,
    trivial, Cert.SumSmallIdeal.Total.values,
    trivial, Cert.NormBwdIdeal.Rows.values,
    trivial, Cert.WInGatherIdeal.Gather.values,
    trivial, Cert.SmallGatherIdeal.Gather.values,
    trivial, Cert.CondGatherIdeal.Gather.values,
    trivial, Cert.NormFwdIdeal.Rows.values,
    trivial, Cert.LossHeadIdeal.Rows.values,
    trivial, Cert.AdaModIdeal.Mix.values,
    trivial, Cert.OutProjIdeal.Rows.values,
    trivial, Cert.FfInIdeal.Tile.values,
    trivial, Cert.FfOutIdeal.Tile.values,
    trivial, Cert.FfInDwIdeal.Tile.values,
    trivial, Cert.OutDwIdeal.Tile.values,
    trivial, Cert.FfOutDwIdeal.Tile.values⟩

end Cert.Proof

end
